-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DwXbc (m : (ℓ : Loc Cert.DwXbc.nD Cert.DwXbc.τ Cert.DwXbc.sig) → Buf (Elt Bits) ℓ) : Prop :=
  True

def Pre_DwXbcIdeal (m : (ℓ : Loc Cert.DwXbcIdeal.nD Cert.DwXbcIdeal.τ Cert.DwXbcIdeal.sig) → Buf (Elt Ideal) ℓ) : Prop :=
  True

def Pre_DwXbcRefIdeal (m : (ℓ : Loc Cert.DwXbcRefIdeal.nD Cert.DwXbcRefIdeal.τ Cert.DwXbcRefIdeal.sig) → Buf (Elt Ideal) ℓ) : Prop :=
  True

def Pre_DwWide (m : (ℓ : Loc Cert.DwWide.nD Cert.DwWide.τ Cert.DwWide.sig) → Buf (Elt Bits) ℓ) : Prop :=
  True

def Pre_DwWideIdeal (m : (ℓ : Loc Cert.DwWideIdeal.nD Cert.DwWideIdeal.τ Cert.DwWideIdeal.sig) → Buf (Elt Ideal) ℓ) : Prop :=
  True

def Pre_DwWideRefIdeal (m : (ℓ : Loc Cert.DwWideRefIdeal.nD Cert.DwWideRefIdeal.τ Cert.DwWideRefIdeal.sig) → Buf (Elt Ideal) ℓ) : Prop :=
  True

def Pre_ProjXbc (m : (ℓ : Loc Cert.ProjXbc.nD Cert.ProjXbc.τ Cert.ProjXbc.sig) → Buf (Elt Bits) ℓ) : Prop :=
  True

def Pre_ProjXbcIdeal (m : (ℓ : Loc Cert.ProjXbcIdeal.nD Cert.ProjXbcIdeal.τ Cert.ProjXbcIdeal.sig) → Buf (Elt Ideal) ℓ) : Prop :=
  True

def Pre_ProjXbcRefIdeal (m : (ℓ : Loc Cert.ProjXbcRefIdeal.nD Cert.ProjXbcRefIdeal.τ Cert.ProjXbcRefIdeal.sig) → Buf (Elt Ideal) ℓ) : Prop :=
  True

def Pre_ProjWide (m : (ℓ : Loc Cert.ProjWide.nD Cert.ProjWide.τ Cert.ProjWide.sig) → Buf (Elt Bits) ℓ) : Prop :=
  True

def Pre_ProjWideIdeal (m : (ℓ : Loc Cert.ProjWideIdeal.nD Cert.ProjWideIdeal.τ Cert.ProjWideIdeal.sig) → Buf (Elt Ideal) ℓ) : Prop :=
  True

def Pre_ProjWideRefIdeal (m : (ℓ : Loc Cert.ProjWideRefIdeal.nD Cert.ProjWideRefIdeal.τ Cert.ProjWideRefIdeal.sig) → Buf (Elt Ideal) ℓ) : Prop :=
  True

def Pre_ProjA (m : (ℓ : Loc Cert.ProjA.nD Cert.ProjA.τ Cert.ProjA.sig) → Buf (Elt Bits) ℓ) : Prop :=
  True

def Pre_ProjAIdeal (m : (ℓ : Loc Cert.ProjAIdeal.nD Cert.ProjAIdeal.τ Cert.ProjAIdeal.sig) → Buf (Elt Ideal) ℓ) : Prop :=
  True

def Pre_ProjARefIdeal (m : (ℓ : Loc Cert.ProjARefIdeal.nD Cert.ProjARefIdeal.τ Cert.ProjARefIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpRefIdeal (m : (ℓ : Loc Cert.MlpUpRefIdeal.nD Cert.MlpUpRefIdeal.τ Cert.MlpUpRefIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownRefIdeal (m : (ℓ : Loc Cert.MlpDownRefIdeal.nD Cert.MlpDownRefIdeal.τ Cert.MlpDownRefIdeal.sig) → Buf (Elt Ideal) ℓ) : Prop :=
  True

def Pre_Dup (m : (ℓ : Loc Cert.Dup.nD Cert.Dup.τ Cert.Dup.sig) → Buf (Elt Bits) ℓ) : Prop :=
  True

def Pre_DupIdeal (m : (ℓ : Loc Cert.DupIdeal.nD Cert.DupIdeal.τ Cert.DupIdeal.sig) → Buf (Elt Ideal) ℓ) : Prop :=
  True

def Pre_DupRefIdeal (m : (ℓ : Loc Cert.DupRefIdeal.nD Cert.DupRefIdeal.τ Cert.DupRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dyb (m : (ℓ : Loc Cert.Dyb.nD Cert.Dyb.τ Cert.Dyb.sig) → Buf (Elt Bits) ℓ) : Prop :=
  True

def Pre_DybIdeal (m : (ℓ : Loc Cert.DybIdeal.nD Cert.DybIdeal.τ Cert.DybIdeal.sig) → Buf (Elt Ideal) ℓ) : Prop :=
  True

def Pre_DybRefIdeal (m : (ℓ : Loc Cert.DybRefIdeal.nD Cert.DybRefIdeal.τ Cert.DybRefIdeal.sig) → Buf (Elt Ideal) ℓ) : Prop :=
  True

def Pre_Dya (m : (ℓ : Loc Cert.Dya.nD Cert.Dya.τ Cert.Dya.sig) → Buf (Elt Bits) ℓ) : Prop :=
  True

def Pre_DyaIdeal (m : (ℓ : Loc Cert.DyaIdeal.nD Cert.DyaIdeal.τ Cert.DyaIdeal.sig) → Buf (Elt Ideal) ℓ) : Prop :=
  True

def Pre_DyaRefIdeal (m : (ℓ : Loc Cert.DyaRefIdeal.nD Cert.DyaRefIdeal.τ Cert.DyaRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_DwPb (m : (ℓ : Loc Cert.DwPb.nD Cert.DwPb.τ Cert.DwPb.sig) → Buf (Elt Bits) ℓ) : Prop :=
  True

def Pre_DwPbIdeal (m : (ℓ : Loc Cert.DwPbIdeal.nD Cert.DwPbIdeal.τ Cert.DwPbIdeal.sig) → Buf (Elt Ideal) ℓ) : Prop :=
  True

def Pre_DwPbRefIdeal (m : (ℓ : Loc Cert.DwPbRefIdeal.nD Cert.DwPbRefIdeal.τ Cert.DwPbRefIdeal.sig) → Buf (Elt Ideal) ℓ) : Prop :=
  True

def Pre_DwPa (m : (ℓ : Loc Cert.DwPa.nD Cert.DwPa.τ Cert.DwPa.sig) → Buf (Elt Bits) ℓ) : Prop :=
  True

def Pre_DwPaIdeal (m : (ℓ : Loc Cert.DwPaIdeal.nD Cert.DwPaIdeal.τ Cert.DwPaIdeal.sig) → Buf (Elt Ideal) ℓ) : Prop :=
  True

def Pre_DwPaRefIdeal (m : (ℓ : Loc Cert.DwPaRefIdeal.nD Cert.DwPaRefIdeal.τ Cert.DwPaRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_ProjB (m : (ℓ : Loc Cert.ProjB.nD Cert.ProjB.τ Cert.ProjB.sig) → Buf (Elt Bits) ℓ) : Prop :=
  True

def Pre_ProjBIdeal (m : (ℓ : Loc Cert.ProjBIdeal.nD Cert.ProjBIdeal.τ Cert.ProjBIdeal.sig) → Buf (Elt Ideal) ℓ) : Prop :=
  True

def Pre_ProjBRefIdeal (m : (ℓ : Loc Cert.ProjBRefIdeal.nD Cert.ProjBRefIdeal.τ Cert.ProjBRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_ProjDt (m : (ℓ : Loc Cert.ProjDt.nD Cert.ProjDt.τ Cert.ProjDt.sig) → Buf (Elt Bits) ℓ) : Prop :=
  True

def Pre_ProjDtIdeal (m : (ℓ : Loc Cert.ProjDtIdeal.nD Cert.ProjDtIdeal.τ Cert.ProjDtIdeal.sig) → Buf (Elt Ideal) ℓ) : Prop :=
  True

def Pre_ProjDtRefIdeal (m : (ℓ : Loc Cert.ProjDtRefIdeal.nD Cert.ProjDtRefIdeal.τ Cert.ProjDtRefIdeal.sig) → Buf (Elt Ideal) ℓ) : Prop :=
  True

def Pre_DwDt (m : (ℓ : Loc Cert.DwDt.nD Cert.DwDt.τ Cert.DwDt.sig) → Buf (Elt Bits) ℓ) : Prop :=
  True

def Pre_DwDtIdeal (m : (ℓ : Loc Cert.DwDtIdeal.nD Cert.DwDtIdeal.τ Cert.DwDtIdeal.sig) → Buf (Elt Ideal) ℓ) : Prop :=
  True

def Pre_DwDtRefIdeal (m : (ℓ : Loc Cert.DwDtRefIdeal.nD Cert.DwDtRefIdeal.τ Cert.DwDtRefIdeal.sig) → Buf (Elt Ideal) ℓ) : Prop :=
  True

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdRefIdeal (m : (ℓ : Loc Cert.MergeBwdRefIdeal.nD Cert.MergeBwdRefIdeal.τ Cert.MergeBwdRefIdeal.sig) → Buf (Elt Ideal) ℓ) : Prop :=
  True

def Pre_GmlpFwd (m : (ℓ : Loc Cert.GmlpFwd.nD Cert.GmlpFwd.τ Cert.GmlpFwd.sig) → Buf (Elt Bits) ℓ) : Prop :=
  True

def Pre_GmlpFwdIdeal (m : (ℓ : Loc Cert.GmlpFwdIdeal.nD Cert.GmlpFwdIdeal.τ Cert.GmlpFwdIdeal.sig) → Buf (Elt Ideal) ℓ) : Prop :=
  True

def Pre_GmlpFwdRefIdeal (m : (ℓ : Loc Cert.GmlpFwdRefIdeal.nD Cert.GmlpFwdRefIdeal.τ Cert.GmlpFwdRefIdeal.sig) → Buf (Elt Ideal) ℓ) : Prop :=
  True

def Pre_RmsMlpBwd (m : (ℓ : Loc Cert.RmsMlpBwd.nD Cert.RmsMlpBwd.τ Cert.RmsMlpBwd.sig) → Buf (Elt Bits) ℓ) : Prop :=
  True

def Pre_RmsMlpBwdIdeal (m : (ℓ : Loc Cert.RmsMlpBwdIdeal.nD Cert.RmsMlpBwdIdeal.τ Cert.RmsMlpBwdIdeal.sig) → Buf (Elt Ideal) ℓ) : Prop :=
  True

def Pre_RmsMlpBwdRefIdeal (m : (ℓ : Loc Cert.RmsMlpBwdRefIdeal.nD Cert.RmsMlpBwdRefIdeal.τ Cert.RmsMlpBwdRefIdeal.sig) → Buf (Elt Ideal) ℓ) : Prop :=
  True

def Pre_RmsMixBwd (m : (ℓ : Loc Cert.RmsMixBwd.nD Cert.RmsMixBwd.τ Cert.RmsMixBwd.sig) → Buf (Elt Bits) ℓ) : Prop :=
  True

def Pre_RmsMixBwdIdeal (m : (ℓ : Loc Cert.RmsMixBwdIdeal.nD Cert.RmsMixBwdIdeal.τ Cert.RmsMixBwdIdeal.sig) → Buf (Elt Ideal) ℓ) : Prop :=
  True

def Pre_RmsMixBwdRefIdeal (m : (ℓ : Loc Cert.RmsMixBwdRefIdeal.nD Cert.RmsMixBwdRefIdeal.τ Cert.RmsMixBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DwXbc [hDwXbc : Cert.DwXbc.Facts] : Prop :=
  ∀ (m : (ℓ : Loc Cert.DwXbc.nD Cert.DwXbc.τ Cert.DwXbc.sig) → Buf (Elt Bits) ℓ) (g : Dev Cert.DwXbc.nD → PrngReg), Pre_DwXbc m →
    θ_run (Cert.DwXbc.defs (F := Bits)) (onTc (τ := Cert.DwXbc.τ) (Cert.DwXbc.main (F := Bits))) ⟨m, fun _ => 0, g⟩ (fun r => (∀ c : Dev Cert.DwXbc.nD,
      r.2.mem ((c.tc : Thread Cert.DwXbc.nD Cert.DwXbc.τ).loc Cert.DwXbc.main_arg0) = m ((c.tc : Thread Cert.DwXbc.nD Cert.DwXbc.τ).loc Cert.DwXbc.main_arg0)
      ∧ r.2.mem ((c.tc : Thread Cert.DwXbc.nD Cert.DwXbc.τ).loc Cert.DwXbc.main_arg1) = m ((c.tc : Thread Cert.DwXbc.nD Cert.DwXbc.τ).loc Cert.DwXbc.main_arg1))
      ∧ r.2.sem = fun _ => 0)

def quiescent_DwXbcIdeal [hDwXbcIdeal : Cert.DwXbcIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg), Pre_DwXbcIdeal m →
    θ_run (Cert.DwXbcIdeal.defs (F := Ideal)) (onTc (τ := Cert.DwXbcIdeal.τ) (Cert.DwXbcIdeal.main (F := Ideal))) ⟨m, fun _ => 0, g⟩ (fun r => (∀ c : Dev Cert.DwXbcIdeal.nD,
      r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
      ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1))
      ∧ r.2.sem = fun _ => 0)

def quiescent_DwXbcRefIdeal [hDwXbcRefIdeal : Cert.DwXbcRefIdeal.Facts] : Prop :=
  ∀ (m : (ℓ : Loc Cert.DwXbcRefIdeal.nD Cert.DwXbcRefIdeal.τ Cert.DwXbcRefIdeal.sig) → Buf (Elt Ideal) ℓ) (g : Dev Cert.DwXbcRefIdeal.nD → PrngReg), Pre_DwXbcRefIdeal m →
    θ_run (Cert.DwXbcRefIdeal.defs (F := Ideal)) (onTc (τ := Cert.DwXbcRefIdeal.τ) (Cert.DwXbcRefIdeal.main (F := Ideal))) ⟨m, fun _ => 0, g⟩ (fun r => (∀ c : Dev Cert.DwXbcRefIdeal.nD,
      r.2.mem ((c.tc : Thread Cert.DwXbcRefIdeal.nD Cert.DwXbcRefIdeal.τ).loc Cert.DwXbcRefIdeal.main_arg0) = m ((c.tc : Thread Cert.DwXbcRefIdeal.nD Cert.DwXbcRefIdeal.τ).loc Cert.DwXbcRefIdeal.main_arg0)
      ∧ r.2.mem ((c.tc : Thread Cert.DwXbcRefIdeal.nD Cert.DwXbcRefIdeal.τ).loc Cert.DwXbcRefIdeal.main_arg1) = m ((c.tc : Thread Cert.DwXbcRefIdeal.nD Cert.DwXbcRefIdeal.τ).loc Cert.DwXbcRefIdeal.main_arg1))
      ∧ r.2.sem = fun _ => 0)

def quiescent_DwWide [hDwWide : Cert.DwWide.Facts] : Prop :=
  ∀ (m : (ℓ : Loc Cert.DwWide.nD Cert.DwWide.τ Cert.DwWide.sig) → Buf (Elt Bits) ℓ) (g : Dev Cert.DwWide.nD → PrngReg), Pre_DwWide m →
    θ_run (Cert.DwWide.defs (F := Bits)) (onTc (τ := Cert.DwWide.τ) (Cert.DwWide.main (F := Bits))) ⟨m, fun _ => 0, g⟩ (fun r => (∀ c : Dev Cert.DwWide.nD,
      r.2.mem ((c.tc : Thread Cert.DwWide.nD Cert.DwWide.τ).loc Cert.DwWide.main_arg0) = m ((c.tc : Thread Cert.DwWide.nD Cert.DwWide.τ).loc Cert.DwWide.main_arg0)
      ∧ r.2.mem ((c.tc : Thread Cert.DwWide.nD Cert.DwWide.τ).loc Cert.DwWide.main_arg1) = m ((c.tc : Thread Cert.DwWide.nD Cert.DwWide.τ).loc Cert.DwWide.main_arg1))
      ∧ r.2.sem = fun _ => 0)

def quiescent_DwWideIdeal [hDwWideIdeal : Cert.DwWideIdeal.Facts] : Prop :=
  ∀ (m : (ℓ : Loc Cert.DwWideIdeal.nD Cert.DwWideIdeal.τ Cert.DwWideIdeal.sig) → Buf (Elt Ideal) ℓ) (g : Dev Cert.DwWideIdeal.nD → PrngReg), Pre_DwWideIdeal m →
    θ_run (Cert.DwWideIdeal.defs (F := Ideal)) (onTc (τ := Cert.DwWideIdeal.τ) (Cert.DwWideIdeal.main (F := Ideal))) ⟨m, fun _ => 0, g⟩ (fun r => (∀ c : Dev Cert.DwWideIdeal.nD,
      r.2.mem ((c.tc : Thread Cert.DwWideIdeal.nD Cert.DwWideIdeal.τ).loc Cert.DwWideIdeal.main_arg0) = m ((c.tc : Thread Cert.DwWideIdeal.nD Cert.DwWideIdeal.τ).loc Cert.DwWideIdeal.main_arg0)
      ∧ r.2.mem ((c.tc : Thread Cert.DwWideIdeal.nD Cert.DwWideIdeal.τ).loc Cert.DwWideIdeal.main_arg1) = m ((c.tc : Thread Cert.DwWideIdeal.nD Cert.DwWideIdeal.τ).loc Cert.DwWideIdeal.main_arg1))
      ∧ r.2.sem = fun _ => 0)

def quiescent_DwWideRefIdeal [hDwWideRefIdeal : Cert.DwWideRefIdeal.Facts] : Prop :=
  ∀ (m : (ℓ : Loc Cert.DwWideRefIdeal.nD Cert.DwWideRefIdeal.τ Cert.DwWideRefIdeal.sig) → Buf (Elt Ideal) ℓ) (g : Dev Cert.DwWideRefIdeal.nD → PrngReg), Pre_DwWideRefIdeal m →
    θ_run (Cert.DwWideRefIdeal.defs (F := Ideal)) (onTc (τ := Cert.DwWideRefIdeal.τ) (Cert.DwWideRefIdeal.main (F := Ideal))) ⟨m, fun _ => 0, g⟩ (fun r => (∀ c : Dev Cert.DwWideRefIdeal.nD,
      r.2.mem ((c.tc : Thread Cert.DwWideRefIdeal.nD Cert.DwWideRefIdeal.τ).loc Cert.DwWideRefIdeal.main_arg0) = m ((c.tc : Thread Cert.DwWideRefIdeal.nD Cert.DwWideRefIdeal.τ).loc Cert.DwWideRefIdeal.main_arg0)
      ∧ r.2.mem ((c.tc : Thread Cert.DwWideRefIdeal.nD Cert.DwWideRefIdeal.τ).loc Cert.DwWideRefIdeal.main_arg1) = m ((c.tc : Thread Cert.DwWideRefIdeal.nD Cert.DwWideRefIdeal.τ).loc Cert.DwWideRefIdeal.main_arg1))
      ∧ r.2.sem = fun _ => 0)

def quiescent_ProjXbc [hProjXbc : Cert.ProjXbc.Facts] : Prop :=
  ∀ (m : (ℓ : Loc Cert.ProjXbc.nD Cert.ProjXbc.τ Cert.ProjXbc.sig) → Buf (Elt Bits) ℓ) (g : Dev Cert.ProjXbc.nD → PrngReg), Pre_ProjXbc m →
    θ_run (Cert.ProjXbc.defs (F := Bits)) (onTc (τ := Cert.ProjXbc.τ) (Cert.ProjXbc.main (F := Bits))) ⟨m, fun _ => 0, g⟩ (fun r => (∀ c : Dev Cert.ProjXbc.nD,
      r.2.mem ((c.tc : Thread Cert.ProjXbc.nD Cert.ProjXbc.τ).loc Cert.ProjXbc.main_arg0) = m ((c.tc : Thread Cert.ProjXbc.nD Cert.ProjXbc.τ).loc Cert.ProjXbc.main_arg0)
      ∧ r.2.mem ((c.tc : Thread Cert.ProjXbc.nD Cert.ProjXbc.τ).loc Cert.ProjXbc.main_arg1) = m ((c.tc : Thread Cert.ProjXbc.nD Cert.ProjXbc.τ).loc Cert.ProjXbc.main_arg1))
      ∧ r.2.sem = fun _ => 0)

def quiescent_ProjXbcIdeal [hProjXbcIdeal : Cert.ProjXbcIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg), Pre_ProjXbcIdeal m →
    θ_run (Cert.ProjXbcIdeal.defs (F := Ideal)) (onTc (τ := Cert.ProjXbcIdeal.τ) (Cert.ProjXbcIdeal.main (F := Ideal))) ⟨m, fun _ => 0, g⟩ (fun r => (∀ c : Dev Cert.ProjXbcIdeal.nD,
      r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
      ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ r.2.sem = fun _ => 0)

def quiescent_ProjXbcRefIdeal [hProjXbcRefIdeal : Cert.ProjXbcRefIdeal.Facts] : Prop :=
  ∀ (m : (ℓ : Loc Cert.ProjXbcRefIdeal.nD Cert.ProjXbcRefIdeal.τ Cert.ProjXbcRefIdeal.sig) → Buf (Elt Ideal) ℓ) (g : Dev Cert.ProjXbcRefIdeal.nD → PrngReg), Pre_ProjXbcRefIdeal m →
    θ_run (Cert.ProjXbcRefIdeal.defs (F := Ideal)) (onTc (τ := Cert.ProjXbcRefIdeal.τ) (Cert.ProjXbcRefIdeal.main (F := Ideal))) ⟨m, fun _ => 0, g⟩ (fun r => (∀ c : Dev Cert.ProjXbcRefIdeal.nD,
      r.2.mem ((c.tc : Thread Cert.ProjXbcRefIdeal.nD Cert.ProjXbcRefIdeal.τ).loc Cert.ProjXbcRefIdeal.main_arg0) = m ((c.tc : Thread Cert.ProjXbcRefIdeal.nD Cert.ProjXbcRefIdeal.τ).loc Cert.ProjXbcRefIdeal.main_arg0)
      ∧ r.2.mem ((c.tc : Thread Cert.ProjXbcRefIdeal.nD Cert.ProjXbcRefIdeal.τ).loc Cert.ProjXbcRefIdeal.main_arg1) = m ((c.tc : Thread Cert.ProjXbcRefIdeal.nD Cert.ProjXbcRefIdeal.τ).loc Cert.ProjXbcRefIdeal.main_arg1))
      ∧ r.2.sem = fun _ => 0)

def quiescent_ProjWide [hProjWide : Cert.ProjWide.Facts] : Prop :=
  ∀ (m : (ℓ : Loc Cert.ProjWide.nD Cert.ProjWide.τ Cert.ProjWide.sig) → Buf (Elt Bits) ℓ) (g : Dev Cert.ProjWide.nD → PrngReg), Pre_ProjWide m →
    θ_run (Cert.ProjWide.defs (F := Bits)) (onTc (τ := Cert.ProjWide.τ) (Cert.ProjWide.main (F := Bits))) ⟨m, fun _ => 0, g⟩ (fun r => (∀ c : Dev Cert.ProjWide.nD,
      r.2.mem ((c.tc : Thread Cert.ProjWide.nD Cert.ProjWide.τ).loc Cert.ProjWide.main_arg0) = m ((c.tc : Thread Cert.ProjWide.nD Cert.ProjWide.τ).loc Cert.ProjWide.main_arg0)
      ∧ r.2.mem ((c.tc : Thread Cert.ProjWide.nD Cert.ProjWide.τ).loc Cert.ProjWide.main_arg1) = m ((c.tc : Thread Cert.ProjWide.nD Cert.ProjWide.τ).loc Cert.ProjWide.main_arg1))
      ∧ r.2.sem = fun _ => 0)

def quiescent_ProjWideIdeal [hProjWideIdeal : Cert.ProjWideIdeal.Facts] : Prop :=
  ∀ (m : (ℓ : Loc Cert.ProjWideIdeal.nD Cert.ProjWideIdeal.τ Cert.ProjWideIdeal.sig) → Buf (Elt Ideal) ℓ) (g : Dev Cert.ProjWideIdeal.nD → PrngReg), Pre_ProjWideIdeal m →
    θ_run (Cert.ProjWideIdeal.defs (F := Ideal)) (onTc (τ := Cert.ProjWideIdeal.τ) (Cert.ProjWideIdeal.main (F := Ideal))) ⟨m, fun _ => 0, g⟩ (fun r => (∀ c : Dev Cert.ProjWideIdeal.nD,
      r.2.mem ((c.tc : Thread Cert.ProjWideIdeal.nD Cert.ProjWideIdeal.τ).loc Cert.ProjWideIdeal.main_arg0) = m ((c.tc : Thread Cert.ProjWideIdeal.nD Cert.ProjWideIdeal.τ).loc Cert.ProjWideIdeal.main_arg0)
      ∧ r.2.mem ((c.tc : Thread Cert.ProjWideIdeal.nD Cert.ProjWideIdeal.τ).loc Cert.ProjWideIdeal.main_arg1) = m ((c.tc : Thread Cert.ProjWideIdeal.nD Cert.ProjWideIdeal.τ).loc Cert.ProjWideIdeal.main_arg1))
      ∧ r.2.sem = fun _ => 0)

def quiescent_ProjWideRefIdeal [hProjWideRefIdeal : Cert.ProjWideRefIdeal.Facts] : Prop :=
  ∀ (m : (ℓ : Loc Cert.ProjWideRefIdeal.nD Cert.ProjWideRefIdeal.τ Cert.ProjWideRefIdeal.sig) → Buf (Elt Ideal) ℓ) (g : Dev Cert.ProjWideRefIdeal.nD → PrngReg), Pre_ProjWideRefIdeal m →
    θ_run (Cert.ProjWideRefIdeal.defs (F := Ideal)) (onTc (τ := Cert.ProjWideRefIdeal.τ) (Cert.ProjWideRefIdeal.main (F := Ideal))) ⟨m, fun _ => 0, g⟩ (fun r => (∀ c : Dev Cert.ProjWideRefIdeal.nD,
      r.2.mem ((c.tc : Thread Cert.ProjWideRefIdeal.nD Cert.ProjWideRefIdeal.τ).loc Cert.ProjWideRefIdeal.main_arg0) = m ((c.tc : Thread Cert.ProjWideRefIdeal.nD Cert.ProjWideRefIdeal.τ).loc Cert.ProjWideRefIdeal.main_arg0)
      ∧ r.2.mem ((c.tc : Thread Cert.ProjWideRefIdeal.nD Cert.ProjWideRefIdeal.τ).loc Cert.ProjWideRefIdeal.main_arg1) = m ((c.tc : Thread Cert.ProjWideRefIdeal.nD Cert.ProjWideRefIdeal.τ).loc Cert.ProjWideRefIdeal.main_arg1))
      ∧ r.2.sem = fun _ => 0)

def quiescent_ProjA [hProjA : Cert.ProjA.Facts] : Prop :=
  ∀ (m : (ℓ : Loc Cert.ProjA.nD Cert.ProjA.τ Cert.ProjA.sig) → Buf (Elt Bits) ℓ) (g : Dev Cert.ProjA.nD → PrngReg), Pre_ProjA m →
    θ_run (Cert.ProjA.defs (F := Bits)) (onTc (τ := Cert.ProjA.τ) (Cert.ProjA.main (F := Bits))) ⟨m, fun _ => 0, g⟩ (fun r => (∀ c : Dev Cert.ProjA.nD,
      r.2.mem ((c.tc : Thread Cert.ProjA.nD Cert.ProjA.τ).loc Cert.ProjA.main_arg0) = m ((c.tc : Thread Cert.ProjA.nD Cert.ProjA.τ).loc Cert.ProjA.main_arg0)
      ∧ r.2.mem ((c.tc : Thread Cert.ProjA.nD Cert.ProjA.τ).loc Cert.ProjA.main_arg1) = m ((c.tc : Thread Cert.ProjA.nD Cert.ProjA.τ).loc Cert.ProjA.main_arg1))
      ∧ r.2.sem = fun _ => 0)

def quiescent_ProjAIdeal [hProjAIdeal : Cert.ProjAIdeal.Facts] : Prop :=
  ∀ (m : (ℓ : Loc Cert.ProjAIdeal.nD Cert.ProjAIdeal.τ Cert.ProjAIdeal.sig) → Buf (Elt Ideal) ℓ) (g : Dev Cert.ProjAIdeal.nD → PrngReg), Pre_ProjAIdeal m →
    θ_run (Cert.ProjAIdeal.defs (F := Ideal)) (onTc (τ := Cert.ProjAIdeal.τ) (Cert.ProjAIdeal.main (F := Ideal))) ⟨m, fun _ => 0, g⟩ (fun r => (∀ c : Dev Cert.ProjAIdeal.nD,
      r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
      ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ r.2.sem = fun _ => 0)

def quiescent_ProjARefIdeal [hProjARefIdeal : Cert.ProjARefIdeal.Facts] : Prop :=
  ∀ (m : (ℓ : Loc Cert.ProjARefIdeal.nD Cert.ProjARefIdeal.τ Cert.ProjARefIdeal.sig) → Buf (Elt Ideal) ℓ) (g : Dev Cert.ProjARefIdeal.nD → PrngReg), Pre_ProjARefIdeal m →
    θ_run (Cert.ProjARefIdeal.defs (F := Ideal)) (onTc (τ := Cert.ProjARefIdeal.τ) (Cert.ProjARefIdeal.main (F := Ideal))) ⟨m, fun _ => 0, g⟩ (fun r => (∀ c : Dev Cert.ProjARefIdeal.nD,
      r.2.mem ((c.tc : Thread Cert.ProjARefIdeal.nD Cert.ProjARefIdeal.τ).loc Cert.ProjARefIdeal.main_arg0) = m ((c.tc : Thread Cert.ProjARefIdeal.nD Cert.ProjARefIdeal.τ).loc Cert.ProjARefIdeal.main_arg0)
      ∧ r.2.mem ((c.tc : Thread Cert.ProjARefIdeal.nD Cert.ProjARefIdeal.τ).loc Cert.ProjARefIdeal.main_arg1) = m ((c.tc : Thread Cert.ProjARefIdeal.nD Cert.ProjARefIdeal.τ).loc Cert.ProjARefIdeal.main_arg1))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ r.2.sem = fun _ => 0)

def quiescent_MlpUpRefIdeal [hMlpUpRefIdeal : Cert.MlpUpRefIdeal.Facts] : Prop :=
  ∀ (m : (ℓ : Loc Cert.MlpUpRefIdeal.nD Cert.MlpUpRefIdeal.τ Cert.MlpUpRefIdeal.sig) → Buf (Elt Ideal) ℓ) (g : Dev Cert.MlpUpRefIdeal.nD → PrngReg), Pre_MlpUpRefIdeal m →
    θ_run (Cert.MlpUpRefIdeal.defs (F := Ideal)) (onTc (τ := Cert.MlpUpRefIdeal.τ) (Cert.MlpUpRefIdeal.main (F := Ideal))) ⟨m, fun _ => 0, g⟩ (fun r => (∀ c : Dev Cert.MlpUpRefIdeal.nD,
      r.2.mem ((c.tc : Thread Cert.MlpUpRefIdeal.nD Cert.MlpUpRefIdeal.τ).loc Cert.MlpUpRefIdeal.main_arg0) = m ((c.tc : Thread Cert.MlpUpRefIdeal.nD Cert.MlpUpRefIdeal.τ).loc Cert.MlpUpRefIdeal.main_arg0)
      ∧ r.2.mem ((c.tc : Thread Cert.MlpUpRefIdeal.nD Cert.MlpUpRefIdeal.τ).loc Cert.MlpUpRefIdeal.main_arg1) = m ((c.tc : Thread Cert.MlpUpRefIdeal.nD Cert.MlpUpRefIdeal.τ).loc Cert.MlpUpRefIdeal.main_arg1))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ r.2.sem = fun _ => 0)

def quiescent_MlpDownRefIdeal [hMlpDownRefIdeal : Cert.MlpDownRefIdeal.Facts] : Prop :=
  ∀ (m : (ℓ : Loc Cert.MlpDownRefIdeal.nD Cert.MlpDownRefIdeal.τ Cert.MlpDownRefIdeal.sig) → Buf (Elt Ideal) ℓ) (g : Dev Cert.MlpDownRefIdeal.nD → PrngReg), Pre_MlpDownRefIdeal m →
    θ_run (Cert.MlpDownRefIdeal.defs (F := Ideal)) (onTc (τ := Cert.MlpDownRefIdeal.τ) (Cert.MlpDownRefIdeal.main (F := Ideal))) ⟨m, fun _ => 0, g⟩ (fun r => (∀ c : Dev Cert.MlpDownRefIdeal.nD,
      r.2.mem ((c.tc : Thread Cert.MlpDownRefIdeal.nD Cert.MlpDownRefIdeal.τ).loc Cert.MlpDownRefIdeal.main_arg0) = m ((c.tc : Thread Cert.MlpDownRefIdeal.nD Cert.MlpDownRefIdeal.τ).loc Cert.MlpDownRefIdeal.main_arg0)
      ∧ r.2.mem ((c.tc : Thread Cert.MlpDownRefIdeal.nD Cert.MlpDownRefIdeal.τ).loc Cert.MlpDownRefIdeal.main_arg1) = m ((c.tc : Thread Cert.MlpDownRefIdeal.nD Cert.MlpDownRefIdeal.τ).loc Cert.MlpDownRefIdeal.main_arg1)
      ∧ r.2.mem ((c.tc : Thread Cert.MlpDownRefIdeal.nD Cert.MlpDownRefIdeal.τ).loc Cert.MlpDownRefIdeal.main_arg2) = m ((c.tc : Thread Cert.MlpDownRefIdeal.nD Cert.MlpDownRefIdeal.τ).loc Cert.MlpDownRefIdeal.main_arg2))
      ∧ r.2.sem = fun _ => 0)

def quiescent_Dup [hDup : Cert.Dup.Facts] : Prop :=
  ∀ (m : (ℓ : Loc Cert.Dup.nD Cert.Dup.τ Cert.Dup.sig) → Buf (Elt Bits) ℓ) (g : Dev Cert.Dup.nD → PrngReg), Pre_Dup m →
    θ_run (Cert.Dup.defs (F := Bits)) (onTc (τ := Cert.Dup.τ) (Cert.Dup.main (F := Bits))) ⟨m, fun _ => 0, g⟩ (fun r => (∀ c : Dev Cert.Dup.nD,
      r.2.mem ((c.tc : Thread Cert.Dup.nD Cert.Dup.τ).loc Cert.Dup.main_arg0) = m ((c.tc : Thread Cert.Dup.nD Cert.Dup.τ).loc Cert.Dup.main_arg0)
      ∧ r.2.mem ((c.tc : Thread Cert.Dup.nD Cert.Dup.τ).loc Cert.Dup.main_arg1) = m ((c.tc : Thread Cert.Dup.nD Cert.Dup.τ).loc Cert.Dup.main_arg1)
      ∧ r.2.mem ((c.tc : Thread Cert.Dup.nD Cert.Dup.τ).loc Cert.Dup.main_arg2) = m ((c.tc : Thread Cert.Dup.nD Cert.Dup.τ).loc Cert.Dup.main_arg2))
      ∧ r.2.sem = fun _ => 0)

def quiescent_DupIdeal [hDupIdeal : Cert.DupIdeal.Facts] : Prop :=
  ∀ (m : (ℓ : Loc Cert.DupIdeal.nD Cert.DupIdeal.τ Cert.DupIdeal.sig) → Buf (Elt Ideal) ℓ) (g : Dev Cert.DupIdeal.nD → PrngReg), Pre_DupIdeal m →
    θ_run (Cert.DupIdeal.defs (F := Ideal)) (onTc (τ := Cert.DupIdeal.τ) (Cert.DupIdeal.main (F := Ideal))) ⟨m, fun _ => 0, g⟩ (fun r => (∀ c : Dev Cert.DupIdeal.nD,
      r.2.mem ((c.tc : Thread Cert.DupIdeal.nD Cert.DupIdeal.τ).loc Cert.DupIdeal.main_arg0) = m ((c.tc : Thread Cert.DupIdeal.nD Cert.DupIdeal.τ).loc Cert.DupIdeal.main_arg0)
      ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
      ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ r.2.sem = fun _ => 0)

def quiescent_DupRefIdeal [hDupRefIdeal : Cert.DupRefIdeal.Facts] : Prop :=
  ∀ (m : (ℓ : Loc Cert.DupRefIdeal.nD Cert.DupRefIdeal.τ Cert.DupRefIdeal.sig) → Buf (Elt Ideal) ℓ) (g : Dev Cert.DupRefIdeal.nD → PrngReg), Pre_DupRefIdeal m →
    θ_run (Cert.DupRefIdeal.defs (F := Ideal)) (onTc (τ := Cert.DupRefIdeal.τ) (Cert.DupRefIdeal.main (F := Ideal))) ⟨m, fun _ => 0, g⟩ (fun r => (∀ c : Dev Cert.DupRefIdeal.nD,
      r.2.mem ((c.tc : Thread Cert.DupRefIdeal.nD Cert.DupRefIdeal.τ).loc Cert.DupRefIdeal.main_arg0) = m ((c.tc : Thread Cert.DupRefIdeal.nD Cert.DupRefIdeal.τ).loc Cert.DupRefIdeal.main_arg0)
      ∧ r.2.mem ((c.tc : Thread Cert.DupRefIdeal.nD Cert.DupRefIdeal.τ).loc Cert.DupRefIdeal.main_arg1) = m ((c.tc : Thread Cert.DupRefIdeal.nD Cert.DupRefIdeal.τ).loc Cert.DupRefIdeal.main_arg1)
      ∧ r.2.mem ((c.tc : Thread Cert.DupRefIdeal.nD Cert.DupRefIdeal.τ).loc Cert.DupRefIdeal.main_arg2) = m ((c.tc : Thread Cert.DupRefIdeal.nD Cert.DupRefIdeal.τ).loc Cert.DupRefIdeal.main_arg2))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_Dyb [hDyb : Cert.Dyb.Facts] : Prop :=
  ∀ (m : (ℓ : Loc Cert.Dyb.nD Cert.Dyb.τ Cert.Dyb.sig) → Buf (Elt Bits) ℓ) (g : Dev Cert.Dyb.nD → PrngReg), Pre_Dyb m →
    θ_run (Cert.Dyb.defs (F := Bits)) (onTc (τ := Cert.Dyb.τ) (Cert.Dyb.main (F := Bits))) ⟨m, fun _ => 0, g⟩ (fun r => (∀ c : Dev Cert.Dyb.nD,
      r.2.mem ((c.tc : Thread Cert.Dyb.nD Cert.Dyb.τ).loc Cert.Dyb.main_arg0) = m ((c.tc : Thread Cert.Dyb.nD Cert.Dyb.τ).loc Cert.Dyb.main_arg0)
      ∧ r.2.mem ((c.tc : Thread Cert.Dyb.nD Cert.Dyb.τ).loc Cert.Dyb.main_arg1) = m ((c.tc : Thread Cert.Dyb.nD Cert.Dyb.τ).loc Cert.Dyb.main_arg1))
      ∧ r.2.sem = fun _ => 0)

def quiescent_DybIdeal [hDybIdeal : Cert.DybIdeal.Facts] : Prop :=
  ∀ (m : (ℓ : Loc Cert.DybIdeal.nD Cert.DybIdeal.τ Cert.DybIdeal.sig) → Buf (Elt Ideal) ℓ) (g : Dev Cert.DybIdeal.nD → PrngReg), Pre_DybIdeal m →
    θ_run (Cert.DybIdeal.defs (F := Ideal)) (onTc (τ := Cert.DybIdeal.τ) (Cert.DybIdeal.main (F := Ideal))) ⟨m, fun _ => 0, g⟩ (fun r => (∀ c : Dev Cert.DybIdeal.nD,
      r.2.mem ((c.tc : Thread Cert.DybIdeal.nD Cert.DybIdeal.τ).loc Cert.DybIdeal.main_arg0) = m ((c.tc : Thread Cert.DybIdeal.nD Cert.DybIdeal.τ).loc Cert.DybIdeal.main_arg0)
      ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ r.2.sem = fun _ => 0)

def quiescent_DybRefIdeal [hDybRefIdeal : Cert.DybRefIdeal.Facts] : Prop :=
  ∀ (m : (ℓ : Loc Cert.DybRefIdeal.nD Cert.DybRefIdeal.τ Cert.DybRefIdeal.sig) → Buf (Elt Ideal) ℓ) (g : Dev Cert.DybRefIdeal.nD → PrngReg), Pre_DybRefIdeal m →
    θ_run (Cert.DybRefIdeal.defs (F := Ideal)) (onTc (τ := Cert.DybRefIdeal.τ) (Cert.DybRefIdeal.main (F := Ideal))) ⟨m, fun _ => 0, g⟩ (fun r => (∀ c : Dev Cert.DybRefIdeal.nD,
      r.2.mem ((c.tc : Thread Cert.DybRefIdeal.nD Cert.DybRefIdeal.τ).loc Cert.DybRefIdeal.main_arg0) = m ((c.tc : Thread Cert.DybRefIdeal.nD Cert.DybRefIdeal.τ).loc Cert.DybRefIdeal.main_arg0)
      ∧ r.2.mem ((c.tc : Thread Cert.DybRefIdeal.nD Cert.DybRefIdeal.τ).loc Cert.DybRefIdeal.main_arg1) = m ((c.tc : Thread Cert.DybRefIdeal.nD Cert.DybRefIdeal.τ).loc Cert.DybRefIdeal.main_arg1))
      ∧ r.2.sem = fun _ => 0)

def quiescent_Dya [hDya : Cert.Dya.Facts] : Prop :=
  ∀ (m : (ℓ : Loc Cert.Dya.nD Cert.Dya.τ Cert.Dya.sig) → Buf (Elt Bits) ℓ) (g : Dev Cert.Dya.nD → PrngReg), Pre_Dya m →
    θ_run (Cert.Dya.defs (F := Bits)) (onTc (τ := Cert.Dya.τ) (Cert.Dya.main (F := Bits))) ⟨m, fun _ => 0, g⟩ (fun r => (∀ c : Dev Cert.Dya.nD,
      r.2.mem ((c.tc : Thread Cert.Dya.nD Cert.Dya.τ).loc Cert.Dya.main_arg0) = m ((c.tc : Thread Cert.Dya.nD Cert.Dya.τ).loc Cert.Dya.main_arg0)
      ∧ r.2.mem ((c.tc : Thread Cert.Dya.nD Cert.Dya.τ).loc Cert.Dya.main_arg1) = m ((c.tc : Thread Cert.Dya.nD Cert.Dya.τ).loc Cert.Dya.main_arg1))
      ∧ r.2.sem = fun _ => 0)

def quiescent_DyaIdeal [hDyaIdeal : Cert.DyaIdeal.Facts] : Prop :=
  ∀ (m : (ℓ : Loc Cert.DyaIdeal.nD Cert.DyaIdeal.τ Cert.DyaIdeal.sig) → Buf (Elt Ideal) ℓ) (g : Dev Cert.DyaIdeal.nD → PrngReg), Pre_DyaIdeal m →
    θ_run (Cert.DyaIdeal.defs (F := Ideal)) (onTc (τ := Cert.DyaIdeal.τ) (Cert.DyaIdeal.main (F := Ideal))) ⟨m, fun _ => 0, g⟩ (fun r => (∀ c : Dev Cert.DyaIdeal.nD,
      r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
      ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ r.2.sem = fun _ => 0)

def quiescent_DyaRefIdeal [hDyaRefIdeal : Cert.DyaRefIdeal.Facts] : Prop :=
  ∀ (m : (ℓ : Loc Cert.DyaRefIdeal.nD Cert.DyaRefIdeal.τ Cert.DyaRefIdeal.sig) → Buf (Elt Ideal) ℓ) (g : Dev Cert.DyaRefIdeal.nD → PrngReg), Pre_DyaRefIdeal m →
    θ_run (Cert.DyaRefIdeal.defs (F := Ideal)) (onTc (τ := Cert.DyaRefIdeal.τ) (Cert.DyaRefIdeal.main (F := Ideal))) ⟨m, fun _ => 0, g⟩ (fun r => (∀ c : Dev Cert.DyaRefIdeal.nD,
      r.2.mem ((c.tc : Thread Cert.DyaRefIdeal.nD Cert.DyaRefIdeal.τ).loc Cert.DyaRefIdeal.main_arg0) = m ((c.tc : Thread Cert.DyaRefIdeal.nD Cert.DyaRefIdeal.τ).loc Cert.DyaRefIdeal.main_arg0)
      ∧ r.2.mem ((c.tc : Thread Cert.DyaRefIdeal.nD Cert.DyaRefIdeal.τ).loc Cert.DyaRefIdeal.main_arg1) = m ((c.tc : Thread Cert.DyaRefIdeal.nD Cert.DyaRefIdeal.τ).loc Cert.DyaRefIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1)
      ∧ r.2.mem ((c.tc : Thread Cert.DwUpRefIdeal.nD Cert.DwUpRefIdeal.τ).loc Cert.DwUpRefIdeal.main_arg2) = m ((c.tc : Thread Cert.DwUpRefIdeal.nD Cert.DwUpRefIdeal.τ).loc Cert.DwUpRefIdeal.main_arg2))
      ∧ r.2.sem = fun _ => 0)

def quiescent_DwPb [hDwPb : Cert.DwPb.Facts] : Prop :=
  ∀ (m : (ℓ : Loc Cert.DwPb.nD Cert.DwPb.τ Cert.DwPb.sig) → Buf (Elt Bits) ℓ) (g : Dev Cert.DwPb.nD → PrngReg), Pre_DwPb m →
    θ_run (Cert.DwPb.defs (F := Bits)) (onTc (τ := Cert.DwPb.τ) (Cert.DwPb.main (F := Bits))) ⟨m, fun _ => 0, g⟩ (fun r => (∀ c : Dev Cert.DwPb.nD,
      r.2.mem ((c.tc : Thread Cert.DwPb.nD Cert.DwPb.τ).loc Cert.DwPb.main_arg0) = m ((c.tc : Thread Cert.DwPb.nD Cert.DwPb.τ).loc Cert.DwPb.main_arg0)
      ∧ r.2.mem ((c.tc : Thread Cert.DwPb.nD Cert.DwPb.τ).loc Cert.DwPb.main_arg1) = m ((c.tc : Thread Cert.DwPb.nD Cert.DwPb.τ).loc Cert.DwPb.main_arg1)
      ∧ r.2.mem ((c.tc : Thread Cert.DwPb.nD Cert.DwPb.τ).loc Cert.DwPb.main_arg2) = m ((c.tc : Thread Cert.DwPb.nD Cert.DwPb.τ).loc Cert.DwPb.main_arg2))
      ∧ r.2.sem = fun _ => 0)

def quiescent_DwPbIdeal [hDwPbIdeal : Cert.DwPbIdeal.Facts] : Prop :=
  ∀ (m : (ℓ : Loc Cert.DwPbIdeal.nD Cert.DwPbIdeal.τ Cert.DwPbIdeal.sig) → Buf (Elt Ideal) ℓ) (g : Dev Cert.DwPbIdeal.nD → PrngReg), Pre_DwPbIdeal m →
    θ_run (Cert.DwPbIdeal.defs (F := Ideal)) (onTc (τ := Cert.DwPbIdeal.τ) (Cert.DwPbIdeal.main (F := Ideal))) ⟨m, fun _ => 0, g⟩ (fun r => (∀ c : Dev Cert.DwPbIdeal.nD,
      r.2.mem ((c.tc : Thread Cert.DwPbIdeal.nD Cert.DwPbIdeal.τ).loc Cert.DwPbIdeal.main_arg0) = m ((c.tc : Thread Cert.DwPbIdeal.nD Cert.DwPbIdeal.τ).loc Cert.DwPbIdeal.main_arg0)
      ∧ r.2.mem ((c.tc : Thread Cert.DwPbIdeal.nD Cert.DwPbIdeal.τ).loc Cert.DwPbIdeal.main_arg1) = m ((c.tc : Thread Cert.DwPbIdeal.nD Cert.DwPbIdeal.τ).loc Cert.DwPbIdeal.main_arg1)
      ∧ r.2.mem ((c.tc : Thread Cert.DwPbIdeal.nD Cert.DwPbIdeal.τ).loc Cert.DwPbIdeal.main_arg2) = m ((c.tc : Thread Cert.DwPbIdeal.nD Cert.DwPbIdeal.τ).loc Cert.DwPbIdeal.main_arg2))
      ∧ r.2.sem = fun _ => 0)

def quiescent_DwPbRefIdeal [hDwPbRefIdeal : Cert.DwPbRefIdeal.Facts] : Prop :=
  ∀ (m : (ℓ : Loc Cert.DwPbRefIdeal.nD Cert.DwPbRefIdeal.τ Cert.DwPbRefIdeal.sig) → Buf (Elt Ideal) ℓ) (g : Dev Cert.DwPbRefIdeal.nD → PrngReg), Pre_DwPbRefIdeal m →
    θ_run (Cert.DwPbRefIdeal.defs (F := Ideal)) (onTc (τ := Cert.DwPbRefIdeal.τ) (Cert.DwPbRefIdeal.main (F := Ideal))) ⟨m, fun _ => 0, g⟩ (fun r => (∀ c : Dev Cert.DwPbRefIdeal.nD,
      r.2.mem ((c.tc : Thread Cert.DwPbRefIdeal.nD Cert.DwPbRefIdeal.τ).loc Cert.DwPbRefIdeal.main_arg0) = m ((c.tc : Thread Cert.DwPbRefIdeal.nD Cert.DwPbRefIdeal.τ).loc Cert.DwPbRefIdeal.main_arg0)
      ∧ r.2.mem ((c.tc : Thread Cert.DwPbRefIdeal.nD Cert.DwPbRefIdeal.τ).loc Cert.DwPbRefIdeal.main_arg1) = m ((c.tc : Thread Cert.DwPbRefIdeal.nD Cert.DwPbRefIdeal.τ).loc Cert.DwPbRefIdeal.main_arg1)
      ∧ r.2.mem ((c.tc : Thread Cert.DwPbRefIdeal.nD Cert.DwPbRefIdeal.τ).loc Cert.DwPbRefIdeal.main_arg2) = m ((c.tc : Thread Cert.DwPbRefIdeal.nD Cert.DwPbRefIdeal.τ).loc Cert.DwPbRefIdeal.main_arg2))
      ∧ r.2.sem = fun _ => 0)

def quiescent_DwPa [hDwPa : Cert.DwPa.Facts] : Prop :=
  ∀ (m : (ℓ : Loc Cert.DwPa.nD Cert.DwPa.τ Cert.DwPa.sig) → Buf (Elt Bits) ℓ) (g : Dev Cert.DwPa.nD → PrngReg), Pre_DwPa m →
    θ_run (Cert.DwPa.defs (F := Bits)) (onTc (τ := Cert.DwPa.τ) (Cert.DwPa.main (F := Bits))) ⟨m, fun _ => 0, g⟩ (fun r => (∀ c : Dev Cert.DwPa.nD,
      r.2.mem ((c.tc : Thread Cert.DwPa.nD Cert.DwPa.τ).loc Cert.DwPa.main_arg0) = m ((c.tc : Thread Cert.DwPa.nD Cert.DwPa.τ).loc Cert.DwPa.main_arg0)
      ∧ r.2.mem ((c.tc : Thread Cert.DwPa.nD Cert.DwPa.τ).loc Cert.DwPa.main_arg1) = m ((c.tc : Thread Cert.DwPa.nD Cert.DwPa.τ).loc Cert.DwPa.main_arg1)
      ∧ r.2.mem ((c.tc : Thread Cert.DwPa.nD Cert.DwPa.τ).loc Cert.DwPa.main_arg2) = m ((c.tc : Thread Cert.DwPa.nD Cert.DwPa.τ).loc Cert.DwPa.main_arg2))
      ∧ r.2.sem = fun _ => 0)

def quiescent_DwPaIdeal [hDwPaIdeal : Cert.DwPaIdeal.Facts] : Prop :=
  ∀ (m : (ℓ : Loc Cert.DwPaIdeal.nD Cert.DwPaIdeal.τ Cert.DwPaIdeal.sig) → Buf (Elt Ideal) ℓ) (g : Dev Cert.DwPaIdeal.nD → PrngReg), Pre_DwPaIdeal m →
    θ_run (Cert.DwPaIdeal.defs (F := Ideal)) (onTc (τ := Cert.DwPaIdeal.τ) (Cert.DwPaIdeal.main (F := Ideal))) ⟨m, fun _ => 0, g⟩ (fun r => (∀ c : Dev Cert.DwPaIdeal.nD,
      r.2.mem ((c.tc : Thread Cert.DwPaIdeal.nD Cert.DwPaIdeal.τ).loc Cert.DwPaIdeal.main_arg0) = m ((c.tc : Thread Cert.DwPaIdeal.nD Cert.DwPaIdeal.τ).loc Cert.DwPaIdeal.main_arg0)
      ∧ r.2.mem ((c.tc : Thread Cert.DwPaIdeal.nD Cert.DwPaIdeal.τ).loc Cert.DwPaIdeal.main_arg1) = m ((c.tc : Thread Cert.DwPaIdeal.nD Cert.DwPaIdeal.τ).loc Cert.DwPaIdeal.main_arg1)
      ∧ r.2.mem ((c.tc : Thread Cert.DwPaIdeal.nD Cert.DwPaIdeal.τ).loc Cert.DwPaIdeal.main_arg2) = m ((c.tc : Thread Cert.DwPaIdeal.nD Cert.DwPaIdeal.τ).loc Cert.DwPaIdeal.main_arg2))
      ∧ r.2.sem = fun _ => 0)

def quiescent_DwPaRefIdeal [hDwPaRefIdeal : Cert.DwPaRefIdeal.Facts] : Prop :=
  ∀ (m : (ℓ : Loc Cert.DwPaRefIdeal.nD Cert.DwPaRefIdeal.τ Cert.DwPaRefIdeal.sig) → Buf (Elt Ideal) ℓ) (g : Dev Cert.DwPaRefIdeal.nD → PrngReg), Pre_DwPaRefIdeal m →
    θ_run (Cert.DwPaRefIdeal.defs (F := Ideal)) (onTc (τ := Cert.DwPaRefIdeal.τ) (Cert.DwPaRefIdeal.main (F := Ideal))) ⟨m, fun _ => 0, g⟩ (fun r => (∀ c : Dev Cert.DwPaRefIdeal.nD,
      r.2.mem ((c.tc : Thread Cert.DwPaRefIdeal.nD Cert.DwPaRefIdeal.τ).loc Cert.DwPaRefIdeal.main_arg0) = m ((c.tc : Thread Cert.DwPaRefIdeal.nD Cert.DwPaRefIdeal.τ).loc Cert.DwPaRefIdeal.main_arg0)
      ∧ r.2.mem ((c.tc : Thread Cert.DwPaRefIdeal.nD Cert.DwPaRefIdeal.τ).loc Cert.DwPaRefIdeal.main_arg1) = m ((c.tc : Thread Cert.DwPaRefIdeal.nD Cert.DwPaRefIdeal.τ).loc Cert.DwPaRefIdeal.main_arg1)
      ∧ r.2.mem ((c.tc : Thread Cert.DwPaRefIdeal.nD Cert.DwPaRefIdeal.τ).loc Cert.DwPaRefIdeal.main_arg2) = m ((c.tc : Thread Cert.DwPaRefIdeal.nD Cert.DwPaRefIdeal.τ).loc Cert.DwPaRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_ProjB [hProjB : Cert.ProjB.Facts] : Prop :=
  ∀ (m : (ℓ : Loc Cert.ProjB.nD Cert.ProjB.τ Cert.ProjB.sig) → Buf (Elt Bits) ℓ) (g : Dev Cert.ProjB.nD → PrngReg), Pre_ProjB m →
    θ_run (Cert.ProjB.defs (F := Bits)) (onTc (τ := Cert.ProjB.τ) (Cert.ProjB.main (F := Bits))) ⟨m, fun _ => 0, g⟩ (fun r => (∀ c : Dev Cert.ProjB.nD,
      r.2.mem ((c.tc : Thread Cert.ProjB.nD Cert.ProjB.τ).loc Cert.ProjB.main_arg0) = m ((c.tc : Thread Cert.ProjB.nD Cert.ProjB.τ).loc Cert.ProjB.main_arg0)
      ∧ r.2.mem ((c.tc : Thread Cert.ProjB.nD Cert.ProjB.τ).loc Cert.ProjB.main_arg1) = m ((c.tc : Thread Cert.ProjB.nD Cert.ProjB.τ).loc Cert.ProjB.main_arg1)
      ∧ r.2.mem ((c.tc : Thread Cert.ProjB.nD Cert.ProjB.τ).loc Cert.ProjB.main_arg2) = m ((c.tc : Thread Cert.ProjB.nD Cert.ProjB.τ).loc Cert.ProjB.main_arg2)
      ∧ r.2.mem ((c.tc : Thread Cert.ProjB.nD Cert.ProjB.τ).loc Cert.ProjB.main_arg3) = m ((c.tc : Thread Cert.ProjB.nD Cert.ProjB.τ).loc Cert.ProjB.main_arg3)
      ∧ r.2.mem ((c.tc : Thread Cert.ProjB.nD Cert.ProjB.τ).loc Cert.ProjB.main_arg4) = m ((c.tc : Thread Cert.ProjB.nD Cert.ProjB.τ).loc Cert.ProjB.main_arg4))
      ∧ r.2.sem = fun _ => 0)

def quiescent_ProjBIdeal [hProjBIdeal : Cert.ProjBIdeal.Facts] : Prop :=
  ∀ (m : (ℓ : Loc Cert.ProjBIdeal.nD Cert.ProjBIdeal.τ Cert.ProjBIdeal.sig) → Buf (Elt Ideal) ℓ) (g : Dev Cert.ProjBIdeal.nD → PrngReg), Pre_ProjBIdeal m →
    θ_run (Cert.ProjBIdeal.defs (F := Ideal)) (onTc (τ := Cert.ProjBIdeal.τ) (Cert.ProjBIdeal.main (F := Ideal))) ⟨m, fun _ => 0, g⟩ (fun r => (∀ c : Dev Cert.ProjBIdeal.nD,
      r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
      ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
      ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
      ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
      ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ r.2.sem = fun _ => 0)

def quiescent_ProjBRefIdeal [hProjBRefIdeal : Cert.ProjBRefIdeal.Facts] : Prop :=
  ∀ (m : (ℓ : Loc Cert.ProjBRefIdeal.nD Cert.ProjBRefIdeal.τ Cert.ProjBRefIdeal.sig) → Buf (Elt Ideal) ℓ) (g : Dev Cert.ProjBRefIdeal.nD → PrngReg), Pre_ProjBRefIdeal m →
    θ_run (Cert.ProjBRefIdeal.defs (F := Ideal)) (onTc (τ := Cert.ProjBRefIdeal.τ) (Cert.ProjBRefIdeal.main (F := Ideal))) ⟨m, fun _ => 0, g⟩ (fun r => (∀ c : Dev Cert.ProjBRefIdeal.nD,
      r.2.mem ((c.tc : Thread Cert.ProjBRefIdeal.nD Cert.ProjBRefIdeal.τ).loc Cert.ProjBRefIdeal.main_arg0) = m ((c.tc : Thread Cert.ProjBRefIdeal.nD Cert.ProjBRefIdeal.τ).loc Cert.ProjBRefIdeal.main_arg0)
      ∧ r.2.mem ((c.tc : Thread Cert.ProjBRefIdeal.nD Cert.ProjBRefIdeal.τ).loc Cert.ProjBRefIdeal.main_arg1) = m ((c.tc : Thread Cert.ProjBRefIdeal.nD Cert.ProjBRefIdeal.τ).loc Cert.ProjBRefIdeal.main_arg1)
      ∧ r.2.mem ((c.tc : Thread Cert.ProjBRefIdeal.nD Cert.ProjBRefIdeal.τ).loc Cert.ProjBRefIdeal.main_arg2) = m ((c.tc : Thread Cert.ProjBRefIdeal.nD Cert.ProjBRefIdeal.τ).loc Cert.ProjBRefIdeal.main_arg2)
      ∧ r.2.mem ((c.tc : Thread Cert.ProjBRefIdeal.nD Cert.ProjBRefIdeal.τ).loc Cert.ProjBRefIdeal.main_arg3) = m ((c.tc : Thread Cert.ProjBRefIdeal.nD Cert.ProjBRefIdeal.τ).loc Cert.ProjBRefIdeal.main_arg3)
      ∧ r.2.mem ((c.tc : Thread Cert.ProjBRefIdeal.nD Cert.ProjBRefIdeal.τ).loc Cert.ProjBRefIdeal.main_arg4) = m ((c.tc : Thread Cert.ProjBRefIdeal.nD Cert.ProjBRefIdeal.τ).loc Cert.ProjBRefIdeal.main_arg4))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_ProjDt [hProjDt : Cert.ProjDt.Facts] : Prop :=
  ∀ (m : (ℓ : Loc Cert.ProjDt.nD Cert.ProjDt.τ Cert.ProjDt.sig) → Buf (Elt Bits) ℓ) (g : Dev Cert.ProjDt.nD → PrngReg), Pre_ProjDt m →
    θ_run (Cert.ProjDt.defs (F := Bits)) (onTc (τ := Cert.ProjDt.τ) (Cert.ProjDt.main (F := Bits))) ⟨m, fun _ => 0, g⟩ (fun r => (∀ c : Dev Cert.ProjDt.nD,
      r.2.mem ((c.tc : Thread Cert.ProjDt.nD Cert.ProjDt.τ).loc Cert.ProjDt.main_arg0) = m ((c.tc : Thread Cert.ProjDt.nD Cert.ProjDt.τ).loc Cert.ProjDt.main_arg0)
      ∧ r.2.mem ((c.tc : Thread Cert.ProjDt.nD Cert.ProjDt.τ).loc Cert.ProjDt.main_arg1) = m ((c.tc : Thread Cert.ProjDt.nD Cert.ProjDt.τ).loc Cert.ProjDt.main_arg1))
      ∧ r.2.sem = fun _ => 0)

def quiescent_ProjDtIdeal [hProjDtIdeal : Cert.ProjDtIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg), Pre_ProjDtIdeal m →
    θ_run (Cert.ProjDtIdeal.defs (F := Ideal)) (onTc (τ := Cert.ProjDtIdeal.τ) (Cert.ProjDtIdeal.main (F := Ideal))) ⟨m, fun _ => 0, g⟩ (fun r => (∀ c : Dev Cert.ProjDtIdeal.nD,
      r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
      ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ r.2.sem = fun _ => 0)

def quiescent_ProjDtRefIdeal [hProjDtRefIdeal : Cert.ProjDtRefIdeal.Facts] : Prop :=
  ∀ (m : (ℓ : Loc Cert.ProjDtRefIdeal.nD Cert.ProjDtRefIdeal.τ Cert.ProjDtRefIdeal.sig) → Buf (Elt Ideal) ℓ) (g : Dev Cert.ProjDtRefIdeal.nD → PrngReg), Pre_ProjDtRefIdeal m →
    θ_run (Cert.ProjDtRefIdeal.defs (F := Ideal)) (onTc (τ := Cert.ProjDtRefIdeal.τ) (Cert.ProjDtRefIdeal.main (F := Ideal))) ⟨m, fun _ => 0, g⟩ (fun r => (∀ c : Dev Cert.ProjDtRefIdeal.nD,
      r.2.mem ((c.tc : Thread Cert.ProjDtRefIdeal.nD Cert.ProjDtRefIdeal.τ).loc Cert.ProjDtRefIdeal.main_arg0) = m ((c.tc : Thread Cert.ProjDtRefIdeal.nD Cert.ProjDtRefIdeal.τ).loc Cert.ProjDtRefIdeal.main_arg0)
      ∧ r.2.mem ((c.tc : Thread Cert.ProjDtRefIdeal.nD Cert.ProjDtRefIdeal.τ).loc Cert.ProjDtRefIdeal.main_arg1) = m ((c.tc : Thread Cert.ProjDtRefIdeal.nD Cert.ProjDtRefIdeal.τ).loc Cert.ProjDtRefIdeal.main_arg1))
      ∧ r.2.sem = fun _ => 0)

def quiescent_DwDt [hDwDt : Cert.DwDt.Facts] : Prop :=
  ∀ (m : (ℓ : Loc Cert.DwDt.nD Cert.DwDt.τ Cert.DwDt.sig) → Buf (Elt Bits) ℓ) (g : Dev Cert.DwDt.nD → PrngReg), Pre_DwDt m →
    θ_run (Cert.DwDt.defs (F := Bits)) (onTc (τ := Cert.DwDt.τ) (Cert.DwDt.main (F := Bits))) ⟨m, fun _ => 0, g⟩ (fun r => (∀ c : Dev Cert.DwDt.nD,
      r.2.mem ((c.tc : Thread Cert.DwDt.nD Cert.DwDt.τ).loc Cert.DwDt.main_arg0) = m ((c.tc : Thread Cert.DwDt.nD Cert.DwDt.τ).loc Cert.DwDt.main_arg0)
      ∧ r.2.mem ((c.tc : Thread Cert.DwDt.nD Cert.DwDt.τ).loc Cert.DwDt.main_arg1) = m ((c.tc : Thread Cert.DwDt.nD Cert.DwDt.τ).loc Cert.DwDt.main_arg1))
      ∧ r.2.sem = fun _ => 0)

def quiescent_DwDtIdeal [hDwDtIdeal : Cert.DwDtIdeal.Facts] : Prop :=
  ∀ (m : (ℓ : Loc Cert.DwDtIdeal.nD Cert.DwDtIdeal.τ Cert.DwDtIdeal.sig) → Buf (Elt Ideal) ℓ) (g : Dev Cert.DwDtIdeal.nD → PrngReg), Pre_DwDtIdeal m →
    θ_run (Cert.DwDtIdeal.defs (F := Ideal)) (onTc (τ := Cert.DwDtIdeal.τ) (Cert.DwDtIdeal.main (F := Ideal))) ⟨m, fun _ => 0, g⟩ (fun r => (∀ c : Dev Cert.DwDtIdeal.nD,
      r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
      ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ r.2.sem = fun _ => 0)

def quiescent_DwDtRefIdeal [hDwDtRefIdeal : Cert.DwDtRefIdeal.Facts] : Prop :=
  ∀ (m : (ℓ : Loc Cert.DwDtRefIdeal.nD Cert.DwDtRefIdeal.τ Cert.DwDtRefIdeal.sig) → Buf (Elt Ideal) ℓ) (g : Dev Cert.DwDtRefIdeal.nD → PrngReg), Pre_DwDtRefIdeal m →
    θ_run (Cert.DwDtRefIdeal.defs (F := Ideal)) (onTc (τ := Cert.DwDtRefIdeal.τ) (Cert.DwDtRefIdeal.main (F := Ideal))) ⟨m, fun _ => 0, g⟩ (fun r => (∀ c : Dev Cert.DwDtRefIdeal.nD,
      r.2.mem ((c.tc : Thread Cert.DwDtRefIdeal.nD Cert.DwDtRefIdeal.τ).loc Cert.DwDtRefIdeal.main_arg0) = m ((c.tc : Thread Cert.DwDtRefIdeal.nD Cert.DwDtRefIdeal.τ).loc Cert.DwDtRefIdeal.main_arg0)
      ∧ r.2.mem ((c.tc : Thread Cert.DwDtRefIdeal.nD Cert.DwDtRefIdeal.τ).loc Cert.DwDtRefIdeal.main_arg1) = m ((c.tc : Thread Cert.DwDtRefIdeal.nD Cert.DwDtRefIdeal.τ).loc Cert.DwDtRefIdeal.main_arg1))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4))
      ∧ r.2.sem = fun _ => 0)

def quiescent_GmlpFwd [hGmlpFwd : Cert.GmlpFwd.Facts] : Prop :=
  ∀ (m : (ℓ : Loc Cert.GmlpFwd.nD Cert.GmlpFwd.τ Cert.GmlpFwd.sig) → Buf (Elt Bits) ℓ) (g : Dev Cert.GmlpFwd.nD → PrngReg), Pre_GmlpFwd m →
    θ_run (Cert.GmlpFwd.defs (F := Bits)) (onTc (τ := Cert.GmlpFwd.τ) (Cert.GmlpFwd.main (F := Bits))) ⟨m, fun _ => 0, g⟩ (fun r => (∀ c : Dev Cert.GmlpFwd.nD,
      r.2.mem ((c.tc : Thread Cert.GmlpFwd.nD Cert.GmlpFwd.τ).loc Cert.GmlpFwd.main_arg0) = m ((c.tc : Thread Cert.GmlpFwd.nD Cert.GmlpFwd.τ).loc Cert.GmlpFwd.main_arg0)
      ∧ r.2.mem ((c.tc : Thread Cert.GmlpFwd.nD Cert.GmlpFwd.τ).loc Cert.GmlpFwd.main_arg1) = m ((c.tc : Thread Cert.GmlpFwd.nD Cert.GmlpFwd.τ).loc Cert.GmlpFwd.main_arg1)
      ∧ r.2.mem ((c.tc : Thread Cert.GmlpFwd.nD Cert.GmlpFwd.τ).loc Cert.GmlpFwd.main_arg2) = m ((c.tc : Thread Cert.GmlpFwd.nD Cert.GmlpFwd.τ).loc Cert.GmlpFwd.main_arg2)
      ∧ r.2.mem ((c.tc : Thread Cert.GmlpFwd.nD Cert.GmlpFwd.τ).loc Cert.GmlpFwd.main_arg3) = m ((c.tc : Thread Cert.GmlpFwd.nD Cert.GmlpFwd.τ).loc Cert.GmlpFwd.main_arg3)
      ∧ r.2.mem ((c.tc : Thread Cert.GmlpFwd.nD Cert.GmlpFwd.τ).loc Cert.GmlpFwd.main_arg4) = m ((c.tc : Thread Cert.GmlpFwd.nD Cert.GmlpFwd.τ).loc Cert.GmlpFwd.main_arg4))
      ∧ r.2.sem = fun _ => 0)

def quiescent_GmlpFwdIdeal [hGmlpFwdIdeal : Cert.GmlpFwdIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg), Pre_GmlpFwdIdeal m →
    θ_run (Cert.GmlpFwdIdeal.defs (F := Ideal)) (onTc (τ := Cert.GmlpFwdIdeal.τ) (Cert.GmlpFwdIdeal.main (F := Ideal))) ⟨m, fun _ => 0, g⟩ (fun r => (∀ c : Dev Cert.GmlpFwdIdeal.nD,
      r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
      ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
      ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
      ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
      ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ r.2.sem = fun _ => 0)

def quiescent_GmlpFwdRefIdeal [hGmlpFwdRefIdeal : Cert.GmlpFwdRefIdeal.Facts] : Prop :=
  ∀ (m : (ℓ : Loc Cert.GmlpFwdRefIdeal.nD Cert.GmlpFwdRefIdeal.τ Cert.GmlpFwdRefIdeal.sig) → Buf (Elt Ideal) ℓ) (g : Dev Cert.GmlpFwdRefIdeal.nD → PrngReg), Pre_GmlpFwdRefIdeal m →
    θ_run (Cert.GmlpFwdRefIdeal.defs (F := Ideal)) (onTc (τ := Cert.GmlpFwdRefIdeal.τ) (Cert.GmlpFwdRefIdeal.main (F := Ideal))) ⟨m, fun _ => 0, g⟩ (fun r => (∀ c : Dev Cert.GmlpFwdRefIdeal.nD,
      r.2.mem ((c.tc : Thread Cert.GmlpFwdRefIdeal.nD Cert.GmlpFwdRefIdeal.τ).loc Cert.GmlpFwdRefIdeal.main_arg0) = m ((c.tc : Thread Cert.GmlpFwdRefIdeal.nD Cert.GmlpFwdRefIdeal.τ).loc Cert.GmlpFwdRefIdeal.main_arg0)
      ∧ r.2.mem ((c.tc : Thread Cert.GmlpFwdRefIdeal.nD Cert.GmlpFwdRefIdeal.τ).loc Cert.GmlpFwdRefIdeal.main_arg1) = m ((c.tc : Thread Cert.GmlpFwdRefIdeal.nD Cert.GmlpFwdRefIdeal.τ).loc Cert.GmlpFwdRefIdeal.main_arg1)
      ∧ r.2.mem ((c.tc : Thread Cert.GmlpFwdRefIdeal.nD Cert.GmlpFwdRefIdeal.τ).loc Cert.GmlpFwdRefIdeal.main_arg2) = m ((c.tc : Thread Cert.GmlpFwdRefIdeal.nD Cert.GmlpFwdRefIdeal.τ).loc Cert.GmlpFwdRefIdeal.main_arg2)
      ∧ r.2.mem ((c.tc : Thread Cert.GmlpFwdRefIdeal.nD Cert.GmlpFwdRefIdeal.τ).loc Cert.GmlpFwdRefIdeal.main_arg3) = m ((c.tc : Thread Cert.GmlpFwdRefIdeal.nD Cert.GmlpFwdRefIdeal.τ).loc Cert.GmlpFwdRefIdeal.main_arg3)
      ∧ r.2.mem ((c.tc : Thread Cert.GmlpFwdRefIdeal.nD Cert.GmlpFwdRefIdeal.τ).loc Cert.GmlpFwdRefIdeal.main_arg4) = m ((c.tc : Thread Cert.GmlpFwdRefIdeal.nD Cert.GmlpFwdRefIdeal.τ).loc Cert.GmlpFwdRefIdeal.main_arg4))
      ∧ r.2.sem = fun _ => 0)

def quiescent_RmsMlpBwd [hRmsMlpBwd : Cert.RmsMlpBwd.Facts] : Prop :=
  ∀ (m : (ℓ : Loc Cert.RmsMlpBwd.nD Cert.RmsMlpBwd.τ Cert.RmsMlpBwd.sig) → Buf (Elt Bits) ℓ) (g : Dev Cert.RmsMlpBwd.nD → PrngReg), Pre_RmsMlpBwd m →
    θ_run (Cert.RmsMlpBwd.defs (F := Bits)) (onTc (τ := Cert.RmsMlpBwd.τ) (Cert.RmsMlpBwd.main (F := Bits))) ⟨m, fun _ => 0, g⟩ (fun r => (∀ c : Dev Cert.RmsMlpBwd.nD,
      r.2.mem ((c.tc : Thread Cert.RmsMlpBwd.nD Cert.RmsMlpBwd.τ).loc Cert.RmsMlpBwd.main_arg0) = m ((c.tc : Thread Cert.RmsMlpBwd.nD Cert.RmsMlpBwd.τ).loc Cert.RmsMlpBwd.main_arg0)
      ∧ r.2.mem ((c.tc : Thread Cert.RmsMlpBwd.nD Cert.RmsMlpBwd.τ).loc Cert.RmsMlpBwd.main_arg1) = m ((c.tc : Thread Cert.RmsMlpBwd.nD Cert.RmsMlpBwd.τ).loc Cert.RmsMlpBwd.main_arg1)
      ∧ r.2.mem ((c.tc : Thread Cert.RmsMlpBwd.nD Cert.RmsMlpBwd.τ).loc Cert.RmsMlpBwd.main_arg2) = m ((c.tc : Thread Cert.RmsMlpBwd.nD Cert.RmsMlpBwd.τ).loc Cert.RmsMlpBwd.main_arg2)
      ∧ r.2.mem ((c.tc : Thread Cert.RmsMlpBwd.nD Cert.RmsMlpBwd.τ).loc Cert.RmsMlpBwd.main_arg3) = m ((c.tc : Thread Cert.RmsMlpBwd.nD Cert.RmsMlpBwd.τ).loc Cert.RmsMlpBwd.main_arg3))
      ∧ r.2.sem = fun _ => 0)

def quiescent_RmsMlpBwdIdeal [hRmsMlpBwdIdeal : Cert.RmsMlpBwdIdeal.Facts] : Prop :=
  ∀ (m : (ℓ : Loc Cert.RmsMlpBwdIdeal.nD Cert.RmsMlpBwdIdeal.τ Cert.RmsMlpBwdIdeal.sig) → Buf (Elt Ideal) ℓ) (g : Dev Cert.RmsMlpBwdIdeal.nD → PrngReg), Pre_RmsMlpBwdIdeal m →
    θ_run (Cert.RmsMlpBwdIdeal.defs (F := Ideal)) (onTc (τ := Cert.RmsMlpBwdIdeal.τ) (Cert.RmsMlpBwdIdeal.main (F := Ideal))) ⟨m, fun _ => 0, g⟩ (fun r => (∀ c : Dev Cert.RmsMlpBwdIdeal.nD,
      r.2.mem ((c.tc : Thread Cert.RmsMlpBwdIdeal.nD Cert.RmsMlpBwdIdeal.τ).loc Cert.RmsMlpBwdIdeal.main_arg0) = m ((c.tc : Thread Cert.RmsMlpBwdIdeal.nD Cert.RmsMlpBwdIdeal.τ).loc Cert.RmsMlpBwdIdeal.main_arg0)
      ∧ r.2.mem ((c.tc : Thread Cert.RmsMlpBwdIdeal.nD Cert.RmsMlpBwdIdeal.τ).loc Cert.RmsMlpBwdIdeal.main_arg1) = m ((c.tc : Thread Cert.RmsMlpBwdIdeal.nD Cert.RmsMlpBwdIdeal.τ).loc Cert.RmsMlpBwdIdeal.main_arg1)
      ∧ r.2.mem ((c.tc : Thread Cert.RmsMlpBwdIdeal.nD Cert.RmsMlpBwdIdeal.τ).loc Cert.RmsMlpBwdIdeal.main_arg2) = m ((c.tc : Thread Cert.RmsMlpBwdIdeal.nD Cert.RmsMlpBwdIdeal.τ).loc Cert.RmsMlpBwdIdeal.main_arg2)
      ∧ r.2.mem ((c.tc : Thread Cert.RmsMlpBwdIdeal.nD Cert.RmsMlpBwdIdeal.τ).loc Cert.RmsMlpBwdIdeal.main_arg3) = m ((c.tc : Thread Cert.RmsMlpBwdIdeal.nD Cert.RmsMlpBwdIdeal.τ).loc Cert.RmsMlpBwdIdeal.main_arg3))
      ∧ r.2.sem = fun _ => 0)

def quiescent_RmsMlpBwdRefIdeal [hRmsMlpBwdRefIdeal : Cert.RmsMlpBwdRefIdeal.Facts] : Prop :=
  ∀ (m : (ℓ : Loc Cert.RmsMlpBwdRefIdeal.nD Cert.RmsMlpBwdRefIdeal.τ Cert.RmsMlpBwdRefIdeal.sig) → Buf (Elt Ideal) ℓ) (g : Dev Cert.RmsMlpBwdRefIdeal.nD → PrngReg), Pre_RmsMlpBwdRefIdeal m →
    θ_run (Cert.RmsMlpBwdRefIdeal.defs (F := Ideal)) (onTc (τ := Cert.RmsMlpBwdRefIdeal.τ) (Cert.RmsMlpBwdRefIdeal.main (F := Ideal))) ⟨m, fun _ => 0, g⟩ (fun r => (∀ c : Dev Cert.RmsMlpBwdRefIdeal.nD,
      r.2.mem ((c.tc : Thread Cert.RmsMlpBwdRefIdeal.nD Cert.RmsMlpBwdRefIdeal.τ).loc Cert.RmsMlpBwdRefIdeal.main_arg0) = m ((c.tc : Thread Cert.RmsMlpBwdRefIdeal.nD Cert.RmsMlpBwdRefIdeal.τ).loc Cert.RmsMlpBwdRefIdeal.main_arg0)
      ∧ r.2.mem ((c.tc : Thread Cert.RmsMlpBwdRefIdeal.nD Cert.RmsMlpBwdRefIdeal.τ).loc Cert.RmsMlpBwdRefIdeal.main_arg1) = m ((c.tc : Thread Cert.RmsMlpBwdRefIdeal.nD Cert.RmsMlpBwdRefIdeal.τ).loc Cert.RmsMlpBwdRefIdeal.main_arg1)
      ∧ r.2.mem ((c.tc : Thread Cert.RmsMlpBwdRefIdeal.nD Cert.RmsMlpBwdRefIdeal.τ).loc Cert.RmsMlpBwdRefIdeal.main_arg2) = m ((c.tc : Thread Cert.RmsMlpBwdRefIdeal.nD Cert.RmsMlpBwdRefIdeal.τ).loc Cert.RmsMlpBwdRefIdeal.main_arg2)
      ∧ r.2.mem ((c.tc : Thread Cert.RmsMlpBwdRefIdeal.nD Cert.RmsMlpBwdRefIdeal.τ).loc Cert.RmsMlpBwdRefIdeal.main_arg3) = m ((c.tc : Thread Cert.RmsMlpBwdRefIdeal.nD Cert.RmsMlpBwdRefIdeal.τ).loc Cert.RmsMlpBwdRefIdeal.main_arg3))
      ∧ r.2.sem = fun _ => 0)

def quiescent_RmsMixBwd [hRmsMixBwd : Cert.RmsMixBwd.Facts] : Prop :=
  ∀ (m : (ℓ : Loc Cert.RmsMixBwd.nD Cert.RmsMixBwd.τ Cert.RmsMixBwd.sig) → Buf (Elt Bits) ℓ) (g : Dev Cert.RmsMixBwd.nD → PrngReg), Pre_RmsMixBwd m →
    θ_run (Cert.RmsMixBwd.defs (F := Bits)) (onTc (τ := Cert.RmsMixBwd.τ) (Cert.RmsMixBwd.main (F := Bits))) ⟨m, fun _ => 0, g⟩ (fun r => (∀ c : Dev Cert.RmsMixBwd.nD,
      r.2.mem ((c.tc : Thread Cert.RmsMixBwd.nD Cert.RmsMixBwd.τ).loc Cert.RmsMixBwd.main_arg0) = m ((c.tc : Thread Cert.RmsMixBwd.nD Cert.RmsMixBwd.τ).loc Cert.RmsMixBwd.main_arg0)
      ∧ r.2.mem ((c.tc : Thread Cert.RmsMixBwd.nD Cert.RmsMixBwd.τ).loc Cert.RmsMixBwd.main_arg1) = m ((c.tc : Thread Cert.RmsMixBwd.nD Cert.RmsMixBwd.τ).loc Cert.RmsMixBwd.main_arg1)
      ∧ r.2.mem ((c.tc : Thread Cert.RmsMixBwd.nD Cert.RmsMixBwd.τ).loc Cert.RmsMixBwd.main_arg2) = m ((c.tc : Thread Cert.RmsMixBwd.nD Cert.RmsMixBwd.τ).loc Cert.RmsMixBwd.main_arg2)
      ∧ r.2.mem ((c.tc : Thread Cert.RmsMixBwd.nD Cert.RmsMixBwd.τ).loc Cert.RmsMixBwd.main_arg3) = m ((c.tc : Thread Cert.RmsMixBwd.nD Cert.RmsMixBwd.τ).loc Cert.RmsMixBwd.main_arg3))
      ∧ r.2.sem = fun _ => 0)

def quiescent_RmsMixBwdIdeal [hRmsMixBwdIdeal : Cert.RmsMixBwdIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg), Pre_RmsMixBwdIdeal m →
    θ_run (Cert.RmsMixBwdIdeal.defs (F := Ideal)) (onTc (τ := Cert.RmsMixBwdIdeal.τ) (Cert.RmsMixBwdIdeal.main (F := Ideal))) ⟨m, fun _ => 0, g⟩ (fun r => (∀ c : Dev Cert.RmsMixBwdIdeal.nD,
      r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
      ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
      ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
      ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3))
      ∧ r.2.sem = fun _ => 0)

def quiescent_RmsMixBwdRefIdeal [hRmsMixBwdRefIdeal : Cert.RmsMixBwdRefIdeal.Facts] : Prop :=
  ∀ (m : (ℓ : Loc Cert.RmsMixBwdRefIdeal.nD Cert.RmsMixBwdRefIdeal.τ Cert.RmsMixBwdRefIdeal.sig) → Buf (Elt Ideal) ℓ) (g : Dev Cert.RmsMixBwdRefIdeal.nD → PrngReg), Pre_RmsMixBwdRefIdeal m →
    θ_run (Cert.RmsMixBwdRefIdeal.defs (F := Ideal)) (onTc (τ := Cert.RmsMixBwdRefIdeal.τ) (Cert.RmsMixBwdRefIdeal.main (F := Ideal))) ⟨m, fun _ => 0, g⟩ (fun r => (∀ c : Dev Cert.RmsMixBwdRefIdeal.nD,
      r.2.mem ((c.tc : Thread Cert.RmsMixBwdRefIdeal.nD Cert.RmsMixBwdRefIdeal.τ).loc Cert.RmsMixBwdRefIdeal.main_arg0) = m ((c.tc : Thread Cert.RmsMixBwdRefIdeal.nD Cert.RmsMixBwdRefIdeal.τ).loc Cert.RmsMixBwdRefIdeal.main_arg0)
      ∧ r.2.mem ((c.tc : Thread Cert.RmsMixBwdRefIdeal.nD Cert.RmsMixBwdRefIdeal.τ).loc Cert.RmsMixBwdRefIdeal.main_arg1) = m ((c.tc : Thread Cert.RmsMixBwdRefIdeal.nD Cert.RmsMixBwdRefIdeal.τ).loc Cert.RmsMixBwdRefIdeal.main_arg1)
      ∧ r.2.mem ((c.tc : Thread Cert.RmsMixBwdRefIdeal.nD Cert.RmsMixBwdRefIdeal.τ).loc Cert.RmsMixBwdRefIdeal.main_arg2) = m ((c.tc : Thread Cert.RmsMixBwdRefIdeal.nD Cert.RmsMixBwdRefIdeal.τ).loc Cert.RmsMixBwdRefIdeal.main_arg2)
      ∧ r.2.mem ((c.tc : Thread Cert.RmsMixBwdRefIdeal.nD Cert.RmsMixBwdRefIdeal.τ).loc Cert.RmsMixBwdRefIdeal.main_arg3) = m ((c.tc : Thread Cert.RmsMixBwdRefIdeal.nD Cert.RmsMixBwdRefIdeal.τ).loc Cert.RmsMixBwdRefIdeal.main_arg3))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)
  ∧ IdealRules.named_const.Statement Cert.KernelIdeal.κ "inv_sqrt2pi" .f32 0x3ECC422A#32 (((Real.sqrt (2 * Real.pi))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v127) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v129) = v2 c
          ∧ r.2.mem ((c.tc : Thread Cert.ReferenceIdeal.nD Cert.ReferenceIdeal.τ).loc Cert.ReferenceIdeal.main_v125) = v3 c
          ∧ r.2.mem ((c.tc : Thread Cert.ReferenceIdeal.nD Cert.ReferenceIdeal.τ).loc Cert.ReferenceIdeal.main_v124) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DwXbc_DwXbcIdeal : Prop :=
  True

def algebraic_DwXbcIdeal_DwXbcRefIdeal [hDwXbcIdeal : Cert.DwXbcIdeal.Facts] [hDwXbcRefIdeal : Cert.DwXbcRefIdeal.Facts] : Prop :=
  ∀ (m : (ℓ : Loc Cert.DwXbcIdeal.nD Cert.DwXbcIdeal.τ Cert.DwXbcIdeal.sig) → Buf (Elt Ideal) ℓ) (g : Dev Cert.DwXbcIdeal.nD → PrngReg)
    (m' : (ℓ : Loc Cert.DwXbcRefIdeal.nD Cert.DwXbcRefIdeal.τ Cert.DwXbcRefIdeal.sig) → Buf (Elt Ideal) ℓ) (g' : Dev Cert.DwXbcRefIdeal.nD → PrngReg), Pre_DwXbcIdeal m →
    (∀ c : Dev Cert.DwXbcIdeal.nD,
      m' ((c.tc : Thread Cert.DwXbcRefIdeal.nD Cert.DwXbcRefIdeal.τ).loc Cert.DwXbcRefIdeal.main_arg0) = m ((c.tc : Thread Cert.DwXbcIdeal.nD Cert.DwXbcIdeal.τ).loc Cert.DwXbcIdeal.main_arg0)
      ∧ m' ((c.tc : Thread Cert.DwXbcRefIdeal.nD Cert.DwXbcRefIdeal.τ).loc Cert.DwXbcRefIdeal.main_arg1) = m ((c.tc : Thread Cert.DwXbcIdeal.nD Cert.DwXbcIdeal.τ).loc Cert.DwXbcIdeal.main_arg1)) →
    ∃ (v0 : (c : Dev Cert.DwXbcIdeal.nD) → Buf (Elt Ideal) ((c.tc : Thread Cert.DwXbcIdeal.nD Cert.DwXbcIdeal.τ).loc Cert.DwXbcIdeal.main_v2)),
      θ_run (Cert.DwXbcIdeal.defs (F := Ideal)) (onTc (τ := Cert.DwXbcIdeal.τ) (Cert.DwXbcIdeal.main (F := Ideal))) ⟨m, fun _ => 0, g⟩ (fun r => ∀ c : Dev Cert.DwXbcIdeal.nD,
          r.2.mem ((c.tc : Thread Cert.DwXbcIdeal.nD Cert.DwXbcIdeal.τ).loc Cert.DwXbcIdeal.main_v2) = v0 c
          ∧ r.2.mem ((c.tc : Thread Cert.DwXbcIdeal.nD Cert.DwXbcIdeal.τ).loc Cert.DwXbcIdeal.main_arg0) = m ((c.tc : Thread Cert.DwXbcIdeal.nD Cert.DwXbcIdeal.τ).loc Cert.DwXbcIdeal.main_arg0)
          ∧ r.2.mem ((c.tc : Thread Cert.DwXbcIdeal.nD Cert.DwXbcIdeal.τ).loc Cert.DwXbcIdeal.main_arg1) = m ((c.tc : Thread Cert.DwXbcIdeal.nD Cert.DwXbcIdeal.τ).loc Cert.DwXbcIdeal.main_arg1))
      ∧ θ_run (Cert.DwXbcRefIdeal.defs (F := Ideal)) (onTc (τ := Cert.DwXbcRefIdeal.τ) (Cert.DwXbcRefIdeal.main (F := Ideal))) ⟨m', fun _ => 0, g'⟩ (fun r => ∀ c : Dev Cert.DwXbcRefIdeal.nD,
          r.2.mem ((c.tc : Thread Cert.DwXbcRefIdeal.nD Cert.DwXbcRefIdeal.τ).loc Cert.DwXbcRefIdeal.main_v3) = v0 c
          ∧ r.2.mem ((c.tc : Thread Cert.DwXbcRefIdeal.nD Cert.DwXbcRefIdeal.τ).loc Cert.DwXbcRefIdeal.main_arg0) = m' ((c.tc : Thread Cert.DwXbcRefIdeal.nD Cert.DwXbcRefIdeal.τ).loc Cert.DwXbcRefIdeal.main_arg0)
          ∧ r.2.mem ((c.tc : Thread Cert.DwXbcRefIdeal.nD Cert.DwXbcRefIdeal.τ).loc Cert.DwXbcRefIdeal.main_arg1) = m' ((c.tc : Thread Cert.DwXbcRefIdeal.nD Cert.DwXbcRefIdeal.τ).loc Cert.DwXbcRefIdeal.main_arg1))

def preserves_DwWide_DwWideIdeal : Prop :=
  True

def algebraic_DwWideIdeal_DwWideRefIdeal [hDwWideIdeal : Cert.DwWideIdeal.Facts] [hDwWideRefIdeal : Cert.DwWideRefIdeal.Facts] : Prop :=
  ∀ (m : (ℓ : Loc Cert.DwWideIdeal.nD Cert.DwWideIdeal.τ Cert.DwWideIdeal.sig) → Buf (Elt Ideal) ℓ) (g : Dev Cert.DwWideIdeal.nD → PrngReg)
    (m' : (ℓ : Loc Cert.DwWideRefIdeal.nD Cert.DwWideRefIdeal.τ Cert.DwWideRefIdeal.sig) → Buf (Elt Ideal) ℓ) (g' : Dev Cert.DwWideRefIdeal.nD → PrngReg), Pre_DwWideIdeal m →
    (∀ c : Dev Cert.DwWideIdeal.nD,
      m' ((c.tc : Thread Cert.DwWideRefIdeal.nD Cert.DwWideRefIdeal.τ).loc Cert.DwWideRefIdeal.main_arg0) = m ((c.tc : Thread Cert.DwWideIdeal.nD Cert.DwWideIdeal.τ).loc Cert.DwWideIdeal.main_arg0)
      ∧ m' ((c.tc : Thread Cert.DwWideRefIdeal.nD Cert.DwWideRefIdeal.τ).loc Cert.DwWideRefIdeal.main_arg1) = m ((c.tc : Thread Cert.DwWideIdeal.nD Cert.DwWideIdeal.τ).loc Cert.DwWideIdeal.main_arg1)) →
    ∃ (v0 : (c : Dev Cert.DwWideIdeal.nD) → Buf (Elt Ideal) ((c.tc : Thread Cert.DwWideIdeal.nD Cert.DwWideIdeal.τ).loc Cert.DwWideIdeal.main_v2)),
      θ_run (Cert.DwWideIdeal.defs (F := Ideal)) (onTc (τ := Cert.DwWideIdeal.τ) (Cert.DwWideIdeal.main (F := Ideal))) ⟨m, fun _ => 0, g⟩ (fun r => ∀ c : Dev Cert.DwWideIdeal.nD,
          r.2.mem ((c.tc : Thread Cert.DwWideIdeal.nD Cert.DwWideIdeal.τ).loc Cert.DwWideIdeal.main_v2) = v0 c
          ∧ r.2.mem ((c.tc : Thread Cert.DwWideIdeal.nD Cert.DwWideIdeal.τ).loc Cert.DwWideIdeal.main_arg0) = m ((c.tc : Thread Cert.DwWideIdeal.nD Cert.DwWideIdeal.τ).loc Cert.DwWideIdeal.main_arg0)
          ∧ r.2.mem ((c.tc : Thread Cert.DwWideIdeal.nD Cert.DwWideIdeal.τ).loc Cert.DwWideIdeal.main_arg1) = m ((c.tc : Thread Cert.DwWideIdeal.nD Cert.DwWideIdeal.τ).loc Cert.DwWideIdeal.main_arg1))
      ∧ θ_run (Cert.DwWideRefIdeal.defs (F := Ideal)) (onTc (τ := Cert.DwWideRefIdeal.τ) (Cert.DwWideRefIdeal.main (F := Ideal))) ⟨m', fun _ => 0, g'⟩ (fun r => ∀ c : Dev Cert.DwWideRefIdeal.nD,
          r.2.mem ((c.tc : Thread Cert.DwWideRefIdeal.nD Cert.DwWideRefIdeal.τ).loc Cert.DwWideRefIdeal.main_v3) = v0 c
          ∧ r.2.mem ((c.tc : Thread Cert.DwWideRefIdeal.nD Cert.DwWideRefIdeal.τ).loc Cert.DwWideRefIdeal.main_arg0) = m' ((c.tc : Thread Cert.DwWideRefIdeal.nD Cert.DwWideRefIdeal.τ).loc Cert.DwWideRefIdeal.main_arg0)
          ∧ r.2.mem ((c.tc : Thread Cert.DwWideRefIdeal.nD Cert.DwWideRefIdeal.τ).loc Cert.DwWideRefIdeal.main_arg1) = m' ((c.tc : Thread Cert.DwWideRefIdeal.nD Cert.DwWideRefIdeal.τ).loc Cert.DwWideRefIdeal.main_arg1))

def preserves_ProjXbc_ProjXbcIdeal : Prop :=
  True

def algebraic_ProjXbcIdeal_ProjXbcRefIdeal [hProjXbcIdeal : Cert.ProjXbcIdeal.Facts] [hProjXbcRefIdeal : Cert.ProjXbcRefIdeal.Facts] : Prop :=
  ∀ (m : (ℓ : Loc Cert.ProjXbcIdeal.nD Cert.ProjXbcIdeal.τ Cert.ProjXbcIdeal.sig) → Buf (Elt Ideal) ℓ) (g : Dev Cert.ProjXbcIdeal.nD → PrngReg)
    (m' : (ℓ : Loc Cert.ProjXbcRefIdeal.nD Cert.ProjXbcRefIdeal.τ Cert.ProjXbcRefIdeal.sig) → Buf (Elt Ideal) ℓ) (g' : Dev Cert.ProjXbcRefIdeal.nD → PrngReg), Pre_ProjXbcIdeal m →
    (∀ c : Dev Cert.ProjXbcIdeal.nD,
      m' ((c.tc : Thread Cert.ProjXbcRefIdeal.nD Cert.ProjXbcRefIdeal.τ).loc Cert.ProjXbcRefIdeal.main_arg0) = m ((c.tc : Thread Cert.ProjXbcIdeal.nD Cert.ProjXbcIdeal.τ).loc Cert.ProjXbcIdeal.main_arg0)
      ∧ m' ((c.tc : Thread Cert.ProjXbcRefIdeal.nD Cert.ProjXbcRefIdeal.τ).loc Cert.ProjXbcRefIdeal.main_arg1) = m ((c.tc : Thread Cert.ProjXbcIdeal.nD Cert.ProjXbcIdeal.τ).loc Cert.ProjXbcIdeal.main_arg1)) →
    ∃ (v0 : (c : Dev Cert.ProjXbcIdeal.nD) → Buf (Elt Ideal) ((c.tc : Thread Cert.ProjXbcIdeal.nD Cert.ProjXbcIdeal.τ).loc Cert.ProjXbcIdeal.main_v2)),
      θ_run (Cert.ProjXbcIdeal.defs (F := Ideal)) (onTc (τ := Cert.ProjXbcIdeal.τ) (Cert.ProjXbcIdeal.main (F := Ideal))) ⟨m, fun _ => 0, g⟩ (fun r => ∀ c : Dev Cert.ProjXbcIdeal.nD,
          r.2.mem ((c.tc : Thread Cert.ProjXbcIdeal.nD Cert.ProjXbcIdeal.τ).loc Cert.ProjXbcIdeal.main_v2) = v0 c
          ∧ r.2.mem ((c.tc : Thread Cert.ProjXbcIdeal.nD Cert.ProjXbcIdeal.τ).loc Cert.ProjXbcIdeal.main_arg0) = m ((c.tc : Thread Cert.ProjXbcIdeal.nD Cert.ProjXbcIdeal.τ).loc Cert.ProjXbcIdeal.main_arg0)
          ∧ r.2.mem ((c.tc : Thread Cert.ProjXbcIdeal.nD Cert.ProjXbcIdeal.τ).loc Cert.ProjXbcIdeal.main_arg1) = m ((c.tc : Thread Cert.ProjXbcIdeal.nD Cert.ProjXbcIdeal.τ).loc Cert.ProjXbcIdeal.main_arg1))
      ∧ θ_run (Cert.ProjXbcRefIdeal.defs (F := Ideal)) (onTc (τ := Cert.ProjXbcRefIdeal.τ) (Cert.ProjXbcRefIdeal.main (F := Ideal))) ⟨m', fun _ => 0, g'⟩ (fun r => ∀ c : Dev Cert.ProjXbcRefIdeal.nD,
          r.2.mem ((c.tc : Thread Cert.ProjXbcRefIdeal.nD Cert.ProjXbcRefIdeal.τ).loc Cert.ProjXbcRefIdeal.main_v0) = v0 c
          ∧ r.2.mem ((c.tc : Thread Cert.ProjXbcRefIdeal.nD Cert.ProjXbcRefIdeal.τ).loc Cert.ProjXbcRefIdeal.main_arg0) = m' ((c.tc : Thread Cert.ProjXbcRefIdeal.nD Cert.ProjXbcRefIdeal.τ).loc Cert.ProjXbcRefIdeal.main_arg0)
          ∧ r.2.mem ((c.tc : Thread Cert.ProjXbcRefIdeal.nD Cert.ProjXbcRefIdeal.τ).loc Cert.ProjXbcRefIdeal.main_arg1) = m' ((c.tc : Thread Cert.ProjXbcRefIdeal.nD Cert.ProjXbcRefIdeal.τ).loc Cert.ProjXbcRefIdeal.main_arg1))

def preserves_ProjWide_ProjWideIdeal : Prop :=
  True

def algebraic_ProjWideIdeal_ProjWideRefIdeal [hProjWideIdeal : Cert.ProjWideIdeal.Facts] [hProjWideRefIdeal : Cert.ProjWideRefIdeal.Facts] : Prop :=
  ∀ (m : (ℓ : Loc Cert.ProjWideIdeal.nD Cert.ProjWideIdeal.τ Cert.ProjWideIdeal.sig) → Buf (Elt Ideal) ℓ) (g : Dev Cert.ProjWideIdeal.nD → PrngReg)
    (m' : (ℓ : Loc Cert.ProjWideRefIdeal.nD Cert.ProjWideRefIdeal.τ Cert.ProjWideRefIdeal.sig) → Buf (Elt Ideal) ℓ) (g' : Dev Cert.ProjWideRefIdeal.nD → PrngReg), Pre_ProjWideIdeal m →
    (∀ c : Dev Cert.ProjWideIdeal.nD,
      m' ((c.tc : Thread Cert.ProjWideRefIdeal.nD Cert.ProjWideRefIdeal.τ).loc Cert.ProjWideRefIdeal.main_arg0) = m ((c.tc : Thread Cert.ProjWideIdeal.nD Cert.ProjWideIdeal.τ).loc Cert.ProjWideIdeal.main_arg0)
      ∧ m' ((c.tc : Thread Cert.ProjWideRefIdeal.nD Cert.ProjWideRefIdeal.τ).loc Cert.ProjWideRefIdeal.main_arg1) = m ((c.tc : Thread Cert.ProjWideIdeal.nD Cert.ProjWideIdeal.τ).loc Cert.ProjWideIdeal.main_arg1)) →
    ∃ (v0 : (c : Dev Cert.ProjWideIdeal.nD) → Buf (Elt Ideal) ((c.tc : Thread Cert.ProjWideIdeal.nD Cert.ProjWideIdeal.τ).loc Cert.ProjWideIdeal.main_v2)),
      θ_run (Cert.ProjWideIdeal.defs (F := Ideal)) (onTc (τ := Cert.ProjWideIdeal.τ) (Cert.ProjWideIdeal.main (F := Ideal))) ⟨m, fun _ => 0, g⟩ (fun r => ∀ c : Dev Cert.ProjWideIdeal.nD,
          r.2.mem ((c.tc : Thread Cert.ProjWideIdeal.nD Cert.ProjWideIdeal.τ).loc Cert.ProjWideIdeal.main_v2) = v0 c
          ∧ r.2.mem ((c.tc : Thread Cert.ProjWideIdeal.nD Cert.ProjWideIdeal.τ).loc Cert.ProjWideIdeal.main_arg0) = m ((c.tc : Thread Cert.ProjWideIdeal.nD Cert.ProjWideIdeal.τ).loc Cert.ProjWideIdeal.main_arg0)
          ∧ r.2.mem ((c.tc : Thread Cert.ProjWideIdeal.nD Cert.ProjWideIdeal.τ).loc Cert.ProjWideIdeal.main_arg1) = m ((c.tc : Thread Cert.ProjWideIdeal.nD Cert.ProjWideIdeal.τ).loc Cert.ProjWideIdeal.main_arg1))
      ∧ θ_run (Cert.ProjWideRefIdeal.defs (F := Ideal)) (onTc (τ := Cert.ProjWideRefIdeal.τ) (Cert.ProjWideRefIdeal.main (F := Ideal))) ⟨m', fun _ => 0, g'⟩ (fun r => ∀ c : Dev Cert.ProjWideRefIdeal.nD,
          r.2.mem ((c.tc : Thread Cert.ProjWideRefIdeal.nD Cert.ProjWideRefIdeal.τ).loc Cert.ProjWideRefIdeal.main_v0) = v0 c
          ∧ r.2.mem ((c.tc : Thread Cert.ProjWideRefIdeal.nD Cert.ProjWideRefIdeal.τ).loc Cert.ProjWideRefIdeal.main_arg0) = m' ((c.tc : Thread Cert.ProjWideRefIdeal.nD Cert.ProjWideRefIdeal.τ).loc Cert.ProjWideRefIdeal.main_arg0)
          ∧ r.2.mem ((c.tc : Thread Cert.ProjWideRefIdeal.nD Cert.ProjWideRefIdeal.τ).loc Cert.ProjWideRefIdeal.main_arg1) = m' ((c.tc : Thread Cert.ProjWideRefIdeal.nD Cert.ProjWideRefIdeal.τ).loc Cert.ProjWideRefIdeal.main_arg1))

def preserves_ProjA_ProjAIdeal : Prop :=
  True

def algebraic_ProjAIdeal_ProjARefIdeal [hProjAIdeal : Cert.ProjAIdeal.Facts] [hProjARefIdeal : Cert.ProjARefIdeal.Facts] : Prop :=
  ∀ (m : (ℓ : Loc Cert.ProjAIdeal.nD Cert.ProjAIdeal.τ Cert.ProjAIdeal.sig) → Buf (Elt Ideal) ℓ) (g : Dev Cert.ProjAIdeal.nD → PrngReg)
    (m' : (ℓ : Loc Cert.ProjARefIdeal.nD Cert.ProjARefIdeal.τ Cert.ProjARefIdeal.sig) → Buf (Elt Ideal) ℓ) (g' : Dev Cert.ProjARefIdeal.nD → PrngReg), Pre_ProjAIdeal m →
    (∀ c : Dev Cert.ProjAIdeal.nD,
      m' ((c.tc : Thread Cert.ProjARefIdeal.nD Cert.ProjARefIdeal.τ).loc Cert.ProjARefIdeal.main_arg0) = m ((c.tc : Thread Cert.ProjAIdeal.nD Cert.ProjAIdeal.τ).loc Cert.ProjAIdeal.main_arg0)
      ∧ m' ((c.tc : Thread Cert.ProjARefIdeal.nD Cert.ProjARefIdeal.τ).loc Cert.ProjARefIdeal.main_arg1) = m ((c.tc : Thread Cert.ProjAIdeal.nD Cert.ProjAIdeal.τ).loc Cert.ProjAIdeal.main_arg1)) →
    ∃ (v0 : (c : Dev Cert.ProjAIdeal.nD) → Buf (Elt Ideal) ((c.tc : Thread Cert.ProjAIdeal.nD Cert.ProjAIdeal.τ).loc Cert.ProjAIdeal.main_v2)),
      θ_run (Cert.ProjAIdeal.defs (F := Ideal)) (onTc (τ := Cert.ProjAIdeal.τ) (Cert.ProjAIdeal.main (F := Ideal))) ⟨m, fun _ => 0, g⟩ (fun r => ∀ c : Dev Cert.ProjAIdeal.nD,
          r.2.mem ((c.tc : Thread Cert.ProjAIdeal.nD Cert.ProjAIdeal.τ).loc Cert.ProjAIdeal.main_v2) = v0 c
          ∧ r.2.mem ((c.tc : Thread Cert.ProjAIdeal.nD Cert.ProjAIdeal.τ).loc Cert.ProjAIdeal.main_arg0) = m ((c.tc : Thread Cert.ProjAIdeal.nD Cert.ProjAIdeal.τ).loc Cert.ProjAIdeal.main_arg0)
          ∧ r.2.mem ((c.tc : Thread Cert.ProjAIdeal.nD Cert.ProjAIdeal.τ).loc Cert.ProjAIdeal.main_arg1) = m ((c.tc : Thread Cert.ProjAIdeal.nD Cert.ProjAIdeal.τ).loc Cert.ProjAIdeal.main_arg1))
      ∧ θ_run (Cert.ProjARefIdeal.defs (F := Ideal)) (onTc (τ := Cert.ProjARefIdeal.τ) (Cert.ProjARefIdeal.main (F := Ideal))) ⟨m', fun _ => 0, g'⟩ (fun r => ∀ c : Dev Cert.ProjARefIdeal.nD,
          r.2.mem ((c.tc : Thread Cert.ProjARefIdeal.nD Cert.ProjARefIdeal.τ).loc Cert.ProjARefIdeal.main_v0) = v0 c
          ∧ r.2.mem ((c.tc : Thread Cert.ProjARefIdeal.nD Cert.ProjARefIdeal.τ).loc Cert.ProjARefIdeal.main_arg0) = m' ((c.tc : Thread Cert.ProjARefIdeal.nD Cert.ProjARefIdeal.τ).loc Cert.ProjARefIdeal.main_arg0)
          ∧ r.2.mem ((c.tc : Thread Cert.ProjARefIdeal.nD Cert.ProjARefIdeal.τ).loc Cert.ProjARefIdeal.main_arg1) = m' ((c.tc : Thread Cert.ProjARefIdeal.nD Cert.ProjARefIdeal.τ).loc Cert.ProjARefIdeal.main_arg1))

def preserves_MlpUp_MlpUpIdeal : Prop :=
  True

def algebraic_MlpUpIdeal_MlpUpRefIdeal [hMlpUpIdeal : Cert.MlpUpIdeal.Facts] [hMlpUpRefIdeal : Cert.MlpUpRefIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpRefIdeal.nD Cert.MlpUpRefIdeal.τ Cert.MlpUpRefIdeal.sig) → Buf (Elt Ideal) ℓ) (g' : Dev Cert.MlpUpRefIdeal.nD → PrngReg), Pre_MlpUpIdeal m →
    (∀ c : Dev Cert.MlpUpIdeal.nD,
      m' ((c.tc : Thread Cert.MlpUpRefIdeal.nD Cert.MlpUpRefIdeal.τ).loc Cert.MlpUpRefIdeal.main_arg0) = m ((c.tc : Thread Cert.MlpUpIdeal.nD Cert.MlpUpIdeal.τ).loc Cert.MlpUpIdeal.main_arg0)
      ∧ m' ((c.tc : Thread Cert.MlpUpRefIdeal.nD Cert.MlpUpRefIdeal.τ).loc Cert.MlpUpRefIdeal.main_arg1) = m ((c.tc : Thread Cert.MlpUpIdeal.nD Cert.MlpUpIdeal.τ).loc Cert.MlpUpIdeal.main_arg1)) →
    ∃ (v0 : (c : Dev Cert.MlpUpIdeal.nD) → Buf (Elt Ideal) ((c.tc : Thread Cert.MlpUpIdeal.nD Cert.MlpUpIdeal.τ).loc Cert.MlpUpIdeal.main_v2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v2) = v0 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1))
      ∧ θ_run (Cert.MlpUpRefIdeal.defs (F := Ideal)) (onTc (τ := Cert.MlpUpRefIdeal.τ) (Cert.MlpUpRefIdeal.main (F := Ideal))) ⟨m', fun _ => 0, g'⟩ (fun r => ∀ c : Dev Cert.MlpUpRefIdeal.nD,
          r.2.mem ((c.tc : Thread Cert.MlpUpRefIdeal.nD Cert.MlpUpRefIdeal.τ).loc Cert.MlpUpRefIdeal.main_v3) = v0 c
          ∧ r.2.mem ((c.tc : Thread Cert.MlpUpRefIdeal.nD Cert.MlpUpRefIdeal.τ).loc Cert.MlpUpRefIdeal.main_arg0) = m' ((c.tc : Thread Cert.MlpUpRefIdeal.nD Cert.MlpUpRefIdeal.τ).loc Cert.MlpUpRefIdeal.main_arg0)
          ∧ r.2.mem ((c.tc : Thread Cert.MlpUpRefIdeal.nD Cert.MlpUpRefIdeal.τ).loc Cert.MlpUpRefIdeal.main_arg1) = m' ((c.tc : Thread Cert.MlpUpRefIdeal.nD Cert.MlpUpRefIdeal.τ).loc Cert.MlpUpRefIdeal.main_arg1))

def preserves_MlpDown_MlpDownIdeal : Prop :=
  True

def algebraic_MlpDownIdeal_MlpDownRefIdeal [hMlpDownIdeal : Cert.MlpDownIdeal.Facts] [hMlpDownRefIdeal : Cert.MlpDownRefIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownRefIdeal.nD Cert.MlpDownRefIdeal.τ Cert.MlpDownRefIdeal.sig) → Buf (Elt Ideal) ℓ) (g' : Dev Cert.MlpDownRefIdeal.nD → PrngReg), Pre_MlpDownIdeal m →
    (∀ c : Dev Cert.MlpDownIdeal.nD,
      m' ((c.tc : Thread Cert.MlpDownRefIdeal.nD Cert.MlpDownRefIdeal.τ).loc Cert.MlpDownRefIdeal.main_arg0) = m ((c.tc : Thread Cert.MlpDownIdeal.nD Cert.MlpDownIdeal.τ).loc Cert.MlpDownIdeal.main_arg0)
      ∧ m' ((c.tc : Thread Cert.MlpDownRefIdeal.nD Cert.MlpDownRefIdeal.τ).loc Cert.MlpDownRefIdeal.main_arg1) = m ((c.tc : Thread Cert.MlpDownIdeal.nD Cert.MlpDownIdeal.τ).loc Cert.MlpDownIdeal.main_arg1)
      ∧ m' ((c.tc : Thread Cert.MlpDownRefIdeal.nD Cert.MlpDownRefIdeal.τ).loc Cert.MlpDownRefIdeal.main_arg2) = m ((c.tc : Thread Cert.MlpDownIdeal.nD Cert.MlpDownIdeal.τ).loc Cert.MlpDownIdeal.main_arg2)) →
    ∃ (v0 : (c : Dev Cert.MlpDownIdeal.nD) → Buf (Elt Ideal) ((c.tc : Thread Cert.MlpDownIdeal.nD Cert.MlpDownIdeal.τ).loc Cert.MlpDownIdeal.main_v2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v2) = v0 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2))
      ∧ θ_run (Cert.MlpDownRefIdeal.defs (F := Ideal)) (onTc (τ := Cert.MlpDownRefIdeal.τ) (Cert.MlpDownRefIdeal.main (F := Ideal))) ⟨m', fun _ => 0, g'⟩ (fun r => ∀ c : Dev Cert.MlpDownRefIdeal.nD,
          r.2.mem ((c.tc : Thread Cert.MlpDownRefIdeal.nD Cert.MlpDownRefIdeal.τ).loc Cert.MlpDownRefIdeal.main_v1) = v0 c
          ∧ r.2.mem ((c.tc : Thread Cert.MlpDownRefIdeal.nD Cert.MlpDownRefIdeal.τ).loc Cert.MlpDownRefIdeal.main_arg0) = m' ((c.tc : Thread Cert.MlpDownRefIdeal.nD Cert.MlpDownRefIdeal.τ).loc Cert.MlpDownRefIdeal.main_arg0)
          ∧ r.2.mem ((c.tc : Thread Cert.MlpDownRefIdeal.nD Cert.MlpDownRefIdeal.τ).loc Cert.MlpDownRefIdeal.main_arg1) = m' ((c.tc : Thread Cert.MlpDownRefIdeal.nD Cert.MlpDownRefIdeal.τ).loc Cert.MlpDownRefIdeal.main_arg1)
          ∧ r.2.mem ((c.tc : Thread Cert.MlpDownRefIdeal.nD Cert.MlpDownRefIdeal.τ).loc Cert.MlpDownRefIdeal.main_arg2) = m' ((c.tc : Thread Cert.MlpDownRefIdeal.nD Cert.MlpDownRefIdeal.τ).loc Cert.MlpDownRefIdeal.main_arg2))

def preserves_Dup_DupIdeal : Prop :=
  True

def algebraic_DupIdeal_DupRefIdeal [hDupIdeal : Cert.DupIdeal.Facts] [hDupRefIdeal : Cert.DupRefIdeal.Facts] : Prop :=
  ∀ (m : (ℓ : Loc Cert.DupIdeal.nD Cert.DupIdeal.τ Cert.DupIdeal.sig) → Buf (Elt Ideal) ℓ) (g : Dev Cert.DupIdeal.nD → PrngReg)
    (m' : (ℓ : Loc Cert.DupRefIdeal.nD Cert.DupRefIdeal.τ Cert.DupRefIdeal.sig) → Buf (Elt Ideal) ℓ) (g' : Dev Cert.DupRefIdeal.nD → PrngReg), Pre_DupIdeal m →
    (∀ c : Dev Cert.DupIdeal.nD,
      m' ((c.tc : Thread Cert.DupRefIdeal.nD Cert.DupRefIdeal.τ).loc Cert.DupRefIdeal.main_arg0) = m ((c.tc : Thread Cert.DupIdeal.nD Cert.DupIdeal.τ).loc Cert.DupIdeal.main_arg0)
      ∧ m' ((c.tc : Thread Cert.DupRefIdeal.nD Cert.DupRefIdeal.τ).loc Cert.DupRefIdeal.main_arg1) = m ((c.tc : Thread Cert.DupIdeal.nD Cert.DupIdeal.τ).loc Cert.DupIdeal.main_arg1)
      ∧ m' ((c.tc : Thread Cert.DupRefIdeal.nD Cert.DupRefIdeal.τ).loc Cert.DupRefIdeal.main_arg2) = m ((c.tc : Thread Cert.DupIdeal.nD Cert.DupIdeal.τ).loc Cert.DupIdeal.main_arg2)) →
    ∃ (v0 : (c : Dev Cert.DupIdeal.nD) → Buf (Elt Ideal) ((c.tc : Thread Cert.DupIdeal.nD Cert.DupIdeal.τ).loc Cert.DupIdeal.main_v6)),
      θ_run (Cert.DupIdeal.defs (F := Ideal)) (onTc (τ := Cert.DupIdeal.τ) (Cert.DupIdeal.main (F := Ideal))) ⟨m, fun _ => 0, g⟩ (fun r => ∀ c : Dev Cert.DupIdeal.nD,
          r.2.mem ((c.tc : Thread Cert.DupIdeal.nD Cert.DupIdeal.τ).loc Cert.DupIdeal.main_v6) = v0 c
          ∧ r.2.mem ((c.tc : Thread Cert.DupIdeal.nD Cert.DupIdeal.τ).loc Cert.DupIdeal.main_arg0) = m ((c.tc : Thread Cert.DupIdeal.nD Cert.DupIdeal.τ).loc Cert.DupIdeal.main_arg0)
          ∧ r.2.mem ((c.tc : Thread Cert.DupIdeal.nD Cert.DupIdeal.τ).loc Cert.DupIdeal.main_arg1) = m ((c.tc : Thread Cert.DupIdeal.nD Cert.DupIdeal.τ).loc Cert.DupIdeal.main_arg1)
          ∧ r.2.mem ((c.tc : Thread Cert.DupIdeal.nD Cert.DupIdeal.τ).loc Cert.DupIdeal.main_arg2) = m ((c.tc : Thread Cert.DupIdeal.nD Cert.DupIdeal.τ).loc Cert.DupIdeal.main_arg2))
      ∧ θ_run (Cert.DupRefIdeal.defs (F := Ideal)) (onTc (τ := Cert.DupRefIdeal.τ) (Cert.DupRefIdeal.main (F := Ideal))) ⟨m', fun _ => 0, g'⟩ (fun r => ∀ c : Dev Cert.DupRefIdeal.nD,
          r.2.mem ((c.tc : Thread Cert.DupRefIdeal.nD Cert.DupRefIdeal.τ).loc Cert.DupRefIdeal.main_v12) = v0 c
          ∧ r.2.mem ((c.tc : Thread Cert.DupRefIdeal.nD Cert.DupRefIdeal.τ).loc Cert.DupRefIdeal.main_arg0) = m' ((c.tc : Thread Cert.DupRefIdeal.nD Cert.DupRefIdeal.τ).loc Cert.DupRefIdeal.main_arg0)
          ∧ r.2.mem ((c.tc : Thread Cert.DupRefIdeal.nD Cert.DupRefIdeal.τ).loc Cert.DupRefIdeal.main_arg1) = m' ((c.tc : Thread Cert.DupRefIdeal.nD Cert.DupRefIdeal.τ).loc Cert.DupRefIdeal.main_arg1)
          ∧ r.2.mem ((c.tc : Thread Cert.DupRefIdeal.nD Cert.DupRefIdeal.τ).loc Cert.DupRefIdeal.main_arg2) = m' ((c.tc : Thread Cert.DupRefIdeal.nD Cert.DupRefIdeal.τ).loc Cert.DupRefIdeal.main_arg2))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v2)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v2) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v2) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_Dyb_DybIdeal : Prop :=
  True

def algebraic_DybIdeal_DybRefIdeal [hDybIdeal : Cert.DybIdeal.Facts] [hDybRefIdeal : Cert.DybRefIdeal.Facts] : Prop :=
  ∀ (m : (ℓ : Loc Cert.DybIdeal.nD Cert.DybIdeal.τ Cert.DybIdeal.sig) → Buf (Elt Ideal) ℓ) (g : Dev Cert.DybIdeal.nD → PrngReg)
    (m' : (ℓ : Loc Cert.DybRefIdeal.nD Cert.DybRefIdeal.τ Cert.DybRefIdeal.sig) → Buf (Elt Ideal) ℓ) (g' : Dev Cert.DybRefIdeal.nD → PrngReg), Pre_DybIdeal m →
    (∀ c : Dev Cert.DybIdeal.nD,
      m' ((c.tc : Thread Cert.DybRefIdeal.nD Cert.DybRefIdeal.τ).loc Cert.DybRefIdeal.main_arg0) = m ((c.tc : Thread Cert.DybIdeal.nD Cert.DybIdeal.τ).loc Cert.DybIdeal.main_arg0)
      ∧ m' ((c.tc : Thread Cert.DybRefIdeal.nD Cert.DybRefIdeal.τ).loc Cert.DybRefIdeal.main_arg1) = m ((c.tc : Thread Cert.DybIdeal.nD Cert.DybIdeal.τ).loc Cert.DybIdeal.main_arg1)) →
    ∃ (v0 : (c : Dev Cert.DybIdeal.nD) → Buf (Elt Ideal) ((c.tc : Thread Cert.DybIdeal.nD Cert.DybIdeal.τ).loc Cert.DybIdeal.main_v2)),
      θ_run (Cert.DybIdeal.defs (F := Ideal)) (onTc (τ := Cert.DybIdeal.τ) (Cert.DybIdeal.main (F := Ideal))) ⟨m, fun _ => 0, g⟩ (fun r => ∀ c : Dev Cert.DybIdeal.nD,
          r.2.mem ((c.tc : Thread Cert.DybIdeal.nD Cert.DybIdeal.τ).loc Cert.DybIdeal.main_v2) = v0 c
          ∧ r.2.mem ((c.tc : Thread Cert.DybIdeal.nD Cert.DybIdeal.τ).loc Cert.DybIdeal.main_arg0) = m ((c.tc : Thread Cert.DybIdeal.nD Cert.DybIdeal.τ).loc Cert.DybIdeal.main_arg0)
          ∧ r.2.mem ((c.tc : Thread Cert.DybIdeal.nD Cert.DybIdeal.τ).loc Cert.DybIdeal.main_arg1) = m ((c.tc : Thread Cert.DybIdeal.nD Cert.DybIdeal.τ).loc Cert.DybIdeal.main_arg1))
      ∧ θ_run (Cert.DybRefIdeal.defs (F := Ideal)) (onTc (τ := Cert.DybRefIdeal.τ) (Cert.DybRefIdeal.main (F := Ideal))) ⟨m', fun _ => 0, g'⟩ (fun r => ∀ c : Dev Cert.DybRefIdeal.nD,
          r.2.mem ((c.tc : Thread Cert.DybRefIdeal.nD Cert.DybRefIdeal.τ).loc Cert.DybRefIdeal.main_v2) = v0 c
          ∧ r.2.mem ((c.tc : Thread Cert.DybRefIdeal.nD Cert.DybRefIdeal.τ).loc Cert.DybRefIdeal.main_arg0) = m' ((c.tc : Thread Cert.DybRefIdeal.nD Cert.DybRefIdeal.τ).loc Cert.DybRefIdeal.main_arg0)
          ∧ r.2.mem ((c.tc : Thread Cert.DybRefIdeal.nD Cert.DybRefIdeal.τ).loc Cert.DybRefIdeal.main_arg1) = m' ((c.tc : Thread Cert.DybRefIdeal.nD Cert.DybRefIdeal.τ).loc Cert.DybRefIdeal.main_arg1))

def preserves_Dya_DyaIdeal : Prop :=
  True

def algebraic_DyaIdeal_DyaRefIdeal [hDyaIdeal : Cert.DyaIdeal.Facts] [hDyaRefIdeal : Cert.DyaRefIdeal.Facts] : Prop :=
  ∀ (m : (ℓ : Loc Cert.DyaIdeal.nD Cert.DyaIdeal.τ Cert.DyaIdeal.sig) → Buf (Elt Ideal) ℓ) (g : Dev Cert.DyaIdeal.nD → PrngReg)
    (m' : (ℓ : Loc Cert.DyaRefIdeal.nD Cert.DyaRefIdeal.τ Cert.DyaRefIdeal.sig) → Buf (Elt Ideal) ℓ) (g' : Dev Cert.DyaRefIdeal.nD → PrngReg), Pre_DyaIdeal m →
    (∀ c : Dev Cert.DyaIdeal.nD,
      m' ((c.tc : Thread Cert.DyaRefIdeal.nD Cert.DyaRefIdeal.τ).loc Cert.DyaRefIdeal.main_arg0) = m ((c.tc : Thread Cert.DyaIdeal.nD Cert.DyaIdeal.τ).loc Cert.DyaIdeal.main_arg0)
      ∧ m' ((c.tc : Thread Cert.DyaRefIdeal.nD Cert.DyaRefIdeal.τ).loc Cert.DyaRefIdeal.main_arg1) = m ((c.tc : Thread Cert.DyaIdeal.nD Cert.DyaIdeal.τ).loc Cert.DyaIdeal.main_arg1)) →
    ∃ (v0 : (c : Dev Cert.DyaIdeal.nD) → Buf (Elt Ideal) ((c.tc : Thread Cert.DyaIdeal.nD Cert.DyaIdeal.τ).loc Cert.DyaIdeal.main_v2)),
      θ_run (Cert.DyaIdeal.defs (F := Ideal)) (onTc (τ := Cert.DyaIdeal.τ) (Cert.DyaIdeal.main (F := Ideal))) ⟨m, fun _ => 0, g⟩ (fun r => ∀ c : Dev Cert.DyaIdeal.nD,
          r.2.mem ((c.tc : Thread Cert.DyaIdeal.nD Cert.DyaIdeal.τ).loc Cert.DyaIdeal.main_v2) = v0 c
          ∧ r.2.mem ((c.tc : Thread Cert.DyaIdeal.nD Cert.DyaIdeal.τ).loc Cert.DyaIdeal.main_arg0) = m ((c.tc : Thread Cert.DyaIdeal.nD Cert.DyaIdeal.τ).loc Cert.DyaIdeal.main_arg0)
          ∧ r.2.mem ((c.tc : Thread Cert.DyaIdeal.nD Cert.DyaIdeal.τ).loc Cert.DyaIdeal.main_arg1) = m ((c.tc : Thread Cert.DyaIdeal.nD Cert.DyaIdeal.τ).loc Cert.DyaIdeal.main_arg1))
      ∧ θ_run (Cert.DyaRefIdeal.defs (F := Ideal)) (onTc (τ := Cert.DyaRefIdeal.τ) (Cert.DyaRefIdeal.main (F := Ideal))) ⟨m', fun _ => 0, g'⟩ (fun r => ∀ c : Dev Cert.DyaRefIdeal.nD,
          r.2.mem ((c.tc : Thread Cert.DyaRefIdeal.nD Cert.DyaRefIdeal.τ).loc Cert.DyaRefIdeal.main_v2) = v0 c
          ∧ r.2.mem ((c.tc : Thread Cert.DyaRefIdeal.nD Cert.DyaRefIdeal.τ).loc Cert.DyaRefIdeal.main_arg0) = m' ((c.tc : Thread Cert.DyaRefIdeal.nD Cert.DyaRefIdeal.τ).loc Cert.DyaRefIdeal.main_arg0)
          ∧ r.2.mem ((c.tc : Thread Cert.DyaRefIdeal.nD Cert.DyaRefIdeal.τ).loc Cert.DyaRefIdeal.main_arg1) = m' ((c.tc : Thread Cert.DyaRefIdeal.nD Cert.DyaRefIdeal.τ).loc Cert.DyaRefIdeal.main_arg1))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v14)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v14) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v2) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v2)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v2) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v7) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)
      ∧ m' ((c.tc : Thread Cert.DwUpRefIdeal.nD Cert.DwUpRefIdeal.τ).loc Cert.DwUpRefIdeal.main_arg2) = m ((c.tc : Thread Cert.DwUpIdeal.nD Cert.DwUpIdeal.τ).loc Cert.DwUpIdeal.main_arg2)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v8) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1)
          ∧ r.2.mem ((c.tc : Thread Cert.DwUpRefIdeal.nD Cert.DwUpRefIdeal.τ).loc Cert.DwUpRefIdeal.main_arg2) = m' ((c.tc : Thread Cert.DwUpRefIdeal.nD Cert.DwUpRefIdeal.τ).loc Cert.DwUpRefIdeal.main_arg2))

def preserves_DwPb_DwPbIdeal : Prop :=
  True

def algebraic_DwPbIdeal_DwPbRefIdeal [hDwPbIdeal : Cert.DwPbIdeal.Facts] [hDwPbRefIdeal : Cert.DwPbRefIdeal.Facts] : Prop :=
  ∀ (m : (ℓ : Loc Cert.DwPbIdeal.nD Cert.DwPbIdeal.τ Cert.DwPbIdeal.sig) → Buf (Elt Ideal) ℓ) (g : Dev Cert.DwPbIdeal.nD → PrngReg)
    (m' : (ℓ : Loc Cert.DwPbRefIdeal.nD Cert.DwPbRefIdeal.τ Cert.DwPbRefIdeal.sig) → Buf (Elt Ideal) ℓ) (g' : Dev Cert.DwPbRefIdeal.nD → PrngReg), Pre_DwPbIdeal m →
    (∀ c : Dev Cert.DwPbIdeal.nD,
      m' ((c.tc : Thread Cert.DwPbRefIdeal.nD Cert.DwPbRefIdeal.τ).loc Cert.DwPbRefIdeal.main_arg0) = m ((c.tc : Thread Cert.DwPbIdeal.nD Cert.DwPbIdeal.τ).loc Cert.DwPbIdeal.main_arg0)
      ∧ m' ((c.tc : Thread Cert.DwPbRefIdeal.nD Cert.DwPbRefIdeal.τ).loc Cert.DwPbRefIdeal.main_arg1) = m ((c.tc : Thread Cert.DwPbIdeal.nD Cert.DwPbIdeal.τ).loc Cert.DwPbIdeal.main_arg1)
      ∧ m' ((c.tc : Thread Cert.DwPbRefIdeal.nD Cert.DwPbRefIdeal.τ).loc Cert.DwPbRefIdeal.main_arg2) = m ((c.tc : Thread Cert.DwPbIdeal.nD Cert.DwPbIdeal.τ).loc Cert.DwPbIdeal.main_arg2)) →
    ∃ (v0 : (c : Dev Cert.DwPbIdeal.nD) → Buf (Elt Ideal) ((c.tc : Thread Cert.DwPbIdeal.nD Cert.DwPbIdeal.τ).loc Cert.DwPbIdeal.main_v2)),
      θ_run (Cert.DwPbIdeal.defs (F := Ideal)) (onTc (τ := Cert.DwPbIdeal.τ) (Cert.DwPbIdeal.main (F := Ideal))) ⟨m, fun _ => 0, g⟩ (fun r => ∀ c : Dev Cert.DwPbIdeal.nD,
          r.2.mem ((c.tc : Thread Cert.DwPbIdeal.nD Cert.DwPbIdeal.τ).loc Cert.DwPbIdeal.main_v2) = v0 c
          ∧ r.2.mem ((c.tc : Thread Cert.DwPbIdeal.nD Cert.DwPbIdeal.τ).loc Cert.DwPbIdeal.main_arg0) = m ((c.tc : Thread Cert.DwPbIdeal.nD Cert.DwPbIdeal.τ).loc Cert.DwPbIdeal.main_arg0)
          ∧ r.2.mem ((c.tc : Thread Cert.DwPbIdeal.nD Cert.DwPbIdeal.τ).loc Cert.DwPbIdeal.main_arg1) = m ((c.tc : Thread Cert.DwPbIdeal.nD Cert.DwPbIdeal.τ).loc Cert.DwPbIdeal.main_arg1)
          ∧ r.2.mem ((c.tc : Thread Cert.DwPbIdeal.nD Cert.DwPbIdeal.τ).loc Cert.DwPbIdeal.main_arg2) = m ((c.tc : Thread Cert.DwPbIdeal.nD Cert.DwPbIdeal.τ).loc Cert.DwPbIdeal.main_arg2))
      ∧ θ_run (Cert.DwPbRefIdeal.defs (F := Ideal)) (onTc (τ := Cert.DwPbRefIdeal.τ) (Cert.DwPbRefIdeal.main (F := Ideal))) ⟨m', fun _ => 0, g'⟩ (fun r => ∀ c : Dev Cert.DwPbRefIdeal.nD,
          r.2.mem ((c.tc : Thread Cert.DwPbRefIdeal.nD Cert.DwPbRefIdeal.τ).loc Cert.DwPbRefIdeal.main_v7) = v0 c
          ∧ r.2.mem ((c.tc : Thread Cert.DwPbRefIdeal.nD Cert.DwPbRefIdeal.τ).loc Cert.DwPbRefIdeal.main_arg0) = m' ((c.tc : Thread Cert.DwPbRefIdeal.nD Cert.DwPbRefIdeal.τ).loc Cert.DwPbRefIdeal.main_arg0)
          ∧ r.2.mem ((c.tc : Thread Cert.DwPbRefIdeal.nD Cert.DwPbRefIdeal.τ).loc Cert.DwPbRefIdeal.main_arg1) = m' ((c.tc : Thread Cert.DwPbRefIdeal.nD Cert.DwPbRefIdeal.τ).loc Cert.DwPbRefIdeal.main_arg1)
          ∧ r.2.mem ((c.tc : Thread Cert.DwPbRefIdeal.nD Cert.DwPbRefIdeal.τ).loc Cert.DwPbRefIdeal.main_arg2) = m' ((c.tc : Thread Cert.DwPbRefIdeal.nD Cert.DwPbRefIdeal.τ).loc Cert.DwPbRefIdeal.main_arg2))

def preserves_DwPa_DwPaIdeal : Prop :=
  True

def algebraic_DwPaIdeal_DwPaRefIdeal [hDwPaIdeal : Cert.DwPaIdeal.Facts] [hDwPaRefIdeal : Cert.DwPaRefIdeal.Facts] : Prop :=
  ∀ (m : (ℓ : Loc Cert.DwPaIdeal.nD Cert.DwPaIdeal.τ Cert.DwPaIdeal.sig) → Buf (Elt Ideal) ℓ) (g : Dev Cert.DwPaIdeal.nD → PrngReg)
    (m' : (ℓ : Loc Cert.DwPaRefIdeal.nD Cert.DwPaRefIdeal.τ Cert.DwPaRefIdeal.sig) → Buf (Elt Ideal) ℓ) (g' : Dev Cert.DwPaRefIdeal.nD → PrngReg), Pre_DwPaIdeal m →
    (∀ c : Dev Cert.DwPaIdeal.nD,
      m' ((c.tc : Thread Cert.DwPaRefIdeal.nD Cert.DwPaRefIdeal.τ).loc Cert.DwPaRefIdeal.main_arg0) = m ((c.tc : Thread Cert.DwPaIdeal.nD Cert.DwPaIdeal.τ).loc Cert.DwPaIdeal.main_arg0)
      ∧ m' ((c.tc : Thread Cert.DwPaRefIdeal.nD Cert.DwPaRefIdeal.τ).loc Cert.DwPaRefIdeal.main_arg1) = m ((c.tc : Thread Cert.DwPaIdeal.nD Cert.DwPaIdeal.τ).loc Cert.DwPaIdeal.main_arg1)
      ∧ m' ((c.tc : Thread Cert.DwPaRefIdeal.nD Cert.DwPaRefIdeal.τ).loc Cert.DwPaRefIdeal.main_arg2) = m ((c.tc : Thread Cert.DwPaIdeal.nD Cert.DwPaIdeal.τ).loc Cert.DwPaIdeal.main_arg2)) →
    ∃ (v0 : (c : Dev Cert.DwPaIdeal.nD) → Buf (Elt Ideal) ((c.tc : Thread Cert.DwPaIdeal.nD Cert.DwPaIdeal.τ).loc Cert.DwPaIdeal.main_v2)),
      θ_run (Cert.DwPaIdeal.defs (F := Ideal)) (onTc (τ := Cert.DwPaIdeal.τ) (Cert.DwPaIdeal.main (F := Ideal))) ⟨m, fun _ => 0, g⟩ (fun r => ∀ c : Dev Cert.DwPaIdeal.nD,
          r.2.mem ((c.tc : Thread Cert.DwPaIdeal.nD Cert.DwPaIdeal.τ).loc Cert.DwPaIdeal.main_v2) = v0 c
          ∧ r.2.mem ((c.tc : Thread Cert.DwPaIdeal.nD Cert.DwPaIdeal.τ).loc Cert.DwPaIdeal.main_arg0) = m ((c.tc : Thread Cert.DwPaIdeal.nD Cert.DwPaIdeal.τ).loc Cert.DwPaIdeal.main_arg0)
          ∧ r.2.mem ((c.tc : Thread Cert.DwPaIdeal.nD Cert.DwPaIdeal.τ).loc Cert.DwPaIdeal.main_arg1) = m ((c.tc : Thread Cert.DwPaIdeal.nD Cert.DwPaIdeal.τ).loc Cert.DwPaIdeal.main_arg1)
          ∧ r.2.mem ((c.tc : Thread Cert.DwPaIdeal.nD Cert.DwPaIdeal.τ).loc Cert.DwPaIdeal.main_arg2) = m ((c.tc : Thread Cert.DwPaIdeal.nD Cert.DwPaIdeal.τ).loc Cert.DwPaIdeal.main_arg2))
      ∧ θ_run (Cert.DwPaRefIdeal.defs (F := Ideal)) (onTc (τ := Cert.DwPaRefIdeal.τ) (Cert.DwPaRefIdeal.main (F := Ideal))) ⟨m', fun _ => 0, g'⟩ (fun r => ∀ c : Dev Cert.DwPaRefIdeal.nD,
          r.2.mem ((c.tc : Thread Cert.DwPaRefIdeal.nD Cert.DwPaRefIdeal.τ).loc Cert.DwPaRefIdeal.main_v7) = v0 c
          ∧ r.2.mem ((c.tc : Thread Cert.DwPaRefIdeal.nD Cert.DwPaRefIdeal.τ).loc Cert.DwPaRefIdeal.main_arg0) = m' ((c.tc : Thread Cert.DwPaRefIdeal.nD Cert.DwPaRefIdeal.τ).loc Cert.DwPaRefIdeal.main_arg0)
          ∧ r.2.mem ((c.tc : Thread Cert.DwPaRefIdeal.nD Cert.DwPaRefIdeal.τ).loc Cert.DwPaRefIdeal.main_arg1) = m' ((c.tc : Thread Cert.DwPaRefIdeal.nD Cert.DwPaRefIdeal.τ).loc Cert.DwPaRefIdeal.main_arg1)
          ∧ r.2.mem ((c.tc : Thread Cert.DwPaRefIdeal.nD Cert.DwPaRefIdeal.τ).loc Cert.DwPaRefIdeal.main_arg2) = m' ((c.tc : Thread Cert.DwPaRefIdeal.nD Cert.DwPaRefIdeal.τ).loc Cert.DwPaRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_ProjB_ProjBIdeal : Prop :=
  True

def algebraic_ProjBIdeal_ProjBRefIdeal [hProjBIdeal : Cert.ProjBIdeal.Facts] [hProjBRefIdeal : Cert.ProjBRefIdeal.Facts] : Prop :=
  ∀ (m : (ℓ : Loc Cert.ProjBIdeal.nD Cert.ProjBIdeal.τ Cert.ProjBIdeal.sig) → Buf (Elt Ideal) ℓ) (g : Dev Cert.ProjBIdeal.nD → PrngReg)
    (m' : (ℓ : Loc Cert.ProjBRefIdeal.nD Cert.ProjBRefIdeal.τ Cert.ProjBRefIdeal.sig) → Buf (Elt Ideal) ℓ) (g' : Dev Cert.ProjBRefIdeal.nD → PrngReg), Pre_ProjBIdeal m →
    (∀ c : Dev Cert.ProjBIdeal.nD,
      m' ((c.tc : Thread Cert.ProjBRefIdeal.nD Cert.ProjBRefIdeal.τ).loc Cert.ProjBRefIdeal.main_arg0) = m ((c.tc : Thread Cert.ProjBIdeal.nD Cert.ProjBIdeal.τ).loc Cert.ProjBIdeal.main_arg0)
      ∧ m' ((c.tc : Thread Cert.ProjBRefIdeal.nD Cert.ProjBRefIdeal.τ).loc Cert.ProjBRefIdeal.main_arg1) = m ((c.tc : Thread Cert.ProjBIdeal.nD Cert.ProjBIdeal.τ).loc Cert.ProjBIdeal.main_arg1)
      ∧ m' ((c.tc : Thread Cert.ProjBRefIdeal.nD Cert.ProjBRefIdeal.τ).loc Cert.ProjBRefIdeal.main_arg2) = m ((c.tc : Thread Cert.ProjBIdeal.nD Cert.ProjBIdeal.τ).loc Cert.ProjBIdeal.main_arg2)
      ∧ m' ((c.tc : Thread Cert.ProjBRefIdeal.nD Cert.ProjBRefIdeal.τ).loc Cert.ProjBRefIdeal.main_arg3) = m ((c.tc : Thread Cert.ProjBIdeal.nD Cert.ProjBIdeal.τ).loc Cert.ProjBIdeal.main_arg3)
      ∧ m' ((c.tc : Thread Cert.ProjBRefIdeal.nD Cert.ProjBRefIdeal.τ).loc Cert.ProjBRefIdeal.main_arg4) = m ((c.tc : Thread Cert.ProjBIdeal.nD Cert.ProjBIdeal.τ).loc Cert.ProjBIdeal.main_arg4)) →
    ∃ (v0 : (c : Dev Cert.ProjBIdeal.nD) → Buf (Elt Ideal) ((c.tc : Thread Cert.ProjBIdeal.nD Cert.ProjBIdeal.τ).loc Cert.ProjBIdeal.main_v2_0)) (v1 : (c : Dev Cert.ProjBIdeal.nD) → Buf (Elt Ideal) ((c.tc : Thread Cert.ProjBIdeal.nD Cert.ProjBIdeal.τ).loc Cert.ProjBIdeal.main_v2_1)),
      θ_run (Cert.ProjBIdeal.defs (F := Ideal)) (onTc (τ := Cert.ProjBIdeal.τ) (Cert.ProjBIdeal.main (F := Ideal))) ⟨m, fun _ => 0, g⟩ (fun r => ∀ c : Dev Cert.ProjBIdeal.nD,
          r.2.mem ((c.tc : Thread Cert.ProjBIdeal.nD Cert.ProjBIdeal.τ).loc Cert.ProjBIdeal.main_v2_0) = v0 c
          ∧ r.2.mem ((c.tc : Thread Cert.ProjBIdeal.nD Cert.ProjBIdeal.τ).loc Cert.ProjBIdeal.main_v2_1) = v1 c
          ∧ r.2.mem ((c.tc : Thread Cert.ProjBIdeal.nD Cert.ProjBIdeal.τ).loc Cert.ProjBIdeal.main_arg0) = m ((c.tc : Thread Cert.ProjBIdeal.nD Cert.ProjBIdeal.τ).loc Cert.ProjBIdeal.main_arg0)
          ∧ r.2.mem ((c.tc : Thread Cert.ProjBIdeal.nD Cert.ProjBIdeal.τ).loc Cert.ProjBIdeal.main_arg1) = m ((c.tc : Thread Cert.ProjBIdeal.nD Cert.ProjBIdeal.τ).loc Cert.ProjBIdeal.main_arg1)
          ∧ r.2.mem ((c.tc : Thread Cert.ProjBIdeal.nD Cert.ProjBIdeal.τ).loc Cert.ProjBIdeal.main_arg2) = m ((c.tc : Thread Cert.ProjBIdeal.nD Cert.ProjBIdeal.τ).loc Cert.ProjBIdeal.main_arg2)
          ∧ r.2.mem ((c.tc : Thread Cert.ProjBIdeal.nD Cert.ProjBIdeal.τ).loc Cert.ProjBIdeal.main_arg3) = m ((c.tc : Thread Cert.ProjBIdeal.nD Cert.ProjBIdeal.τ).loc Cert.ProjBIdeal.main_arg3)
          ∧ r.2.mem ((c.tc : Thread Cert.ProjBIdeal.nD Cert.ProjBIdeal.τ).loc Cert.ProjBIdeal.main_arg4) = m ((c.tc : Thread Cert.ProjBIdeal.nD Cert.ProjBIdeal.τ).loc Cert.ProjBIdeal.main_arg4))
      ∧ θ_run (Cert.ProjBRefIdeal.defs (F := Ideal)) (onTc (τ := Cert.ProjBRefIdeal.τ) (Cert.ProjBRefIdeal.main (F := Ideal))) ⟨m', fun _ => 0, g'⟩ (fun r => ∀ c : Dev Cert.ProjBRefIdeal.nD,
          r.2.mem ((c.tc : Thread Cert.ProjBRefIdeal.nD Cert.ProjBRefIdeal.τ).loc Cert.ProjBRefIdeal.main_v0) = v0 c
          ∧ r.2.mem ((c.tc : Thread Cert.ProjBRefIdeal.nD Cert.ProjBRefIdeal.τ).loc Cert.ProjBRefIdeal.main_v14) = v1 c
          ∧ r.2.mem ((c.tc : Thread Cert.ProjBRefIdeal.nD Cert.ProjBRefIdeal.τ).loc Cert.ProjBRefIdeal.main_arg0) = m' ((c.tc : Thread Cert.ProjBRefIdeal.nD Cert.ProjBRefIdeal.τ).loc Cert.ProjBRefIdeal.main_arg0)
          ∧ r.2.mem ((c.tc : Thread Cert.ProjBRefIdeal.nD Cert.ProjBRefIdeal.τ).loc Cert.ProjBRefIdeal.main_arg1) = m' ((c.tc : Thread Cert.ProjBRefIdeal.nD Cert.ProjBRefIdeal.τ).loc Cert.ProjBRefIdeal.main_arg1)
          ∧ r.2.mem ((c.tc : Thread Cert.ProjBRefIdeal.nD Cert.ProjBRefIdeal.τ).loc Cert.ProjBRefIdeal.main_arg2) = m' ((c.tc : Thread Cert.ProjBRefIdeal.nD Cert.ProjBRefIdeal.τ).loc Cert.ProjBRefIdeal.main_arg2)
          ∧ r.2.mem ((c.tc : Thread Cert.ProjBRefIdeal.nD Cert.ProjBRefIdeal.τ).loc Cert.ProjBRefIdeal.main_arg3) = m' ((c.tc : Thread Cert.ProjBRefIdeal.nD Cert.ProjBRefIdeal.τ).loc Cert.ProjBRefIdeal.main_arg3)
          ∧ r.2.mem ((c.tc : Thread Cert.ProjBRefIdeal.nD Cert.ProjBRefIdeal.τ).loc Cert.ProjBRefIdeal.main_arg4) = m' ((c.tc : Thread Cert.ProjBRefIdeal.nD Cert.ProjBRefIdeal.τ).loc Cert.ProjBRefIdeal.main_arg4))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v2_0)) (v1 : (c : Dev Cert.OutProjIdeal.nD) → Buf (Elt Ideal) ((c.tc : Thread Cert.OutProjIdeal.nD Cert.OutProjIdeal.τ).loc Cert.OutProjIdeal.main_v2_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2_0) = v0 c
          ∧ r.2.mem ((c.tc : Thread Cert.OutProjIdeal.nD Cert.OutProjIdeal.τ).loc Cert.OutProjIdeal.main_v2_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_ProjDt_ProjDtIdeal : Prop :=
  True

def algebraic_ProjDtIdeal_ProjDtRefIdeal [hProjDtIdeal : Cert.ProjDtIdeal.Facts] [hProjDtRefIdeal : Cert.ProjDtRefIdeal.Facts] : Prop :=
  ∀ (m : (ℓ : Loc Cert.ProjDtIdeal.nD Cert.ProjDtIdeal.τ Cert.ProjDtIdeal.sig) → Buf (Elt Ideal) ℓ) (g : Dev Cert.ProjDtIdeal.nD → PrngReg)
    (m' : (ℓ : Loc Cert.ProjDtRefIdeal.nD Cert.ProjDtRefIdeal.τ Cert.ProjDtRefIdeal.sig) → Buf (Elt Ideal) ℓ) (g' : Dev Cert.ProjDtRefIdeal.nD → PrngReg), Pre_ProjDtIdeal m →
    (∀ c : Dev Cert.ProjDtIdeal.nD,
      m' ((c.tc : Thread Cert.ProjDtRefIdeal.nD Cert.ProjDtRefIdeal.τ).loc Cert.ProjDtRefIdeal.main_arg0) = m ((c.tc : Thread Cert.ProjDtIdeal.nD Cert.ProjDtIdeal.τ).loc Cert.ProjDtIdeal.main_arg0)
      ∧ m' ((c.tc : Thread Cert.ProjDtRefIdeal.nD Cert.ProjDtRefIdeal.τ).loc Cert.ProjDtRefIdeal.main_arg1) = m ((c.tc : Thread Cert.ProjDtIdeal.nD Cert.ProjDtIdeal.τ).loc Cert.ProjDtIdeal.main_arg1)) →
    ∃ (v0 : (c : Dev Cert.ProjDtIdeal.nD) → Buf (Elt Ideal) ((c.tc : Thread Cert.ProjDtIdeal.nD Cert.ProjDtIdeal.τ).loc Cert.ProjDtIdeal.main_v2)),
      θ_run (Cert.ProjDtIdeal.defs (F := Ideal)) (onTc (τ := Cert.ProjDtIdeal.τ) (Cert.ProjDtIdeal.main (F := Ideal))) ⟨m, fun _ => 0, g⟩ (fun r => ∀ c : Dev Cert.ProjDtIdeal.nD,
          r.2.mem ((c.tc : Thread Cert.ProjDtIdeal.nD Cert.ProjDtIdeal.τ).loc Cert.ProjDtIdeal.main_v2) = v0 c
          ∧ r.2.mem ((c.tc : Thread Cert.ProjDtIdeal.nD Cert.ProjDtIdeal.τ).loc Cert.ProjDtIdeal.main_arg0) = m ((c.tc : Thread Cert.ProjDtIdeal.nD Cert.ProjDtIdeal.τ).loc Cert.ProjDtIdeal.main_arg0)
          ∧ r.2.mem ((c.tc : Thread Cert.ProjDtIdeal.nD Cert.ProjDtIdeal.τ).loc Cert.ProjDtIdeal.main_arg1) = m ((c.tc : Thread Cert.ProjDtIdeal.nD Cert.ProjDtIdeal.τ).loc Cert.ProjDtIdeal.main_arg1))
      ∧ θ_run (Cert.ProjDtRefIdeal.defs (F := Ideal)) (onTc (τ := Cert.ProjDtRefIdeal.τ) (Cert.ProjDtRefIdeal.main (F := Ideal))) ⟨m', fun _ => 0, g'⟩ (fun r => ∀ c : Dev Cert.ProjDtRefIdeal.nD,
          r.2.mem ((c.tc : Thread Cert.ProjDtRefIdeal.nD Cert.ProjDtRefIdeal.τ).loc Cert.ProjDtRefIdeal.main_v0) = v0 c
          ∧ r.2.mem ((c.tc : Thread Cert.ProjDtRefIdeal.nD Cert.ProjDtRefIdeal.τ).loc Cert.ProjDtRefIdeal.main_arg0) = m' ((c.tc : Thread Cert.ProjDtRefIdeal.nD Cert.ProjDtRefIdeal.τ).loc Cert.ProjDtRefIdeal.main_arg0)
          ∧ r.2.mem ((c.tc : Thread Cert.ProjDtRefIdeal.nD Cert.ProjDtRefIdeal.τ).loc Cert.ProjDtRefIdeal.main_arg1) = m' ((c.tc : Thread Cert.ProjDtRefIdeal.nD Cert.ProjDtRefIdeal.τ).loc Cert.ProjDtRefIdeal.main_arg1))

def preserves_DwDt_DwDtIdeal : Prop :=
  True

def algebraic_DwDtIdeal_DwDtRefIdeal [hDwDtIdeal : Cert.DwDtIdeal.Facts] [hDwDtRefIdeal : Cert.DwDtRefIdeal.Facts] : Prop :=
  ∀ (m : (ℓ : Loc Cert.DwDtIdeal.nD Cert.DwDtIdeal.τ Cert.DwDtIdeal.sig) → Buf (Elt Ideal) ℓ) (g : Dev Cert.DwDtIdeal.nD → PrngReg)
    (m' : (ℓ : Loc Cert.DwDtRefIdeal.nD Cert.DwDtRefIdeal.τ Cert.DwDtRefIdeal.sig) → Buf (Elt Ideal) ℓ) (g' : Dev Cert.DwDtRefIdeal.nD → PrngReg), Pre_DwDtIdeal m →
    (∀ c : Dev Cert.DwDtIdeal.nD,
      m' ((c.tc : Thread Cert.DwDtRefIdeal.nD Cert.DwDtRefIdeal.τ).loc Cert.DwDtRefIdeal.main_arg0) = m ((c.tc : Thread Cert.DwDtIdeal.nD Cert.DwDtIdeal.τ).loc Cert.DwDtIdeal.main_arg0)
      ∧ m' ((c.tc : Thread Cert.DwDtRefIdeal.nD Cert.DwDtRefIdeal.τ).loc Cert.DwDtRefIdeal.main_arg1) = m ((c.tc : Thread Cert.DwDtIdeal.nD Cert.DwDtIdeal.τ).loc Cert.DwDtIdeal.main_arg1)) →
    ∃ (v0 : (c : Dev Cert.DwDtIdeal.nD) → Buf (Elt Ideal) ((c.tc : Thread Cert.DwDtIdeal.nD Cert.DwDtIdeal.τ).loc Cert.DwDtIdeal.main_v2)),
      θ_run (Cert.DwDtIdeal.defs (F := Ideal)) (onTc (τ := Cert.DwDtIdeal.τ) (Cert.DwDtIdeal.main (F := Ideal))) ⟨m, fun _ => 0, g⟩ (fun r => ∀ c : Dev Cert.DwDtIdeal.nD,
          r.2.mem ((c.tc : Thread Cert.DwDtIdeal.nD Cert.DwDtIdeal.τ).loc Cert.DwDtIdeal.main_v2) = v0 c
          ∧ r.2.mem ((c.tc : Thread Cert.DwDtIdeal.nD Cert.DwDtIdeal.τ).loc Cert.DwDtIdeal.main_arg0) = m ((c.tc : Thread Cert.DwDtIdeal.nD Cert.DwDtIdeal.τ).loc Cert.DwDtIdeal.main_arg0)
          ∧ r.2.mem ((c.tc : Thread Cert.DwDtIdeal.nD Cert.DwDtIdeal.τ).loc Cert.DwDtIdeal.main_arg1) = m ((c.tc : Thread Cert.DwDtIdeal.nD Cert.DwDtIdeal.τ).loc Cert.DwDtIdeal.main_arg1))
      ∧ θ_run (Cert.DwDtRefIdeal.defs (F := Ideal)) (onTc (τ := Cert.DwDtRefIdeal.τ) (Cert.DwDtRefIdeal.main (F := Ideal))) ⟨m', fun _ => 0, g'⟩ (fun r => ∀ c : Dev Cert.DwDtRefIdeal.nD,
          r.2.mem ((c.tc : Thread Cert.DwDtRefIdeal.nD Cert.DwDtRefIdeal.τ).loc Cert.DwDtRefIdeal.main_v3) = v0 c
          ∧ r.2.mem ((c.tc : Thread Cert.DwDtRefIdeal.nD Cert.DwDtRefIdeal.τ).loc Cert.DwDtRefIdeal.main_arg0) = m' ((c.tc : Thread Cert.DwDtRefIdeal.nD Cert.DwDtRefIdeal.τ).loc Cert.DwDtRefIdeal.main_arg0)
          ∧ r.2.mem ((c.tc : Thread Cert.DwDtRefIdeal.nD Cert.DwDtRefIdeal.τ).loc Cert.DwDtRefIdeal.main_arg1) = m' ((c.tc : Thread Cert.DwDtRefIdeal.nD Cert.DwDtRefIdeal.τ).loc Cert.DwDtRefIdeal.main_arg1))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v14) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MergeBwd_MergeBwdIdeal : Prop :=
  True

def algebraic_MergeBwdIdeal_MergeBwdRefIdeal [hMergeBwdIdeal : Cert.MergeBwdIdeal.Facts] [hMergeBwdRefIdeal : Cert.MergeBwdRefIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)) →
    ∃ (v0 : (c : Dev Cert.MergeBwdIdeal.nD) → Buf (Elt Ideal) ((c.tc : Thread Cert.MergeBwdIdeal.nD Cert.MergeBwdIdeal.τ).loc Cert.MergeBwdIdeal.main_v0_0)) (v1 : (c : Dev Cert.MergeBwdIdeal.nD) → Buf (Elt Ideal) ((c.tc : Thread Cert.MergeBwdIdeal.nD Cert.MergeBwdIdeal.τ).loc Cert.MergeBwdIdeal.main_v0_1)) (v2 : (c : Dev Cert.MergeBwdIdeal.nD) → Buf (Elt Ideal) ((c.tc : Thread Cert.MergeBwdIdeal.nD Cert.MergeBwdIdeal.τ).loc Cert.MergeBwdIdeal.main_v0_2)) (v3 : (c : Dev Cert.MergeBwdIdeal.nD) → Buf (Elt Ideal) ((c.tc : Thread Cert.MergeBwdIdeal.nD Cert.MergeBwdIdeal.τ).loc Cert.MergeBwdIdeal.main_v0_3)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v0_0) = v0 c
          ∧ r.2.mem ((c.tc : Thread Cert.MergeBwdIdeal.nD Cert.MergeBwdIdeal.τ).loc Cert.MergeBwdIdeal.main_v0_1) = v1 c
          ∧ r.2.mem ((c.tc : Thread Cert.MergeBwdIdeal.nD Cert.MergeBwdIdeal.τ).loc Cert.MergeBwdIdeal.main_v0_2) = v2 c
          ∧ r.2.mem ((c.tc : Thread Cert.MergeBwdIdeal.nD Cert.MergeBwdIdeal.τ).loc Cert.MergeBwdIdeal.main_v0_3) = v3 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v26) = v0 c
          ∧ r.2.mem ((c.tc : Thread Cert.MergeBwdRefIdeal.nD Cert.MergeBwdRefIdeal.τ).loc Cert.MergeBwdRefIdeal.main_v27) = v1 c
          ∧ r.2.mem ((c.tc : Thread Cert.MergeBwdRefIdeal.nD Cert.MergeBwdRefIdeal.τ).loc Cert.MergeBwdRefIdeal.main_v28) = v2 c
          ∧ r.2.mem ((c.tc : Thread Cert.MergeBwdRefIdeal.nD Cert.MergeBwdRefIdeal.τ).loc Cert.MergeBwdRefIdeal.main_v25) = v3 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4))

def preserves_GmlpFwd_GmlpFwdIdeal : Prop :=
  IdealRules.named_const.Statement Cert.GmlpFwdIdeal.κ "inv_sqrt2" .f32 0x3F3504F3#32 (((Real.sqrt 2)⁻¹ : ℝ) : EReal)

def algebraic_GmlpFwdIdeal_GmlpFwdRefIdeal [hGmlpFwdIdeal : Cert.GmlpFwdIdeal.Facts] [hGmlpFwdRefIdeal : Cert.GmlpFwdRefIdeal.Facts] : Prop :=
  ∀ (m : (ℓ : Loc Cert.GmlpFwdIdeal.nD Cert.GmlpFwdIdeal.τ Cert.GmlpFwdIdeal.sig) → Buf (Elt Ideal) ℓ) (g : Dev Cert.GmlpFwdIdeal.nD → PrngReg)
    (m' : (ℓ : Loc Cert.GmlpFwdRefIdeal.nD Cert.GmlpFwdRefIdeal.τ Cert.GmlpFwdRefIdeal.sig) → Buf (Elt Ideal) ℓ) (g' : Dev Cert.GmlpFwdRefIdeal.nD → PrngReg), Pre_GmlpFwdIdeal m →
    (∀ c : Dev Cert.GmlpFwdIdeal.nD,
      m' ((c.tc : Thread Cert.GmlpFwdRefIdeal.nD Cert.GmlpFwdRefIdeal.τ).loc Cert.GmlpFwdRefIdeal.main_arg0) = m ((c.tc : Thread Cert.GmlpFwdIdeal.nD Cert.GmlpFwdIdeal.τ).loc Cert.GmlpFwdIdeal.main_arg0)
      ∧ m' ((c.tc : Thread Cert.GmlpFwdRefIdeal.nD Cert.GmlpFwdRefIdeal.τ).loc Cert.GmlpFwdRefIdeal.main_arg1) = m ((c.tc : Thread Cert.GmlpFwdIdeal.nD Cert.GmlpFwdIdeal.τ).loc Cert.GmlpFwdIdeal.main_arg1)
      ∧ m' ((c.tc : Thread Cert.GmlpFwdRefIdeal.nD Cert.GmlpFwdRefIdeal.τ).loc Cert.GmlpFwdRefIdeal.main_arg2) = m ((c.tc : Thread Cert.GmlpFwdIdeal.nD Cert.GmlpFwdIdeal.τ).loc Cert.GmlpFwdIdeal.main_arg2)
      ∧ m' ((c.tc : Thread Cert.GmlpFwdRefIdeal.nD Cert.GmlpFwdRefIdeal.τ).loc Cert.GmlpFwdRefIdeal.main_arg3) = m ((c.tc : Thread Cert.GmlpFwdIdeal.nD Cert.GmlpFwdIdeal.τ).loc Cert.GmlpFwdIdeal.main_arg3)
      ∧ m' ((c.tc : Thread Cert.GmlpFwdRefIdeal.nD Cert.GmlpFwdRefIdeal.τ).loc Cert.GmlpFwdRefIdeal.main_arg4) = m ((c.tc : Thread Cert.GmlpFwdIdeal.nD Cert.GmlpFwdIdeal.τ).loc Cert.GmlpFwdIdeal.main_arg4)) →
    ∃ (v0 : (c : Dev Cert.GmlpFwdIdeal.nD) → Buf (Elt Ideal) ((c.tc : Thread Cert.GmlpFwdIdeal.nD Cert.GmlpFwdIdeal.τ).loc Cert.GmlpFwdIdeal.main_v2)),
      θ_run (Cert.GmlpFwdIdeal.defs (F := Ideal)) (onTc (τ := Cert.GmlpFwdIdeal.τ) (Cert.GmlpFwdIdeal.main (F := Ideal))) ⟨m, fun _ => 0, g⟩ (fun r => ∀ c : Dev Cert.GmlpFwdIdeal.nD,
          r.2.mem ((c.tc : Thread Cert.GmlpFwdIdeal.nD Cert.GmlpFwdIdeal.τ).loc Cert.GmlpFwdIdeal.main_v2) = v0 c
          ∧ r.2.mem ((c.tc : Thread Cert.GmlpFwdIdeal.nD Cert.GmlpFwdIdeal.τ).loc Cert.GmlpFwdIdeal.main_arg0) = m ((c.tc : Thread Cert.GmlpFwdIdeal.nD Cert.GmlpFwdIdeal.τ).loc Cert.GmlpFwdIdeal.main_arg0)
          ∧ r.2.mem ((c.tc : Thread Cert.GmlpFwdIdeal.nD Cert.GmlpFwdIdeal.τ).loc Cert.GmlpFwdIdeal.main_arg1) = m ((c.tc : Thread Cert.GmlpFwdIdeal.nD Cert.GmlpFwdIdeal.τ).loc Cert.GmlpFwdIdeal.main_arg1)
          ∧ r.2.mem ((c.tc : Thread Cert.GmlpFwdIdeal.nD Cert.GmlpFwdIdeal.τ).loc Cert.GmlpFwdIdeal.main_arg2) = m ((c.tc : Thread Cert.GmlpFwdIdeal.nD Cert.GmlpFwdIdeal.τ).loc Cert.GmlpFwdIdeal.main_arg2)
          ∧ r.2.mem ((c.tc : Thread Cert.GmlpFwdIdeal.nD Cert.GmlpFwdIdeal.τ).loc Cert.GmlpFwdIdeal.main_arg3) = m ((c.tc : Thread Cert.GmlpFwdIdeal.nD Cert.GmlpFwdIdeal.τ).loc Cert.GmlpFwdIdeal.main_arg3)
          ∧ r.2.mem ((c.tc : Thread Cert.GmlpFwdIdeal.nD Cert.GmlpFwdIdeal.τ).loc Cert.GmlpFwdIdeal.main_arg4) = m ((c.tc : Thread Cert.GmlpFwdIdeal.nD Cert.GmlpFwdIdeal.τ).loc Cert.GmlpFwdIdeal.main_arg4))
      ∧ θ_run (Cert.GmlpFwdRefIdeal.defs (F := Ideal)) (onTc (τ := Cert.GmlpFwdRefIdeal.τ) (Cert.GmlpFwdRefIdeal.main (F := Ideal))) ⟨m', fun _ => 0, g'⟩ (fun r => ∀ c : Dev Cert.GmlpFwdRefIdeal.nD,
          r.2.mem ((c.tc : Thread Cert.GmlpFwdRefIdeal.nD Cert.GmlpFwdRefIdeal.τ).loc Cert.GmlpFwdRefIdeal.main_v52) = v0 c
          ∧ r.2.mem ((c.tc : Thread Cert.GmlpFwdRefIdeal.nD Cert.GmlpFwdRefIdeal.τ).loc Cert.GmlpFwdRefIdeal.main_arg0) = m' ((c.tc : Thread Cert.GmlpFwdRefIdeal.nD Cert.GmlpFwdRefIdeal.τ).loc Cert.GmlpFwdRefIdeal.main_arg0)
          ∧ r.2.mem ((c.tc : Thread Cert.GmlpFwdRefIdeal.nD Cert.GmlpFwdRefIdeal.τ).loc Cert.GmlpFwdRefIdeal.main_arg1) = m' ((c.tc : Thread Cert.GmlpFwdRefIdeal.nD Cert.GmlpFwdRefIdeal.τ).loc Cert.GmlpFwdRefIdeal.main_arg1)
          ∧ r.2.mem ((c.tc : Thread Cert.GmlpFwdRefIdeal.nD Cert.GmlpFwdRefIdeal.τ).loc Cert.GmlpFwdRefIdeal.main_arg2) = m' ((c.tc : Thread Cert.GmlpFwdRefIdeal.nD Cert.GmlpFwdRefIdeal.τ).loc Cert.GmlpFwdRefIdeal.main_arg2)
          ∧ r.2.mem ((c.tc : Thread Cert.GmlpFwdRefIdeal.nD Cert.GmlpFwdRefIdeal.τ).loc Cert.GmlpFwdRefIdeal.main_arg3) = m' ((c.tc : Thread Cert.GmlpFwdRefIdeal.nD Cert.GmlpFwdRefIdeal.τ).loc Cert.GmlpFwdRefIdeal.main_arg3)
          ∧ r.2.mem ((c.tc : Thread Cert.GmlpFwdRefIdeal.nD Cert.GmlpFwdRefIdeal.τ).loc Cert.GmlpFwdRefIdeal.main_arg4) = m' ((c.tc : Thread Cert.GmlpFwdRefIdeal.nD Cert.GmlpFwdRefIdeal.τ).loc Cert.GmlpFwdRefIdeal.main_arg4))

def preserves_RmsMlpBwd_RmsMlpBwdIdeal : Prop :=
  True

def algebraic_RmsMlpBwdIdeal_RmsMlpBwdRefIdeal [hRmsMlpBwdIdeal : Cert.RmsMlpBwdIdeal.Facts] [hRmsMlpBwdRefIdeal : Cert.RmsMlpBwdRefIdeal.Facts] : Prop :=
  ∀ (m : (ℓ : Loc Cert.RmsMlpBwdIdeal.nD Cert.RmsMlpBwdIdeal.τ Cert.RmsMlpBwdIdeal.sig) → Buf (Elt Ideal) ℓ) (g : Dev Cert.RmsMlpBwdIdeal.nD → PrngReg)
    (m' : (ℓ : Loc Cert.RmsMlpBwdRefIdeal.nD Cert.RmsMlpBwdRefIdeal.τ Cert.RmsMlpBwdRefIdeal.sig) → Buf (Elt Ideal) ℓ) (g' : Dev Cert.RmsMlpBwdRefIdeal.nD → PrngReg), Pre_RmsMlpBwdIdeal m →
    (∀ c : Dev Cert.RmsMlpBwdIdeal.nD,
      m' ((c.tc : Thread Cert.RmsMlpBwdRefIdeal.nD Cert.RmsMlpBwdRefIdeal.τ).loc Cert.RmsMlpBwdRefIdeal.main_arg0) = m ((c.tc : Thread Cert.RmsMlpBwdIdeal.nD Cert.RmsMlpBwdIdeal.τ).loc Cert.RmsMlpBwdIdeal.main_arg0)
      ∧ m' ((c.tc : Thread Cert.RmsMlpBwdRefIdeal.nD Cert.RmsMlpBwdRefIdeal.τ).loc Cert.RmsMlpBwdRefIdeal.main_arg1) = m ((c.tc : Thread Cert.RmsMlpBwdIdeal.nD Cert.RmsMlpBwdIdeal.τ).loc Cert.RmsMlpBwdIdeal.main_arg1)
      ∧ m' ((c.tc : Thread Cert.RmsMlpBwdRefIdeal.nD Cert.RmsMlpBwdRefIdeal.τ).loc Cert.RmsMlpBwdRefIdeal.main_arg2) = m ((c.tc : Thread Cert.RmsMlpBwdIdeal.nD Cert.RmsMlpBwdIdeal.τ).loc Cert.RmsMlpBwdIdeal.main_arg2)
      ∧ m' ((c.tc : Thread Cert.RmsMlpBwdRefIdeal.nD Cert.RmsMlpBwdRefIdeal.τ).loc Cert.RmsMlpBwdRefIdeal.main_arg3) = m ((c.tc : Thread Cert.RmsMlpBwdIdeal.nD Cert.RmsMlpBwdIdeal.τ).loc Cert.RmsMlpBwdIdeal.main_arg3)) →
    ∃ (v0 : (c : Dev Cert.RmsMlpBwdIdeal.nD) → Buf (Elt Ideal) ((c.tc : Thread Cert.RmsMlpBwdIdeal.nD Cert.RmsMlpBwdIdeal.τ).loc Cert.RmsMlpBwdIdeal.main_v0_0)) (v1 : (c : Dev Cert.RmsMlpBwdIdeal.nD) → Buf (Elt Ideal) ((c.tc : Thread Cert.RmsMlpBwdIdeal.nD Cert.RmsMlpBwdIdeal.τ).loc Cert.RmsMlpBwdIdeal.main_v0_1)) (v2 : (c : Dev Cert.RmsMlpBwdIdeal.nD) → Buf (Elt Ideal) ((c.tc : Thread Cert.RmsMlpBwdIdeal.nD Cert.RmsMlpBwdIdeal.τ).loc Cert.RmsMlpBwdIdeal.main_v0_2)),
      θ_run (Cert.RmsMlpBwdIdeal.defs (F := Ideal)) (onTc (τ := Cert.RmsMlpBwdIdeal.τ) (Cert.RmsMlpBwdIdeal.main (F := Ideal))) ⟨m, fun _ => 0, g⟩ (fun r => ∀ c : Dev Cert.RmsMlpBwdIdeal.nD,
          r.2.mem ((c.tc : Thread Cert.RmsMlpBwdIdeal.nD Cert.RmsMlpBwdIdeal.τ).loc Cert.RmsMlpBwdIdeal.main_v0_0) = v0 c
          ∧ r.2.mem ((c.tc : Thread Cert.RmsMlpBwdIdeal.nD Cert.RmsMlpBwdIdeal.τ).loc Cert.RmsMlpBwdIdeal.main_v0_1) = v1 c
          ∧ r.2.mem ((c.tc : Thread Cert.RmsMlpBwdIdeal.nD Cert.RmsMlpBwdIdeal.τ).loc Cert.RmsMlpBwdIdeal.main_v0_2) = v2 c
          ∧ r.2.mem ((c.tc : Thread Cert.RmsMlpBwdIdeal.nD Cert.RmsMlpBwdIdeal.τ).loc Cert.RmsMlpBwdIdeal.main_arg0) = m ((c.tc : Thread Cert.RmsMlpBwdIdeal.nD Cert.RmsMlpBwdIdeal.τ).loc Cert.RmsMlpBwdIdeal.main_arg0)
          ∧ r.2.mem ((c.tc : Thread Cert.RmsMlpBwdIdeal.nD Cert.RmsMlpBwdIdeal.τ).loc Cert.RmsMlpBwdIdeal.main_arg1) = m ((c.tc : Thread Cert.RmsMlpBwdIdeal.nD Cert.RmsMlpBwdIdeal.τ).loc Cert.RmsMlpBwdIdeal.main_arg1)
          ∧ r.2.mem ((c.tc : Thread Cert.RmsMlpBwdIdeal.nD Cert.RmsMlpBwdIdeal.τ).loc Cert.RmsMlpBwdIdeal.main_arg2) = m ((c.tc : Thread Cert.RmsMlpBwdIdeal.nD Cert.RmsMlpBwdIdeal.τ).loc Cert.RmsMlpBwdIdeal.main_arg2)
          ∧ r.2.mem ((c.tc : Thread Cert.RmsMlpBwdIdeal.nD Cert.RmsMlpBwdIdeal.τ).loc Cert.RmsMlpBwdIdeal.main_arg3) = m ((c.tc : Thread Cert.RmsMlpBwdIdeal.nD Cert.RmsMlpBwdIdeal.τ).loc Cert.RmsMlpBwdIdeal.main_arg3))
      ∧ θ_run (Cert.RmsMlpBwdRefIdeal.defs (F := Ideal)) (onTc (τ := Cert.RmsMlpBwdRefIdeal.τ) (Cert.RmsMlpBwdRefIdeal.main (F := Ideal))) ⟨m', fun _ => 0, g'⟩ (fun r => ∀ c : Dev Cert.RmsMlpBwdRefIdeal.nD,
          r.2.mem ((c.tc : Thread Cert.RmsMlpBwdRefIdeal.nD Cert.RmsMlpBwdRefIdeal.τ).loc Cert.RmsMlpBwdRefIdeal.main_v37) = v0 c
          ∧ r.2.mem ((c.tc : Thread Cert.RmsMlpBwdRefIdeal.nD Cert.RmsMlpBwdRefIdeal.τ).loc Cert.RmsMlpBwdRefIdeal.main_v39) = v1 c
          ∧ r.2.mem ((c.tc : Thread Cert.RmsMlpBwdRefIdeal.nD Cert.RmsMlpBwdRefIdeal.τ).loc Cert.RmsMlpBwdRefIdeal.main_v38) = v2 c
          ∧ r.2.mem ((c.tc : Thread Cert.RmsMlpBwdRefIdeal.nD Cert.RmsMlpBwdRefIdeal.τ).loc Cert.RmsMlpBwdRefIdeal.main_arg0) = m' ((c.tc : Thread Cert.RmsMlpBwdRefIdeal.nD Cert.RmsMlpBwdRefIdeal.τ).loc Cert.RmsMlpBwdRefIdeal.main_arg0)
          ∧ r.2.mem ((c.tc : Thread Cert.RmsMlpBwdRefIdeal.nD Cert.RmsMlpBwdRefIdeal.τ).loc Cert.RmsMlpBwdRefIdeal.main_arg1) = m' ((c.tc : Thread Cert.RmsMlpBwdRefIdeal.nD Cert.RmsMlpBwdRefIdeal.τ).loc Cert.RmsMlpBwdRefIdeal.main_arg1)
          ∧ r.2.mem ((c.tc : Thread Cert.RmsMlpBwdRefIdeal.nD Cert.RmsMlpBwdRefIdeal.τ).loc Cert.RmsMlpBwdRefIdeal.main_arg2) = m' ((c.tc : Thread Cert.RmsMlpBwdRefIdeal.nD Cert.RmsMlpBwdRefIdeal.τ).loc Cert.RmsMlpBwdRefIdeal.main_arg2)
          ∧ r.2.mem ((c.tc : Thread Cert.RmsMlpBwdRefIdeal.nD Cert.RmsMlpBwdRefIdeal.τ).loc Cert.RmsMlpBwdRefIdeal.main_arg3) = m' ((c.tc : Thread Cert.RmsMlpBwdRefIdeal.nD Cert.RmsMlpBwdRefIdeal.τ).loc Cert.RmsMlpBwdRefIdeal.main_arg3))

def preserves_RmsMixBwd_RmsMixBwdIdeal : Prop :=
  True

def algebraic_RmsMixBwdIdeal_RmsMixBwdRefIdeal [hRmsMixBwdIdeal : Cert.RmsMixBwdIdeal.Facts] [hRmsMixBwdRefIdeal : Cert.RmsMixBwdRefIdeal.Facts] : Prop :=
  ∀ (m : (ℓ : Loc Cert.RmsMixBwdIdeal.nD Cert.RmsMixBwdIdeal.τ Cert.RmsMixBwdIdeal.sig) → Buf (Elt Ideal) ℓ) (g : Dev Cert.RmsMixBwdIdeal.nD → PrngReg)
    (m' : (ℓ : Loc Cert.RmsMixBwdRefIdeal.nD Cert.RmsMixBwdRefIdeal.τ Cert.RmsMixBwdRefIdeal.sig) → Buf (Elt Ideal) ℓ) (g' : Dev Cert.RmsMixBwdRefIdeal.nD → PrngReg), Pre_RmsMixBwdIdeal m →
    (∀ c : Dev Cert.RmsMixBwdIdeal.nD,
      m' ((c.tc : Thread Cert.RmsMixBwdRefIdeal.nD Cert.RmsMixBwdRefIdeal.τ).loc Cert.RmsMixBwdRefIdeal.main_arg0) = m ((c.tc : Thread Cert.RmsMixBwdIdeal.nD Cert.RmsMixBwdIdeal.τ).loc Cert.RmsMixBwdIdeal.main_arg0)
      ∧ m' ((c.tc : Thread Cert.RmsMixBwdRefIdeal.nD Cert.RmsMixBwdRefIdeal.τ).loc Cert.RmsMixBwdRefIdeal.main_arg1) = m ((c.tc : Thread Cert.RmsMixBwdIdeal.nD Cert.RmsMixBwdIdeal.τ).loc Cert.RmsMixBwdIdeal.main_arg1)
      ∧ m' ((c.tc : Thread Cert.RmsMixBwdRefIdeal.nD Cert.RmsMixBwdRefIdeal.τ).loc Cert.RmsMixBwdRefIdeal.main_arg2) = m ((c.tc : Thread Cert.RmsMixBwdIdeal.nD Cert.RmsMixBwdIdeal.τ).loc Cert.RmsMixBwdIdeal.main_arg2)
      ∧ m' ((c.tc : Thread Cert.RmsMixBwdRefIdeal.nD Cert.RmsMixBwdRefIdeal.τ).loc Cert.RmsMixBwdRefIdeal.main_arg3) = m ((c.tc : Thread Cert.RmsMixBwdIdeal.nD Cert.RmsMixBwdIdeal.τ).loc Cert.RmsMixBwdIdeal.main_arg3)) →
    ∃ (v0 : (c : Dev Cert.RmsMixBwdIdeal.nD) → Buf (Elt Ideal) ((c.tc : Thread Cert.RmsMixBwdIdeal.nD Cert.RmsMixBwdIdeal.τ).loc Cert.RmsMixBwdIdeal.main_v0_0)) (v1 : (c : Dev Cert.RmsMixBwdIdeal.nD) → Buf (Elt Ideal) ((c.tc : Thread Cert.RmsMixBwdIdeal.nD Cert.RmsMixBwdIdeal.τ).loc Cert.RmsMixBwdIdeal.main_v0_1)),
      θ_run (Cert.RmsMixBwdIdeal.defs (F := Ideal)) (onTc (τ := Cert.RmsMixBwdIdeal.τ) (Cert.RmsMixBwdIdeal.main (F := Ideal))) ⟨m, fun _ => 0, g⟩ (fun r => ∀ c : Dev Cert.RmsMixBwdIdeal.nD,
          r.2.mem ((c.tc : Thread Cert.RmsMixBwdIdeal.nD Cert.RmsMixBwdIdeal.τ).loc Cert.RmsMixBwdIdeal.main_v0_0) = v0 c
          ∧ r.2.mem ((c.tc : Thread Cert.RmsMixBwdIdeal.nD Cert.RmsMixBwdIdeal.τ).loc Cert.RmsMixBwdIdeal.main_v0_1) = v1 c
          ∧ r.2.mem ((c.tc : Thread Cert.RmsMixBwdIdeal.nD Cert.RmsMixBwdIdeal.τ).loc Cert.RmsMixBwdIdeal.main_arg0) = m ((c.tc : Thread Cert.RmsMixBwdIdeal.nD Cert.RmsMixBwdIdeal.τ).loc Cert.RmsMixBwdIdeal.main_arg0)
          ∧ r.2.mem ((c.tc : Thread Cert.RmsMixBwdIdeal.nD Cert.RmsMixBwdIdeal.τ).loc Cert.RmsMixBwdIdeal.main_arg1) = m ((c.tc : Thread Cert.RmsMixBwdIdeal.nD Cert.RmsMixBwdIdeal.τ).loc Cert.RmsMixBwdIdeal.main_arg1)
          ∧ r.2.mem ((c.tc : Thread Cert.RmsMixBwdIdeal.nD Cert.RmsMixBwdIdeal.τ).loc Cert.RmsMixBwdIdeal.main_arg2) = m ((c.tc : Thread Cert.RmsMixBwdIdeal.nD Cert.RmsMixBwdIdeal.τ).loc Cert.RmsMixBwdIdeal.main_arg2)
          ∧ r.2.mem ((c.tc : Thread Cert.RmsMixBwdIdeal.nD Cert.RmsMixBwdIdeal.τ).loc Cert.RmsMixBwdIdeal.main_arg3) = m ((c.tc : Thread Cert.RmsMixBwdIdeal.nD Cert.RmsMixBwdIdeal.τ).loc Cert.RmsMixBwdIdeal.main_arg3))
      ∧ θ_run (Cert.RmsMixBwdRefIdeal.defs (F := Ideal)) (onTc (τ := Cert.RmsMixBwdRefIdeal.τ) (Cert.RmsMixBwdRefIdeal.main (F := Ideal))) ⟨m', fun _ => 0, g'⟩ (fun r => ∀ c : Dev Cert.RmsMixBwdRefIdeal.nD,
          r.2.mem ((c.tc : Thread Cert.RmsMixBwdRefIdeal.nD Cert.RmsMixBwdRefIdeal.τ).loc Cert.RmsMixBwdRefIdeal.main_v37) = v0 c
          ∧ r.2.mem ((c.tc : Thread Cert.RmsMixBwdRefIdeal.nD Cert.RmsMixBwdRefIdeal.τ).loc Cert.RmsMixBwdRefIdeal.main_v38) = v1 c
          ∧ r.2.mem ((c.tc : Thread Cert.RmsMixBwdRefIdeal.nD Cert.RmsMixBwdRefIdeal.τ).loc Cert.RmsMixBwdRefIdeal.main_arg0) = m' ((c.tc : Thread Cert.RmsMixBwdRefIdeal.nD Cert.RmsMixBwdRefIdeal.τ).loc Cert.RmsMixBwdRefIdeal.main_arg0)
          ∧ r.2.mem ((c.tc : Thread Cert.RmsMixBwdRefIdeal.nD Cert.RmsMixBwdRefIdeal.τ).loc Cert.RmsMixBwdRefIdeal.main_arg1) = m' ((c.tc : Thread Cert.RmsMixBwdRefIdeal.nD Cert.RmsMixBwdRefIdeal.τ).loc Cert.RmsMixBwdRefIdeal.main_arg1)
          ∧ r.2.mem ((c.tc : Thread Cert.RmsMixBwdRefIdeal.nD Cert.RmsMixBwdRefIdeal.τ).loc Cert.RmsMixBwdRefIdeal.main_arg2) = m' ((c.tc : Thread Cert.RmsMixBwdRefIdeal.nD Cert.RmsMixBwdRefIdeal.τ).loc Cert.RmsMixBwdRefIdeal.main_arg2)
          ∧ r.2.mem ((c.tc : Thread Cert.RmsMixBwdRefIdeal.nD Cert.RmsMixBwdRefIdeal.τ).loc Cert.RmsMixBwdRefIdeal.main_arg3) = m' ((c.tc : Thread Cert.RmsMixBwdRefIdeal.nD Cert.RmsMixBwdRefIdeal.τ).loc Cert.RmsMixBwdRefIdeal.main_arg3))

def Claim : Prop :=
  ∃ (hKernel : Cert.Kernel.Facts) (hKernelIdeal : Cert.KernelIdeal.Facts) (hReferenceIdeal : Cert.ReferenceIdeal.Facts) (hDwXbc : Cert.DwXbc.Facts) (hDwXbcIdeal : Cert.DwXbcIdeal.Facts) (hDwXbcRefIdeal : Cert.DwXbcRefIdeal.Facts) (hDwWide : Cert.DwWide.Facts) (hDwWideIdeal : Cert.DwWideIdeal.Facts) (hDwWideRefIdeal : Cert.DwWideRefIdeal.Facts) (hProjXbc : Cert.ProjXbc.Facts) (hProjXbcIdeal : Cert.ProjXbcIdeal.Facts) (hProjXbcRefIdeal : Cert.ProjXbcRefIdeal.Facts) (hProjWide : Cert.ProjWide.Facts) (hProjWideIdeal : Cert.ProjWideIdeal.Facts) (hProjWideRefIdeal : Cert.ProjWideRefIdeal.Facts) (hProjA : Cert.ProjA.Facts) (hProjAIdeal : Cert.ProjAIdeal.Facts) (hProjARefIdeal : Cert.ProjARefIdeal.Facts) (hMlpUp : Cert.MlpUp.Facts) (hMlpUpIdeal : Cert.MlpUpIdeal.Facts) (hMlpUpRefIdeal : Cert.MlpUpRefIdeal.Facts) (hMlpDown : Cert.MlpDown.Facts) (hMlpDownIdeal : Cert.MlpDownIdeal.Facts) (hMlpDownRefIdeal : Cert.MlpDownRefIdeal.Facts) (hDup : Cert.Dup.Facts) (hDupIdeal : Cert.DupIdeal.Facts) (hDupRefIdeal : Cert.DupRefIdeal.Facts) (hDh2 : Cert.Dh2.Facts) (hDh2Ideal : Cert.Dh2Ideal.Facts) (hDh2RefIdeal : Cert.Dh2RefIdeal.Facts) (hDyb : Cert.Dyb.Facts) (hDybIdeal : Cert.DybIdeal.Facts) (hDybRefIdeal : Cert.DybRefIdeal.Facts) (hDya : Cert.Dya.Facts) (hDyaIdeal : Cert.DyaIdeal.Facts) (hDyaRefIdeal : Cert.DyaRefIdeal.Facts) (hDh : Cert.Dh.Facts) (hDhIdeal : Cert.DhIdeal.Facts) (hDhRefIdeal : Cert.DhRefIdeal.Facts) (hDwDown : Cert.DwDown.Facts) (hDwDownIdeal : Cert.DwDownIdeal.Facts) (hDwDownRefIdeal : Cert.DwDownRefIdeal.Facts) (hDwUp : Cert.DwUp.Facts) (hDwUpIdeal : Cert.DwUpIdeal.Facts) (hDwUpRefIdeal : Cert.DwUpRefIdeal.Facts) (hDwPb : Cert.DwPb.Facts) (hDwPbIdeal : Cert.DwPbIdeal.Facts) (hDwPbRefIdeal : Cert.DwPbRefIdeal.Facts) (hDwPa : Cert.DwPa.Facts) (hDwPaIdeal : Cert.DwPaIdeal.Facts) (hDwPaRefIdeal : Cert.DwPaRefIdeal.Facts) (hDwOut : Cert.DwOut.Facts) (hDwOutIdeal : Cert.DwOutIdeal.Facts) (hDwOutRefIdeal : Cert.DwOutRefIdeal.Facts) (hProjB : Cert.ProjB.Facts) (hProjBIdeal : Cert.ProjBIdeal.Facts) (hProjBRefIdeal : Cert.ProjBRefIdeal.Facts) (hOutProj : Cert.OutProj.Facts) (hOutProjIdeal : Cert.OutProjIdeal.Facts) (hOutProjRefIdeal : Cert.OutProjRefIdeal.Facts) (hProjDt : Cert.ProjDt.Facts) (hProjDtIdeal : Cert.ProjDtIdeal.Facts) (hProjDtRefIdeal : Cert.ProjDtRefIdeal.Facts) (hDwDt : Cert.DwDt.Facts) (hDwDtIdeal : Cert.DwDtIdeal.Facts) (hDwDtRefIdeal : Cert.DwDtRefIdeal.Facts) (hRmsFwd : Cert.RmsFwd.Facts) (hRmsFwdIdeal : Cert.RmsFwdIdeal.Facts) (hRmsFwdRefIdeal : Cert.RmsFwdRefIdeal.Facts) (hMergeBwd : Cert.MergeBwd.Facts) (hMergeBwdIdeal : Cert.MergeBwdIdeal.Facts) (hMergeBwdRefIdeal : Cert.MergeBwdRefIdeal.Facts) (hGmlpFwd : Cert.GmlpFwd.Facts) (hGmlpFwdIdeal : Cert.GmlpFwdIdeal.Facts) (hGmlpFwdRefIdeal : Cert.GmlpFwdRefIdeal.Facts) (hRmsMlpBwd : Cert.RmsMlpBwd.Facts) (hRmsMlpBwdIdeal : Cert.RmsMlpBwdIdeal.Facts) (hRmsMlpBwdRefIdeal : Cert.RmsMlpBwdRefIdeal.Facts) (hRmsMixBwd : Cert.RmsMixBwd.Facts) (hRmsMixBwdIdeal : Cert.RmsMixBwdIdeal.Facts) (hRmsMixBwdRefIdeal : Cert.RmsMixBwdRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwXbc (hDwXbc := hDwXbc)
    ∧ quiescent_DwXbcIdeal (hDwXbcIdeal := hDwXbcIdeal)
    ∧ quiescent_DwXbcRefIdeal (hDwXbcRefIdeal := hDwXbcRefIdeal)
    ∧ quiescent_DwWide (hDwWide := hDwWide)
    ∧ quiescent_DwWideIdeal (hDwWideIdeal := hDwWideIdeal)
    ∧ quiescent_DwWideRefIdeal (hDwWideRefIdeal := hDwWideRefIdeal)
    ∧ quiescent_ProjXbc (hProjXbc := hProjXbc)
    ∧ quiescent_ProjXbcIdeal (hProjXbcIdeal := hProjXbcIdeal)
    ∧ quiescent_ProjXbcRefIdeal (hProjXbcRefIdeal := hProjXbcRefIdeal)
    ∧ quiescent_ProjWide (hProjWide := hProjWide)
    ∧ quiescent_ProjWideIdeal (hProjWideIdeal := hProjWideIdeal)
    ∧ quiescent_ProjWideRefIdeal (hProjWideRefIdeal := hProjWideRefIdeal)
    ∧ quiescent_ProjA (hProjA := hProjA)
    ∧ quiescent_ProjAIdeal (hProjAIdeal := hProjAIdeal)
    ∧ quiescent_ProjARefIdeal (hProjARefIdeal := hProjARefIdeal)
    ∧ quiescent_MlpUp (hMlpUp := hMlpUp)
    ∧ quiescent_MlpUpIdeal (hMlpUpIdeal := hMlpUpIdeal)
    ∧ quiescent_MlpUpRefIdeal (hMlpUpRefIdeal := hMlpUpRefIdeal)
    ∧ quiescent_MlpDown (hMlpDown := hMlpDown)
    ∧ quiescent_MlpDownIdeal (hMlpDownIdeal := hMlpDownIdeal)
    ∧ quiescent_MlpDownRefIdeal (hMlpDownRefIdeal := hMlpDownRefIdeal)
    ∧ quiescent_Dup (hDup := hDup)
    ∧ quiescent_DupIdeal (hDupIdeal := hDupIdeal)
    ∧ quiescent_DupRefIdeal (hDupRefIdeal := hDupRefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_Dyb (hDyb := hDyb)
    ∧ quiescent_DybIdeal (hDybIdeal := hDybIdeal)
    ∧ quiescent_DybRefIdeal (hDybRefIdeal := hDybRefIdeal)
    ∧ quiescent_Dya (hDya := hDya)
    ∧ quiescent_DyaIdeal (hDyaIdeal := hDyaIdeal)
    ∧ quiescent_DyaRefIdeal (hDyaRefIdeal := hDyaRefIdeal)
    ∧ quiescent_Dh (hDh := hDh)
    ∧ quiescent_DhIdeal (hDhIdeal := hDhIdeal)
    ∧ quiescent_DhRefIdeal (hDhRefIdeal := hDhRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_DwPb (hDwPb := hDwPb)
    ∧ quiescent_DwPbIdeal (hDwPbIdeal := hDwPbIdeal)
    ∧ quiescent_DwPbRefIdeal (hDwPbRefIdeal := hDwPbRefIdeal)
    ∧ quiescent_DwPa (hDwPa := hDwPa)
    ∧ quiescent_DwPaIdeal (hDwPaIdeal := hDwPaIdeal)
    ∧ quiescent_DwPaRefIdeal (hDwPaRefIdeal := hDwPaRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_ProjB (hProjB := hProjB)
    ∧ quiescent_ProjBIdeal (hProjBIdeal := hProjBIdeal)
    ∧ quiescent_ProjBRefIdeal (hProjBRefIdeal := hProjBRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_ProjDt (hProjDt := hProjDt)
    ∧ quiescent_ProjDtIdeal (hProjDtIdeal := hProjDtIdeal)
    ∧ quiescent_ProjDtRefIdeal (hProjDtRefIdeal := hProjDtRefIdeal)
    ∧ quiescent_DwDt (hDwDt := hDwDt)
    ∧ quiescent_DwDtIdeal (hDwDtIdeal := hDwDtIdeal)
    ∧ quiescent_DwDtRefIdeal (hDwDtRefIdeal := hDwDtRefIdeal)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MergeBwd (hMergeBwd := hMergeBwd)
    ∧ quiescent_MergeBwdIdeal (hMergeBwdIdeal := hMergeBwdIdeal)
    ∧ quiescent_MergeBwdRefIdeal (hMergeBwdRefIdeal := hMergeBwdRefIdeal)
    ∧ quiescent_GmlpFwd (hGmlpFwd := hGmlpFwd)
    ∧ quiescent_GmlpFwdIdeal (hGmlpFwdIdeal := hGmlpFwdIdeal)
    ∧ quiescent_GmlpFwdRefIdeal (hGmlpFwdRefIdeal := hGmlpFwdRefIdeal)
    ∧ quiescent_RmsMlpBwd (hRmsMlpBwd := hRmsMlpBwd)
    ∧ quiescent_RmsMlpBwdIdeal (hRmsMlpBwdIdeal := hRmsMlpBwdIdeal)
    ∧ quiescent_RmsMlpBwdRefIdeal (hRmsMlpBwdRefIdeal := hRmsMlpBwdRefIdeal)
    ∧ quiescent_RmsMixBwd (hRmsMixBwd := hRmsMixBwd)
    ∧ quiescent_RmsMixBwdIdeal (hRmsMixBwdIdeal := hRmsMixBwdIdeal)
    ∧ quiescent_RmsMixBwdRefIdeal (hRmsMixBwdRefIdeal := hRmsMixBwdRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwXbc_DwXbcIdeal
    ∧ algebraic_DwXbcIdeal_DwXbcRefIdeal (hDwXbcIdeal := hDwXbcIdeal) (hDwXbcRefIdeal := hDwXbcRefIdeal)
    ∧ preserves_DwWide_DwWideIdeal
    ∧ algebraic_DwWideIdeal_DwWideRefIdeal (hDwWideIdeal := hDwWideIdeal) (hDwWideRefIdeal := hDwWideRefIdeal)
    ∧ preserves_ProjXbc_ProjXbcIdeal
    ∧ algebraic_ProjXbcIdeal_ProjXbcRefIdeal (hProjXbcIdeal := hProjXbcIdeal) (hProjXbcRefIdeal := hProjXbcRefIdeal)
    ∧ preserves_ProjWide_ProjWideIdeal
    ∧ algebraic_ProjWideIdeal_ProjWideRefIdeal (hProjWideIdeal := hProjWideIdeal) (hProjWideRefIdeal := hProjWideRefIdeal)
    ∧ preserves_ProjA_ProjAIdeal
    ∧ algebraic_ProjAIdeal_ProjARefIdeal (hProjAIdeal := hProjAIdeal) (hProjARefIdeal := hProjARefIdeal)
    ∧ preserves_MlpUp_MlpUpIdeal
    ∧ algebraic_MlpUpIdeal_MlpUpRefIdeal (hMlpUpIdeal := hMlpUpIdeal) (hMlpUpRefIdeal := hMlpUpRefIdeal)
    ∧ preserves_MlpDown_MlpDownIdeal
    ∧ algebraic_MlpDownIdeal_MlpDownRefIdeal (hMlpDownIdeal := hMlpDownIdeal) (hMlpDownRefIdeal := hMlpDownRefIdeal)
    ∧ preserves_Dup_DupIdeal
    ∧ algebraic_DupIdeal_DupRefIdeal (hDupIdeal := hDupIdeal) (hDupRefIdeal := hDupRefIdeal)
    ∧ preserves_Dh2_Dh2Ideal
    ∧ algebraic_Dh2Ideal_Dh2RefIdeal (hDh2Ideal := hDh2Ideal) (hDh2RefIdeal := hDh2RefIdeal)
    ∧ preserves_Dyb_DybIdeal
    ∧ algebraic_DybIdeal_DybRefIdeal (hDybIdeal := hDybIdeal) (hDybRefIdeal := hDybRefIdeal)
    ∧ preserves_Dya_DyaIdeal
    ∧ algebraic_DyaIdeal_DyaRefIdeal (hDyaIdeal := hDyaIdeal) (hDyaRefIdeal := hDyaRefIdeal)
    ∧ preserves_Dh_DhIdeal
    ∧ algebraic_DhIdeal_DhRefIdeal (hDhIdeal := hDhIdeal) (hDhRefIdeal := hDhRefIdeal)
    ∧ preserves_DwDown_DwDownIdeal
    ∧ algebraic_DwDownIdeal_DwDownRefIdeal (hDwDownIdeal := hDwDownIdeal) (hDwDownRefIdeal := hDwDownRefIdeal)
    ∧ preserves_DwUp_DwUpIdeal
    ∧ algebraic_DwUpIdeal_DwUpRefIdeal (hDwUpIdeal := hDwUpIdeal) (hDwUpRefIdeal := hDwUpRefIdeal)
    ∧ preserves_DwPb_DwPbIdeal
    ∧ algebraic_DwPbIdeal_DwPbRefIdeal (hDwPbIdeal := hDwPbIdeal) (hDwPbRefIdeal := hDwPbRefIdeal)
    ∧ preserves_DwPa_DwPaIdeal
    ∧ algebraic_DwPaIdeal_DwPaRefIdeal (hDwPaIdeal := hDwPaIdeal) (hDwPaRefIdeal := hDwPaRefIdeal)
    ∧ preserves_DwOut_DwOutIdeal
    ∧ algebraic_DwOutIdeal_DwOutRefIdeal (hDwOutIdeal := hDwOutIdeal) (hDwOutRefIdeal := hDwOutRefIdeal)
    ∧ preserves_ProjB_ProjBIdeal
    ∧ algebraic_ProjBIdeal_ProjBRefIdeal (hProjBIdeal := hProjBIdeal) (hProjBRefIdeal := hProjBRefIdeal)
    ∧ preserves_OutProj_OutProjIdeal
    ∧ algebraic_OutProjIdeal_OutProjRefIdeal (hOutProjIdeal := hOutProjIdeal) (hOutProjRefIdeal := hOutProjRefIdeal)
    ∧ preserves_ProjDt_ProjDtIdeal
    ∧ algebraic_ProjDtIdeal_ProjDtRefIdeal (hProjDtIdeal := hProjDtIdeal) (hProjDtRefIdeal := hProjDtRefIdeal)
    ∧ preserves_DwDt_DwDtIdeal
    ∧ algebraic_DwDtIdeal_DwDtRefIdeal (hDwDtIdeal := hDwDtIdeal) (hDwDtRefIdeal := hDwDtRefIdeal)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MergeBwd_MergeBwdIdeal
    ∧ algebraic_MergeBwdIdeal_MergeBwdRefIdeal (hMergeBwdIdeal := hMergeBwdIdeal) (hMergeBwdRefIdeal := hMergeBwdRefIdeal)
    ∧ preserves_GmlpFwd_GmlpFwdIdeal
    ∧ algebraic_GmlpFwdIdeal_GmlpFwdRefIdeal (hGmlpFwdIdeal := hGmlpFwdIdeal) (hGmlpFwdRefIdeal := hGmlpFwdRefIdeal)
    ∧ preserves_RmsMlpBwd_RmsMlpBwdIdeal
    ∧ algebraic_RmsMlpBwdIdeal_RmsMlpBwdRefIdeal (hRmsMlpBwdIdeal := hRmsMlpBwdIdeal) (hRmsMlpBwdRefIdeal := hRmsMlpBwdRefIdeal)
    ∧ preserves_RmsMixBwd_RmsMixBwdIdeal
    ∧ algebraic_RmsMixBwdIdeal_RmsMixBwdRefIdeal (hRmsMixBwdIdeal := hRmsMixBwdIdeal) (hRmsMixBwdRefIdeal := hRmsMixBwdRefIdeal)
-- ==== Pre_finite.lean ====
abbrev S8192x2048 : Shape := ⟨2, ![8192, 2048]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S8x128x128 : S_.BroadcastsInDim S8x128x128 (![] : Fin 0 → Fin S8x128x128.rank)
  reducesTo_S8x128x128_S_d0_1_2 : S8x128x128.ReducesTo [0, 1, 2] S_
  bcast_S_S8x128 : S_.BroadcastsInDim S8x128 (![] : Fin 0 → Fin S8x128.rank)
  reducesTo_S8x128_S_d0_1 : S8x128.ReducesTo [0, 1] S_

variable [Facts]

def fn_part1 {F : FTy → Type} [FloatOps F] (main_arg4 : FVec F S8x128x128 .f32) (main_arg5 : FVec F S8x128 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S8x128x128 .f32 := Host.absf main_arg4
  let main_cst_6 : FVec F S_ .f32 := constant S_ .f32 0x7F800000#32
  let main_v20 : FVec F S8x128x128 .f32 := broadcastInDim S8x128x128 ![] bcast_S_S8x128x128 main_cst_6
  let main_v21 : IVec S8x128x128 1 := cmpf .olt main_v19 main_v20
  let main_c_7 : IVec S_ 1 := constantI S_ 1 1#1
  let main_v22 : IVec S_ 1 := (fun x v => Host.reduce IntOp.andi x v reducesTo_S8x128x128_S_d0_1_2 h_S_) main_v21 main_c_7
  let main_v23 : IVec S_ 1 := andi main_v18 main_v22
  let main_v24 : FVec F S8x128 .f32 := Host.absf main_arg5
  let main_cst_8 : FVec F S_ .f32 := constant S_ .f32 0x7F800000#32
  let main_v25 : FVec F S8x128 .f32 := broadcastInDim S8x128 ![] bcast_S_S8x128 main_cst_8
  let main_v26 : IVec S8x128 1 := cmpf .olt main_v24 main_v25
  let main_c_9 : IVec S_ 1 := constantI S_ 1 1#1
  let main_v27 : IVec S_ 1 := (fun x v => Host.reduce IntOp.andi x v reducesTo_S8x128_S_d0_1 h_S_) main_v26 main_c_9
  let main_v28 : IVec S_ 1 := andi main_v23 main_v27
  main_v28

def fn {F : FTy → Type} [FloatOps F] (main_arg0 : FVec F S8192x2048 .f32) (main_arg1 : FVec F S8192x1024 .f32) (main_arg2 : FVec F S1x1024 .f32) (main_arg3 : FVec F S1x1024 .f32) (main_arg4 : FVec F S8x128x128 .f32) (main_arg5 : FVec F S8x128 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Kernel.lean ====
abbrev S8192x2048 : Shape := ⟨2, ![8192, 2048]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S_ : Shape := ⟨0, ![]⟩
abbrev S128x128 : Shape := ⟨2, ![128, 128]⟩
abbrev S1024x2048 : Shape := ⟨2, ![1024, 2048]⟩
abbrev S1024x1024 : Shape := ⟨2, ![1024, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩
abbrev S1x128 : Shape := ⟨2, ![1, 128]⟩

abbrev nBuf : Space → Nat
  | .hbm => 15
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8x128x128, .f32⟩
  | .hbm, ⟨5, _⟩ => ⟨S8x128, .f32⟩
  | .hbm, ⟨6, _⟩ => ⟨S128x8, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S8192x2048, .bf16⟩
  | .hbm, ⟨11, _⟩ => ⟨S8x128x128, .f32⟩
  | .hbm, ⟨12, _⟩ => ⟨S128x128, .f32⟩
  | .hbm, ⟨13, _⟩ => ⟨S1x1024, .f32⟩
  | .hbm, ⟨14, _⟩ => ⟨S1x1024, .f32⟩
  | .local _ .vmem, ⟨0, _⟩ => ⟨S1024x2048, .f32⟩
  | .local _ .vmem, ⟨1, _⟩ => ⟨S1024x2048, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S128x128, .f32⟩
  | .local _ .vmem, ⟨8, _⟩ => ⟨S1024x2048, .bf16⟩
  | .local _ .vmem, ⟨9, _⟩ => ⟨S1024x2048, .bf16⟩
  | .local _ .vmem, ⟨10, _⟩ => ⟨S8x128x128, .f32⟩
  | .local _ .vmem, ⟨11, _⟩ => ⟨S128x128, .f32⟩
  | .local _ .vmem, ⟨12, _⟩ => ⟨S1x1024, .f32⟩
  | .local _ .vmem, ⟨13, _⟩ => ⟨S1x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | "inv_sqrt2pi" => some (((Real.sqrt (2 * Real.pi))⁻¹ : ℝ) : EReal)
  | _ => none
-- ==== ReferenceIdeal.lean ====
abbrev S8192x2048 : Shape := ⟨2, ![8192, 2048]⟩
abbrev S8192x1024 : Shape := ⟨2, ![8192, 1024]⟩
abbrev S1x1024 : Shape := ⟨2, ![1, 1024]⟩
abbrev S8x128x128 : Shape := ⟨3, ![8, 128, 128]⟩
abbrev S8x128 : Shape := ⟨2, ![8, 128]⟩
abbrev S1x8192x2048 : Shape := ⟨3, ![1, 8192, 2048]⟩
abbrev S1024 : Shape := ⟨1, ![1024]⟩
abbrev S_ : Shape := ⟨0, ![]⟩
abbrev S1x8192x1024 : Shape := ⟨3, ![1, 8192, 1024]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S1x128x8 : Shape := ⟨3, ![1, 128, 8]⟩
abbrev S8192 : Shape := ⟨1, ![8192]⟩

abbrev nBuf : Space → Nat
  | .hbm => 179
  | .vmem => 0
  | .smem => 0
  | _ => 0

abbrev hbmTy0_0 (i : Nat) : BufTy := match i % 128 with
  | 0 => ⟨S8192x2048, .f32⟩
  | 1 => ⟨S8192x1024, .f32⟩
  | 2 => ⟨S1x1024, .f32⟩
  | 3 => ⟨S1x1024, .f32⟩
  | 4 => ⟨S8x128x128, .f32⟩
  | 5 => ⟨S8x128, .f32⟩
  | 6 => ⟨S1x8192x2048, .f32⟩
  | 7 => ⟨S1024, .f32⟩
  | 8 => ⟨S1024, .f32⟩
  | 9 => ⟨S_, .f32⟩
  | 10 => ⟨S1x8192x2048, .f32⟩
  | 11 => ⟨S1x8192x2048, .f32⟩
  | 12 => ⟨S1x8192x2048, .f32⟩
  | 13 => ⟨S_, .f32⟩
  | 14 => ⟨S_, .f32⟩
  | 15 => ⟨S1x8192x2048, .f32⟩
  | 16 => ⟨S1x8192x2048, .f32⟩
  | 17 => ⟨S1x8192x2048, .f32⟩
  | 18 => ⟨S_, .f32⟩
  | 19 => ⟨S_, .f32⟩
  | 20 => ⟨S_, .f32⟩
  | 21 => ⟨S_, .f32⟩
  | 22 => ⟨S_, .f32⟩
  | 23 => ⟨S1x8192x2048, .f32⟩
  | 24 => ⟨S1x8192x2048, .f32⟩
  | 25 => ⟨S1x8192x2048, .f32⟩
  | 26 => ⟨S1x8192x2048, .f32⟩
  | 27 => ⟨S1x8192x2048, .f32⟩
  | 28 => ⟨S1x8192x2048, .f32⟩
  | 29 => ⟨S1x8192x1024, .f32⟩
  | 30 => ⟨S1x8192x1024, .f32⟩
  | 31 => ⟨S_, .f32⟩
  | 32 => ⟨S1x8192, .f32⟩
  | 33 => ⟨S1x8192x1, .f32⟩
  | 34 => ⟨S_, .f32⟩
  | 35 => ⟨S1x8192x1, .f32⟩
  | 36 => ⟨S1x8192x1, .f32⟩
  | 37 => ⟨S1x8192x1024, .f32⟩
  | 38 => ⟨S1x8192x1024, .f32⟩
  | 39 => ⟨S1x8192x1024, .f32⟩
  | 40 => ⟨S_, .f32⟩
  | 41 => ⟨S1x8192x1024, .f32⟩
  | 42 => ⟨S1x8192x1024, .f32⟩
  | 43 => ⟨S_, .f32⟩
  | 44 => ⟨S1x8192, .f32⟩
  | 45 => ⟨S1x8192x1, .f32⟩
  | 46 => ⟨S_, .f32⟩
  | 47 => ⟨S1x8192x1, .f32⟩
  | 48 => ⟨S1x8192x1, .f32⟩
  | 49 => ⟨S1x8192x1024, .f32⟩
  | 50 => ⟨S1x8192x1024, .f32⟩
  | 51 => ⟨S_, .f32⟩
  | 52 => ⟨S1x8192x1, .f32⟩
  | 53 => ⟨S1x8192x1, .f32⟩
  | 54 => ⟨S1x8192x1, .f32⟩
  | 55 => ⟨S1x8192x1, .f32⟩
  | 56 => ⟨S_, .f32⟩
  | 57 => ⟨S1x8192x1, .f32⟩
  | 58 => ⟨S1x8192x1, .f32⟩
  | 59 => ⟨S1x8192x1024, .f32⟩
  | 60 => ⟨S1x8192x1024, .f32⟩
  | 61 => ⟨S1x1x1024, .f32⟩
  | 62 => ⟨S1x8192x1024, .f32⟩
  | 63 => ⟨S1x8192x1024, .f32⟩
  | 64 => ⟨S1x1x1024, .f32⟩
  | 65 => ⟨S1x8192x1024, .f32⟩
  | 66 => ⟨S1x8192x1024, .f32⟩
  | 67 => ⟨S1x64x128x8x128, .f32⟩
  | 68 => ⟨S_, .i1⟩
  | 69 => ⟨S128x128, .i1⟩
  | 70 => ⟨S128x128, .i32⟩
  | 71 => ⟨S_, .i32⟩
  | 72 => ⟨S128x128, .i32⟩
  | 73 => ⟨S128x128, .i32⟩
  | 74 => ⟨S128x128, .i32⟩
  | 75 => ⟨S128x128, .i1⟩
  | 76 => ⟨S_, .i1⟩
  | 77 => ⟨S128x128, .i1⟩
  | 78 => ⟨S128x128, .i1⟩
  | 79 => ⟨S1x128x128, .i1⟩
  | 80 => ⟨S_, .f32⟩
  | 81 => ⟨S8x128x128, .f32⟩
  | 82 => ⟨S8x128x128, .i1⟩
  | 83 => ⟨S8x128x128, .f32⟩
  | 84 => ⟨S_, .f32⟩
  | 85 => ⟨S8x128x128, .f32⟩
  | 86 => ⟨S8x1x64x128x128, .f32⟩
  | 87 => ⟨S1x64x128x8x128, .f32⟩
  | 88 => ⟨S128x8, .f32⟩
  | 89 => ⟨S1x1x128x8x1, .f32⟩
  | 90 => ⟨S1x64x128x8x128, .f32⟩
  | 91 => ⟨S1x64x128x8x128, .f32⟩
  | 92 => ⟨S1x8192x1024, .f32⟩
  | 93 => ⟨S1x8192x1024, .f32⟩
  | 94 => ⟨S8192x1024, .f32⟩
  | 95 => ⟨S1x8192x1024, .f32⟩
  | 96 => ⟨S1x8192x1024, .f32⟩
  | 97 => ⟨S1x8192x1024, .f32⟩
  | 98 => ⟨S1x64x128x8x128, .f32⟩
  | 99 => ⟨S_, .f32⟩
  | 100 => ⟨S1x128x8, .f32⟩
  | 101 => ⟨S1x1x128x8x1, .f32⟩
  | 102 => ⟨S_, .f32⟩
  | 103 => ⟨S128x8, .f32⟩
  | 104 => ⟨S8x128, .f32⟩
  | 105 => ⟨S8x1x64x128x128, .f32⟩
  | 106 => ⟨S8x128x128, .f32⟩
  | 107 => ⟨S8x1x64x128x128, .f32⟩
  | 108 => ⟨S1x64x128x8x128, .f32⟩
  | 109 => ⟨S_, .f32⟩
  | 110 => ⟨S8x128x128, .f32⟩
  | 111 => ⟨S8x128x128, .f32⟩
  | 112 => ⟨S1x8192x1024, .f32⟩
  | 113 => ⟨S_, .f32⟩
  | 114 => ⟨S1x1024, .f32⟩
  | 115 => ⟨S1x1x1024, .f32⟩
  | 116 => ⟨S_, .f32⟩
  | 117 => ⟨S1024, .f32⟩
  | 118 => ⟨S1x8192x1024, .f32⟩
  | 119 => ⟨S_, .f32⟩
  | 120 => ⟨S1x1024, .f32⟩
  | 121 => ⟨S1x1x1024, .f32⟩
  | 122 => ⟨S1x8192x1024, .f32⟩
  | 123 => ⟨S1x8192x1024, .f32⟩
  | 124 => ⟨S_, .f32⟩
  | 125 => ⟨S1024, .f32⟩
  | 126 => ⟨S1x8192x1024, .f32⟩
  | 127 => ⟨S_, .f32⟩
  | _ => ⟨S8192x2048, .f32⟩

abbrev hbmTy0_1 (i : Nat) : BufTy := match i % 128 with
  | 0 => ⟨S1x8192, .f32⟩
  | 1 => ⟨S1x8192x1, .f32⟩
  | 2 => ⟨S1x8192x1024, .f32⟩
  | 3 => ⟨S1x8192x1024, .f32⟩
  | 4 => ⟨S1x8192x1, .f32⟩
  | 5 => ⟨S1x8192x1024, .f32⟩
  | 6 => ⟨S_, .f32⟩
  | 7 => ⟨S1x8192, .f32⟩
  | 8 => ⟨S1x8192x1, .f32⟩
  | 9 => ⟨S_, .f32⟩
  | 10 => ⟨S1x8192x1, .f32⟩
  | 11 => ⟨S1x8192x1, .f32⟩
  | 12 => ⟨S_, .f32⟩
  | 13 => ⟨S8192, .f32⟩
  | 14 => ⟨S1x8192, .f32⟩
  | 15 => ⟨S1x8192x1024, .f32⟩
  | 16 => ⟨S1x8192x1024, .f32⟩
  | 17 => ⟨S1x8192x1024, .f32⟩
  | 18 => ⟨S_, .f32⟩
  | 19 => ⟨S1x8192, .f32⟩
  | 20 => ⟨S1x8192x1, .f32⟩
  | 21 => ⟨S1x8192x1024, .f32⟩
  | 22 => ⟨S1x8192x1, .f32⟩
  | 23 => ⟨S_, .f32⟩
  | 24 => ⟨S1x8192x1, .f32⟩
  | 25 => ⟨S1x8192x1, .f32⟩
  | 26 => ⟨S_, .f32⟩
  | 27 => ⟨S8192, .f32⟩
  | 28 => ⟨S1x8192, .f32⟩
  | 29 => ⟨S1x8192x1024, .f32⟩
  | 30 => ⟨S1x8192x1024, .f32⟩
  | 31 => ⟨S1x8192x2048, .f32⟩
  | 32 => ⟨S1x8192x2048, .f32⟩
  | 33 => ⟨S1x8192x2048, .f32⟩
  | 34 => ⟨S1x8192x2048, .f32⟩
  | 35 => ⟨S1x8192x2048, .f32⟩
  | 36 => ⟨S1x8192x2048, .f32⟩
  | 37 => ⟨S1x8192x2048, .f32⟩
  | 38 => ⟨S_, .f32⟩
  | 39 => ⟨S1x8192x2048, .f32⟩
  | 40 => ⟨S1x8192x2048, .f32⟩
  | 41 => ⟨S1x8192x2048, .f32⟩
  | 42 => ⟨S1x1024, .f32⟩
  | 43 => ⟨S1x1024, .f32⟩
  | 44 => ⟨S_, .f32⟩
  | 45 => ⟨S8192x2048, .f32⟩
  | 46 => ⟨S8192x2048, .bf16⟩
  | 47 => ⟨S128x8, .f32⟩
  | 48 => ⟨S_, .i32⟩
  | 49 => ⟨S_, .f32⟩
  | 50 => ⟨S128x128, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c : Ref sig .tc := ⟨.hbm, 68, rfl⟩
abbrev main_v51 : Ref sig .tc := ⟨.hbm, 69, rfl⟩
abbrev main_call0_v0 : Ref sig .tc := ⟨.hbm, 70, rfl⟩
abbrev main_call0_c : Ref sig .tc := ⟨.hbm, 71, rfl⟩
abbrev main_call0_v1 : Ref sig .tc := ⟨.hbm, 72, rfl⟩
abbrev main_call0_v2 : Ref sig .tc := ⟨.hbm, 73, rfl⟩
abbrev main_call0_v3 : Ref sig .tc := ⟨.hbm, 74, rfl⟩
abbrev main_call0_v4 : Ref sig .tc := ⟨.hbm, 75, rfl⟩
abbrev main_call0_c_0 : Ref sig .tc := ⟨.hbm, 76, rfl⟩
abbrev main_call0_v5 : Ref sig .tc := ⟨.hbm, 77, rfl⟩
abbrev main_v52 : Ref sig .tc := ⟨.hbm, 78, rfl⟩
abbrev main_v53 : Ref sig .tc := ⟨.hbm, 79, rfl⟩
abbrev main_cst_10 : Ref sig .tc := ⟨.hbm, 80, rfl⟩
abbrev main_v54 : Ref sig .tc := ⟨.hbm, 81, rfl⟩
abbrev main_v55_1 : Ref sig .tc := ⟨.hbm, 82, rfl⟩
abbrev main_v55_0 : Ref sig .tc := ⟨.hbm, 83, rfl⟩
abbrev main_call1_cst : Ref sig .tc := ⟨.hbm, 84, rfl⟩
abbrev main_v55_2 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_cst_12 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_call2_cst : Ref sig .tc := ⟨.hbm, 109, rfl⟩
abbrev main_call2_v0 : Ref sig .tc := ⟨.hbm, 110, rfl⟩
abbrev main_v77 : Ref sig .tc := ⟨.hbm, 111, rfl⟩
abbrev main_v78 : Ref sig .tc := ⟨.hbm, 112, rfl⟩
abbrev main_cst_13 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_cst_15 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_16 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_18 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_cst_20 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_21 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_22 : Ref sig .tc := ⟨.hbm, 151, rfl⟩
abbrev main_v108 : Ref sig .tc := ⟨.hbm, 152, rfl⟩
abbrev main_v109 : Ref sig .tc := ⟨.hbm, 153, rfl⟩
abbrev main_cst_23 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_24 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_25 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_c_26 : Ref sig .tc := ⟨.hbm, 176, rfl⟩
abbrev main_call3_v0 : Ref sig .tc := ⟨.hbm, 177, rfl⟩
abbrev main_v129 : Ref sig .tc := ⟨.hbm, 178, rfl⟩

abbrev nD : Nat := 1
abbrev τ : Topo := Topo.v7x

variable {F : FTy → Type} [FloatOps F]
-- ==== DwXbc.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXbcIdeal.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwXbcRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwWide.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwWideRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjXbc.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXbcIdeal.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjXbcRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjWide.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .bf16⟩
  | .hbm, ⟨3, _⟩ => ⟨S1024x2048, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjWideRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjA.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjARefIdeal.lean ====
abbrev S8192x1024 : Shape := ⟨2, ![8192, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlpUp.lean ====
abbrev S8192x1024 : Shape := ⟨2, ![8192, 1024]⟩
abbrev S1024x4096 : Shape := ⟨2, ![1024, 4096]⟩
abbrev S8192x4096 : Shape := ⟨2, ![8192, 4096]⟩
abbrev S1024x1024 : Shape := ⟨2, ![1024, 1024]⟩
abbrev S1024x2048 : Shape := ⟨2, ![1024, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x1024, .bf16⟩
  | .hbm, ⟨3, _⟩ => ⟨S1024x4096, .bf16⟩
  | .hbm, ⟨4, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpUpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MlpDown.lean ====
abbrev S8192x4096 : Shape := ⟨2, ![8192, 4096]⟩
abbrev S4096x1024 : Shape := ⟨2, ![4096, 1024]⟩
abbrev S8192x1024 : Shape := ⟨2, ![8192, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S4096x1024, .bf16⟩
  | .hbm, ⟨5, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpDownRefIdeal.lean ====
abbrev S8192x4096 : Shape := ⟨2, ![8192, 4096]⟩
abbrev S4096x1024 : Shape := ⟨2, ![4096, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Dup.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .bf16⟩
  | .hbm, ⟨8, _⟩ => ⟨S8192x1024, .bf16⟩
  | .hbm, ⟨9, _⟩ => ⟨S4096x1024, .bf16⟩
  | .hbm, ⟨10, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .bf16⟩
  | .local _ .vmem, ⟨7, _⟩ => ⟨S1024x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DupRefIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .i1⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x1024, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Dh2.lean ====
abbrev S1024x4096 : Shape := ⟨2, ![1024, 4096]⟩
abbrev S8192x4096 : Shape := ⟨2, ![8192, 4096]⟩
abbrev S8192x1024 : Shape := ⟨2, ![8192, 1024]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S8192x4096, .bf16⟩
  | .hbm, ⟨3, _⟩ => ⟨S1024x4096, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2RefIdeal.lean ====
abbrev S1024x4096 : Shape := ⟨2, ![1024, 4096]⟩
abbrev S8192x4096 : Shape := ⟨2, ![8192, 4096]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S8192x4096, .f32⟩
  | .hbm, ⟨2, _⟩ => ⟨S_, .f32⟩
  | .hbm, ⟨3, _⟩ => ⟨S8192x1024, .f32⟩
  | .hbm, ⟨4, _⟩ => ⟨S8192x4096, .f32⟩
  | .hbm, ⟨5, _⟩ => ⟨S8192x1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dyb.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S8192x1024, .bf16⟩
  | .hbm, ⟨3, _⟩ => ⟨S2048x1024, .bf16⟩
  | .hbm, ⟨4, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DybRefIdeal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S8192x1024, .f32⟩
  | .hbm, ⟨2, _⟩ => ⟨S_, .f32⟩
  | .hbm, ⟨3, _⟩ => ⟨S8192x2048, .f32⟩
  | .hbm, ⟨4, _⟩ => ⟨S8192x1024, .f32⟩
  | .hbm, ⟨5, _⟩ => ⟨S8192x2048, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dya.lean ====
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 5
  | .vmem => 5
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .hbm, ⟨4, _⟩ => ⟨S8192x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DyaRefIdeal.lean ====
abbrev S1024x1024 : Shape := ⟨2, ![1024, 1024]⟩
abbrev S8192x1024 : Shape := ⟨2, ![8192, 1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .f32⟩
  | .hbm, ⟨3, _⟩ => ⟨S8192x1024, .f32⟩
  | .hbm, ⟨4, _⟩ => ⟨S8192x1024, .f32⟩
  | .hbm, ⟨5, _⟩ => ⟨S8192x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Dh.lean ====
abbrev S1024x10272 : Shape := ⟨2, ![1024, 10272]⟩
abbrev S8192x10272 : Shape := ⟨2, ![8192, 10272]⟩
abbrev S1024x2048 : Shape := ⟨2, ![1024, 2048]⟩
abbrev S1024x4096 : Shape := ⟨2, ![1024, 4096]⟩
abbrev S1024x32 : Shape := ⟨2, ![1024, 32]⟩
abbrev S_ : Shape := ⟨0, ![]⟩
abbrev S1024x128 : Shape := ⟨2, ![1024, 128]⟩
abbrev S8192x2048 : Shape := ⟨2, ![8192, 2048]⟩
abbrev S8192x4096 : Shape := ⟨2, ![8192, 4096]⟩
abbrev S8192x32 : Shape := ⟨2, ![8192, 32]⟩
abbrev S8192x128 : Shape := ⟨2, ![8192, 128]⟩
abbrev S8192x1024 : Shape := ⟨2, ![8192, 1024]⟩
abbrev S1024x1024 : Shape := ⟨2, ![1024, 1024]⟩

abbrev nBuf : Space → Nat
  | .hbm => 21
  | .vmem => 23
  | .smem => 0
  | _ => 0

abbrev bufTy : (tb : Table) → Fin (tcTables nBuf tb) → BufTy
  | .hbm, ⟨0, _⟩ => ⟨S1024x10272, .f32⟩
  | .hbm, ⟨1, _⟩ => ⟨S8192x10272, .f32⟩
  | .hbm, ⟨2, _⟩ => ⟨S1024x10272, .bf16⟩
  | .hbm, ⟨3, _⟩ => ⟨S1024x2048, .bf16⟩
  | .hbm, ⟨4, _⟩ => ⟨S1024x2048, .bf16⟩
  | .hbm, ⟨5, _⟩ => ⟨S1024x4096, .bf16⟩
  | .hbm, ⟨6, _⟩ => ⟨S1024x32, .bf16⟩
  | .hbm, ⟨7, _⟩ => ⟨S1024x2048, .bf16⟩
  | .hbm, ⟨8, _⟩ => ⟨S_, .i32⟩
  | .hbm, ⟨9, _⟩ => ⟨S_, .bf16⟩
  | .hbm, ⟨10, _⟩ => ⟨S1024x128, .bf16⟩
  | .hbm, ⟨11, _⟩ => ⟨S8192x10272, .bf16⟩
  | .hbm, ⟨12, _⟩ => ⟨S8192x2048, .bf16⟩
  | .hbm, ⟨13, _⟩ => ⟨S8192x2048, .bf16⟩
  | .hbm, ⟨14, _⟩ => ⟨S8192x4096, .bf16⟩
  | .hbm, ⟨15, _⟩ => ⟨S8192x32, .bf16⟩
  | .hbm, ⟨16, _⟩ => ⟨S8192x2048, .bf16⟩
  | .hbm, ⟨17, _⟩ => ⟨S_, .i32⟩
  | .hbm, ⟨18, _⟩ => ⟨S_, .bf16⟩
  | .hbm, ⟨19, _⟩ => ⟨S8192x128, .bf16⟩
  | .hbm, ⟨20, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x128, .bf16⟩
  | .local _ .vmem, ⟨20, _⟩ => ⟨S1024x1024, .f32⟩
  | .local _ .vmem, ⟨21, _⟩ => ⟨S1024x1024, .f32⟩
  | .local _ .vmem, ⟨22, _⟩ => ⟨S1024x1024, .f32⟩
  | _, _ => ⟨S1024x10272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_call1_v0 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 11], ![false, false]⟩

def k0_cond7 (i : grid0.Coords) : BitVec 1 :=
  let arg1 : BitVec 32 := BitVec.ofNat 32 (i 1).val
  let c10_i32_11 : BitVec 32 := 10#32
  let v28 : BitVec 1 := Scalar.cmpi .eq arg1 c10_i32_11
  let v29 : BitVec 32 := Scalar.extui v28
  let c0_i32_12 : BitVec 32 := 0#32
  let v30 : BitVec 1 := Scalar.cmpi .ne v29 c0_i32_12
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  ![c0_i32_1.toNat, v2.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  ![c0_i32_0.toNat, v2.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  let c0_i32_1 : BitVec 32 := 0#32
  ![c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.subi arg1 c10_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== DhRefIdeal.lean ====
abbrev S1024x10272 : Shape := ⟨2, ![1024, 10272]⟩
abbrev S8192x10272 : Shape := ⟨2, ![8192, 10272]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x10272, .f32⟩
  | .hbm, ⟨1, _⟩ => ⟨S8192x10272, .f32⟩
  | .hbm, ⟨2, _⟩ => ⟨S_, .f32⟩
  | .hbm, ⟨3, _⟩ => ⟨S8192x1024, .f32⟩
  | .hbm, ⟨4, _⟩ => ⟨S8192x10272, .f32⟩
  | .hbm, ⟨5, _⟩ => ⟨S8192x1024, .f32⟩
  | _, _ => ⟨S1024x10272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== DwDown.lean ====
abbrev S8192x4096 : Shape := ⟨2, ![8192, 4096]⟩
abbrev S8192x1024 : Shape := ⟨2, ![8192, 1024]⟩
abbrev S4x3072x1024 : Shape := ⟨3, ![4, 3072, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x3072x1024, .f32⟩
  | .hbm, ⟨3, _⟩ => ⟨S8192x4096, .bf16⟩
  | .hbm, ⟨4, _⟩ => ⟨S8192x1024, .bf16⟩
  | .hbm, ⟨5, _⟩ => ⟨S4x3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwDownRefIdeal.lean ====
abbrev S8192x4096 : Shape := ⟨2, ![8192, 4096]⟩
abbrev S8192x1024 : Shape := ⟨2, ![8192, 1024]⟩
abbrev S4x3072x1024 : Shape := ⟨3, ![4, 3072, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩
abbrev S4x0x1024 : Shape := ⟨3, ![4, 0, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S4x3072x1024, .f32⟩
  | .hbm, ⟨3, _⟩ => ⟨S_, .f32⟩
  | .hbm, ⟨4, _⟩ => ⟨S4096x1024, .f32⟩
  | .hbm, ⟨5, _⟩ => ⟨S8192x1024, .f32⟩
  | .hbm, ⟨6, _⟩ => ⟨S1024x4096, .f32⟩
  | .hbm, ⟨7, _⟩ => ⟨S4096x1024, .f32⟩
  | .hbm, ⟨8, _⟩ => ⟨S4x1024x1024, .f32⟩
  | .hbm, ⟨9, _⟩ => ⟨S4x0x1024, .f32⟩
  | .hbm, ⟨10, _⟩ => ⟨S4x2048x1024, .f32⟩
  | .hbm, ⟨11, _⟩ => ⟨S4x3072x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwUp.lean ====
abbrev S8192x1024 : Shape := ⟨2, ![8192, 1024]⟩
abbrev S8192x4096 : Shape := ⟨2, ![8192, 4096]⟩
abbrev S4x3072x1024 : Shape := ⟨3, ![4, 3072, 1024]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4x3072x1024, .f32⟩
  | .hbm, ⟨3, _⟩ => ⟨S8192x1024, .bf16⟩
  | .hbm, ⟨4, _⟩ => ⟨S8192x4096, .bf16⟩
  | .hbm, ⟨5, _⟩ => ⟨S4x3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .f32⟩
  | .local _ .vmem, ⟨5, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwUpRefIdeal.lean ====
abbrev S8192x1024 : Shape := ⟨2, ![8192, 1024]⟩
abbrev S8192x4096 : Shape := ⟨2, ![8192, 4096]⟩
abbrev S4x3072x1024 : Shape := ⟨3, ![4, 3072, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S4x3072x1024, .f32⟩
  | .hbm, ⟨3, _⟩ => ⟨S_, .f32⟩
  | .hbm, ⟨4, _⟩ => ⟨S1024x4096, .f32⟩
  | .hbm, ⟨5, _⟩ => ⟨S8192x4096, .f32⟩
  | .hbm, ⟨6, _⟩ => ⟨S4096x1024, .f32⟩
  | .hbm, ⟨7, _⟩ => ⟨S1024x4096, .f32⟩
  | .hbm, ⟨8, _⟩ => ⟨S1024x4x1024, .f32⟩
  | .hbm, ⟨9, _⟩ => ⟨S4x1024x1024, .f32⟩
  | .hbm, ⟨10, _⟩ => ⟨S4x1024x1024, .f32⟩
  | .hbm, ⟨11, _⟩ => ⟨S4x1024x1024, .f32⟩
  | .hbm, ⟨12, _⟩ => ⟨S4x3072x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== DwPb.lean ====
abbrev S8192x2048 : Shape := ⟨2, ![8192, 2048]⟩
abbrev S8192x1024 : Shape := ⟨2, ![8192, 1024]⟩
abbrev S4x3072x1024 : Shape := ⟨3, ![4, 3072, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x3072x1024, .f32⟩
  | .hbm, ⟨3, _⟩ => ⟨S8192x2048, .bf16⟩
  | .hbm, ⟨4, _⟩ => ⟨S8192x1024, .bf16⟩
  | .hbm, ⟨5, _⟩ => ⟨S4x3072x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  ![arg0.toNat, c4_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwPbRefIdeal.lean ====
abbrev S8192x2048 : Shape := ⟨2, ![8192, 2048]⟩
abbrev S8192x1024 : Shape := ⟨2, ![8192, 1024]⟩
abbrev S4x3072x1024 : Shape := ⟨3, ![4, 3072, 1024]⟩
abbrev S_ : Shape := ⟨0, ![]⟩
abbrev S2048x1024 : Shape := ⟨2, ![2048, 1024]⟩
abbrev S1024x2048 : Shape := ⟨2, ![1024, 2048]⟩
abbrev S4x512x1024 : Shape := ⟨3, ![4, 512, 1024]⟩
abbrev S4x2048x1024 : Shape := ⟨3, ![4, 2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S4x3072x1024, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S1024x2048, .f32⟩
  | .hbm, ⟨7, _⟩ => ⟨S2048x1024, .f32⟩
  | .hbm, ⟨8, _⟩ => ⟨S4x512x1024, .f32⟩
  | .hbm, ⟨9, _⟩ => ⟨S4x2048x1024, .f32⟩
  | .hbm, ⟨10, _⟩ => ⟨S4x512x1024, .f32⟩
  | .hbm, ⟨11, _⟩ => ⟨S4x3072x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwPa.lean ====
abbrev S8192x1024 : Shape := ⟨2, ![8192, 1024]⟩
abbrev S4x3072x1024 : Shape := ⟨3, ![4, 3072, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x3072x1024, .f32⟩
  | .hbm, ⟨3, _⟩ => ⟨S8192x1024, .bf16⟩
  | .hbm, ⟨4, _⟩ => ⟨S8192x1024, .bf16⟩
  | .hbm, ⟨5, _⟩ => ⟨S4x3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwPaRefIdeal.lean ====
abbrev S8192x1024 : Shape := ⟨2, ![8192, 1024]⟩
abbrev S4x3072x1024 : Shape := ⟨3, ![4, 3072, 1024]⟩
abbrev S_ : Shape := ⟨0, ![]⟩
abbrev S1024x1024 : Shape := ⟨2, ![1024, 1024]⟩
abbrev S4x256x1024 : Shape := ⟨3, ![4, 256, 1024]⟩
abbrev S4x2560x1024 : Shape := ⟨3, ![4, 2560, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x3072x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x2560x1024, .f32⟩
  | .hbm, ⟨10, _⟩ => ⟨S4x256x1024, .f32⟩
  | .hbm, ⟨11, _⟩ => ⟨S4x3072x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== DwOut.lean ====
abbrev S8192x1024 : Shape := ⟨2, ![8192, 1024]⟩
abbrev S4x3072x1024 : Shape := ⟨3, ![4, 3072, 1024]⟩
abbrev S2048x1024 : Shape := ⟨2, ![2048, 1024]⟩
abbrev S4x256x1024 : Shape := ⟨3, ![4, 256, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x3072x1024, .f32⟩
  | .hbm, ⟨3, _⟩ => ⟨S8192x1024, .bf16⟩
  | .hbm, ⟨4, _⟩ => ⟨S8192x1024, .bf16⟩
  | .hbm, ⟨5, _⟩ => ⟨S4x3072x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v6 : BitVec 1 := Scalar.cmpi .eq arg2 c0_i32
  let v7 : BitVec 32 := Scalar.extui v6
  let c0_i32_3 : BitVec 32 := 0#32
  let v8 : BitVec 1 := Scalar.cmpi .ne v7 c0_i32_3
  v8

def k0_cond2 (i : grid0.Coords) : BitVec 1 :=
  let arg2 : BitVec 32 := BitVec.ofNat 32 (i 2).val
  let c0_i32_4 : BitVec 32 := 0#32
  let v9 : BitVec 1 := Scalar.cmpi .sgt arg2 c0_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c11_i32 : BitVec 32 := 11#32
  let c0_i32_0 : BitVec 32 := 0#32
  let c0_i32_1 : BitVec 32 := 0#32
  ![c0_i32.toNat, c11_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== DwOutRefIdeal.lean ====
abbrev S8192x1024 : Shape := ⟨2, ![8192, 1024]⟩
abbrev S4x3072x1024 : Shape := ⟨3, ![4, 3072, 1024]⟩
abbrev S_ : Shape := ⟨0, ![]⟩
abbrev S1024x1024 : Shape := ⟨2, ![1024, 1024]⟩
abbrev S4x256x1024 : Shape := ⟨3, ![4, 256, 1024]⟩
abbrev S4x2816x1024 : Shape := ⟨3, ![4, 2816, 1024]⟩
abbrev S4x0x1024 : Shape := ⟨3, ![4, 0, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S4x3072x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S4x256x1024, .f32⟩
  | .hbm, ⟨9, _⟩ => ⟨S4x2816x1024, .f32⟩
  | .hbm, ⟨10, _⟩ => ⟨S4x0x1024, .f32⟩
  | .hbm, ⟨11, _⟩ => ⟨S4x3072x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== ProjB.lean ====
abbrev S8192x2048 : Shape := ⟨2, ![8192, 2048]⟩
abbrev S2048x1024 : Shape := ⟨2, ![2048, 1024]⟩
abbrev S8192x1024 : Shape := ⟨2, ![8192, 1024]⟩
abbrev S1x2048 : Shape := ⟨2, ![1, 2048]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x2048, .bf16⟩
  | .hbm, ⟨6, _⟩ => ⟨S2048x1024, .bf16⟩
  | .hbm, ⟨7, _⟩ => ⟨S8192x1024, .f32⟩
  | .hbm, ⟨8, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ProjBRefIdeal.lean ====
abbrev S8192x2048 : Shape := ⟨2, ![8192, 2048]⟩
abbrev S2048x1024 : Shape := ⟨2, ![2048, 1024]⟩
abbrev S8192x1024 : Shape := ⟨2, ![8192, 1024]⟩
abbrev S1x2048 : Shape := ⟨2, ![1, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x1024, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1024x1024, .bf16⟩
  | .hbm, ⟨6, _⟩ => ⟨S8192x1024, .f32⟩
  | .hbm, ⟨7, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ProjDt.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x1024, .bf16⟩
  | .hbm, ⟨3, _⟩ => ⟨S1024x128, .bf16⟩
  | .hbm, ⟨4, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDtRefIdeal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x128, .f32⟩
  | .hbm, ⟨2, _⟩ => ⟨S8192x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DwDt.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S8192x1024, .bf16⟩
  | .hbm, ⟨3, _⟩ => ⟨S8192x128, .bf16⟩
  | .hbm, ⟨4, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg2 : BitVec 32 := BitVec.ofNat 32 (i 2).val
  let c0_i32_4 : BitVec 32 := 0#32
  let v8 : BitVec 1 := Scalar.cmpi .sgt arg2 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwDtRefIdeal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x128, .f32⟩
  | .hbm, ⟨2, _⟩ => ⟨S_, .f32⟩
  | .hbm, ⟨3, _⟩ => ⟨S1024x128, .f32⟩
  | .hbm, ⟨4, _⟩ => ⟨S8192x128, .f32⟩
  | .hbm, ⟨5, _⟩ => ⟨S128x1024, .f32⟩
  | .hbm, ⟨6, _⟩ => ⟨S1024x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== RmsFwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeBwd.lean ====
abbrev S8192x1024 : Shape := ⟨2, ![8192, 1024]⟩
abbrev S8192x2048 : Shape := ⟨2, ![8192, 2048]⟩
abbrev S1x2048 : Shape := ⟨2, ![1, 2048]⟩
abbrev S512x1024 : Shape := ⟨2, ![512, 1024]⟩
abbrev S1x1024 : Shape := ⟨2, ![1, 1024]⟩
abbrev S512x2048 : Shape := ⟨2, ![512, 2048]⟩
abbrev S1024 : Shape := ⟨1, ![1024]⟩

abbrev nBuf : Space → Nat
  | .hbm => 9
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x1024, .bf16⟩
  | .hbm, ⟨6, _⟩ => ⟨S8192x1024, .bf16⟩
  | .hbm, ⟨7, _⟩ => ⟨S8192x2048, .bf16⟩
  | .hbm, ⟨8, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v49 : BitVec 1 := Scalar.cmpi .eq arg0 c0_i32
  let v50 : BitVec 32 := Scalar.extui v49
  let c0_i32_29 : BitVec 32 := 0#32
  let v51 : BitVec 1 := Scalar.cmpi .ne v50 c0_i32_29
  v51

def k0_cond2 (i : grid0.Coords) : BitVec 1 :=
  let arg0 : BitVec 32 := BitVec.ofNat 32 (i 0).val
  let c0_i32_30 : BitVec 32 := 0#32
  let v52 : BitVec 1 := Scalar.cmpi .sgt arg0 c0_i32_30
  let v53 : BitVec 32 := Scalar.extui v52
  let c0_i32_31 : BitVec 32 := 0#32
  let v54 : BitVec 1 := Scalar.cmpi .ne v53 c0_i32_31
  v54

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MergeBwdRefIdeal.lean ====
abbrev S8192x1024 : Shape := ⟨2, ![8192, 1024]⟩
abbrev S8192x2048 : Shape := ⟨2, ![8192, 2048]⟩
abbrev S1x2048 : Shape := ⟨2, ![1, 2048]⟩
abbrev S_ : Shape := ⟨0, ![]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S8192x1024, .bf16⟩
  | .hbm, ⟨36, _⟩ => ⟨S8192x1024, .bf16⟩
  | .hbm, ⟨37, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== GmlpFwd.lean ====
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S_ : Shape := ⟨0, ![]⟩
abbrev S128x128 : Shape := ⟨2, ![128, 128]⟩
abbrev S8192x1024 : Shape := ⟨2, ![8192, 1024]⟩
abbrev S1024x2048 : Shape := ⟨2, ![1024, 2048]⟩
abbrev S1024x1024 : Shape := ⟨2, ![1024, 1024]⟩
abbrev S128x2048 : Shape := ⟨2, ![128, 2048]⟩
abbrev S128x1024 : Shape := ⟨2, ![128, 1024]⟩
abbrev S128 : Shape := ⟨1, ![128]⟩
abbrev S128x1 : Shape := ⟨2, ![128, 1]⟩
abbrev S1x128x128 : Shape := ⟨3, ![1, 128, 128]⟩

abbrev nBuf : Space → Nat
  | .hbm => 10
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S128x8, .f32⟩
  | .hbm, ⟨6, _⟩ => ⟨S_, .i32⟩
  | .hbm, ⟨7, _⟩ => ⟨S_, .f32⟩
  | .hbm, ⟨8, _⟩ => ⟨S128x128, .f32⟩
  | .hbm, ⟨9, _⟩ => ⟨S8192x1024, .bf16⟩
  | .local _ .vmem, ⟨0, _⟩ => ⟨S1024x2048, .f32⟩
  | .local _ .vmem, ⟨1, _⟩ => ⟨S1024x2048, .f32⟩
  | .local _ .vmem, ⟨2, _⟩ => ⟨S1x1024, .f32⟩
  | .local _ .vmem, ⟨3, _⟩ => ⟨S1x1024, .f32⟩
  | .local _ .vmem, ⟨4, _⟩ => ⟨S8x128x128, .f32⟩
  | .local _ .vmem, ⟨5, _⟩ => ⟨S128x128, .f32⟩
  | .local _ .vmem, ⟨6, _⟩ => ⟨S1024x1024, .bf16⟩
  | .local _ .vmem, ⟨7, _⟩ => ⟨S1024x1024, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmlpFwdIdeal.lean ====
variable {F : FTy → Type} [FloatOps F] [Named F]
def κ : String → Option EReal := fun
  | "inv_sqrt2" => some (((Real.sqrt 2)⁻¹ : ℝ) : EReal)
  | _ => none
-- ==== GmlpFwdRefIdeal.lean ====
abbrev S8192x2048 : Shape := ⟨2, ![8192, 2048]⟩
abbrev S1x1024 : Shape := ⟨2, ![1, 1024]⟩
abbrev S8x128x128 : Shape := ⟨3, ![8, 128, 128]⟩
abbrev S8x128 : Shape := ⟨2, ![8, 128]⟩
abbrev S1x8192x2048 : Shape := ⟨3, ![1, 8192, 2048]⟩
abbrev S1024 : Shape := ⟨1, ![1024]⟩
abbrev S_ : Shape := ⟨0, ![]⟩
abbrev S1x8192x1024 : Shape := ⟨3, ![1, 8192, 1024]⟩
abbrev S1x8192 : Shape := ⟨2, ![1, 8192]⟩
abbrev S1x8192x1 : Shape := ⟨3, ![1, 8192, 1]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S1x128x128 : Shape := ⟨3, ![1, 128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S8192x1024 : Shape := ⟨2, ![8192, 1024]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S8x128, .f32⟩
  | .hbm, ⟨5, _⟩ => ⟨S1x8192x2048, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S1x8192x2048, .f32⟩
  | .hbm, ⟨10, _⟩ => ⟨S1x8192x2048, .f32⟩
  | .hbm, ⟨11, _⟩ => ⟨S1x8192x2048, .f32⟩
  | .hbm, ⟨12, _⟩ => ⟨S_, .f32⟩
  | .hbm, ⟨13, _⟩ => ⟨S_, .f32⟩
  | .hbm, ⟨14, _⟩ => ⟨S1x8192x2048, .f32⟩
  | .hbm, ⟨15, _⟩ => ⟨S1x8192x2048, .f32⟩
  | .hbm, ⟨16, _⟩ => ⟨S1x8192x2048, .f32⟩
  | .hbm, ⟨17, _⟩ => ⟨S1x8192x2048, .f32⟩
  | .hbm, ⟨18, _⟩ => ⟨S1x8192x1024, .f32⟩
  | .hbm, ⟨19, _⟩ => ⟨S1x8192x1024, .f32⟩
  | .hbm, ⟨20, _⟩ => ⟨S_, .f32⟩
  | .hbm, ⟨21, _⟩ => ⟨S1x8192, .f32⟩
  | .hbm, ⟨22, _⟩ => ⟨S1x8192x1, .f32⟩
  | .hbm, ⟨23, _⟩ => ⟨S_, .f32⟩
  | .hbm, ⟨24, _⟩ => ⟨S1x8192x1, .f32⟩
  | .hbm, ⟨25, _⟩ => ⟨S1x8192x1, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S_, .f32⟩
  | .hbm, ⟨30, _⟩ => ⟨S1x8192, .f32⟩
  | .hbm, ⟨31, _⟩ => ⟨S1x8192x1, .f32⟩
  | .hbm, ⟨32, _⟩ => ⟨S_, .f32⟩
  | .hbm, ⟨33, _⟩ => ⟨S1x8192x1, .f32⟩
  | .hbm, ⟨34, _⟩ => ⟨S1x8192x1, .f32⟩
  | .hbm, ⟨35, _⟩ => ⟨S1x8192x1024, .f32⟩
  | .hbm, ⟨36, _⟩ => ⟨S1x8192x1024, .f32⟩
  | .hbm, ⟨37, _⟩ => ⟨S_, .f32⟩
  | .hbm, ⟨38, _⟩ => ⟨S1x8192x1, .f32⟩
  | .hbm, ⟨39, _⟩ => ⟨S1x8192x1, .f32⟩
  | .hbm, ⟨40, _⟩ => ⟨S1x8192x1, .f32⟩
  | .hbm, ⟨41, _⟩ => ⟨S1x8192x1024, .f32⟩
  | .hbm, ⟨42, _⟩ => ⟨S1x8192x1024, .f32⟩
  | .hbm, ⟨43, _⟩ => ⟨S1x1x1024, .f32⟩
  | .hbm, ⟨44, _⟩ => ⟨S1x8192x1024, .f32⟩
  | .hbm, ⟨45, _⟩ => ⟨S1x8192x1024, .f32⟩
  | .hbm, ⟨46, _⟩ => ⟨S1x1x1024, .f32⟩
  | .hbm, ⟨47, _⟩ => ⟨S1x8192x1024, .f32⟩
  | .hbm, ⟨48, _⟩ => ⟨S1x8192x1024, .f32⟩
  | .hbm, ⟨49, _⟩ => ⟨S1x64x128x8x128, .f32⟩
  | .hbm, ⟨50, _⟩ => ⟨S_, .i1⟩
  | .hbm, ⟨51, _⟩ => ⟨S128x128, .i1⟩
  | .hbm, ⟨52, _⟩ => ⟨S128x128, .i32⟩
  | .hbm, ⟨53, _⟩ => ⟨S_, .i32⟩
  | .hbm, ⟨54, _⟩ => ⟨S128x128, .i32⟩
  | .hbm, ⟨55, _⟩ => ⟨S128x128, .i32⟩
  | .hbm, ⟨56, _⟩ => ⟨S128x128, .i32⟩
  | .hbm, ⟨57, _⟩ => ⟨S128x128, .i1⟩
  | .hbm, ⟨58, _⟩ => ⟨S_, .i1⟩
  | .hbm, ⟨59, _⟩ => ⟨S128x128, .i1⟩
  | .hbm, ⟨60, _⟩ => ⟨S128x128, .i1⟩
  | .hbm, ⟨61, _⟩ => ⟨S1x128x128, .i1⟩
  | .hbm, ⟨62, _⟩ => ⟨S_, .f32⟩
  | .hbm, ⟨63, _⟩ => ⟨S8x128x128, .f32⟩
  | .hbm, ⟨64, _⟩ => ⟨S8x128x128, .i1⟩
  | .hbm, ⟨65, _⟩ => ⟨S8x128x128, .f32⟩
  | .hbm, ⟨66, _⟩ => ⟨S8x1x64x128x128, .f32⟩
  | .hbm, ⟨67, _⟩ => ⟨S1x64x128x8x128, .f32⟩
  | .hbm, ⟨68, _⟩ => ⟨S128x8, .f32⟩
  | .hbm, ⟨69, _⟩ => ⟨S1x1x128x8x1, .f32⟩
  | .hbm, ⟨70, _⟩ => ⟨S1x64x128x8x128, .f32⟩
  | .hbm, ⟨71, _⟩ => ⟨S1x64x128x8x128, .f32⟩
  | .hbm, ⟨72, _⟩ => ⟨S1x8192x1024, .f32⟩
  | .hbm, ⟨73, _⟩ => ⟨S1x8192x1024, .f32⟩
  | .hbm, ⟨74, _⟩ => ⟨S8192x1024, .f32⟩
  | .hbm, ⟨75, _⟩ => ⟨S8192x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c : Ref sig .tc := ⟨.hbm, 50, rfl⟩
abbrev main_v38 : Ref sig .tc := ⟨.hbm, 51, rfl⟩
abbrev main_call0_v0 : Ref sig .tc := ⟨.hbm, 52, rfl⟩
abbrev main_call0_c : Ref sig .tc := ⟨.hbm, 53, rfl⟩
abbrev main_call0_v1 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_c_0 : Ref sig .tc := ⟨.hbm, 58, rfl⟩
abbrev main_call0_v5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_call1_v0 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩

abbrev nD : Nat := 1
abbrev τ : Topo := Topo.v7x

variable {F : FTy → Type} [FloatOps F]
-- ==== RmsMlpBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RmsMlpBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | .hbm, ⟨52, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== RmsMixBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsMixBwdRefIdeal.lean ====
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S8192x1024, .f32⟩
  | .hbm, ⟨4, _⟩ => ⟨S1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Finite.lean ====
/-
  The precondition read: where it holds, every element of every argument is a real number.
-/
module

public import proofs.«01_k».proof.Pre_finite
public import proofs.«01_k».proof.Proof.Gen.Pre_finite
public import Idealize.ShloMosaic.Lib.ReduceAll
public import Idealize.ShloMosaic.Lib.Pointwise

@[expose] public section

noncomputable section

namespace Cert.Proof.Finite

open Idealize.ShloMosaic Cert.Pre_finite Cert.Pre_finite.Gen

/-- An extended real whose absolute value is below infinity is a real. -/
theorem real_of_olt (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = ((r : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  have lt : max x (-x) < ⊤ := by
    by_contra hn
    have : Ideal.cmp .olt (max x (-x)) ⊤ = BitVec.ofBool (decide (max x (-x) < ⊤)) := rfl
    rw [this, decide_eq_false hn] at h'
    exact absurd h' (by decide)
  obtain ⟨a, b⟩ := max_lt_iff.mp lt
  refine ⟨x.toReal, (EReal.coe_toReal a.ne ?_).symm⟩
  rintro rfl
  simp at b

instance : Subsingleton S_.Idx := ⟨fun _ _ => funext fun a => a.elim0⟩

/-- Where the precondition holds, every element of the six arguments is a real. -/
theorem all_real (x0 : FVec Ideal S8192x2048 .f32) (x1 : FVec Ideal S8192x1024 .f32) (x2 x3 : FVec Ideal S1x1024 .f32)
    (x4 : FVec Ideal S8x128x128 .f32) (x5 : FVec Ideal S8x128 .f32) (h : fn (F := Ideal) x0 x1 x2 x3 x4 x5 = fun _ => 1#1) :
    (∀ i, ∃ r : ℝ, x0 i = ((r : ℝ) : EReal)) ∧ (∀ i, ∃ r : ℝ, x1 i = ((r : ℝ) : EReal)) ∧ (∀ i, ∃ r : ℝ, x2 i = ((r : ℝ) : EReal))
      ∧ (∀ i, ∃ r : ℝ, x3 i = ((r : ℝ) : EReal)) ∧ (∀ i, ∃ r : ℝ, x4 i = ((r : ℝ) : EReal)) ∧ ∀ i, ∃ r : ℝ, x5 i = ((r : ℝ) : EReal) := by
  have e := congrFun h ix0
  obtain ⟨e, a5⟩ := IntOp.andi_eq_one.1 e
  obtain ⟨e, a4⟩ := IntOp.andi_eq_one.1 e
  obtain ⟨e, a3⟩ := IntOp.andi_eq_one.1 e
  obtain ⟨e, a2⟩ := IntOp.andi_eq_one.1 e
  obtain ⟨a0, a1⟩ := IntOp.andi_eq_one.1 e
  exact ⟨fun i => real_of_olt _ (Host.reduce_andi_all _ _ _ _ _ a0 i), fun i => real_of_olt _ (Host.reduce_andi_all _ _ _ _ _ a1 i),
    fun i => real_of_olt _ (Host.reduce_andi_all _ _ _ _ _ a2 i), fun i => real_of_olt _ (Host.reduce_andi_all _ _ _ _ _ a3 i),
    fun i => real_of_olt _ (Host.reduce_andi_all _ _ _ _ _ a4 i), fun i => real_of_olt _ (Host.reduce_andi_all _ _ _ _ _ a5 i)⟩

end Cert.Proof.Finite

end
-- ==== Proof.Chunk.lean ====
/-
  One chunk of the kernel: the 128 rows of one spatial block. The eight chunks of a grid point and the eight lane groups of a
  chunk are printed one after the other; here each value is stated once, over the chunk's rows of the arguments (`a` the
  pre-activations, `d` the incoming gradient) and the lane group `g`, at any float type.
-/
module

public import proofs.«01_k».proof.Proof.Gen.KernelIdeal.Skeleton

@[expose] public section

set_option synthInstance.maxSize 4096

noncomputable section

namespace Cert.KernelIdeal.Chunk

open Idealize.ShloMosaic Idealize.SL.Sem Cert.KernelIdeal Cert.KernelIdeal.Gen

theorem lanes_slices (g : Fin 8) : S128x1024.Slices ![0, 128 * g.val] S128x128 :=
  ⟨rfl, by intro a; fin_cases a <;> simp [S128x1024, S128x128, Fin.cast] <;> omega⟩

theorem lanes_slices_wide (g : Fin 8) : S128x2048.Slices ![0, 128 * g.val] S128x128 :=
  ⟨rfl, by intro a; fin_cases a <;> simp [S128x2048, S128x128, Fin.cast] <;> omega⟩

theorem lanes_slices_row (g : Fin 8) : S1x1024.Slices ![0, 128 * g.val] S1x128 :=
  ⟨rfl, by intro a; fin_cases a <;> simp [S1x1024, S1x128, Fin.cast] <;> omega⟩

theorem lane_slices (g : Fin 8) : S128x128.Slices ![0, g.val] S128x1 :=
  ⟨rfl, by intro a; fin_cases a <;> simp [S128x128, S128x1, Fin.cast] <;> omega⟩

variable {F : FTy → Type} [FloatOps F] [Named F]

/-- The zero block. -/
def zeros : FVec F S128x128 .f32 := broadcast S128x128 (Scalar.ofBits .f32 0x00000000#32 : F .f32)

/-- The zero accumulator of a matrix product. -/
def mzero : FVec F S128x128 .f32 := constant S128x128 .f32 0x00000000#32

/-- Half of one plus the error function of the pre-activation over the root of two. -/
def cdf (a : Vec F S128x2048 .f32) : FVec F S128x2048 .f32 :=
  mulf (broadcast S128x2048 (Scalar.ofBits .f32 0x3F000000#32 : F .f32))
    (addf (broadcast S128x2048 (Scalar.ofBits .f32 0x3F800000#32 : F .f32))
      (erf (mulf a (broadcast S128x2048 (Named.named κ "inv_sqrt2" 0x3F3504F3#32 : F .f32)))))

/-- The activations. -/
def act (a : Vec F S128x2048 .f32) : FVec F S128x2048 .f32 := mulf a (cdf a)

/-- The derivative of the activation. -/
def dact (a : Vec F S128x2048 .f32) : FVec F S128x2048 .f32 :=
  addf (cdf a)
    (mulf (mulf a (exp (mulf (mulf (broadcast S128x2048 (Scalar.ofBits .f32 0xBF000000#32 : F .f32)) a) a)))
      (broadcast S128x2048 (Named.named κ "inv_sqrt2pi" 0x3ECC422A#32 : F .f32)))

/-- The gate `u`: the left half of the activations. -/
def gate (a : Vec F S128x2048 .f32) : FVec F S128x1024 .f32 :=
  extractStridedSlice S128x1024 ![0, 0] (act a) slices_S128x2048_o0_0_S128x1024

/-- The gated half `v`: the right half of the activations. -/
def right (a : Vec F S128x2048 .f32) : FVec F S128x1024 .f32 :=
  extractStridedSlice S128x1024 ![0, 1024] (act a) slices_S128x2048_o0_1024_S128x1024

/-- The mean of each row, as a column. -/
def rowMean (x : FVec F S128x1024 .f32) : FVec F S128x1 .f32 :=
  divf (shapeCast S128x1 (multiReduction .add [1] S128 x 0x00000000#32 reduces_S128x1024_S128 (.inl rfl) rfl) shapeCasts_S128_S128x1)
    (broadcast S128x1 (Scalar.ofBits .f32 0x44800000#32 : F .f32))

/-- A column repeated along the lanes. -/
def alongRow (x : FVec F S128x1 .f32) : FVec F S128x1024 .f32 := broadcastTo S128x1024 x broadcasts_S128x1_S128x1024

/-- The right half less its row means. -/
def centred (a : Vec F S128x2048 .f32) : FVec F S128x1024 .f32 := subf (right a) (alongRow (rowMean (right a)))

/-- One over the root of the row variance plus epsilon. -/
def rstd (a : Vec F S128x2048 .f32) : FVec F S128x1 .f32 :=
  rsqrt (addf (rowMean (mulf (centred a) (centred a))) (broadcast S128x1 (Scalar.ofBits .f32 0x358637BD#32 : F .f32)))

/-- The normalised right half. -/
def vhat (a : Vec F S128x2048 .f32) : FVec F S128x1024 .f32 := mulf (centred a) (alongRow (rstd a))

/-- The normalised right half scaled and shifted. -/
def vnorm (a : Vec F S128x2048 .f32) (vg vb : Vec F S1x1024 .f32) : FVec F S128x1024 .f32 :=
  addf (mulf (vhat a) (broadcastTo S128x1024 vg broadcasts_S1x1024_S128x1024)) (broadcastTo S128x1024 vb broadcasts_S1x1024_S128x1024)

/-- The gradient of the spatial product: the incoming gradient times the gate. -/
def dsp (a : Vec F S128x2048 .f32) (d : Vec F S128x1024 .f32) : FVec F S128x1024 .f32 := mulf d (gate a)

/-- The lanes of group `g`. -/
def lanes (g : Fin 8) (x : FVec F S128x1024 .f32) : FVec F S128x128 .f32 :=
  extractStridedSlice S128x128 ![0, 128 * g.val] x (lanes_slices g)

/-- The spatial weights of one group, made lower triangular. -/
def tri (w : Vec F S1x128x128 .f32) : FVec F S128x128 .f32 :=
  select k0_pay6 (shapeCast S128x128 w shapeCasts_S1x128x128_S128x128) zeros

/-- The spatial product of group `g`, with its bias. -/
def spatial (g : Fin 8) (a : Vec F S128x2048 .f32) (vg vb : Vec F S1x1024 .f32) (w : Vec F S1x128x128 .f32) (b : Vec F S128x128 .f32) :
    FVec F S128x128 .f32 :=
  addf (matmul dot_S128x128_S128x128_S128x128_1_0_0_1_n_n none (truncf .bf16 (tri w) bitsLt_bf16_f32)
      (truncf .bf16 (lanes g (vnorm a vg vb)) bitsLt_bf16_f32) mzero)
    (broadcastTo S128x128 (extractStridedSlice S128x1 ![0, g.val] (shapeCast S128x128 b shapeCasts_S128x128_S128x128) (lane_slices g))
      broadcasts_S128x1_S128x128)

/-- The gradient of the left half of the pre-activations, lane group `g`. -/
def duPiece (g : Fin 8) (a : Vec F S128x2048 .f32) (d : Vec F S128x1024 .f32) (vg vb : Vec F S1x1024 .f32) (w : Vec F S1x128x128 .f32)
    (b : Vec F S128x128 .f32) : FVec F S128x128 .bf16 :=
  truncf .bf16 (mulf (mulf (lanes g d) (spatial g a vg vb w b))
    (extractStridedSlice S128x128 ![0, 128 * g.val] (dact a) (lanes_slices_wide g))) bitsLt_bf16_f32

/-- What the chunk adds to the gradient of the spatial weights of group `g`. -/
def dwTerm (g : Fin 8) (a : Vec F S128x2048 .f32) (d : Vec F S128x1024 .f32) (vg vb : Vec F S1x1024 .f32) : FVec F S128x128 .f32 :=
  select k0_pay6
    (matmul dot_S128x128_S128x128_S128x128_1_1_0_0_n_n none (truncf .bf16 (lanes g (dsp a d)) bitsLt_bf16_f32)
      (truncf .bf16 (lanes g (vnorm a vg vb)) bitsLt_bf16_f32) mzero)
    zeros

/-- The gradient of the spatial weights of group `g` after the chunk, from what it was. -/
def dwStep (g : Fin 8) (a : Vec F S128x2048 .f32) (d : Vec F S128x1024 .f32) (vg vb : Vec F S1x1024 .f32) (x : Vec F S1x128x128 .f32) :
    Vec F S1x128x128 .f32 :=
  shapeCast S1x128x128 (addf (shapeCast S128x128 x shapeCasts_S1x128x128_S128x128) (dwTerm g a d vg vb)) shapeCasts_S128x128_S1x128x128

/-- Group `g`'s column of the bias gradient: the row sums of the spatial gradient, in lane `g`. -/
def dbTerm (g : Fin 8) (a : Vec F S128x2048 .f32) (d : Vec F S128x1024 .f32) : FVec F S128x128 .f32 :=
  select (cmpi .eq (iota .tc S128x128 32 [1] iota_S128x128_d1_w32) (broadcast S128x128 (BitVec.ofNat 32 g.val)))
    (broadcastTo S128x128
      (shapeCast S128x1
        (shapeCast S128x1 (multiReduction .add [1] S128 (lanes g (dsp a d)) 0x00000000#32 reduces_S128x128_S128 (.inl rfl) rfl)
          shapeCasts_S128_S128x1) shapeCasts_S128x1_S128x1) broadcasts_S128x1_S128x128)
    zeros

/-- The bias gradient after the chunk, from what it was. -/
def dbStep (a : Vec F S128x2048 .f32) (d : Vec F S128x1024 .f32) (x : Vec F S128x128 .f32) : FVec F S128x128 .f32 :=
  addf (shapeCast S128x128 x shapeCasts_S128x128_S128x128)
    (addf (addf (addf (addf (addf (addf (addf (addf zeros (dbTerm 0 a d)) (dbTerm 1 a d)) (dbTerm 2 a d)) (dbTerm 3 a d))
      (dbTerm 4 a d)) (dbTerm 5 a d)) (dbTerm 6 a d)) (dbTerm 7 a d))

/-- The gradient of the scaled and shifted right half, lane group `g`. -/
def dnorm (g : Fin 8) (a : Vec F S128x2048 .f32) (d : Vec F S128x1024 .f32) (w : Vec F S1x128x128 .f32) : FVec F S128x128 .f32 :=
  matmul dot_S128x128_S128x128_S128x128_0_0_1_1_n_n none (truncf .bf16 (tri w) bitsLt_bf16_f32)
    (truncf .bf16 (lanes g (dsp a d)) bitsLt_bf16_f32) mzero

/-- The column sums of a block, as a row. -/
def colSum (x : FVec F S128x128 .f32) : FVec F S1x128 .f32 :=
  shapeCast S1x128 (multiReduction .add [0] S128 x 0x00000000#32 reduces_S128x128_S128_2 (.inl rfl) rfl) shapeCasts_S128_S1x128

/-- The gradient of the scale after the chunk, lane group `g`, from what it was. -/
def dvgStep (g : Fin 8) (a : Vec F S128x2048 .f32) (d : Vec F S128x1024 .f32) (w : Vec F S1x128x128 .f32) (x : Vec F S1x128 .f32) :
    Vec F S1x128 .f32 :=
  addf (shapeCast S1x128 x shapeCasts_S1x128_S1x128) (colSum (mulf (dnorm g a d w) (lanes g (vhat a))))

/-- The gradient of the shift after the chunk, lane group `g`, from what it was. -/
def dvbStep (g : Fin 8) (a : Vec F S128x2048 .f32) (d : Vec F S128x1024 .f32) (w : Vec F S1x128x128 .f32) (x : Vec F S1x128 .f32) :
    Vec F S1x128 .f32 :=
  addf (shapeCast S1x128 x shapeCasts_S1x128_S1x128) (colSum (dnorm g a d w))

/-- The gradient of the normalised right half, lane group `g`. -/
def dhatPiece (g : Fin 8) (a : Vec F S128x2048 .f32) (d : Vec F S128x1024 .f32) (vg : Vec F S1x1024 .f32) (w : Vec F S1x128x128 .f32) :
    FVec F S128x128 .f32 :=
  mulf (dnorm g a d w)
    (broadcastTo S128x128 (extractStridedSlice S1x128 ![0, 128 * g.val] vg (lanes_slices_row g)) broadcasts_S1x128_S128x128)

/-- The gradient of the normalised right half: the eight groups side by side. -/
def dhat (a : Vec F S128x2048 .f32) (d : Vec F S128x1024 .f32) (vg : Vec F S1x1024 .f32) (w : Fin 8 → Vec F S1x128x128 .f32) :
    FVec F S128x1024 .f32 :=
  concatenate S128x1024 1
    [⟨S128x128, dhatPiece 0 a d vg (w 0)⟩, ⟨S128x128, dhatPiece 1 a d vg (w 1)⟩, ⟨S128x128, dhatPiece 2 a d vg (w 2)⟩,
      ⟨S128x128, dhatPiece 3 a d vg (w 3)⟩, ⟨S128x128, dhatPiece 4 a d vg (w 4)⟩, ⟨S128x128, dhatPiece 5 a d vg (w 5)⟩,
      ⟨S128x128, dhatPiece 6 a d vg (w 6)⟩, ⟨S128x128, dhatPiece 7 a d vg (w 7)⟩]
    concatenates_S128x128_S128x128_S128x128_S128x128_S128x128_S128x128_S128x128_S128x128_S128x1024_d1

/-- The gradient through the normalisation, from the gradient `h` of the normalised half. -/
def dright (a : Vec F S128x2048 .f32) (h : FVec F S128x1024 .f32) : FVec F S128x1024 .f32 :=
  mulf (alongRow (rstd a))
    (subf (subf h (alongRow (rowMean h))) (mulf (vhat a) (alongRow (rowMean (mulf h (vhat a))))))

/-- The gradient of the right half of the pre-activations. -/
def dvPiece (a : Vec F S128x2048 .f32) (d : Vec F S128x1024 .f32) (vg : Vec F S1x1024 .f32) (w : Fin 8 → Vec F S1x128x128 .f32) :
    FVec F S128x1024 .bf16 :=
  truncf .bf16 (mulf (dright a (dhat a d vg w))
    (extractStridedSlice S128x1024 ![0, 1024] (dact a) slices_S128x2048_o0_1024_S128x1024)) bitsLt_bf16_f32

end Cert.KernelIdeal.Chunk
-- ==== Proof.Spec.lean ====
/-
  The mathematics of the gradient over the reals: what both programs compute when every argument is finite. A block is the 128
  rows of one spatial block; `a` its pre-activations, `d` the incoming gradient, `G` and `B` the scale and shift of the
  normalisation, `W` and `b` the spatial weights and biases of the eight lane groups.
-/
module

public import Idealize.ShloMosaic.Lib.Pointwise
public import Idealize.ShloMosaic.Lib.IdealHost

@[expose] public section

noncomputable section

open Idealize.ShloMosaic

namespace Cert.Spec

/-- The error function. -/
def erfR (x : ℝ) : ℝ := 2 / Real.sqrt Real.pi * ∫ t in (0 : ℝ)..x, Real.exp (-(t ^ 2))

/-- The variance's epsilon: the real its f32 word is. -/
def eps : ℝ := 8796093 / 8796093022208

/-- The normal distribution function. -/
def cdfR (x : ℝ) : ℝ := 1 / 2 * (1 + erfR (x * (Real.sqrt 2)⁻¹))

/-- The activation. -/
def actR (x : ℝ) : ℝ := x * cdfR x

/-- Its derivative. -/
def dactR (x : ℝ) : ℝ := cdfR x + x * Real.exp (-(1 / 2) * x * x) * (Real.sqrt (2 * Real.pi))⁻¹

/-- Lane `l` of the left half. -/
def lo (l : Fin 1024) : Fin 2048 := ⟨l.val, by omega⟩

/-- Lane `l` of the right half. -/
def hi (l : Fin 1024) : Fin 2048 := ⟨1024 + l.val, by omega⟩

/-- Lane `l` of group `g`. -/
def lane (g : Fin 8) (l : Fin 128) : Fin 1024 := ⟨128 * g.val + l.val, by omega⟩

/-- The group a lane is in. -/
def grp (L : Fin 1024) : Fin 8 := ⟨L.val / 128, by omega⟩

/-- The lane within its group. -/
def sub (L : Fin 1024) : Fin 128 := ⟨L.val % 128, by omega⟩

theorem lane_grp_sub (L : Fin 1024) : lane (grp L) (sub L) = L := Fin.ext (by simp only [lane, grp, sub]; omega)

/-- Group `g`'s lane of the bias block. -/
def pos (g : Fin 8) : Fin 128 := ⟨g.val, by omega⟩

theorem grp_lane (g : Fin 8) (l : Fin 128) : grp (lane g l) = g := Fin.ext (by simp only [lane, grp]; omega)

/-- Row `i` of block `n` of the 8192 rows. -/
def rows {β : Type} (U : Fin 8192 → β) (n : ℕ) (i : Fin 128) : β := U ⟨(128 * n + i.val) % 8192, Nat.mod_lt _ (by decide)⟩

/-- The mean of a row of 1024. -/
def meanR (x : Fin 1024 → ℝ) : ℝ := (∑ l, x l) / 1024

section row
variable (r : Fin 2048 → ℝ) (G B : Fin 1024 → ℝ) (d h : Fin 1024 → ℝ)

def gateR (l : Fin 1024) : ℝ := actR (r (lo l))
def rightR (l : Fin 1024) : ℝ := actR (r (hi l))
def cenR (l : Fin 1024) : ℝ := rightR r l - meanR (rightR r)
def varR : ℝ := meanR fun l => cenR r l * cenR r l
def rstdR : ℝ := (Real.sqrt (varR r + eps))⁻¹
def hatR (l : Fin 1024) : ℝ := cenR r l * rstdR r
def normR (l : Fin 1024) : ℝ := hatR r l * G l + B l
def dspR (l : Fin 1024) : ℝ := d l * gateR r l

/-- The gradient through the normalisation, from the gradient `h` of the normalised row. -/
def drightR (l : Fin 1024) : ℝ := rstdR r * (h l - meanR h - hatR r l * meanR fun l => h l * hatR r l)

end row

/-- The lower triangle of a block of weights. -/
def triR (w : Fin 128 → Fin 128 → ℝ) (i k : Fin 128) : ℝ := if k.val ≤ i.val then w i k else 0

section block
variable (a : Fin 128 → Fin 2048 → ℝ) (d : Fin 128 → Fin 1024 → ℝ) (G B : Fin 1024 → ℝ)
variable (W : Fin 8 → Fin 128 → Fin 128 → ℝ) (b : Fin 8 → Fin 128 → ℝ)

/-- The spatial product with its bias. -/
def spR (i : Fin 128) (L : Fin 1024) : ℝ := (∑ k, triR (W (grp L)) i k * normR (a k) G B L) + b (grp L) i

/-- The gradient of the left half of the pre-activations. -/
def duR (i : Fin 128) (L : Fin 1024) : ℝ := d i L * spR a G B W b i L * dactR (a i (lo L))

/-- The block's part of the gradient of the spatial weights. -/
def dwR (g : Fin 8) (i k : Fin 128) : ℝ :=
  if k.val ≤ i.val then ∑ l, dspR (a i) (d i) (lane g l) * normR (a k) G B (lane g l) else 0

/-- The block's part of the gradient of the spatial biases. -/
def dbR (g : Fin 8) (i : Fin 128) : ℝ := ∑ l, dspR (a i) (d i) (lane g l)

/-- The gradient of the scaled and shifted right half. -/
def dnR (i : Fin 128) (L : Fin 1024) : ℝ := ∑ k, triR (W (grp L)) k i * dspR (a k) (d k) L

/-- The block's part of the gradient of the scale. -/
def dvgR (L : Fin 1024) : ℝ := ∑ i, dnR a d W i L * hatR (a i) L

/-- The block's part of the gradient of the shift. -/
def dvbR (L : Fin 1024) : ℝ := ∑ i, dnR a d W i L

/-- The gradient of the right half of the pre-activations. -/
def dvR (i : Fin 128) (L : Fin 1024) : ℝ := drightR (a i) (fun L => dnR a d W i L * G L) L * dactR (a i (hi L))

end block

/-! ### The operations of the extended reals at finite values -/

theorem coe_sum {ι : Type*} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

theorem coe_div (x : ℝ) {y : ℝ} (h : y ≠ 0) : Ideal.div (x : EReal) (y : EReal) = ((x / y : ℝ) : EReal) := by
  rw [Ideal.div_coe h, ← EReal.coe_mul, mul_one_div]

theorem coe_erf (x : ℝ) : Ideal.erf (x : EReal) = (erfR x : EReal) := rfl

theorem coe_rsqrt {x : ℝ} (h : 0 < x) : Ideal.rsqrt (x : EReal) = (((Real.sqrt x)⁻¹ : ℝ) : EReal) := by
  rw [Ideal.rsqrt_coe, if_neg (not_lt.mpr h.le), if_neg h.ne']

theorem word_half : Ideal.ofBits .f32 0x3F000000#32 = ((1 / 2 : ℝ) : EReal) := by
  simp [Ideal.ofBits, Ideal.ieee, -EReal.coe_mul]; norm_num

theorem word_neg_half : Ideal.ofBits .f32 0xBF000000#32 = ((-(1 / 2) : ℝ) : EReal) := by
  simp [Ideal.ofBits, Ideal.ieee, -EReal.coe_mul]; norm_num

theorem word_one : Ideal.ofBits .f32 0x3F800000#32 = ((1 : ℝ) : EReal) := by
  simp [Ideal.ofBits, Ideal.ieee, -EReal.coe_mul]; norm_num

theorem word_1024 : Ideal.ofBits .f32 0x44800000#32 = ((1024 : ℝ) : EReal) := by
  simp [Ideal.ofBits, Ideal.ieee, -EReal.coe_mul]; norm_num

theorem word_eps : Ideal.ofBits .f32 0x358637BD#32 = ((eps : ℝ) : EReal) := by
  simp [Ideal.ofBits, Ideal.ieee, -EReal.coe_mul, eps]; norm_num

theorem word_zero : Ideal.ofBits .f32 0x00000000#32 = ((0 : ℝ) : EReal) := by
  simp [Ideal.ofBits, Ideal.ieee, -EReal.coe_mul]

theorem eps_pos : 0 < eps := by norm_num [eps]

theorem varR_nonneg (r : Fin 2048 → ℝ) : 0 ≤ varR r :=
  div_nonneg (Finset.sum_nonneg fun l _ => mul_self_nonneg _) (by norm_num)

theorem var_pos (r : Fin 2048 → ℝ) : 0 < varR r + eps := add_pos_of_nonneg_of_pos (varR_nonneg r) eps_pos

/-! ### The triangle's comparison -/

theorem sge_eq (i k : Fin 128) :
    IntOp.cmpi .sge (BitVec.ofNat 32 i.val) (BitVec.ofNat 32 k.val) = if k.val ≤ i.val then 1#1 else 0#1 := by
  have h := i.isLt; have h' := k.isLt
  have e : ∀ n : ℕ, n < 128 → (BitVec.ofNat 32 n).toInt = n := fun n hn => by
    rw [BitVec.toInt_eq_toNat_of_lt, BitVec.toNat_ofNat, Nat.mod_eq_of_lt (by omega)]
    rw [BitVec.toNat_ofNat, Nat.mod_eq_of_lt (by omega)]; omega
  simp only [IntOp.cmpi, BitVec.sle, e _ h, e _ h', Nat.cast_le]
  by_cases c : k.val ≤ i.val <;> simp only [c, decide_true, decide_false, if_true, if_false] <;> rfl

theorem select_if {α : Type} (p : Prop) [Decidable p] (x y : α) :
    Scalar.select (if p then 1#1 else 0#1) x y = if p then x else y := by
  split <;> rfl

end Cert.Spec
-- ==== Proof.ChunkValue.lean ====
module

public import proofs.«01_k».proof.Proof.Chunk
public import proofs.«01_k».proof.Proof.Spec

@[expose] public section

set_option synthInstance.maxSize 4096
set_option maxRecDepth 16384

noncomputable section

namespace Cert.KernelIdeal.Chunk

open Idealize.ShloMosaic Idealize.SL.Sem Cert.KernelIdeal Cert.KernelIdeal.Gen Cert.Spec

theorem inv_sqrt2 : Named.named (F := Ideal) κ "inv_sqrt2" (φ := .f32) 0x3F3504F3#32 = (((Real.sqrt 2)⁻¹ : ℝ) : EReal) :=
  IdealRules.named_const.ideal_named_scalar _ _ _ _ rfl

theorem inv_sqrt2pi : Named.named (F := Ideal) κ "inv_sqrt2pi" (φ := .f32) 0x3ECC422A#32 = (((Real.sqrt (2 * Real.pi))⁻¹ : ℝ) : EReal) :=
  IdealRules.named_const.ideal_named_scalar _ _ _ _ rfl

variable {A : Vec Ideal S128x2048 .f32} {D : Vec Ideal S128x1024 .f32} {Gv Bv : Vec Ideal S1x1024 .f32} {Wv : Fin 8 → Vec Ideal S1x128x128 .f32} {bv : Vec Ideal S128x128 .f32}
variable {a : Fin 128 → Fin 2048 → ℝ} {d : Fin 128 → Fin 1024 → ℝ} {G B : Fin 1024 → ℝ} {W : Fin 8 → Fin 128 → Fin 128 → ℝ} {b : Fin 8 → Fin 128 → ℝ}
variable (hA : ∀ i j, A (ix2 i j) = ((a i j : ℝ) : EReal)) (hD : ∀ i j, D (ix2 i j) = ((d i j : ℝ) : EReal))
variable (hG : ∀ j, Gv (ix2 0 j) = ((G j : ℝ) : EReal)) (hB : ∀ j, Bv (ix2 0 j) = ((B j : ℝ) : EReal))
variable (hW : ∀ g i k, Wv g (ix3 0 i k) = ((W g i k : ℝ) : EReal)) (hb : ∀ (i : Fin 128) (g : Fin 8), bv (ix2 i (pos g)) = ((b g i : ℝ) : EReal))

include hA in
theorem cdf_at (i : Fin 128) (j : Fin 2048) : cdf A (ix2 i j) = ((cdfR (a i j) : ℝ) : EReal) := by
  pointwise [cdf]
  simp only [hA, inv_sqrt2, word_half, ← EReal.coe_one, Ideal.erf_def, coe_erf, ← EReal.coe_mul, ← EReal.coe_add]
  rfl

include hA in
theorem act_at (i : Fin 128) (j : Fin 2048) : act A (ix2 i j) = ((actR (a i j) : ℝ) : EReal) := by
  pointwise [act]
  simp only [hA, cdf_at hA, ← EReal.coe_mul]
  rfl

include hA in
theorem dact_at (i : Fin 128) (j : Fin 2048) : dact A (ix2 i j) = ((dactR (a i j) : ℝ) : EReal) := by
  pointwise [dact]
  simp only [hA, cdf_at hA, inv_sqrt2pi, word_neg_half, Ideal.exp_def, Ideal.exp_coe, ← EReal.coe_mul, ← EReal.coe_add]
  rfl

include hA in
theorem gate_at (i : Fin 128) (l : Fin 1024) : gate A (ix2 i l) = ((gateR (a i) l : ℝ) : EReal) := by
  pointwise [gate]
  exact act_at hA i _

include hA in
theorem right_at (i : Fin 128) (l : Fin 1024) : right A (ix2 i l) = ((rightR (a i) l : ℝ) : EReal) := by
  pointwise [right]
  exact act_at hA i _

theorem rowMean_at {X : FVec Ideal S128x1024 .f32} {x : Fin 128 → Fin 1024 → ℝ} (hX : ∀ i l, X (ix2 i l) = ((x i l : ℝ) : EReal))
    (i : Fin 128) (l : Fin 1024) : alongRow (rowMean X) (ix2 i l) = ((meanR (x i) : ℝ) : EReal) := by
  pointwise [alongRow, rowMean]
  simp only [hX, word_1024, coe_sum, coe_div _ (show (1024 : ℝ) ≠ 0 by norm_num)]
  rfl

theorem rowMean_at' {X : FVec Ideal S128x1024 .f32} {x : Fin 128 → Fin 1024 → ℝ} (hX : ∀ i l, X (ix2 i l) = ((x i l : ℝ) : EReal))
    (i : Fin 128) : rowMean X (ix2 i 0) = ((meanR (x i) : ℝ) : EReal) := by
  pointwise [rowMean]
  simp only [hX, word_1024, coe_sum, coe_div _ (show (1024 : ℝ) ≠ 0 by norm_num)]
  rfl

include hA in
theorem cen_at (i : Fin 128) (l : Fin 1024) : centred A (ix2 i l) = ((cenR (a i) l : ℝ) : EReal) := by
  pointwise [centred]
  rw [rowMean_at (right_at hA), right_at hA, ← EReal.coe_sub]
  rfl

include hA in
theorem rstd_at (i : Fin 128) (l : Fin 1024) : alongRow (rstd A) (ix2 i l) = ((rstdR (a i) : ℝ) : EReal) := by
  have h : ∀ i l, mulf (centred A) (centred A) (ix2 i l) = (((cenR (a i) l * cenR (a i) l : ℝ)) : EReal) := by
    intro i l
    pointwise
    rw [cen_at hA, ← EReal.coe_mul]
  pointwise [alongRow, rstd]
  rw [rowMean_at' h, word_eps, ← EReal.coe_add]
  exact coe_rsqrt (var_pos (a i))

include hA in
theorem hat_at (i : Fin 128) (l : Fin 1024) : vhat A (ix2 i l) = ((hatR (a i) l : ℝ) : EReal) := by
  pointwise [vhat]
  rw [cen_at hA, rstd_at hA, ← EReal.coe_mul]
  rfl

include hA hG hB in
theorem norm_at (i : Fin 128) (l : Fin 1024) : vnorm A Gv Bv (ix2 i l) = ((normR (a i) G B l : ℝ) : EReal) := by
  pointwise [vnorm]
  rw [hat_at hA, hG, hB, ← EReal.coe_mul, ← EReal.coe_add]
  rfl

include hA hD in
theorem dsp_at (i : Fin 128) (l : Fin 1024) : dsp A D (ix2 i l) = ((dspR (a i) (d i) l : ℝ) : EReal) := by
  pointwise [dsp]
  rw [hD, gate_at hA, ← EReal.coe_mul]
  rfl

theorem lanes_at {X : FVec Ideal S128x1024 .f32} {x : Fin 128 → Fin 1024 → ℝ} (hX : ∀ i l, X (ix2 i l) = ((x i l : ℝ) : EReal))
    (g : Fin 8) (i : Fin 128) (l : Fin 128) : lanes g X (ix2 i l) = ((x i (lane g l) : ℝ) : EReal) := by
  pointwise [lanes]
  exact hX i _

theorem eq_eq (i k : ℕ) (h : i < 128) (h' : k < 128) :
    IntOp.cmpi .eq (BitVec.ofNat 32 i) (BitVec.ofNat 32 k) = if i = k then 1#1 else 0#1 := by
  have e : (BitVec.ofNat 32 i = BitVec.ofNat 32 k) ↔ i = k := by
    rw [← BitVec.toNat_inj, BitVec.toNat_ofNat, BitVec.toNat_ofNat, Nat.mod_eq_of_lt (by omega), Nat.mod_eq_of_lt (by omega)]
  simp only [IntOp.cmpi, beq_eq_decide, decide_eq_decide.mpr e]
  by_cases c : i = k <;> simp only [c, decide_true, decide_false, if_true, if_false] <;> rfl

include hW in
theorem tri_at (g : Fin 8) (i k : Fin 128) : tri (Wv g) (ix2 i k) = ((triR (W g) i k : ℝ) : EReal) := by
  pointwise [tri, k0_pay6, zeros]
  rw [sge_eq, select_if, hW, triR]
  split <;> simp

include hA hG hB hW hb in
theorem spatial_at (g : Fin 8) (i l : Fin 128) :
    spatial g A Gv Bv (Wv g) bv (ix2 i l) = ((spR a G B W b i (lane g l) : ℝ) : EReal) := by
  pointwise [spatial, mzero]
  simp only [tri_at hW, lanes_at (norm_at hA hG hB), ← EReal.coe_mul, coe_sum, spR, grp_lane, EReal.coe_add]
  exact congrArg (_ + ·) (hb i g)

include hA hD hG hB hW hb in
theorem duPiece_at (g : Fin 8) (i l : Fin 128) :
    duPiece g A D Gv Bv (Wv g) bv (ix2 i l) = ((duR a d G B W b i (lane g l) : ℝ) : EReal) := by
  pointwise [duPiece]
  have e := dact_at hA i (lo (lane g l))
  simp only [spatial_at hA hG hB hW hb, lanes_at hD]
  refine (congrArg _ e).trans ?_
  simp only [← EReal.coe_mul, duR]

include hA hD hG hB in
theorem dwTerm_at (g : Fin 8) (i k : Fin 128) : dwTerm g A D Gv Bv (ix2 i k) = ((dwR a d G B g i k : ℝ) : EReal) := by
  pointwise [dwTerm, k0_pay6, zeros, mzero]
  rw [sge_eq, select_if]
  simp only [lanes_at (norm_at hA hG hB), lanes_at (dsp_at hA hD), ← EReal.coe_mul, coe_sum, dwR]
  split <;> simp

include hA hD hG hB in
theorem dwStep_at (g : Fin 8) (X : Vec Ideal S1x128x128 .f32) (i k : Fin 128) :
    dwStep g A D Gv Bv X (ix3 0 i k) = X (ix3 0 i k) + ((dwR a d G B g i k : ℝ) : EReal) := by
  pointwise [dwStep]
  rw [dwTerm_at hA hD hG hB]

include hA hD in
theorem dbTerm_at (g : Fin 8) (i k : Fin 128) :
    dbTerm g A D (ix2 i k) = (((if k.val = g.val then dbR a d g i else 0 : ℝ)) : EReal) := by
  have h := k.isLt; have h' := g.isLt
  pointwise [dbTerm, zeros]
  rw [eq_eq _ _ h (by omega), select_if]
  simp only [lanes_at (dsp_at hA hD), coe_sum, dbR]
  split <;> simp

include hA hD in
theorem dbStep_at (X : Vec Ideal S128x128 .f32) (i k : Fin 128) :
    dbStep A D X (ix2 i k) = X (ix2 i k) + (((∑ g : Fin 8, if k.val = g.val then dbR a d g i else 0 : ℝ)) : EReal) := by
  pointwise [dbStep, zeros]
  simp only [dbTerm_at hA hD, Fin.sum_univ_eight, EReal.coe_add, zero_add]

include hA hD hW in
theorem dnorm_at (g : Fin 8) (i l : Fin 128) : dnorm g A D (Wv g) (ix2 i l) = ((dnR a d W i (lane g l) : ℝ) : EReal) := by
  pointwise [dnorm, mzero]
  simp only [tri_at hW, lanes_at (dsp_at hA hD), ← EReal.coe_mul, coe_sum, dnR, grp_lane]

theorem colSum_at {X : FVec Ideal S128x128 .f32} {x : Fin 128 → Fin 128 → ℝ} (hX : ∀ i l, X (ix2 i l) = ((x i l : ℝ) : EReal)) (l : Fin 128) :
    colSum X (ix2 0 l) = ((∑ i, x i l : ℝ) : EReal) := by
  pointwise [colSum]
  simp only [hX, coe_sum]

include hA hD hW in
theorem dvgStep_at (g : Fin 8) (X : Vec Ideal S1x128 .f32) (l : Fin 128) :
    dvgStep g A D (Wv g) X (ix2 0 l) = X (ix2 0 l) + ((dvgR a d W (lane g l) : ℝ) : EReal) := by
  have e : ∀ i l, mulf (dnorm g A D (Wv g)) (lanes g (vhat A)) (ix2 i l) =
      ((dnR a d W i (lane g l) * hatR (a i) (lane g l) : ℝ) : EReal) := fun i l => by
    pointwise []
    rw [dnorm_at hA hD hW, lanes_at (hat_at hA), EReal.coe_mul]
  pointwise [dvgStep]
  rw [colSum_at e]
  rfl

include hA hD hW in
theorem dvbStep_at (g : Fin 8) (X : Vec Ideal S1x128 .f32) (l : Fin 128) :
    dvbStep g A D (Wv g) X (ix2 0 l) = X (ix2 0 l) + ((dvbR a d W (lane g l) : ℝ) : EReal) := by
  pointwise [dvbStep]
  rw [colSum_at (dnorm_at hA hD hW g)]
  rfl

include hA hD hG hW in
theorem dhatPiece_at (g : Fin 8) (i l : Fin 128) :
    dhatPiece g A D Gv (Wv g) (ix2 i l) = ((dnR a d W i (lane g l) * G (lane g l) : ℝ) : EReal) := by
  pointwise [dhatPiece]
  rw [dnorm_at hA hD hW, EReal.coe_mul, ← hG (lane g l)]
  rfl

include hA hD hG hW in
theorem dhat_at (i : Fin 128) (L : Fin 1024) :
    dhat A D Gv Wv (ix2 i L) = ((dnR a d W i L * G L : ℝ) : EReal) := by
  have e : ∀ M : Fin 1024, M.val = L.val → ((dnR a d W i M * G M : ℝ) : EReal) = ((dnR a d W i L * G L : ℝ) : EReal) :=
    fun M h => by rw [Fin.ext h]
  have hL := L.isLt
  pointwise [dhat]
  simp only [dhatPiece_at hA hD hG hW]
  split_ifs <;> refine e _ ?_ <;> dsimp only [lane]
  all_goals first
    | (show 128 * 0 + _ = _; omega)
    | (show 128 * 1 + _ = _; omega)
    | (show 128 * 2 + _ = _; omega)
    | (show 128 * 3 + _ = _; omega)
    | (show 128 * 4 + _ = _; omega)
    | (show 128 * 5 + _ = _; omega)
    | (show 128 * 6 + _ = _; omega)
    | (show 128 * 7 + _ = _; omega)

theorem dright_at {H : FVec Ideal S128x1024 .f32} {h : Fin 128 → Fin 1024 → ℝ} (hA : ∀ i j, A (ix2 i j) = ((a i j : ℝ) : EReal))
    (hH : ∀ i l, H (ix2 i l) = ((h i l : ℝ) : EReal)) (i : Fin 128) (L : Fin 1024) :
    dright A H (ix2 i L) = ((drightR (a i) (h i) L : ℝ) : EReal) := by
  have e : ∀ i l, mulf H (vhat A) (ix2 i l) = ((h i l * hatR (a i) l : ℝ) : EReal) := fun i l => by
    pointwise []
    rw [hH, hat_at hA, EReal.coe_mul]
  pointwise [dright]
  rw [rstd_at hA, hH, rowMean_at hH, hat_at hA, rowMean_at e]
  simp only [← EReal.coe_mul, ← EReal.coe_sub]
  rfl

include hA hD hG hW in
theorem dvPiece_at (i : Fin 128) (L : Fin 1024) :
    dvPiece A D Gv Wv (ix2 i L) = ((dvR a d G W i L : ℝ) : EReal) := by
  pointwise [dvPiece]
  have e := dact_at hA i (hi L)
  rw [dright_at hA (dhat_at hA hD hG hW)]
  refine (congrArg _ e).trans ?_
  simp only [← EReal.coe_mul, dvR]

end Cert.KernelIdeal.Chunk
-- ==== Proof.Accum.lean ====
/-
  An accumulator kept in a buffer and added to lane group by lane group: the buffer of shape `s` is cut into `N` disjoint
  rectangles `R 0 … R (N-1)`, and the body, round after round, loads `R g`, applies an update `f q g` and stores `R g` back.
  `Kept` says what the list of stores reads back to in the middle of such a sequence; `Kept.step`, `Kept.first` and `Kept.next`
  carry it over one store and from one round to the next, whatever the number of stores before.
-/
module

public import Idealize.ShloMosaic.Lib.Pipeline.FrameBody

@[expose] public section

noncomputable section

open Idealize.ShloMosaic

namespace Cert.Accum

variable {sig : RefSig} {κ : Kind} {sp : Space} {s : Shape} {e : EltTy} {Val : EltTy → Type} [∀ e, Nonempty (Val e)] {N : ℕ}
variable (R : Fin N → Rect s) (f : ℕ → (g : Fin N) → ((R g).shape.Idx → Val e) → ((R g).shape.Idx → Val e))
variable (base : (g : Fin N) → ((R g).shape.Idx → Val e))

/-- What rectangle `g` holds after `q` rounds: the update of every round applied to the starting contents, first to last. -/
def acc : ℕ → (g : Fin N) → ((R g).shape.Idx → Val e)
  | 0, g => base g
  | q + 1, g => f q g (acc q g)

/-- After `q` whole rounds and `j` stores of the next one: rectangles below `j` hold `q + 1` rounds, the others `q`. Nothing is
    said of a rectangle that holds fewer than `lo` rounds (it was never stored, its contents are still the starting ones). -/
def Kept (lo q j : ℕ) (L : List (View.Piece Val s e)) : Prop :=
  ∀ g : Fin N, lo ≤ (if g.val < j then q + 1 else q) → ∀ x : (R g).shape.Idx,
    View.canon L ((R g).emb x) = acc R f base (if g.val < j then q + 1 else q) g x

/-- The rectangles do not meet. -/
def Apart : Prop := ∀ g g' : Fin N, g ≠ g' → ∀ x : (R g').shape.Idx, (R g').emb x ∉ (R g).set

variable {R f base}

/-- One store: the rectangle's own store is the update of what it held, the others keep theirs. -/
theorem Kept.store (hR : Apart R) {lo q j : ℕ} (hj : j < N) {L : List (View.Piece Val s e)} (h : Kept R f base lo q j L)
    {w : (R ⟨j, hj⟩).shape.Idx → Val e} (hw : w = f q ⟨j, hj⟩ (acc R f base q ⟨j, hj⟩)) :
    Kept R f base lo q (j + 1) (⟨R ⟨j, hj⟩, w⟩ :: L) := by
  intro g hlo x
  by_cases hg : g = ⟨j, hj⟩
  · subst hg
    rw [View.canon_cons_emb, hw]
    simp only [Nat.lt_succ_self, if_true]
    rfl
  · have hne : g.val ≠ j := fun e => hg (Fin.ext e)
    have hc : (g.val < j + 1) ↔ (g.val < j) := by omega
    simp only [hc] at hlo ⊢
    rw [View.canon_cons_of_not_mem _ _ (hR ⟨j, hj⟩ g (fun e => hg e.symm) x)]
    exact h g hlo x

/-- A store in a round where the rectangle already has stores behind it: it loads what they left. -/
theorem Kept.step (hR : Apart R) {lo q j : ℕ} {L : List (View.Piece Val s e)} (hj : j < N) (hlo : lo ≤ q) (v : View sig κ sp s e)
    (h : Kept R f base lo q j L)
    {w : (R ⟨j, hj⟩).shape.Idx → Val e} (hw : w = f q ⟨j, hj⟩ (v.readCov L (R ⟨j, hj⟩).toLoadRect)) :
    Kept R f base lo q (j + 1) (⟨R ⟨j, hj⟩, w⟩ :: L) := by
  refine Kept.store hR hj h ?_
  rw [hw, View.readCov_eq_canon']
  refine congrArg (f q ⟨j, hj⟩) (funext fun x => ?_)
  have := h ⟨j, hj⟩ (by simpa using hlo) x
  simp only [Nat.lt_irrefl, if_false] at this
  exact this

/-- A store in the first round: it loads the starting contents. -/
theorem Kept.first (hR : Apart R) {lo j : ℕ} {L : List (View.Piece Val s e)} (hj : j < N)
    (h : Kept R f base lo 0 j L) {w : (R ⟨j, hj⟩).shape.Idx → Val e} (hw : w = f 0 ⟨j, hj⟩ (base ⟨j, hj⟩)) :
    Kept R f base lo 0 (j + 1) (⟨R ⟨j, hj⟩, w⟩ :: L) :=
  Kept.store hR hj h hw

/-- The end of a round is the beginning of the next. -/
theorem Kept.next {lo q : ℕ} {L : List (View.Piece Val s e)} (h : Kept R f base lo q N L) : Kept R f base lo (q + 1) 0 L := by
  intro g hlo x
  have := h g (by simpa [g.isLt] using hlo) x
  simpa [g.isLt] using this

/-- Before any store nothing is claimed (`lo = 1`). -/
theorem Kept.nil : Kept R f base 1 0 0 ([] : List (View.Piece Val s e)) := by
  intro g hlo
  simp at hlo

/-- After one store of the whole buffer every rectangle holds its part of it. -/
theorem Kept.fill {L : List (View.Piece Val s e)} (h : ∀ g x, View.canon L ((R g).emb x) = base g x) : Kept R f base 0 0 0 L := by
  intro g _ x
  simpa [acc] using h g x

/-- After `q` whole rounds, `0 < q`, every rectangle holds `q` of them. -/
theorem Kept.read {lo q : ℕ} {L : List (View.Piece Val s e)} (h : Kept R f base lo q 0 L) (hlo : lo ≤ q) (g : Fin N)
    (x : (R g).shape.Idx) : View.canon L ((R g).emb x) = acc R f base q g x := by
  simpa using h g (by simpa using hlo) x

end Cert.Accum
-- ==== Proof.Body.lean ====
/-
  The body of the kernel at one grid point, read back. Its run lists every store of the point; here the lists are read as
  functions of what the body loaded: the two halves of `duv` chunk by chunk, and the four accumulators after the point's
  eight chunks. Case A is the first point, which clears the accumulators, case B any other, which finds what the point before left.
-/
module

public import proofs.«01_k».proof.Proof.Accum
public import proofs.«01_k».proof.Proof.Chunk
public import proofs.«01_k».proof.Proof.Gen.KernelIdeal.Frame
public import Idealize.ShloMosaic.Lib.Pipeline.Value
public import Idealize.ShloMosaic.Lib.Pipeline.ReadBack
public import Idealize.ShloMosaic.Lib.Pointwise

@[expose] public section

set_option synthInstance.maxSize 4096
set_option maxRecDepth 16384

noncomputable section

namespace Cert.KernelIdeal.Body

open Idealize.ShloMosaic Idealize.SL.Sem Cert.KernelIdeal Cert.KernelIdeal.Gen Cert.KernelIdeal.Chunk Cert.Accum

variable {F : FTy → Type} [FloatOps F] [Named F]

theorem rows_inb (q : Fin 8) : ∀ a, (![128 * q.val, 0] : Fin 2 → Nat) a + S128x2048.size a ≤ S1024x2048.size a := by
  intro a; fin_cases a <;> simp [S128x2048, S1024x2048] <;> omega

theorem rows_inb' (q : Fin 8) : ∀ a, (![128 * q.val, 0] : Fin 2 → Nat) a + S128x1024.size a ≤ S1024x1024.size a := by
  intro a; fin_cases a <;> simp [S128x1024, S1024x1024] <;> omega

theorem group_inb (g : Fin 8) : ∀ a, (![g.val, 0, 0] : Fin 3 → Nat) a + S1x128x128.size a ≤ S8x128x128.size a := by
  intro a; fin_cases a <;> simp [S1x128x128, S8x128x128] <;> omega

theorem row_inb (g : Fin 8) : ∀ a, (![0, 128 * g.val] : Fin 2 → Nat) a + S1x128.size a ≤ S1x1024.size a := by
  intro a; fin_cases a <;> simp [S1x128, S1x1024] <;> omega

/-- Chunk `q`'s rows. -/
def rowsRect (q : Fin 8) : Rect S1024x2048 := Rect.unit ![128 * q.val, 0] S128x2048.size (rows_inb q)

/-- Chunk `q`'s rows. -/
def rowsRect' (q : Fin 8) : Rect S1024x1024 := Rect.unit ![128 * q.val, 0] S128x1024.size (rows_inb' q)

/-- The lanes of group `g` of a row of 1024. -/
def rowRect (g : Fin 8) : Rect S1x1024 := Rect.unit ![0, 128 * g.val] S1x128.size (row_inb g)

/-- The weights of group `g`. -/
def groupRect (g : Fin 8) : Rect S8x128x128 := Rect.unit ![g.val, 0, 0] S1x128x128.size (group_inb g)

/-- The whole bias block. -/
def wholeRect (_ : Fin 1) : Rect S128x128 := Rect.unit ![0, 0] S128x128.size inb_S128x128_S128x128_0_0

theorem rowRect_apart : Apart (s := S1x1024) rowRect := by
  intro g g' h x hx
  have hx' := (Rect.mem_set_unit.mp hx) (1 : Fin 2)
  have hy : (((rowRect g').emb x) (1 : Fin 2)).val = 128 * g'.val + (x (1 : Fin 2)).val := by
    show 128 * g'.val + 1 * (x (1 : Fin 2)).val = _
    rw [one_mul]
  have hlt : (x (1 : Fin 2)).val < 128 := (x (1 : Fin 2)).isLt
  have h1 : 128 * g.val ≤ (((rowRect g').emb x) (1 : Fin 2)).val := hx'.1
  have h2 : (((rowRect g').emb x) (1 : Fin 2)).val < 128 * g.val + 128 := hx'.2
  have hne : g.val ≠ g'.val := fun e => h (Fin.ext e)
  omega

theorem groupRect_apart : Apart (s := S8x128x128) groupRect := by
  intro g g' h x hx
  have hx' := (Rect.mem_set_unit.mp hx) (0 : Fin 3)
  have hy : (((groupRect g').emb x) (0 : Fin 3)).val = g'.val + (x (0 : Fin 3)).val := by
    show g'.val + 1 * (x (0 : Fin 3)).val = _
    rw [one_mul]
  have hlt : (x (0 : Fin 3)).val < 1 := (x (0 : Fin 3)).isLt
  have h1 : g.val ≤ (((groupRect g').emb x) (0 : Fin 3)).val := hx'.1
  have h2 : (((groupRect g').emb x) (0 : Fin 3)).val < g.val + 1 := hx'.2
  have hne : g.val ≠ g'.val := fun e => h (Fin.ext e)
  omega

theorem wholeRect_apart : Apart (s := S128x128) wholeRect := fun g g' h => absurd (Subsingleton.elim g g') h

variable (c : Dev nD) (i : grid0.Coords) (arg1 : Memref sig .tc .vmem S1024x2048 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x128 .f32) (harg6 : arg6.IsWhole) (arg7 : Memref sig .tc .vmem S1024x2048 .bf16) (harg7 : arg7.IsWhole) (arg8 : Memref sig .tc .vmem S8x128x128 .f32) (harg8 : arg8.IsWhole) (arg9 : Memref sig .tc .vmem S128x128 .f32) (harg9 : arg9.IsWhole) (arg10 : Memref sig .tc .vmem S1x1024 .f32) (harg10 : arg10.IsWhole) (arg11 : Memref sig .tc .vmem S1x1024 .f32) (harg11 : arg11.IsWhole)
  (x0 : Vec F S1024x2048 .f32) (x1 : Vec F S1024x1024 .f32) (x2 : Vec F S1x1024 .f32) (x3 : Vec F S1x1024 .f32) (x4 : Vec F S8x128x128 .f32) (x5 : Vec F S128x128 .f32) (xo7 : Vec F S8x128x128 .f32) (xo8 : Vec F S128x128 .f32) (xo9 : Vec F S1x1024 .f32) (xo10 : Vec F S1x1024 .f32)

/-- Chunk `q`'s rows of the pre-activations, as the body loads them. -/
def lA (q : Fin 8) : Vec F S128x2048 .f32 := View.readAt (Elt F) arg1.view (rowsRect q).toLoadRect (harg1.unread x0)

/-- Chunk `q`'s rows of the incoming gradient. -/
def lD (q : Fin 8) : Vec F S128x1024 .f32 := View.readAt (Elt F) arg2.view (rowsRect' q).toLoadRect (harg2.unread x1)

/-- A whole row argument. -/
def lRow (arg : Memref sig .tc .vmem S1x1024 .f32) (harg : arg.IsWhole) (x : Vec F S1x1024 .f32) : Vec F S1x1024 .f32 :=
  View.readAt (Elt F) arg.view (Rect.unit ![0, 0] S1x1024.size inb_S1x1024_S1x1024_0_0).toLoadRect (harg.unread x)

/-- Group `g`'s weights. -/
def lW (arg : Memref sig .tc .vmem S8x128x128 .f32) (harg : arg.IsWhole) (x : Vec F S8x128x128 .f32) (g : Fin 8) : Vec F S1x128x128 .f32 :=
  View.readAt (Elt F) arg.view (groupRect g).toLoadRect (harg.unread x)

/-- Group `g`'s lanes of a row. -/
def lLanes (arg : Memref sig .tc .vmem S1x1024 .f32) (harg : arg.IsWhole) (x : Vec F S1x1024 .f32) (g : Fin 8) : Vec F S1x128 .f32 :=
  View.readAt (Elt F) arg.view (rowRect g).toLoadRect (harg.unread x)

/-- A whole 128 by 128 block. -/
def lB (arg : Memref sig .tc .vmem S128x128 .f32) (harg : arg.IsWhole) (x : Vec F S128x128 .f32) : Vec F S128x128 .f32 :=
  View.readAt (Elt F) arg.view (Rect.unit ![0, 0] S128x128.size inb_S128x128_S128x128_0_0).toLoadRect (harg.unread x)

/-- A natural number below eight. -/
def ix (q : ℕ) : Fin 8 := ⟨q % 8, Nat.mod_lt _ (by decide)⟩

/-! ### The accumulators' updates, chunk by chunk -/

variable (A : Fin 8 → Vec F S128x2048 .f32) (D : Fin 8 → Vec F S128x1024 .f32) (G B : Vec F S1x1024 .f32) (W : Fin 8 → Vec F S1x128x128 .f32) (b : Vec F S128x128 .f32)

/-- Chunk `q`'s update of group `g` of the gradient of the spatial weights. -/
def up7 (q : ℕ) (g : Fin 8) (x : (groupRect g).shape.Idx → F .f32) : (groupRect g).shape.Idx → F .f32 := dwStep g (A (ix q)) (D (ix q)) G B x

/-- Chunk `q`'s update of the bias gradient. -/
def up8 (q : ℕ) (g : Fin 1) (x : (wholeRect g).shape.Idx → F .f32) : (wholeRect g).shape.Idx → F .f32 := dbStep (A (ix q)) (D (ix q)) x

/-- Chunk `q`'s update of group `g` of the scale gradient. -/
def up9 (q : ℕ) (g : Fin 8) (x : (rowRect g).shape.Idx → F .f32) : (rowRect g).shape.Idx → F .f32 := dvgStep g (A (ix q)) (D (ix q)) (W g) x

/-- Chunk `q`'s update of group `g` of the shift gradient. -/
def up10 (q : ℕ) (g : Fin 8) (x : (rowRect g).shape.Idx → F .f32) : (rowRect g).shape.Idx → F .f32 := dvbStep g (A (ix q)) (D (ix q)) (W g) x

/-! ### The stores of `duv` -/

theorem half_inb (q g : Fin 8) : ∀ a, (![128 * q.val, 128 * g.val] : Fin 2 → Nat) a + S128x128.size a ≤ S1024x2048.size a := by
  intro a; fin_cases a <;> simp [S128x128, S1024x2048] <;> omega

theorem half_inb' (q : Fin 8) : ∀ a, (![128 * q.val, 1024] : Fin 2 → Nat) a + S128x1024.size a ≤ S1024x2048.size a := by
  intro a; fin_cases a <;> simp [S128x1024, S1024x2048] <;> omega

/-- The block of `duv` of chunk `q` and lane group `g`, in the left half. -/
def leftRect (q g : Fin 8) : Rect S1024x2048 := Rect.unit ![128 * q.val, 128 * g.val] S128x128.size (half_inb q g)

/-- The rows of `duv` of chunk `q`, right half. -/
def rightRect (q : Fin 8) : Rect S1024x2048 := Rect.unit ![128 * q.val, 1024] S128x1024.size (half_inb' q)

/-- The gradient block of a grid point: element `(128 q + r, 128 g + l)` of the left half is element `(r, l)` of the piece of chunk
    `q` and group `g`, and element `(128 q + r, 1024 + l)` of the right half element `(r, l)` of chunk `q`'s. -/
def duvBlock (y : S1024x2048.Idx) : F .bf16 :=
  if h : (y (1 : Fin 2)).val < 1024 then
    duPiece (ix ((y (1 : Fin 2)).val / 128)) (A (ix ((y (0 : Fin 2)).val / 128))) (D (ix ((y (0 : Fin 2)).val / 128))) G B (W (ix ((y (1 : Fin 2)).val / 128))) b
      (ix2 (⟨(y (0 : Fin 2)).val % 128, Nat.mod_lt _ (by decide)⟩ : Fin 128) (⟨(y (1 : Fin 2)).val % 128, Nat.mod_lt _ (by decide)⟩ : Fin 128))
  else
    dvPiece (A (ix ((y (0 : Fin 2)).val / 128))) (D (ix ((y (0 : Fin 2)).val / 128))) G W
      (ix2 (⟨(y (0 : Fin 2)).val % 128, Nat.mod_lt _ (by decide)⟩ : Fin 128) (⟨(y (1 : Fin 2)).val - 1024, by have : (y (1 : Fin 2)).val < 2048 := (y (1 : Fin 2)).isLt; omega⟩ : Fin 1024))

theorem ix_val (q : Fin 8) : ix q.val = q := Fin.ext (Nat.mod_eq_of_lt q.isLt)

theorem duvBlock_left (q g : Fin 8) (x : (leftRect q g).shape.Idx) :
    duPiece g (A q) (D q) G B (W g) b x = duvBlock A D G B W b ((leftRect q g).emb x) := by
  have h0 : (((leftRect q g).emb x) (0 : Fin 2)).val = 128 * q.val + (x (0 : Fin 2)).val := by
    show 128 * q.val + 1 * (x (0 : Fin 2)).val = _
    rw [one_mul]
  have h1 : (((leftRect q g).emb x) (1 : Fin 2)).val = 128 * g.val + (x (1 : Fin 2)).val := by
    show 128 * g.val + 1 * (x (1 : Fin 2)).val = _
    rw [one_mul]
  have l0 : (x (0 : Fin 2)).val < 128 := (x (0 : Fin 2)).isLt
  have l1 : (x (1 : Fin 2)).val < 128 := (x (1 : Fin 2)).isLt
  unfold duvBlock
  rw [dif_pos (by rw [h1]; omega)]
  have e0 : ix ((((leftRect q g).emb x) (0 : Fin 2)).val / 128) = q := by
    rw [h0, show (128 * q.val + (x (0 : Fin 2)).val) / 128 = q.val by omega, ix_val]
  have e1 : ix ((((leftRect q g).emb x) (1 : Fin 2)).val / 128) = g := by
    rw [h1, show (128 * g.val + (x (1 : Fin 2)).val) / 128 = g.val by omega, ix_val]
  rw [e0, e1]
  refine congrArg _ ?_
  refine (eq_ix2 (n0 := 128) (n1 := 128) x).trans ?_
  refine (ix2_inj _ _ _ _).mpr ⟨Fin.ext ?_, Fin.ext ?_⟩
  · show (x (0 : Fin 2)).val = (((leftRect q g).emb x) (0 : Fin 2)).val % 128
    rw [h0]; omega
  · show (x (1 : Fin 2)).val = (((leftRect q g).emb x) (1 : Fin 2)).val % 128
    rw [h1]; omega

theorem duvBlock_right (q : Fin 8) (x : (rightRect q).shape.Idx) :
    dvPiece (A q) (D q) G W x = duvBlock A D G B W b ((rightRect q).emb x) := by
  have h0 : (((rightRect q).emb x) (0 : Fin 2)).val = 128 * q.val + (x (0 : Fin 2)).val := by
    show 128 * q.val + 1 * (x (0 : Fin 2)).val = _
    rw [one_mul]
  have h1 : (((rightRect q).emb x) (1 : Fin 2)).val = 1024 + (x (1 : Fin 2)).val := by
    show 1024 + 1 * (x (1 : Fin 2)).val = _
    rw [one_mul]
  have l0 : (x (0 : Fin 2)).val < 128 := (x (0 : Fin 2)).isLt
  unfold duvBlock
  rw [dif_neg (by rw [h1]; omega)]
  have e0 : ix ((((rightRect q).emb x) (0 : Fin 2)).val / 128) = q := by
    rw [h0, show (128 * q.val + (x (0 : Fin 2)).val) / 128 = q.val by omega, ix_val]
  rw [e0]
  refine congrArg _ ?_
  refine (eq_ix2 (n0 := 128) (n1 := 1024) x).trans ?_
  refine (ix2_inj _ _ _ _).mpr ⟨Fin.ext ?_, Fin.ext ?_⟩
  · show (x (0 : Fin 2)).val = (((rightRect q).emb x) (0 : Fin 2)).val % 128
    rw [h0]; omega
  · show (x (1 : Fin 2)).val = (((rightRect q).emb x) (1 : Fin 2)).val - 1024
    rw [h1]; omega

/-- The stores so far are blocks of `duvBlock`; the two counters say which store comes next. -/
def Laid (q j : ℕ) (L : List (View.Piece (Elt F) S1024x2048 .bf16)) : Prop := View.PiecesOf (duvBlock A D G B W b) L

theorem Laid.left {q j : ℕ} {L : List (View.Piece (Elt F) S1024x2048 .bf16)} (hq : q < 8) (hj : j < 8) (h : Laid A D G B W b q j L)
    {w : (leftRect ⟨q, hq⟩ ⟨j, hj⟩).shape.Idx → F .bf16} (hw : w = duPiece ⟨j, hj⟩ (A ⟨q, hq⟩) (D ⟨q, hq⟩) G B (W ⟨j, hj⟩) b) :
    Laid A D G B W b q (j + 1) (⟨leftRect ⟨q, hq⟩ ⟨j, hj⟩, w⟩ :: L) :=
  ⟨fun x => by subst hw; exact duvBlock_left A D G B W b ⟨q, hq⟩ ⟨j, hj⟩ x, h⟩

theorem Laid.right {q : ℕ} {L : List (View.Piece (Elt F) S1024x2048 .bf16)} (hq : q < 8) (h : Laid A D G B W b q 8 L)
    {w : (rightRect ⟨q, hq⟩).shape.Idx → F .bf16} (hw : w = dvPiece (A ⟨q, hq⟩) (D ⟨q, hq⟩) G W) :
    Laid A D G B W b (q + 1) 0 (⟨rightRect ⟨q, hq⟩, w⟩ :: L) :=
  ⟨fun x => by subst hw; exact duvBlock_right A D G B W b ⟨q, hq⟩ x, h⟩

theorem Laid.nil : Laid A D G B W b 0 0 [] := trivial

/-! ### Case B: the accumulators found as the point before left them -/

/-- What the stores of the gradient of the spatial weights read back to: eight updates over what was found. -/
theorem kept7_B (hc0 : ¬cond0_0 i) :
    Kept (N := 8) groupRect (up7 (lA arg1 harg1 x0) (lD arg2 harg2 x1) (lRow arg3 harg3 x2) (lRow arg4 harg4 x3)) (lW arg8 harg8 xo7) 1 8 0
      (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10).2.1 := by
  iterate 7 (refine Kept.next ?_; iterate 8 refine Kept.step groupRect_apart (by decide) (by decide) arg8.view ?_ rfl)
  refine Kept.next ?_
  iterate 8 refine Kept.first groupRect_apart (by decide) ?_ rfl
  exact Kept.nil

/-- What the stores of the bias gradient read back to: eight updates over what was found. -/
theorem kept8_B (hc0 : ¬cond0_0 i) :
    Kept (N := 1) wholeRect (up8 (lA arg1 harg1 x0) (lD arg2 harg2 x1)) (fun _ => lB arg9 harg9 xo8) 1 8 0
      (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10).2.2.1 := by
  iterate 7 (refine Kept.next ?_; iterate 1 refine Kept.step wholeRect_apart (by decide) (by decide) arg9.view ?_ rfl)
  refine Kept.next ?_
  iterate 1 refine Kept.first wholeRect_apart (by decide) ?_ rfl
  exact Kept.nil

/-- What the stores of the scale gradient read back to: eight updates over what was found. -/
theorem kept9_B (hc0 : ¬cond0_0 i) :
    Kept (N := 8) rowRect (up9 (lA arg1 harg1 x0) (lD arg2 harg2 x1) (lW arg5 harg5 x4)) (lLanes arg10 harg10 xo9) 1 8 0
      (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10).2.2.2.1 := by
  iterate 7 (refine Kept.next ?_; iterate 8 refine Kept.step rowRect_apart (by decide) (by decide) arg10.view ?_ rfl)
  refine Kept.next ?_
  iterate 8 refine Kept.first rowRect_apart (by decide) ?_ rfl
  exact Kept.nil

/-- What the stores of the shift gradient read back to: eight updates over what was found. -/
theorem kept10_B (hc0 : ¬cond0_0 i) :
    Kept (N := 8) rowRect (up10 (lA arg1 harg1 x0) (lD arg2 harg2 x1) (lW arg5 harg5 x4)) (lLanes arg11 harg11 xo10) 1 8 0
      (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10).2.2.2.2.1 := by
  iterate 7 (refine Kept.next ?_; iterate 8 refine Kept.step rowRect_apart (by decide) (by decide) arg11.view ?_ rfl)
  refine Kept.next ?_
  iterate 8 refine Kept.first rowRect_apart (by decide) ?_ rfl
  exact Kept.nil

/-- The stores of `duv` are blocks of `duvBlock`. -/
theorem laid6_B (hc0 : ¬cond0_0 i) :
    Laid (lA arg1 harg1 x0) (lD arg2 harg2 x1) (lRow arg3 harg3 x2) (lRow arg4 harg4 x3) (lW arg5 harg5 x4) (lB arg6 harg6 x5) 8 0
      (kernelRun0_B c i arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10).1 := by
  iterate 8 (refine Laid.right _ _ _ _ _ _ (by decide) ?_ rfl; iterate 8 refine Laid.left _ _ _ _ _ _ (by decide) (by decide) ?_ rfl)
  exact Laid.nil _ _ _ _ _ _

/-! ### Case A: the accumulators cleared first -/

/-- What the stores of the gradient of the spatial weights read back to: eight updates over zeros. -/
theorem kept7_A (hc0 : cond0_0 i) :
    Kept (N := 8) groupRect (up7 (lA arg1 harg1 x0) (lD arg2 harg2 x1) (lRow arg3 harg3 x2) (lRow arg4 harg4 x3)) (fun g x => k0_pay2 ((groupRect g).emb x)) 0 8 0
      (kernelRun0_A c i arg1 harg1 arg2 harg2 arg3 harg3 arg4 harg4 arg5 harg5 arg6 harg6 arg7 harg7 arg8 harg8 arg9 harg9 arg10 harg10 arg11 harg11 hc0 x0 x1 x2 x3 x4 x5).2.1 := by
  iterate 8 (refine Kept.next ?_; iterate 8 refine Kept.step groupRect_apart (by decide) (by decide) arg8.view ?_ rfl)
  refine Kept.fill fun g x => ?_
  exact congrFun (View.canon_unit_zero (S := S8x128x128) (by funext a; fin_cases a <;> rfl) _ _) _

/-- What the stores of the bias gradient read back to: eight updates over zeros. -/
theorem kept8_A (hc0 : cond0_0 i) :
    Kept (N := 1) wholeRect (up8 (lA arg1 harg1 x0) (lD arg2 harg2 x1)) (fun g x => k0_pay3 ((wholeRect g).emb x)) 0 8 0
      (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.1 := by
  iterate 8 (refine Kept.next ?_; iterate 1 refine Kept.step wholeRect_apart (by decide) (by decide) arg9.view ?_ rfl)
  refine Kept.fill fun g x => ?_
  exact congrFun (View.canon_unit_zero (S := S128x128) (by funext a; fin_cases a <;> rfl) _ _) _

/-- What the stores of the scale gradient read back to: eight updates over zeros. -/
theorem kept9_A (hc0 : cond0_0 i) :
    Kept (N := 8) rowRect (up9 (lA arg1 harg1 x0) (lD arg2 harg2 x1) (lW arg5 harg5 x4)) (fun g x => k0_pay4 ((rowRect g).emb x)) 0 8 0
      (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.1 := by
  iterate 8 (refine Kept.next ?_; iterate 8 refine Kept.step rowRect_apart (by decide) (by decide) arg10.view ?_ rfl)
  refine Kept.fill fun g x => ?_
  exact congrFun (View.canon_unit_zero (S := S1x1024) (by funext a; fin_cases a <;> rfl) _ _) _

/-- What the stores of the shift gradient read back to: eight updates over zeros. -/
theorem kept10_A (hc0 : cond0_0 i) :
    Kept (N := 8) rowRect (up10 (lA arg1 harg1 x0) (lD arg2 harg2 x1) (lW arg5 harg5 x4)) (fun g x => k0_pay5 ((rowRect g).emb x)) 0 8 0
      (kernelRun0_A c i arg1 harg1 arg2 harg2 arg3 harg3 arg4 harg4 arg5 harg5 arg6 harg6 arg7 harg7 arg8 harg8 arg9 harg9 arg10 harg10 arg11 harg11 hc0 x0 x1 x2 x3 x4 x5).2.2.2.2.1 := by
  iterate 8 (refine Kept.next ?_; iterate 8 refine Kept.step rowRect_apart (by decide) (by decide) arg11.view ?_ rfl)
  refine Kept.fill fun g x => ?_
  exact congrFun (View.canon_unit_zero (S := S1x1024) (by funext a; fin_cases a <;> rfl) _ _) _

/-- The stores of `duv` are blocks of `duvBlock`. -/
theorem laid6_A (hc0 : cond0_0 i) :
    Laid (lA arg1 harg1 x0) (lD arg2 harg2 x1) (lRow arg3 harg3 x2) (lRow arg4 harg4 x3) (lW arg5 harg5 x4) (lB arg6 harg6 x5) 8 0
      (kernelRun0_A c i arg1 harg1 arg2 harg2 arg3 harg3 arg4 harg4 arg5 harg5 arg6 harg6 arg7 harg7 arg8 harg8 arg9 harg9 arg10 harg10 arg11 harg11 hc0 x0 x1 x2 x3 x4 x5).1 := by
  iterate 8 (refine Laid.right _ _ _ _ _ _ (by decide) ?_ rfl; iterate 8 refine Laid.left _ _ _ _ _ _ (by decide) (by decide) ?_ rfl)
  exact Laid.nil _ _ _ _ _ _

end Cert.KernelIdeal.Body
-- ==== Proof.PointValue.lean ====
/-
  What one grid point leaves, at real values: the block of `duv`, and each accumulator as what it was plus the parts of the
  point's eight chunks.
-/
module

public import proofs.«01_k».proof.Proof.ChunkValue
public import proofs.«01_k».proof.Proof.Body
public import Idealize.ShloMosaic.Lib.Pipeline.ValueKit.Tiles

@[expose] public section

set_option synthInstance.maxSize 4096
set_option maxRecDepth 16384

noncomputable section

namespace Cert.KernelIdeal.PointValue

open Idealize.ShloMosaic Idealize.SL.Sem Cert.KernelIdeal Cert.KernelIdeal.Gen Cert.KernelIdeal.Chunk Cert.KernelIdeal.Body Cert.Accum Cert.Spec

/-- Row `i` of chunk `q` of a point's 1024 rows. -/
def slot (q : Fin 8) (i : Fin 128) : Fin 1024 := ⟨128 * q.val + i.val, by omega⟩

/-- Chunk `q` of a block's 1024 rows. -/
def chunk {β : Type} (X : Fin 1024 → β) (q : Fin 8) (i : Fin 128) : β := X ⟨128 * q.val + i.val, by omega⟩

variable (c : Dev nD) (pt : grid0.Coords) (arg1 : Memref sig .tc .vmem S1024x2048 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1x1024 .f32) (harg4 : arg4.IsWhole) (arg5 : Memref sig .tc .vmem S8x128x128 .f32) (harg5 : arg5.IsWhole) (arg6 : Memref sig .tc .vmem S128x128 .f32) (harg6 : arg6.IsWhole) (arg7 : Memref sig .tc .vmem S1024x2048 .bf16) (harg7 : arg7.IsWhole) (arg8 : Memref sig .tc .vmem S8x128x128 .f32) (harg8 : arg8.IsWhole) (arg9 : Memref sig .tc .vmem S128x128 .f32) (harg9 : arg9.IsWhole) (arg10 : Memref sig .tc .vmem S1x1024 .f32) (harg10 : arg10.IsWhole) (arg11 : Memref sig .tc .vmem S1x1024 .f32) (harg11 : arg11.IsWhole)
  (x0 : Vec Ideal S1024x2048 .f32) (x1 : Vec Ideal S1024x1024 .f32) (x2 x3 : Vec Ideal S1x1024 .f32) (x4 : Vec Ideal S8x128x128 .f32) (x5 : Vec Ideal S128x128 .f32) (xo7 : Vec Ideal S8x128x128 .f32) (xo8 : Vec Ideal S128x128 .f32) (xo9 xo10 : Vec Ideal S1x1024 .f32)

/-! ### The loads -/

theorem lA_at (q : Fin 8) (i : Fin 128) (j : Fin 2048) : lA arg1 harg1 x0 q (ix2 i j) = x0 (ix2 ⟨128 * q.val + i.val, by omega⟩ j) := by
  unfold lA rowsRect
  rw [View.readAt_eq_ld, harg1.read_unread]
  exact View.ld_unit_apply_of _ _ _ _ _ _ fun a => by fin_cases a <;> simp

theorem lD_at (q : Fin 8) (i : Fin 128) (j : Fin 1024) : lD arg2 harg2 x1 q (ix2 i j) = x1 (ix2 ⟨128 * q.val + i.val, by omega⟩ j) := by
  unfold lD rowsRect'
  rw [View.readAt_eq_ld, harg2.read_unread]
  exact View.ld_unit_apply_of _ _ _ _ _ _ fun a => by fin_cases a <;> simp

theorem lRow_eq (arg : Memref sig .tc .vmem S1x1024 .f32) (harg : arg.IsWhole) (x : Vec Ideal S1x1024 .f32) : lRow arg harg x = x := by
  unfold lRow
  rw [View.readAt_eq_ld, harg.read_unread]
  exact View.ld_unit_zero (S := S1x1024) (by funext a; fin_cases a <;> rfl) _ _

theorem lB_eq (arg : Memref sig .tc .vmem S128x128 .f32) (harg : arg.IsWhole) (x : Vec Ideal S128x128 .f32) : lB arg harg x = x := by
  unfold lB
  rw [View.readAt_eq_ld, harg.read_unread]
  exact View.ld_unit_zero (S := S128x128) (by funext a; fin_cases a <;> rfl) _ _

theorem lW_at (arg : Memref sig .tc .vmem S8x128x128 .f32) (harg : arg.IsWhole) (x : Vec Ideal S8x128x128 .f32) (g : Fin 8) (i k : Fin 128) :
    lW arg harg x g (ix3 0 i k) = x (ix3 g i k) := by
  unfold lW groupRect
  rw [View.readAt_eq_ld, harg.read_unread]
  exact View.ld_unit_apply_of _ _ _ _ _ _ fun a => by fin_cases a <;> simp

theorem lLanes_at (arg : Memref sig .tc .vmem S1x1024 .f32) (harg : arg.IsWhole) (x : Vec Ideal S1x1024 .f32) (g : Fin 8) (l : Fin 128) :
    lLanes arg harg x g (ix2 0 l) = x (ix2 0 (lane g l)) := by
  unfold lLanes rowRect
  rw [View.readAt_eq_ld, harg.read_unread]
  exact View.ld_unit_apply_of _ _ _ _ _ _ fun a => by fin_cases a <;> simp [lane]

/-! ### Eight updates as a sum -/

variable {X : Fin 1024 → Fin 2048 → ℝ} {Y : Fin 1024 → Fin 1024 → ℝ} {G B : Fin 1024 → ℝ} {W : Fin 8 → Fin 128 → Fin 128 → ℝ} {b : Fin 8 → Fin 128 → ℝ}
variable (hX : ∀ r j, x0 (ix2 r j) = ((X r j : ℝ) : EReal)) (hY : ∀ r j, x1 (ix2 r j) = ((Y r j : ℝ) : EReal))
variable (hG : ∀ j, x2 (ix2 0 j) = ((G j : ℝ) : EReal)) (hB : ∀ j, x3 (ix2 0 j) = ((B j : ℝ) : EReal))
variable (hW : ∀ g i k, x4 (ix3 g i k) = ((W g i k : ℝ) : EReal)) (hb : ∀ (i : Fin 128) (g : Fin 8), x5 (ix2 i (pos g)) = ((b g i : ℝ) : EReal))

include hX in
theorem lA_real (q : Fin 8) (i : Fin 128) (j : Fin 2048) : lA arg1 harg1 x0 q (ix2 i j) = ((chunk X q i j : ℝ) : EReal) := by
  rw [lA_at, hX]; rfl

include hY in
theorem lD_real (q : Fin 8) (i : Fin 128) (j : Fin 1024) : lD arg2 harg2 x1 q (ix2 i j) = ((chunk Y q i j : ℝ) : EReal) := by
  rw [lD_at, hY]; rfl

include hG in
theorem lG_real (j : Fin 1024) : lRow arg3 harg3 x2 (ix2 0 j) = ((G j : ℝ) : EReal) := by
  rw [lRow_eq, hG]

include hB in
theorem lB_real (j : Fin 1024) : lRow arg4 harg4 x3 (ix2 0 j) = ((B j : ℝ) : EReal) := by
  rw [lRow_eq, hB]

include hW in
theorem lW_real (g : Fin 8) (i k : Fin 128) : lW arg5 harg5 x4 g (ix3 0 i k) = ((W g i k : ℝ) : EReal) := by
  rw [lW_at, hW]

include hb in
theorem lb_real (i : Fin 128) (g : Fin 8) : lB arg6 harg6 x5 (ix2 i (pos g)) = ((b g i : ℝ) : EReal) := by
  rw [lB_eq, hb]

include hX hY hG hB in
/-- The gradient of the spatial weights after `q` chunks. -/
theorem acc7 (base : (g : Fin 8) → (groupRect g).shape.Idx → EReal) (q : ℕ) (g : Fin 8) (i k : Fin 128) :
    acc (Val := Elt Ideal) (e := .f32) groupRect (up7 (lA arg1 harg1 x0) (lD arg2 harg2 x1) (lRow arg3 harg3 x2) (lRow arg4 harg4 x3)) base q g (ix3 0 i k)
      = base g (ix3 0 i k) + ((∑ p ∈ Finset.range q, dwR (chunk X (ix p)) (chunk Y (ix p)) G B g i k : ℝ) : EReal) := by
  induction q with
  | zero => simp [acc]
  | succ q ih =>
    refine (dwStep_at (lA_real arg1 harg1 x0 hX (ix q)) (lD_real arg2 harg2 x1 hY (ix q)) (lG_real arg3 harg3 x2 hG)
      (lB_real arg4 harg4 x3 hB) g _ i k).trans ?_
    rw [Finset.sum_range_succ, EReal.coe_add, ← add_assoc]
    exact congrArg (· + _) ih

include hX hY in
/-- The gradient of the spatial biases after `q` chunks. -/
theorem acc8 (base : (g : Fin 1) → (wholeRect g).shape.Idx → EReal) (q : ℕ) (i k : Fin 128) :
    acc (Val := Elt Ideal) (e := .f32) wholeRect (up8 (lA arg1 harg1 x0) (lD arg2 harg2 x1)) base q 0 (ix2 i k)
      = base 0 (ix2 i k) + ((∑ p ∈ Finset.range q, ∑ g : Fin 8, if k.val = g.val then dbR (chunk X (ix p)) (chunk Y (ix p)) g i else 0 : ℝ) : EReal) := by
  induction q with
  | zero => simp [acc]
  | succ q ih =>
    refine (dbStep_at (lA_real arg1 harg1 x0 hX (ix q)) (lD_real arg2 harg2 x1 hY (ix q)) _ i k).trans ?_
    rw [Finset.sum_range_succ, EReal.coe_add, ← add_assoc]
    exact congrArg (· + _) ih

include hX hY hW in
/-- The gradient of the scale after `q` chunks. -/
theorem acc9 (base : (g : Fin 8) → (rowRect g).shape.Idx → EReal) (q : ℕ) (g : Fin 8) (l : Fin 128) :
    acc (Val := Elt Ideal) (e := .f32) rowRect (up9 (lA arg1 harg1 x0) (lD arg2 harg2 x1) (lW arg5 harg5 x4)) base q g (ix2 0 l)
      = base g (ix2 0 l) + ((∑ p ∈ Finset.range q, dvgR (chunk X (ix p)) (chunk Y (ix p)) W (lane g l) : ℝ) : EReal) := by
  induction q with
  | zero => simp [acc]
  | succ q ih =>
    refine (dvgStep_at (lA_real arg1 harg1 x0 hX (ix q)) (lD_real arg2 harg2 x1 hY (ix q)) (lW_real arg5 harg5 x4 hW) g _ l).trans ?_
    rw [Finset.sum_range_succ, EReal.coe_add, ← add_assoc]
    exact congrArg (· + _) ih

include hX hY hW in
/-- The gradient of the shift after `q` chunks. -/
theorem acc10 (base : (g : Fin 8) → (rowRect g).shape.Idx → EReal) (q : ℕ) (g : Fin 8) (l : Fin 128) :
    acc (Val := Elt Ideal) (e := .f32) rowRect (up10 (lA arg1 harg1 x0) (lD arg2 harg2 x1) (lW arg5 harg5 x4)) base q g (ix2 0 l)
      = base g (ix2 0 l) + ((∑ p ∈ Finset.range q, dvbR (chunk X (ix p)) (chunk Y (ix p)) W (lane g l) : ℝ) : EReal) := by
  induction q with
  | zero => simp [acc]
  | succ q ih =>
    refine (dvbStep_at (lA_real arg1 harg1 x0 hX (ix q)) (lD_real arg2 harg2 x1 hY (ix q)) (lW_real arg5 harg5 x4 hW) g _ l).trans ?_
    rw [Finset.sum_range_succ, EReal.coe_add, ← add_assoc]
    exact congrArg (· + _) ih

/-! ### The indices a block's rectangle covers -/

theorem groupRect_ix (g : Fin 8) (i k : Fin 128) : (groupRect g).emb (ix3 0 i k) = ix3 g i k := by
  funext a; apply Fin.ext
  refine (Rect.idx_unit_val (s := S8x128x128) ![g.val, 0, 0] S1x128x128.size (group_inb g) (ix3 0 i k) a).trans ?_
  fin_cases a <;> simp

theorem rowRect_ix (g : Fin 8) (l : Fin 128) : (rowRect g).emb (ix2 0 l) = ix2 0 (lane g l) := by
  funext a; apply Fin.ext
  refine (Rect.idx_unit_val (s := S1x1024) ![0, 128 * g.val] S1x128.size (row_inb g) (ix2 0 l) a).trans ?_
  fin_cases a <;> simp [lane]

theorem wholeRect_ix (g : Fin 1) (i k : Fin 128) : (wholeRect g).emb (ix2 i k) = ix2 i k := by
  funext a; apply Fin.ext
  refine (Rect.idx_unit_val (s := S128x128) ![0, 0] S128x128.size inb_S128x128_S128x128_0_0 (ix2 i k) a).trans ?_
  fin_cases a <;> simp

/-! ### A point's accumulators, case B -/

include hX hY hG hB in
/-- The gradient of the spatial weights after the point, from what it was. -/
theorem out7_B (hc0 : ¬cond0_0 pt) (g : Fin 8) (i k : Fin 128) :
    out0_B_7 c pt arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix3 g i k) = xo7 (ix3 g i k) + ((∑ p ∈ Finset.range 8, dwR (chunk X (ix p)) (chunk Y (ix p)) G B g i k : ℝ) : EReal) := by
  unfold out0_B_7
  rw [View.read_writes_junk_eq_canon]
  refine (congrArg (View.canon _) (groupRect_ix g i k)).symm.trans ?_
  refine ((kept7_B c pt arg1 harg1 arg2 harg2 arg3 harg3 arg4 harg4 arg5 harg5 arg6 harg6 arg7 harg7 arg8 harg8 arg9 harg9 arg10 harg10 arg11 harg11 x0 x1 x2 x3 x4 x5 xo7 xo8 xo9 xo10 hc0).read (by decide) g (ix3 0 i k)).trans ?_
  refine (acc7 arg1 harg1 arg2 harg2 arg3 harg3 arg4 harg4 x0 x1 x2 x3 hX hY hG hB _ 8 g i k).trans ?_
  exact congrArg (· + _) (lW_at arg8 harg8 xo7 g i k)

include hX hY in
/-- The gradient of the spatial biases after the point, from what it was. -/
theorem out8_B (hc0 : ¬cond0_0 pt) (i k : Fin 128) :
    out0_B_8 c pt arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix2 i k) = xo8 (ix2 i k) + ((∑ p ∈ Finset.range 8, ∑ g : Fin 8, if k.val = g.val then dbR (chunk X (ix p)) (chunk Y (ix p)) g i else 0 : ℝ) : EReal) := by
  unfold out0_B_8
  rw [View.read_writes_junk_eq_canon]
  refine (congrArg (View.canon _) (wholeRect_ix 0 i k)).symm.trans ?_
  refine ((kept8_B c pt arg1 harg1 arg2 harg2 arg3 harg3 arg4 harg4 arg5 harg5 arg6 harg6 arg7 harg7 arg8 harg8 arg9 harg9 arg10 harg10 arg11 harg11 x0 x1 x2 x3 x4 x5 xo7 xo8 xo9 xo10 hc0).read (by decide) 0 (ix2 i k)).trans ?_
  refine (acc8 arg1 harg1 arg2 harg2 x0 x1 hX hY _ 8 i k).trans ?_
  exact congrArg (· + _) (congrFun (lB_eq arg9 harg9 xo8) (ix2 i k))

include hX hY hW in
/-- The gradient of the scale after the point, from what it was. -/
theorem out9_B (hc0 : ¬cond0_0 pt) (L : Fin 1024) :
    out0_B_9 c pt arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix2 0 L) = xo9 (ix2 0 L) + ((∑ p ∈ Finset.range 8, dvgR (chunk X (ix p)) (chunk Y (ix p)) W L : ℝ) : EReal) := by
  unfold out0_B_9
  rw [View.read_writes_junk_eq_canon]
  obtain ⟨g, l, rfl⟩ : ∃ g l, lane g l = L := ⟨grp L, sub L, lane_grp_sub L⟩
  refine (congrArg (View.canon _) (rowRect_ix g l)).symm.trans ?_
  refine ((kept9_B c pt arg1 harg1 arg2 harg2 arg3 harg3 arg4 harg4 arg5 harg5 arg6 harg6 arg7 harg7 arg8 harg8 arg9 harg9 arg10 harg10 arg11 harg11 x0 x1 x2 x3 x4 x5 xo7 xo8 xo9 xo10 hc0).read (by decide) g (ix2 0 l)).trans ?_
  refine (acc9 arg1 harg1 arg2 harg2 arg5 harg5 x0 x1 x4 hX hY hW _ 8 g l).trans ?_
  exact congrArg (· + _) (lLanes_at arg10 harg10 xo9 g l)

include hX hY hW in
/-- The gradient of the shift after the point, from what it was. -/
theorem out10_B (hc0 : ¬cond0_0 pt) (L : Fin 1024) :
    out0_B_10 c pt arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 (ix2 0 L) = xo10 (ix2 0 L) + ((∑ p ∈ Finset.range 8, dvbR (chunk X (ix p)) (chunk Y (ix p)) W L : ℝ) : EReal) := by
  unfold out0_B_10
  rw [View.read_writes_junk_eq_canon]
  obtain ⟨g, l, rfl⟩ : ∃ g l, lane g l = L := ⟨grp L, sub L, lane_grp_sub L⟩
  refine (congrArg (View.canon _) (rowRect_ix g l)).symm.trans ?_
  refine ((kept10_B c pt arg1 harg1 arg2 harg2 arg3 harg3 arg4 harg4 arg5 harg5 arg6 harg6 arg7 harg7 arg8 harg8 arg9 harg9 arg10 harg10 arg11 harg11 x0 x1 x2 x3 x4 x5 xo7 xo8 xo9 xo10 hc0).read (by decide) g (ix2 0 l)).trans ?_
  refine (acc10 arg1 harg1 arg2 harg2 arg5 harg5 x0 x1 x4 hX hY hW _ 8 g l).trans ?_
  exact congrArg (· + _) (lLanes_at arg11 harg11 xo10 g l)

/-! ### A point's accumulators, case A -/

include hX hY hG hB in
/-- The gradient of the spatial weights after the point that clears it. -/
theorem out7_A (hc0 : cond0_0 pt) (g : Fin 8) (i k : Fin 128) :
    out0_A_7 c pt arg1 harg1 arg2 harg2 arg3 harg3 arg4 harg4 arg5 harg5 arg6 harg6 arg7 harg7 arg8 harg8 arg9 harg9 arg10 harg10 arg11 harg11 hc0 x0 x1 x2 x3 x4 x5 (ix3 g i k) = ((∑ p ∈ Finset.range 8, dwR (chunk X (ix p)) (chunk Y (ix p)) G B g i k : ℝ) : EReal) := by
  unfold out0_A_7
  rw [View.read_writes_junk_eq_canon]
  refine (congrArg (View.canon _) (groupRect_ix g i k)).symm.trans ?_
  refine ((kept7_A c pt arg1 harg1 arg2 harg2 arg3 harg3 arg4 harg4 arg5 harg5 arg6 harg6 arg7 harg7 arg8 harg8 arg9 harg9 arg10 harg10 arg11 harg11 x0 x1 x2 x3 x4 x5 hc0).read (by decide) g (ix3 0 i k)).trans ?_
  refine (acc7 arg1 harg1 arg2 harg2 arg3 harg3 arg4 harg4 x0 x1 x2 x3 hX hY hG hB _ 8 g i k).trans ?_
  have e : k0_pay2 (F := Ideal) (ix3 g i k) = (0 : EReal) := by
    pointwise [k0_pay2]
  rw [groupRect_ix g i k, e, zero_add]

include hX hY in
/-- The gradient of the spatial biases after the point that clears it. -/
theorem out8_A (hc0 : cond0_0 pt) (i k : Fin 128) :
    out0_A_8 c pt arg1 harg1 arg2 harg2 arg3 harg3 arg4 harg4 arg5 harg5 arg6 harg6 arg7 harg7 arg8 harg8 arg9 harg9 arg10 harg10 arg11 harg11 hc0 x0 x1 x2 x3 x4 x5 (ix2 i k) = ((∑ p ∈ Finset.range 8, ∑ g : Fin 8, if k.val = g.val then dbR (chunk X (ix p)) (chunk Y (ix p)) g i else 0 : ℝ) : EReal) := by
  unfold out0_A_8
  rw [View.read_writes_junk_eq_canon]
  refine (congrArg (View.canon _) (wholeRect_ix 0 i k)).symm.trans ?_
  refine ((kept8_A c pt arg1 harg1 arg2 harg2 arg3 harg3 arg4 harg4 arg5 harg5 arg6 harg6 arg7 harg7 arg8 harg8 arg9 harg9 arg10 harg10 arg11 harg11 x0 x1 x2 x3 x4 x5 hc0).read (by decide) 0 (ix2 i k)).trans ?_
  refine (acc8 arg1 harg1 arg2 harg2 x0 x1 hX hY _ 8 i k).trans ?_
  have e : k0_pay3 (F := Ideal) (ix2 i k) = (0 : EReal) := by
    pointwise [k0_pay3]
  rw [wholeRect_ix 0 i k, e, zero_add]

include hX hY hW in
/-- The gradient of the scale after the point that clears it. -/
theorem out9_A (hc0 : cond0_0 pt) (L : Fin 1024) :
    out0_A_9 c pt arg1 harg1 arg2 harg2 arg3 harg3 arg4 harg4 arg5 harg5 arg6 harg6 arg7 harg7 arg8 harg8 arg9 harg9 arg10 harg10 arg11 harg11 hc0 x0 x1 x2 x3 x4 x5 (ix2 0 L) = ((∑ p ∈ Finset.range 8, dvgR (chunk X (ix p)) (chunk Y (ix p)) W L : ℝ) : EReal) := by
  unfold out0_A_9
  rw [View.read_writes_junk_eq_canon]
  obtain ⟨g, l, rfl⟩ : ∃ g l, lane g l = L := ⟨grp L, sub L, lane_grp_sub L⟩
  refine (congrArg (View.canon _) (rowRect_ix g l)).symm.trans ?_
  refine ((kept9_A c pt arg1 harg1 arg2 harg2 arg3 harg3 arg4 harg4 arg5 harg5 arg6 harg6 arg7 harg7 arg8 harg8 arg9 harg9 arg10 harg10 arg11 harg11 x0 x1 x2 x3 x4 x5 hc0).read (by decide) g (ix2 0 l)).trans ?_
  refine (acc9 arg1 harg1 arg2 harg2 arg5 harg5 x0 x1 x4 hX hY hW _ 8 g l).trans ?_
  have e : k0_pay4 (F := Ideal) (ix2 0 (lane g l)) = (0 : EReal) := by
    pointwise [k0_pay4]
  rw [rowRect_ix g l, e, zero_add]

include hX hY hW in
/-- The gradient of the shift after the point that clears it. -/
theorem out10_A (hc0 : cond0_0 pt) (L : Fin 1024) :
    out0_A_10 c pt arg1 harg1 arg2 harg2 arg3 harg3 arg4 harg4 arg5 harg5 arg6 harg6 arg7 harg7 arg8 harg8 arg9 harg9 arg10 harg10 arg11 harg11 hc0 x0 x1 x2 x3 x4 x5 (ix2 0 L) = ((∑ p ∈ Finset.range 8, dvbR (chunk X (ix p)) (chunk Y (ix p)) W L : ℝ) : EReal) := by
  unfold out0_A_10
  rw [View.read_writes_junk_eq_canon]
  obtain ⟨g, l, rfl⟩ : ∃ g l, lane g l = L := ⟨grp L, sub L, lane_grp_sub L⟩
  refine (congrArg (View.canon _) (rowRect_ix g l)).symm.trans ?_
  refine ((kept10_A c pt arg1 harg1 arg2 harg2 arg3 harg3 arg4 harg4 arg5 harg5 arg6 harg6 arg7 harg7 arg8 harg8 arg9 harg9 arg10 harg10 arg11 harg11 x0 x1 x2 x3 x4 x5 hc0).read (by decide) g (ix2 0 l)).trans ?_
  refine (acc10 arg1 harg1 arg2 harg2 arg5 harg5 x0 x1 x4 hX hY hW _ 8 g l).trans ?_
  have e : k0_pay5 (F := Ideal) (ix2 0 (lane g l)) = (0 : EReal) := by
    pointwise [k0_pay5]
  rw [rowRect_ix g l, e, zero_add]

/-! ### A point's block of `duv` -/

include hX hY hG hB hW hb in
/-- The left half of a row of the block. -/
theorem duv_left (q : Fin 8) (i : Fin 128) (L : Fin 1024) :
    duvBlock (lA arg1 harg1 x0) (lD arg2 harg2 x1) (lRow arg3 harg3 x2) (lRow arg4 harg4 x3) (lW arg5 harg5 x4) (lB arg6 harg6 x5)
      (ix2 (slot q i) (lo L)) = ((duR (chunk X q) (chunk Y q) G B W b i L : ℝ) : EReal) := by
  obtain ⟨g, l, rfl⟩ : ∃ g l, lane g l = L := ⟨grp L, sub L, lane_grp_sub L⟩
  have e : (leftRect q g).emb (ix2 i l) = ix2 (slot q i) (lo (lane g l)) := by
    funext a; apply Fin.ext
    refine (Rect.idx_unit_val (s := S1024x2048) ![128 * q.val, 128 * g.val] S128x128.size (half_inb q g) (ix2 i l) a).trans ?_
    fin_cases a <;> simp [lo, lane, slot]
  rw [← e]
  refine (duvBlock_left _ _ _ _ _ _ q g _).symm.trans ?_
  exact duPiece_at (lA_real arg1 harg1 x0 hX q) (lD_real arg2 harg2 x1 hY q) (lG_real arg3 harg3 x2 hG) (lB_real arg4 harg4 x3 hB)
    (lW_real arg5 harg5 x4 hW) (lb_real arg6 harg6 x5 hb) g i l

include hX hY hG hB hW hb in
/-- The right half of a row of the block. -/
theorem duv_right (q : Fin 8) (i : Fin 128) (L : Fin 1024) :
    duvBlock (lA arg1 harg1 x0) (lD arg2 harg2 x1) (lRow arg3 harg3 x2) (lRow arg4 harg4 x3) (lW arg5 harg5 x4) (lB arg6 harg6 x5)
      (ix2 (slot q i) (hi L)) = ((dvR (chunk X q) (chunk Y q) G W i L : ℝ) : EReal) := by
  have e : (rightRect q).emb (ix2 i L) = ix2 (slot q i) (hi L) := by
    funext a; apply Fin.ext
    refine (Rect.idx_unit_val (s := S1024x2048) ![128 * q.val, 1024] S128x1024.size (half_inb' q) (ix2 i L) a).trans ?_
    fin_cases a <;> simp [hi, slot]
  rw [← e]
  refine (duvBlock_right _ _ _ _ _ _ q _).symm.trans ?_
  exact dvPiece_at (lA_real arg1 harg1 x0 hX q) (lD_real arg2 harg2 x1 hY q) (lG_real arg3 harg3 x2 hG) (lW_real arg5 harg5 x4 hW) i L

/-- The block is `duvBlock`, case B. -/
theorem out6_B (hc0 : ¬cond0_0 pt) :
    out0_B_6 c pt arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10
      = duvBlock (lA arg1 harg1 x0) (lD arg2 harg2 x1) (lRow arg3 harg3 x2) (lRow arg4 harg4 x3) (lW arg5 harg5 x4) (lB arg6 harg6 x5) := by
  funext y
  unfold out0_B_6
  rw [View.read_writes_junk_eq_canon]
  exact View.canon_apply_of_pieces _ _ (View.PiecesOf.mem (laid6_B c pt arg1 harg1 arg2 harg2 arg3 harg3 arg4 harg4 arg5 harg5 arg6 harg6 arg7 harg7 arg8 harg8 arg9 harg9 arg10 harg10 arg11 harg11 x0 x1 x2 x3 x4 x5 xo7 xo8 xo9 xo10 hc0)) y (cover0_B_6 c pt arg1 harg1 arg2 harg2 arg3 harg3 arg4 harg4 arg5 harg5 arg6 harg6 arg7 harg7 arg8 harg8 arg9 harg9 arg10 harg10 arg11 harg11 hc0 x0 x1 x2 x3 x4 x5 xo7 xo8 xo9 xo10 y)

/-- The block is `duvBlock`, case A. -/
theorem out6_A (hc0 : cond0_0 pt) :
    out0_A_6 c pt arg1 harg1 arg2 harg2 arg3 harg3 arg4 harg4 arg5 harg5 arg6 harg6 arg7 harg7 arg8 harg8 arg9 harg9 arg10 harg10 arg11 harg11 hc0 x0 x1 x2 x3 x4 x5
      = duvBlock (lA arg1 harg1 x0) (lD arg2 harg2 x1) (lRow arg3 harg3 x2) (lRow arg4 harg4 x3) (lW arg5 harg5 x4) (lB arg6 harg6 x5) := by
  funext y
  unfold out0_A_6
  rw [View.read_writes_junk_eq_canon]
  exact View.canon_apply_of_pieces _ _ (View.PiecesOf.mem (laid6_A c pt arg1 harg1 arg2 harg2 arg3 harg3 arg4 harg4 arg5 harg5 arg6 harg6 arg7 harg7 arg8 harg8 arg9 harg9 arg10 harg10 arg11 harg11 x0 x1 x2 x3 x4 x5 hc0)) y (cover0_A_6 c pt arg1 harg1 arg2 harg2 arg3 harg3 arg4 harg4 arg5 harg5 arg6 harg6 arg7 harg7 arg8 harg8 arg9 harg9 arg10 harg10 arg11 harg11 hc0 x0 x1 x2 x3 x4 x5 y)

end Cert.KernelIdeal.PointValue
-- ==== Proof.KernelValue.lean ====
/-
  The kernel's five results at real arguments: the blocks of `duv` row by row, and the four accumulators as sums over the
  64 blocks of 128 rows.
-/
module

public import proofs.«01_k».proof.Proof.PointValue
public import proofs.«01_k».proof.Proof.Gen.KernelIdeal.Value
public import Idealize.ShloMosaic.Lib.StableHlo.Run

@[expose] public section

set_option synthInstance.maxSize 4096
set_option maxRecDepth 16384

noncomputable section

namespace Cert.KernelIdeal.KernelValue

open Idealize.ShloMosaic Idealize.ShloMosaic.TcCoe Idealize.SL.Sem Cert.KernelIdeal Cert.KernelIdeal.Gen Cert.KernelIdeal.Body Cert.KernelIdeal.PointValue Cert.Spec
open Idealize.ShloMosaic.Pipeline (Dat)

/-- Row `r` of grid point `t`'s rows. -/
def point {β : Type} (U : Fin 8192 → β) (t : ℕ) (r : Fin 1024) : β := U ⟨(1024 * t + r.val) % 8192, Nat.mod_lt _ (by decide)⟩

theorem chunk_point {β : Type} (U : Fin 8192 → β) (t : ℕ) (q : Fin 8) : chunk (point U t) q = rows U (8 * t + q.val) := by
  funext i
  refine congrArg U (Fin.ext ?_)
  show (1024 * t + (128 * q.val + i.val)) % 8192 = (128 * (8 * t + q.val) + i.val) % 8192
  congr 1; omega

variable (m : (ℓ : Loc nD τ sig) → Buf (Elt Ideal) ℓ) (c : Dev nD)

/-! ### The windows' blocks -/

theorem hN : cfg0.N = 8 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = t.val ∧ win0_1.index t 1 = 0 := by
  show ∀ t : Fin grid0.N, _
  decide +kernel

theorem idx6 : ∀ t : Fin cfg0.N, win0_6.index t 0 = t.val ∧ win0_6.index t 1 = 0 := by
  show ∀ t : Fin grid0.N, _
  decide +kernel

/-- Row `r` of point `t`'s block of an array of 8192 rows. -/
def big (t : Fin cfg0.N) (r : Fin 1024) : Fin 8192 := ⟨(1024 * t.val + r.val) % 8192, Nat.mod_lt _ (by decide)⟩

theorem big_val (t : Fin cfg0.N) (r : Fin 1024) : (big t r).val = 1024 * t.val + r.val :=
  Nat.mod_eq_of_lt (by have := t.isLt; have := hN; omega)

theorem iblk0_at (t : Fin cfg0.N) (r : Fin 1024) (j : Fin 2048) :
    (iblk m c 0 t : Vec Ideal S1024x2048 .f32) (ix2 r j) = m ((c : Thread nD τ).loc main_arg0) (ix2 (big t r) j) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = (big t r).val; rw [(idx0 t).1, big_val]; omega
  | ⟨1, _⟩ => show win0_0.index t 1 * 2048 + 1 * j.val = j.val; rw [(idx0 t).2]; omega

theorem iblk1_at (t : Fin cfg0.N) (r : Fin 1024) (j : Fin 1024) :
    (iblk m c 1 t : Vec Ideal S1024x1024 .f32) (ix2 r j) = m ((c : Thread nD τ).loc main_arg1) (ix2 (big t r) j) := by
  unfold iblk
  rw [View.read_apply]
  show V m c main_arg1 _ = m ((c : Thread nD τ).loc main_arg1) _
  rw [V_main_arg1]
  congr 1
  funext a
  apply Fin.ext
  match a with
  | ⟨0, _⟩ => show win0_1.index t 0 * 1024 + 1 * r.val = (big t r).val; rw [(idx1 t).1, big_val]; omega
  | ⟨1, _⟩ => show win0_1.index t 1 * 1024 + 1 * j.val = j.val; rw [(idx1 t).2]; omega

theorem iblk2_eq (t : Fin cfg0.N) : (iblk m c 2 t : Vec Ideal S1x1024 .f32) = m ((c : Thread nD τ).loc main_arg2) := by
  have h : (fun a => win0_2.index t a * main_arg2.ty.shape.size a) = fun _ => 0 := by
    funext a; fin_cases a <;> rfl
  refine (Memref.read_access_unit_zero (Elt Ideal) main_arg2 h (fun a => by rw [congrFun h a]; simp) (V m c main_arg2)).trans ?_
  exact V_main_arg2 m c

theorem iblk3_eq (t : Fin cfg0.N) : (iblk m c 3 t : Vec Ideal S1x1024 .f32) = m ((c : Thread nD τ).loc main_arg3) := by
  have h : (fun a => win0_3.index t a * main_arg3.ty.shape.size a) = fun _ => 0 := by
    funext a; fin_cases a <;> rfl
  refine (Memref.read_access_unit_zero (Elt Ideal) main_arg3 h (fun a => by rw [congrFun h a]; simp) (V m c main_arg3)).trans ?_
  exact V_main_arg3 m c

theorem iblk4_eq (t : Fin cfg0.N) : (iblk m c 4 t : Vec Ideal S8x128x128 .f32) = m ((c : Thread nD τ).loc main_arg4) := by
  have h : (fun a => win0_4.index t a * main_arg4.ty.shape.size a) = fun _ => 0 := by
    funext a; fin_cases a <;> rfl
  refine (Memref.read_access_unit_zero (Elt Ideal) main_arg4 h (fun a => by rw [congrFun h a]; simp) (V m c main_arg4)).trans ?_
  exact V_main_arg4 m c

/-- The bias block the kernel is given: the biases transposed and padded to 128 lanes. -/
theorem V_bias : V m c main_v1 = (pad S128x128 ![0, 0] ![0, 120] ![0, 0] (transpose S128x8 [1, 0] (m ((c : Thread nD τ).loc main_arg5)) transposes_S8x128_S128x8_1_0)
    (sitofp .f32 (constantI S_ 32 0#32)) pads_S128x8_S128x128_000_01200 h_S_ : FVec Ideal S128x128 .f32) := by
  unfold V
  simp only [hostOps0, hostOps0_1, List.flatten_cons, List.flatten_nil, List.append_nil, List.cons_append, List.nil_append]
  after_results
  rfl

theorem iblk5_eq (t : Fin cfg0.N) : (iblk m c 5 t : Vec Ideal S128x128 .f32) = V m c main_v1 := by
  have h : (fun a => win0_5.index t a * main_v1.ty.shape.size a) = fun _ => 0 := by
    funext a; fin_cases a <;> rfl
  exact Memref.read_access_unit_zero (Elt Ideal) main_v1 h (fun a => by rw [congrFun h a]; simp) (V m c main_v1)

theorem iblk5_at (t : Fin cfg0.N) (i : Fin 128) (g : Fin 8) :
    (iblk m c 5 t : Vec Ideal S128x128 .f32) (ix2 i (pos g)) = m ((c : Thread nD τ).loc main_arg5) (ix2 g i) := by
  rw [iblk5_eq, V_bias]
  pointwise []
  exact dif_pos g.isLt

/-! ### The arguments as reals -/

variable {U : Fin 8192 → Fin 2048 → ℝ} {Y : Fin 8192 → Fin 1024 → ℝ} {G B : Fin 1024 → ℝ} {W : Fin 8 → Fin 128 → Fin 128 → ℝ} {b : Fin 8 → Fin 128 → ℝ}
variable (h0 : ∀ R j, m ((c : Thread nD τ).loc main_arg0) (ix2 R j) = ((U R j : ℝ) : EReal))
variable (h1 : ∀ R j, m ((c : Thread nD τ).loc main_arg1) (ix2 R j) = ((Y R j : ℝ) : EReal))
variable (h2 : ∀ j, m ((c : Thread nD τ).loc main_arg2) (ix2 0 j) = ((G j : ℝ) : EReal))
variable (h3 : ∀ j, m ((c : Thread nD τ).loc main_arg3) (ix2 0 j) = ((B j : ℝ) : EReal))
variable (h4 : ∀ g i k, m ((c : Thread nD τ).loc main_arg4) (ix3 g i k) = ((W g i k : ℝ) : EReal))
variable (h5 : ∀ g i, m ((c : Thread nD τ).loc main_arg5) (ix2 g i) = ((b g i : ℝ) : EReal))

include h0 in
theorem real0 (t : Fin cfg0.N) (r : Fin 1024) (j : Fin 2048) :
    (iblk m c 0 t : Vec Ideal S1024x2048 .f32) (ix2 r j) = ((point U t.val r j : ℝ) : EReal) := (iblk0_at m c t r j).trans (h0 _ _)

include h1 in
theorem real1 (t : Fin cfg0.N) (r : Fin 1024) (j : Fin 1024) :
    (iblk m c 1 t : Vec Ideal S1024x1024 .f32) (ix2 r j) = ((point Y t.val r j : ℝ) : EReal) := (iblk1_at m c t r j).trans (h1 _ _)

include h2 in
theorem real2 (t : Fin cfg0.N) (j : Fin 1024) : (iblk m c 2 t : Vec Ideal S1x1024 .f32) (ix2 0 j) = ((G j : ℝ) : EReal) := by
  rw [iblk2_eq, h2]

include h3 in
theorem real3 (t : Fin cfg0.N) (j : Fin 1024) : (iblk m c 3 t : Vec Ideal S1x1024 .f32) (ix2 0 j) = ((B j : ℝ) : EReal) := by
  rw [iblk3_eq, h3]

include h4 in
theorem real4 (t : Fin cfg0.N) (g : Fin 8) (i k : Fin 128) : (iblk m c 4 t : Vec Ideal S8x128x128 .f32) (ix3 g i k) = ((W g i k : ℝ) : EReal) := by
  rw [iblk4_eq, h4]

include h5 in
theorem real5 (t : Fin cfg0.N) (i : Fin 128) (g : Fin 8) : (iblk m c 5 t : Vec Ideal S128x128 .f32) (ix2 i (pos g)) = ((b g i : ℝ) : EReal) := by
  rw [iblk5_at, h5]

/-- The parts of point `t`'s eight chunks are the parts of eight blocks. -/
theorem sum_chunks (f : (Fin 128 → Fin 2048 → ℝ) → (Fin 128 → Fin 1024 → ℝ) → ℝ) (t : ℕ) :
    ∑ p ∈ Finset.range 8, f (chunk (point U t) (ix p)) (chunk (point Y t) (ix p)) = ∑ p ∈ Finset.range 8, f (rows U (8 * t + p)) (rows Y (8 * t + p)) := by
  refine Finset.sum_congr rfl fun p hp => ?_
  have e : (ix p).val = p := Nat.mod_eq_of_lt (Finset.mem_range.mp hp)
  rw [chunk_point, chunk_point, e]

/-- The parts of the first points' blocks and of point `t`'s. -/
theorem sum_next (F : ℕ → ℝ) (t : ℕ) :
    ((∑ n ∈ Finset.range (8 * t), F n : ℝ) : EReal) + ((∑ p ∈ Finset.range 8, F (8 * t + p) : ℝ) : EReal) = ((∑ n ∈ Finset.range (8 * (t + 1)), F n : ℝ) : EReal) := by
  rw [← EReal.coe_add, ← Finset.sum_range_add, show 8 * (t + 1) = 8 * t + 8 by omega]

/-! ### The accumulators after each point -/

include h0 h1 h2 h3 in
/-- The gradient of the spatial weights after grid point `n`: the parts of the blocks so far. -/
theorem after7 (n : ℕ) (h : n < cfg0.N) (g : Fin 8) (i k : Fin 128) :
    (outsAt0 m c n h).2.1 (ix3 g i k) = ((∑ n ∈ Finset.range (8 * (n + 1)), dwR (rows U n) (rows Y n) G B g i k : ℝ) : EReal) := by
  induction n with
  | zero =>
    refine (congrArg (fun o => o.2.1 (ix3 g i k)) (outsAt0_A m c ⟨0, h⟩ rfl)).trans ?_
    dsimp only
    refine Eq.trans (out7_A c _ _ _ _ _ _ _ _ _ _ _ _ _ _ _ _ _ _ _ _ _ _ _ _ _ _ _ _ _ (real0 m c h0 ⟨0, h⟩) (real1 m c h1 ⟨0, h⟩) (real2 m c h2 ⟨0, h⟩) (real3 m c h3 ⟨0, h⟩) ((hcond0_0 ⟨0, h⟩).mpr rfl) g i k) ?_
    rw [sum_chunks (fun A D => dwR A D G B g i k) 0, ← sum_next (fun n => dwR (rows U n) (rows Y n) G B g i k) 0]
    simp
  | succ n ih =>
    have hB : ¬(⟨n + 1, h⟩ : Fin cfg0.N).val % 8 = 0 := by have := hN; dsimp only; omega
    refine (congrArg (fun o => o.2.1 (ix3 g i k)) (outsAt0_B m c ⟨n + 1, h⟩ hB)).trans ?_
    dsimp only
    refine Eq.trans (out7_B c _ _ _ _ _ _ _ _ _ _ _ _ _ _ _ _ _ _ _ _ _ _ _ _ _ _ _ _ _ _ _ _ _ (real0 m c h0 ⟨n + 1, h⟩) (real1 m c h1 ⟨n + 1, h⟩) (real2 m c h2 ⟨n + 1, h⟩) (real3 m c h3 ⟨n + 1, h⟩) (fun e => hB ((hcond0_0 ⟨n + 1, h⟩).mp e)) g i k) ?_
    rw [sum_chunks (fun A D => dwR A D G B g i k) (n + 1), ← sum_next (fun n => dwR (rows U n) (rows Y n) G B g i k) (n + 1)]
    exact congrArg (· + _) (ih (Nat.lt_of_succ_lt h))

include h0 h1 in
/-- The gradient of the spatial biases after grid point `n`: the parts of the blocks so far. -/
theorem after8 (n : ℕ) (h : n < cfg0.N) (i k : Fin 128) :
    (outsAt0 m c n h).2.2.1 (ix2 i k) = ((∑ n ∈ Finset.range (8 * (n + 1)), ∑ g : Fin 8, if k.val = g.val then dbR (rows U n) (rows Y n) g i else 0 : ℝ) : EReal) := by
  induction n with
  | zero =>
    refine (congrArg (fun o => o.2.2.1 (ix2 i k)) (outsAt0_A m c ⟨0, h⟩ rfl)).trans ?_
    dsimp only
    refine Eq.trans (out8_A c _ _ _ _ _ _ _ _ _ _ _ _ _ _ _ _ _ _ _ _ _ _ _ _ _ _ _ _ _ (real0 m c h0 ⟨0, h⟩) (real1 m c h1 ⟨0, h⟩) ((hcond0_0 ⟨0, h⟩).mpr rfl) i k) ?_
    rw [sum_chunks (fun A D => ∑ g : Fin 8, if k.val = g.val then dbR A D g i else 0) 0, ← sum_next (fun n => ∑ g : Fin 8, if k.val = g.val then dbR (rows U n) (rows Y n) g i else 0) 0]
    simp
  | succ n ih =>
    have hB : ¬(⟨n + 1, h⟩ : Fin cfg0.N).val % 8 = 0 := by have := hN; dsimp only; omega
    refine (congrArg (fun o => o.2.2.1 (ix2 i k)) (outsAt0_B m c ⟨n + 1, h⟩ hB)).trans ?_
    dsimp only
    refine Eq.trans (out8_B c _ _ _ _ _ _ _ _ _ _ _ _ _ _ _ _ _ _ _ _ _ _ _ _ _ _ _ _ _ _ _ _ _ (real0 m c h0 ⟨n + 1, h⟩) (real1 m c h1 ⟨n + 1, h⟩) (fun e => hB ((hcond0_0 ⟨n + 1, h⟩).mp e)) i k) ?_
    rw [sum_chunks (fun A D => ∑ g : Fin 8, if k.val = g.val then dbR A D g i else 0) (n + 1), ← sum_next (fun n => ∑ g : Fin 8, if k.val = g.val then dbR (rows U n) (rows Y n) g i else 0) (n + 1)]
    exact congrArg (· + _) (ih (Nat.lt_of_succ_lt h))

include h0 h1 h4 in
/-- The gradient of the scale after grid point `n`: the parts of the blocks so far. -/
theorem after9 (n : ℕ) (h : n < cfg0.N) (L : Fin 1024) :
    (outsAt0 m c n h).2.2.2.1 (ix2 0 L) = ((∑ n ∈ Finset.range (8 * (n + 1)), dvgR (rows U n) (rows Y n) W L : ℝ) : EReal) := by
  induction n with
  | zero =>
    refine (congrArg (fun o => o.2.2.2.1 (ix2 0 L)) (outsAt0_A m c ⟨0, h⟩ rfl)).trans ?_
    dsimp only
    refine Eq.trans (out9_A c _ _ _ _ _ _ _ _ _ _ _ _ _ _ _ _ _ _ _ _ _ _ _ _ _ _ _ _ _ (real0 m c h0 ⟨0, h⟩) (real1 m c h1 ⟨0, h⟩) (real4 m c h4 ⟨0, h⟩) ((hcond0_0 ⟨0, h⟩).mpr rfl) L) ?_
    rw [sum_chunks (fun A D => dvgR A D W L) 0, ← sum_next (fun n => dvgR (rows U n) (rows Y n) W L) 0]
    simp
  | succ n ih =>
    have hB : ¬(⟨n + 1, h⟩ : Fin cfg0.N).val % 8 = 0 := by have := hN; dsimp only; omega
    refine (congrArg (fun o => o.2.2.2.1 (ix2 0 L)) (outsAt0_B m c ⟨n + 1, h⟩ hB)).trans ?_
    dsimp only
    refine Eq.trans (out9_B c _ _ _ _ _ _ _ _ _ _ _ _ _ _ _ _ _ _ _ _ _ _ _ _ _ _ _ _ _ _ _ _ _ (real0 m c h0 ⟨n + 1, h⟩) (real1 m c h1 ⟨n + 1, h⟩) (real4 m c h4 ⟨n + 1, h⟩) (fun e => hB ((hcond0_0 ⟨n + 1, h⟩).mp e)) L) ?_
    rw [sum_chunks (fun A D => dvgR A D W L) (n + 1), ← sum_next (fun n => dvgR (rows U n) (rows Y n) W L) (n + 1)]
    exact congrArg (· + _) (ih (Nat.lt_of_succ_lt h))

include h0 h1 h4 in
/-- The gradient of the shift after grid point `n`: the parts of the blocks so far. -/
theorem after10 (n : ℕ) (h : n < cfg0.N) (L : Fin 1024) :
    (outsAt0 m c n h).2.2.2.2 (ix2 0 L) = ((∑ n ∈ Finset.range (8 * (n + 1)), dvbR (rows U n) (rows Y n) W L : ℝ) : EReal) := by
  induction n with
  | zero =>
    refine (congrArg (fun o => o.2.2.2.2 (ix2 0 L)) (outsAt0_A m c ⟨0, h⟩ rfl)).trans ?_
    dsimp only
    refine Eq.trans (out10_A c _ _ _ _ _ _ _ _ _ _ _ _ _ _ _ _ _ _ _ _ _ _ _ _ _ _ _ _ _ (real0 m c h0 ⟨0, h⟩) (real1 m c h1 ⟨0, h⟩) (real4 m c h4 ⟨0, h⟩) ((hcond0_0 ⟨0, h⟩).mpr rfl) L) ?_
    rw [sum_chunks (fun A D => dvbR A D W L) 0, ← sum_next (fun n => dvbR (rows U n) (rows Y n) W L) 0]
    simp
  | succ n ih =>
    have hB : ¬(⟨n + 1, h⟩ : Fin cfg0.N).val % 8 = 0 := by have := hN; dsimp only; omega
    refine (congrArg (fun o => o.2.2.2.2 (ix2 0 L)) (outsAt0_B m c ⟨n + 1, h⟩ hB)).trans ?_
    dsimp only
    refine Eq.trans (out10_B c _ _ _ _ _ _ _ _ _ _ _ _ _ _ _ _ _ _ _ _ _ _ _ _ _ _ _ _ _ _ _ _ _ (real0 m c h0 ⟨n + 1, h⟩) (real1 m c h1 ⟨n + 1, h⟩) (real4 m c h4 ⟨n + 1, h⟩) (fun e => hB ((hcond0_0 ⟨n + 1, h⟩).mp e)) L) ?_
    rw [sum_chunks (fun A D => dvbR A D W L) (n + 1), ← sum_next (fun n => dvbR (rows U n) (rows Y n) W L) (n + 1)]
    exact congrArg (· + _) (ih (Nat.lt_of_succ_lt h))

/-! ### The result arrays -/

/-- Result 1 is what the last point leaves. -/
theorem final7 : (dats m 0 c).arrAt 7 cfg0.N = (outsAt0 m c 7 (by rw [hN]; decide)).2.1 :=
  (dats m 0 c).arrAt_eq_of_cover 7 ((outsAt0 m c 7 (by rw [hN]; decide)).2.1 : Buf (Elt Ideal) ((c : Thread nD τ).loc main_v2_1))
    (fun t hf => by
      have h7 : t.val = 7 := by have := (flush0_7 t).mp hf; have := t.isLt; have := hN; omega
      obtain rfl : t = t0_7 := Fin.ext h7
      show (cfg0.win 7).cut (grid0.coords t0_7) ((dats m 0 c).after 7 t0_7) = _
      rw [after0_7]
      have hz : (fun a => win0_7.index t0_7 a * main_v2_1.ty.shape.size a) = fun _ => 0 := funext fun a => by fin_cases a <;> rfl
      exact (Memref.read_access_unit_zero (Elt Ideal) main_v2_1 hz (fun a => by rw [congrFun hz a]; simp) _).symm)
    fun y => ⟨t0_7, (flush0_7 t0_7).mpr rfl, by
      show y ∈ ((View.whole main_v2_1).slice (win0_7.rect t0_7)).set
      rw [View.set_slice_whole, Rect.mem_set_unit]
      intro a
      match a with
      | ⟨0, _⟩ =>
        show win0_7.index t0_7 0 * win0_7.size 0 ≤ (y 0 : Nat) ∧ (y 0 : Nat) < win0_7.index t0_7 0 * win0_7.size 0 + win0_7.xsize (grid0.coords t0_7) 0
        rw [show win0_7.index t0_7 0 * win0_7.size 0 = 0 from by decide +kernel, show win0_7.xsize (grid0.coords t0_7) 0 = 8 from by decide +kernel]
        exact ⟨Nat.zero_le _, (Nat.zero_add _).symm ▸ (y 0).isLt⟩
      | ⟨1, _⟩ =>
        show win0_7.index t0_7 1 * win0_7.size 1 ≤ (y 1 : Nat) ∧ (y 1 : Nat) < win0_7.index t0_7 1 * win0_7.size 1 + win0_7.xsize (grid0.coords t0_7) 1
        rw [show win0_7.index t0_7 1 * win0_7.size 1 = 0 from by decide +kernel, show win0_7.xsize (grid0.coords t0_7) 1 = 128 from by decide +kernel]
        exact ⟨Nat.zero_le _, (Nat.zero_add _).symm ▸ (y 1).isLt⟩
      | ⟨2, _⟩ =>
        show win0_7.index t0_7 2 * win0_7.size 2 ≤ (y 2 : Nat) ∧ (y 2 : Nat) < win0_7.index t0_7 2 * win0_7.size 2 + win0_7.xsize (grid0.coords t0_7) 2
        rw [show win0_7.index t0_7 2 * win0_7.size 2 = 0 from by decide +kernel, show win0_7.xsize (grid0.coords t0_7) 2 = 128 from by decide +kernel]
        exact ⟨Nat.zero_le _, (Nat.zero_add _).symm ▸ (y 2).isLt⟩⟩

/-- Result 2 is what the last point leaves. -/
theorem final8 : (dats m 0 c).arrAt 8 cfg0.N = (outsAt0 m c 7 (by rw [hN]; decide)).2.2.1 :=
  (dats m 0 c).arrAt_eq_of_cover 8 ((outsAt0 m c 7 (by rw [hN]; decide)).2.2.1 : Buf (Elt Ideal) ((c : Thread nD τ).loc main_v2_2))
    (fun t hf => by
      have h7 : t.val = 7 := by have := (flush0_8 t).mp hf; have := t.isLt; have := hN; omega
      obtain rfl : t = t0_7 := Fin.ext h7
      show (cfg0.win 8).cut (grid0.coords t0_7) ((dats m 0 c).after 8 t0_7) = _
      rw [after0_8]
      have hz : (fun a => win0_8.index t0_7 a * main_v2_2.ty.shape.size a) = fun _ => 0 := funext fun a => by fin_cases a <;> rfl
      exact (Memref.read_access_unit_zero (Elt Ideal) main_v2_2 hz (fun a => by rw [congrFun hz a]; simp) _).symm)
    fun y => ⟨t0_7, (flush0_8 t0_7).mpr rfl, by
      show y ∈ ((View.whole main_v2_2).slice (win0_8.rect t0_7)).set
      rw [View.set_slice_whole, Rect.mem_set_unit]
      intro a
      match a with
      | ⟨0, _⟩ =>
        show win0_8.index t0_7 0 * win0_8.size 0 ≤ (y 0 : Nat) ∧ (y 0 : Nat) < win0_8.index t0_7 0 * win0_8.size 0 + win0_8.xsize (grid0.coords t0_7) 0
        rw [show win0_8.index t0_7 0 * win0_8.size 0 = 0 from by decide +kernel, show win0_8.xsize (grid0.coords t0_7) 0 = 128 from by decide +kernel]
        exact ⟨Nat.zero_le _, (Nat.zero_add _).symm ▸ (y 0).isLt⟩
      | ⟨1, _⟩ =>
        show win0_8.index t0_7 1 * win0_8.size 1 ≤ (y 1 : Nat) ∧ (y 1 : Nat) < win0_8.index t0_7 1 * win0_8.size 1 + win0_8.xsize (grid0.coords t0_7) 1
        rw [show win0_8.index t0_7 1 * win0_8.size 1 = 0 from by decide +kernel, show win0_8.xsize (grid0.coords t0_7) 1 = 128 from by decide +kernel]
        exact ⟨Nat.zero_le _, (Nat.zero_add _).symm ▸ (y 1).isLt⟩⟩

/-- Result 3 is what the last point leaves. -/
theorem final9 : (dats m 0 c).arrAt 9 cfg0.N = (outsAt0 m c 7 (by rw [hN]; decide)).2.2.2.1 :=
  (dats m 0 c).arrAt_eq_of_cover 9 ((outsAt0 m c 7 (by rw [hN]; decide)).2.2.2.1 : Buf (Elt Ideal) ((c : Thread nD τ).loc main_v2_3))
    (fun t hf => by
      have h7 : t.val = 7 := by have := (flush0_9 t).mp hf; have := t.isLt; have := hN; omega
      obtain rfl : t = t0_7 := Fin.ext h7
      show (cfg0.win 9).cut (grid0.coords t0_7) ((dats m 0 c).after 9 t0_7) = _
      rw [after0_9]
      have hz : (fun a => win0_9.index t0_7 a * main_v2_3.ty.shape.size a) = fun _ => 0 := funext fun a => by fin_cases a <;> rfl
      exact (Memref.read_access_unit_zero (Elt Ideal) main_v2_3 hz (fun a => by rw [congrFun hz a]; simp) _).symm)
    fun y => ⟨t0_7, (flush0_9 t0_7).mpr rfl, by
      show y ∈ ((View.whole main_v2_3).slice (win0_9.rect t0_7)).set
      rw [View.set_slice_whole, Rect.mem_set_unit]
      intro a
      match a with
      | ⟨0, _⟩ =>
        show win0_9.index t0_7 0 * win0_9.size 0 ≤ (y 0 : Nat) ∧ (y 0 : Nat) < win0_9.index t0_7 0 * win0_9.size 0 + win0_9.xsize (grid0.coords t0_7) 0
        rw [show win0_9.index t0_7 0 * win0_9.size 0 = 0 from by decide +kernel, show win0_9.xsize (grid0.coords t0_7) 0 = 1 from by decide +kernel]
        exact ⟨Nat.zero_le _, (Nat.zero_add _).symm ▸ (y 0).isLt⟩
      | ⟨1, _⟩ =>
        show win0_9.index t0_7 1 * win0_9.size 1 ≤ (y 1 : Nat) ∧ (y 1 : Nat) < win0_9.index t0_7 1 * win0_9.size 1 + win0_9.xsize (grid0.coords t0_7) 1
        rw [show win0_9.index t0_7 1 * win0_9.size 1 = 0 from by decide +kernel, show win0_9.xsize (grid0.coords t0_7) 1 = 1024 from by decide +kernel]
        exact ⟨Nat.zero_le _, (Nat.zero_add _).symm ▸ (y 1).isLt⟩⟩

/-- Result 4 is what the last point leaves. -/
theorem final10 : (dats m 0 c).arrAt 10 cfg0.N = (outsAt0 m c 7 (by rw [hN]; decide)).2.2.2.2 :=
  (dats m 0 c).arrAt_eq_of_cover 10 ((outsAt0 m c 7 (by rw [hN]; decide)).2.2.2.2 : Buf (Elt Ideal) ((c : Thread nD τ).loc main_v2_4))
    (fun t hf => by
      have h7 : t.val = 7 := by have := (flush0_10 t).mp hf; have := t.isLt; have := hN; omega
      obtain rfl : t = t0_7 := Fin.ext h7
      show (cfg0.win 10).cut (grid0.coords t0_7) ((dats m 0 c).after 10 t0_7) = _
      rw [after0_10]
      have hz : (fun a => win0_10.index t0_7 a * main_v2_4.ty.shape.size a) = fun _ => 0 := funext fun a => by fin_cases a <;> rfl
      exact (Memref.read_access_unit_zero (Elt Ideal) main_v2_4 hz (fun a => by rw [congrFun hz a]; simp) _).symm)
    fun y => ⟨t0_7, (flush0_10 t0_7).mpr rfl, by
      show y ∈ ((View.whole main_v2_4).slice (win0_10.rect t0_7)).set
      rw [View.set_slice_whole, Rect.mem_set_unit]
      intro a
      match a with
      | ⟨0, _⟩ =>
        show win0_10.index t0_7 0 * win0_10.size 0 ≤ (y 0 : Nat) ∧ (y 0 : Nat) < win0_10.index t0_7 0 * win0_10.size 0 + win0_10.xsize (grid0.coords t0_7) 0
        rw [show win0_10.index t0_7 0 * win0_10.size 0 = 0 from by decide +kernel, show win0_10.xsize (grid0.coords t0_7) 0 = 1 from by decide +kernel]
        exact ⟨Nat.zero_le _, (Nat.zero_add _).symm ▸ (y 0).isLt⟩
      | ⟨1, _⟩ =>
        show win0_10.index t0_7 1 * win0_10.size 1 ≤ (y 1 : Nat) ∧ (y 1 : Nat) < win0_10.index t0_7 1 * win0_10.size 1 + win0_10.xsize (grid0.coords t0_7) 1
        rw [show win0_10.index t0_7 1 * win0_10.size 1 = 0 from by decide +kernel, show win0_10.xsize (grid0.coords t0_7) 1 = 1024 from by decide +kernel]
        exact ⟨Nat.zero_le _, (Nat.zero_add _).symm ▸ (y 1).isLt⟩⟩

/-- A row of the first result is that row of its point's block. -/
theorem final6 (t : Fin cfg0.N) (r : Fin 1024) (j : Fin 2048) :
    ((dats m 0 c).arrAt 6 cfg0.N : FVec Ideal S8192x2048 .bf16) (ix2 (big t r) j) = (outsAt0 m c t.val t.isLt).1 (ix2 r j) := by
  have h := congrFun (Value.blocks6 m c t (flush0_6 t)) (ix2 r j)
  rw [View.read_apply, Value.flushed6] at h
  refine Eq.trans ?_ h
  show _ = (dats m 0 c).arrAt 6 cfg0.N _
  congr 1
  funext a
  apply Fin.ext
  match a with
  | ⟨0, _⟩ => show (big t r).val = win0_6.index t 0 * 1024 + 1 * r.val; rw [(idx6 t).1, big_val]; omega
  | ⟨1, _⟩ => show j.val = win0_6.index t 1 * 2048 + 1 * j.val; rw [(idx6 t).2]; omega

end Cert.KernelIdeal.KernelValue
-- ==== Proof.RefValue.lean ====
/-
  The reference's stages named, and each read at an index when every argument is finite: the same real functions the kernel
  computes, row by row.
-/
module

public import proofs.«01_k».proof.Proof.Gen.ReferenceIdeal.Run
public import proofs.«01_k».proof.Proof.Spec

@[expose] public section

set_option synthInstance.maxSize 4096
set_option maxRecDepth 16384

noncomputable section

namespace Cert.ReferenceIdeal.Stages

open Cert.ReferenceIdeal Cert.ReferenceIdeal.Gen Idealize.ShloMosaic Idealize.ShloMosaic.StableHlo Cert.Spec

/-! ### The stages -/

variable (x : FVec Ideal S8192x2048 .f32) (y : FVec Ideal S8192x1024 .f32) (g s : FVec Ideal S1x1024 .f32) (w : FVec Ideal S8x128x128 .f32) (b : FVec Ideal S8x128 .f32)

/-- The pre-activations with their leading axis of one. -/
def lead : FVec Ideal S1x8192x2048 .f32 := broadcastInDim S1x8192x2048 ![1, 2] bcast_S8192x2048_S1x8192x2048_1_2 x
def rootHalf : FVec Ideal S_ .f32 := Host.sqrt (constant S_ .f32 0x3F000000#32)
def wide (v : FVec Ideal S_ .f32) : FVec Ideal S1x8192x2048 .f32 := broadcastInDim S1x8192x2048 ![] bcast_S_S1x8192x2048 v
def half : FVec Ideal S1x8192x2048 .f32 := mulf (wide (constant S_ .f32 0x3F000000#32)) (lead x)
def scaled : FVec Ideal S1x8192x2048 .f32 := mulf (Host.negf (lead x)) (wide rootHalf)
def erfcs : FVec Ideal S1x8192x2048 .f32 := Host.erfc (scaled x)
def act : FVec Ideal S1x8192x2048 .f32 := mulf (half x) (erfcs x)
def left : FVec Ideal S1x8192x1024 .f32 := extractStridedSlice S1x8192x1024 ![0, 0, 0] (act x) slices_S1x8192x2048_S1x8192x1024_0_0_0
def right : FVec Ideal S1x8192x1024 .f32 := extractStridedSlice S1x8192x1024 ![0, 0, 1024] (act x) slices_S1x8192x2048_S1x8192x1024_0_0_1024

/-- The sum of each row. -/
def rowSum (v : FVec Ideal S1x8192x1024 .f32) : FVec Ideal S1x8192 .f32 := Host.reduceAdd v (constant S_ .f32 0x00000000#32) reducesTo_S1x8192x1024_S1x8192_d2 h_S_
def col (v : FVec Ideal S1x8192 .f32) : FVec Ideal S1x8192x1 .f32 := broadcastInDim S1x8192x1 ![0, 1] bcast_S1x8192_S1x8192x1_0_1 v
def thousand : FVec Ideal S1x8192x1 .f32 := broadcastInDim S1x8192x1 ![] bcast_S_S1x8192x1 (constant S_ .f32 0x44800000#32)
def rowMean (v : FVec Ideal S1x8192x1024 .f32) : FVec Ideal S1x8192x1 .f32 := Host.divf (col (rowSum v)) thousand
def spread (v : FVec Ideal S1x8192x1 .f32) : FVec Ideal S1x8192x1024 .f32 := broadcastInDim S1x8192x1024 ![0, 1, 2] bcast_S1x8192x1_S1x8192x1024_0_1_2 v
def cen : FVec Ideal S1x8192x1024 .f32 := subf (right x) (spread (rowMean (right x)))
def vpe : FVec Ideal S1x8192x1 .f32 := addf (rowMean (mulf (cen x) (cen x))) (broadcastInDim S1x8192x1 ![] bcast_S_S1x8192x1 (constant S_ .f32 0x358637BD#32))
def rstd : FVec Ideal S1x8192x1 .f32 := Host.rsqrt (vpe x)
def hat : FVec Ideal S1x8192x1024 .f32 := mulf (cen x) (spread (rstd x))
def down (v : FVec Ideal S1x1024 .f32) : FVec Ideal S1x8192x1024 .f32 := broadcastInDim S1x8192x1024 ![0, 1, 2] bcast_S1x1x1024_S1x8192x1024_0_1_2 (broadcastInDim S1x1x1024 ![2] bcast_S1024_S1x1x1024_2 (shapeCast _ v shapeCasts_S1x1024_S1024))
def norm : FVec Ideal S1x8192x1024 .f32 := addf (mulf (hat x) (down g)) (down s)
def blocks (v : FVec Ideal S1x8192x1024 .f32) : FVec Ideal S1x64x128x8x128 .f32 := shapeCast _ v shapeCasts_S1x8192x1024_S1x64x128x8x128
def unblocks (v : FVec Ideal S1x64x128x8x128 .f32) : FVec Ideal S1x8192x1024 .f32 := shapeCast _ v shapeCasts_S1x64x128x8x128_S1x8192x1024
def mask : IVec S8x128x128 1 := broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))
def zeros : FVec Ideal S8x128x128 .f32 := broadcastInDim S8x128x128 ![] bcast_S_S8x128x128 (constant S_ .f32 0x00000000#32)
def tri : FVec Ideal S8x128x128 .f32 := select mask w zeros
def back (v : FVec Ideal S8x1x64x128x128 .f32) : FVec Ideal S1x64x128x8x128 .f32 := transpose S1x64x128x8x128 [1, 2, 4, 0, 3] v transposes_S8x1x64x128x128_S1x64x128x8x128_1_2_4_0_3
def bias : FVec Ideal S1x64x128x8x128 .f32 := broadcastInDim S1x64x128x8x128 ![0, 1, 2, 3, 4] bcast_S1x1x128x8x1_S1x64x128x8x128_0_1_2_3_4 (broadcastInDim S1x1x128x8x1 ![2, 3] bcast_S128x8_S1x1x128x8x1_2_3 (transpose S128x8 [1, 0] b transposes_S8x128_S128x8_1_0))
def spatial : FVec Ideal S1x8192x1024 .f32 := unblocks (addf (back (Host.dotGeneral dot_S1x64x128x8x128_S8x128x128_S8x1x64x128x128_2_2_014_1_3_0 none (blocks (norm x g s)) (tri w))) (bias b))
def grad : FVec Ideal S1x8192x1024 .f32 := broadcastInDim S1x8192x1024 ![1, 2] bcast_S8192x1024_S1x8192x1024_1_2 y
def dsp : FVec Ideal S1x64x128x8x128 .f32 := blocks (mulf (left x) (grad y))
def dspT : FVec Ideal S8x1x64x128x128 .f32 := transpose S8x1x64x128x128 [3, 0, 1, 4, 2] (dsp x y) transposes_S1x64x128x8x128_S8x1x64x128x128_3_0_1_4_2
def dweight : FVec Ideal S8x128x128 .f32 := select mask (Host.dotGeneral dot_S8x1x64x128x128_S1x64x128x8x128_S8x128x128_123_014_4_2_0_3 none (dspT x y) (blocks (norm x g s))) zeros
def dbias : FVec Ideal S128x8 .f32 := Host.reduceAdd (shapeCast _ (Host.reduceAdd (dsp x y) (constant S_ .f32 0x00000000#32) reducesTo_S1x64x128x8x128_S1x128x8_d1_4 h_S_) shapeCasts_S1x128x8_S1x1x128x8x1) (constant S_ .f32 0x00000000#32) reducesTo_S1x1x128x8x1_S128x8_d0_1_4 h_S_
def dnorm : FVec Ideal S1x8192x1024 .f32 := unblocks (back (Host.dotGeneral dot_S8x1x64x128x128_S8x128x128_S8x1x64x128x128_4_1_123_2_0_0 none (dspT x y) (tri w)))
def colSum (v : FVec Ideal S1x8192x1024 .f32) : FVec Ideal S1x1024 .f32 := broadcastInDim S1x1024 ![1] bcast_S1024_S1x1024_1 (Host.reduceAdd (shapeCast _ (Host.reduceAdd v (constant S_ .f32 0x00000000#32) reducesTo_S1x8192x1024_S1x1024_d1 h_S_) shapeCasts_S1x1024_S1x1x1024) (constant S_ .f32 0x00000000#32) reducesTo_S1x1x1024_S1024_d0_1 h_S_)
def dhat : FVec Ideal S1x8192x1024 .f32 := mulf (dnorm x y w) (down g)
def tall (v : FVec Ideal S1x8192 .f32) : FVec Ideal S1x8192x1 .f32 := shapeCast _ v shapeCasts_S1x8192_S1x8192x1
def through (v : FVec Ideal S1x8192x1 .f32) : FVec Ideal S1x8192x1024 .f32 := broadcastInDim S1x8192x1024 ![0, 1] bcast_S1x8192_S1x8192x1024_0_1 (broadcastInDim S1x8192 ![1] bcast_S8192_S1x8192_1 (Host.reduceAdd v (constant S_ .f32 0x00000000#32) reducesTo_S1x8192x1_S8192_d0_2 h_S_))
def dscale : FVec Ideal S1x8192x1024 .f32 := mulf (dhat x y g w) (spread (rstd x))
def dvar : FVec Ideal S1x8192x1 .f32 := Host.divf (mulf (tall (rowSum (mulf (cen x) (dhat x y g w)))) (mulf (broadcastInDim S1x8192x1 ![] bcast_S_S1x8192x1 (constant S_ .f32 0xBF000000#32)) (Host.divf (rstd x) (vpe x)))) thousand
def dsquare : FVec Ideal S1x8192x1024 .f32 := mulf (through (dvar x y g w)) (mulf (broadcastInDim S1x8192x1024 ![] bcast_S_S1x8192x1024 (constant S_ .f32 0x40000000#32)) (cen x))
def dmean : FVec Ideal S1x8192x1 .f32 := Host.divf (addf (tall (rowSum (Host.negf (dscale x y g w)))) (tall (rowSum (Host.negf (dsquare x y g w))))) thousand
def dright : FVec Ideal S1x8192x1024 .f32 := addf (addf (dscale x y g w) (dsquare x y g w)) (through (dmean x y g w))
def dleft : FVec Ideal S1x8192x1024 .f32 := mulf (grad y) (spatial x g s w b)
def dact : FVec Ideal S1x8192x2048 .f32 := concatenate S1x8192x2048 2 [⟨S1x8192x1024, dleft x y g s w b⟩, ⟨S1x8192x1024, dright x y g w⟩] concatenates_S1x8192x1024_S1x8192x1024_S1x8192x2048_d2
def slope : FVec Ideal S1x8192x2048 .f32 := mulf (wide (Host.divf (constant S_ .f32 0xC0000000#32) (Host.sqrt (Host.acos (constant S_ .f32 0xBF800000#32))))) (Host.exp (Host.negf (mulf (scaled x) (scaled x))))
def dpre : FVec Ideal S1x8192x2048 .f32 := addf (Host.negf (mulf (mulf (mulf (half x) (dact x y g s w b)) (slope x)) (wide rootHalf))) (mulf (wide (constant S_ .f32 0x3F000000#32)) (mulf (dact x y g s w b) (erfcs x)))
def duv : FVec Ideal S8192x2048 .bf16 := truncf .bf16 (Host.reduceAdd (dpre x y g s w b) (constant S_ .f32 0x00000000#32) reducesTo_S1x8192x2048_S8192x2048_d0 h_S_) bitsLt_bf16_f32
def dbiasPadded : FVec Ideal S128x128 .f32 := pad S128x128 ![0, 0] ![0, 120] ![0, 0] (transpose S128x8 [1, 0] (transpose S8x128 [1, 0] (dbias x y) transposes_S128x8_S8x128_1_0) transposes_S8x128_S128x8_1_0) (sitofp .f32 (constantI S_ 32 0#32)) pads_S128x8_S128x128_000_01200 h_S_

/-! ### Sums over several axes and re-indexings -/

/-- Row `i` of block `n`. -/
def row (n : Fin 64) (i : Fin 128) : Fin 8192 := ⟨128 * n.val + i.val, by omega⟩

/-- A row's block. -/
def blk (R : Fin 8192) : Fin 64 := ⟨R.val / 128, by omega⟩

/-- A row's place in its block. -/
def place (R : Fin 8192) : Fin 128 := ⟨R.val % 128, by omega⟩

theorem row_blk_place (R : Fin 8192) : row (blk R) (place R) = R := Fin.ext (by simp only [row, blk, place]; omega)

theorem rows_row {γ : Type} (U : Fin 8192 → γ) (n : Fin 64) (i : Fin 128) : rows U n.val i = U (row n i) :=
  congrArg U (Fin.ext (by show (128 * n.val + i.val) % 8192 = 128 * n.val + i.val; omega))

/-- A sum over the rows, block by block. -/
theorem sum_rows {M : Type} [AddCommMonoid M] (f : Fin 8192 → M) : ∑ R, f R = ∑ n : Fin 64, ∑ i : Fin 128, f (row n i) := by
  rw [← Fintype.sum_prod_type' (fun n i => f (row n i))]
  refine (Fintype.sum_bijective (fun p : Fin 64 × Fin 128 => row p.1 p.2) ⟨?_, ?_⟩ _ _ fun _ => rfl).symm
  · rintro ⟨a, i⟩ ⟨b, j⟩ e
    have h : 128 * a.val + i.val = 128 * b.val + j.val := congrArg Fin.val e
    refine Prod.ext (Fin.ext ?_) (Fin.ext ?_) <;> dsimp only <;> omega
  · intro R
    exact ⟨(blk R, place R), row_blk_place R⟩

theorem blocks_at (v : FVec Ideal S1x8192x1024 .f32) (n : Fin 64) (i : Fin 128) (h : Fin 8) (l : Fin 128) :
    blocks v (ix5 0 n i h l) = v (ix3 0 (row n i) (lane h l)) := by
  pointwise [blocks]
  congr 2
  · exact Fin.ext (by show n.val * 128 + i.val = 128 * n.val + i.val; omega)
  · exact Fin.ext (by show h.val * 128 + l.val = 128 * h.val + l.val; omega)

theorem unblocks_at (v : FVec Ideal S1x64x128x8x128 .f32) (n : Fin 64) (i : Fin 128) (L : Fin 1024) :
    unblocks v (ix3 0 (row n i) L) = v (ix5 0 n i (grp L) (sub L)) := by
  pointwise [unblocks]
  congr 2
  · exact Fin.ext (by show (128 * n.val + i.val) / 128 = n.val; omega)
  · exact Fin.ext (by show (128 * n.val + i.val) % 128 = i.val; omega)

theorem rowSum_at (v : FVec Ideal S1x8192x1024 .f32) (R : Fin 8192) : rowSum v (ix2 0 R) = ∑ L : Fin 1024, v (ix3 0 R L) := by
  pointwise [rowSum]

theorem rowMean_at {v : FVec Ideal S1x8192x1024 .f32} {R : Fin 8192} {f : Fin 1024 → ℝ} (hv : ∀ L, v (ix3 0 R L) = ((f L : ℝ) : EReal)) :
    rowMean v (ix3 0 R 0) = ((meanR f : ℝ) : EReal) := by
  pointwise [rowMean, col, thousand, rowSum]
  simp only [hv, coe_sum]
  rw [word_1024, coe_div _ (by norm_num)]
  rfl

theorem through_at (v : FVec Ideal S1x8192x1 .f32) (R : Fin 8192) (L : Fin 1024) : through v (ix3 0 R L) = v (ix3 0 R 0) := by
  pointwise [through]
  unfold Ideal.hostReduceAdd
  rw [zero_add, Finset.sum_filter_eq_sum_of_fiber _ (fun _ : Fin 1 => ix3 0 R 0) (fun a b _ => Subsingleton.elim a b)]
  · simp
  intro i
  constructor
  · intro e
    refine ⟨0, ?_⟩
    funext a; apply Fin.ext
    match a with
    | ⟨0, _⟩ => exact congrArg Fin.val (Subsingleton.elim (0 : Fin 1) (i 0))
    | ⟨1, _⟩ => exact (congrArg Fin.val (congrFun e 0)).symm
    | ⟨2, _⟩ => exact congrArg Fin.val (Subsingleton.elim (0 : Fin 1) (i 2))
  · rintro ⟨k, rfl⟩
    funext a
    match a with
    | ⟨0, _⟩ => rfl

theorem colSum_at {v : FVec Ideal S1x8192x1024 .f32} {f : Fin 64 → Fin 128 → Fin 1024 → ℝ} (hv : ∀ n i L, v (ix3 0 (row n i) L) = ((f n i L : ℝ) : EReal)) (L : Fin 1024) :
    colSum v (ix2 0 L) = ((∑ n, ∑ i, f n i L : ℝ) : EReal) := by
  pointwise [colSum]
  unfold Ideal.hostReduceAdd
  rw [zero_add, Finset.sum_filter_eq_sum_of_fiber _ (fun _ : Fin 1 => ix3 0 0 L) (fun a b _ => Subsingleton.elim a b)]
  · simp only [Fin.sum_univ_one]
    pointwise []
    simp only [sum_rows, hv, coe_sum]
  intro i
  constructor
  · intro e
    refine ⟨0, ?_⟩
    funext a; apply Fin.ext
    match a with
    | ⟨0, _⟩ => exact congrArg Fin.val (Subsingleton.elim (0 : Fin 1) (i 0))
    | ⟨1, _⟩ => exact congrArg Fin.val (Subsingleton.elim (0 : Fin 1) (i 1))
    | ⟨2, _⟩ => exact (congrArg Fin.val (congrFun e 0)).symm
  · rintro ⟨k, rfl⟩
    funext a
    match a with
    | ⟨0, _⟩ => rfl

theorem biasSum_at (v : FVec Ideal S1x64x128x8x128 .f32) (i : Fin 128) (h : Fin 8) :
    Host.reduceAdd (shapeCast S1x1x128x8x1 (Host.reduceAdd v (constant S_ .f32 0x00000000#32) reducesTo_S1x64x128x8x128_S1x128x8_d1_4 h_S_) shapeCasts_S1x128x8_S1x1x128x8x1) (constant S_ .f32 0x00000000#32) reducesTo_S1x1x128x8x1_S128x8_d0_1_4 h_S_ (ix2 i h) = ∑ n : Fin 64, ∑ l : Fin 128, v (ix5 0 n i h l) := by
  pointwise []
  unfold Ideal.hostReduceAdd
  rw [zero_add, Finset.sum_filter_eq_sum_of_fiber _ (fun _ : Fin 1 => ix5 0 0 i h 0) (fun a b _ => Subsingleton.elim a b)]
  · simp only [Fin.sum_univ_one]
    pointwise []
    unfold Ideal.hostReduceAdd
    rw [zero_add, Finset.sum_filter_eq_sum_of_fiber _ (fun p : Fin 64 × Fin 128 => (ix5 (0 : Fin 1) p.1 i h p.2 : S1x64x128x8x128.Idx)) (fun a b e => Prod.ext (congrFun e 1) (congrFun e 4))]
    · exact Fintype.sum_prod_type _
    intro q
    constructor
    · intro e
      refine ⟨(q 1, q 4), ?_⟩
      funext a; apply Fin.ext
      match a with
      | ⟨0, _⟩ => exact congrArg Fin.val (Subsingleton.elim (0 : Fin 1) (q 0))
      | ⟨1, _⟩ => rfl
      | ⟨2, _⟩ => exact (congrArg Fin.val (congrFun e 1)).symm
      | ⟨3, _⟩ => exact (congrArg Fin.val (congrFun e 2)).symm
      | ⟨4, _⟩ => rfl
    · rintro ⟨k, rfl⟩
      funext a
      match a with
      | ⟨0, _⟩ => rfl
      | ⟨1, _⟩ => rfl
      | ⟨2, _⟩ => rfl
  intro q
  constructor
  · intro e
    refine ⟨0, ?_⟩
    funext a; apply Fin.ext
    match a with
    | ⟨0, _⟩ => exact congrArg Fin.val (Subsingleton.elim (0 : Fin 1) (q 0))
    | ⟨1, _⟩ => exact congrArg Fin.val (Subsingleton.elim (0 : Fin 1) (q 1))
    | ⟨2, _⟩ => exact (congrArg Fin.val (congrFun e 0)).symm
    | ⟨3, _⟩ => exact (congrArg Fin.val (congrFun e 1)).symm
    | ⟨4, _⟩ => exact congrArg Fin.val (Subsingleton.elim (0 : Fin 1) (q 4))
  · rintro ⟨k, rfl⟩
    funext a
    match a with
    | ⟨0, _⟩ => rfl
    | ⟨1, _⟩ => rfl

/-- The contraction over the blocks and the lanes of a group, as the pair of the two. -/
def overBlocks : dot_S8x1x64x128x128_S1x64x128x8x128_S8x128x128_123_014_4_2_0_3.contr.Idx ≃ Fin 64 × Fin 128 where
  toFun q := (q ⟨1, by decide⟩, q ⟨2, by decide⟩)
  invFun p := fun a => match a with
    | ⟨0, _⟩ => (0 : Fin 1)
    | ⟨1, _⟩ => p.1
    | ⟨2, _⟩ => p.2
  left_inv q := by
    funext a
    match a with
    | ⟨0, _⟩ => exact Subsingleton.elim (0 : Fin 1) _
    | ⟨1, _⟩ => rfl
    | ⟨2, _⟩ => rfl
  right_inv p := rfl

theorem weightDot_at (l : FVec Ideal S8x1x64x128x128 .f32) (r : FVec Ideal S1x64x128x8x128 .f32) (h : Fin 8) (i k : Fin 128) :
    Host.dotGeneral dot_S8x1x64x128x128_S1x64x128x8x128_S8x128x128_123_014_4_2_0_3 none l r (ix3 h i k) = ∑ n : Fin 64, ∑ e : Fin 128, l (ix5 h 0 n e i) * r (ix5 0 n k h e) := by
  pointwise []
  unfold Ideal.matmul
  rw [zero_add, ← Equiv.sum_comp overBlocks.symm, Fintype.sum_prod_type]
  refine Finset.sum_congr rfl fun n _ => Finset.sum_congr rfl fun e _ => ?_
  congr 1
  · refine congrArg l (funext fun a => Fin.ext ?_)
    match a with
    | ⟨0, _⟩ => rfl
    | ⟨1, _⟩ => rfl
    | ⟨2, _⟩ => rfl
    | ⟨3, _⟩ => rfl
    | ⟨4, _⟩ => rfl
  · refine congrArg r (funext fun a => Fin.ext ?_)
    match a with
    | ⟨0, _⟩ => rfl
    | ⟨1, _⟩ => rfl
    | ⟨2, _⟩ => rfl
    | ⟨3, _⟩ => rfl
    | ⟨4, _⟩ => rfl

theorem mask_at (h : Fin 8) (i k : Fin 128) : mask (ix3 h i k) = if k.val ≤ i.val then 1#1 else 0#1 := by
  pointwise [mask]
  rw [show IntOp.addi (BitVec.ofNat 32 i.val) 0#32 = BitVec.ofNat 32 i.val from BitVec.add_zero _, sge_eq, select_if]

/-! ### Real arithmetic -/

theorem root_half : Real.sqrt (1 / 2) = (Real.sqrt 2)⁻¹ := by rw [one_div, Real.sqrt_inv]

theorem word_two : Ideal.ofBits .f32 0x40000000#32 = ((2 : ℝ) : EReal) := by
  simp [Ideal.ofBits, Ideal.ieee, -EReal.coe_mul]; norm_num

theorem word_neg_two : Ideal.ofBits .f32 0xC0000000#32 = ((-2 : ℝ) : EReal) := by
  simp [Ideal.ofBits, Ideal.ieee, -EReal.coe_mul, -EReal.coe_neg]; norm_num

theorem word_neg_one : Ideal.ofBits .f32 0xBF800000#32 = ((-1 : ℝ) : EReal) := by
  simp [Ideal.ofBits, Ideal.ieee, -EReal.coe_mul, -EReal.coe_neg]; norm_num

theorem rootHalf_at : Ideal.sqrt (Ideal.ofBits .f32 0x3F000000#32) = (((Real.sqrt 2)⁻¹ : ℝ) : EReal) := by
  rw [word_half, Ideal.sqrt_coe, if_neg (by norm_num), root_half]

theorem pi_at : Ideal.div (Ideal.ofBits .f32 0xC0000000#32) (Ideal.sqrt (Ideal.acos (Ideal.ofBits .f32 0xBF800000#32))) = ((-2 / Real.sqrt Real.pi : ℝ) : EReal) := by
  rw [word_neg_one, Ideal.acos_coe, if_pos (by norm_num), Real.arccos_neg_one, Ideal.sqrt_coe, if_neg (not_lt.mpr Real.pi_pos.le), word_neg_two,
    coe_div _ (Real.sqrt_pos.mpr Real.pi_pos).ne']

/-- The derivative of the activation as the reference's chain rule assembles it. -/
theorem slope_real (u D : ℝ) :
    -(1 / 2 * u * D * (-2 / Real.sqrt Real.pi * Real.exp (-(-u * (Real.sqrt 2)⁻¹ * (-u * (Real.sqrt 2)⁻¹)))) * (Real.sqrt 2)⁻¹)
      + 1 / 2 * (D * (1 + erfR (u * (Real.sqrt 2)⁻¹))) = D * dactR u := by
  have e2 : (Real.sqrt 2)⁻¹ * (Real.sqrt 2)⁻¹ = 1 / 2 := by
    rw [← mul_inv, Real.mul_self_sqrt (by norm_num)]; norm_num
  have e : -(-u * (Real.sqrt 2)⁻¹ * (-u * (Real.sqrt 2)⁻¹)) = -(1 / 2) * u * u := by
    calc -(-u * (Real.sqrt 2)⁻¹ * (-u * (Real.sqrt 2)⁻¹)) = -(u * u * ((Real.sqrt 2)⁻¹ * (Real.sqrt 2)⁻¹)) := by ring
      _ = _ := by rw [e2]; ring
  have p : (Real.sqrt (2 * Real.pi))⁻¹ = (Real.sqrt 2)⁻¹ * (Real.sqrt Real.pi)⁻¹ := by
    rw [Real.sqrt_mul (by norm_num), mul_inv]
  rw [e, dactR, cdfR, p]
  ring

/-- The gradient through the normalisation as the reference's chain rule assembles it. -/
theorem dright_real (r : Fin 2048 → ℝ) (H : Fin 1024 → ℝ) (L : Fin 1024) :
    (H L * rstdR r + (∑ l, cenR r l * H l) * (-(1 / 2) * (rstdR r / (varR r + eps))) / 1024 * (2 * cenR r L))
      + ((∑ l, -(H l * rstdR r)) + ∑ l, -((∑ l, cenR r l * H l) * (-(1 / 2) * (rstdR r / (varR r + eps))) / 1024 * (2 * cenR r l))) / 1024 = drightR r H L := by
  have hc : ∑ l, cenR r l = 0 := by
    simp only [cenR, Finset.sum_sub_distrib, Finset.sum_const, Finset.card_univ, Fintype.card_fin, meanR]
    simp; ring
  have hv := var_pos r
  have hr : rstdR r / (varR r + eps) = rstdR r * rstdR r * rstdR r := by
    have : rstdR r * rstdR r = (varR r + eps)⁻¹ := by
      rw [rstdR, ← mul_inv, Real.mul_self_sqrt hv.le]
    rw [mul_assoc, this]; rfl
  have hs : ∑ l, -((∑ l, cenR r l * H l) * (-(1 / 2) * (rstdR r / (varR r + eps))) / 1024 * (2 * cenR r l)) = 0 := by
    rw [Finset.sum_neg_distrib, ← Finset.mul_sum, ← Finset.mul_sum, hc]; ring
  have hm : ∑ l, H l * hatR r l = (∑ l, cenR r l * H l) * rstdR r := by
    rw [Finset.sum_mul]; exact Finset.sum_congr rfl fun l _ => by rw [hatR]; ring
  rw [hs, hr, drightR, meanR, meanR, hm, Finset.sum_neg_distrib, ← Finset.sum_mul, hatR]
  ring

/-! ### The stages at real arguments -/

section

variable {x y g s w b}
variable {U : Fin 8192 → Fin 2048 → ℝ} {Y : Fin 8192 → Fin 1024 → ℝ} {G B : Fin 1024 → ℝ} {W : Fin 8 → Fin 128 → Fin 128 → ℝ} {β : Fin 8 → Fin 128 → ℝ}
variable (hx : ∀ R j, x (ix2 R j) = ((U R j : ℝ) : EReal)) (hy : ∀ R j, y (ix2 R j) = ((Y R j : ℝ) : EReal))
variable (hg : ∀ j, g (ix2 0 j) = ((G j : ℝ) : EReal)) (hs : ∀ j, s (ix2 0 j) = ((B j : ℝ) : EReal))
variable (hw : ∀ h i k, w (ix3 h i k) = ((W h i k : ℝ) : EReal)) (hb : ∀ h i, b (ix2 h i) = ((β h i : ℝ) : EReal))

include hx in
theorem erfcs_at (R : Fin 8192) (j : Fin 2048) : erfcs x (ix3 0 R j) = ((1 + erfR (U R j * (Real.sqrt 2)⁻¹) : ℝ) : EReal) := by
  pointwise [erfcs, scaled, lead, wide, rootHalf]
  rw [hx, rootHalf_at, neg_mul, Ideal.erfc_neg, ← EReal.coe_mul, coe_erf, ← EReal.coe_one, ← EReal.coe_add]

include hx in
theorem half_at (R : Fin 8192) (j : Fin 2048) : half x (ix3 0 R j) = ((1 / 2 * U R j : ℝ) : EReal) := by
  pointwise [half, lead, wide]
  rw [hx, word_half, ← EReal.coe_mul]

include hx in
theorem act_at (R : Fin 8192) (j : Fin 2048) : act x (ix3 0 R j) = ((actR (U R j) : ℝ) : EReal) := by
  pointwise [act]
  rw [half_at hx, erfcs_at hx, ← EReal.coe_mul, actR, cdfR]
  congr 1; ring

include hx in
theorem left_at (R : Fin 8192) (L : Fin 1024) : left x (ix3 0 R L) = ((gateR (U R) L : ℝ) : EReal) := by
  pointwise [left]
  exact act_at hx R (lo L)

include hx in
theorem right_at (R : Fin 8192) (L : Fin 1024) : right x (ix3 0 R L) = ((rightR (U R) L : ℝ) : EReal) := by
  pointwise [right]
  exact act_at hx R (hi L)

include hx in
theorem cen_at (R : Fin 8192) (L : Fin 1024) : cen x (ix3 0 R L) = ((cenR (U R) L : ℝ) : EReal) := by
  pointwise [cen, spread]
  rw [right_at hx, rowMean_at (right_at hx R), ← EReal.coe_sub, cenR]

include hx in
theorem vpe_at (R : Fin 8192) : vpe x (ix3 0 R 0) = ((varR (U R) + eps : ℝ) : EReal) := by
  pointwise [vpe]
  rw [rowMean_at (f := fun L => cenR (U R) L * cenR (U R) L), word_eps, ← EReal.coe_add, varR]
  intro L
  pointwise []
  rw [cen_at hx, ← EReal.coe_mul]

include hx in
theorem rstd_at (R : Fin 8192) : rstd x (ix3 0 R 0) = ((rstdR (U R) : ℝ) : EReal) := by
  pointwise [rstd]
  rw [vpe_at hx, coe_rsqrt (var_pos _), rstdR]

include hx in
theorem hat_at (R : Fin 8192) (L : Fin 1024) : hat x (ix3 0 R L) = ((hatR (U R) L : ℝ) : EReal) := by
  pointwise [hat, spread]
  rw [cen_at hx, rstd_at hx, ← EReal.coe_mul, hatR]

include hx hg hs in
theorem norm_at (R : Fin 8192) (L : Fin 1024) : norm x g s (ix3 0 R L) = ((normR (U R) G B L : ℝ) : EReal) := by
  pointwise [norm, down]
  rw [hat_at hx, hg, hs, ← EReal.coe_mul, ← EReal.coe_add, normR]

include hw in
theorem tri_at (h : Fin 8) (i k : Fin 128) : tri w (ix3 h i k) = ((triR (W h) i k : ℝ) : EReal) := by
  pointwise [tri, zeros]
  rw [mask_at, select_if, hw, triR]
  split <;> simp

include hx hy in
theorem dsp_at (n : Fin 64) (i : Fin 128) (h : Fin 8) (l : Fin 128) :
    dsp x y (ix5 0 n i h l) = ((dspR (rows U n.val i) (rows Y n.val i) (lane h l) : ℝ) : EReal) := by
  rw [dsp, blocks_at]
  pointwise [grad]
  rw [left_at hx, hy, ← EReal.coe_mul, rows_row, rows_row, dspR, mul_comm]

include hx hy in
theorem dspT_at (n : Fin 64) (i : Fin 128) (h : Fin 8) (l : Fin 128) :
    dspT x y (ix5 h 0 n l i) = ((dspR (rows U n.val i) (rows Y n.val i) (lane h l) : ℝ) : EReal) := by
  pointwise [dspT]
  exact dsp_at hx hy n i h l

include hx hg hs hw hb in
theorem spatial_at (n : Fin 64) (i : Fin 128) (L : Fin 1024) :
    spatial x g s w b (ix3 0 (row n i) L) = ((spR (rows U n.val) G B W β i L : ℝ) : EReal) := by
  rw [spatial, unblocks_at]
  pointwise [back, bias]
  simp only [blocks_at, norm_at hx hg hs, tri_at hw, hb, ← EReal.coe_mul, coe_sum, ← EReal.coe_add, lane_grp_sub]
  rw [spR]
  congr 2
  exact Finset.sum_congr rfl fun k _ => by rw [rows_row, mul_comm]

include hx hy hg hs in
/-- The gradient of the spatial weights. -/
theorem dweight_at (h : Fin 8) (i k : Fin 128) :
    dweight x y g s (ix3 h i k) = ((∑ n ∈ Finset.range 64, dwR (rows U n) (rows Y n) G B h i k : ℝ) : EReal) := by
  pointwise [dweight, zeros]
  rw [mask_at, select_if, Finset.sum_range]
  have e := weightDot_at (dspT x y) (blocks (norm x g s)) h i k
  refine (congrArg (fun z => if k.val ≤ i.val then z else 0) e).trans ?_
  simp only [blocks_at, norm_at hx hg hs, dspT_at hx hy, ← EReal.coe_mul, coe_sum, dwR, rows_row]
  split <;> simp

include hx hy in
/-- The gradient of the spatial biases, transposed. -/
theorem dbias_at (i : Fin 128) (h : Fin 8) : dbias x y (ix2 i h) = ((∑ n ∈ Finset.range 64, dbR (rows U n) (rows Y n) h i : ℝ) : EReal) := by
  refine (biasSum_at (dsp x y) i h).trans ?_
  simp only [dsp_at hx hy, coe_sum, dbR, Finset.sum_range]

include hx hy in
/-- The same in a block of 128 lanes, zero past the eighth. -/
theorem dbiasPadded_at (i k : Fin 128) :
    dbiasPadded x y (ix2 i k) = ((∑ n ∈ Finset.range 64, ∑ h : Fin 8, if k.val = h.val then dbR (rows U n) (rows Y n) h i else 0 : ℝ) : EReal) := by
  pointwise [dbiasPadded]
  split
  · rename_i hk
    refine (dbias_at hx hy i ⟨k.val, hk⟩).trans (congrArg _ (Finset.sum_congr rfl fun n _ => ?_))
    rw [Finset.sum_eq_single (⟨k.val, hk⟩ : Fin 8)]
    · rw [if_pos rfl]
    · intro h _ hne
      exact if_neg fun e => hne (Fin.ext e.symm)
    · intro h; exact absurd (Finset.mem_univ _) h
  · rename_i hk
    have z : ∀ n : ℕ, (∑ h : Fin 8, if k.val = h.val then dbR (rows U n) (rows Y n) h i else 0) = 0 := fun n =>
      Finset.sum_eq_zero fun h _ => if_neg fun e => hk (by rw [e]; exact h.isLt)
    simp only [z, Finset.sum_const_zero]
    show (((0#32).toInt : ℝ) : EReal) = _
    simp

include hx hy hw in
theorem dnorm_at (n : Fin 64) (i : Fin 128) (L : Fin 1024) :
    dnorm x y w (ix3 0 (row n i) L) = ((dnR (rows U n.val) (rows Y n.val) W i L : ℝ) : EReal) := by
  rw [dnorm, unblocks_at]
  pointwise [back]
  simp only [dspT_at hx hy, tri_at hw, ← EReal.coe_mul, coe_sum, lane_grp_sub]
  rw [dnR]
  congr 1
  exact Finset.sum_congr rfl fun k _ => mul_comm _ _

include hx hy hw in
/-- The gradient of the normalisation's shift. -/
theorem dshift_at (L : Fin 1024) : colSum (dnorm x y w) (ix2 0 L) = ((∑ n ∈ Finset.range 64, dvbR (rows U n) (rows Y n) W L : ℝ) : EReal) := by
  rw [colSum_at (dnorm_at hx hy hw), Finset.sum_range]
  rfl

include hx hy hw in
/-- The gradient of the normalisation's scale. -/
theorem dgain_at (L : Fin 1024) : colSum (mulf (hat x) (dnorm x y w)) (ix2 0 L) = ((∑ n ∈ Finset.range 64, dvgR (rows U n) (rows Y n) W L : ℝ) : EReal) := by
  rw [colSum_at (f := fun n i L => dnR (rows U n.val) (rows Y n.val) W i L * hatR (rows U n.val i) L), Finset.sum_range]
  · rfl
  intro n i L
  pointwise []
  rw [hat_at hx, dnorm_at hx hy hw, ← EReal.coe_mul, rows_row, mul_comm]

include hx hy hg hw in
theorem dhat_at (n : Fin 64) (i : Fin 128) (L : Fin 1024) :
    dhat x y g w (ix3 0 (row n i) L) = ((dnR (rows U n.val) (rows Y n.val) W i L * G L : ℝ) : EReal) := by
  pointwise [dhat, down]
  rw [dnorm_at hx hy hw, hg, ← EReal.coe_mul]

theorem tallSum_at {v : FVec Ideal S1x8192x1024 .f32} {R : Fin 8192} {f : Fin 1024 → ℝ} (hv : ∀ L, v (ix3 0 R L) = ((f L : ℝ) : EReal)) :
    tall (rowSum v) (ix3 0 R 0) = ((∑ L, f L : ℝ) : EReal) := by
  pointwise [tall, rowSum]
  simp only [hv, coe_sum]

include hx in
theorem dright_of {R : Fin 8192} {H : Fin 1024 → ℝ} (hh : ∀ L, dhat x y g w (ix3 0 R L) = ((H L : ℝ) : EReal)) (L : Fin 1024) :
    dright x y g w (ix3 0 R L) = ((drightR (U R) H L : ℝ) : EReal) := by
  have h1 : ∀ L, dscale x y g w (ix3 0 R L) = ((H L * rstdR (U R) : ℝ) : EReal) := fun L => by
    pointwise [dscale, spread]
    rw [hh, rstd_at hx, ← EReal.coe_mul]
  have h2 : dvar x y g w (ix3 0 R 0) = (((∑ l, cenR (U R) l * H l) * (-(1 / 2) * (rstdR (U R) / (varR (U R) + eps))) / 1024 : ℝ) : EReal) := by
    pointwise [dvar, thousand]
    rw [tallSum_at (f := fun l => cenR (U R) l * H l), rstd_at hx, vpe_at hx, word_neg_half, word_1024, coe_div _ (var_pos _).ne', ← EReal.coe_mul, ← EReal.coe_mul,
      coe_div _ (by norm_num)]
    intro l
    pointwise []
    rw [cen_at hx, hh, ← EReal.coe_mul]
  have h3 : ∀ L, dsquare x y g w (ix3 0 R L) = (((∑ l, cenR (U R) l * H l) * (-(1 / 2) * (rstdR (U R) / (varR (U R) + eps))) / 1024 * (2 * cenR (U R) L) : ℝ) : EReal) := fun L => by
    pointwise [dsquare]
    rw [through_at, h2, word_two, cen_at hx, ← EReal.coe_mul, ← EReal.coe_mul]
  have h4 : dmean x y g w (ix3 0 R 0) = ((((∑ l, -(H l * rstdR (U R))) + ∑ l, -((∑ l, cenR (U R) l * H l) * (-(1 / 2) * (rstdR (U R) / (varR (U R) + eps))) / 1024 * (2 * cenR (U R) l))) / 1024 : ℝ) : EReal) := by
    pointwise [dmean, thousand]
    rw [tallSum_at (f := fun l => -(H l * rstdR (U R))),
      tallSum_at (f := fun l => -((∑ l, cenR (U R) l * H l) * (-(1 / 2) * (rstdR (U R) / (varR (U R) + eps))) / 1024 * (2 * cenR (U R) l))),
      word_1024, ← EReal.coe_add, coe_div _ (by norm_num)]
    · intro l
      pointwise []
      rw [h3, ← EReal.coe_neg]
    · intro l
      pointwise []
      rw [h1, ← EReal.coe_neg]
  pointwise [dright]
  rw [through_at, h1, h3, h4, ← EReal.coe_add, ← EReal.coe_add, dright_real]

include hx hy hg hw in
theorem dright_at (n : Fin 64) (i : Fin 128) (L : Fin 1024) :
    dright x y g w (ix3 0 (row n i) L) = ((drightR (rows U n.val i) (fun L => dnR (rows U n.val) (rows Y n.val) W i L * G L) L : ℝ) : EReal) := by
  rw [dright_of hx (dhat_at hx hy hg hw n i), rows_row]

include hx hy hg hs hw hb in
theorem dact_lo (n : Fin 64) (i : Fin 128) (L : Fin 1024) :
    dact x y g s w b (ix3 0 (row n i) (lo L)) = ((rows Y n.val i L * spR (rows U n.val) G B W β i L : ℝ) : EReal) := by
  have e : dleft x y g s w b (ix3 0 (row n i) L) = ((rows Y n.val i L * spR (rows U n.val) G B W β i L : ℝ) : EReal) := by
    pointwise [dleft, grad]
    rw [hy, spatial_at hx hg hs hw hb, ← EReal.coe_mul, rows_row]
  refine Eq.trans ?_ e
  pointwise [dact]
  exact (dif_pos L.isLt).trans rfl

include hx hy hg hs hw hb in
theorem dact_hi (n : Fin 64) (i : Fin 128) (L : Fin 1024) :
    dact x y g s w b (ix3 0 (row n i) (hi L)) = ((drightR (rows U n.val i) (fun L => dnR (rows U n.val) (rows Y n.val) W i L * G L) L : ℝ) : EReal) := by
  refine Eq.trans ?_ (dright_at hx hy hg hw n i L)
  pointwise [dact]
  have e : ¬(hi L).val < 1024 := by show ¬(1024 + L.val < 1024); omega
  refine (dif_neg e).trans ?_
  exact congrArg (fun z => dright x y g w (ix3 0 (row n i) z)) (Fin.ext (by show 1024 + L.val - 1024 = L.val; omega))

include hx in
theorem duv_of {R : Fin 8192} {j : Fin 2048} {D : ℝ} (hd : dact x y g s w b (ix3 0 R j) = ((D : ℝ) : EReal)) :
    duv x y g s w b (ix2 R j) = ((D * dactR (U R j) : ℝ) : EReal) := by
  pointwise [duv, dpre, slope, scaled, lead, wide, rootHalf]
  rw [Fin.sum_univ_one, half_at hx, erfcs_at hx, hd, hx, rootHalf_at, pi_at, word_half]
  simp only [← EReal.coe_mul, ← EReal.coe_neg, Ideal.exp_coe, ← EReal.coe_add]
  rw [slope_real]

include hx hy hg hs hw hb in
/-- The gradient of the left half of the pre-activations. -/
theorem duv_lo (n : Fin 64) (i : Fin 128) (L : Fin 1024) :
    duv x y g s w b (ix2 (row n i) (lo L)) = ((duR (rows U n.val) (rows Y n.val) G B W β i L : ℝ) : EReal) := by
  rw [duv_of hx (dact_lo hx hy hg hs hw hb n i L), duR, rows_row U]

include hx hy hg hs hw hb in
/-- The gradient of the right half of the pre-activations. -/
theorem duv_hi (n : Fin 64) (i : Fin 128) (L : Fin 1024) :
    duv x y g s w b (ix2 (row n i) (hi L)) = ((dvR (rows U n.val) (rows Y n.val) G W i L : ℝ) : EReal) := by
  rw [duv_of hx (dact_hi hx hy hg hs hw hb n i L), dvR, rows_row U]

end

end Cert.ReferenceIdeal.Stages
-- ==== Proof.Result.lean ====
/-
  The five results compared: at finite arguments the idealised kernel's arrays are the reference's, element by element.
-/
module

public import proofs.«01_k».proof.Proof.KernelValue
public import proofs.«01_k».proof.Proof.RefValue

@[expose] public section

set_option synthInstance.maxSize 4096
set_option maxRecDepth 16384

noncomputable section

namespace Cert.Proof.Result

section kernel

open Idealize.ShloMosaic Idealize.ShloMosaic.TcCoe Idealize.SL.Sem Cert.KernelIdeal Cert.KernelIdeal.Gen Cert.KernelIdeal.Body Cert.KernelIdeal.PointValue Cert.KernelIdeal.KernelValue Cert.Spec
open Cert.ReferenceIdeal.Stages (row blk place row_blk_place)

variable (m : (ℓ : Loc nD τ sig) → Buf (Elt Ideal) ℓ) (c : Dev nD)
variable {U : Fin 8192 → Fin 2048 → ℝ} {Y : Fin 8192 → Fin 1024 → ℝ} {G B : Fin 1024 → ℝ} {W : Fin 8 → Fin 128 → Fin 128 → ℝ} {b : Fin 8 → Fin 128 → ℝ}
variable (h0 : ∀ R j, m ((c : Thread nD τ).loc main_arg0) (ix2 R j) = ((U R j : ℝ) : EReal))
variable (h1 : ∀ R j, m ((c : Thread nD τ).loc main_arg1) (ix2 R j) = ((Y R j : ℝ) : EReal))
variable (h2 : ∀ j, m ((c : Thread nD τ).loc main_arg2) (ix2 0 j) = ((G j : ℝ) : EReal))
variable (h3 : ∀ j, m ((c : Thread nD τ).loc main_arg3) (ix2 0 j) = ((B j : ℝ) : EReal))
variable (h4 : ∀ g i k, m ((c : Thread nD τ).loc main_arg4) (ix3 g i k) = ((W g i k : ℝ) : EReal))
variable (h5 : ∀ g i, m ((c : Thread nD τ).loc main_arg5) (ix2 g i) = ((b g i : ℝ) : EReal))

include h0 h1 h2 h3 h4 h5 in
/-- Row `i` of chunk `q` of grid point `n`'s block of the first result, left half. -/
theorem point_left (n : ℕ) (h : n < cfg0.N) (q : Fin 8) (i : Fin 128) (L : Fin 1024) :
    (outsAt0 m c n h).1 (ix2 (slot q i) (lo L)) = ((duR (rows U (8 * n + q.val)) (rows Y (8 * n + q.val)) G B W b i L : ℝ) : EReal) := by
  cases n with
  | zero =>
    refine (congrArg (fun o => o.1 (ix2 (slot q i) (lo L))) (outsAt0_A m c ⟨0, h⟩ rfl)).trans ?_
    dsimp only
    refine Eq.trans (congrFun (out6_A c _ _ _ _ _ _ _ _ _ _ _ _ _ _ _ _ _ _ _ _ _ _ _ _ _ _ _ _ _ ((hcond0_0 ⟨0, h⟩).mpr rfl)) _) ?_
    refine Eq.trans (duv_left _ _ _ _ _ _ _ _ _ _ _ _ _ _ _ _ _ _ (real0 m c h0 ⟨0, h⟩) (real1 m c h1 ⟨0, h⟩) (real2 m c h2 ⟨0, h⟩) (real3 m c h3 ⟨0, h⟩) (real4 m c h4 ⟨0, h⟩) (real5 m c h5 ⟨0, h⟩) q i L) ?_
    rw [chunk_point, chunk_point]
  | succ n =>
    have hB : ¬(⟨n + 1, h⟩ : Fin cfg0.N).val % 8 = 0 := by have := hN; dsimp only; omega
    refine (congrArg (fun o => o.1 (ix2 (slot q i) (lo L))) (outsAt0_B m c ⟨n + 1, h⟩ hB)).trans ?_
    dsimp only
    refine Eq.trans (congrFun (out6_B c _ _ _ _ _ _ _ _ _ _ _ _ _ _ _ _ _ _ _ _ _ _ _ _ _ _ _ _ _ _ _ _ _ (fun e => hB ((hcond0_0 ⟨n + 1, h⟩).mp e))) _) ?_
    refine Eq.trans (duv_left _ _ _ _ _ _ _ _ _ _ _ _ _ _ _ _ _ _ (real0 m c h0 ⟨n + 1, h⟩) (real1 m c h1 ⟨n + 1, h⟩) (real2 m c h2 ⟨n + 1, h⟩) (real3 m c h3 ⟨n + 1, h⟩) (real4 m c h4 ⟨n + 1, h⟩) (real5 m c h5 ⟨n + 1, h⟩) q i L) ?_
    rw [chunk_point, chunk_point]

include h0 h1 h2 h3 h4 h5 in
/-- Row `i` of chunk `q` of grid point `n`'s block of the first result, right half. -/
theorem point_right (n : ℕ) (h : n < cfg0.N) (q : Fin 8) (i : Fin 128) (L : Fin 1024) :
    (outsAt0 m c n h).1 (ix2 (slot q i) (hi L)) = ((dvR (rows U (8 * n + q.val)) (rows Y (8 * n + q.val)) G W i L : ℝ) : EReal) := by
  cases n with
  | zero =>
    refine (congrArg (fun o => o.1 (ix2 (slot q i) (hi L))) (outsAt0_A m c ⟨0, h⟩ rfl)).trans ?_
    dsimp only
    refine Eq.trans (congrFun (out6_A c _ _ _ _ _ _ _ _ _ _ _ _ _ _ _ _ _ _ _ _ _ _ _ _ _ _ _ _ _ ((hcond0_0 ⟨0, h⟩).mpr rfl)) _) ?_
    refine Eq.trans (duv_right _ _ _ _ _ _ _ _ _ _ _ _ _ _ _ _ _ _ (real0 m c h0 ⟨0, h⟩) (real1 m c h1 ⟨0, h⟩) (real2 m c h2 ⟨0, h⟩) (real3 m c h3 ⟨0, h⟩) (real4 m c h4 ⟨0, h⟩) (real5 m c h5 ⟨0, h⟩) q i L) ?_
    rw [chunk_point, chunk_point]
  | succ n =>
    have hB : ¬(⟨n + 1, h⟩ : Fin cfg0.N).val % 8 = 0 := by have := hN; dsimp only; omega
    refine (congrArg (fun o => o.1 (ix2 (slot q i) (hi L))) (outsAt0_B m c ⟨n + 1, h⟩ hB)).trans ?_
    dsimp only
    refine Eq.trans (congrFun (out6_B c _ _ _ _ _ _ _ _ _ _ _ _ _ _ _ _ _ _ _ _ _ _ _ _ _ _ _ _ _ _ _ _ _ (fun e => hB ((hcond0_0 ⟨n + 1, h⟩).mp e))) _) ?_
    refine Eq.trans (duv_right _ _ _ _ _ _ _ _ _ _ _ _ _ _ _ _ _ _ (real0 m c h0 ⟨n + 1, h⟩) (real1 m c h1 ⟨n + 1, h⟩) (real2 m c h2 ⟨n + 1, h⟩) (real3 m c h3 ⟨n + 1, h⟩) (real4 m c h4 ⟨n + 1, h⟩) (real5 m c h5 ⟨n + 1, h⟩) q i L) ?_
    rw [chunk_point, chunk_point]

/-- The grid point whose block holds block `n` of 128 rows. -/
def pointOf (n : Fin 64) : Fin cfg0.N := ⟨n.val / 8, by rw [hN]; omega⟩

/-- The chunk of that point's block which block `n` is. -/
def chunkOf (n : Fin 64) : Fin 8 := ⟨n.val % 8, by omega⟩

theorem big_slot (n : Fin 64) (i : Fin 128) : big (pointOf n) (slot (chunkOf n) i) = row n i := by
  apply Fin.ext
  rw [big_val]
  show 1024 * (n.val / 8) + (128 * (n.val % 8) + i.val) = 128 * n.val + i.val
  omega

theorem block_eq (n : Fin 64) : 8 * (pointOf n).val + (chunkOf n).val = n.val := by
  show 8 * (n.val / 8) + n.val % 8 = n.val
  omega

include h0 h1 h2 h3 h4 h5 in
/-- The first result's left half: the gradient of the left half of the pre-activations. -/
theorem kernel_lo (n : Fin 64) (i : Fin 128) (L : Fin 1024) :
    ((dats m 0 c).arrAt 6 cfg0.N : FVec Ideal S8192x2048 .bf16) (ix2 (row n i) (lo L)) = ((duR (rows U n.val) (rows Y n.val) G B W b i L : ℝ) : EReal) := by
  rw [← big_slot, final6, point_left m c h0 h1 h2 h3 h4 h5, block_eq]

include h0 h1 h2 h3 h4 h5 in
/-- The first result's right half: the gradient of the right half of the pre-activations. -/
theorem kernel_hi (n : Fin 64) (i : Fin 128) (L : Fin 1024) :
    ((dats m 0 c).arrAt 6 cfg0.N : FVec Ideal S8192x2048 .bf16) (ix2 (row n i) (hi L)) = ((dvR (rows U n.val) (rows Y n.val) G W i L : ℝ) : EReal) := by
  rw [← big_slot, final6, point_right m c h0 h1 h2 h3 h4 h5, block_eq]

/-- Every lane of the 2048 is in the left half or in the right. -/
theorem half_cases (j : Fin 2048) : (∃ L, j = lo L) ∨ ∃ L, j = hi L := by
  rcases lt_or_ge j.val 1024 with h | h
  · exact Or.inl ⟨⟨j.val, h⟩, rfl⟩
  · exact Or.inr ⟨⟨j.val - 1024, by omega⟩, Fin.ext (by show j.val = 1024 + (j.val - 1024); omega)⟩

end kernel

section equal

open Idealize.ShloMosaic Idealize.SL.Sem Cert.KernelIdeal.Gen Cert.KernelIdeal.KernelValue Cert.ReferenceIdeal.Stages Cert.Spec

variable (m : (ℓ : Loc Cert.KernelIdeal.nD Cert.KernelIdeal.τ Cert.KernelIdeal.sig) → Buf (Elt Ideal) ℓ) (c : Dev Cert.KernelIdeal.nD)

/-- Where every argument is real, the kernel's five result arrays are the reference's stages of the same arguments. -/
theorem stages_equal
    (hreal : (∀ i, ∃ r : ℝ, (m ((c.tc : Thread Cert.KernelIdeal.nD Cert.KernelIdeal.τ).loc Cert.KernelIdeal.main_arg0)) i = ((r : ℝ) : EReal)) ∧ (∀ i, ∃ r : ℝ, (m ((c.tc : Thread Cert.KernelIdeal.nD Cert.KernelIdeal.τ).loc Cert.KernelIdeal.main_arg1)) i = ((r : ℝ) : EReal))
      ∧ (∀ i, ∃ r : ℝ, (m ((c.tc : Thread Cert.KernelIdeal.nD Cert.KernelIdeal.τ).loc Cert.KernelIdeal.main_arg2)) i = ((r : ℝ) : EReal)) ∧ (∀ i, ∃ r : ℝ, (m ((c.tc : Thread Cert.KernelIdeal.nD Cert.KernelIdeal.τ).loc Cert.KernelIdeal.main_arg3)) i = ((r : ℝ) : EReal))
      ∧ (∀ i, ∃ r : ℝ, (m ((c.tc : Thread Cert.KernelIdeal.nD Cert.KernelIdeal.τ).loc Cert.KernelIdeal.main_arg4)) i = ((r : ℝ) : EReal)) ∧ ∀ i, ∃ r : ℝ, (m ((c.tc : Thread Cert.KernelIdeal.nD Cert.KernelIdeal.τ).loc Cert.KernelIdeal.main_arg5)) i = ((r : ℝ) : EReal)) :
    duv (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = (dats m 0 c).arrAt 6 Cert.KernelIdeal.cfg0.N
    ∧ dweight (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) = (dats m 0 c).arrAt 7 Cert.KernelIdeal.cfg0.N
    ∧ dbiasPadded (m ((c.tc : Thread Cert.KernelIdeal.nD Cert.KernelIdeal.τ).loc Cert.KernelIdeal.main_arg0)) (m ((c.tc : Thread Cert.KernelIdeal.nD Cert.KernelIdeal.τ).loc Cert.KernelIdeal.main_arg1)) = (dats m 0 c).arrAt 8 Cert.KernelIdeal.cfg0.N
    ∧ colSum (mulf (hat (m ((c.tc : Thread Cert.KernelIdeal.nD Cert.KernelIdeal.τ).loc Cert.KernelIdeal.main_arg0))) (dnorm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4)))) = (dats m 0 c).arrAt 9 Cert.KernelIdeal.cfg0.N
    ∧ colSum (dnorm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg4))) = (dats m 0 c).arrAt 10 Cert.KernelIdeal.cfg0.N := by
  obtain ⟨e0, e1, e2, e3, e4, e5⟩ := hreal
  choose f0 k0 using e0
  choose f1 k1 using e1
  choose f2 k2 using e2
  choose f3 k3 using e3
  choose f4 k4 using e4
  choose f5 k5 using e5
  have h0 := fun (R : Fin 8192) (j : Fin 2048) => k0 (ix2 R j)
  have h1 := fun (R : Fin 8192) (j : Fin 1024) => k1 (ix2 R j)
  have h2 := fun (j : Fin 1024) => k2 (ix2 (0 : Fin 1) j)
  have h3 := fun (j : Fin 1024) => k3 (ix2 (0 : Fin 1) j)
  have h4 := fun (g : Fin 8) (i k : Fin 128) => k4 (ix3 g i k)
  have h5 := fun (g : Fin 8) (i : Fin 128) => k5 (ix2 g i)
  refine ⟨?_, ?_, ?_, ?_, ?_⟩
  · funext y
    obtain ⟨R, j, rfl⟩ : ∃ (R : Fin 8192) (j : Fin 2048), y = ix2 R j := ⟨y 0, y 1, eq_ix2 y⟩
    obtain ⟨n, i, rfl⟩ : ∃ n i, R = row n i := ⟨blk R, place R, (row_blk_place R).symm⟩
    rcases half_cases j with ⟨L, rfl⟩ | ⟨L, rfl⟩
    · exact (duv_lo (U := fun R j => f0 (ix2 R j)) (Y := fun R j => f1 (ix2 R j)) (G := fun j => f2 (ix2 0 j)) (B := fun j => f3 (ix2 0 j))
        (W := fun g i k => f4 (ix3 g i k)) (β := fun g i => f5 (ix2 g i)) h0 h1 h2 h3 h4 h5 n i L).trans (kernel_lo m c h0 h1 h2 h3 h4 h5 n i L).symm
    · exact (duv_hi (U := fun R j => f0 (ix2 R j)) (Y := fun R j => f1 (ix2 R j)) (G := fun j => f2 (ix2 0 j)) (B := fun j => f3 (ix2 0 j))
        (W := fun g i k => f4 (ix3 g i k)) (β := fun g i => f5 (ix2 g i)) h0 h1 h2 h3 h4 h5 n i L).trans (kernel_hi m c h0 h1 h2 h3 h4 h5 n i L).symm
  · funext y
    obtain ⟨g, i, k, rfl⟩ : ∃ (g : Fin 8) (i k : Fin 128), y = ix3 g i k := ⟨y 0, y 1, y 2, eq_ix3 y⟩
    exact (dweight_at (U := fun R j => f0 (ix2 R j)) (Y := fun R j => f1 (ix2 R j)) (G := fun j => f2 (ix2 0 j)) (B := fun j => f3 (ix2 0 j))
      h0 h1 h2 h3 g i k).trans ((congrFun (final7 m c) _).trans (after7 m c h0 h1 h2 h3 7 _ g i k)).symm
  · funext y
    obtain ⟨i, k, rfl⟩ : ∃ (i k : Fin 128), y = ix2 i k := ⟨y 0, y 1, eq_ix2 y⟩
    exact (dbiasPadded_at (U := fun R j => f0 (ix2 R j)) (Y := fun R j => f1 (ix2 R j)) h0 h1 i k).trans
      ((congrFun (final8 m c) _).trans (after8 m c h0 h1 7 _ i k)).symm
  · funext y
    obtain ⟨a, L, rfl⟩ : ∃ (a : Fin 1) (L : Fin 1024), y = ix2 a L := ⟨y 0, y 1, eq_ix2 y⟩
    obtain rfl : a = 0 := Subsingleton.elim _ _
    exact (dgain_at (U := fun R j => f0 (ix2 R j)) (Y := fun R j => f1 (ix2 R j)) (W := fun g i k => f4 (ix3 g i k)) h0 h1 h4 L).trans
      ((congrFun (final9 m c) _).trans (after9 m c h0 h1 h4 7 _ L)).symm
  · funext y
    obtain ⟨a, L, rfl⟩ : ∃ (a : Fin 1) (L : Fin 1024), y = ix2 a L := ⟨y 0, y 1, eq_ix2 y⟩
    obtain rfl : a = 0 := Subsingleton.elim _ _
    exact (dshift_at (U := fun R j => f0 (ix2 R j)) (Y := fun R j => f1 (ix2 R j)) (W := fun g i k => f4 (ix3 g i k)) h0 h1 h4 L).trans
      ((congrFun (final10 m c) _).trans (after10 m c h0 h1 h4 7 _ L)).symm

variable (m' : (ℓ : Loc Cert.ReferenceIdeal.nD Cert.ReferenceIdeal.τ Cert.ReferenceIdeal.sig) → Buf (Elt Ideal) ℓ)

/-- The reference's first result, by its stages. -/
theorem reference0 (c : Dev Cert.ReferenceIdeal.nD) : Cert.ReferenceIdeal.Value.res_out0 m' c = duv (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) := rfl

/-- Its second. -/
theorem reference1 (c : Dev Cert.ReferenceIdeal.nD) : Cert.ReferenceIdeal.Value.res_out1 m' c = dweight (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) := rfl

/-- Its fourth. -/
theorem reference3 (c : Dev Cert.ReferenceIdeal.nD) :
    Cert.ReferenceIdeal.Value.res_out3 m' c = colSum (mulf (hat (m' ((c.tc : Thread Cert.ReferenceIdeal.nD Cert.ReferenceIdeal.τ).loc Cert.ReferenceIdeal.main_arg0))) (dnorm (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)))) := rfl

end equal

end Cert.Proof.Result

end
-- ==== Proof.Blocks.lean ====
/-
  Positions of a matrix, matrices read at natural-number indices, and sums over an axis that is cut into blocks of equal length.
-/
module

public import Idealize.ShloMosaic.Lib.ValueIdx

@[expose] public section

noncomputable section

namespace Cert.Blocks

open Idealize.ShloMosaic ValueIdx

/-- The offset zero on both axes. -/
theorem hz : (![0, 0] : Fin 2 → Nat) = fun _ => 0 := funext fun a => by fin_cases a <;> rfl

/-- A position of a matrix is given by its two coordinates. -/
theorem ix2_of {n0 n1 : ℕ} {y : Shape.Idx ⟨2, ![n0, n1]⟩} {p : Fin n0} {q : Fin n1} (h0 : (y 0).val = p.val) (h1 : (y 1).val = q.val) : y = ix2 p q := by
  rw [eq_ix2 y]
  exact congrArg₂ ix2 (Fin.ext h0) (Fin.ext h1)

/-- A matrix at two natural numbers, each taken modulo its extent. -/
def nat2 {M : Type} {a b : ℕ} [NeZero a] [NeZero b] (v : Fin a → Fin b → M) (i j : ℕ) : M := v (Fin.ofNat a i) (Fin.ofNat b j)

theorem nat2_val {M : Type} {a b : ℕ} [NeZero a] [NeZero b] (v : Fin a → Fin b → M) (i : Fin a) (j : Fin b) : nat2 v i.val j.val = v i j := by
  unfold nat2
  rw [Fin.ofNat_val_eq_self, Fin.ofNat_val_eq_self]

theorem nat2_of {M : Type} {a b : ℕ} [NeZero a] [NeZero b] (v : Fin a → Fin b → M) {i j : ℕ} {p : Fin a} {q : Fin b} (hp : p.val = i) (hq : q.val = j) :
    nat2 v i j = v p q := by
  rw [← hp, ← hq, nat2_val]

/-- The first block of a sum. -/
theorem sum_first {M : Type} [AddCommMonoid M] {R : ℕ} (k : ℕ) (hk : k = 0) (g : ℕ → M) (f : Fin R → M) (hf : ∀ r, f r = g (R * k + r.val)) :
    ∑ r, f r = ∑ s ∈ Finset.range (R * (k + 1)), g s := by
  subst hk
  rw [Finset.sum_congr rfl fun r _ => hf r, Nat.zero_add, Nat.mul_one, Nat.mul_zero, ← Fin.sum_univ_eq_sum_range]
  exact Finset.sum_congr rfl fun r _ => by rw [Nat.zero_add]

/-- The blocks so far and the next one. -/
theorem sum_next {M : Type} [AddCommMonoid M] {R : ℕ} (k : ℕ) (g : ℕ → M) (x : M) (f : Fin R → M) (hx : x = ∑ s ∈ Finset.range (R * k), g s)
    (hf : ∀ r, f r = g (R * k + r.val)) : x + ∑ r, f r = ∑ s ∈ Finset.range (R * (k + 1)), g s := by
  rw [hx, Finset.sum_congr rfl fun r _ => hf r, Nat.mul_succ, Finset.sum_range_add, ← Fin.sum_univ_eq_sum_range (fun r => g (R * k + r))]

end Cert.Blocks

end
-- ==== Proof.DwXbcValue.lean ====
/-
  The product `h^T @ d` accumulated over row blocks: what each grid point stores, what the result's block holds after it, what
  the result array ends holding, and the reference's result.
-/
module

public import proofs.«01_k».proof.Proof.Blocks
public import proofs.«01_k».proof.Proof.Gen.DwXbcIdeal.Value
public import proofs.«01_k».proof.Proof.Gen.DwXbcRefIdeal.Run
public import Idealize.ShloMosaic.Lib.StableHlo.Run
public import Idealize.ShloMosaic.Lib.Pointwise

@[expose] public section

set_option synthInstance.maxSize 4096
set_option maxRecDepth 16384

noncomputable section

namespace Cert.DwXbcRefIdeal.Reading

open Idealize.ShloMosaic Idealize.ShloMosaic.TcCoe Cert.DwXbcRefIdeal Cert.DwXbcRefIdeal.Gen

/-- The reference's result, of the arguments' contents. -/
def out (x0 : FVec Ideal S8192x1024 .f32) (x1 : FVec Ideal S8192x4096 .f32) : FVec Ideal S1024x4096 .f32 :=
  transpose S1024x4096 [1, 0] (Host.dotGeneral dot_S8192x4096_S8192x1024_S4096x1024_0_0_1_1_n_n none x1 x0) transposes_S4096x1024_S1024x4096_1_0

/-- The reference's result at an index. -/
theorem out_at (x0 : FVec Ideal S8192x1024 .f32) (x1 : FVec Ideal S8192x4096 .f32) (i : Fin 1024) (j : Fin 4096) : out x0 x1 (ix2 i j) = (∑ r : Fin 8192, x1 (ix2 r j) * x0 (ix2 r i) : EReal) := by
  unfold out
  pointwise []

end Cert.DwXbcRefIdeal.Reading

namespace Cert.DwXbcIdeal.Product

open Idealize.ShloMosaic Idealize.ShloMosaic.TcCoe Idealize.SL.Sem Cert.DwXbcIdeal Cert.DwXbcIdeal.Gen Cert.Blocks
open Idealize.ShloMosaic.Pipeline (Dat)

section

variable (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .f32) (h5 : a5.IsWhole)

/-- A point of the first block stores that block's product. -/
theorem out_A (hc0 : cond0_0 i) (hc1 : ¬cond0_1 i) (x0 x1 : Vec Ideal S2048x1024 .bf16) (p q : Fin 1024) :
    out0_A_2 c i a3 h3 a4 h4 a5 h5 hc0 hc1 x0 x1 (ix2 p q) = ∑ r : Fin 2048, x0 (ix2 r p) * x1 (ix2 r q) := by
  unfold out0_A_2
  rw [View.read_writes_eq_canon _ _ _ (cover0_A_2 _ _ _ _ _ _ _ _ _ _ _ _)]
  unfold kernelRun0_A
  dsimp only
  rw [View.canon_unit_zero hz]
  simp only [View.readAt_eq_ld, h3.read_unread, h4.read_unread, View.ld_unit_zero (S := S2048x1024) hz, View.ld_unit_zero (S := S1024x1024) hz]
  pointwise [k0_pay1]

/-- A point of a later block adds that block's product to what the point before left. -/
theorem out_B (hc0 : ¬cond0_0 i) (hc1 : cond0_1 i) (x0 x1 : Vec Ideal S2048x1024 .bf16) (xo : Vec Ideal S1024x1024 .f32) (p q : Fin 1024) :
    out0_B_2 c i a3 h3 a4 h4 a5 h5 hc0 hc1 x0 x1 xo (ix2 p q) = xo (ix2 p q) + ∑ r : Fin 2048, x0 (ix2 r p) * x1 (ix2 r q) := by
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, h3.read_unread, h4.read_unread, h5.read_unread, View.ld_unit_zero (S := S2048x1024) hz, View.ld_unit_zero (S := S1024x1024) hz]
  pointwise [k0_pay2, k0_pay1]

end

variable (m : (ℓ : Loc nD τ sig) → Buf (Elt Ideal) ℓ) (c : Dev nD)

theorem hN : cfg0.N = 16 := N_0

theorem idx0 : ∀ t : Fin cfg0.N, win0_0.index t 0 = t.val % 4 ∧ win0_0.index t 1 = 0 := by
  show ∀ t : Fin grid0.N, _
  decide +kernel

theorem idx1 : ∀ t : Fin cfg0.N, win0_1.index t 0 = t.val % 4 ∧ win0_1.index t 1 = t.val / 4 := by
  show ∀ t : Fin grid0.N, _
  decide +kernel

theorem idx2 : ∀ t : Fin cfg0.N, win0_2.index t 0 = 0 ∧ win0_2.index t 1 = t.val / 4 := by
  show ∀ t : Fin grid0.N, _
  decide +kernel

/-- The two arguments at natural-number indices. -/
def lhs : ℕ → ℕ → EReal := nat2 fun (i : Fin 8192) (j : Fin 1024) => m ((c : Thread nD τ).loc main_arg0) (ix2 i j)
def rhs : ℕ → ℕ → EReal := nat2 fun (i : Fin 8192) (j : Fin 4096) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 8192} {q : Fin 4096} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 8192) (j : Fin 4096) : (V m c main_v1 : FVec Ideal S8192x4096 .bf16) (ix2 i j) = m ((c : Thread nD τ).loc main_arg1) (ix2 i j) := by
  have e : V m c main_v1 = (truncf .bf16 (m ((c : Thread nD τ).loc main_arg1)) bitsLt_bf16_f32 : FVec Ideal S8192x4096 .bf16) := by
    unfold V
    after_results
  rw [e]
  pointwise []

theorem iblk0_at (t : Fin cfg0.N) (r : Fin 2048) (j : Fin 1024) :
    (iblk m c 0 t : Vec Ideal S2048x1024 .bf16) (ix2 r j) = lhs m c (2048 * (t.val % 4) + r.val) j.val := by
  have ht := t.isLt
  have := hN
  have e := V0 m c ⟨2048 * (t.val % 4) + r.val, by omega⟩ j
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (1024 * (t.val / 4) + j.val) := by
  have ht := t.isLt
  have := hN
  have e := V1 m c ⟨2048 * (t.val % 4) + r.val, by omega⟩ ⟨1024 * (t.val / 4) + j.val, by omega⟩
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = 1024 * (t.val / 4) + j.val; rw [(idx1 t).2]; omega))

/-- After a grid point the result's block holds the product over the rows so far. -/
theorem after (n : ℕ) (h : n < cfg0.N) (p q : Fin 1024) :
    outsAt0 m c n h (ix2 p q) = ∑ s ∈ Finset.range (2048 * (n % 4 + 1)), lhs m c s p.val * rhs m c s (1024 * (n / 4) + q.val) := by
  induction n using Nat.strong_induction_on with
  | _ n ih =>
    have hn := hN
    by_cases h0 : n % 4 = 0
    · refine (congrFun (outsAt0_A m c ⟨n, h⟩ h0 (by dsimp only; omega)) (ix2 p q)).trans ?_
      rw [out_A]
      exact sum_first _ h0 (fun s => lhs m c s p.val * rhs m c s (1024 * (n / 4) + q.val)) _ fun r => by rw [iblk0_at, iblk1_at]
    · refine (congrFun (outsAt0_B m c ⟨n, h⟩ h0 (by dsimp only; omega)) (ix2 p q)).trans ?_
      rw [out_B]
      refine sum_next _ (fun s => lhs m c s p.val * rhs m c s (1024 * (n / 4) + q.val)) _ _ ?_ fun r => by rw [iblk0_at, iblk1_at]
      refine (ih (n - 1) (by omega) (by omega)).trans ?_
      rw [show (n - 1) / 4 = n / 4 by omega, show (n - 1) % 4 + 1 = n % 4 by omega]

/-- The product, as contents of the result array. -/
def prod : Buf (Elt Ideal) ((c : Thread nD τ).loc main_v2) := fun y : S1024x4096.Idx =>
  (∑ s ∈ Finset.range 8192, lhs m c s (y 0).val * rhs m c s (y 1).val : EReal)

/-- The result array ends holding the product. -/
theorem final : (dats m 0 c).arrAt 2 cfg0.N = prod m c :=
  (dats m 0 c).arrAt_eq_of_cover 2 (prod m c)
    (fun t hf => by
      have h3 := (flush0_2 t).mp hf
      rw [Value.flushed2]
      funext y
      rw [View.read_apply]
      refine Eq.trans (b := outsAt0 m c t.val t.isLt y) rfl ?_
      obtain ⟨p, q, rfl⟩ : ∃ p q : Fin 1024, y = ix2 p q := ⟨y 0, y 1, ValueIdx.eq_ix2 y⟩
      rw [after, h3]
      have e0 : (((cfg0.win 2).blk t).view.emb (ix2 p q) 0).val = p.val := by
        show win0_2.index t 0 * 1024 + 1 * p.val = _
        rw [(idx2 t).1]; omega
      have e1 : (((cfg0.win 2).blk t).view.emb (ix2 p q) 1).val = 1024 * (t.val / 4) + q.val := by
        show win0_2.index t 1 * 1024 + 1 * q.val = _
        rw [(idx2 t).2]; omega
      show _ = prod m c (((cfg0.win 2).blk t).view.emb (ix2 p q))
      unfold prod
      rw [e0, e1])
    fun y => by
      have hy0 : (y 0).val < 1024 := (y 0).isLt
      have hy1 : (y 1).val < 4096 := (y 1).isLt
      have hn := hN
      let t : Fin cfg0.N := ⟨4 * ((y 1).val / 1024) + 3, by omega⟩
      have ht : t.val / 4 = (y 1).val / 1024 := by show (4 * ((y 1).val / 1024) + 3) / 4 = _; omega
      refine ⟨t, (flush0_2 t).mpr (by show (4 * ((y 1).val / 1024) + 3) % 4 = 3; omega), ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 1024 ≤ (y 1 : Nat) ∧ (y 1 : Nat) < win0_2.index t 1 * 1024 + 1024
        rw [(idx2 t).2, ht]; omega

/-- The reference's result is what the kernel's result array ends holding. -/
theorem equal (x0 : FVec Ideal Cert.DwXbcRefIdeal.S8192x1024 .f32) (x1 : FVec Ideal Cert.DwXbcRefIdeal.S8192x4096 .f32)
    (h0 : x0 = m ((c : Thread nD τ).loc main_arg0)) (h1 : x1 = m ((c : Thread nD τ).loc main_arg1)) :
    Cert.DwXbcRefIdeal.Reading.out x0 x1 = (dats m 0 c).arrAt 2 cfg0.N := by
  rw [final]
  funext y
  obtain ⟨i, j, rfl⟩ : ∃ (i : Fin 1024) (j : Fin 4096), y = ix2 i j := ⟨y 0, y 1, ValueIdx.eq_ix2 y⟩
  refine (Cert.DwXbcRefIdeal.Reading.out_at _ _ i j).trans ?_
  show _ = ∑ s ∈ Finset.range 8192, lhs m c s i.val * rhs m c s j.val
  rw [← Fin.sum_univ_eq_sum_range (fun s => lhs m c s i.val * rhs m c s j.val)]
  refine Finset.sum_congr rfl fun r _ => ?_
  refine (congrArg₂ (· * ·) ((congrFun h1 (ix2 r j)).trans (rhs_of m c (p := r) (q := j) rfl rfl).symm)
    ((congrFun h0 (ix2 r i)).trans (lhs_of m c (p := r) (q := i) rfl rfl).symm)).trans ?_
  exact mul_comm (rhs m c r.val j.val) (lhs m c r.val i.val)

end Cert.DwXbcIdeal.Product

end
-- ==== Proof.DwWideValue.lean ====
/-
  The product `h^T @ d` accumulated over row blocks: what each grid point stores, what the result's block holds after it, what
  the result array ends holding, and the reference's result.
-/
module

public import proofs.«01_k».proof.Proof.Blocks
public import proofs.«01_k».proof.Proof.Gen.DwWideIdeal.Value
public import proofs.«01_k».proof.Proof.Gen.DwWideRefIdeal.Run
public import Idealize.ShloMosaic.Lib.StableHlo.Run
public import Idealize.ShloMosaic.Lib.Pointwise

@[expose] public section

set_option synthInstance.maxSize 2048
set_option maxRecDepth 16384

noncomputable section

namespace Cert.DwWideRefIdeal.Reading

open Idealize.ShloMosaic Idealize.ShloMosaic.TcCoe Cert.DwWideRefIdeal Cert.DwWideRefIdeal.Gen

/-- The reference's result, of the arguments' contents. -/
def out (x0 : FVec Ideal S8192x1024 .f32) (x1 : FVec Ideal S8192x2048 .f32) : FVec Ideal S1024x2048 .f32 :=
  transpose S1024x2048 [1, 0] (Host.dotGeneral dot_S8192x2048_S8192x1024_S2048x1024_0_0_1_1_n_n none x1 x0) transposes_S2048x1024_S1024x2048_1_0

/-- The reference's result at an index. -/
theorem out_at (x0 : FVec Ideal S8192x1024 .f32) (x1 : FVec Ideal S8192x2048 .f32) (i : Fin 1024) (j : Fin 2048) : out x0 x1 (ix2 i j) = (∑ r : Fin 8192, x1 (ix2 r j) * x0 (ix2 r i) : EReal) := by
  unfold out
  pointwise []

end Cert.DwWideRefIdeal.Reading

namespace Cert.DwWideIdeal.Product

open Idealize.ShloMosaic Idealize.ShloMosaic.TcCoe Idealize.SL.Sem Cert.DwWideIdeal Cert.DwWideIdeal.Gen Cert.Blocks
open Idealize.ShloMosaic.Pipeline (Dat)

section

variable (c : Dev nD) (i : grid0.Coords) (a3 : Memref sig .tc .vmem S2048x1024 .bf16) (h3 : a3.IsWhole) (a4 : Memref sig .tc .vmem S2048x1024 .bf16)
    (h4 : a4.IsWhole) (a5 : Memref sig .tc .vmem S1024x1024 .f32) (h5 : a5.IsWhole)

/-- A point of the first block stores that block's product. -/
theorem out_A (hc0 : cond0_0 i) (hc1 : ¬cond0_1 i) (x0 x1 : Vec Ideal S2048x1024 .bf16) (p q : Fin 1024) :
    out0_A_2 c i a3 h3 a4 h4 a5 h5 hc0 hc1 x0 x1 (ix2 p q) = ∑ r : Fin 2048, x0 (ix2 r p) * x1 (ix2 r q) := by
  unfold out0_A_2
  rw [View.read_writes_eq_canon _ _ _ (cover0_A_2 _ _ _ _ _ _ _ _ _ _ _ _)]
  unfold kernelRun0_A
  dsimp only
  rw [View.canon_unit_zero hz]
  simp only [View.readAt_eq_ld, h3.read_unread, h4.read_unread, View.ld_unit_zero (S := S2048x1024) hz, View.ld_unit_zero (S := S1024x1024) hz]
  pointwise [k0_pay1]

/-- A point of a later block adds that block's product to what the point before left. -/
theorem out_B (hc0 : ¬cond0_0 i) (hc1 : cond0_1 i) (x0 x1 : Vec Ideal S2048x1024 .bf16) (xo : Vec Ideal S1024x1024 .f32) (p q : Fin 1024) :
    out0_B_2 c i a3 h3 a4 h4 a5 h5 hc0 hc1 x0 x1 xo (ix2 p q) = xo (ix2 p q) + ∑ r : Fin 2048, x0 (ix2 r p) * x1 (ix2 r q) := by
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, h3.read_unread, h4.read_unread, h5.read_unread, View.ld_unit_zero (S := S2048x1024) hz, View.ld_unit_zero (S := S1024x1024) hz]
  pointwise [k0_pay2, k0_pay1]

end

variable (m : (ℓ : Loc nD τ sig) → Buf (Elt Ideal) ℓ) (c : Dev nD)

theorem hN : cfg0.N = 8 := N_0

theorem idx0 : ∀ t : Fin cfg0.N, win0_0.index t 0 = t.val % 4 ∧ win0_0.index t 1 = 0 := by
  show ∀ t : Fin grid0.N, _
  decide +kernel

theorem idx1 : ∀ t : Fin cfg0.N, win0_1.index t 0 = t.val % 4 ∧ win0_1.index t 1 = t.val / 4 := by
  show ∀ t : Fin grid0.N, _
  decide +kernel

theorem idx2 : ∀ t : Fin cfg0.N, win0_2.index t 0 = 0 ∧ win0_2.index t 1 = t.val / 4 := by
  show ∀ t : Fin grid0.N, _
  decide +kernel

/-- The two arguments at natural-number indices. -/
def lhs : ℕ → ℕ → EReal := nat2 fun (i : Fin 8192) (j : Fin 1024) => m ((c : Thread nD τ).loc main_arg0) (ix2 i j)
def rhs : ℕ → ℕ → EReal := nat2 fun (i : Fin 8192) (j : Fin 2048) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 8192} {q : Fin 2048} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 8192) (j : Fin 2048) : (V m c main_v1 : FVec Ideal S8192x2048 .bf16) (ix2 i j) = m ((c : Thread nD τ).loc main_arg1) (ix2 i j) := by
  have e : V m c main_v1 = (truncf .bf16 (m ((c : Thread nD τ).loc main_arg1)) bitsLt_bf16_f32 : FVec Ideal S8192x2048 .bf16) := by
    unfold V
    after_results
  rw [e]
  pointwise []

theorem iblk0_at (t : Fin cfg0.N) (r : Fin 2048) (j : Fin 1024) :
    (iblk m c 0 t : Vec Ideal S2048x1024 .bf16) (ix2 r j) = lhs m c (2048 * (t.val % 4) + r.val) j.val := by
  have ht := t.isLt
  have := hN
  have e := V0 m c ⟨2048 * (t.val % 4) + r.val, by omega⟩ j
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (1024 * (t.val / 4) + j.val) := by
  have ht := t.isLt
  have := hN
  have e := V1 m c ⟨2048 * (t.val % 4) + r.val, by omega⟩ ⟨1024 * (t.val / 4) + j.val, by omega⟩
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = 1024 * (t.val / 4) + j.val; rw [(idx1 t).2]; omega))

/-- After a grid point the result's block holds the product over the rows so far. -/
theorem after (n : ℕ) (h : n < cfg0.N) (p q : Fin 1024) :
    outsAt0 m c n h (ix2 p q) = ∑ s ∈ Finset.range (2048 * (n % 4 + 1)), lhs m c s p.val * rhs m c s (1024 * (n / 4) + q.val) := by
  induction n using Nat.strong_induction_on with
  | _ n ih =>
    have hn := hN
    by_cases h0 : n % 4 = 0
    · refine (congrFun (outsAt0_A m c ⟨n, h⟩ h0 (by dsimp only; omega)) (ix2 p q)).trans ?_
      rw [out_A]
      exact sum_first _ h0 (fun s => lhs m c s p.val * rhs m c s (1024 * (n / 4) + q.val)) _ fun r => by rw [iblk0_at, iblk1_at]
    · refine (congrFun (outsAt0_B m c ⟨n, h⟩ h0 (by dsimp only; omega)) (ix2 p q)).trans ?_
      rw [out_B]
      refine sum_next _ (fun s => lhs m c s p.val * rhs m c s (1024 * (n / 4) + q.val)) _ _ ?_ fun r => by rw [iblk0_at, iblk1_at]
      refine (ih (n - 1) (by omega) (by omega)).trans ?_
      rw [show (n - 1) / 4 = n / 4 by omega, show (n - 1) % 4 + 1 = n % 4 by omega]

/-- The product, as contents of the result array. -/
def prod : Buf (Elt Ideal) ((c : Thread nD τ).loc main_v2) := fun y : S1024x2048.Idx =>
  (∑ s ∈ Finset.range 8192, lhs m c s (y 0).val * rhs m c s (y 1).val : EReal)

/-- The result array ends holding the product. -/
theorem final : (dats m 0 c).arrAt 2 cfg0.N = prod m c :=
  (dats m 0 c).arrAt_eq_of_cover 2 (prod m c)
    (fun t hf => by
      have h3 := (flush0_2 t).mp hf
      rw [Value.flushed2]
      funext y
      rw [View.read_apply]
      refine Eq.trans (b := outsAt0 m c t.val t.isLt y) rfl ?_
      obtain ⟨p, q, rfl⟩ : ∃ p q : Fin 1024, y = ix2 p q := ⟨y 0, y 1, ValueIdx.eq_ix2 y⟩
      rw [after, h3]
      have e0 : (((cfg0.win 2).blk t).view.emb (ix2 p q) 0).val = p.val := by
        show win0_2.index t 0 * 1024 + 1 * p.val = _
        rw [(idx2 t).1]; omega
      have e1 : (((cfg0.win 2).blk t).view.emb (ix2 p q) 1).val = 1024 * (t.val / 4) + q.val := by
        show win0_2.index t 1 * 1024 + 1 * q.val = _
        rw [(idx2 t).2]; omega
      show _ = prod m c (((cfg0.win 2).blk t).view.emb (ix2 p q))
      unfold prod
      rw [e0, e1])
    fun y => by
      have hy0 : (y 0).val < 1024 := (y 0).isLt
      have hy1 : (y 1).val < 2048 := (y 1).isLt
      have hn := hN
      let t : Fin cfg0.N := ⟨4 * ((y 1).val / 1024) + 3, by omega⟩
      have ht : t.val / 4 = (y 1).val / 1024 := by show (4 * ((y 1).val / 1024) + 3) / 4 = _; omega
      refine ⟨t, (flush0_2 t).mpr (by show (4 * ((y 1).val / 1024) + 3) % 4 = 3; omega), ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 1024 ≤ (y 1 : Nat) ∧ (y 1 : Nat) < win0_2.index t 1 * 1024 + 1024
        rw [(idx2 t).2, ht]; omega

/-- The reference's result is what the kernel's result array ends holding. -/
theorem equal (x0 : FVec Ideal Cert.DwWideRefIdeal.S8192x1024 .f32) (x1 : FVec Ideal Cert.DwWideRefIdeal.S8192x2048 .f32)
    (h0 : x0 = m ((c : Thread nD τ).loc main_arg0)) (h1 : x1 = m ((c : Thread nD τ).loc main_arg1)) :
    Cert.DwWideRefIdeal.Reading.out x0 x1 = (dats m 0 c).arrAt 2 cfg0.N := by
  rw [final]
  funext y
  obtain ⟨i, j, rfl⟩ : ∃ (i : Fin 1024) (j : Fin 2048), y = ix2 i j := ⟨y 0, y 1, ValueIdx.eq_ix2 y⟩
  refine (Cert.DwWideRefIdeal.Reading.out_at _ _ i j).trans ?_
  show _ = ∑ s ∈ Finset.range 8192, lhs m c s i.val * rhs m c s j.val
  rw [← Fin.sum_univ_eq_sum_range (fun s => lhs m c s i.val * rhs m c s j.val)]
  refine Finset.sum_congr rfl fun r _ => ?_
  refine (congrArg₂ (· * ·) ((congrFun h1 (ix2 r j)).trans (rhs_of m c (p := r) (q := j) rfl rfl).symm)
    ((congrFun h0 (ix2 r i)).trans (lhs_of m c (p := r) (q := i) rfl rfl).symm)).trans ?_
  exact mul_comm (rhs m c r.val j.val) (lhs m c r.val i.val)

end Cert.DwWideIdeal.Product

end
-- ==== Proof.ProjXbcValue.lean ====
/-
  The product `h @ w` tile by tile: what each grid point stores, what the result array ends holding, and the reference's result.
-/
module

public import proofs.«01_k».proof.Proof.Blocks
public import proofs.«01_k».proof.Proof.Gen.ProjXbcIdeal.Value
public import proofs.«01_k».proof.Proof.Gen.ProjXbcRefIdeal.Run
public import Idealize.ShloMosaic.Lib.StableHlo.Run
public import Idealize.ShloMosaic.Lib.Pointwise

@[expose] public section

set_option synthInstance.maxSize 4096
set_option maxRecDepth 16384

noncomputable section

namespace Cert.ProjXbcRefIdeal.Reading

open Idealize.ShloMosaic Idealize.ShloMosaic.TcCoe Cert.ProjXbcRefIdeal Cert.ProjXbcRefIdeal.Gen

/-- The reference's result, of the arguments' contents. -/
def out (x0 : FVec Ideal S8192x1024 .f32) (x1 : FVec Ideal S1024x4096 .f32) : FVec Ideal S8192x4096 .f32 :=
  Host.dotGeneral dot_S8192x1024_S1024x4096_S8192x4096_1_0_0_1_n_n none x0 x1

/-- The reference's result at an index. -/
theorem out_at (x0 : FVec Ideal S8192x1024 .f32) (x1 : FVec Ideal S1024x4096 .f32) (i : Fin 8192) (j : Fin 4096) : out x0 x1 (ix2 i j) = ((∑ r : Fin 1024, x0 (ix2 i r) * x1 (ix2 r j)) : EReal) := by
  unfold out
  pointwise []

end Cert.ProjXbcRefIdeal.Reading

namespace Cert.ProjXbcIdeal.Product

open Idealize.ShloMosaic Idealize.ShloMosaic.TcCoe Idealize.SL.Sem Cert.ProjXbcIdeal Cert.ProjXbcIdeal.Gen Cert.Blocks
open Idealize.ShloMosaic.Pipeline (Dat)

/-- What one grid point stores, from its blocks. -/
theorem out_at (x0 : Vec Ideal S1024x1024 .bf16) (x1 : Vec Ideal S1024x2048 .bf16) (p : Fin 1024) (q : Fin 2048) :
    out0_2 x0 x1 (ix2 p q) = ((∑ r : Fin 1024, x0 (ix2 p r) * x1 (ix2 r q)) : EReal) := by
  unfold out0_2
  rw [View.canon_unit_zero hz]
  simp only [View.ld_unit_zero (S := S1024x1024) hz, View.ld_unit_zero (S := S1024x2048) hz]
  pointwise [k0_pay1]

variable (m : (ℓ : Loc nD τ sig) → Buf (Elt Ideal) ℓ) (c : Dev nD)

theorem hN : cfg0.N = 16 := N_0

theorem idx0 : ∀ t : Fin cfg0.N, win0_0.index t 0 = t.val / 2 ∧ win0_0.index t 1 = 0 := by
  show ∀ t : Fin grid0.N, _
  decide +kernel

theorem idx1 : ∀ t : Fin cfg0.N, win0_1.index t 0 = 0 ∧ win0_1.index t 1 = t.val % 2 := by
  show ∀ t : Fin grid0.N, _
  decide +kernel

theorem idx2 : ∀ t : Fin cfg0.N, win0_2.index t 0 = t.val / 2 ∧ win0_2.index t 1 = t.val % 2 := by
  show ∀ t : Fin grid0.N, _
  decide +kernel

/-- The arguments at natural-number indices. -/
def lhs : ℕ → ℕ → EReal := nat2 fun (i : Fin 8192) (j : Fin 1024) => m ((c : Thread nD τ).loc main_arg0) (ix2 i j)
def rhs : ℕ → ℕ → EReal := nat2 fun (i : Fin 1024) (j : Fin 4096) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 1024} {q : Fin 4096} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 1024) (j : Fin 4096) : (V m c main_v1 : FVec Ideal S1024x4096 .bf16) (ix2 i j) = m ((c : Thread nD τ).loc main_arg1) (ix2 i j) := by
  have e : V m c main_v1 = (truncf .bf16 (m ((c : Thread nD τ).loc main_arg1)) bitsLt_bf16_f32 : FVec Ideal S1024x4096 .bf16) := by
    unfold V
    after_results
  rw [e]
  pointwise []

theorem iblk0_at (t : Fin cfg0.N) (r : Fin 1024) (j : Fin 1024) :
    (iblk m c 0 t : Vec Ideal S1024x1024 .bf16) (ix2 r j) = lhs m c ((t.val / 2) * 1024 + r.val) (0 * 1024 + j.val) := by
  have ht := t.isLt
  have := hN
  have e := V0 m c ⟨((t.val / 2)) * 1024 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 1024 + 1 * r.val = ((t.val / 2)) * 1024 + r.val; rw [(idx0 t).1]; omega) (by show win0_0.index t 1 * 1024 + 1 * j.val = (0) * 1024 + j.val; rw [(idx0 t).2]; omega))

theorem iblk1_at (t : Fin cfg0.N) (r : Fin 1024) (j : Fin 2048) :
    (iblk m c 1 t : Vec Ideal S1024x2048 .bf16) (ix2 r j) = rhs m c (0 * 1024 + r.val) ((t.val % 2) * 2048 + j.val) := by
  have ht := t.isLt
  have := hN
  have e := V1 m c ⟨(0) * 1024 + r.val, by omega⟩ ⟨((t.val % 2)) * 2048 + j.val, by omega⟩
  refine Eq.trans ?_ (e.trans (rhs_of m c rfl rfl).symm)
  rw [iblk, View.read_apply]
  show V m c main_v1 _ = V m c main_v1 _
  exact congrArg _ (ix2_of (by show win0_1.index t 0 * 1024 + 1 * r.val = (0) * 1024 + r.val; rw [(idx1 t).1]; omega) (by show win0_1.index t 1 * 2048 + 1 * j.val = ((t.val % 2)) * 2048 + j.val; rw [(idx1 t).2]; omega))

/-- The result, as contents of the result array. -/
def prod : Buf (Elt Ideal) ((c : Thread nD τ).loc main_v2) := fun y : S8192x4096.Idx =>
  ((∑ r : Fin 1024, lhs m c (y 0).val r.val * rhs m c r.val (y 1).val) : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 1024) (q : Fin 2048), y = ix2 p q := ⟨y 0, y 1, ValueIdx.eq_ix2 y⟩
      rw [out_at]
      have e0 : (((cfg0.win 2).blk t).view.emb (ix2 p q) 0).val = (t.val / 2) * 1024 + p.val := by
        show win0_2.index t 0 * 1024 + 1 * p.val = _
        rw [(idx2 t).1]; omega
      have e1 : (((cfg0.win 2).blk t).view.emb (ix2 p q) 1).val = (t.val % 2) * 2048 + q.val := by
        show win0_2.index t 1 * 2048 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 4096 := (y 1).isLt
      have hn := hN
      let t : Fin cfg0.N := ⟨2 * ((y 0).val / 1024) + (y 1).val / 2048, by omega⟩
      have ht : t.val = 2 * ((y 0).val / 1024) + (y 1).val / 2048 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 2048 ≤ (y 1 : Nat) ∧ (y 1 : Nat) < win0_2.index t 1 * 2048 + 2048
        rw [(idx2 t).2]; omega

/-- The reference's result is what the kernel's result array ends holding. -/
theorem equal (x0 : FVec Ideal Cert.ProjXbcRefIdeal.S8192x1024 .f32) (x1 : FVec Ideal Cert.ProjXbcRefIdeal.S1024x4096 .f32)
    (h0 : x0 = m ((c : Thread nD τ).loc main_arg0)) (h1 : x1 = m ((c : Thread nD τ).loc main_arg1)) :
    Cert.ProjXbcRefIdeal.Reading.out x0 x1 = (dats m 0 c).arrAt 2 cfg0.N := by
  rw [final]
  funext y
  obtain ⟨i, j, rfl⟩ : ∃ (i : Fin 8192) (j : Fin 4096), y = ix2 i j := ⟨y 0, y 1, ValueIdx.eq_ix2 y⟩
  refine (Cert.ProjXbcRefIdeal.Reading.out_at _ _ i j).trans ?_
  show _ = prod m c (ix2 i j)
  unfold prod
  have e : (∑ r : Fin 1024, x0 (ix2 i r) * x1 (ix2 r j)) = ∑ r : Fin 1024, lhs m c i.val r.val * rhs m c r.val j.val := by
    refine Finset.sum_congr rfl fun r _ => ?_
    exact congrArg₂ (· * ·) ((congrFun h0 (ix2 i r)).trans (lhs_of m c (p := i) (q := r) rfl rfl).symm)
      ((congrFun h1 (ix2 r j)).trans (rhs_of m c (p := r) (q := j) rfl rfl).symm)
  exact e

end Cert.ProjXbcIdeal.Product

end
-- ==== Proof.ProjWideValue.lean ====
/-
  The product `h @ w` tile by tile: what each grid point stores, what the result array ends holding, and the reference's result.
-/
module

public import proofs.«01_k».proof.Proof.Blocks
public import proofs.«01_k».proof.Proof.Gen.ProjWideIdeal.Value
public import proofs.«01_k».proof.Proof.Gen.ProjWideRefIdeal.Run
public import Idealize.ShloMosaic.Lib.StableHlo.Run
public import Idealize.ShloMosaic.Lib.Pointwise

@[expose] public section

set_option synthInstance.maxSize 4096
set_option maxRecDepth 16384

noncomputable section

namespace Cert.ProjWideRefIdeal.Reading

open Idealize.ShloMosaic Idealize.ShloMosaic.TcCoe Cert.ProjWideRefIdeal Cert.ProjWideRefIdeal.Gen

/-- The reference's result, of the arguments' contents. -/
def out (x0 : FVec Ideal S8192x1024 .f32) (x1 : FVec Ideal S1024x2048 .f32) : FVec Ideal S8192x2048 .f32 :=
  Host.dotGeneral dot_S8192x1024_S1024x2048_S8192x2048_1_0_0_1_n_n none x0 x1

/-- The reference's result at an index. -/
theorem out_at (x0 : FVec Ideal S8192x1024 .f32) (x1 : FVec Ideal S1024x2048 .f32) (i : Fin 8192) (j : Fin 2048) : out x0 x1 (ix2 i j) = ((∑ r : Fin 1024, x0 (ix2 i r) * x1 (ix2 r j)) : EReal) := by
  unfold out
  pointwise []

end Cert.ProjWideRefIdeal.Reading

namespace Cert.ProjWideIdeal.Product

open Idealize.ShloMosaic Idealize.ShloMosaic.TcCoe Idealize.SL.Sem Cert.ProjWideIdeal Cert.ProjWideIdeal.Gen Cert.Blocks
open Idealize.ShloMosaic.Pipeline (Dat)

/-- What one grid point stores, from its blocks. -/
theorem out_at (x0 : Vec Ideal S1024x1024 .bf16) (x1 : Vec Ideal S1024x2048 .bf16) (p : Fin 1024) (q : Fin 2048) :
    out0_2 x0 x1 (ix2 p q) = ((∑ r : Fin 1024, x0 (ix2 p r) * x1 (ix2 r q)) : EReal) := by
  unfold out0_2
  rw [View.canon_unit_zero hz]
  simp only [View.ld_unit_zero (S := S1024x1024) hz, View.ld_unit_zero (S := S1024x2048) hz]
  pointwise [k0_pay1]

variable (m : (ℓ : Loc nD τ sig) → Buf (Elt Ideal) ℓ) (c : Dev nD)

theorem hN : cfg0.N = 8 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

/-- The arguments at natural-number indices. -/
def lhs : ℕ → ℕ → EReal := nat2 fun (i : Fin 8192) (j : Fin 1024) => m ((c : Thread nD τ).loc main_arg0) (ix2 i j)
def rhs : ℕ → ℕ → EReal := nat2 fun (i : Fin 1024) (j : Fin 2048) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 1024} {q : Fin 2048} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 1024) (j : Fin 2048) : (V m c main_v1 : FVec Ideal S1024x2048 .bf16) (ix2 i j) = m ((c : Thread nD τ).loc main_arg1) (ix2 i j) := by
  have e : V m c main_v1 = (truncf .bf16 (m ((c : Thread nD τ).loc main_arg1)) bitsLt_bf16_f32 : FVec Ideal S1024x2048 .bf16) := by
    unfold V
    after_results
  rw [e]
  pointwise []

theorem iblk0_at (t : Fin cfg0.N) (r : Fin 1024) (j : Fin 1024) :
    (iblk m c 0 t : Vec Ideal S1024x1024 .bf16) (ix2 r j) = lhs m c (t.val * 1024 + r.val) (0 * 1024 + j.val) := by
  have ht := t.isLt
  have := hN
  have e := V0 m c ⟨(t.val) * 1024 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 1024 + 1 * r.val = (t.val) * 1024 + r.val; rw [(idx0 t).1]; omega) (by show win0_0.index t 1 * 1024 + 1 * j.val = (0) * 1024 + j.val; rw [(idx0 t).2]; omega))

theorem iblk1_at (t : Fin cfg0.N) (r : Fin 1024) (j : Fin 2048) :
    (iblk m c 1 t : Vec Ideal S1024x2048 .bf16) (ix2 r j) = rhs m c (0 * 1024 + r.val) (0 * 2048 + j.val) := by
  have ht := t.isLt
  have := hN
  have e := V1 m c ⟨(0) * 1024 + r.val, by omega⟩ ⟨(0) * 2048 + j.val, by omega⟩
  refine Eq.trans ?_ (e.trans (rhs_of m c rfl rfl).symm)
  rw [iblk, View.read_apply]
  show V m c main_v1 _ = V m c main_v1 _
  exact congrArg _ (ix2_of (by show win0_1.index t 0 * 1024 + 1 * r.val = (0) * 1024 + r.val; rw [(idx1 t).1]; omega) (by show win0_1.index t 1 * 2048 + 1 * j.val = (0) * 2048 + j.val; rw [(idx1 t).2]; omega))

/-- The result, as contents of the result array. -/
def prod : Buf (Elt Ideal) ((c : Thread nD τ).loc main_v2) := fun y : S8192x2048.Idx =>
  ((∑ r : Fin 1024, lhs m c (y 0).val r.val * rhs m c r.val (y 1).val) : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 1024) (q : Fin 2048), y = ix2 p q := ⟨y 0, y 1, ValueIdx.eq_ix2 y⟩
      rw [out_at]
      have e0 : (((cfg0.win 2).blk t).view.emb (ix2 p q) 0).val = t.val * 1024 + p.val := by
        show win0_2.index t 0 * 1024 + 1 * p.val = _
        rw [(idx2 t).1]; omega
      have e1 : (((cfg0.win 2).blk t).view.emb (ix2 p q) 1).val = 0 * 2048 + q.val := by
        show win0_2.index t 1 * 2048 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 2048 := (y 1).isLt
      have hn := hN
      let t : Fin cfg0.N := ⟨1 * ((y 0).val / 1024) + (y 1).val / 2048, by omega⟩
      have ht : t.val = 1 * ((y 0).val / 1024) + (y 1).val / 2048 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 2048 ≤ (y 1 : Nat) ∧ (y 1 : Nat) < win0_2.index t 1 * 2048 + 2048
        rw [(idx2 t).2]; omega

/-- The reference's result is what the kernel's result array ends holding. -/
theorem equal (x0 : FVec Ideal Cert.ProjWideRefIdeal.S8192x1024 .f32) (x1 : FVec Ideal Cert.ProjWideRefIdeal.S1024x2048 .f32)
    (h0 : x0 = m ((c : Thread nD τ).loc main_arg0)) (h1 : x1 = m ((c : Thread nD τ).loc main_arg1)) :
    Cert.ProjWideRefIdeal.Reading.out x0 x1 = (dats m 0 c).arrAt 2 cfg0.N := by
  rw [final]
  funext y
  obtain ⟨i, j, rfl⟩ : ∃ (i : Fin 8192) (j : Fin 2048), y = ix2 i j := ⟨y 0, y 1, ValueIdx.eq_ix2 y⟩
  refine (Cert.ProjWideRefIdeal.Reading.out_at _ _ i j).trans ?_
  show _ = prod m c (ix2 i j)
  unfold prod
  have e : (∑ r : Fin 1024, x0 (ix2 i r) * x1 (ix2 r j)) = ∑ r : Fin 1024, lhs m c i.val r.val * rhs m c r.val j.val := by
    refine Finset.sum_congr rfl fun r _ => ?_
    exact congrArg₂ (· * ·) ((congrFun h0 (ix2 i r)).trans (lhs_of m c (p := i) (q := r) rfl rfl).symm)
      ((congrFun h1 (ix2 r j)).trans (rhs_of m c (p := r) (q := j) rfl rfl).symm)
  exact e

end Cert.ProjWideIdeal.Product

end
-- ==== Proof.ProjAValue.lean ====
/-
  The product `ya @ w` tile by tile: what each grid point stores, what the result array ends holding, and the reference's result.
-/
module

public import proofs.«01_k».proof.Proof.Blocks
public import proofs.«01_k».proof.Proof.Gen.ProjAIdeal.Value
public import proofs.«01_k».proof.Proof.Gen.ProjARefIdeal.Run
public import Idealize.ShloMosaic.Lib.StableHlo.Run
public import Idealize.ShloMosaic.Lib.Pointwise

@[expose] public section

set_option synthInstance.maxSize 4096
set_option maxRecDepth 16384

noncomputable section

namespace Cert.ProjARefIdeal.Reading

open Idealize.ShloMosaic Idealize.ShloMosaic.TcCoe Cert.ProjARefIdeal Cert.ProjARefIdeal.Gen

/-- The reference's result, of the arguments' contents. -/
def out (x0 : FVec Ideal S8192x1024 .f32) (x1 : FVec Ideal S1024x1024 .f32) : FVec Ideal S8192x1024 .f32 :=
  Host.dotGeneral dot_S8192x1024_S1024x1024_S8192x1024_1_0_0_1_n_n none x0 x1

/-- The reference's result at an index. -/
theorem out_at (x0 : FVec Ideal S8192x1024 .f32) (x1 : FVec Ideal S1024x1024 .f32) (i : Fin 8192) (j : Fin 1024) : out x0 x1 (ix2 i j) = ((∑ r : Fin 1024, x0 (ix2 i r) * x1 (ix2 r j)) : EReal) := by
  unfold out
  pointwise []

end Cert.ProjARefIdeal.Reading

namespace Cert.ProjAIdeal.Product

open Idealize.ShloMosaic Idealize.ShloMosaic.TcCoe Idealize.SL.Sem Cert.ProjAIdeal Cert.ProjAIdeal.Gen Cert.Blocks
open Idealize.ShloMosaic.Pipeline (Dat)

/-- What one grid point stores, from its blocks. -/
theorem out_at (x0 : Vec Ideal S2048x1024 .bf16) (x1 : Vec Ideal S1024x1024 .bf16) (p : Fin 2048) (q : Fin 1024) :
    out0_2 x0 x1 (ix2 p q) = ((∑ r : Fin 1024, x0 (ix2 p r) * x1 (ix2 r q)) : EReal) := by
  unfold out0_2
  rw [View.canon_unit_zero hz]
  simp only [View.ld_unit_zero (S := S2048x1024) hz, View.ld_unit_zero (S := S1024x1024) hz]
  pointwise [k0_pay1]

variable (m : (ℓ : Loc nD τ sig) → Buf (Elt Ideal) ℓ) (c : Dev nD)

theorem hN : cfg0.N = 4 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

/-- The arguments at natural-number indices. -/
def lhs : ℕ → ℕ → EReal := nat2 fun (i : Fin 8192) (j : Fin 1024) => m ((c : Thread nD τ).loc main_arg0) (ix2 i j)
def rhs : ℕ → ℕ → EReal := nat2 fun (i : Fin 1024) (j : Fin 1024) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 1024} {q : Fin 1024} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 1024) (j : Fin 1024) : (V m c main_v1 : FVec Ideal S1024x1024 .bf16) (ix2 i j) = m ((c : Thread nD τ).loc main_arg1) (ix2 i j) := by
  have e : V m c main_v1 = (truncf .bf16 (m ((c : Thread nD τ).loc main_arg1)) bitsLt_bf16_f32 : FVec Ideal S1024x1024 .bf16) := by
    unfold V
    after_results
  rw [e]
  pointwise []

theorem iblk0_at (t : Fin cfg0.N) (r : Fin 2048) (j : Fin 1024) :
    (iblk m c 0 t : Vec Ideal S2048x1024 .bf16) (ix2 r j) = lhs m c (t.val * 2048 + r.val) (0 * 1024 + j.val) := by
  have ht := t.isLt
  have := hN
  have e := V0 m c ⟨(t.val) * 2048 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 2048 + 1 * r.val = (t.val) * 2048 + r.val; rw [(idx0 t).1]; omega) (by show win0_0.index t 1 * 1024 + 1 * j.val = (0) * 1024 + j.val; rw [(idx0 t).2]; omega))

theorem iblk1_at (t : Fin cfg0.N) (r : Fin 1024) (j : Fin 1024) :
    (iblk m c 1 t : Vec Ideal S1024x1024 .bf16) (ix2 r j) = rhs m c (0 * 1024 + r.val) (0 * 1024 + j.val) := by
  have ht := t.isLt
  have := hN
  have e := V1 m c ⟨(0) * 1024 + r.val, by omega⟩ ⟨(0) * 1024 + j.val, by omega⟩
  refine Eq.trans ?_ (e.trans (rhs_of m c rfl rfl).symm)
  rw [iblk, View.read_apply]
  show V m c main_v1 _ = V m c main_v1 _
  exact congrArg _ (ix2_of (by show win0_1.index t 0 * 1024 + 1 * r.val = (0) * 1024 + r.val; rw [(idx1 t).1]; omega) (by show win0_1.index t 1 * 1024 + 1 * j.val = (0) * 1024 + j.val; rw [(idx1 t).2]; omega))

/-- The result, as contents of the result array. -/
def prod : Buf (Elt Ideal) ((c : Thread nD τ).loc main_v2) := fun y : S8192x1024.Idx =>
  ((∑ r : Fin 1024, lhs m c (y 0).val r.val * rhs m c r.val (y 1).val) : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 2048) (q : Fin 1024), y = ix2 p q := ⟨y 0, y 1, ValueIdx.eq_ix2 y⟩
      rw [out_at]
      have e0 : (((cfg0.win 2).blk t).view.emb (ix2 p q) 0).val = t.val * 2048 + p.val := by
        show win0_2.index t 0 * 2048 + 1 * p.val = _
        rw [(idx2 t).1]; omega
      have e1 : (((cfg0.win 2).blk t).view.emb (ix2 p q) 1).val = 0 * 1024 + q.val := by
        show win0_2.index t 1 * 1024 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 1024 := (y 1).isLt
      have hn := hN
      let t : Fin cfg0.N := ⟨1 * ((y 0).val / 2048) + (y 1).val / 1024, by omega⟩
      have ht : t.val = 1 * ((y 0).val / 2048) + (y 1).val / 1024 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 2048 ≤ (y 0 : Nat) ∧ (y 0 : Nat) < win0_2.index t 0 * 2048 + 2048
        rw [(idx2 t).1]; omega
      | ⟨1, _⟩ =>
        show win0_2.index t 1 * 1024 ≤ (y 1 : Nat) ∧ (y 1 : Nat) < win0_2.index t 1 * 1024 + 1024
        rw [(idx2 t).2]; omega

/-- The reference's result is what the kernel's result array ends holding. -/
theorem equal (x0 : FVec Ideal Cert.ProjARefIdeal.S8192x1024 .f32) (x1 : FVec Ideal Cert.ProjARefIdeal.S1024x1024 .f32)
    (h0 : x0 = m ((c : Thread nD τ).loc main_arg0)) (h1 : x1 = m ((c : Thread nD τ).loc main_arg1)) :
    Cert.ProjARefIdeal.Reading.out x0 x1 = (dats m 0 c).arrAt 2 cfg0.N := by
  rw [final]
  funext y
  obtain ⟨i, j, rfl⟩ : ∃ (i : Fin 8192) (j : Fin 1024), y = ix2 i j := ⟨y 0, y 1, ValueIdx.eq_ix2 y⟩
  refine (Cert.ProjARefIdeal.Reading.out_at _ _ i j).trans ?_
  show _ = prod m c (ix2 i j)
  unfold prod
  have e : (∑ r : Fin 1024, x0 (ix2 i r) * x1 (ix2 r j)) = ∑ r : Fin 1024, lhs m c i.val r.val * rhs m c r.val j.val := by
    refine Finset.sum_congr rfl fun r _ => ?_
    exact congrArg₂ (· * ·) ((congrFun h0 (ix2 i r)).trans (lhs_of m c (p := i) (q := r) rfl rfl).symm)
      ((congrFun h1 (ix2 r j)).trans (rhs_of m c (p := r) (q := j) rfl rfl).symm)
  exact e

end Cert.ProjAIdeal.Product

end
-- ==== Proof.MlpUpValue.lean ====
/-
  The product `h2 @ w_up` tile by tile: what each grid point stores, what the result array ends holding, and the reference's result.
  Each tile is stored as the square of the rectified product.
-/
module

public import proofs.«01_k».proof.Proof.Blocks
public import proofs.«01_k».proof.Proof.Gen.MlpUpIdeal.Value
public import proofs.«01_k».proof.Proof.Gen.MlpUpRefIdeal.Run
public import Idealize.ShloMosaic.Lib.StableHlo.Run
public import Idealize.ShloMosaic.Lib.Pointwise

@[expose] public section

set_option synthInstance.maxSize 4096
set_option maxRecDepth 16384

noncomputable section

namespace Cert.MlpUpRefIdeal.Reading

open Idealize.ShloMosaic Idealize.ShloMosaic.TcCoe Cert.MlpUpRefIdeal Cert.MlpUpRefIdeal.Gen

/-- The reference's result, of the arguments' contents. -/
def out (x0 : FVec Ideal S8192x1024 .f32) (x1 : FVec Ideal S1024x4096 .f32) : FVec Ideal S8192x4096 .bf16 :=
  truncf .bf16 (mulf (maximumf (Host.dotGeneral dot_S8192x1024_S1024x4096_S8192x4096_1_0_0_1_n_n none x0 x1) (broadcastInDim S8192x4096 ![] bcast_S_S8192x4096 (constant S_ .f32 0x00000000#32))) (maximumf (Host.dotGeneral dot_S8192x1024_S1024x4096_S8192x4096_1_0_0_1_n_n none x0 x1) (broadcastInDim S8192x4096 ![] bcast_S_S8192x4096 (constant S_ .f32 0x00000000#32)))) bitsLt_bf16_f32

/-- The reference's result at an index. -/
theorem out_at (x0 : FVec Ideal S8192x1024 .f32) (x1 : FVec Ideal S1024x4096 .f32) (i : Fin 8192) (j : Fin 4096) : out x0 x1 (ix2 i j) = (max (∑ r : Fin 1024, x0 (ix2 i r) * x1 (ix2 r j)) 0 * max (∑ r : Fin 1024, x0 (ix2 i r) * x1 (ix2 r j)) 0 : EReal) := by
  unfold out
  pointwise []

end Cert.MlpUpRefIdeal.Reading

namespace Cert.MlpUpIdeal.Product

open Idealize.ShloMosaic Idealize.ShloMosaic.TcCoe Idealize.SL.Sem Cert.MlpUpIdeal Cert.MlpUpIdeal.Gen Cert.Blocks
open Idealize.ShloMosaic.Pipeline (Dat)

/-- What one grid point stores, from its blocks. -/
theorem out_at (x0 : Vec Ideal S1024x1024 .bf16) (x1 : Vec Ideal S1024x2048 .bf16) (p : Fin 1024) (q : Fin 2048) :
    out0_2 x0 x1 (ix2 p q) = (max (∑ r : Fin 1024, x0 (ix2 p r) * x1 (ix2 r q)) 0 * max (∑ r : Fin 1024, x0 (ix2 p r) * x1 (ix2 r q)) 0 : EReal) := by
  unfold out0_2
  rw [View.canon_unit_zero hz]
  simp only [View.ld_unit_zero (S := S1024x1024) hz, View.ld_unit_zero (S := S1024x2048) hz]
  pointwise [k0_pay1]

variable (m : (ℓ : Loc nD τ sig) → Buf (Elt Ideal) ℓ) (c : Dev nD)

theorem hN : cfg0.N = 16 := N_0

theorem idx0 : ∀ t : Fin cfg0.N, win0_0.index t 0 = t.val / 2 ∧ win0_0.index t 1 = 0 := by
  show ∀ t : Fin grid0.N, _
  decide +kernel

theorem idx1 : ∀ t : Fin cfg0.N, win0_1.index t 0 = 0 ∧ win0_1.index t 1 = t.val % 2 := by
  show ∀ t : Fin grid0.N, _
  decide +kernel

theorem idx2 : ∀ t : Fin cfg0.N, win0_2.index t 0 = t.val / 2 ∧ win0_2.index t 1 = t.val % 2 := by
  show ∀ t : Fin grid0.N, _
  decide +kernel

/-- The arguments at natural-number indices. -/
def lhs : ℕ → ℕ → EReal := nat2 fun (i : Fin 8192) (j : Fin 1024) => m ((c : Thread nD τ).loc main_arg0) (ix2 i j)
def rhs : ℕ → ℕ → EReal := nat2 fun (i : Fin 1024) (j : Fin 4096) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 1024} {q : Fin 4096} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 1024) (j : Fin 4096) : (V m c main_v1 : FVec Ideal S1024x4096 .bf16) (ix2 i j) = m ((c : Thread nD τ).loc main_arg1) (ix2 i j) := by
  have e : V m c main_v1 = (truncf .bf16 (m ((c : Thread nD τ).loc main_arg1)) bitsLt_bf16_f32 : FVec Ideal S1024x4096 .bf16) := by
    unfold V
    after_results
  rw [e]
  pointwise []

theorem iblk0_at (t : Fin cfg0.N) (r : Fin 1024) (j : Fin 1024) :
    (iblk m c 0 t : Vec Ideal S1024x1024 .bf16) (ix2 r j) = lhs m c ((t.val / 2) * 1024 + r.val) (0 * 1024 + j.val) := by
  have ht := t.isLt
  have := hN
  have e := V0 m c ⟨((t.val / 2)) * 1024 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 1024 + 1 * r.val = ((t.val / 2)) * 1024 + r.val; rw [(idx0 t).1]; omega) (by show win0_0.index t 1 * 1024 + 1 * j.val = (0) * 1024 + j.val; rw [(idx0 t).2]; omega))

theorem iblk1_at (t : Fin cfg0.N) (r : Fin 1024) (j : Fin 2048) :
    (iblk m c 1 t : Vec Ideal S1024x2048 .bf16) (ix2 r j) = rhs m c (0 * 1024 + r.val) ((t.val % 2) * 2048 + j.val) := by
  have ht := t.isLt
  have := hN
  have e := V1 m c ⟨(0) * 1024 + r.val, by omega⟩ ⟨((t.val % 2)) * 2048 + j.val, by omega⟩
  refine Eq.trans ?_ (e.trans (rhs_of m c rfl rfl).symm)
  rw [iblk, View.read_apply]
  show V m c main_v1 _ = V m c main_v1 _
  exact congrArg _ (ix2_of (by show win0_1.index t 0 * 1024 + 1 * r.val = (0) * 1024 + r.val; rw [(idx1 t).1]; omega) (by show win0_1.index t 1 * 2048 + 1 * j.val = ((t.val % 2)) * 2048 + j.val; rw [(idx1 t).2]; omega))

/-- The result, as contents of the result array. -/
def prod : Buf (Elt Ideal) ((c : Thread nD τ).loc main_v2) := fun y : S8192x4096.Idx =>
  (max (∑ r : Fin 1024, lhs m c (y 0).val r.val * rhs m c r.val (y 1).val) 0 * max (∑ r : Fin 1024, lhs m c (y 0).val r.val * rhs m c r.val (y 1).val) 0 : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 1024) (q : Fin 2048), y = ix2 p q := ⟨y 0, y 1, ValueIdx.eq_ix2 y⟩
      rw [out_at]
      have e0 : (((cfg0.win 2).blk t).view.emb (ix2 p q) 0).val = (t.val / 2) * 1024 + p.val := by
        show win0_2.index t 0 * 1024 + 1 * p.val = _
        rw [(idx2 t).1]; omega
      have e1 : (((cfg0.win 2).blk t).view.emb (ix2 p q) 1).val = (t.val % 2) * 2048 + q.val := by
        show win0_2.index t 1 * 2048 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 4096 := (y 1).isLt
      have hn := hN
      let t : Fin cfg0.N := ⟨2 * ((y 0).val / 1024) + (y 1).val / 2048, by omega⟩
      have ht : t.val = 2 * ((y 0).val / 1024) + (y 1).val / 2048 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 2048 ≤ (y 1 : Nat) ∧ (y 1 : Nat) < win0_2.index t 1 * 2048 + 2048
        rw [(idx2 t).2]; omega

/-- The reference's result is what the kernel's result array ends holding. -/
theorem equal (x0 : FVec Ideal Cert.MlpUpRefIdeal.S8192x1024 .f32) (x1 : FVec Ideal Cert.MlpUpRefIdeal.S1024x4096 .f32)
    (h0 : x0 = m ((c : Thread nD τ).loc main_arg0)) (h1 : x1 = m ((c : Thread nD τ).loc main_arg1)) :
    Cert.MlpUpRefIdeal.Reading.out x0 x1 = (dats m 0 c).arrAt 2 cfg0.N := by
  rw [final]
  funext y
  obtain ⟨i, j, rfl⟩ : ∃ (i : Fin 8192) (j : Fin 4096), y = ix2 i j := ⟨y 0, y 1, ValueIdx.eq_ix2 y⟩
  refine (Cert.MlpUpRefIdeal.Reading.out_at _ _ i j).trans ?_
  show _ = prod m c (ix2 i j)
  unfold prod
  have e : (∑ r : Fin 1024, x0 (ix2 i r) * x1 (ix2 r j)) = ∑ r : Fin 1024, lhs m c i.val r.val * rhs m c r.val j.val := by
    refine Finset.sum_congr rfl fun r _ => ?_
    exact congrArg₂ (· * ·) ((congrFun h0 (ix2 i r)).trans (lhs_of m c (p := i) (q := r) rfl rfl).symm)
      ((congrFun h1 (ix2 r j)).trans (rhs_of m c (p := r) (q := j) rfl rfl).symm)
  exact congrArg (fun x : EReal => max x 0 * max x 0) e

end Cert.MlpUpIdeal.Product

end
-- ==== Proof.MlpDownValue.lean ====
/-
  The product `act @ w_down` in two halves of its contracted axis: what each grid point leaves, what the result array ends holding, and
  the reference's result. Each block is added to its block of `x1`.
-/
module

public import proofs.«01_k».proof.Proof.Blocks
public import proofs.«01_k».proof.Proof.Gen.MlpDownIdeal.Value
public import proofs.«01_k».proof.Proof.Gen.MlpDownRefIdeal.Run
public import Idealize.ShloMosaic.Lib.StableHlo.Run
public import Idealize.ShloMosaic.Lib.Pointwise

@[expose] public section

set_option synthInstance.maxSize 4096
set_option maxRecDepth 16384

noncomputable section

namespace Cert.MlpDownRefIdeal.Reading

open Idealize.ShloMosaic Idealize.ShloMosaic.TcCoe Cert.MlpDownRefIdeal Cert.MlpDownRefIdeal.Gen

/-- The reference's result, of the arguments' contents. -/
def out (x0 : FVec Ideal S8192x4096 .f32) (x1 : FVec Ideal S4096x1024 .f32) (x2 : FVec Ideal S8192x1024 .f32) : FVec Ideal S8192x1024 .f32 :=
  addf x2 (Host.dotGeneral dot_S8192x4096_S4096x1024_S8192x1024_1_0_0_1_n_n none x0 x1)

/-- The reference's result at an index. -/
theorem out_at (x0 : FVec Ideal S8192x4096 .f32) (x1 : FVec Ideal S4096x1024 .f32) (x2 : FVec Ideal S8192x1024 .f32) (i : Fin 8192) (j : Fin 1024) : out x0 x1 x2 (ix2 i j) = (x2 (ix2 i j) + ∑ r : Fin 4096, x0 (ix2 i r) * x1 (ix2 r j) : EReal) := by
  unfold out
  pointwise []

end Cert.MlpDownRefIdeal.Reading

namespace Cert.MlpDownIdeal.Product

open Idealize.ShloMosaic Idealize.ShloMosaic.TcCoe Idealize.SL.Sem Cert.MlpDownIdeal Cert.MlpDownIdeal.Gen Cert.Blocks
open Idealize.ShloMosaic.Pipeline (Dat)

section

variable (c : Dev nD) (i : grid0.Coords) (a3 : Memref sig .tc .vmem S1024x2048 .bf16) (h3 : a3.IsWhole) (a4 : Memref sig .tc .vmem S2048x1024 .bf16)
    (h4 : a4.IsWhole) (a5 : Memref sig .tc .vmem S1024x1024 .f32) (h5 : a5.IsWhole) (a6 : Memref sig .tc .vmem S1024x1024 .f32) (h6 : a6.IsWhole)
    (a7 : Memref sig .tc .vmem S1024x1024 .f32) (h7 : a7.IsWhole)

/-- A point of the first half leaves that half's product in the scratch. -/
theorem out_A (hc0 : cond0_0 i) (hc1 : ¬cond0_1 i) (hc2 : ¬cond0_2 i) (x0 : Vec Ideal S1024x2048 .bf16) (x1 : Vec Ideal S2048x1024 .bf16)
    (x2 : Vec Ideal S1024x1024 .f32) (p q : Fin 1024) :
    sout0_A_0 c i a3 h3 a4 h4 a5 h5 a6 h6 a7 h7 hc0 hc1 hc2 x0 x1 x2 (ix2 p q) = ∑ r : Fin 2048, x0 (ix2 p r) * x1 (ix2 r q) := by
  unfold sout0_A_0
  rw [View.read_writes_eq_canon _ _ _ (scover0_A_0 _ _ _ _ _ _ _ _ _ _ _ _ _ _ _ _ _ _)]
  unfold kernelRun0_A
  dsimp only
  rw [View.canon_unit_zero hz]
  simp only [View.readAt_eq_ld, h3.read_unread, h4.read_unread, h5.read_unread, View.ld_unit_zero (S := S1024x2048) hz, View.ld_unit_zero (S := S1024x1024) hz, View.ld_unit_zero (S := S2048x1024) hz]
  pointwise [k0_pay2, k0_pay1]

/-- A point of the second half stores the sum of the two halves on top of its block of the third argument. -/
theorem out_B (hc0 : ¬cond0_0 i) (hc1 : cond0_1 i) (hc2 : cond0_2 i) (x0 : Vec Ideal S1024x2048 .bf16) (x1 : Vec Ideal S2048x1024 .bf16)
    (x2 xs : Vec Ideal S1024x1024 .f32) (p q : Fin 1024) :
    out0_B_3 c i a3 h3 a4 h4 a5 h5 a6 h6 a7 h7 hc0 hc1 hc2 x0 x1 x2 xs (ix2 p q) = (x2 (ix2 p q) + (xs (ix2 p q) + ∑ r : Fin 2048, x0 (ix2 p r) * x1 (ix2 r q)) : EReal) := by
  unfold out0_B_3
  rw [View.read_writes_eq_canon _ _ _ (cover0_B_3 _ _ _ _ _ _ _ _ _ _ _ _ _ _ _ _ _ _ _)]
  unfold kernelRun0_B
  dsimp only
  rw [View.canon_unit_zero hz]
  unfold kernelRun0_B.sl.v14 kernelRun0_B.sl.HS0_1
  rw [View.readCov_unit_zero _ hz]
  simp only [View.readAt_eq_ld, h3.read_unread, h4.read_unread, h5.read_unread, h7.read_unread, View.ld_unit_zero (S := S1024x2048) hz, View.ld_unit_zero (S := S1024x1024) hz, View.ld_unit_zero (S := S2048x1024) hz]
  pointwise [k0_pay4, k0_pay3, k0_pay1]

end

variable (m : (ℓ : Loc nD τ sig) → Buf (Elt Ideal) ℓ) (c : Dev nD)

theorem hN : cfg0.N = 16 := N_0

theorem idx0 : ∀ t : Fin cfg0.N, win0_0.index t 0 = t.val / 2 ∧ win0_0.index t 1 = t.val % 2 := by
  show ∀ t : Fin grid0.N, _
  decide +kernel

theorem idx1 : ∀ t : Fin cfg0.N, win0_1.index t 0 = t.val % 2 ∧ win0_1.index t 1 = 0 := by
  show ∀ t : Fin grid0.N, _
  decide +kernel

theorem idx3 : ∀ t : Fin cfg0.N, win0_3.index t 0 = t.val / 2 ∧ win0_3.index t 1 = 0 := by
  show ∀ t : Fin grid0.N, _
  decide +kernel

theorem idx2 : ∀ t : Fin cfg0.N, win0_2.index t 0 = t.val / 2 ∧ win0_2.index t 1 = 0 := by
  show ∀ t : Fin grid0.N, _
  decide +kernel

/-- The arguments at natural-number indices. -/
def lhs : ℕ → ℕ → EReal := nat2 fun (i : Fin 8192) (j : Fin 4096) => m ((c : Thread nD τ).loc main_arg0) (ix2 i j)
def rhs : ℕ → ℕ → EReal := nat2 fun (i : Fin 4096) (j : Fin 1024) => m ((c : Thread nD τ).loc main_arg1) (ix2 i j)
theorem lhs_of {i j : ℕ} {p : Fin 8192} {q : Fin 4096} (hp : p.val = i) (hq : q.val = j) : lhs m c i j = m ((c : Thread nD τ).loc main_arg0) (ix2 p q) := nat2_of _ hp hq
theorem rhs_of {i j : ℕ} {p : Fin 4096} {q : Fin 1024} (hp : p.val = i) (hq : q.val = j) : rhs m c i j = m ((c : Thread nD τ).loc main_arg1) (ix2 p q) := nat2_of _ hp hq
def ext : ℕ → ℕ → EReal := nat2 fun (i : Fin 8192) (j : Fin 1024) => m ((c : Thread nD τ).loc main_arg2) (ix2 i j)
theorem ext_of {i j : ℕ} {p : Fin 8192} {q : Fin 1024} (hp : p.val = i) (hq : q.val = j) : ext m c i j = m ((c : Thread nD τ).loc main_arg2) (ix2 p q) := nat2_of _ hp hq

theorem V0 (i : Fin 8192) (j : Fin 4096) : (V m c main_v0 : FVec Ideal S8192x4096 .bf16) (ix2 i j) = m ((c : Thread nD τ).loc main_arg0) (ix2 i j) := by
  have e : V m c main_v0 = (truncf .bf16 (m ((c : Thread nD τ).loc main_arg0)) bitsLt_bf16_f32 : FVec Ideal S8192x4096 .bf16) := by
    unfold V
    after_results
  rw [e]
  pointwise []

theorem V1 (i : Fin 4096) (j : Fin 1024) : (V m c main_v1 : FVec Ideal S4096x1024 .bf16) (ix2 i j) = m ((c : Thread nD τ).loc main_arg1) (ix2 i j) := by
  have e : V m c main_v1 = (truncf .bf16 (m ((c : Thread nD τ).loc main_arg1)) bitsLt_bf16_f32 : FVec Ideal S4096x1024 .bf16) := by
    unfold V
    after_results
  rw [e]
  pointwise []

theorem iblk0_at (t : Fin cfg0.N) (p : Fin 1024) (r : Fin 2048) :
    (iblk m c 0 t : Vec Ideal S1024x2048 .bf16) (ix2 p r) = lhs m c (1024 * (t.val / 2) + p.val) (2048 * (t.val % 2) + r.val) := by
  have ht := t.isLt
  have := hN
  have e := V0 m c ⟨1024 * (t.val / 2) + p.val, by omega⟩ ⟨2048 * (t.val % 2) + r.val, by omega⟩
  refine Eq.trans ?_ (e.trans (lhs_of m c rfl rfl).symm)
  rw [iblk, View.read_apply]
  show V m c main_v0 _ = V m c main_v0 _
  exact congrArg _ (ix2_of (by show win0_0.index t 0 * 1024 + 1 * p.val = 1024 * (t.val / 2) + p.val; rw [(idx0 t).1]; omega) (by show win0_0.index t 1 * 2048 + 1 * r.val = 2048 * (t.val % 2) + r.val; rw [(idx0 t).2]; omega))

theorem iblk1_at (t : Fin cfg0.N) (r : Fin 2048) (j : Fin 1024) :
    (iblk m c 1 t : Vec Ideal S2048x1024 .bf16) (ix2 r j) = rhs m c (2048 * (t.val % 2) + r.val) j.val := by
  have ht := t.isLt
  have := hN
  have e := V1 m c ⟨2048 * (t.val % 2) + r.val, by omega⟩ j
  refine Eq.trans ?_ (e.trans (rhs_of m c rfl rfl).symm)
  rw [iblk, View.read_apply]
  show V m c main_v1 _ = V m c main_v1 _
  exact congrArg _ (ix2_of (by show win0_1.index t 0 * 2048 + 1 * r.val = (2048 * (t.val % 2) + r.val); rw [(idx1 t).1]; omega) (by show win0_1.index t 1 * 1024 + 1 * j.val = j.val; rw [(idx1 t).2]; omega))

theorem iblk2_at (t : Fin cfg0.N) (p q : Fin 1024) :
    (iblk m c 2 t : Vec Ideal S1024x1024 .f32) (ix2 p q) = ext m c (1024 * (t.val / 2) + p.val) q.val := by
  have ht := t.isLt
  have := hN
  have e := congrFun (V_main_arg2 m c) (ix2 (⟨1024 * (t.val / 2) + p.val, by omega⟩ : Fin 8192) q)
  refine Eq.trans ?_ (e.trans (ext_of m c rfl rfl).symm)
  rw [iblk, View.read_apply]
  show V m c main_arg2 _ = V m c main_arg2 _
  exact congrArg _ (ix2_of (by show win0_2.index t 0 * 1024 + 1 * p.val = 1024 * (t.val / 2) + p.val; rw [(idx2 t).1]; omega) (by show win0_2.index t 1 * 1024 + 1 * q.val = q.val; rw [(idx2 t).2]; omega))

/-- What a point of the second half stores, of the arguments. -/
theorem stored (n : ℕ) (h : n < cfg0.N) (h1 : n % 2 = 1) (p q : Fin 1024) :
    (outsAt0 m c n h).1 (ix2 p q) = (ext m c (1024 * (n / 2) + p.val) q.val + ∑ s ∈ Finset.range 4096, lhs m c (1024 * (n / 2) + p.val) s * rhs m c s q.val : EReal) := by
  refine (congrFun (congrArg Prod.fst (outsAt0_B m c ⟨n, h⟩ (by dsimp only; omega) h1 h1)) (ix2 p q)).trans ?_
  dsimp only
  rw [out_B, iblk2_at]
  refine congrArg (ext m c (1024 * (n / 2) + p.val) q.val + ·) ?_
  refine sum_next 1 (fun s => lhs m c (1024 * (n / 2) + p.val) s * rhs m c s q.val) _ _ ?_ fun r => by rw [iblk0_at, iblk1_at]; dsimp only; rw [h1]
  have hn : n - 1 < cfg0.N := by omega
  refine (congrFun (congrArg Prod.snd (outsAt0_A m c ⟨n - 1, hn⟩ (by dsimp only; omega) (by dsimp only; omega) (by dsimp only; omega))) (ix2 p q)).trans ?_
  dsimp only
  rw [out_A]
  refine sum_first 0 rfl (fun s => lhs m c (1024 * (n / 2) + p.val) s * rhs m c s q.val) _ fun r => ?_
  rw [iblk0_at, iblk1_at]
  dsimp only
  rw [show (n - 1) / 2 = n / 2 by omega, show (n - 1) % 2 = 0 by omega]

/-- The result, as contents of the result array. -/
def prod : Buf (Elt Ideal) ((c : Thread nD τ).loc main_v2) := fun y : S8192x1024.Idx =>
  (ext m c (y 0).val (y 1).val + ∑ s ∈ Finset.range 4096, lhs m c (y 0).val s * rhs m c s (y 1).val : EReal)

/-- The result array ends holding it. -/
theorem final : (dats m 0 c).arrAt 3 cfg0.N = prod m c :=
  (dats m 0 c).arrAt_eq_of_cover 3 (prod m c)
    (fun t hf => by
      have h1 := (flush0_3 t).mp hf
      rw [Value.flushed3]
      funext y
      rw [View.read_apply]
      refine Eq.trans (b := (outsAt0 m c t.val t.isLt).1 y) rfl ?_
      obtain ⟨p, q, rfl⟩ : ∃ p q : Fin 1024, y = ix2 p q := ⟨y 0, y 1, ValueIdx.eq_ix2 y⟩
      rw [stored m c t.val t.isLt h1]
      have e0 : (((cfg0.win 3).blk t).view.emb (ix2 p q) 0).val = 1024 * (t.val / 2) + p.val := by
        show win0_3.index t 0 * 1024 + 1 * p.val = _
        rw [(idx3 t).1]; omega
      have e1 : (((cfg0.win 3).blk t).view.emb (ix2 p q) 1).val = q.val := by
        show win0_3.index t 1 * 1024 + 1 * q.val = _
        rw [(idx3 t).2]; omega
      show _ = prod m c (((cfg0.win 3).blk t).view.emb (ix2 p q))
      unfold prod
      rw [e0, e1])
    fun y => by
      have hy0 : (y 0).val < 8192 := (y 0).isLt
      have hy1 : (y 1).val < 1024 := (y 1).isLt
      have hn := hN
      let t : Fin cfg0.N := ⟨2 * ((y 0).val / 1024) + 1, by omega⟩
      have ht : t.val / 2 = (y 0).val / 1024 := by show (2 * ((y 0).val / 1024) + 1) / 2 = _; omega
      refine ⟨t, (flush0_3 t).mpr (by show (2 * ((y 0).val / 1024) + 1) % 2 = 1; omega), ?_⟩
      show y ∈ ((View.whole main_v2).slice (win0_3.rect t)).set
      rw [View.set_slice_whole, Rect.mem_set_unit]
      intro a
      match a with
      | ⟨0, _⟩ =>
        show win0_3.index t 0 * 1024 ≤ (y 0 : Nat) ∧ (y 0 : Nat) < win0_3.index t 0 * 1024 + 1024
        rw [(idx3 t).1, ht]; omega
      | ⟨1, _⟩ =>
        show win0_3.index t 1 * 1024 ≤ (y 1 : Nat) ∧ (y 1 : Nat) < win0_3.index t 1 * 1024 + 1024
        rw [(idx3 t).2]; omega

/-- The reference's result is what the kernel's result array ends holding. -/
theorem equal (x0 : FVec Ideal Cert.MlpDownRefIdeal.S8192x4096 .f32) (x1 : FVec Ideal Cert.MlpDownRefIdeal.S4096x1024 .f32) (x2 : FVec Ideal Cert.MlpDownRefIdeal.S8192x1024 .f32)
    (h0 : x0 = m ((c : Thread nD τ).loc main_arg0)) (h1 : x1 = m ((c : Thread nD τ).loc main_arg1)) (h2 : x2 = m ((c : Thread nD τ).loc main_arg2)) :
    Cert.MlpDownRefIdeal.Reading.out x0 x1 x2 = (dats m 0 c).arrAt 3 cfg0.N := by
  rw [final]
  funext y
  obtain ⟨i, j, rfl⟩ : ∃ (i : Fin 8192) (j : Fin 1024), y = ix2 i j := ⟨y 0, y 1, ValueIdx.eq_ix2 y⟩
  refine (Cert.MlpDownRefIdeal.Reading.out_at _ _ _ i j).trans ?_
  show _ = (ext m c i.val j.val + ∑ s ∈ Finset.range 4096, lhs m c i.val s * rhs m c s j.val : EReal)
  rw [← Fin.sum_univ_eq_sum_range (fun s => lhs m c i.val s * rhs m c s j.val)]
  refine congrArg₂ (· + ·) ((congrFun h2 (ix2 i j)).trans (ext_of m c (p := i) (q := j) rfl rfl).symm) ?_
  refine Finset.sum_congr rfl fun r _ => ?_
  exact congrArg₂ (· * ·) ((congrFun h0 (ix2 i r)).trans (lhs_of m c (p := i) (q := r) rfl rfl).symm)
    ((congrFun h1 (ix2 r j)).trans (rhs_of m c (p := r) (q := j) rfl rfl).symm)

end Cert.MlpDownIdeal.Product

end
-- ==== Proof.DupValue.lean ====
/-
  The derivative through the squared rectifier: the product `dx2 @ w_down^T` tile by tile, times twice the root of the
  stored activation; what the result array ends holding, and the reference's result.
-/
module

public import proofs.«01_k».proof.Proof.Blocks
public import proofs.«01_k».proof.Proof.Gen.DupIdeal.Value
public import proofs.«01_k».proof.Proof.Gen.DupRefIdeal.Run
public import Idealize.ShloMosaic.Lib.StableHlo.Run
public import Idealize.ShloMosaic.Lib.Pointwise

@[expose] public section

set_option synthInstance.maxSize 4096
set_option maxRecDepth 16384

noncomputable section

namespace Cert.DupRefIdeal.Reading

open Idealize.ShloMosaic Idealize.ShloMosaic.TcCoe Cert.DupRefIdeal Cert.DupRefIdeal.Gen

/-- The reference's result, of the arguments' contents. -/
def out (x0 : FVec Ideal S8192x4096 .f32) (x1 : FVec Ideal S4096x1024 .f32) (x2 : FVec Ideal S8192x1024 .f32) : FVec Ideal S8192x4096 .bf16 :=
  truncf .bf16 (select (cmpf .ogt x0 (broadcastInDim S8192x4096 ![] bcast_S_S8192x4096 (constant S_ .f32 0x00000000#32))) (mulf (Host.dotGeneral dot_S8192x1024_S4096x1024_S8192x4096_1_1_0_0_n_n none x2 x1) (mulf (broadcastInDim S8192x4096 ![] bcast_S_S8192x4096 (constant S_ .f32 0x40000000#32)) (maximumf x0 (broadcastInDim S8192x4096 ![] bcast_S_S8192x4096 (constant S_ .f32 0x00000000#32))))) (broadcastInDim S8192x4096 ![] bcast_S_S8192x4096 (constant S_ .f32 0x00000000#32))) bitsLt_bf16_f32

/-- The reference's result at an index. -/
theorem out_at (x0 : FVec Ideal S8192x4096 .f32) (x1 : FVec Ideal S4096x1024 .f32) (x2 : FVec Ideal S8192x1024 .f32) (i : Fin 8192) (j : Fin 4096) : out x0 x1 x2 (ix2 i j) = (if 0 < x0 (ix2 i j) then (∑ r : Fin 1024, x2 (ix2 i r) * x1 (ix2 j r)) * (Ideal.ofBits .f32 0x40000000#32 * max (x0 (ix2 i j)) 0) else 0 : EReal) := by
  unfold out
  pointwise []

end Cert.DupRefIdeal.Reading

namespace Cert.DupIdeal.Product

open Idealize.ShloMosaic Idealize.ShloMosaic.TcCoe Idealize.SL.Sem Cert.DupIdeal Cert.DupIdeal.Gen Cert.Blocks
open Idealize.ShloMosaic.Pipeline (Dat)

/-- What one grid point stores, from its blocks. -/
theorem out_at (x0 : Vec Ideal S1024x1024 .bf16) (x1 : Vec Ideal S2048x1024 .bf16) (x2 : Vec Ideal S1024x2048 .bf16) (p : Fin 1024) (q : Fin 2048) :
    out0_3 x0 x1 x2 (ix2 p q) = ((∑ r : Fin 1024, x0 (ix2 p r) * x1 (ix2 q r)) * (Ideal.ofBits .f32 0x40000000#32 * Ideal.sqrt (x2 (ix2 p q))) : EReal) := by
  unfold out0_3
  rw [View.canon_unit_zero hz]
  simp only [View.ld_unit_zero (S := S1024x1024) hz, View.ld_unit_zero (S := S2048x1024) hz, View.ld_unit_zero (S := S1024x2048) hz]
  pointwise [k0_pay1]

/-- The stored activation: the square of the rectified product. -/
def act (x : EReal) : EReal := max x 0 * max x 0

/-- The square root of a stored activation is the rectified product. -/
theorem sqrt_act (x : EReal) : Ideal.sqrt (act x) = max x 0 := by
  unfold act
  have h : 0 ≤ max x 0 := le_max_right x 0
  generalize max x 0 = z at h ⊢
  induction z with
  | bot => exact absurd h (by simp)
  | top => rw [EReal.top_mul_top]; rfl
  | coe r =>
    have hr : 0 ≤ r := EReal.coe_nonneg.mp h
    rw [← EReal.coe_mul]
    show (if r * r < 0 then ⊥ else ((Real.sqrt (r * r) : ℝ) : EReal)) = (r : EReal)
    rw [if_neg (not_lt.mpr (mul_nonneg hr hr)), Real.sqrt_mul_self hr]

variable (m : (ℓ : Loc nD τ sig) → Buf (Elt Ideal) ℓ) (c : Dev nD)

theorem hN : cfg0.N = 16 := N_0

theorem idx0 : ∀ t : Fin cfg0.N, win0_0.index t 0 = t.val / 2 ∧ win0_0.index t 1 = 0 := by
  show ∀ t : Fin grid0.N, _
  decide +kernel

theorem idx1 : ∀ t : Fin cfg0.N, win0_1.index t 0 = t.val % 2 ∧ win0_1.index t 1 = 0 := by
  show ∀ t : Fin grid0.N, _
  decide +kernel

theorem idx2 : ∀ t : Fin cfg0.N, win0_2.index t 0 = t.val / 2 ∧ win0_2.index t 1 = t.val % 2 := by
  show ∀ t : Fin grid0.N, _
  decide +kernel

theorem idx3 : ∀ t : Fin cfg0.N, win0_3.index t 0 = t.val / 2 ∧ win0_3.index t 1 = t.val % 2 := by
  show ∀ t : Fin grid0.N, _
  decide +kernel

/-- The arguments at natural-number indices. -/
def lhs : ℕ → ℕ → EReal := nat2 fun (i : Fin 8192) (j : Fin 1024) => m ((c : Thread nD τ).loc main_arg2) (ix2 i j)
def rhs : ℕ → ℕ → EReal := nat2 fun (i : Fin 4096) (j : Fin 1024) => m ((c : Thread nD τ).loc main_arg1) (ix2 i j)
theorem lhs_of {i j : ℕ} {p : Fin 8192} {q : Fin 1024} (hp : p.val = i) (hq : q.val = j) : lhs m c i j = m ((c : Thread nD τ).loc main_arg2) (ix2 p q) := nat2_of _ hp hq
theorem rhs_of {i j : ℕ} {p : Fin 4096} {q : Fin 1024} (hp : p.val = i) (hq : q.val = j) : rhs m c i j = m ((c : Thread nD τ).loc main_arg1) (ix2 p q) := nat2_of _ hp hq
def ext : ℕ → ℕ → EReal := nat2 fun (i : Fin 8192) (j : Fin 4096) => act (m ((c : Thread nD τ).loc main_arg0) (ix2 i j))
theorem ext_of {i j : ℕ} {p : Fin 8192} {q : Fin 4096} (hp : p.val = i) (hq : q.val = j) : ext m c i j = act (m ((c : Thread nD τ).loc main_arg0) (ix2 p q)) := nat2_of _ hp hq
theorem V0 (i : Fin 8192) (j : Fin 1024) : (V m c main_v4 : FVec Ideal S8192x1024 .bf16) (ix2 i j) = m ((c : Thread nD τ).loc main_arg2) (ix2 i j) := by
  have e : V m c main_v4 = (truncf .bf16 (m ((c : Thread nD τ).loc main_arg2)) bitsLt_bf16_f32 : FVec Ideal S8192x1024 .bf16) := by
    unfold V
    after_results
  rw [e]
  pointwise []

theorem V1 (i : Fin 4096) (j : Fin 1024) : (V m c main_v5 : FVec Ideal S4096x1024 .bf16) (ix2 i j) = m ((c : Thread nD τ).loc main_arg1) (ix2 i j) := by
  have e : V m c main_v5 = (truncf .bf16 (m ((c : Thread nD τ).loc main_arg1)) bitsLt_bf16_f32 : FVec Ideal S4096x1024 .bf16) := by
    unfold V
    after_results
  rw [e]
  pointwise []

theorem V2 (i : Fin 8192) (j : Fin 4096) : (V m c main_v3 : FVec Ideal S8192x4096 .bf16) (ix2 i j) = act (m ((c : Thread nD τ).loc main_arg0) (ix2 i j)) := by
  unfold V
  after_results
  pointwise [act]

theorem iblk0_at (t : Fin cfg0.N) (r : Fin 1024) (j : Fin 1024) :
    (iblk m c 0 t : Vec Ideal S1024x1024 .bf16) (ix2 r j) = lhs m c ((t.val / 2) * 1024 + r.val) (0 * 1024 + j.val) := by
  have ht := t.isLt
  have := hN
  have e := V0 m c ⟨((t.val / 2)) * 1024 + r.val, by omega⟩ ⟨(0) * 1024 + j.val, by omega⟩
  refine Eq.trans ?_ (e.trans (lhs_of m c rfl rfl).symm)
  rw [iblk, View.read_apply]
  show V m c main_v4 _ = V m c main_v4 _
  exact congrArg _ (ix2_of (by show win0_0.index t 0 * 1024 + 1 * r.val = ((t.val / 2)) * 1024 + r.val; rw [(idx0 t).1]; omega) (by show win0_0.index t 1 * 1024 + 1 * j.val = (0) * 1024 + j.val; rw [(idx0 t).2]; omega))

theorem iblk1_at (t : Fin cfg0.N) (r : Fin 2048) (j : Fin 1024) :
    (iblk m c 1 t : Vec Ideal S2048x1024 .bf16) (ix2 r j) = rhs m c ((t.val % 2) * 2048 + r.val) (0 * 1024 + j.val) := by
  have ht := t.isLt
  have := hN
  have e := V1 m c ⟨((t.val % 2)) * 2048 + r.val, by omega⟩ ⟨(0) * 1024 + j.val, by omega⟩
  refine Eq.trans ?_ (e.trans (rhs_of m c rfl rfl).symm)
  rw [iblk, View.read_apply]
  show V m c main_v5 _ = V m c main_v5 _
  exact congrArg _ (ix2_of (by show win0_1.index t 0 * 2048 + 1 * r.val = ((t.val % 2)) * 2048 + r.val; rw [(idx1 t).1]; omega) (by show win0_1.index t 1 * 1024 + 1 * j.val = (0) * 1024 + j.val; rw [(idx1 t).2]; omega))

theorem iblk2_at (t : Fin cfg0.N) (r : Fin 1024) (j : Fin 2048) :
    (iblk m c 2 t : Vec Ideal S1024x2048 .bf16) (ix2 r j) = ext m c ((t.val / 2) * 1024 + r.val) ((t.val % 2) * 2048 + j.val) := by
  have ht := t.isLt
  have := hN
  have e := V2 m c ⟨((t.val / 2)) * 1024 + r.val, by omega⟩ ⟨((t.val % 2)) * 2048 + j.val, by omega⟩
  refine Eq.trans ?_ (e.trans (ext_of m c rfl rfl).symm)
  rw [iblk, View.read_apply]
  show V m c main_v3 _ = V m c main_v3 _
  exact congrArg _ (ix2_of (by show win0_2.index t 0 * 1024 + 1 * r.val = ((t.val / 2)) * 1024 + r.val; rw [(idx2 t).1]; omega) (by show win0_2.index t 1 * 2048 + 1 * j.val = ((t.val % 2)) * 2048 + j.val; rw [(idx2 t).2]; omega))

/-- The result, as contents of the result array. -/
def prod : Buf (Elt Ideal) ((c : Thread nD τ).loc main_v6) := fun y : S8192x4096.Idx =>
  ((∑ r : Fin 1024, lhs m c (y 0).val r.val * rhs m c (y 1).val r.val) * (Ideal.ofBits .f32 0x40000000#32 * Ideal.sqrt (ext m c (y 0).val (y 1).val)) : EReal)

/-- The result array ends holding it. -/
theorem final : (dats m 0 c).arrAt 3 cfg0.N = prod m c :=
  (dats m 0 c).arrAt_eq_of_cover 3 (prod m c)
    (fun t hf => by
      rw [Value.flushed3]
      funext y
      rw [View.read_apply]
      refine Eq.trans (b := out0_3 (iblk m c 0 t) (iblk m c 1 t) (iblk m c 2 t) y) rfl ?_
      obtain ⟨p, q, rfl⟩ : ∃ (p : Fin 1024) (q : Fin 2048), y = ix2 p q := ⟨y 0, y 1, ValueIdx.eq_ix2 y⟩
      rw [out_at]
      have e0 : (((cfg0.win 3).blk t).view.emb (ix2 p q) 0).val = (t.val / 2) * 1024 + p.val := by
        show win0_3.index t 0 * 1024 + 1 * p.val = _
        rw [(idx3 t).1]; omega
      have e1 : (((cfg0.win 3).blk t).view.emb (ix2 p q) 1).val = (t.val % 2) * 2048 + q.val := by
        show win0_3.index t 1 * 2048 + 1 * q.val = _
        rw [(idx3 t).2]; omega
      show _ = prod m c (((cfg0.win 3).blk t).view.emb (ix2 p q))
      unfold prod
      rw [e0, e1]
      simp only [iblk0_at, iblk1_at, iblk2_at, Nat.zero_mul, Nat.zero_add])
    fun y => by
      have hy0 : (y 0).val < 8192 := (y 0).isLt
      have hy1 : (y 1).val < 4096 := (y 1).isLt
      have hn := hN
      let t : Fin cfg0.N := ⟨2 * ((y 0).val / 1024) + (y 1).val / 2048, by omega⟩
      have ht : t.val = 2 * ((y 0).val / 1024) + (y 1).val / 2048 := rfl
      refine ⟨t, flush0_3 t, ?_⟩
      show y ∈ ((View.whole main_v6).slice (win0_3.rect t)).set
      rw [View.set_slice_whole, Rect.mem_set_unit]
      intro a
      match a with
      | ⟨0, _⟩ =>
        show win0_3.index t 0 * 1024 ≤ (y 0 : Nat) ∧ (y 0 : Nat) < win0_3.index t 0 * 1024 + 1024
        rw [(idx3 t).1]; omega
      | ⟨1, _⟩ =>
        show win0_3.index t 1 * 2048 ≤ (y 1 : Nat) ∧ (y 1 : Nat) < win0_3.index t 1 * 2048 + 2048
        rw [(idx3 t).2]; omega

/-- The reference's result is what the kernel's result array ends holding. -/
theorem equal (x0 : FVec Ideal Cert.DupRefIdeal.S8192x4096 .f32) (x1 : FVec Ideal Cert.DupRefIdeal.S4096x1024 .f32) (x2 : FVec Ideal Cert.DupRefIdeal.S8192x1024 .f32)
    (h0 : x0 = m ((c : Thread nD τ).loc main_arg0)) (h1 : x1 = m ((c : Thread nD τ).loc main_arg1)) (h2 : x2 = m ((c : Thread nD τ).loc main_arg2)) :
    Cert.DupRefIdeal.Reading.out x0 x1 x2 = (dats m 0 c).arrAt 3 cfg0.N := by
  rw [final]
  funext y
  obtain ⟨i, j, rfl⟩ : ∃ (i : Fin 8192) (j : Fin 4096), y = ix2 i j := ⟨y 0, y 1, ValueIdx.eq_ix2 y⟩
  refine (Cert.DupRefIdeal.Reading.out_at _ _ _ i j).trans ?_
  show _ = prod m c (ix2 i j)
  unfold prod
  have e : (∑ r : Fin 1024, x2 (ix2 i r) * x1 (ix2 j r)) = ∑ r : Fin 1024, lhs m c i.val r.val * rhs m c j.val r.val := by
    refine Finset.sum_congr rfl fun r _ => ?_
    exact congrArg₂ (· * ·) ((congrFun h2 (ix2 i r)).trans (lhs_of m c (p := i) (q := r) rfl rfl).symm)
      ((congrFun h1 (ix2 j r)).trans (rhs_of m c (p := j) (q := r) rfl rfl).symm)
  have e2 : Ideal.sqrt (ext m c i.val j.val) = max (x0 (ix2 i j)) 0 :=
    ((congrArg Ideal.sqrt (ext_of m c (p := i) (q := j) rfl rfl)).trans (sqrt_act _)).trans (congrArg (fun z : EReal => max z 0) (congrFun h0 (ix2 i j)).symm)
  show _ = (∑ r : Fin 1024, lhs m c i.val r.val * rhs m c j.val r.val) * (Ideal.ofBits .f32 0x40000000#32 * Ideal.sqrt (ext m c i.val j.val))
  rw [e2, ← e]
  split_ifs with hx
  · rfl
  · rw [max_eq_right (not_lt.mp hx), mul_zero, mul_zero]

end Cert.DupIdeal.Product

end
-- ==== Proof.Dh2Value.lean ====
/-
  The product `dup @ w_up^T` in two halves of its contracted axis: what each grid point leaves, what the result array ends holding, and
  the reference's result.
-/
module

public import proofs.«01_k».proof.Proof.Blocks
public import proofs.«01_k».proof.Proof.Gen.Dh2Ideal.Value
public import proofs.«01_k».proof.Proof.Gen.Dh2RefIdeal.Run
public import Idealize.ShloMosaic.Lib.StableHlo.Run
public import Idealize.ShloMosaic.Lib.Pointwise

@[expose] public section

set_option synthInstance.maxSize 4096
set_option maxRecDepth 16384

noncomputable section

namespace Cert.Dh2RefIdeal.Reading

open Idealize.ShloMosaic Idealize.ShloMosaic.TcCoe Cert.Dh2RefIdeal Cert.Dh2RefIdeal.Gen

/-- The reference's result, of the arguments' contents. -/
def out (x0 : FVec Ideal S1024x4096 .f32) (x1 : FVec Ideal S8192x4096 .f32) : FVec Ideal S8192x1024 .f32 :=
  Host.dotGeneral dot_S8192x4096_S1024x4096_S8192x1024_1_1_0_0_n_n none x1 x0

/-- The reference's result at an index. -/
theorem out_at (x0 : FVec Ideal S1024x4096 .f32) (x1 : FVec Ideal S8192x4096 .f32) (i : Fin 8192) (j : Fin 1024) : out x0 x1 (ix2 i j) = (∑ r : Fin 4096, x1 (ix2 i r) * x0 (ix2 j r) : EReal) := by
  unfold out
  pointwise []

end Cert.Dh2RefIdeal.Reading

namespace Cert.Dh2Ideal.Product

open Idealize.ShloMosaic Idealize.ShloMosaic.TcCoe Idealize.SL.Sem Cert.Dh2Ideal Cert.Dh2Ideal.Gen Cert.Blocks
open Idealize.ShloMosaic.Pipeline (Dat)

section

variable (c : Dev nD) (i : grid0.Coords) (a3 : Memref sig .tc .vmem S1024x2048 .bf16) (h3 : a3.IsWhole) (a4 : Memref sig .tc .vmem S1024x2048 .bf16)
    (h4 : a4.IsWhole) (a5 : Memref sig .tc .vmem S1024x1024 .f32) (h5 : a5.IsWhole) (a6 : Memref sig .tc .vmem S1024x1024 .f32) (h6 : a6.IsWhole)

/-- A point of the first half leaves that half's product in the scratch. -/
theorem out_A (hc0 : cond0_0 i) (hc1 : ¬cond0_1 i) (hc2 : ¬cond0_2 i) (x0 x1 : Vec Ideal S1024x2048 .bf16)
    (p q : Fin 1024) :
    sout0_A_0 c i a3 h3 a4 h4 a5 h5 a6 h6 hc0 hc1 hc2 x0 x1 (ix2 p q) = ∑ r : Fin 2048, x0 (ix2 p r) * x1 (ix2 q r) := by
  unfold sout0_A_0
  rw [View.read_writes_eq_canon _ _ _ (scover0_A_0 _ _ _ _ _ _ _ _ _ _ _ _ _ _ _)]
  unfold kernelRun0_A
  dsimp only
  rw [View.canon_unit_zero hz]
  simp only [View.readAt_eq_ld, h3.read_unread, h4.read_unread, View.ld_unit_zero (S := S1024x2048) hz, View.ld_unit_zero (S := S1024x1024) hz]
  pointwise [k0_pay2, k0_pay1]

/-- A point of the second half stores the sum of the two halves. -/
theorem out_B (hc0 : ¬cond0_0 i) (hc1 : cond0_1 i) (hc2 : cond0_2 i) (x0 x1 : Vec Ideal S1024x2048 .bf16)
    (xs : Vec Ideal S1024x1024 .f32) (p q : Fin 1024) :
    out0_B_2 c i a3 h3 a4 h4 a5 h5 a6 h6 hc0 hc1 hc2 x0 x1 xs (ix2 p q) = ((xs (ix2 p q) + ∑ r : Fin 2048, x0 (ix2 p r) * x1 (ix2 q r)) : EReal) := by
  unfold out0_B_2
  rw [View.read_writes_eq_canon _ _ _ (cover0_B_2 _ _ _ _ _ _ _ _ _ _ _ _ _ _ _ _)]
  unfold kernelRun0_B
  dsimp only
  rw [View.canon_unit_zero hz]
  unfold kernelRun0_B.sl.v14 kernelRun0_B.sl.HS0_1
  rw [View.readCov_unit_zero _ hz]
  simp only [View.readAt_eq_ld, h3.read_unread, h4.read_unread, h6.read_unread, View.ld_unit_zero (S := S1024x2048) hz, View.ld_unit_zero (S := S1024x1024) hz]
  pointwise [k0_pay3, k0_pay1]

end

variable (m : (ℓ : Loc nD τ sig) → Buf (Elt Ideal) ℓ) (c : Dev nD)

theorem hN : cfg0.N = 16 := N_0

theorem idx0 : ∀ t : Fin cfg0.N, win0_0.index t 0 = t.val / 2 ∧ win0_0.index t 1 = t.val % 2 := by
  show ∀ t : Fin grid0.N, _
  decide +kernel

theorem idx1 : ∀ t : Fin cfg0.N, win0_1.index t 0 = 0 ∧ win0_1.index t 1 = t.val % 2 := by
  show ∀ t : Fin grid0.N, _
  decide +kernel

theorem idx2 : ∀ t : Fin cfg0.N, win0_2.index t 0 = t.val / 2 ∧ win0_2.index t 1 = 0 := by
  show ∀ t : Fin grid0.N, _
  decide +kernel

/-- The arguments at natural-number indices. -/
def lhs : ℕ → ℕ → EReal := nat2 fun (i : Fin 8192) (j : Fin 4096) => m ((c : Thread nD τ).loc main_arg1) (ix2 i j)
def rhs : ℕ → ℕ → EReal := nat2 fun (i : Fin 1024) (j : Fin 4096) => m ((c : Thread nD τ).loc main_arg0) (ix2 i j)
theorem lhs_of {i j : ℕ} {p : Fin 8192} {q : Fin 4096} (hp : p.val = i) (hq : q.val = j) : lhs m c i j = m ((c : Thread nD τ).loc main_arg1) (ix2 p q) := nat2_of _ hp hq
theorem rhs_of {i j : ℕ} {p : Fin 1024} {q : Fin 4096} (hp : p.val = i) (hq : q.val = j) : rhs m c i j = m ((c : Thread nD τ).loc main_arg0) (ix2 p q) := nat2_of _ hp hq

theorem V0 (i : Fin 8192) (j : Fin 4096) : (V m c main_v0 : FVec Ideal S8192x4096 .bf16) (ix2 i j) = m ((c : Thread nD τ).loc main_arg1) (ix2 i j) := by
  have e : V m c main_v0 = (truncf .bf16 (m ((c : Thread nD τ).loc main_arg1)) bitsLt_bf16_f32 : FVec Ideal S8192x4096 .bf16) := by
    unfold V
    after_results
  rw [e]
  pointwise []

theorem V1 (i : Fin 1024) (j : Fin 4096) : (V m c main_v1 : FVec Ideal S1024x4096 .bf16) (ix2 i j) = m ((c : Thread nD τ).loc main_arg0) (ix2 i j) := by
  have e : V m c main_v1 = (truncf .bf16 (m ((c : Thread nD τ).loc main_arg0)) bitsLt_bf16_f32 : FVec Ideal S1024x4096 .bf16) := by
    unfold V
    after_results
  rw [e]
  pointwise []

theorem iblk0_at (t : Fin cfg0.N) (p : Fin 1024) (r : Fin 2048) :
    (iblk m c 0 t : Vec Ideal S1024x2048 .bf16) (ix2 p r) = lhs m c (1024 * (t.val / 2) + p.val) (2048 * (t.val % 2) + r.val) := by
  have ht := t.isLt
  have := hN
  have e := V0 m c ⟨1024 * (t.val / 2) + p.val, by omega⟩ ⟨2048 * (t.val % 2) + r.val, by omega⟩
  refine Eq.trans ?_ (e.trans (lhs_of m c rfl rfl).symm)
  rw [iblk, View.read_apply]
  show V m c main_v0 _ = V m c main_v0 _
  exact congrArg _ (ix2_of (by show win0_0.index t 0 * 1024 + 1 * p.val = 1024 * (t.val / 2) + p.val; rw [(idx0 t).1]; omega) (by show win0_0.index t 1 * 2048 + 1 * r.val = 2048 * (t.val % 2) + r.val; rw [(idx0 t).2]; omega))

theorem iblk1_at (t : Fin cfg0.N) (j : Fin 1024) (r : Fin 2048) :
    (iblk m c 1 t : Vec Ideal S1024x2048 .bf16) (ix2 j r) = rhs m c j.val (2048 * (t.val % 2) + r.val) := by
  have ht := t.isLt
  have := hN
  have e := V1 m c j ⟨2048 * (t.val % 2) + r.val, by omega⟩
  refine Eq.trans ?_ (e.trans (rhs_of m c rfl rfl).symm)
  rw [iblk, View.read_apply]
  show V m c main_v1 _ = V m c main_v1 _
  exact congrArg _ (ix2_of (by show win0_1.index t 0 * 1024 + 1 * j.val = j.val; rw [(idx1 t).1]; omega) (by show win0_1.index t 1 * 2048 + 1 * r.val = (2048 * (t.val % 2) + r.val); rw [(idx1 t).2]; omega))

/-- What a point of the second half stores, of the arguments. -/
theorem stored (n : ℕ) (h : n < cfg0.N) (h1 : n % 2 = 1) (p q : Fin 1024) :
    (outsAt0 m c n h).1 (ix2 p q) = (∑ s ∈ Finset.range 4096, lhs m c (1024 * (n / 2) + p.val) s * rhs m c q.val s : EReal) := by
  refine (congrFun (congrArg Prod.fst (outsAt0_B m c ⟨n, h⟩ (by dsimp only; omega) h1 h1)) (ix2 p q)).trans ?_
  dsimp only
  rw [out_B]
  refine sum_next 1 (fun s => lhs m c (1024 * (n / 2) + p.val) s * rhs m c q.val s) _ _ ?_ fun r => by rw [iblk0_at, iblk1_at]; dsimp only; rw [h1]
  have hn : n - 1 < cfg0.N := by omega
  refine (congrFun (congrArg Prod.snd (outsAt0_A m c ⟨n - 1, hn⟩ (by dsimp only; omega) (by dsimp only; omega) (by dsimp only; omega))) (ix2 p q)).trans ?_
  dsimp only
  rw [out_A]
  refine sum_first 0 rfl (fun s => lhs m c (1024 * (n / 2) + p.val) s * rhs m c q.val s) _ fun r => ?_
  rw [iblk0_at, iblk1_at]
  dsimp only
  rw [show (n - 1) / 2 = n / 2 by omega, show (n - 1) % 2 = 0 by omega]

/-- The result, as contents of the result array. -/
def prod : Buf (Elt Ideal) ((c : Thread nD τ).loc main_v2) := fun y : S8192x1024.Idx =>
  (∑ s ∈ Finset.range 4096, lhs m c (y 0).val s * rhs m c (y 1).val s : EReal)

/-- The result array ends holding it. -/
theorem final : (dats m 0 c).arrAt 2 cfg0.N = prod m c :=
  (dats m 0 c).arrAt_eq_of_cover 2 (prod m c)
    (fun t hf => by
      have h1 := (flush0_2 t).mp hf
      rw [Value.flushed2]
      funext y
      rw [View.read_apply]
      refine Eq.trans (b := (outsAt0 m c t.val t.isLt).1 y) rfl ?_
      obtain ⟨p, q, rfl⟩ : ∃ p q : Fin 1024, y = ix2 p q := ⟨y 0, y 1, ValueIdx.eq_ix2 y⟩
      rw [stored m c t.val t.isLt h1]
      have e0 : (((cfg0.win 2).blk t).view.emb (ix2 p q) 0).val = 1024 * (t.val / 2) + p.val := by
        show win0_2.index t 0 * 1024 + 1 * p.val = _
        rw [(idx2 t).1]; omega
      have e1 : (((cfg0.win 2).blk t).view.emb (ix2 p q) 1).val = q.val := by
        show win0_2.index t 1 * 1024 + 1 * q.val = _
        rw [(idx2 t).2]; omega
      show _ = prod m c (((cfg0.win 2).blk t).view.emb (ix2 p q))
      unfold prod
      rw [e0, e1])
    fun y => by
      have hy0 : (y 0).val < 8192 := (y 0).isLt
      have hy1 : (y 1).val < 1024 := (y 1).isLt
      have hn := hN
      let t : Fin cfg0.N := ⟨2 * ((y 0).val / 1024) + 1, by omega⟩
      have ht : t.val / 2 = (y 0).val / 1024 := by show (2 * ((y 0).val / 1024) + 1) / 2 = _; omega
      refine ⟨t, (flush0_2 t).mpr (by show (2 * ((y 0).val / 1024) + 1) % 2 = 1; omega), ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1, ht]; omega
      | ⟨1, _⟩ =>
        show win0_2.index t 1 * 1024 ≤ (y 1 : Nat) ∧ (y 1 : Nat) < win0_2.index t 1 * 1024 + 1024
        rw [(idx2 t).2]; omega

/-- The reference's result is what the kernel's result array ends holding. -/
theorem equal (x0 : FVec Ideal Cert.Dh2RefIdeal.S1024x4096 .f32) (x1 : FVec Ideal Cert.Dh2RefIdeal.S8192x4096 .f32)
    (h0 : x0 = m ((c : Thread nD τ).loc main_arg0)) (h1 : x1 = m ((c : Thread nD τ).loc main_arg1)) :
    Cert.Dh2RefIdeal.Reading.out x0 x1 = (dats m 0 c).arrAt 2 cfg0.N := by
  rw [final]
  funext y
  obtain ⟨i, j, rfl⟩ : ∃ (i : Fin 8192) (j : Fin 1024), y = ix2 i j := ⟨y 0, y 1, ValueIdx.eq_ix2 y⟩
  refine (Cert.Dh2RefIdeal.Reading.out_at _ _ i j).trans ?_
  show _ = (∑ s ∈ Finset.range 4096, lhs m c i.val s * rhs m c j.val s : EReal)
  rw [← Fin.sum_univ_eq_sum_range (fun s => lhs m c i.val s * rhs m c j.val s)]
  refine Finset.sum_congr rfl fun r _ => ?_
  exact congrArg₂ (· * ·) ((congrFun h1 (ix2 i r)).trans (lhs_of m c (p := i) (q := r) rfl rfl).symm)
    ((congrFun h0 (ix2 j r)).trans (rhs_of m c (p := j) (q := r) rfl rfl).symm)

end Cert.Dh2Ideal.Product

end
-- ==== Proof.DybValue.lean ====
/-
  The product `dpb @ w^T` tile by tile: what each grid point stores, what the result array ends holding, and the reference's result.
-/
module

public import proofs.«01_k».proof.Proof.Blocks
public import proofs.«01_k».proof.Proof.Gen.DybIdeal.Value
public import proofs.«01_k».proof.Proof.Gen.DybRefIdeal.Run
public import Idealize.ShloMosaic.Lib.StableHlo.Run
public import Idealize.ShloMosaic.Lib.Pointwise

@[expose] public section

set_option synthInstance.maxSize 4096
set_option maxRecDepth 16384

noncomputable section

namespace Cert.DybRefIdeal.Reading

open Idealize.ShloMosaic Idealize.ShloMosaic.TcCoe Cert.DybRefIdeal Cert.DybRefIdeal.Gen

/-- The reference's result, of the arguments' contents. -/
def out (x0 : FVec Ideal S2048x1024 .f32) (x1 : FVec Ideal S8192x1024 .f32) : FVec Ideal S8192x2048 .f32 :=
  Host.dotGeneral dot_S8192x1024_S2048x1024_S8192x2048_1_1_0_0_n_n none x1 x0

/-- The reference's result at an index. -/
theorem out_at (x0 : FVec Ideal S2048x1024 .f32) (x1 : FVec Ideal S8192x1024 .f32) (i : Fin 8192) (j : Fin 2048) : out x0 x1 (ix2 i j) = ((∑ r : Fin 1024, x1 (ix2 i r) * x0 (ix2 j r)) : EReal) := by
  unfold out
  pointwise []

end Cert.DybRefIdeal.Reading

namespace Cert.DybIdeal.Product

open Idealize.ShloMosaic Idealize.ShloMosaic.TcCoe Idealize.SL.Sem Cert.DybIdeal Cert.DybIdeal.Gen Cert.Blocks
open Idealize.ShloMosaic.Pipeline (Dat)

/-- What one grid point stores, from its blocks. -/
theorem out_at (x0 : Vec Ideal S1024x1024 .bf16) (x1 : Vec Ideal S2048x1024 .bf16) (p : Fin 1024) (q : Fin 2048) :
    out0_2 x0 x1 (ix2 p q) = ((∑ r : Fin 1024, x0 (ix2 p r) * x1 (ix2 q r)) : EReal) := by
  unfold out0_2
  rw [View.canon_unit_zero hz]
  simp only [View.ld_unit_zero (S := S1024x1024) hz, View.ld_unit_zero (S := S2048x1024) hz]
  pointwise [k0_pay1]

variable (m : (ℓ : Loc nD τ sig) → Buf (Elt Ideal) ℓ) (c : Dev nD)

theorem hN : cfg0.N = 8 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

/-- The arguments at natural-number indices. -/
def lhs : ℕ → ℕ → EReal := nat2 fun (i : Fin 8192) (j : Fin 1024) => m ((c : Thread nD τ).loc main_arg1) (ix2 i j)
def rhs : ℕ → ℕ → EReal := nat2 fun (i : Fin 2048) (j : Fin 1024) => m ((c : Thread nD τ).loc main_arg0) (ix2 i j)
theorem lhs_of {i j : ℕ} {p : Fin 8192} {q : Fin 1024} (hp : p.val = i) (hq : q.val = j) : lhs m c i j = m ((c : Thread nD τ).loc main_arg1) (ix2 p q) := nat2_of _ hp hq
theorem rhs_of {i j : ℕ} {p : Fin 2048} {q : Fin 1024} (hp : p.val = i) (hq : q.val = j) : rhs m c i j = m ((c : Thread nD τ).loc main_arg0) (ix2 p q) := nat2_of _ hp hq

theorem V0 (i : Fin 8192) (j : Fin 1024) : (V m c main_v0 : FVec Ideal S8192x1024 .bf16) (ix2 i j) = m ((c : Thread nD τ).loc main_arg1) (ix2 i j) := by
  have e : V m c main_v0 = (truncf .bf16 (m ((c : Thread nD τ).loc main_arg1)) bitsLt_bf16_f32 : FVec Ideal S8192x1024 .bf16) := by
    unfold V
    after_results
  rw [e]
  pointwise []

theorem V1 (i : Fin 2048) (j : Fin 1024) : (V m c main_v1 : FVec Ideal S2048x1024 .bf16) (ix2 i j) = m ((c : Thread nD τ).loc main_arg0) (ix2 i j) := by
  have e : V m c main_v1 = (truncf .bf16 (m ((c : Thread nD τ).loc main_arg0)) bitsLt_bf16_f32 : FVec Ideal S2048x1024 .bf16) := by
    unfold V
    after_results
  rw [e]
  pointwise []

theorem iblk0_at (t : Fin cfg0.N) (r : Fin 1024) (j : Fin 1024) :
    (iblk m c 0 t : Vec Ideal S1024x1024 .bf16) (ix2 r j) = lhs m c (t.val * 1024 + r.val) (0 * 1024 + j.val) := by
  have ht := t.isLt
  have := hN
  have e := V0 m c ⟨(t.val) * 1024 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 1024 + 1 * r.val = (t.val) * 1024 + r.val; rw [(idx0 t).1]; omega) (by show win0_0.index t 1 * 1024 + 1 * j.val = (0) * 1024 + j.val; rw [(idx0 t).2]; omega))

theorem iblk1_at (t : Fin cfg0.N) (r : Fin 2048) (j : Fin 1024) :
    (iblk m c 1 t : Vec Ideal S2048x1024 .bf16) (ix2 r j) = rhs m c (0 * 2048 + r.val) (0 * 1024 + j.val) := by
  have ht := t.isLt
  have := hN
  have e := V1 m c ⟨(0) * 2048 + r.val, by omega⟩ ⟨(0) * 1024 + j.val, by omega⟩
  refine Eq.trans ?_ (e.trans (rhs_of m c rfl rfl).symm)
  rw [iblk, View.read_apply]
  show V m c main_v1 _ = V m c main_v1 _
  exact congrArg _ (ix2_of (by show win0_1.index t 0 * 2048 + 1 * r.val = (0) * 2048 + r.val; rw [(idx1 t).1]; omega) (by show win0_1.index t 1 * 1024 + 1 * j.val = (0) * 1024 + j.val; rw [(idx1 t).2]; omega))

/-- The result, as contents of the result array. -/
def prod : Buf (Elt Ideal) ((c : Thread nD τ).loc main_v2) := fun y : S8192x2048.Idx =>
  ((∑ r : Fin 1024, lhs m c (y 0).val r.val * rhs m c (y 1).val r.val) : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 1024) (q : Fin 2048), y = ix2 p q := ⟨y 0, y 1, ValueIdx.eq_ix2 y⟩
      rw [out_at]
      have e0 : (((cfg0.win 2).blk t).view.emb (ix2 p q) 0).val = t.val * 1024 + p.val := by
        show win0_2.index t 0 * 1024 + 1 * p.val = _
        rw [(idx2 t).1]; omega
      have e1 : (((cfg0.win 2).blk t).view.emb (ix2 p q) 1).val = 0 * 2048 + q.val := by
        show win0_2.index t 1 * 2048 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 2048 := (y 1).isLt
      have hn := hN
      let t : Fin cfg0.N := ⟨1 * ((y 0).val / 1024) + (y 1).val / 2048, by omega⟩
      have ht : t.val = 1 * ((y 0).val / 1024) + (y 1).val / 2048 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 2048 ≤ (y 1 : Nat) ∧ (y 1 : Nat) < win0_2.index t 1 * 2048 + 2048
        rw [(idx2 t).2]; omega

/-- The reference's result is what the kernel's result array ends holding. -/
theorem equal (x0 : FVec Ideal Cert.DybRefIdeal.S2048x1024 .f32) (x1 : FVec Ideal Cert.DybRefIdeal.S8192x1024 .f32)
    (h0 : x0 = m ((c : Thread nD τ).loc main_arg0)) (h1 : x1 = m ((c : Thread nD τ).loc main_arg1)) :
    Cert.DybRefIdeal.Reading.out x0 x1 = (dats m 0 c).arrAt 2 cfg0.N := by
  rw [final]
  funext y
  obtain ⟨i, j, rfl⟩ : ∃ (i : Fin 8192) (j : Fin 2048), y = ix2 i j := ⟨y 0, y 1, ValueIdx.eq_ix2 y⟩
  refine (Cert.DybRefIdeal.Reading.out_at _ _ i j).trans ?_
  show _ = prod m c (ix2 i j)
  unfold prod
  have e : (∑ r : Fin 1024, x1 (ix2 i r) * x0 (ix2 j r)) = ∑ r : Fin 1024, lhs m c i.val r.val * rhs m c j.val r.val := by
    refine Finset.sum_congr rfl fun r _ => ?_
    exact congrArg₂ (· * ·) ((congrFun h1 (ix2 i r)).trans (lhs_of m c (p := i) (q := r) rfl rfl).symm)
      ((congrFun h0 (ix2 j r)).trans (rhs_of m c (p := j) (q := r) rfl rfl).symm)
  exact e

end Cert.DybIdeal.Product

end
-- ==== Proof.DyaValue.lean ====
/-
  The product `dpa @ w^T` tile by tile: what each grid point stores, what the result array ends holding, and the reference's result.
-/
module

public import proofs.«01_k».proof.Proof.Blocks
public import proofs.«01_k».proof.Proof.Gen.DyaIdeal.Value
public import proofs.«01_k».proof.Proof.Gen.DyaRefIdeal.Run
public import Idealize.ShloMosaic.Lib.StableHlo.Run
public import Idealize.ShloMosaic.Lib.Pointwise

@[expose] public section

set_option synthInstance.maxSize 4096
set_option maxRecDepth 16384

noncomputable section

namespace Cert.DyaRefIdeal.Reading

open Idealize.ShloMosaic Idealize.ShloMosaic.TcCoe Cert.DyaRefIdeal Cert.DyaRefIdeal.Gen

/-- The reference's result, of the arguments' contents. -/
def out (x0 : FVec Ideal S1024x1024 .f32) (x1 : FVec Ideal S8192x1024 .f32) : FVec Ideal S8192x1024 .f32 :=
  Host.dotGeneral dot_S8192x1024_S1024x1024_S8192x1024_1_1_0_0_n_n none x1 x0

/-- The reference's result at an index. -/
theorem out_at (x0 : FVec Ideal S1024x1024 .f32) (x1 : FVec Ideal S8192x1024 .f32) (i : Fin 8192) (j : Fin 1024) : out x0 x1 (ix2 i j) = ((∑ r : Fin 1024, x1 (ix2 i r) * x0 (ix2 j r)) : EReal) := by
  unfold out
  pointwise []

end Cert.DyaRefIdeal.Reading

namespace Cert.DyaIdeal.Product

open Idealize.ShloMosaic Idealize.ShloMosaic.TcCoe Idealize.SL.Sem Cert.DyaIdeal Cert.DyaIdeal.Gen Cert.Blocks
open Idealize.ShloMosaic.Pipeline (Dat)

/-- What one grid point stores, from its blocks. -/
theorem out_at (x0 : Vec Ideal S2048x1024 .bf16) (x1 : Vec Ideal S1024x1024 .bf16) (p : Fin 2048) (q : Fin 1024) :
    out0_2 x0 x1 (ix2 p q) = ((∑ r : Fin 1024, x0 (ix2 p r) * x1 (ix2 q r)) : EReal) := by
  unfold out0_2
  rw [View.canon_unit_zero hz]
  simp only [View.ld_unit_zero (S := S2048x1024) hz, View.ld_unit_zero (S := S1024x1024) hz]
  pointwise [k0_pay1]

variable (m : (ℓ : Loc nD τ sig) → Buf (Elt Ideal) ℓ) (c : Dev nD)

theorem hN : cfg0.N = 4 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

/-- The arguments at natural-number indices. -/
def lhs : ℕ → ℕ → EReal := nat2 fun (i : Fin 8192) (j : Fin 1024) => m ((c : Thread nD τ).loc main_arg1) (ix2 i j)
def rhs : ℕ → ℕ → EReal := nat2 fun (i : Fin 1024) (j : Fin 1024) => m ((c : Thread nD τ).loc main_arg0) (ix2 i j)
theorem lhs_of {i j : ℕ} {p : Fin 8192} {q : Fin 1024} (hp : p.val = i) (hq : q.val = j) : lhs m c i j = m ((c : Thread nD τ).loc main_arg1) (ix2 p q) := nat2_of _ hp hq
theorem rhs_of {i j : ℕ} {p : Fin 1024} {q : Fin 1024} (hp : p.val = i) (hq : q.val = j) : rhs m c i j = m ((c : Thread nD τ).loc main_arg0) (ix2 p q) := nat2_of _ hp hq

theorem V0 (i : Fin 8192) (j : Fin 1024) : (V m c main_v0 : FVec Ideal S8192x1024 .bf16) (ix2 i j) = m ((c : Thread nD τ).loc main_arg1) (ix2 i j) := by
  have e : V m c main_v0 = (truncf .bf16 (m ((c : Thread nD τ).loc main_arg1)) bitsLt_bf16_f32 : FVec Ideal S8192x1024 .bf16) := by
    unfold V
    after_results
  rw [e]
  pointwise []

theorem V1 (i : Fin 1024) (j : Fin 1024) : (V m c main_v1 : FVec Ideal S1024x1024 .bf16) (ix2 i j) = m ((c : Thread nD τ).loc main_arg0) (ix2 i j) := by
  have e : V m c main_v1 = (truncf .bf16 (m ((c : Thread nD τ).loc main_arg0)) bitsLt_bf16_f32 : FVec Ideal S1024x1024 .bf16) := by
    unfold V
    after_results
  rw [e]
  pointwise []

theorem iblk0_at (t : Fin cfg0.N) (r : Fin 2048) (j : Fin 1024) :
    (iblk m c 0 t : Vec Ideal S2048x1024 .bf16) (ix2 r j) = lhs m c (t.val * 2048 + r.val) (0 * 1024 + j.val) := by
  have ht := t.isLt
  have := hN
  have e := V0 m c ⟨(t.val) * 2048 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 2048 + 1 * r.val = (t.val) * 2048 + r.val; rw [(idx0 t).1]; omega) (by show win0_0.index t 1 * 1024 + 1 * j.val = (0) * 1024 + j.val; rw [(idx0 t).2]; omega))

theorem iblk1_at (t : Fin cfg0.N) (r : Fin 1024) (j : Fin 1024) :
    (iblk m c 1 t : Vec Ideal S1024x1024 .bf16) (ix2 r j) = rhs m c (0 * 1024 + r.val) (0 * 1024 + j.val) := by
  have ht := t.isLt
  have := hN
  have e := V1 m c ⟨(0) * 1024 + r.val, by omega⟩ ⟨(0) * 1024 + j.val, by omega⟩
  refine Eq.trans ?_ (e.trans (rhs_of m c rfl rfl).symm)
  rw [iblk, View.read_apply]
  show V m c main_v1 _ = V m c main_v1 _
  exact congrArg _ (ix2_of (by show win0_1.index t 0 * 1024 + 1 * r.val = (0) * 1024 + r.val; rw [(idx1 t).1]; omega) (by show win0_1.index t 1 * 1024 + 1 * j.val = (0) * 1024 + j.val; rw [(idx1 t).2]; omega))

/-- The result, as contents of the result array. -/
def prod : Buf (Elt Ideal) ((c : Thread nD τ).loc main_v2) := fun y : S8192x1024.Idx =>
  ((∑ r : Fin 1024, lhs m c (y 0).val r.val * rhs m c (y 1).val r.val) : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 2048) (q : Fin 1024), y = ix2 p q := ⟨y 0, y 1, ValueIdx.eq_ix2 y⟩
      rw [out_at]
      have e0 : (((cfg0.win 2).blk t).view.emb (ix2 p q) 0).val = t.val * 2048 + p.val := by
        show win0_2.index t 0 * 2048 + 1 * p.val = _
        rw [(idx2 t).1]; omega
      have e1 : (((cfg0.win 2).blk t).view.emb (ix2 p q) 1).val = 0 * 1024 + q.val := by
        show win0_2.index t 1 * 1024 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 1024 := (y 1).isLt
      have hn := hN
      let t : Fin cfg0.N := ⟨1 * ((y 0).val / 2048) + (y 1).val / 1024, by omega⟩
      have ht : t.val = 1 * ((y 0).val / 2048) + (y 1).val / 1024 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 2048 ≤ (y 0 : Nat) ∧ (y 0 : Nat) < win0_2.index t 0 * 2048 + 2048
        rw [(idx2 t).1]; omega
      | ⟨1, _⟩ =>
        show win0_2.index t 1 * 1024 ≤ (y 1 : Nat) ∧ (y 1 : Nat) < win0_2.index t 1 * 1024 + 1024
        rw [(idx2 t).2]; omega

/-- The reference's result is what the kernel's result array ends holding. -/
theorem equal (x0 : FVec Ideal Cert.DyaRefIdeal.S1024x1024 .f32) (x1 : FVec Ideal Cert.DyaRefIdeal.S8192x1024 .f32)
    (h0 : x0 = m ((c : Thread nD τ).loc main_arg0)) (h1 : x1 = m ((c : Thread nD τ).loc main_arg1)) :
    Cert.DyaRefIdeal.Reading.out x0 x1 = (dats m 0 c).arrAt 2 cfg0.N := by
  rw [final]
  funext y
  obtain ⟨i, j, rfl⟩ : ∃ (i : Fin 8192) (j : Fin 1024), y = ix2 i j := ⟨y 0, y 1, ValueIdx.eq_ix2 y⟩
  refine (Cert.DyaRefIdeal.Reading.out_at _ _ i j).trans ?_
  show _ = prod m c (ix2 i j)
  unfold prod
  have e : (∑ r : Fin 1024, x1 (ix2 i r) * x0 (ix2 j r)) = ∑ r : Fin 1024, lhs m c i.val r.val * rhs m c j.val r.val := by
    refine Finset.sum_congr rfl fun r _ => ?_
    exact congrArg₂ (· * ·) ((congrFun h1 (ix2 i r)).trans (lhs_of m c (p := i) (q := r) rfl rfl).symm)
      ((congrFun h0 (ix2 j r)).trans (rhs_of m c (p := j) (q := r) rfl rfl).symm)
  exact e

end Cert.DyaIdeal.Product

end
-- ==== Proof.DhValue.lean ====
/-
  The gradient of the projection's argument, `dproj @ w_in^T`, five column pieces one after another: what each grid point leaves,
  what the result array ends holding, and the reference's result.
-/
module

public import proofs.«01_k».proof.Proof.Blocks
public import proofs.«01_k».proof.Proof.Gen.DhIdeal.Frame
public import proofs.«01_k».proof.Proof.Gen.DhRefIdeal.Run
public import Idealize.ShloMosaic.Lib.Pipeline.Value
public import Idealize.ShloMosaic.Lib.StableHlo.Run
public import Idealize.ShloMosaic.Lib.Pointwise

@[expose] public section

set_option synthInstance.maxSize 4096
set_option maxRecDepth 16384

noncomputable section

namespace Cert.DhRefIdeal.Reading

open Idealize.ShloMosaic Idealize.ShloMosaic.TcCoe Cert.DhRefIdeal Cert.DhRefIdeal.Gen

/-- The reference's result, of the arguments' contents. -/
def out (x0 : FVec Ideal S1024x10272 .f32) (x1 : FVec Ideal S8192x10272 .f32) : FVec Ideal S8192x1024 .f32 :=
  Host.dotGeneral dot_S8192x10272_S1024x10272_S8192x1024_1_1_0_0_n_n none x1 x0

/-- The reference's result at an index. -/
theorem out_at (x0 : FVec Ideal S1024x10272 .f32) (x1 : FVec Ideal S8192x10272 .f32) (i : Fin 8192) (j : Fin 1024) : out x0 x1 (ix2 i j) = (∑ r : Fin 10272, x1 (ix2 i r) * x0 (ix2 j r) : EReal) := by
  unfold out
  pointwise []

end Cert.DhRefIdeal.Reading

namespace Cert.DhIdeal.Product

open Idealize.ShloMosaic Idealize.ShloMosaic.TcCoe Idealize.SL.Sem Cert.DhIdeal Cert.DhIdeal.Gen Cert.Blocks
open Idealize.ShloMosaic.Pipeline (Dat)

section

variable (c : Dev nD) (i : grid0.Coords) (a2 : Memref sig .tc .vmem S1024x1024 .bf16) (h2 : a2.IsWhole) (a3 : Memref sig .tc .vmem S1024x1024 .bf16)
    (h3 : a3.IsWhole) (a4 : Memref sig .tc .vmem S1024x1024 .bf16) (h4 : a4.IsWhole) (a5 : Memref sig .tc .vmem S1024x1024 .bf16) (h5 : a5.IsWhole)
    (a6 : Memref sig .tc .vmem S1024x1024 .bf16) (h6 : a6.IsWhole) (a7 : Memref sig .tc .vmem S1024x1024 .bf16) (h7 : a7.IsWhole)
    (a8 : Memref sig .tc .vmem S1024x1024 .bf16) (h8 : a8.IsWhole) (a9 : Memref sig .tc .vmem S1024x1024 .bf16) (h9 : a9.IsWhole)
    (a10 : Memref sig .tc .vmem S1024x128 .bf16) (h10 : a10.IsWhole) (a11 : Memref sig .tc .vmem S1024x128 .bf16) (h11 : a11.IsWhole)
    (a12 : Memref sig .tc .vmem S1024x1024 .f32) (h12 : a12.IsWhole) (a13 : Memref sig .tc .vmem S1024x1024 .f32) (h13 : a13.IsWhole)

/-- The first point of a block leaves the first pair's first product in the scratch. -/
theorem out_A (hc0 : cond0_0 i) (hc1 : cond0_1 i) (hc2 : ¬cond0_2 i) (hc3 : ¬cond0_3 i) (hc4 : ¬cond0_4 i) (hc5 : ¬cond0_5 i) (hc6 : ¬cond0_6 i)
    (x0 x1 x2 x3 x4 x5 x6 x7 : Vec Ideal S1024x1024 .bf16)
    (x8 x9 : Vec Ideal S1024x128 .bf16) (p q : Fin 1024) :
    sout0_A_0 c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 x9 (ix2 p q) = ∑ r : Fin 1024, x0 (ix2 p r) * x1 (ix2 q r) := by
  unfold sout0_A_0
  rw [View.read_writes_eq_canon _ _ _ (scover0_A_0 _ _ _ _ _ _ _ _ _ _ _ _ _ _ _ _ _ _ _ _ _ _ _ _ _ _ _ _ _ _ _ _ _ _ _ _ _ _ _ _ _ _ _)]
  unfold kernelRun0_A
  dsimp only
  rw [View.canon_cons_unit_zero hz]
  unfold kernelRun0_A.sl.v31 kernelRun0_A.sl.HS0_1
  rw [View.readCov_unit_zero _ hz]
  simp only [View.readAt_eq_ld, h2.read_unread, h3.read_unread, View.ld_unit_zero (S := S1024x1024) hz]
  pointwise [k0_pay2, k0_pay1]

/-- A point of the first pair adds its product to the scratch. -/
theorem out_B (hc0 : ¬cond0_0 i) (hc1 : cond0_1 i) (hc2 : ¬cond0_2 i) (hc3 : ¬cond0_3 i) (hc4 : ¬cond0_4 i) (hc5 : ¬cond0_5 i) (hc6 : ¬cond0_6 i)
    (x0 x1 x2 x3 x4 x5 x6 x7 : Vec Ideal S1024x1024 .bf16)
    (x8 x9 : Vec Ideal S1024x128 .bf16) (xs : Vec Ideal S1024x1024 .f32) (p q : Fin 1024) :
    sout0_B_0 c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 x9 xs (ix2 p q) = (xs (ix2 p q) + ∑ r : Fin 1024, x0 (ix2 p r) * x1 (ix2 q r) : EReal) := by
  unfold sout0_B_0
  rw [View.read_writes_eq_canon _ _ _ (scover0_B_0 _ _ _ _ _ _ _ _ _ _ _ _ _ _ _ _ _ _ _ _ _ _ _ _ _ _ _ _ _ _ _ _ _ _ _ _ _ _ _ _ _ _ _ _)]
  unfold kernelRun0_B
  dsimp only
  rw [View.canon_unit_zero hz]
  simp only [View.readAt_eq_ld, h2.read_unread, h3.read_unread, h13.read_unread, View.ld_unit_zero (S := S1024x1024) hz]
  pointwise [k0_pay2]

/-- A point of the second pair adds its product to the scratch. -/
theorem out_C (hc0 : ¬cond0_0 i) (hc1 : ¬cond0_1 i) (hc2 : cond0_2 i) (hc3 : ¬cond0_3 i) (hc4 : ¬cond0_4 i) (hc5 : ¬cond0_5 i) (hc6 : ¬cond0_6 i)
    (x0 x1 x2 x3 x4 x5 x6 x7 : Vec Ideal S1024x1024 .bf16)
    (x8 x9 : Vec Ideal S1024x128 .bf16) (xs : Vec Ideal S1024x1024 .f32) (p q : Fin 1024) :
    sout0_C_0 c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 x9 xs (ix2 p q) = (xs (ix2 p q) + ∑ r : Fin 1024, x2 (ix2 p r) * x3 (ix2 q r) : EReal) := by
  unfold sout0_C_0
  rw [View.read_writes_eq_canon _ _ _ (scover0_C_0 _ _ _ _ _ _ _ _ _ _ _ _ _ _ _ _ _ _ _ _ _ _ _ _ _ _ _ _ _ _ _ _ _ _ _ _ _ _ _ _ _ _ _ _)]
  unfold kernelRun0_C
  dsimp only
  rw [View.canon_unit_zero hz]
  simp only [View.readAt_eq_ld, h4.read_unread, h5.read_unread, h13.read_unread, View.ld_unit_zero (S := S1024x1024) hz]
  pointwise [k0_pay3]

/-- A point of the third pair adds its product to the scratch. -/
theorem out_D (hc0 : ¬cond0_0 i) (hc1 : ¬cond0_1 i) (hc2 : ¬cond0_2 i) (hc3 : cond0_3 i) (hc4 : ¬cond0_4 i) (hc5 : ¬cond0_5 i) (hc6 : ¬cond0_6 i)
    (x0 x1 x2 x3 x4 x5 x6 x7 : Vec Ideal S1024x1024 .bf16)
    (x8 x9 : Vec Ideal S1024x128 .bf16) (xs : Vec Ideal S1024x1024 .f32) (p q : Fin 1024) :
    sout0_D_0 c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 x9 xs (ix2 p q) = (xs (ix2 p q) + ∑ r : Fin 1024, x4 (ix2 p r) * x5 (ix2 q r) : EReal) := by
  unfold sout0_D_0
  rw [View.read_writes_eq_canon _ _ _ (scover0_D_0 _ _ _ _ _ _ _ _ _ _ _ _ _ _ _ _ _ _ _ _ _ _ _ _ _ _ _ _ _ _ _ _ _ _ _ _ _ _ _ _ _ _ _ _)]
  unfold kernelRun0_D
  dsimp only
  rw [View.canon_unit_zero hz]
  simp only [View.readAt_eq_ld, h6.read_unread, h7.read_unread, h13.read_unread, View.ld_unit_zero (S := S1024x1024) hz]
  pointwise [k0_pay4]

/-- A point of the fourth pair adds its product to the scratch. -/
theorem out_E (hc0 : ¬cond0_0 i) (hc1 : ¬cond0_1 i) (hc2 : ¬cond0_2 i) (hc3 : ¬cond0_3 i) (hc4 : cond0_4 i) (hc5 : ¬cond0_5 i) (hc6 : ¬cond0_6 i)
    (x0 x1 x2 x3 x4 x5 x6 x7 : Vec Ideal S1024x1024 .bf16)
    (x8 x9 : Vec Ideal S1024x128 .bf16) (xs : Vec Ideal S1024x1024 .f32) (p q : Fin 1024) :
    sout0_E_0 c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 x9 xs (ix2 p q) = (xs (ix2 p q) + ∑ r : Fin 1024, x6 (ix2 p r) * x7 (ix2 q r) : EReal) := by
  unfold sout0_E_0
  rw [View.read_writes_eq_canon _ _ _ (scover0_E_0 _ _ _ _ _ _ _ _ _ _ _ _ _ _ _ _ _ _ _ _ _ _ _ _ _ _ _ _ _ _ _ _ _ _ _ _ _ _ _ _ _ _ _ _)]
  unfold kernelRun0_E
  dsimp only
  rw [View.canon_unit_zero hz]
  simp only [View.readAt_eq_ld, h8.read_unread, h9.read_unread, h13.read_unread, View.ld_unit_zero (S := S1024x1024) hz]
  pointwise [k0_pay5]

/-- The last point of a block stores the scratch with the fifth pair's product added. -/
theorem out_F (hc0 : ¬cond0_0 i) (hc1 : ¬cond0_1 i) (hc2 : ¬cond0_2 i) (hc3 : ¬cond0_3 i) (hc4 : ¬cond0_4 i) (hc5 : cond0_5 i) (hc6 : cond0_6 i)
    (x0 x1 x2 x3 x4 x5 x6 x7 : Vec Ideal S1024x1024 .bf16)
    (x8 x9 : Vec Ideal S1024x128 .bf16) (xs : Vec Ideal S1024x1024 .f32) (p q : Fin 1024) :
    out0_F_10 c i a2 h2 a3 h3 a4 h4 a5 h5 a6 h6 a7 h7 a8 h8 a9 h9 a10 h10 a11 h11 a12 h12 a13 h13 hc0 hc1 hc2 hc3 hc4 hc5 hc6 x0 x1 x2 x3 x4 x5 x6 x7 x8 x9 xs (ix2 p q) = (xs (ix2 p q) + ∑ r : Fin 128, x8 (ix2 p r) * x9 (ix2 q r) : EReal) := by
  unfold out0_F_10
  rw [View.read_writes_eq_canon _ _ _ (cover0_F_10 _ _ _ _ _ _ _ _ _ _ _ _ _ _ _ _ _ _ _ _ _ _ _ _ _ _ _ _ _ _ _ _ _ _ _ _ _ _ _ _ _ _ _ _)]
  unfold kernelRun0_F
  dsimp only
  rw [View.canon_unit_zero hz]
  unfold kernelRun0_F.sl.v31 kernelRun0_F.sl.HS0_1
  rw [View.readCov_unit_zero _ hz]
  simp only [View.readAt_eq_ld, h10.read_unread, h11.read_unread, h13.read_unread, View.ld_unit_zero (S := S1024x1024) hz, View.ld_unit_zero (S := S1024x128) hz]
  pointwise [k0_pay6]

end

variable (m : (ℓ : Loc nD τ sig) → Buf (Elt Ideal) ℓ) (c : Dev nD)

theorem hN : cfg0.N = 88 := N_0

/-- The arguments at natural-number indices. -/
def lhs : ℕ → ℕ → EReal := nat2 fun (i : Fin 8192) (j : Fin 10272) => m ((c : Thread nD τ).loc main_arg1) (ix2 i j)
theorem lhs_of {i j : ℕ} {p : Fin 8192} {q : Fin 10272} (hp : p.val = i) (hq : q.val = j) : lhs m c i j = m ((c : Thread nD τ).loc main_arg1) (ix2 p q) := nat2_of _ hp hq
def rhs : ℕ → ℕ → EReal := nat2 fun (i : Fin 1024) (j : Fin 10272) => m ((c : Thread nD τ).loc main_arg0) (ix2 i j)
theorem rhs_of {i j : ℕ} {p : Fin 1024} {q : Fin 10272} (hp : p.val = i) (hq : q.val = j) : rhs m c i j = m ((c : Thread nD τ).loc main_arg0) (ix2 p q) := nat2_of _ hp hq

/-- The products summed for one element of the result, in the order the pieces are visited: the last piece, of columns 8192 to
8223, apart. -/
def term (i j s : ℕ) : EReal := if s < 8192 then lhs m c i s * rhs m c j s else lhs m c i (s + 32) * rhs m c j (s + 32)

/-- The integer zero, converted, is zero. -/
theorem sitofp_zero : (FloatOps.sitofp (F := Ideal) .bf16 (0#32) : EReal) = 0 := by
  show (((0#32 : BitVec 32).toInt : ℝ) : EReal) = 0
  simp

/-- A sum over a padded piece's columns is a sum over its own columns. -/
theorem padded (x y : Vec Ideal S1024x128 .bf16) (a b : ℕ → EReal) (p q : Fin 1024) (hx : ∀ r : Fin 128, x (ix2 p r) = if r.val < 32 then a r.val else (0 : EReal))
    (hy : ∀ r : Fin 128, y (ix2 q r) = if r.val < 32 then b r.val else (0 : EReal)) :
    (∑ r : Fin 128, x (ix2 p r) * y (ix2 q r) : EReal) = ∑ r ∈ Finset.range 32, a r * b r := by
  have e : ∀ r : Fin 128, (x (ix2 p r) * y (ix2 q r) : EReal) = if r.val < 32 then a r.val * b r.val else 0 := fun r => by
    rw [hx, hy]
    by_cases hr : r.val < 32
    · rw [if_pos hr, if_pos hr, if_pos hr]
    · rw [if_neg hr, if_neg hr, if_neg hr]; exact zero_mul _
  refine (Finset.sum_congr rfl fun r _ => e r).trans ?_
  rw [Fin.sum_univ_eq_sum_range (fun r => if r < 32 then a r * b r else (0 : EReal)) 128, show (128 : ℕ) = 32 + 96 from rfl, Finset.sum_range_add]
  refine Eq.trans (congrArg₂ (· + ·) (Finset.sum_congr rfl fun r hr => if_pos (Finset.mem_range.mp hr)) (Finset.sum_eq_zero fun r _ => if_neg (by omega))) ?_
  exact add_zero _

theorem L0 (i : Fin 8192) (j : Fin 2048) : (V m c main_v8 : FVec Ideal S8192x2048 .bf16) (ix2 i j) = m ((c : Thread nD τ).loc main_arg1) (ix2 i ⟨0 + j.val, by omega⟩) := by
  have e : V m c main_v8 = (extractStridedSlice S8192x2048 ![0, 0] (truncf .bf16 (m ((c : Thread nD τ).loc main_arg1)) bitsLt_bf16_f32 : FVec Ideal S8192x10272 .bf16) slices_S8192x10272_S8192x2048_0_0 : FVec Ideal S8192x2048 .bf16) := by
    unfold V
    simp only [hostOps0, hostOps0_1, hostOps0_2, hostOps0_3, List.flatten_cons, List.flatten_nil, List.append_nil, List.cons_append, List.nil_append]
    after_results
  rw [e]
  pointwise []

theorem L1 (i : Fin 8192) (j : Fin 2048) : (V m c main_v9 : FVec Ideal S8192x2048 .bf16) (ix2 i j) = m ((c : Thread nD τ).loc main_arg1) (ix2 i ⟨2048 + j.val, by omega⟩) := by
  have e : V m c main_v9 = (extractStridedSlice S8192x2048 ![0, 2048] (truncf .bf16 (m ((c : Thread nD τ).loc main_arg1)) bitsLt_bf16_f32 : FVec Ideal S8192x10272 .bf16) slices_S8192x10272_S8192x2048_0_2048 : FVec Ideal S8192x2048 .bf16) := by
    unfold V
    simp only [hostOps0, hostOps0_1, hostOps0_2, hostOps0_3, List.flatten_cons, List.flatten_nil, List.append_nil, List.cons_append, List.nil_append]
    after_results
  rw [e]
  pointwise []

theorem L2 (i : Fin 8192) (j : Fin 4096) : (V m c main_v10 : FVec Ideal S8192x4096 .bf16) (ix2 i j) = m ((c : Thread nD τ).loc main_arg1) (ix2 i ⟨4096 + j.val, by omega⟩) := by
  have e : V m c main_v10 = (extractStridedSlice S8192x4096 ![0, 4096] (truncf .bf16 (m ((c : Thread nD τ).loc main_arg1)) bitsLt_bf16_f32 : FVec Ideal S8192x10272 .bf16) slices_S8192x10272_S8192x4096_0_4096 : FVec Ideal S8192x4096 .bf16) := by
    unfold V
    simp only [hostOps0, hostOps0_1, hostOps0_2, hostOps0_3, List.flatten_cons, List.flatten_nil, List.append_nil, List.cons_append, List.nil_append]
    after_results
  rw [e]
  pointwise []

theorem L3 (i : Fin 8192) (j : Fin 2048) : (V m c main_v12 : FVec Ideal S8192x2048 .bf16) (ix2 i j) = m ((c : Thread nD τ).loc main_arg1) (ix2 i ⟨8224 + j.val, by omega⟩) := by
  have e : V m c main_v12 = (extractStridedSlice S8192x2048 ![0, 8224] (truncf .bf16 (m ((c : Thread nD τ).loc main_arg1)) bitsLt_bf16_f32 : FVec Ideal S8192x10272 .bf16) slices_S8192x10272_S8192x2048_0_8224 : FVec Ideal S8192x2048 .bf16) := by
    unfold V
    simp only [hostOps0, hostOps0_1, hostOps0_2, hostOps0_3, List.flatten_cons, List.flatten_nil, List.append_nil, List.cons_append, List.nil_append]
    after_results
  rw [e]
  pointwise []

theorem L4 (i : Fin 8192) (j : Fin 128) : (V m c main_v13 : FVec Ideal S8192x128 .bf16) (ix2 i j)
    = if h : j.val < 32 then m ((c : Thread nD τ).loc main_arg1) (ix2 i ⟨8192 + j.val, by omega⟩) else (0 : EReal) := by
  have e : V m c main_v13 = (pad S8192x128 ![0, 0] ![0, 96] ![0, 0] (extractStridedSlice S8192x32 ![0, 8192] (truncf .bf16 (m ((c : Thread nD τ).loc main_arg1)) bitsLt_bf16_f32 : FVec Ideal S8192x10272 .bf16) slices_S8192x10272_S8192x32_0_8192 : FVec Ideal S8192x32 .bf16)
      (sitofp .bf16 (constantI S_ 32 0#32)) pads_S8192x32_S8192x128_000_0960 h_S_ : FVec Ideal S8192x128 .bf16) := by
    unfold V
    simp only [hostOps0, hostOps0_1, hostOps0_2, hostOps0_3, List.flatten_cons, List.flatten_nil, List.append_nil, List.cons_append, List.nil_append]
    after_results
    rfl
  rw [e]
  pointwise []
  by_cases h : j.val < 32
  · rw [dif_pos h, dif_pos h]
  · rw [dif_neg h, dif_neg h]
    exact sitofp_zero

theorem R0 (i : Fin 1024) (j : Fin 2048) : (V m c main_v1 : FVec Ideal S1024x2048 .bf16) (ix2 i j) = m ((c : Thread nD τ).loc main_arg0) (ix2 i ⟨0 + j.val, by omega⟩) := by
  have e : V m c main_v1 = (extractStridedSlice S1024x2048 ![0, 0] (truncf .bf16 (m ((c : Thread nD τ).loc main_arg0)) bitsLt_bf16_f32 : FVec Ideal S1024x10272 .bf16) slices_S1024x10272_S1024x2048_0_0 : FVec Ideal S1024x2048 .bf16) := by
    unfold V
    simp only [hostOps0, hostOps0_1, hostOps0_2, hostOps0_3, List.flatten_cons, List.flatten_nil, List.append_nil, List.cons_append, List.nil_append]
    after_results
  rw [e]
  pointwise []

theorem R1 (i : Fin 1024) (j : Fin 2048) : (V m c main_v2 : FVec Ideal S1024x2048 .bf16) (ix2 i j) = m ((c : Thread nD τ).loc main_arg0) (ix2 i ⟨2048 + j.val, by omega⟩) := by
  have e : V m c main_v2 = (extractStridedSlice S1024x2048 ![0, 2048] (truncf .bf16 (m ((c : Thread nD τ).loc main_arg0)) bitsLt_bf16_f32 : FVec Ideal S1024x10272 .bf16) slices_S1024x10272_S1024x2048_0_2048 : FVec Ideal S1024x2048 .bf16) := by
    unfold V
    simp only [hostOps0, hostOps0_1, hostOps0_2, hostOps0_3, List.flatten_cons, List.flatten_nil, List.append_nil, List.cons_append, List.nil_append]
    after_results
  rw [e]
  pointwise []

theorem R2 (i : Fin 1024) (j : Fin 4096) : (V m c main_v3 : FVec Ideal S1024x4096 .bf16) (ix2 i j) = m ((c : Thread nD τ).loc main_arg0) (ix2 i ⟨4096 + j.val, by omega⟩) := by
  have e : V m c main_v3 = (extractStridedSlice S1024x4096 ![0, 4096] (truncf .bf16 (m ((c : Thread nD τ).loc main_arg0)) bitsLt_bf16_f32 : FVec Ideal S1024x10272 .bf16) slices_S1024x10272_S1024x4096_0_4096 : FVec Ideal S1024x4096 .bf16) := by
    unfold V
    simp only [hostOps0, hostOps0_1, hostOps0_2, hostOps0_3, List.flatten_cons, List.flatten_nil, List.append_nil, List.cons_append, List.nil_append]
    after_results
  rw [e]
  pointwise []

theorem R3 (i : Fin 1024) (j : Fin 2048) : (V m c main_v5 : FVec Ideal S1024x2048 .bf16) (ix2 i j) = m ((c : Thread nD τ).loc main_arg0) (ix2 i ⟨8224 + j.val, by omega⟩) := by
  have e : V m c main_v5 = (extractStridedSlice S1024x2048 ![0, 8224] (truncf .bf16 (m ((c : Thread nD τ).loc main_arg0)) bitsLt_bf16_f32 : FVec Ideal S1024x10272 .bf16) slices_S1024x10272_S1024x2048_0_8224 : FVec Ideal S1024x2048 .bf16) := by
    unfold V
    simp only [hostOps0, hostOps0_1, hostOps0_2, hostOps0_3, List.flatten_cons, List.flatten_nil, List.append_nil, List.cons_append, List.nil_append]
    after_results
  rw [e]
  pointwise []

theorem R4 (i : Fin 1024) (j : Fin 128) : (V m c main_v6 : FVec Ideal S1024x128 .bf16) (ix2 i j)
    = if h : j.val < 32 then m ((c : Thread nD τ).loc main_arg0) (ix2 i ⟨8192 + j.val, by omega⟩) else (0 : EReal) := by
  have e : V m c main_v6 = (pad S1024x128 ![0, 0] ![0, 96] ![0, 0] (extractStridedSlice S1024x32 ![0, 8192] (truncf .bf16 (m ((c : Thread nD τ).loc main_arg0)) bitsLt_bf16_f32 : FVec Ideal S1024x10272 .bf16) slices_S1024x10272_S1024x32_0_8192 : FVec Ideal S1024x32 .bf16)
      (sitofp .bf16 (constantI S_ 32 0#32)) pads_S1024x32_S1024x128_000_0960 h_S_ : FVec Ideal S1024x128 .bf16) := by
    unfold V
    simp only [hostOps0, hostOps0_1, hostOps0_2, hostOps0_3, List.flatten_cons, List.flatten_nil, List.append_nil, List.cons_append, List.nil_append]
    after_results
    rfl
  rw [e]
  pointwise []
  by_cases h : j.val < 32
  · rw [dif_pos h, dif_pos h]
  · rw [dif_neg h, dif_neg h]
    exact sitofp_zero

theorem idx0 : ∀ t : Fin cfg0.N, 0 ≤ t.val % 11 → t.val % 11 ≤ 1 → win0_0.index t 0 = t.val / 11 ∧ win0_0.index t 1 = t.val % 11 - 0 := by
  show ∀ t : Fin grid0.N, _
  decide +kernel

theorem idx1 : ∀ t : Fin cfg0.N, 0 ≤ t.val % 11 → t.val % 11 ≤ 1 → win0_1.index t 0 = 0 ∧ win0_1.index t 1 = t.val % 11 - 0 := by
  show ∀ t : Fin grid0.N, _
  decide +kernel

theorem idx2 : ∀ t : Fin cfg0.N, 2 ≤ t.val % 11 → t.val % 11 ≤ 3 → win0_2.index t 0 = t.val / 11 ∧ win0_2.index t 1 = t.val % 11 - 2 := by
  show ∀ t : Fin grid0.N, _
  decide +kernel

theorem idx3 : ∀ t : Fin cfg0.N, 2 ≤ t.val % 11 → t.val % 11 ≤ 3 → win0_3.index t 0 = 0 ∧ win0_3.index t 1 = t.val % 11 - 2 := by
  show ∀ t : Fin grid0.N, _
  decide +kernel

theorem idx4 : ∀ t : Fin cfg0.N, 4 ≤ t.val % 11 → t.val % 11 ≤ 7 → win0_4.index t 0 = t.val / 11 ∧ win0_4.index t 1 = t.val % 11 - 4 := by
  show ∀ t : Fin grid0.N, _
  decide +kernel

theorem idx5 : ∀ t : Fin cfg0.N, 4 ≤ t.val % 11 → t.val % 11 ≤ 7 → win0_5.index t 0 = 0 ∧ win0_5.index t 1 = t.val % 11 - 4 := by
  show ∀ t : Fin grid0.N, _
  decide +kernel

theorem idx6 : ∀ t : Fin cfg0.N, 8 ≤ t.val % 11 → t.val % 11 ≤ 9 → win0_6.index t 0 = t.val / 11 ∧ win0_6.index t 1 = t.val % 11 - 8 := by
  show ∀ t : Fin grid0.N, _
  decide +kernel

theorem idx7 : ∀ t : Fin cfg0.N, 8 ≤ t.val % 11 → t.val % 11 ≤ 9 → win0_7.index t 0 = 0 ∧ win0_7.index t 1 = t.val % 11 - 8 := by
  show ∀ t : Fin grid0.N, _
  decide +kernel

theorem idx8 : ∀ t : Fin cfg0.N, 10 ≤ t.val % 11 → t.val % 11 ≤ 10 → win0_8.index t 0 = t.val / 11 ∧ win0_8.index t 1 = t.val % 11 - 10 := by
  show ∀ t : Fin grid0.N, _
  decide +kernel

theorem idx9 : ∀ t : Fin cfg0.N, 10 ≤ t.val % 11 → t.val % 11 ≤ 10 → win0_9.index t 0 = 0 ∧ win0_9.index t 1 = t.val % 11 - 10 := by
  show ∀ t : Fin grid0.N, _
  decide +kernel

theorem iblk0_at (t : Fin cfg0.N) (h0 : 0 ≤ t.val % 11) (h1 : t.val % 11 ≤ 1) (p r : Fin 1024) :
    (iblk m c 0 t : Vec Ideal S1024x1024 .bf16) (ix2 p r) = lhs m c (1024 * (t.val / 11) + p.val) (1024 * (t.val % 11) + r.val) := by
  have ht := t.isLt
  have := hN
  have e := L0 m c ⟨1024 * (t.val / 11) + p.val, by omega⟩ ⟨1024 * (t.val % 11 - 0) + r.val, by omega⟩
  refine Eq.trans ?_ (e.trans (lhs_of m c rfl (by dsimp only; omega)).symm)
  rw [iblk, View.read_apply]
  show V m c main_v8 _ = V m c main_v8 _
  exact congrArg _ (ix2_of (by show win0_0.index t 0 * 1024 + 1 * p.val = 1024 * (t.val / 11) + p.val; rw [(idx0 t h0 h1).1]; omega) (by show win0_0.index t 1 * 1024 + 1 * r.val = 1024 * (t.val % 11 - 0) + r.val; rw [(idx0 t h0 h1).2]; omega))

theorem iblk1_at (t : Fin cfg0.N) (h0 : 0 ≤ t.val % 11) (h1 : t.val % 11 ≤ 1) (p r : Fin 1024) :
    (iblk m c 1 t : Vec Ideal S1024x1024 .bf16) (ix2 p r) = rhs m c (p.val) (1024 * (t.val % 11) + r.val) := by
  have ht := t.isLt
  have := hN
  have e := R0 m c ⟨p.val, by omega⟩ ⟨1024 * (t.val % 11 - 0) + r.val, by omega⟩
  refine Eq.trans ?_ (e.trans (rhs_of m c rfl (by dsimp only; omega)).symm)
  rw [iblk, View.read_apply]
  show V m c main_v1 _ = V m c main_v1 _
  exact congrArg _ (ix2_of (by show win0_1.index t 0 * 1024 + 1 * p.val = p.val; rw [(idx1 t h0 h1).1]; omega) (by show win0_1.index t 1 * 1024 + 1 * r.val = 1024 * (t.val % 11 - 0) + r.val; rw [(idx1 t h0 h1).2]; omega))

theorem iblk2_at (t : Fin cfg0.N) (h0 : 2 ≤ t.val % 11) (h1 : t.val % 11 ≤ 3) (p r : Fin 1024) :
    (iblk m c 2 t : Vec Ideal S1024x1024 .bf16) (ix2 p r) = lhs m c (1024 * (t.val / 11) + p.val) (1024 * (t.val % 11) + r.val) := by
  have ht := t.isLt
  have := hN
  have e := L1 m c ⟨1024 * (t.val / 11) + p.val, by omega⟩ ⟨1024 * (t.val % 11 - 2) + r.val, by omega⟩
  refine Eq.trans ?_ (e.trans (lhs_of m c rfl (by dsimp only; omega)).symm)
  rw [iblk, View.read_apply]
  show V m c main_v9 _ = V m c main_v9 _
  exact congrArg _ (ix2_of (by show win0_2.index t 0 * 1024 + 1 * p.val = 1024 * (t.val / 11) + p.val; rw [(idx2 t h0 h1).1]; omega) (by show win0_2.index t 1 * 1024 + 1 * r.val = 1024 * (t.val % 11 - 2) + r.val; rw [(idx2 t h0 h1).2]; omega))

theorem iblk3_at (t : Fin cfg0.N) (h0 : 2 ≤ t.val % 11) (h1 : t.val % 11 ≤ 3) (p r : Fin 1024) :
    (iblk m c 3 t : Vec Ideal S1024x1024 .bf16) (ix2 p r) = rhs m c (p.val) (1024 * (t.val % 11) + r.val) := by
  have ht := t.isLt
  have := hN
  have e := R1 m c ⟨p.val, by omega⟩ ⟨1024 * (t.val % 11 - 2) + r.val, by omega⟩
  refine Eq.trans ?_ (e.trans (rhs_of m c rfl (by dsimp only; omega)).symm)
  rw [iblk, View.read_apply]
  show V m c main_v2 _ = V m c main_v2 _
  exact congrArg _ (ix2_of (by show win0_3.index t 0 * 1024 + 1 * p.val = p.val; rw [(idx3 t h0 h1).1]; omega) (by show win0_3.index t 1 * 1024 + 1 * r.val = 1024 * (t.val % 11 - 2) + r.val; rw [(idx3 t h0 h1).2]; omega))

theorem iblk4_at (t : Fin cfg0.N) (h0 : 4 ≤ t.val % 11) (h1 : t.val % 11 ≤ 7) (p r : Fin 1024) :
    (iblk m c 4 t : Vec Ideal S1024x1024 .bf16) (ix2 p r) = lhs m c (1024 * (t.val / 11) + p.val) (1024 * (t.val % 11) + r.val) := by
  have ht := t.isLt
  have := hN
  have e := L2 m c ⟨1024 * (t.val / 11) + p.val, by omega⟩ ⟨1024 * (t.val % 11 - 4) + r.val, by omega⟩
  refine Eq.trans ?_ (e.trans (lhs_of m c rfl (by dsimp only; omega)).symm)
  rw [iblk, View.read_apply]
  show V m c main_v10 _ = V m c main_v10 _
  exact congrArg _ (ix2_of (by show win0_4.index t 0 * 1024 + 1 * p.val = 1024 * (t.val / 11) + p.val; rw [(idx4 t h0 h1).1]; omega) (by show win0_4.index t 1 * 1024 + 1 * r.val = 1024 * (t.val % 11 - 4) + r.val; rw [(idx4 t h0 h1).2]; omega))

theorem iblk5_at (t : Fin cfg0.N) (h0 : 4 ≤ t.val % 11) (h1 : t.val % 11 ≤ 7) (p r : Fin 1024) :
    (iblk m c 5 t : Vec Ideal S1024x1024 .bf16) (ix2 p r) = rhs m c (p.val) (1024 * (t.val % 11) + r.val) := by
  have ht := t.isLt
  have := hN
  have e := R2 m c ⟨p.val, by omega⟩ ⟨1024 * (t.val % 11 - 4) + r.val, by omega⟩
  refine Eq.trans ?_ (e.trans (rhs_of m c rfl (by dsimp only; omega)).symm)
  rw [iblk, View.read_apply]
  show V m c main_v3 _ = V m c main_v3 _
  exact congrArg _ (ix2_of (by show win0_5.index t 0 * 1024 + 1 * p.val = p.val; rw [(idx5 t h0 h1).1]; omega) (by show win0_5.index t 1 * 1024 + 1 * r.val = 1024 * (t.val % 11 - 4) + r.val; rw [(idx5 t h0 h1).2]; omega))

theorem iblk6_at (t : Fin cfg0.N) (h0 : 8 ≤ t.val % 11) (h1 : t.val % 11 ≤ 9) (p r : Fin 1024) :
    (iblk m c 6 t : Vec Ideal S1024x1024 .bf16) (ix2 p r) = lhs m c (1024 * (t.val / 11) + p.val) (1024 * (t.val % 11) + r.val + 32) := by
  have ht := t.isLt
  have := hN
  have e := L3 m c ⟨1024 * (t.val / 11) + p.val, by omega⟩ ⟨1024 * (t.val % 11 - 8) + r.val, by omega⟩
  refine Eq.trans ?_ (e.trans (lhs_of m c rfl (by dsimp only; omega)).symm)
  rw [iblk, View.read_apply]
  show V m c main_v12 _ = V m c main_v12 _
  exact congrArg _ (ix2_of (by show win0_6.index t 0 * 1024 + 1 * p.val = 1024 * (t.val / 11) + p.val; rw [(idx6 t h0 h1).1]; omega) (by show win0_6.index t 1 * 1024 + 1 * r.val = 1024 * (t.val % 11 - 8) + r.val; rw [(idx6 t h0 h1).2]; omega))

theorem iblk7_at (t : Fin cfg0.N) (h0 : 8 ≤ t.val % 11) (h1 : t.val % 11 ≤ 9) (p r : Fin 1024) :
    (iblk m c 7 t : Vec Ideal S1024x1024 .bf16) (ix2 p r) = rhs m c (p.val) (1024 * (t.val % 11) + r.val + 32) := by
  have ht := t.isLt
  have := hN
  have e := R3 m c ⟨p.val, by omega⟩ ⟨1024 * (t.val % 11 - 8) + r.val, by omega⟩
  refine Eq.trans ?_ (e.trans (rhs_of m c rfl (by dsimp only; omega)).symm)
  rw [iblk, View.read_apply]
  show V m c main_v5 _ = V m c main_v5 _
  exact congrArg _ (ix2_of (by show win0_7.index t 0 * 1024 + 1 * p.val = p.val; rw [(idx7 t h0 h1).1]; omega) (by show win0_7.index t 1 * 1024 + 1 * r.val = 1024 * (t.val % 11 - 8) + r.val; rw [(idx7 t h0 h1).2]; omega))

theorem iblk8_at (t : Fin cfg0.N) (h0 : 10 ≤ t.val % 11) (h1 : t.val % 11 ≤ 10) (p : Fin 1024) (r : Fin 128) :
    (iblk m c 8 t : Vec Ideal S1024x128 .bf16) (ix2 p r) = if r.val < 32 then lhs m c (1024 * (t.val / 11) + p.val) (8192 + r.val) else 0 := by
  have ht := t.isLt
  have := hN
  have e := L4 m c ⟨1024 * (t.val / 11) + p.val, by omega⟩ r
  have b : (if h : r.val < 32 then m ((c : Thread nD τ).loc main_arg1) (ix2 (⟨1024 * (t.val / 11) + p.val, by omega⟩ : Fin 8192) ⟨8192 + r.val, by omega⟩) else (0 : EReal))
      = if r.val < 32 then lhs m c (1024 * (t.val / 11) + p.val) (8192 + r.val) else 0 := by
    by_cases h : r.val < 32
    · rw [dif_pos h, if_pos h]; exact (lhs_of m c rfl rfl).symm
    · rw [dif_neg h, if_neg h]
  refine Eq.trans ?_ (e.trans b)
  rw [iblk, View.read_apply]
  show V m c main_v13 _ = V m c main_v13 _
  exact congrArg _ (ix2_of (by show win0_8.index t 0 * 1024 + 1 * p.val = 1024 * (t.val / 11) + p.val; rw [(idx8 t h0 h1).1]; omega) (by show win0_8.index t 1 * 128 + 1 * r.val = r.val; rw [(idx8 t h0 h1).2]; omega))

theorem iblk9_at (t : Fin cfg0.N) (h0 : 10 ≤ t.val % 11) (h1 : t.val % 11 ≤ 10) (p : Fin 1024) (r : Fin 128) :
    (iblk m c 9 t : Vec Ideal S1024x128 .bf16) (ix2 p r) = if r.val < 32 then rhs m c (p.val) (8192 + r.val) else 0 := by
  have ht := t.isLt
  have := hN
  have e := R4 m c ⟨p.val, by omega⟩ r
  have b : (if h : r.val < 32 then m ((c : Thread nD τ).loc main_arg0) (ix2 (⟨p.val, by omega⟩ : Fin 1024) ⟨8192 + r.val, by omega⟩) else (0 : EReal))
      = if r.val < 32 then rhs m c (p.val) (8192 + r.val) else 0 := by
    by_cases h : r.val < 32
    · rw [dif_pos h, if_pos h]; exact (rhs_of m c rfl rfl).symm
    · rw [dif_neg h, if_neg h]
  refine Eq.trans ?_ (e.trans b)
  rw [iblk, View.read_apply]
  show V m c main_v6 _ = V m c main_v6 _
  exact congrArg _ (ix2_of (by show win0_9.index t 0 * 1024 + 1 * p.val = p.val; rw [(idx9 t h0 h1).1]; omega) (by show win0_9.index t 1 * 128 + 1 * r.val = r.val; rw [(idx9 t h0 h1).2]; omega))

/-- What a block's first point leaves in the scratch. -/
theorem first (n : ℕ) (h : n < cfg0.N) (hk : n % 11 = 0) (p q : Fin 1024) :
    (outsAt0 m c n h).2 (ix2 p q) = (∑ s ∈ Finset.range (1024 * (n % 11 + 1)), term m c (1024 * (n / 11) + p.val) q.val s : EReal) := by
  refine (congrFun (congrArg Prod.snd (outsAt0_A m c ⟨n, h⟩ (by dsimp only; omega) (by dsimp only; omega) (by dsimp only; omega) (by dsimp only; omega) (by dsimp only; omega) (by dsimp only; omega) (by dsimp only; omega))) (ix2 p q)).trans ?_
  dsimp only
  rw [out_A]
  refine sum_first (n % 11) hk (term m c (1024 * (n / 11) + p.val) q.val) _ fun r => ?_
  rw [iblk0_at m c ⟨n, h⟩ (by dsimp only; omega) (by dsimp only; omega), iblk1_at m c ⟨n, h⟩ (by dsimp only; omega) (by dsimp only; omega)]
  exact (if_pos (by omega)).symm

/-- What a later point leaves in the scratch, of what the point before it left. -/
theorem next (n : ℕ) (h : n < cfg0.N) (h' : n - 1 < cfg0.N) (h0 : ¬n % 11 = 0) (hk : n % 11 ≤ 9) (p q : Fin 1024)
    (prev : (outsAt0 m c (n - 1) h').2 (ix2 p q) = (∑ s ∈ Finset.range (1024 * (n % 11)), term m c (1024 * (n / 11) + p.val) q.val s : EReal)) :
    (outsAt0 m c n h).2 (ix2 p q) = (∑ s ∈ Finset.range (1024 * (n % 11 + 1)), term m c (1024 * (n / 11) + p.val) q.val s : EReal) := by
  obtain h1 | h1 | h1 | h1 : n % 11 ≤ 1 ∨ (2 ≤ n % 11 ∧ n % 11 ≤ 3) ∨ (4 ≤ n % 11 ∧ n % 11 ≤ 7) ∨ (8 ≤ n % 11 ∧ n % 11 ≤ 9) := by omega
  · refine (congrFun (congrArg Prod.snd (outsAt0_B m c ⟨n, h⟩ (by dsimp only; omega) (by dsimp only; omega) (by dsimp only; omega) (by dsimp only; omega) (by dsimp only; omega) (by dsimp only; omega) (by dsimp only; omega))) (ix2 p q)).trans ?_
    dsimp only
    rw [out_B]
    refine sum_next (n % 11) (term m c (1024 * (n / 11) + p.val) q.val) _ _ prev fun r => ?_
    rw [iblk0_at m c ⟨n, h⟩ (by dsimp only; omega) (by dsimp only; omega), iblk1_at m c ⟨n, h⟩ (by dsimp only; omega) (by dsimp only; omega)]
    exact (if_pos (by omega)).symm
  · refine (congrFun (congrArg Prod.snd (outsAt0_C m c ⟨n, h⟩ (by dsimp only; omega) (by dsimp only; omega) (by dsimp only; omega) (by dsimp only; omega) (by dsimp only; omega) (by dsimp only; omega) (by dsimp only; omega))) (ix2 p q)).trans ?_
    dsimp only
    rw [out_C]
    refine sum_next (n % 11) (term m c (1024 * (n / 11) + p.val) q.val) _ _ prev fun r => ?_
    rw [iblk2_at m c ⟨n, h⟩ (by dsimp only; omega) (by dsimp only; omega), iblk3_at m c ⟨n, h⟩ (by dsimp only; omega) (by dsimp only; omega)]
    exact (if_pos (by omega)).symm
  · refine (congrFun (congrArg Prod.snd (outsAt0_D m c ⟨n, h⟩ (by dsimp only; omega) (by dsimp only; omega) (by dsimp only; omega) (by dsimp only; omega) (by dsimp only; omega) (by dsimp only; omega) (by dsimp only; omega))) (ix2 p q)).trans ?_
    dsimp only
    rw [out_D]
    refine sum_next (n % 11) (term m c (1024 * (n / 11) + p.val) q.val) _ _ prev fun r => ?_
    rw [iblk4_at m c ⟨n, h⟩ (by dsimp only; omega) (by dsimp only; omega), iblk5_at m c ⟨n, h⟩ (by dsimp only; omega) (by dsimp only; omega)]
    exact (if_pos (by omega)).symm
  · refine (congrFun (congrArg Prod.snd (outsAt0_E m c ⟨n, h⟩ (by dsimp only; omega) (by dsimp only; omega) (by dsimp only; omega) (by dsimp only; omega) (by dsimp only; omega) (by dsimp only; omega) (by dsimp only; omega))) (ix2 p q)).trans ?_
    dsimp only
    rw [out_E]
    refine sum_next (n % 11) (term m c (1024 * (n / 11) + p.val) q.val) _ _ prev fun r => ?_
    rw [iblk6_at m c ⟨n, h⟩ (by dsimp only; omega) (by dsimp only; omega), iblk7_at m c ⟨n, h⟩ (by dsimp only; omega) (by dsimp only; omega)]
    exact (if_neg (by omega)).symm

/-- What the scratch holds after a point before a block's last. -/
theorem scratch (n : ℕ) (h : n < cfg0.N) (hk : n % 11 ≤ 9) (p q : Fin 1024) :
    (outsAt0 m c n h).2 (ix2 p q) = (∑ s ∈ Finset.range (1024 * (n % 11 + 1)), term m c (1024 * (n / 11) + p.val) q.val s : EReal) := by
  induction n with
  | zero => exact first m c 0 h rfl p q
  | succ n ih =>
    by_cases h0 : (n + 1) % 11 = 0
    · exact first m c (n + 1) h h0 p q
    · refine next m c (n + 1) h (by omega) h0 hk p q ?_
      refine (ih (by omega) (by omega)).trans ?_
      rw [show n % 11 + 1 = (n + 1) % 11 by omega, show n / 11 = (n + 1) / 11 by omega]

/-- The products in the order visited are the products. -/
theorem reorder (i j : ℕ) : (∑ s ∈ Finset.range 10240, term m c i j s) + ∑ r ∈ Finset.range 32, lhs m c i (8192 + r) * rhs m c j (8192 + r)
    = ∑ s ∈ Finset.range 10272, lhs m c i s * rhs m c j s := by
  rw [show (10240 : ℕ) = 8192 + 2048 from rfl, show (10272 : ℕ) = 8192 + 32 + 2048 from rfl, Finset.sum_range_add, Finset.sum_range_add,
    Finset.sum_range_add, add_right_comm]
  refine congrArg₂ (· + ·) (congrArg (· + _) (Finset.sum_congr rfl fun s hs => if_pos (Finset.mem_range.mp hs))) (Finset.sum_congr rfl fun s _ => ?_)
  refine (if_neg (by omega)).trans ?_
  exact congrArg (fun a => lhs m c i a * rhs m c j a) (by omega)

/-- What a block's last point stores, of the arguments. -/
theorem stored (n : ℕ) (h : n < cfg0.N) (h1 : n % 11 = 10) (p q : Fin 1024) :
    (outsAt0 m c n h).1 (ix2 p q) = (∑ s ∈ Finset.range 10272, lhs m c (1024 * (n / 11) + p.val) s * rhs m c q.val s : EReal) := by
  refine (congrFun (congrArg Prod.fst (outsAt0_F m c ⟨n, h⟩ (by dsimp only; omega) (by dsimp only; omega) (by dsimp only; omega) (by dsimp only; omega) (by dsimp only; omega) h1 h1)) (ix2 p q)).trans ?_
  dsimp only
  rw [out_F, scratch m c (n - 1) (by omega) (by omega), show (n - 1) % 11 = 9 by omega, show (n - 1) / 11 = n / 11 by omega]
  refine Eq.trans (congrArg ((∑ s ∈ Finset.range 10240, term m c (1024 * (n / 11) + p.val) q.val s) + ·) ?_) (reorder m c (1024 * (n / 11) + p.val) q.val)
  exact padded _ _ (fun r => lhs m c (1024 * (n / 11) + p.val) (8192 + r)) (fun r => rhs m c q.val (8192 + r)) p q
    (fun r => iblk8_at m c ⟨n, h⟩ (by dsimp only; omega) (by dsimp only; omega) p r) (fun r => iblk9_at m c ⟨n, h⟩ (by dsimp only; omega) (by dsimp only; omega) q r)

/-- The result, as contents of the result array. -/
def prod : Buf (Elt Ideal) ((c : Thread nD τ).loc main_v14) := fun y : S8192x1024.Idx =>
  (∑ s ∈ Finset.range 10272, lhs m c (y 0).val s * rhs m c (y 1).val s : EReal)

theorem idx10 : ∀ t : Fin cfg0.N, win0_10.index t 0 = t.val / 11 ∧ win0_10.index t 1 = 0 := by
  show ∀ t : Fin grid0.N, _
  decide +kernel

/-- The result array ends holding it. -/
theorem final : (dats m 0 c).arrAt 10 cfg0.N = prod m c :=
  (dats m 0 c).arrAt_eq_of_cover 10 (prod m c)
    (fun t hf => by
      have h1 := (flush0_10 t).mp hf
      funext y
      rw [View.read_apply]
      refine Eq.trans (b := (outsAt0 m c t.val t.isLt).1 y) (congrFun (after0_10 m c t) y) ?_
      obtain ⟨p, q, rfl⟩ : ∃ p q : Fin 1024, y = ix2 p q := ⟨y 0, y 1, ValueIdx.eq_ix2 y⟩
      rw [stored m c t.val t.isLt h1]
      have e0 : (((cfg0.win 10).blk t).view.emb (ix2 p q) 0).val = 1024 * (t.val / 11) + p.val := by
        show win0_10.index t 0 * 1024 + 1 * p.val = _
        rw [(idx10 t).1]; omega
      have e1 : (((cfg0.win 10).blk t).view.emb (ix2 p q) 1).val = q.val := by
        show win0_10.index t 1 * 1024 + 1 * q.val = _
        rw [(idx10 t).2]; omega
      show _ = prod m c (((cfg0.win 10).blk t).view.emb (ix2 p q))
      unfold prod
      rw [e0, e1])
    fun y => by
      have hy0 : (y 0).val < 8192 := (y 0).isLt
      have hy1 : (y 1).val < 1024 := (y 1).isLt
      have hn := hN
      let t : Fin cfg0.N := ⟨11 * ((y 0).val / 1024) + 10, by omega⟩
      have ht : t.val / 11 = (y 0).val / 1024 := by show (11 * ((y 0).val / 1024) + 10) / 11 = _; omega
      refine ⟨t, (flush0_10 t).mpr (by show (11 * ((y 0).val / 1024) + 10) % 11 = 10; omega), ?_⟩
      show y ∈ ((View.whole main_v14).slice (win0_10.rect t)).set
      rw [View.set_slice_whole, Rect.mem_set_unit]
      intro a
      match a with
      | ⟨0, _⟩ =>
        show win0_10.index t 0 * 1024 ≤ (y 0 : Nat) ∧ (y 0 : Nat) < win0_10.index t 0 * 1024 + 1024
        rw [(idx10 t).1, ht]; omega
      | ⟨1, _⟩ =>
        show win0_10.index t 1 * 1024 ≤ (y 1 : Nat) ∧ (y 1 : Nat) < win0_10.index t 1 * 1024 + 1024
        rw [(idx10 t).2]; omega

/-- The run ends with the result array as the grid leaves it and the arguments kept. -/
theorem run_result (ρ : Dev nD → PrngReg) : θ_run defs (onTc (τ := τ) (main (F := Ideal))) ⟨m, fun _ => 0, ρ⟩ fun r => ∀ c : Dev nD,
      r.2.mem ((c : Thread nD τ).loc main_v14) = (dats m 0 c).arrAt 10 cfg0.N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1 10,
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

/-- The reference's result is what the kernel's result array ends holding. -/
theorem equal (x0 : FVec Ideal Cert.DhRefIdeal.S1024x10272 .f32) (x1 : FVec Ideal Cert.DhRefIdeal.S8192x10272 .f32)
    (h0 : x0 = m ((c : Thread nD τ).loc main_arg0)) (h1 : x1 = m ((c : Thread nD τ).loc main_arg1)) :
    Cert.DhRefIdeal.Reading.out x0 x1 = (dats m 0 c).arrAt 10 cfg0.N := by
  rw [final]
  funext y
  obtain ⟨i, j, rfl⟩ : ∃ (i : Fin 8192) (j : Fin 1024), y = ix2 i j := ⟨y 0, y 1, ValueIdx.eq_ix2 y⟩
  refine (Cert.DhRefIdeal.Reading.out_at _ _ i j).trans ?_
  show _ = (∑ s ∈ Finset.range 10272, lhs m c i.val s * rhs m c j.val s : EReal)
  rw [← Fin.sum_univ_eq_sum_range (fun s => lhs m c i.val s * rhs m c j.val s)]
  refine Finset.sum_congr rfl fun r _ => ?_
  exact congrArg₂ (· * ·) ((congrFun h1 (ix2 i r)).trans (lhs_of m c (p := i) (q := r) rfl rfl).symm)
    ((congrFun h0 (ix2 j r)).trans (rhs_of m c (p := j) (q := r) rfl rfl).symm)

end Cert.DhIdeal.Product

end
-- ==== Proof.DwDownValue.lean ====
/-
  The product `act^T @ dx2` accumulated over row blocks into the packed array of every chip's rows: what each grid point stores, what the
  result's block holds after it, what the result array ends holding, and the reference's result.
-/
module

public import proofs.«01_k».proof.Proof.Blocks
public import proofs.«01_k».proof.Proof.Gen.DwDownIdeal.Value
public import proofs.«01_k».proof.Proof.Gen.DwDownRefIdeal.Run
public import Idealize.ShloMosaic.Lib.StableHlo.Run
public import Idealize.ShloMosaic.Lib.Pointwise
public import Idealize.ShloMosaic.Lib.Pipeline.ValueKit.Partial

@[expose] public section

set_option synthInstance.maxSize 4096
set_option maxRecDepth 16384

noncomputable section

namespace Cert.DwDownRefIdeal.Reading

open Idealize.ShloMosaic Idealize.ShloMosaic.TcCoe Cert.DwDownRefIdeal Cert.DwDownRefIdeal.Gen

/-- The reference's result, of the arguments' contents. -/
def out (x0 : FVec Ideal S8192x4096 .f32) (x1 : FVec Ideal S8192x1024 .f32) (x2 : FVec Ideal S4x3072x1024 .f32) : FVec Ideal S4x3072x1024 .f32 :=
  (concatenate S4x3072x1024 1 [⟨S4x0x1024, ((extractStridedSlice S4x0x1024 ![0, 0, 0] x2 slices_S4x3072x1024_S4x0x1024_0_0_0) : (⟨S4x0x1024, .f32⟩ : BufTy).Contents (Elt Ideal))⟩, ⟨S4x1024x1024, ((shapeCast _ (transpose S4096x1024 [1, 0] (Host.dotGeneral dot_S8192x1024_S8192x4096_S1024x4096_0_0_1_1_n_n none x1 x0) transposes_S1024x4096_S4096x1024_1_0) shapeCasts_S4096x1024_S4x1024x1024) : (⟨S4x1024x1024, .f32⟩ : BufTy).Contents (Elt Ideal))⟩, ⟨S4x2048x1024, ((extractStridedSlice S4x2048x1024 ![0, 1024, 0] x2 slices_S4x3072x1024_S4x2048x1024_0_1024_0) : (⟨S4x2048x1024, .f32⟩ : BufTy).Contents (Elt Ideal))⟩] concatenates_S4x0x1024_S4x1024x1024_S4x2048x1024_S4x3072x1024_d1 : (⟨S4x3072x1024, .f32⟩ : BufTy).Contents (Elt Ideal))

/-- The reference's result at an index. -/
theorem out_at (x0 : FVec Ideal S8192x4096 .f32) (x1 : FVec Ideal S8192x1024 .f32) (x2 : FVec Ideal S4x3072x1024 .f32) (i : Fin 4) (j : Fin 3072) (k : Fin 1024) : out x0 x1 x2 (ix3 i j k) = (if h : j.val < 0 then x2 (ix3 i j k) else if h' : j.val < 1024 then ∑ r : Fin 8192, x1 (ix2 r k) * x0 (ix2 r ⟨i.val * 1024 + j.val, by omega⟩) else x2 (ix3 i ⟨1024 + (j.val - 1024), by omega⟩ k) : EReal) := by
  unfold out
  pointwise []

end Cert.DwDownRefIdeal.Reading

namespace Cert.DwDownIdeal.Product

open Idealize.ShloMosaic Idealize.ShloMosaic.TcCoe Idealize.SL.Sem Cert.DwDownIdeal Cert.DwDownIdeal.Gen Cert.Blocks
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a3 : Memref sig .tc .vmem S2048x1024 .bf16) (h3 : a3.IsWhole) (a4 : Memref sig .tc .vmem S2048x1024 .bf16)
    (h4 : a4.IsWhole) (a6 : Memref sig .tc .vmem S1x1024x1024 .f32) (h6 : a6.IsWhole)

/-- A point of the first block stores that block's product. -/
theorem out_A (hc0 : cond0_0 i) (hc1 : ¬cond0_1 i) (x0 x1 : Vec Ideal S2048x1024 .bf16) (w : Fin 1) (p : Fin 1024)
    (q : Fin 1024) :
    out0_A_2 c i a3 h3 a4 h4 a6 h6 hc0 hc1 x0 x1 (ix3 w p q) = ∑ r : Fin 2048, x0 (ix2 r p) * x1 (ix2 r q) := by
  unfold out0_A_2
  rw [View.read_writes_eq_canon _ _ _ (cover0_A_2 _ _ _ _ _ _ _ _ _ _ _ _)]
  unfold kernelRun0_A
  dsimp only
  rw [View.canon_unit_zero hz3]
  simp only [View.readAt_eq_ld, h3.read_unread, h4.read_unread, View.ld_unit_zero (S := S2048x1024) hz, View.ld_unit_zero (S := S1x1024x1024) hz3]
  pointwise [k0_pay2, k0_pay1]

/-- A point of a later block adds that block's product to what the point before left. -/
theorem out_B (hc0 : ¬cond0_0 i) (hc1 : cond0_1 i) (x0 x1 : Vec Ideal S2048x1024 .bf16)
    (xo : Vec Ideal S1x1024x1024 .f32) (w : Fin 1) (p : Fin 1024) (q : Fin 1024) :
    out0_B_2 c i a3 h3 a4 h4 a6 h6 hc0 hc1 x0 x1 xo (ix3 w p q) = xo (ix3 w p q) + ∑ r : Fin 2048, x0 (ix2 r p) * x1 (ix2 r q) := by
  unfold out0_B_2
  rw [View.read_writes_eq_canon _ _ _ (cover0_B_2 _ _ _ _ _ _ _ _ _ _ _ _ _)]
  unfold kernelRun0_B
  dsimp only
  rw [View.canon_unit_zero hz3]
  simp only [View.readAt_eq_ld, h3.read_unread, h4.read_unread, h6.read_unread, View.ld_unit_zero (S := S2048x1024) hz, View.ld_unit_zero (S := S1x1024x1024) hz3]
  obtain rfl : w = 0 := Subsingleton.elim _ _
  pointwise [k0_pay3, k0_pay1]

end

variable (m : (ℓ : Loc nD τ sig) → Buf (Elt Ideal) ℓ) (c : Dev nD)

theorem hN : cfg0.N = 16 := N_0

theorem idx0 : ∀ t : Fin cfg0.N, win0_0.index t 0 = t.val % 4 ∧ win0_0.index t 1 = (t.val / 4) := by
  show ∀ t : Fin grid0.N, _
  decide +kernel

theorem idx1 : ∀ t : Fin cfg0.N, win0_1.index t 0 = t.val % 4 ∧ win0_1.index t 1 = 0 := by
  show ∀ t : Fin grid0.N, _
  decide +kernel

theorem idx2 : ∀ t : Fin cfg0.N, win0_2.index t 0 = t.val / 4 ∧ win0_2.index t 1 = 0 ∧ win0_2.index t 2 = 0 := by
  show ∀ t : Fin grid0.N, _
  decide +kernel

/-- The two factors at natural-number indices. -/
def lhs : ℕ → ℕ → EReal := nat2 fun (i : Fin 8192) (j : Fin 4096) => m ((c : Thread nD τ).loc main_arg0) (ix2 i j)
def rhs : ℕ → ℕ → EReal := nat2 fun (i : Fin 8192) (j : Fin 1024) => m ((c : Thread nD τ).loc main_arg1) (ix2 i j)
theorem lhs_of {i j : ℕ} {p : Fin 8192} {q : Fin 4096} (hp : p.val = i) (hq : q.val = j) : lhs m c i j = m ((c : Thread nD τ).loc main_arg0) (ix2 p q) := nat2_of _ hp hq
theorem rhs_of {i j : ℕ} {p : Fin 8192} {q : Fin 1024} (hp : p.val = i) (hq : q.val = j) : rhs m c i j = m ((c : Thread nD τ).loc main_arg1) (ix2 p q) := nat2_of _ hp hq

theorem V0 (i : Fin 8192) (j : Fin 4096) : (V m c main_v0 : FVec Ideal S8192x4096 .bf16) (ix2 i j) = m ((c : Thread nD τ).loc main_arg0) (ix2 i j) := by
  have e : V m c main_v0 = (truncf .bf16 (m ((c : Thread nD τ).loc main_arg0)) bitsLt_bf16_f32 : FVec Ideal S8192x4096 .bf16) := by
    unfold V
    after_results
  rw [e]
  pointwise []

theorem V1 (i : Fin 8192) (j : Fin 1024) : (V m c main_v1 : FVec Ideal S8192x1024 .bf16) (ix2 i j) = m ((c : Thread nD τ).loc main_arg1) (ix2 i j) := by
  have e : V m c main_v1 = (truncf .bf16 (m ((c : Thread nD τ).loc main_arg1)) bitsLt_bf16_f32 : FVec Ideal S8192x1024 .bf16) := by
    unfold V
    after_results
  rw [e]
  pointwise []

/-- The result array starts as the third argument. -/
theorem V2 : V m c main_v2 = (m ((c : Thread nD τ).loc main_arg2) : FVec Ideal S4x3072x1024 .f32) := by
  unfold V
  after_results
  rfl

theorem iblk0_at (t : Fin cfg0.N) (r : Fin 2048) (j : Fin 1024) :
    (iblk m c 0 t : Vec Ideal S2048x1024 .bf16) (ix2 r j) = lhs m c (2048 * (t.val % 4) + r.val) (1024 * (t.val / 4) + j.val) := by
  have ht := t.isLt
  have := hN
  have e := V0 m c ⟨2048 * (t.val % 4) + r.val, by omega⟩ ⟨1024 * (t.val / 4) + j.val, by omega⟩
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = 1024 * (t.val / 4) + j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (j.val) := by
  have ht := t.isLt
  have := hN
  have e := V1 m c ⟨2048 * (t.val % 4) + r.val, by omega⟩ j
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = j.val; rw [(idx1 t).2]; omega))

/-- After a grid point the result's block holds the product over the rows so far. -/
theorem after (n : ℕ) (h : n < cfg0.N) (w : Fin 1) (p : Fin 1024) (q : Fin 1024) :
    outsAt0 m c n h (ix3 w p q) = ∑ s ∈ Finset.range (2048 * (n % 4 + 1)), lhs m c s (1024 * (n / 4) + p.val) * rhs m c s (q.val) := by
  induction n using Nat.strong_induction_on with
  | _ n ih =>
    have hn := hN
    by_cases h0 : n % 4 = 0
    · refine (congrFun (outsAt0_A m c ⟨n, h⟩ h0 (by dsimp only; omega)) (ix3 w p q)).trans ?_
      rw [out_A]
      exact sum_first _ h0 (fun s => lhs m c s (1024 * (n / 4) + p.val) * rhs m c s (q.val)) _ fun r => by rw [iblk0_at, iblk1_at]
    · refine (congrFun (outsAt0_B m c ⟨n, h⟩ h0 (by dsimp only; omega)) (ix3 w p q)).trans ?_
      rw [out_B]
      refine sum_next _ (fun s => lhs m c s (1024 * (n / 4) + p.val) * rhs m c s (q.val)) _ _ ?_ fun r => by rw [iblk0_at, iblk1_at]
      refine (ih (n - 1) (by omega) (by omega)).trans ?_
      rw [show (n - 1) / 4 = n / 4 by omega, show (n - 1) % 4 + 1 = n % 4 by omega]

/-- The result, as contents of the result array: the product at its place, the third argument elsewhere. -/
def prod : Buf (Elt Ideal) ((c : Thread nD τ).loc main_v2) := fun y : S4x3072x1024.Idx =>
  (if (y 1).val / 1024 = 0 then ∑ s ∈ Finset.range 8192, lhs m c s ((y 0).val * 1024 + (y 1).val) * rhs m c s ((y 2).val)
    else m ((c : Thread nD τ).loc main_arg2) y : EReal)

/-- What the last point of a block leaves is the result at the block's place. -/
theorem block_at (t : Fin cfg0.N) (h3 : t.val % 4 = 3) (w : Fin 1) (p : Fin 1024) (q : Fin 1024) :
    outsAt0 m c t.val t.isLt (ix3 w p q) = prod m c (((cfg0.win 2).blk t).view.emb (ix3 w p q)) := by
  have hn := hN
  have ht := t.isLt
  have e0 : (((cfg0.win 2).blk t).view.emb (ix3 w p q) 0).val = 1 * (t.val / 4) + w.val := by
    show win0_2.index t 0 * 1 + 1 * w.val = _
    rw [(idx2 t).1]; omega
  have e1 : (((cfg0.win 2).blk t).view.emb (ix3 w p q) 1).val = 0 + p.val := by
    show win0_2.index t 1 * 1024 + 1 * p.val = _
    rw [(idx2 t).2.1]; omega
  have e2 : (((cfg0.win 2).blk t).view.emb (ix3 w p q) 2).val = q.val := by
    show win0_2.index t 2 * 1024 + 1 * q.val = _
    rw [(idx2 t).2.2]; omega
  have e : (∑ s ∈ Finset.range (2048 * (t.val % 4 + 1)), lhs m c s (1024 * (t.val / 4) + p.val) * rhs m c s (q.val) : EReal) = ∑ s ∈ Finset.range 8192, lhs m c s ((1 * (t.val / 4) + w.val) * 1024 + (0 + p.val)) * rhs m c s (q.val) := by
    rw [show 2048 * (t.val % 4 + 1) = 8192 by omega]
    exact Finset.sum_congr rfl fun s _ => congrArg₂ (fun a b => lhs m c s a * rhs m c s b) (by omega) (by omega)
  refine (after m c t.val t.isLt w p q).trans (e.trans ?_)
  unfold prod
  rw [e0, e1, e2, if_pos (by omega)]

/-- The result array ends holding it. -/
theorem final : (dats m 0 c).arrAt 2 cfg0.N = prod m c :=
  (dats m 0 c).arrAt_eq_of_coversWhere_of_agree 2 (prod m c) (fun β => β (1 : Fin 3) = 0) (by decide +kernel)
    (fun t hf y => by
      obtain ⟨w, p, q, rfl⟩ : ∃ (w : Fin 1) (p : Fin 1024) (q : Fin 1024), y = ix3 w p q := ⟨y 0, y 1, y 2, ValueIdx.eq_ix3 y⟩
      exact (congrFun (after0_2 m c t) (ix3 w p q)).trans (block_at m c t ((flush0_2 t).mp hf) w p q))
    fun j hj => by
      have hq : ¬ (j 1).val / 1024 = 0 := hj
      refine (congrFun (A_eq m c 2) _).trans ?_
      refine (congrFun (V2 m c) j).trans ?_
      show _ = prod m c j
      unfold prod
      rw [if_neg hq]

/-- The reference's result is what the kernel's result array ends holding. -/
theorem equal (x0 : FVec Ideal Cert.DwDownRefIdeal.S8192x4096 .f32) (x1 : FVec Ideal Cert.DwDownRefIdeal.S8192x1024 .f32) (x2 : FVec Ideal Cert.DwDownRefIdeal.S4x3072x1024 .f32)
    (h0 : x0 = m ((c : Thread nD τ).loc main_arg0)) (h1 : x1 = m ((c : Thread nD τ).loc main_arg1)) (h2 : x2 = m ((c : Thread nD τ).loc main_arg2)) :
    Cert.DwDownRefIdeal.Reading.out x0 x1 x2 = (dats m 0 c).arrAt 2 cfg0.N := by
  rw [final]
  funext y
  obtain ⟨i, j, k, rfl⟩ : ∃ (i : Fin 4) (j : Fin 3072) (k : Fin 1024), y = ix3 i j k := ⟨y 0, y 1, y 2, ValueIdx.eq_ix3 y⟩
  refine (Cert.DwDownRefIdeal.Reading.out_at x0 x1 x2 i j k).trans ?_
  show _ = (if j.val / 1024 = 0 then ∑ s ∈ Finset.range 8192, lhs m c s (i.val * 1024 + j.val) * rhs m c s (k.val)
    else m ((c : Thread nD τ).loc main_arg2) (ix3 i j k) : EReal)
  by_cases hl : j.val < 0
  · rw [dif_pos hl, if_neg (by omega)]
    exact congrFun h2 (ix3 i j k)
  rw [dif_neg hl]
  by_cases hr : j.val < 1024
  · rw [dif_pos hr, if_pos (by omega), ← Fin.sum_univ_eq_sum_range (fun s => lhs m c s (i.val * 1024 + j.val) * rhs m c s (k.val))]
    refine Finset.sum_congr rfl fun r _ => ?_
    refine (congrArg₂ (· * ·) ((congrFun h1 (ix2 r k)).trans (rhs_of m c (p := r) (q := k) rfl rfl).symm)
      ((congrFun h0 (ix2 r ⟨i.val * 1024 + j.val, by omega⟩)).trans (lhs_of m c (p := r) (q := ⟨i.val * 1024 + j.val, by omega⟩) rfl rfl).symm)).trans ?_
    exact mul_comm (rhs m c r.val (k.val)) (lhs m c r.val (i.val * 1024 + j.val))
  · rw [dif_neg hr, if_neg (by omega)]
    rw [show (⟨1024 + (j.val - 1024), by omega⟩ : Fin 3072) = j from Fin.ext (by show 1024 + (j.val - 1024) = j.val; omega)]
    exact congrFun h2 (ix3 i j k)

end Cert.DwDownIdeal.Product

end
-- ==== Proof.DwUpValue.lean ====
/-
  The product `h2^T @ dup` accumulated over row blocks into the packed array of every chip's rows: what each grid point stores, what the
  result's block holds after it, what the result array ends holding, and the reference's result.
-/
module

public import proofs.«01_k».proof.Proof.Blocks
public import proofs.«01_k».proof.Proof.Gen.DwUpIdeal.Value
public import proofs.«01_k».proof.Proof.Gen.DwUpRefIdeal.Run
public import Idealize.ShloMosaic.Lib.StableHlo.Run
public import Idealize.ShloMosaic.Lib.Pointwise
public import Idealize.ShloMosaic.Lib.Pipeline.ValueKit.Partial

@[expose] public section

set_option synthInstance.maxSize 4096
set_option maxRecDepth 16384

noncomputable section

namespace Cert.DwUpRefIdeal.Reading

open Idealize.ShloMosaic Idealize.ShloMosaic.TcCoe Cert.DwUpRefIdeal Cert.DwUpRefIdeal.Gen

/-- The reference's result, of the arguments' contents. -/
def out (x0 : FVec Ideal S8192x1024 .f32) (x1 : FVec Ideal S8192x4096 .f32) (x2 : FVec Ideal S4x3072x1024 .f32) : FVec Ideal S4x3072x1024 .f32 :=
  (concatenate S4x3072x1024 1 [⟨S4x1024x1024, ((extractStridedSlice S4x1024x1024 ![0, 0, 0] x2 slices_S4x3072x1024_S4x1024x1024_0_0_0) : (⟨S4x1024x1024, .f32⟩ : BufTy).Contents (Elt Ideal))⟩, ⟨S4x1024x1024, ((transpose S4x1024x1024 [1, 0, 2] (shapeCast _ (transpose S1024x4096 [1, 0] (Host.dotGeneral dot_S8192x4096_S8192x1024_S4096x1024_0_0_1_1_n_n none x1 x0) transposes_S4096x1024_S1024x4096_1_0) shapeCasts_S1024x4096_S1024x4x1024) transposes_S1024x4x1024_S4x1024x1024_1_0_2) : (⟨S4x1024x1024, .f32⟩ : BufTy).Contents (Elt Ideal))⟩, ⟨S4x1024x1024, ((extractStridedSlice S4x1024x1024 ![0, 2048, 0] x2 slices_S4x3072x1024_S4x1024x1024_0_2048_0) : (⟨S4x1024x1024, .f32⟩ : BufTy).Contents (Elt Ideal))⟩] concatenates_S4x1024x1024_S4x1024x1024_S4x1024x1024_S4x3072x1024_d1 : (⟨S4x3072x1024, .f32⟩ : BufTy).Contents (Elt Ideal))

/-- The reference's result at an index. -/
theorem out_at (x0 : FVec Ideal S8192x1024 .f32) (x1 : FVec Ideal S8192x4096 .f32) (x2 : FVec Ideal S4x3072x1024 .f32) (i : Fin 4) (j : Fin 3072) (k : Fin 1024) : out x0 x1 x2 (ix3 i j k) = (if h : j.val < 1024 then x2 (ix3 i j k) else if h' : (j.val - 1024) < 1024 then ∑ r : Fin 8192, x1 (ix2 r ⟨i.val * 1024 + k.val, by omega⟩) * x0 (ix2 r ⟨j.val - 1024, by omega⟩) else x2 (ix3 i ⟨2048 + (j.val - 1024 - 1024), by omega⟩ k) : EReal) := by
  unfold out
  pointwise []

end Cert.DwUpRefIdeal.Reading

namespace Cert.DwUpIdeal.Product

open Idealize.ShloMosaic Idealize.ShloMosaic.TcCoe Idealize.SL.Sem Cert.DwUpIdeal Cert.DwUpIdeal.Gen Cert.Blocks
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a3 : Memref sig .tc .vmem S2048x1024 .bf16) (h3 : a3.IsWhole) (a4 : Memref sig .tc .vmem S2048x1024 .bf16)
    (h4 : a4.IsWhole) (a6 : Memref sig .tc .vmem S1x1024x1024 .f32) (h6 : a6.IsWhole)

/-- A point of the first block stores that block's product. -/
theorem out_A (hc0 : cond0_0 i) (hc1 : ¬cond0_1 i) (x0 x1 : Vec Ideal S2048x1024 .bf16) (w : Fin 1) (p : Fin 1024)
    (q : Fin 1024) :
    out0_A_2 c i a3 h3 a4 h4 a6 h6 hc0 hc1 x0 x1 (ix3 w p q) = ∑ r : Fin 2048, x0 (ix2 r p) * x1 (ix2 r q) := by
  unfold out0_A_2
  rw [View.read_writes_eq_canon _ _ _ (cover0_A_2 _ _ _ _ _ _ _ _ _ _ _ _)]
  unfold kernelRun0_A
  dsimp only
  rw [View.canon_unit_zero hz3]
  simp only [View.readAt_eq_ld, h3.read_unread, h4.read_unread, View.ld_unit_zero (S := S2048x1024) hz, View.ld_unit_zero (S := S1x1024x1024) hz3]
  pointwise [k0_pay2, k0_pay1]

/-- A point of a later block adds that block's product to what the point before left. -/
theorem out_B (hc0 : ¬cond0_0 i) (hc1 : cond0_1 i) (x0 x1 : Vec Ideal S2048x1024 .bf16)
    (xo : Vec Ideal S1x1024x1024 .f32) (w : Fin 1) (p : Fin 1024) (q : Fin 1024) :
    out0_B_2 c i a3 h3 a4 h4 a6 h6 hc0 hc1 x0 x1 xo (ix3 w p q) = xo (ix3 w p q) + ∑ r : Fin 2048, x0 (ix2 r p) * x1 (ix2 r q) := by
  unfold out0_B_2
  rw [View.read_writes_eq_canon _ _ _ (cover0_B_2 _ _ _ _ _ _ _ _ _ _ _ _ _)]
  unfold kernelRun0_B
  dsimp only
  rw [View.canon_unit_zero hz3]
  simp only [View.readAt_eq_ld, h3.read_unread, h4.read_unread, h6.read_unread, View.ld_unit_zero (S := S2048x1024) hz, View.ld_unit_zero (S := S1x1024x1024) hz3]
  obtain rfl : w = 0 := Subsingleton.elim _ _
  pointwise [k0_pay3, k0_pay1]

end

variable (m : (ℓ : Loc nD τ sig) → Buf (Elt Ideal) ℓ) (c : Dev nD)

theorem hN : cfg0.N = 16 := N_0

theorem idx0 : ∀ t : Fin cfg0.N, win0_0.index t 0 = t.val % 4 ∧ win0_0.index t 1 = 0 := by
  show ∀ t : Fin grid0.N, _
  decide +kernel

theorem idx1 : ∀ t : Fin cfg0.N, win0_1.index t 0 = t.val % 4 ∧ win0_1.index t 1 = (t.val / 4) := by
  show ∀ t : Fin grid0.N, _
  decide +kernel

theorem idx2 : ∀ t : Fin cfg0.N, win0_2.index t 0 = t.val / 4 ∧ win0_2.index t 1 = 1 ∧ win0_2.index t 2 = 0 := by
  show ∀ t : Fin grid0.N, _
  decide +kernel

/-- The two factors at natural-number indices. -/
def lhs : ℕ → ℕ → EReal := nat2 fun (i : Fin 8192) (j : Fin 1024) => m ((c : Thread nD τ).loc main_arg0) (ix2 i j)
def rhs : ℕ → ℕ → EReal := nat2 fun (i : Fin 8192) (j : Fin 4096) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 8192} {q : Fin 4096} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 8192) (j : Fin 4096) : (V m c main_v1 : FVec Ideal S8192x4096 .bf16) (ix2 i j) = m ((c : Thread nD τ).loc main_arg1) (ix2 i j) := by
  have e : V m c main_v1 = (truncf .bf16 (m ((c : Thread nD τ).loc main_arg1)) bitsLt_bf16_f32 : FVec Ideal S8192x4096 .bf16) := by
    unfold V
    after_results
  rw [e]
  pointwise []

/-- The result array starts as the third argument. -/
theorem V2 : V m c main_v2 = (m ((c : Thread nD τ).loc main_arg2) : FVec Ideal S4x3072x1024 .f32) := by
  unfold V
  after_results
  rfl

theorem iblk0_at (t : Fin cfg0.N) (r : Fin 2048) (j : Fin 1024) :
    (iblk m c 0 t : Vec Ideal S2048x1024 .bf16) (ix2 r j) = lhs m c (2048 * (t.val % 4) + r.val) (j.val) := by
  have ht := t.isLt
  have := hN
  have e := V0 m c ⟨2048 * (t.val % 4) + r.val, by omega⟩ j
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (1024 * (t.val / 4) + j.val) := by
  have ht := t.isLt
  have := hN
  have e := V1 m c ⟨2048 * (t.val % 4) + r.val, by omega⟩ ⟨1024 * (t.val / 4) + j.val, by omega⟩
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = 1024 * (t.val / 4) + j.val; rw [(idx1 t).2]; omega))

/-- After a grid point the result's block holds the product over the rows so far. -/
theorem after (n : ℕ) (h : n < cfg0.N) (w : Fin 1) (p : Fin 1024) (q : Fin 1024) :
    outsAt0 m c n h (ix3 w p q) = ∑ s ∈ Finset.range (2048 * (n % 4 + 1)), lhs m c s (p.val) * rhs m c s (1024 * (n / 4) + q.val) := by
  induction n using Nat.strong_induction_on with
  | _ n ih =>
    have hn := hN
    by_cases h0 : n % 4 = 0
    · refine (congrFun (outsAt0_A m c ⟨n, h⟩ h0 (by dsimp only; omega)) (ix3 w p q)).trans ?_
      rw [out_A]
      exact sum_first _ h0 (fun s => lhs m c s (p.val) * rhs m c s (1024 * (n / 4) + q.val)) _ fun r => by rw [iblk0_at, iblk1_at]
    · refine (congrFun (outsAt0_B m c ⟨n, h⟩ h0 (by dsimp only; omega)) (ix3 w p q)).trans ?_
      rw [out_B]
      refine sum_next _ (fun s => lhs m c s (p.val) * rhs m c s (1024 * (n / 4) + q.val)) _ _ ?_ fun r => by rw [iblk0_at, iblk1_at]
      refine (ih (n - 1) (by omega) (by omega)).trans ?_
      rw [show (n - 1) / 4 = n / 4 by omega, show (n - 1) % 4 + 1 = n % 4 by omega]

/-- The result, as contents of the result array: the product at its place, the third argument elsewhere. -/
def prod : Buf (Elt Ideal) ((c : Thread nD τ).loc main_v2) := fun y : S4x3072x1024.Idx =>
  (if (y 1).val / 1024 = 1 then ∑ s ∈ Finset.range 8192, lhs m c s ((y 1).val - 1024) * rhs m c s ((y 0).val * 1024 + (y 2).val)
    else m ((c : Thread nD τ).loc main_arg2) y : EReal)

/-- What the last point of a block leaves is the result at the block's place. -/
theorem block_at (t : Fin cfg0.N) (h3 : t.val % 4 = 3) (w : Fin 1) (p : Fin 1024) (q : Fin 1024) :
    outsAt0 m c t.val t.isLt (ix3 w p q) = prod m c (((cfg0.win 2).blk t).view.emb (ix3 w p q)) := by
  have hn := hN
  have ht := t.isLt
  have e0 : (((cfg0.win 2).blk t).view.emb (ix3 w p q) 0).val = 1 * (t.val / 4) + w.val := by
    show win0_2.index t 0 * 1 + 1 * w.val = _
    rw [(idx2 t).1]; omega
  have e1 : (((cfg0.win 2).blk t).view.emb (ix3 w p q) 1).val = 1024 + p.val := by
    show win0_2.index t 1 * 1024 + 1 * p.val = _
    rw [(idx2 t).2.1]; omega
  have e2 : (((cfg0.win 2).blk t).view.emb (ix3 w p q) 2).val = q.val := by
    show win0_2.index t 2 * 1024 + 1 * q.val = _
    rw [(idx2 t).2.2]; omega
  have e : (∑ s ∈ Finset.range (2048 * (t.val % 4 + 1)), lhs m c s (p.val) * rhs m c s (1024 * (t.val / 4) + q.val) : EReal) = ∑ s ∈ Finset.range 8192, lhs m c s ((1024 + p.val) - 1024) * rhs m c s ((1 * (t.val / 4) + w.val) * 1024 + q.val) := by
    rw [show 2048 * (t.val % 4 + 1) = 8192 by omega]
    exact Finset.sum_congr rfl fun s _ => congrArg₂ (fun a b => lhs m c s a * rhs m c s b) (by omega) (by omega)
  refine (after m c t.val t.isLt w p q).trans (e.trans ?_)
  unfold prod
  rw [e0, e1, e2, if_pos (by omega)]

/-- The result array ends holding it. -/
theorem final : (dats m 0 c).arrAt 2 cfg0.N = prod m c :=
  (dats m 0 c).arrAt_eq_of_coversWhere_of_agree 2 (prod m c) (fun β => β (1 : Fin 3) = 1) (by decide +kernel)
    (fun t hf y => by
      obtain ⟨w, p, q, rfl⟩ : ∃ (w : Fin 1) (p : Fin 1024) (q : Fin 1024), y = ix3 w p q := ⟨y 0, y 1, y 2, ValueIdx.eq_ix3 y⟩
      exact (congrFun (after0_2 m c t) (ix3 w p q)).trans (block_at m c t ((flush0_2 t).mp hf) w p q))
    fun j hj => by
      have hq : ¬ (j 1).val / 1024 = 1 := hj
      refine (congrFun (A_eq m c 2) _).trans ?_
      refine (congrFun (V2 m c) j).trans ?_
      show _ = prod m c j
      unfold prod
      rw [if_neg hq]

/-- The reference's result is what the kernel's result array ends holding. -/
theorem equal (x0 : FVec Ideal Cert.DwUpRefIdeal.S8192x1024 .f32) (x1 : FVec Ideal Cert.DwUpRefIdeal.S8192x4096 .f32) (x2 : FVec Ideal Cert.DwUpRefIdeal.S4x3072x1024 .f32)
    (h0 : x0 = m ((c : Thread nD τ).loc main_arg0)) (h1 : x1 = m ((c : Thread nD τ).loc main_arg1)) (h2 : x2 = m ((c : Thread nD τ).loc main_arg2)) :
    Cert.DwUpRefIdeal.Reading.out x0 x1 x2 = (dats m 0 c).arrAt 2 cfg0.N := by
  rw [final]
  funext y
  obtain ⟨i, j, k, rfl⟩ : ∃ (i : Fin 4) (j : Fin 3072) (k : Fin 1024), y = ix3 i j k := ⟨y 0, y 1, y 2, ValueIdx.eq_ix3 y⟩
  refine (Cert.DwUpRefIdeal.Reading.out_at x0 x1 x2 i j k).trans ?_
  show _ = (if j.val / 1024 = 1 then ∑ s ∈ Finset.range 8192, lhs m c s (j.val - 1024) * rhs m c s (i.val * 1024 + k.val)
    else m ((c : Thread nD τ).loc main_arg2) (ix3 i j k) : EReal)
  by_cases hl : j.val < 1024
  · rw [dif_pos hl, if_neg (by omega)]
    exact congrFun h2 (ix3 i j k)
  rw [dif_neg hl]
  by_cases hr : (j.val - 1024) < 1024
  · rw [dif_pos hr, if_pos (by omega), ← Fin.sum_univ_eq_sum_range (fun s => lhs m c s (j.val - 1024) * rhs m c s (i.val * 1024 + k.val))]
    refine Finset.sum_congr rfl fun r _ => ?_
    refine (congrArg₂ (· * ·) ((congrFun h1 (ix2 r ⟨i.val * 1024 + k.val, by omega⟩)).trans (rhs_of m c (p := r) (q := ⟨i.val * 1024 + k.val, by omega⟩) rfl rfl).symm)
      ((congrFun h0 (ix2 r ⟨j.val - 1024, by omega⟩)).trans (lhs_of m c (p := r) (q := ⟨j.val - 1024, by omega⟩) rfl rfl).symm)).trans ?_
    exact mul_comm (rhs m c r.val (i.val * 1024 + k.val)) (lhs m c r.val (j.val - 1024))
  · rw [dif_neg hr, if_neg (by omega)]
    rw [show (⟨2048 + (j.val - 1024 - 1024), by omega⟩ : Fin 3072) = j from Fin.ext (by show 2048 + (j.val - 1024 - 1024) = j.val; omega)]
    exact congrFun h2 (ix3 i j k)

end Cert.DwUpIdeal.Product

end
-- ==== Proof.DwPbValue.lean ====
/-
  The product `yb^T @ dpb` accumulated over row blocks into the packed array of every chip's rows: what each grid point stores, what the
  result's block holds after it, what the result array ends holding, and the reference's result.
-/
module

public import proofs.«01_k».proof.Proof.Blocks
public import proofs.«01_k».proof.Proof.Gen.DwPbIdeal.Value
public import proofs.«01_k».proof.Proof.Gen.DwPbRefIdeal.Run
public import Idealize.ShloMosaic.Lib.StableHlo.Run
public import Idealize.ShloMosaic.Lib.Pointwise
public import Idealize.ShloMosaic.Lib.Pipeline.ValueKit.Partial

@[expose] public section

set_option synthInstance.maxSize 4096
set_option maxRecDepth 16384

noncomputable section

namespace Cert.DwPbRefIdeal.Reading

open Idealize.ShloMosaic Idealize.ShloMosaic.TcCoe Cert.DwPbRefIdeal Cert.DwPbRefIdeal.Gen

/-- The reference's result, of the arguments' contents. -/
def out (x0 : FVec Ideal S8192x2048 .f32) (x1 : FVec Ideal S8192x1024 .f32) (x2 : FVec Ideal S4x3072x1024 .f32) : FVec Ideal S4x3072x1024 .f32 :=
  (concatenate S4x3072x1024 1 [⟨S4x2048x1024, ((extractStridedSlice S4x2048x1024 ![0, 0, 0] x2 slices_S4x3072x1024_S4x2048x1024_0_0_0) : (⟨S4x2048x1024, .f32⟩ : BufTy).Contents (Elt Ideal))⟩, ⟨S4x512x1024, ((shapeCast _ (transpose S2048x1024 [1, 0] (Host.dotGeneral dot_S8192x1024_S8192x2048_S1024x2048_0_0_1_1_n_n none x1 x0) transposes_S1024x2048_S2048x1024_1_0) shapeCasts_S2048x1024_S4x512x1024) : (⟨S4x512x1024, .f32⟩ : BufTy).Contents (Elt Ideal))⟩, ⟨S4x512x1024, ((extractStridedSlice S4x512x1024 ![0, 2560, 0] x2 slices_S4x3072x1024_S4x512x1024_0_2560_0) : (⟨S4x512x1024, .f32⟩ : BufTy).Contents (Elt Ideal))⟩] concatenates_S4x2048x1024_S4x512x1024_S4x512x1024_S4x3072x1024_d1 : (⟨S4x3072x1024, .f32⟩ : BufTy).Contents (Elt Ideal))

/-- The reference's result at an index. -/
theorem out_at (x0 : FVec Ideal S8192x2048 .f32) (x1 : FVec Ideal S8192x1024 .f32) (x2 : FVec Ideal S4x3072x1024 .f32) (i : Fin 4) (j : Fin 3072) (k : Fin 1024) : out x0 x1 x2 (ix3 i j k) = (if h : j.val < 2048 then x2 (ix3 i j k) else if h' : (j.val - 2048) < 512 then ∑ r : Fin 8192, x1 (ix2 r k) * x0 (ix2 r ⟨i.val * 512 + (j.val - 2048), by omega⟩) else x2 (ix3 i ⟨2560 + (j.val - 2048 - 512), by omega⟩ k) : EReal) := by
  unfold out
  pointwise []

end Cert.DwPbRefIdeal.Reading

namespace Cert.DwPbIdeal.Product

open Idealize.ShloMosaic Idealize.ShloMosaic.TcCoe Idealize.SL.Sem Cert.DwPbIdeal Cert.DwPbIdeal.Gen Cert.Blocks
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a3 : Memref sig .tc .vmem S2048x512 .bf16) (h3 : a3.IsWhole) (a4 : Memref sig .tc .vmem S2048x1024 .bf16)
    (h4 : a4.IsWhole) (a6 : Memref sig .tc .vmem S1x512x1024 .f32) (h6 : a6.IsWhole)

/-- A point of the first block stores that block's product. -/
theorem out_A (hc0 : cond0_0 i) (hc1 : ¬cond0_1 i) (x0 : Vec Ideal S2048x512 .bf16) (x1 : Vec Ideal S2048x1024 .bf16) (w : Fin 1) (p : Fin 512)
    (q : Fin 1024) :
    out0_A_2 c i a3 h3 a4 h4 a6 h6 hc0 hc1 x0 x1 (ix3 w p q) = ∑ r : Fin 2048, x0 (ix2 r p) * x1 (ix2 r q) := by
  unfold out0_A_2
  rw [View.read_writes_eq_canon _ _ _ (cover0_A_2 _ _ _ _ _ _ _ _ _ _ _ _)]
  unfold kernelRun0_A
  dsimp only
  rw [View.canon_unit_zero hz3]
  simp only [View.readAt_eq_ld, h3.read_unread, h4.read_unread, View.ld_unit_zero (S := S2048x512) hz, View.ld_unit_zero (S := S2048x1024) hz, View.ld_unit_zero (S := S1x512x1024) hz3]
  pointwise [k0_pay2, k0_pay1]

/-- A point of a later block adds that block's product to what the point before left. -/
theorem out_B (hc0 : ¬cond0_0 i) (hc1 : cond0_1 i) (x0 : Vec Ideal S2048x512 .bf16) (x1 : Vec Ideal S2048x1024 .bf16) (xo : Vec Ideal S1x512x1024 .f32)
    (w : Fin 1) (p : Fin 512) (q : Fin 1024) :
    out0_B_2 c i a3 h3 a4 h4 a6 h6 hc0 hc1 x0 x1 xo (ix3 w p q) = xo (ix3 w p q) + ∑ r : Fin 2048, x0 (ix2 r p) * x1 (ix2 r q) := by
  unfold out0_B_2
  rw [View.read_writes_eq_canon _ _ _ (cover0_B_2 _ _ _ _ _ _ _ _ _ _ _ _ _)]
  unfold kernelRun0_B
  dsimp only
  rw [View.canon_unit_zero hz3]
  simp only [View.readAt_eq_ld, h3.read_unread, h4.read_unread, h6.read_unread, View.ld_unit_zero (S := S2048x512) hz, View.ld_unit_zero (S := S2048x1024) hz, View.ld_unit_zero (S := S1x512x1024) hz3]
  obtain rfl : w = 0 := Subsingleton.elim _ _
  pointwise [k0_pay3, k0_pay1]

end

variable (m : (ℓ : Loc nD τ sig) → Buf (Elt Ideal) ℓ) (c : Dev nD)

theorem hN : cfg0.N = 16 := N_0

theorem idx0 : ∀ t : Fin cfg0.N, win0_0.index t 0 = t.val % 4 ∧ win0_0.index t 1 = (t.val / 4) := by
  show ∀ t : Fin grid0.N, _
  decide +kernel

theorem idx1 : ∀ t : Fin cfg0.N, win0_1.index t 0 = t.val % 4 ∧ win0_1.index t 1 = 0 := by
  show ∀ t : Fin grid0.N, _
  decide +kernel

theorem idx2 : ∀ t : Fin cfg0.N, win0_2.index t 0 = t.val / 4 ∧ win0_2.index t 1 = 4 ∧ win0_2.index t 2 = 0 := by
  show ∀ t : Fin grid0.N, _
  decide +kernel

/-- The two factors at natural-number indices. -/
def lhs : ℕ → ℕ → EReal := nat2 fun (i : Fin 8192) (j : Fin 2048) => m ((c : Thread nD τ).loc main_arg0) (ix2 i j)
def rhs : ℕ → ℕ → EReal := nat2 fun (i : Fin 8192) (j : Fin 1024) => m ((c : Thread nD τ).loc main_arg1) (ix2 i j)
theorem lhs_of {i j : ℕ} {p : Fin 8192} {q : Fin 2048} (hp : p.val = i) (hq : q.val = j) : lhs m c i j = m ((c : Thread nD τ).loc main_arg0) (ix2 p q) := nat2_of _ hp hq
theorem rhs_of {i j : ℕ} {p : Fin 8192} {q : Fin 1024} (hp : p.val = i) (hq : q.val = j) : rhs m c i j = m ((c : Thread nD τ).loc main_arg1) (ix2 p q) := nat2_of _ hp hq

theorem V0 (i : Fin 8192) (j : Fin 2048) : (V m c main_v0 : FVec Ideal S8192x2048 .bf16) (ix2 i j) = m ((c : Thread nD τ).loc main_arg0) (ix2 i j) := by
  have e : V m c main_v0 = (truncf .bf16 (m ((c : Thread nD τ).loc main_arg0)) bitsLt_bf16_f32 : FVec Ideal S8192x2048 .bf16) := by
    unfold V
    after_results
  rw [e]
  pointwise []

theorem V1 (i : Fin 8192) (j : Fin 1024) : (V m c main_v1 : FVec Ideal S8192x1024 .bf16) (ix2 i j) = m ((c : Thread nD τ).loc main_arg1) (ix2 i j) := by
  have e : V m c main_v1 = (truncf .bf16 (m ((c : Thread nD τ).loc main_arg1)) bitsLt_bf16_f32 : FVec Ideal S8192x1024 .bf16) := by
    unfold V
    after_results
  rw [e]
  pointwise []

/-- The result array starts as the third argument. -/
theorem V2 : V m c main_v2 = (m ((c : Thread nD τ).loc main_arg2) : FVec Ideal S4x3072x1024 .f32) := by
  unfold V
  after_results
  rfl

theorem iblk0_at (t : Fin cfg0.N) (r : Fin 2048) (j : Fin 512) :
    (iblk m c 0 t : Vec Ideal S2048x512 .bf16) (ix2 r j) = lhs m c (2048 * (t.val % 4) + r.val) (512 * (t.val / 4) + j.val) := by
  have ht := t.isLt
  have := hN
  have e := V0 m c ⟨2048 * (t.val % 4) + r.val, by omega⟩ ⟨512 * (t.val / 4) + j.val, by omega⟩
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 512 + 1 * j.val = 512 * (t.val / 4) + j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (j.val) := by
  have ht := t.isLt
  have := hN
  have e := V1 m c ⟨2048 * (t.val % 4) + r.val, by omega⟩ j
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = j.val; rw [(idx1 t).2]; omega))

/-- After a grid point the result's block holds the product over the rows so far. -/
theorem after (n : ℕ) (h : n < cfg0.N) (w : Fin 1) (p : Fin 512) (q : Fin 1024) :
    outsAt0 m c n h (ix3 w p q) = ∑ s ∈ Finset.range (2048 * (n % 4 + 1)), lhs m c s (512 * (n / 4) + p.val) * rhs m c s (q.val) := by
  induction n using Nat.strong_induction_on with
  | _ n ih =>
    have hn := hN
    by_cases h0 : n % 4 = 0
    · refine (congrFun (outsAt0_A m c ⟨n, h⟩ h0 (by dsimp only; omega)) (ix3 w p q)).trans ?_
      rw [out_A]
      exact sum_first _ h0 (fun s => lhs m c s (512 * (n / 4) + p.val) * rhs m c s (q.val)) _ fun r => by rw [iblk0_at, iblk1_at]
    · refine (congrFun (outsAt0_B m c ⟨n, h⟩ h0 (by dsimp only; omega)) (ix3 w p q)).trans ?_
      rw [out_B]
      refine sum_next _ (fun s => lhs m c s (512 * (n / 4) + p.val) * rhs m c s (q.val)) _ _ ?_ fun r => by rw [iblk0_at, iblk1_at]
      refine (ih (n - 1) (by omega) (by omega)).trans ?_
      rw [show (n - 1) / 4 = n / 4 by omega, show (n - 1) % 4 + 1 = n % 4 by omega]

/-- The result, as contents of the result array: the product at its place, the third argument elsewhere. -/
def prod : Buf (Elt Ideal) ((c : Thread nD τ).loc main_v2) := fun y : S4x3072x1024.Idx =>
  (if (y 1).val / 512 = 4 then ∑ s ∈ Finset.range 8192, lhs m c s ((y 0).val * 512 + ((y 1).val - 2048)) * rhs m c s ((y 2).val)
    else m ((c : Thread nD τ).loc main_arg2) y : EReal)

/-- What the last point of a block leaves is the result at the block's place. -/
theorem block_at (t : Fin cfg0.N) (h3 : t.val % 4 = 3) (w : Fin 1) (p : Fin 512) (q : Fin 1024) :
    outsAt0 m c t.val t.isLt (ix3 w p q) = prod m c (((cfg0.win 2).blk t).view.emb (ix3 w p q)) := by
  have hn := hN
  have ht := t.isLt
  have e0 : (((cfg0.win 2).blk t).view.emb (ix3 w p q) 0).val = 1 * (t.val / 4) + w.val := by
    show win0_2.index t 0 * 1 + 1 * w.val = _
    rw [(idx2 t).1]; omega
  have e1 : (((cfg0.win 2).blk t).view.emb (ix3 w p q) 1).val = 2048 + p.val := by
    show win0_2.index t 1 * 512 + 1 * p.val = _
    rw [(idx2 t).2.1]; omega
  have e2 : (((cfg0.win 2).blk t).view.emb (ix3 w p q) 2).val = q.val := by
    show win0_2.index t 2 * 1024 + 1 * q.val = _
    rw [(idx2 t).2.2]; omega
  have e : (∑ s ∈ Finset.range (2048 * (t.val % 4 + 1)), lhs m c s (512 * (t.val / 4) + p.val) * rhs m c s (q.val) : EReal) = ∑ s ∈ Finset.range 8192, lhs m c s ((1 * (t.val / 4) + w.val) * 512 + ((2048 + p.val) - 2048)) * rhs m c s (q.val) := by
    rw [show 2048 * (t.val % 4 + 1) = 8192 by omega]
    exact Finset.sum_congr rfl fun s _ => congrArg₂ (fun a b => lhs m c s a * rhs m c s b) (by omega) (by omega)
  refine (after m c t.val t.isLt w p q).trans (e.trans ?_)
  unfold prod
  rw [e0, e1, e2, if_pos (by omega)]

/-- The result array ends holding it. -/
theorem final : (dats m 0 c).arrAt 2 cfg0.N = prod m c :=
  (dats m 0 c).arrAt_eq_of_coversWhere_of_agree 2 (prod m c) (fun β => β (1 : Fin 3) = 4) (by decide +kernel)
    (fun t hf y => by
      obtain ⟨w, p, q, rfl⟩ : ∃ (w : Fin 1) (p : Fin 512) (q : Fin 1024), y = ix3 w p q := ⟨y 0, y 1, y 2, ValueIdx.eq_ix3 y⟩
      exact (congrFun (after0_2 m c t) (ix3 w p q)).trans (block_at m c t ((flush0_2 t).mp hf) w p q))
    fun j hj => by
      have hq : ¬ (j 1).val / 512 = 4 := hj
      refine (congrFun (A_eq m c 2) _).trans ?_
      refine (congrFun (V2 m c) j).trans ?_
      show _ = prod m c j
      unfold prod
      rw [if_neg hq]

/-- The reference's result is what the kernel's result array ends holding. -/
theorem equal (x0 : FVec Ideal Cert.DwPbRefIdeal.S8192x2048 .f32) (x1 : FVec Ideal Cert.DwPbRefIdeal.S8192x1024 .f32) (x2 : FVec Ideal Cert.DwPbRefIdeal.S4x3072x1024 .f32)
    (h0 : x0 = m ((c : Thread nD τ).loc main_arg0)) (h1 : x1 = m ((c : Thread nD τ).loc main_arg1)) (h2 : x2 = m ((c : Thread nD τ).loc main_arg2)) :
    Cert.DwPbRefIdeal.Reading.out x0 x1 x2 = (dats m 0 c).arrAt 2 cfg0.N := by
  rw [final]
  funext y
  obtain ⟨i, j, k, rfl⟩ : ∃ (i : Fin 4) (j : Fin 3072) (k : Fin 1024), y = ix3 i j k := ⟨y 0, y 1, y 2, ValueIdx.eq_ix3 y⟩
  refine (Cert.DwPbRefIdeal.Reading.out_at x0 x1 x2 i j k).trans ?_
  show _ = (if j.val / 512 = 4 then ∑ s ∈ Finset.range 8192, lhs m c s (i.val * 512 + (j.val - 2048)) * rhs m c s (k.val)
    else m ((c : Thread nD τ).loc main_arg2) (ix3 i j k) : EReal)
  by_cases hl : j.val < 2048
  · rw [dif_pos hl, if_neg (by omega)]
    exact congrFun h2 (ix3 i j k)
  rw [dif_neg hl]
  by_cases hr : (j.val - 2048) < 512
  · rw [dif_pos hr, if_pos (by omega), ← Fin.sum_univ_eq_sum_range (fun s => lhs m c s (i.val * 512 + (j.val - 2048)) * rhs m c s (k.val))]
    refine Finset.sum_congr rfl fun r _ => ?_
    refine (congrArg₂ (· * ·) ((congrFun h1 (ix2 r k)).trans (rhs_of m c (p := r) (q := k) rfl rfl).symm)
      ((congrFun h0 (ix2 r ⟨i.val * 512 + (j.val - 2048), by omega⟩)).trans (lhs_of m c (p := r) (q := ⟨i.val * 512 + (j.val - 2048), by omega⟩) rfl rfl).symm)).trans ?_
    exact mul_comm (rhs m c r.val (k.val)) (lhs m c r.val (i.val * 512 + (j.val - 2048)))
  · rw [dif_neg hr, if_neg (by omega)]
    rw [show (⟨2560 + (j.val - 2048 - 512), by omega⟩ : Fin 3072) = j from Fin.ext (by show 2560 + (j.val - 2048 - 512) = j.val; omega)]
    exact congrFun h2 (ix3 i j k)

end Cert.DwPbIdeal.Product

end
-- ==== Proof.DwPaValue.lean ====
/-
  The product `ya^T @ dpa` accumulated over row blocks into the packed array of every chip's rows: what each grid point stores, what the
  result's block holds after it, what the result array ends holding, and the reference's result.
-/
module

public import proofs.«01_k».proof.Proof.Blocks
public import proofs.«01_k».proof.Proof.Gen.DwPaIdeal.Value
public import proofs.«01_k».proof.Proof.Gen.DwPaRefIdeal.Run
public import Idealize.ShloMosaic.Lib.StableHlo.Run
public import Idealize.ShloMosaic.Lib.Pointwise
public import Idealize.ShloMosaic.Lib.Pipeline.ValueKit.Partial

@[expose] public section

set_option synthInstance.maxSize 4096
set_option maxRecDepth 16384

noncomputable section

namespace Cert.DwPaRefIdeal.Reading

open Idealize.ShloMosaic Idealize.ShloMosaic.TcCoe Cert.DwPaRefIdeal Cert.DwPaRefIdeal.Gen

/-- The reference's result, of the arguments' contents. -/
def out (x0 x1 : FVec Ideal S8192x1024 .f32) (x2 : FVec Ideal S4x3072x1024 .f32) : FVec Ideal S4x3072x1024 .f32 :=
  (concatenate S4x3072x1024 1 [⟨S4x2560x1024, ((extractStridedSlice S4x2560x1024 ![0, 0, 0] x2 slices_S4x3072x1024_S4x2560x1024_0_0_0) : (⟨S4x2560x1024, .f32⟩ : BufTy).Contents (Elt Ideal))⟩, ⟨S4x256x1024, ((shapeCast _ (transpose S1024x1024 [1, 0] (Host.dotGeneral dot_S8192x1024_S8192x1024_S1024x1024_0_0_1_1_n_n none x1 x0) transposes_S1024x1024_S1024x1024_1_0) shapeCasts_S1024x1024_S4x256x1024) : (⟨S4x256x1024, .f32⟩ : BufTy).Contents (Elt Ideal))⟩, ⟨S4x256x1024, ((extractStridedSlice S4x256x1024 ![0, 2816, 0] x2 slices_S4x3072x1024_S4x256x1024_0_2816_0) : (⟨S4x256x1024, .f32⟩ : BufTy).Contents (Elt Ideal))⟩] concatenates_S4x2560x1024_S4x256x1024_S4x256x1024_S4x3072x1024_d1 : (⟨S4x3072x1024, .f32⟩ : BufTy).Contents (Elt Ideal))

/-- The reference's result at an index. -/
theorem out_at (x0 x1 : FVec Ideal S8192x1024 .f32) (x2 : FVec Ideal S4x3072x1024 .f32) (i : Fin 4) (j : Fin 3072) (k : Fin 1024) : out x0 x1 x2 (ix3 i j k) = (if h : j.val < 2560 then x2 (ix3 i j k) else if h' : (j.val - 2560) < 256 then ∑ r : Fin 8192, x1 (ix2 r k) * x0 (ix2 r ⟨i.val * 256 + (j.val - 2560), by omega⟩) else x2 (ix3 i ⟨2816 + (j.val - 2560 - 256), by omega⟩ k) : EReal) := by
  unfold out
  pointwise []

end Cert.DwPaRefIdeal.Reading

namespace Cert.DwPaIdeal.Product

open Idealize.ShloMosaic Idealize.ShloMosaic.TcCoe Idealize.SL.Sem Cert.DwPaIdeal Cert.DwPaIdeal.Gen Cert.Blocks
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a3 : Memref sig .tc .vmem S2048x1024 .bf16) (h3 : a3.IsWhole) (a4 : Memref sig .tc .vmem S2048x1024 .bf16)
    (h4 : a4.IsWhole) (a6 : Memref sig .tc .vmem S4x256x1024 .f32) (h6 : a6.IsWhole)

/-- A point of the first block stores that block's product. -/
theorem out_A (hc0 : cond0_0 i) (hc1 : ¬cond0_1 i) (x0 x1 : Vec Ideal S2048x1024 .bf16) (w : Fin 4) (p : Fin 256)
    (q : Fin 1024) :
    out0_A_2 c i a3 h3 a4 h4 a6 h6 hc0 hc1 x0 x1 (ix3 w p q) = ∑ r : Fin 2048, x0 (ix2 r ⟨w.val * 256 + p.val, by omega⟩) * x1 (ix2 r q) := by
  unfold out0_A_2
  rw [View.read_writes_eq_canon _ _ _ (cover0_A_2 _ _ _ _ _ _ _ _ _ _ _ _)]
  unfold kernelRun0_A
  dsimp only
  rw [View.canon_unit_zero hz3]
  simp only [View.readAt_eq_ld, h3.read_unread, h4.read_unread, View.ld_unit_zero (S := S2048x1024) hz, View.ld_unit_zero (S := S4x256x1024) hz3]
  pointwise [k0_pay1]

/-- A point of a later block adds that block's product to what the point before left. -/
theorem out_B (hc0 : ¬cond0_0 i) (hc1 : cond0_1 i) (x0 x1 : Vec Ideal S2048x1024 .bf16)
    (xo : Vec Ideal S4x256x1024 .f32) (w : Fin 4) (p : Fin 256) (q : Fin 1024) :
    out0_B_2 c i a3 h3 a4 h4 a6 h6 hc0 hc1 x0 x1 xo (ix3 w p q) = xo (ix3 w p q) + ∑ r : Fin 2048, x0 (ix2 r ⟨w.val * 256 + p.val, by omega⟩) * x1 (ix2 r q) := by
  unfold out0_B_2
  rw [View.read_writes_eq_canon _ _ _ (cover0_B_2 _ _ _ _ _ _ _ _ _ _ _ _ _)]
  unfold kernelRun0_B
  dsimp only
  rw [View.canon_unit_zero hz3]
  simp only [View.readAt_eq_ld, h3.read_unread, h4.read_unread, h6.read_unread, View.ld_unit_zero (S := S2048x1024) hz, View.ld_unit_zero (S := S4x256x1024) hz3]
  pointwise [k0_pay2, k0_pay1]

end

variable (m : (ℓ : Loc nD τ sig) → Buf (Elt Ideal) ℓ) (c : Dev nD)

theorem hN : cfg0.N = 4 := N_0

theorem idx0 : ∀ t : Fin cfg0.N, win0_0.index t 0 = t.val % 4 ∧ win0_0.index t 1 = 0 := by
  show ∀ t : Fin grid0.N, _
  decide +kernel

theorem idx1 : ∀ t : Fin cfg0.N, win0_1.index t 0 = t.val % 4 ∧ win0_1.index t 1 = 0 := by
  show ∀ t : Fin grid0.N, _
  decide +kernel

theorem idx2 : ∀ t : Fin cfg0.N, win0_2.index t 0 = 0 ∧ win0_2.index t 1 = 10 ∧ win0_2.index t 2 = 0 := by
  show ∀ t : Fin grid0.N, _
  decide +kernel

/-- The two factors at natural-number indices. -/
def lhs : ℕ → ℕ → EReal := nat2 fun (i : Fin 8192) (j : Fin 1024) => m ((c : Thread nD τ).loc main_arg0) (ix2 i j)
def rhs : ℕ → ℕ → EReal := nat2 fun (i : Fin 8192) (j : Fin 1024) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 8192} {q : Fin 1024} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 8192) (j : Fin 1024) : (V m c main_v1 : FVec Ideal S8192x1024 .bf16) (ix2 i j) = m ((c : Thread nD τ).loc main_arg1) (ix2 i j) := by
  have e : V m c main_v1 = (truncf .bf16 (m ((c : Thread nD τ).loc main_arg1)) bitsLt_bf16_f32 : FVec Ideal S8192x1024 .bf16) := by
    unfold V
    after_results
  rw [e]
  pointwise []

/-- The result array starts as the third argument. -/
theorem V2 : V m c main_v2 = (m ((c : Thread nD τ).loc main_arg2) : FVec Ideal S4x3072x1024 .f32) := by
  unfold V
  after_results
  rfl

theorem iblk0_at (t : Fin cfg0.N) (r : Fin 2048) (j : Fin 1024) :
    (iblk m c 0 t : Vec Ideal S2048x1024 .bf16) (ix2 r j) = lhs m c (2048 * (t.val % 4) + r.val) (j.val) := by
  have ht := t.isLt
  have := hN
  have e := V0 m c ⟨2048 * (t.val % 4) + r.val, by omega⟩ j
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (j.val) := by
  have ht := t.isLt
  have := hN
  have e := V1 m c ⟨2048 * (t.val % 4) + r.val, by omega⟩ j
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = j.val; rw [(idx1 t).2]; omega))

/-- After a grid point the result's block holds the product over the rows so far. -/
theorem after (n : ℕ) (h : n < cfg0.N) (w : Fin 4) (p : Fin 256) (q : Fin 1024) :
    outsAt0 m c n h (ix3 w p q) = ∑ s ∈ Finset.range (2048 * (n % 4 + 1)), lhs m c s ((w.val * 256 + p.val)) * rhs m c s (q.val) := by
  induction n using Nat.strong_induction_on with
  | _ n ih =>
    have hn := hN
    by_cases h0 : n % 4 = 0
    · refine (congrFun (outsAt0_A m c ⟨n, h⟩ h0 (by dsimp only; omega)) (ix3 w p q)).trans ?_
      rw [out_A]
      exact sum_first _ h0 (fun s => lhs m c s ((w.val * 256 + p.val)) * rhs m c s (q.val)) _ fun r => by rw [iblk0_at, iblk1_at]
    · refine (congrFun (outsAt0_B m c ⟨n, h⟩ h0 (by dsimp only; omega)) (ix3 w p q)).trans ?_
      rw [out_B]
      refine sum_next _ (fun s => lhs m c s ((w.val * 256 + p.val)) * rhs m c s (q.val)) _ _ ?_ fun r => by rw [iblk0_at, iblk1_at]
      refine (ih (n - 1) (by omega) (by omega)).trans ?_
      rw [show (n - 1) % 4 + 1 = n % 4 by omega]

/-- The result, as contents of the result array: the product at its place, the third argument elsewhere. -/
def prod : Buf (Elt Ideal) ((c : Thread nD τ).loc main_v2) := fun y : S4x3072x1024.Idx =>
  (if (y 1).val / 256 = 10 then ∑ s ∈ Finset.range 8192, lhs m c s ((y 0).val * 256 + ((y 1).val - 2560)) * rhs m c s ((y 2).val)
    else m ((c : Thread nD τ).loc main_arg2) y : EReal)

/-- What the last point of a block leaves is the result at the block's place. -/
theorem block_at (t : Fin cfg0.N) (h3 : t.val % 4 = 3) (w : Fin 4) (p : Fin 256) (q : Fin 1024) :
    outsAt0 m c t.val t.isLt (ix3 w p q) = prod m c (((cfg0.win 2).blk t).view.emb (ix3 w p q)) := by
  have hn := hN
  have ht := t.isLt
  have e0 : (((cfg0.win 2).blk t).view.emb (ix3 w p q) 0).val = 4 * (0) + w.val := by
    show win0_2.index t 0 * 4 + 1 * w.val = _
    rw [(idx2 t).1]; omega
  have e1 : (((cfg0.win 2).blk t).view.emb (ix3 w p q) 1).val = 2560 + p.val := by
    show win0_2.index t 1 * 256 + 1 * p.val = _
    rw [(idx2 t).2.1]; omega
  have e2 : (((cfg0.win 2).blk t).view.emb (ix3 w p q) 2).val = q.val := by
    show win0_2.index t 2 * 1024 + 1 * q.val = _
    rw [(idx2 t).2.2]; omega
  have e : (∑ s ∈ Finset.range (2048 * (t.val % 4 + 1)), lhs m c s ((w.val * 256 + p.val)) * rhs m c s (q.val) : EReal) = ∑ s ∈ Finset.range 8192, lhs m c s ((4 * (0) + w.val) * 256 + ((2560 + p.val) - 2560)) * rhs m c s (q.val) := by
    rw [show 2048 * (t.val % 4 + 1) = 8192 by omega]
    exact Finset.sum_congr rfl fun s _ => congrArg₂ (fun a b => lhs m c s a * rhs m c s b) (by omega) (by omega)
  refine (after m c t.val t.isLt w p q).trans (e.trans ?_)
  unfold prod
  rw [e0, e1, e2, if_pos (by omega)]

/-- The result array ends holding it. -/
theorem final : (dats m 0 c).arrAt 2 cfg0.N = prod m c :=
  (dats m 0 c).arrAt_eq_of_coversWhere_of_agree 2 (prod m c) (fun β => β (1 : Fin 3) = 10) (by decide +kernel)
    (fun t hf y => by
      obtain ⟨w, p, q, rfl⟩ : ∃ (w : Fin 4) (p : Fin 256) (q : Fin 1024), y = ix3 w p q := ⟨y 0, y 1, y 2, ValueIdx.eq_ix3 y⟩
      exact (congrFun (after0_2 m c t) (ix3 w p q)).trans (block_at m c t ((flush0_2 t).mp hf) w p q))
    fun j hj => by
      have hq : ¬ (j 1).val / 256 = 10 := hj
      refine (congrFun (A_eq m c 2) _).trans ?_
      refine (congrFun (V2 m c) j).trans ?_
      show _ = prod m c j
      unfold prod
      rw [if_neg hq]

/-- The reference's result is what the kernel's result array ends holding. -/
theorem equal (x0 x1 : FVec Ideal Cert.DwPaRefIdeal.S8192x1024 .f32) (x2 : FVec Ideal Cert.DwPaRefIdeal.S4x3072x1024 .f32)
    (h0 : x0 = m ((c : Thread nD τ).loc main_arg0)) (h1 : x1 = m ((c : Thread nD τ).loc main_arg1)) (h2 : x2 = m ((c : Thread nD τ).loc main_arg2)) :
    Cert.DwPaRefIdeal.Reading.out x0 x1 x2 = (dats m 0 c).arrAt 2 cfg0.N := by
  rw [final]
  funext y
  obtain ⟨i, j, k, rfl⟩ : ∃ (i : Fin 4) (j : Fin 3072) (k : Fin 1024), y = ix3 i j k := ⟨y 0, y 1, y 2, ValueIdx.eq_ix3 y⟩
  refine (Cert.DwPaRefIdeal.Reading.out_at x0 x1 x2 i j k).trans ?_
  show _ = (if j.val / 256 = 10 then ∑ s ∈ Finset.range 8192, lhs m c s (i.val * 256 + (j.val - 2560)) * rhs m c s (k.val)
    else m ((c : Thread nD τ).loc main_arg2) (ix3 i j k) : EReal)
  by_cases hl : j.val < 2560
  · rw [dif_pos hl, if_neg (by omega)]
    exact congrFun h2 (ix3 i j k)
  rw [dif_neg hl]
  by_cases hr : (j.val - 2560) < 256
  · rw [dif_pos hr, if_pos (by omega), ← Fin.sum_univ_eq_sum_range (fun s => lhs m c s (i.val * 256 + (j.val - 2560)) * rhs m c s (k.val))]
    refine Finset.sum_congr rfl fun r _ => ?_
    refine (congrArg₂ (· * ·) ((congrFun h1 (ix2 r k)).trans (rhs_of m c (p := r) (q := k) rfl rfl).symm)
      ((congrFun h0 (ix2 r ⟨i.val * 256 + (j.val - 2560), by omega⟩)).trans (lhs_of m c (p := r) (q := ⟨i.val * 256 + (j.val - 2560), by omega⟩) rfl rfl).symm)).trans ?_
    exact mul_comm (rhs m c r.val (k.val)) (lhs m c r.val (i.val * 256 + (j.val - 2560)))
  · rw [dif_neg hr, if_neg (by omega)]
    rw [show (⟨2816 + (j.val - 2560 - 256), by omega⟩ : Fin 3072) = j from Fin.ext (by show 2816 + (j.val - 2560 - 256) = j.val; omega)]
    exact congrFun h2 (ix3 i j k)

end Cert.DwPaIdeal.Product

end
-- ==== Proof.DwOutValue.lean ====
/-
  The product `merged^T @ dx1` accumulated over row blocks into the packed array of every chip's rows: what each grid point stores, what the
  result's block holds after it, what the result array ends holding, and the reference's result.
-/
module

public import proofs.«01_k».proof.Proof.Blocks
public import proofs.«01_k».proof.Proof.Gen.DwOutIdeal.Value
public import proofs.«01_k».proof.Proof.Gen.DwOutRefIdeal.Run
public import Idealize.ShloMosaic.Lib.StableHlo.Run
public import Idealize.ShloMosaic.Lib.Pointwise
public import Idealize.ShloMosaic.Lib.Pipeline.ValueKit.Partial

@[expose] public section

set_option synthInstance.maxSize 4096
set_option maxRecDepth 16384

noncomputable section

namespace Cert.DwOutRefIdeal.Reading

open Idealize.ShloMosaic Idealize.ShloMosaic.TcCoe Cert.DwOutRefIdeal Cert.DwOutRefIdeal.Gen

/-- The reference's result, of the arguments' contents. -/
def out (x0 x1 : FVec Ideal S8192x1024 .f32) (x2 : FVec Ideal S4x3072x1024 .f32) : FVec Ideal S4x3072x1024 .f32 :=
  (concatenate S4x3072x1024 1 [⟨S4x2816x1024, ((extractStridedSlice S4x2816x1024 ![0, 0, 0] x2 slices_S4x3072x1024_S4x2816x1024_0_0_0) : (⟨S4x2816x1024, .f32⟩ : BufTy).Contents (Elt Ideal))⟩, ⟨S4x256x1024, ((shapeCast _ (transpose S1024x1024 [1, 0] (Host.dotGeneral dot_S8192x1024_S8192x1024_S1024x1024_0_0_1_1_n_n none x1 x0) transposes_S1024x1024_S1024x1024_1_0) shapeCasts_S1024x1024_S4x256x1024) : (⟨S4x256x1024, .f32⟩ : BufTy).Contents (Elt Ideal))⟩, ⟨S4x0x1024, ((extractStridedSlice S4x0x1024 ![0, 3072, 0] x2 slices_S4x3072x1024_S4x0x1024_0_3072_0) : (⟨S4x0x1024, .f32⟩ : BufTy).Contents (Elt Ideal))⟩] concatenates_S4x2816x1024_S4x256x1024_S4x0x1024_S4x3072x1024_d1 : (⟨S4x3072x1024, .f32⟩ : BufTy).Contents (Elt Ideal))

/-- The reference's result at an index. -/
theorem out_at (x0 x1 : FVec Ideal S8192x1024 .f32) (x2 : FVec Ideal S4x3072x1024 .f32) (i : Fin 4) (j : Fin 3072) (k : Fin 1024) : out x0 x1 x2 (ix3 i j k) = (if h : j.val < 2816 then x2 (ix3 i j k) else if h' : (j.val - 2816) < 256 then ∑ r : Fin 8192, x1 (ix2 r k) * x0 (ix2 r ⟨i.val * 256 + (j.val - 2816), by omega⟩) else x2 (ix3 i ⟨3072 + (j.val - 2816 - 256), by omega⟩ k) : EReal) := by
  unfold out
  pointwise []

end Cert.DwOutRefIdeal.Reading

namespace Cert.DwOutIdeal.Product

open Idealize.ShloMosaic Idealize.ShloMosaic.TcCoe Idealize.SL.Sem Cert.DwOutIdeal Cert.DwOutIdeal.Gen Cert.Blocks
open Idealize.ShloMosaic.Pipeline (Dat)

theorem hz : (![0, 0] : Fin 2 → Nat) = fun _ => 0 := funext fun a => by fin_cases a <;> rfl
theorem hz3 : (![0, 0, 0] : Fin 3 → Nat) = fun _ => 0 := funext fun a => by fin_cases a <;> rfl

section

variable (c : Dev nD) (i : grid0.Coords) (a3 : Memref sig .tc .vmem S2048x1024 .bf16) (h3 : a3.IsWhole) (a4 : Memref sig .tc .vmem S2048x1024 .bf16)
    (h4 : a4.IsWhole) (a6 : Memref sig .tc .vmem S4x256x1024 .f32) (h6 : a6.IsWhole)

/-- A point of the first block stores that block's product. -/
theorem out_A (hc0 : cond0_0 i) (hc1 : ¬cond0_1 i) (x0 x1 : Vec Ideal S2048x1024 .bf16) (w : Fin 4) (p : Fin 256)
    (q : Fin 1024) :
    out0_A_2 c i a3 h3 a4 h4 a6 h6 hc0 hc1 x0 x1 (ix3 w p q) = ∑ r : Fin 2048, x0 (ix2 r ⟨w.val * 256 + p.val, by omega⟩) * x1 (ix2 r q) := by
  unfold out0_A_2
  rw [View.read_writes_eq_canon _ _ _ (cover0_A_2 _ _ _ _ _ _ _ _ _ _ _ _)]
  unfold kernelRun0_A
  dsimp only
  rw [View.canon_unit_zero hz3]
  simp only [View.readAt_eq_ld, h3.read_unread, h4.read_unread, View.ld_unit_zero (S := S2048x1024) hz, View.ld_unit_zero (S := S4x256x1024) hz3]
  pointwise [k0_pay1]

/-- A point of a later block adds that block's product to what the point before left. -/
theorem out_B (hc0 : ¬cond0_0 i) (hc1 : cond0_1 i) (x0 x1 : Vec Ideal S2048x1024 .bf16)
    (xo : Vec Ideal S4x256x1024 .f32) (w : Fin 4) (p : Fin 256) (q : Fin 1024) :
    out0_B_2 c i a3 h3 a4 h4 a6 h6 hc0 hc1 x0 x1 xo (ix3 w p q) = xo (ix3 w p q) + ∑ r : Fin 2048, x0 (ix2 r ⟨w.val * 256 + p.val, by omega⟩) * x1 (ix2 r q) := by
  unfold out0_B_2
  rw [View.read_writes_eq_canon _ _ _ (cover0_B_2 _ _ _ _ _ _ _ _ _ _ _ _ _)]
  unfold kernelRun0_B
  dsimp only
  rw [View.canon_unit_zero hz3]
  simp only [View.readAt_eq_ld, h3.read_unread, h4.read_unread, h6.read_unread, View.ld_unit_zero (S := S2048x1024) hz, View.ld_unit_zero (S := S4x256x1024) hz3]
  pointwise [k0_pay2, k0_pay1]

end

variable (m : (ℓ : Loc nD τ sig) → Buf (Elt Ideal) ℓ) (c : Dev nD)

theorem hN : cfg0.N = 4 := N_0

theorem idx0 : ∀ t : Fin cfg0.N, win0_0.index t 0 = t.val % 4 ∧ win0_0.index t 1 = 0 := by
  show ∀ t : Fin grid0.N, _
  decide +kernel

theorem idx1 : ∀ t : Fin cfg0.N, win0_1.index t 0 = t.val % 4 ∧ win0_1.index t 1 = 0 := by
  show ∀ t : Fin grid0.N, _
  decide +kernel

theorem idx2 : ∀ t : Fin cfg0.N, win0_2.index t 0 = 0 ∧ win0_2.index t 1 = 11 ∧ win0_2.index t 2 = 0 := by
  show ∀ t : Fin grid0.N, _
  decide +kernel

/-- The two factors at natural-number indices. -/
def lhs : ℕ → ℕ → EReal := nat2 fun (i : Fin 8192) (j : Fin 1024) => m ((c : Thread nD τ).loc main_arg0) (ix2 i j)
def rhs : ℕ → ℕ → EReal := nat2 fun (i : Fin 8192) (j : Fin 1024) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 8192} {q : Fin 1024} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 8192) (j : Fin 1024) : (V m c main_v1 : FVec Ideal S8192x1024 .bf16) (ix2 i j) = m ((c : Thread nD τ).loc main_arg1) (ix2 i j) := by
  have e : V m c main_v1 = (truncf .bf16 (m ((c : Thread nD τ).loc main_arg1)) bitsLt_bf16_f32 : FVec Ideal S8192x1024 .bf16) := by
    unfold V
    after_results
  rw [e]
  pointwise []

/-- The result array starts as the third argument. -/
theorem V2 : V m c main_v2 = (m ((c : Thread nD τ).loc main_arg2) : FVec Ideal S4x3072x1024 .f32) := by
  unfold V
  after_results
  rfl

theorem iblk0_at (t : Fin cfg0.N) (r : Fin 2048) (j : Fin 1024) :
    (iblk m c 0 t : Vec Ideal S2048x1024 .bf16) (ix2 r j) = lhs m c (2048 * (t.val % 4) + r.val) (j.val) := by
  have ht := t.isLt
  have := hN
  have e := V0 m c ⟨2048 * (t.val % 4) + r.val, by omega⟩ j
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = j.val; rw [(idx0 t).2]; omega))

theorem iblk1_at (t : Fin cfg0.N) (r : Fin 2048) (j : Fin 1024) :
    (iblk m c 1 t : Vec Ideal S2048x1024 .bf16) (ix2 r j) = rhs m c (2048 * (t.val % 4) + r.val) (j.val) := by
  have ht := t.isLt
  have := hN
  have e := V1 m c ⟨2048 * (t.val % 4) + r.val, by omega⟩ j
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 1024 + 1 * j.val = j.val; rw [(idx1 t).2]; omega))

/-- After a grid point the result's block holds the product over the rows so far. -/
theorem after (n : ℕ) (h : n < cfg0.N) (w : Fin 4) (p : Fin 256) (q : Fin 1024) :
    outsAt0 m c n h (ix3 w p q) = ∑ s ∈ Finset.range (2048 * (n % 4 + 1)), lhs m c s ((w.val * 256 + p.val)) * rhs m c s (q.val) := by
  induction n using Nat.strong_induction_on with
  | _ n ih =>
    have hn := hN
    by_cases h0 : n % 4 = 0
    · refine (congrFun (outsAt0_A m c ⟨n, h⟩ h0 (by dsimp only; omega)) (ix3 w p q)).trans ?_
      rw [out_A]
      exact sum_first _ h0 (fun s => lhs m c s ((w.val * 256 + p.val)) * rhs m c s (q.val)) _ fun r => by rw [iblk0_at, iblk1_at]
    · refine (congrFun (outsAt0_B m c ⟨n, h⟩ h0 (by dsimp only; omega)) (ix3 w p q)).trans ?_
      rw [out_B]
      refine sum_next _ (fun s => lhs m c s ((w.val * 256 + p.val)) * rhs m c s (q.val)) _ _ ?_ fun r => by rw [iblk0_at, iblk1_at]
      refine (ih (n - 1) (by omega) (by omega)).trans ?_
      rw [show (n - 1) % 4 + 1 = n % 4 by omega]

/-- The result, as contents of the result array: the product at its place, the third argument elsewhere. -/
def prod : Buf (Elt Ideal) ((c : Thread nD τ).loc main_v2) := fun y : S4x3072x1024.Idx =>
  (if (y 1).val / 256 = 11 then ∑ s ∈ Finset.range 8192, lhs m c s ((y 0).val * 256 + ((y 1).val - 2816)) * rhs m c s ((y 2).val)
    else m ((c : Thread nD τ).loc main_arg2) y : EReal)

/-- What the last point of a block leaves is the result at the block's place. -/
theorem block_at (t : Fin cfg0.N) (h3 : t.val % 4 = 3) (w : Fin 4) (p : Fin 256) (q : Fin 1024) :
    outsAt0 m c t.val t.isLt (ix3 w p q) = prod m c (((cfg0.win 2).blk t).view.emb (ix3 w p q)) := by
  have hn := hN
  have ht := t.isLt
  have e0 : (((cfg0.win 2).blk t).view.emb (ix3 w p q) 0).val = 4 * (0) + w.val := by
    show win0_2.index t 0 * 4 + 1 * w.val = _
    rw [(idx2 t).1]; omega
  have e1 : (((cfg0.win 2).blk t).view.emb (ix3 w p q) 1).val = 2816 + p.val := by
    show win0_2.index t 1 * 256 + 1 * p.val = _
    rw [(idx2 t).2.1]; omega
  have e2 : (((cfg0.win 2).blk t).view.emb (ix3 w p q) 2).val = q.val := by
    show win0_2.index t 2 * 1024 + 1 * q.val = _
    rw [(idx2 t).2.2]; omega
  have e : (∑ s ∈ Finset.range (2048 * (t.val % 4 + 1)), lhs m c s ((w.val * 256 + p.val)) * rhs m c s (q.val) : EReal) = ∑ s ∈ Finset.range 8192, lhs m c s ((4 * (0) + w.val) * 256 + ((2816 + p.val) - 2816)) * rhs m c s (q.val) := by
    rw [show 2048 * (t.val % 4 + 1) = 8192 by omega]
    exact Finset.sum_congr rfl fun s _ => congrArg₂ (fun a b => lhs m c s a * rhs m c s b) (by omega) (by omega)
  refine (after m c t.val t.isLt w p q).trans (e.trans ?_)
  unfold prod
  rw [e0, e1, e2, if_pos (by omega)]

/-- The result array ends holding it. -/
theorem final : (dats m 0 c).arrAt 2 cfg0.N = prod m c :=
  (dats m 0 c).arrAt_eq_of_coversWhere_of_agree 2 (prod m c) (fun β => β (1 : Fin 3) = 11) (by decide +kernel)
    (fun t hf y => by
      obtain ⟨w, p, q, rfl⟩ : ∃ (w : Fin 4) (p : Fin 256) (q : Fin 1024), y = ix3 w p q := ⟨y 0, y 1, y 2, ValueIdx.eq_ix3 y⟩
      exact (congrFun (after0_2 m c t) (ix3 w p q)).trans (block_at m c t ((flush0_2 t).mp hf) w p q))
    fun j hj => by
      have hq : ¬ (j 1).val / 256 = 11 := hj
      refine (congrFun (A_eq m c 2) _).trans ?_
      refine (congrFun (V2 m c) j).trans ?_
      show _ = prod m c j
      unfold prod
      rw [if_neg hq]

/-- The reference's result is what the kernel's result array ends holding. -/
theorem equal (x0 x1 : FVec Ideal Cert.DwOutRefIdeal.S8192x1024 .f32) (x2 : FVec Ideal Cert.DwOutRefIdeal.S4x3072x1024 .f32)
    (h0 : x0 = m ((c : Thread nD τ).loc main_arg0)) (h1 : x1 = m ((c : Thread nD τ).loc main_arg1)) (h2 : x2 = m ((c : Thread nD τ).loc main_arg2)) :
    Cert.DwOutRefIdeal.Reading.out x0 x1 x2 = (dats m 0 c).arrAt 2 cfg0.N := by
  rw [final]
  funext y
  obtain ⟨i, j, k, rfl⟩ : ∃ (i : Fin 4) (j : Fin 3072) (k : Fin 1024), y = ix3 i j k := ⟨y 0, y 1, y 2, ValueIdx.eq_ix3 y⟩
  refine (Cert.DwOutRefIdeal.Reading.out_at x0 x1 x2 i j k).trans ?_
  show _ = (if j.val / 256 = 11 then ∑ s ∈ Finset.range 8192, lhs m c s (i.val * 256 + (j.val - 2816)) * rhs m c s (k.val)
    else m ((c : Thread nD τ).loc main_arg2) (ix3 i j k) : EReal)
  by_cases hl : j.val < 2816
  · rw [dif_pos hl, if_neg (by omega)]
    exact congrFun h2 (ix3 i j k)
  rw [dif_neg hl]
  by_cases hr : (j.val - 2816) < 256
  · rw [dif_pos hr, if_pos (by omega), ← Fin.sum_univ_eq_sum_range (fun s => lhs m c s (i.val * 256 + (j.val - 2816)) * rhs m c s (k.val))]
    refine Finset.sum_congr rfl fun r _ => ?_
    refine (congrArg₂ (· * ·) ((congrFun h1 (ix2 r k)).trans (rhs_of m c (p := r) (q := k) rfl rfl).symm)
      ((congrFun h0 (ix2 r ⟨i.val * 256 + (j.val - 2816), by omega⟩)).trans (lhs_of m c (p := r) (q := ⟨i.val * 256 + (j.val - 2816), by omega⟩) rfl rfl).symm)).trans ?_
    exact mul_comm (rhs m c r.val (k.val)) (lhs m c r.val (i.val * 256 + (j.val - 2816)))
  · rw [dif_neg hr, if_neg (by omega)]
    rw [show (⟨3072 + (j.val - 2816 - 256), by omega⟩ : Fin 3072) = j from Fin.ext (by show 3072 + (j.val - 2816 - 256) = j.val; omega)]
    exact congrFun h2 (ix3 i j k)

end Cert.DwOutIdeal.Product

end
-- ==== Proof.ProjBValue.lean ====
/-
  The second branch's projection `yb @ w` and the gated mixture of the two branches: what each grid point leaves, what the two
  result arrays end holding, and the reference's results.
-/
module

public import proofs.«01_k».proof.Proof.Blocks
public import proofs.«01_k».proof.Proof.Gen.ProjBIdeal.Value
public import proofs.«01_k».proof.Proof.Gen.ProjBRefIdeal.Run
public import Idealize.ShloMosaic.Lib.StableHlo.Run
public import Idealize.ShloMosaic.Lib.Pointwise

@[expose] public section

set_option synthInstance.maxSize 4096
set_option maxRecDepth 16384

noncomputable section

namespace Cert.ProjBRefIdeal.Reading

open Idealize.ShloMosaic Idealize.ShloMosaic.TcCoe Cert.ProjBRefIdeal Cert.ProjBRefIdeal.Gen

/-- A gate: the logistic function, as a quotient. -/
def gate (x : EReal) : EReal := Ideal.div 1 (1 + Ideal.exp (-x))

/-- The reference's first result, of the arguments' contents. -/
def out0 (x0 : FVec Ideal S8192x2048 .f32) (x1 : FVec Ideal S2048x1024 .f32) (x2 : FVec Ideal S8192x1024 .f32) (x3 : FVec Ideal S8192x2048 .f32) (x4 : FVec Ideal S1x2048 .f32) : FVec Ideal S8192x1024 .f32 :=
  Host.dotGeneral dot_S8192x2048_S2048x1024_S8192x1024_1_0_0_1_n_n none x0 x1

/-- The reference's second result, of the arguments' contents. -/
def out1 (x0 : FVec Ideal S8192x2048 .f32) (x1 : FVec Ideal S2048x1024 .f32) (x2 : FVec Ideal S8192x1024 .f32) (x3 : FVec Ideal S8192x2048 .f32) (x4 : FVec Ideal S1x2048 .f32) : FVec Ideal S8192x1024 .bf16 :=
  truncf .bf16 (addf (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4)))))) slices_S8192x2048_S8192x1024_0_0) x2) (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4)))))) slices_S8192x2048_S8192x1024_0_1024) (Host.dotGeneral dot_S8192x2048_S2048x1024_S8192x1024_1_0_0_1_n_n none x0 x1))) bitsLt_bf16_f32

/-- The reference's first result at an index. -/
theorem out0_at (x0 : FVec Ideal S8192x2048 .f32) (x1 : FVec Ideal S2048x1024 .f32) (x2 : FVec Ideal S8192x1024 .f32) (x3 : FVec Ideal S8192x2048 .f32) (x4 : FVec Ideal S1x2048 .f32) (i : Fin 8192) (j : Fin 1024) : out0 x0 x1 x2 x3 x4 (ix2 i j) = (∑ r : Fin 2048, x0 (ix2 i r) * x1 (ix2 r j) : EReal) := by
  unfold out0
  pointwise []

/-- The reference's second result at an index. -/
theorem out1_at (x0 : FVec Ideal S8192x2048 .f32) (x1 : FVec Ideal S2048x1024 .f32) (x2 : FVec Ideal S8192x1024 .f32) (x3 : FVec Ideal S8192x2048 .f32) (x4 : FVec Ideal S1x2048 .f32) (i : Fin 8192) (j : Fin 1024) :
    out1 x0 x1 x2 x3 x4 (ix2 i j) = (gate (x3 (ix2 i ⟨j.val, by omega⟩) + x4 (ix2 0 ⟨j.val, by omega⟩)) * x2 (ix2 i j)
      + gate (x3 (ix2 i ⟨1024 + j.val, by omega⟩) + x4 (ix2 0 ⟨1024 + j.val, by omega⟩)) * ∑ r : Fin 2048, x0 (ix2 i r) * x1 (ix2 r j) : EReal) := by
  unfold out1
  pointwise [gate]

end Cert.ProjBRefIdeal.Reading

namespace Cert.ProjBIdeal.Product

open Idealize.ShloMosaic Idealize.ShloMosaic.TcCoe Idealize.SL.Sem Cert.ProjBIdeal Cert.ProjBIdeal.Gen Cert.Blocks
open Idealize.ShloMosaic.Pipeline (Dat)
open Cert.ProjBRefIdeal.Reading (gate)

section

variable (c : Dev nD) (i : grid0.Coords) (a3 : Memref sig .tc .vmem S512x1024 .bf16) (h3 : a3.IsWhole) (a4 : Memref sig .tc .vmem S1024x1024 .bf16)
    (h4 : a4.IsWhole) (a5 : Memref sig .tc .vmem S512x1024 .f32) (h5 : a5.IsWhole) (a6 : Memref sig .tc .vmem S512x1024 .f32) (h6 : a6.IsWhole)
    (a7 : Memref sig .tc .vmem S512x1024 .f32) (h7 : a7.IsWhole) (a8 : Memref sig .tc .vmem S1x1024 .f32) (h8 : a8.IsWhole)
    (a9 : Memref sig .tc .vmem S1x1024 .f32) (h9 : a9.IsWhole) (a10 : Memref sig .tc .vmem S512x1024 .f32) (h10 : a10.IsWhole)
    (a11 : Memref sig .tc .vmem S512x1024 .bf16) (h11 : a11.IsWhole) (a12 : Memref sig .tc .vmem S512x1024 .f32) (h12 : a12.IsWhole)

/-- A point of the first half leaves that half's product in the scratch. -/
theorem out_A (hc0 : cond0_0 i) (hc1 : ¬cond0_1 i) (hc2 : ¬cond0_2 i) (x0 : Vec Ideal S512x1024 .bf16) (x1 : Vec Ideal S1024x1024 .bf16)
    (x2 x3 x4 : Vec Ideal S512x1024 .f32) (x5 x6 : Vec Ideal S1x1024 .f32) (p : Fin 512) (q : Fin 1024) :
    sout0_A_0 c i a3 h3 a4 h4 a5 h5 a6 h6 a7 h7 a8 h8 a9 h9 a10 h10 a11 h11 a12 h12 hc0 hc1 hc2 x0 x1 x2 x3 x4 x5 x6 (ix2 p q) = ∑ r : Fin 1024, x0 (ix2 p r) * x1 (ix2 r q) := by
  unfold sout0_A_0
  rw [View.read_writes_eq_canon _ _ _ (scover0_A_0 _ _ _ _ _ _ _ _ _ _ _ _ _ _ _ _ _ _ _ _ _ _ _ _ _ _ _ _ _ _ _ _)]
  unfold kernelRun0_A
  dsimp only
  rw [View.canon_unit_zero hz]
  simp only [View.readAt_eq_ld, h3.read_unread, h4.read_unread, h5.read_unread, h6.read_unread, h7.read_unread, h8.read_unread, h9.read_unread, View.ld_unit_zero (S := S512x1024) hz, View.ld_unit_zero (S := S1024x1024) hz, View.ld_unit_zero (S := S1x1024) hz]
  pointwise [k0_pay2, k0_pay1]

/-- A point of the second half stores the sum of the two halves. -/
theorem out_B (hc0 : ¬cond0_0 i) (hc1 : cond0_1 i) (hc2 : cond0_2 i) (x0 : Vec Ideal S512x1024 .bf16) (x1 : Vec Ideal S1024x1024 .bf16)
    (x2 x3 x4 : Vec Ideal S512x1024 .f32) (x5 x6 : Vec Ideal S1x1024 .f32) (xs : Vec Ideal S512x1024 .f32) (p : Fin 512) (q : Fin 1024) :
    out0_B_7 c i a3 h3 a4 h4 a5 h5 a6 h6 a7 h7 a8 h8 a9 h9 a10 h10 a11 h11 a12 h12 hc0 hc1 hc2 x0 x1 x2 x3 x4 x5 x6 xs (ix2 p q) = ((xs (ix2 p q) + ∑ r : Fin 1024, x0 (ix2 p r) * x1 (ix2 r q)) : EReal) := by
  unfold out0_B_7
  rw [View.read_writes_eq_canon _ _ _ (cover0_B_7 _ _ _ _ _ _ _ _ _ _ _ _ _ _ _ _ _ _ _ _ _ _ _ _ _ _ _ _ _ _ _ _ _)]
  unfold kernelRun0_B
  dsimp only
  rw [View.canon_unit_zero hz]
  unfold kernelRun0_B.sl.v14 kernelRun0_B.sl.HS0_1
  rw [View.readCov_unit_zero _ hz]
  simp only [View.readAt_eq_ld, h3.read_unread, h4.read_unread, h5.read_unread, h6.read_unread, h7.read_unread, h8.read_unread, h9.read_unread, h12.read_unread, View.ld_unit_zero (S := S512x1024) hz, View.ld_unit_zero (S := S1024x1024) hz, View.ld_unit_zero (S := S1x1024) hz]
  pointwise [k0_pay3, k0_pay1]

/-- It also stores the gated mixture of the first branch's block and that sum. -/
theorem out_B8 (hc0 : ¬cond0_0 i) (hc1 : cond0_1 i) (hc2 : cond0_2 i) (x0 : Vec Ideal S512x1024 .bf16) (x1 : Vec Ideal S1024x1024 .bf16)
    (x2 x3 x4 : Vec Ideal S512x1024 .f32) (x5 x6 : Vec Ideal S1x1024 .f32) (xs : Vec Ideal S512x1024 .f32) (p : Fin 512) (q : Fin 1024) :
    out0_B_8 c i a3 h3 a4 h4 a5 h5 a6 h6 a7 h7 a8 h8 a9 h9 a10 h10 a11 h11 a12 h12 hc0 hc1 hc2 x0 x1 x2 x3 x4 x5 x6 xs (ix2 p q) = (gate (x3 (ix2 p q) + x5 (ix2 0 q)) * x2 (ix2 p q) + gate (x4 (ix2 p q) + x6 (ix2 0 q)) * (xs (ix2 p q) + ∑ r : Fin 1024, x0 (ix2 p r) * x1 (ix2 r q)) : EReal) := by
  unfold out0_B_8
  rw [View.read_writes_eq_canon _ _ _ (cover0_B_8 _ _ _ _ _ _ _ _ _ _ _ _ _ _ _ _ _ _ _ _ _ _ _ _ _ _ _ _ _ _ _ _ _)]
  unfold kernelRun0_B
  dsimp only
  rw [View.canon_unit_zero hz]
  unfold kernelRun0_B.sl.v14 kernelRun0_B.sl.HS0_1
  rw [View.readCov_unit_zero _ hz]
  simp only [View.readAt_eq_ld, h3.read_unread, h4.read_unread, h5.read_unread, h6.read_unread, h7.read_unread, h8.read_unread, h9.read_unread, h12.read_unread, View.ld_unit_zero (S := S512x1024) hz, View.ld_unit_zero (S := S1024x1024) hz, View.ld_unit_zero (S := S1x1024) hz]
  pointwise [k0_pay4, k0_pay3, k0_pay1, gate]
  simp only [zero_sub]

end

variable (m : (ℓ : Loc nD τ sig) → Buf (Elt Ideal) ℓ) (c : Dev nD)

theorem hN : cfg0.N = 32 := N_0

theorem idx0 : ∀ t : Fin cfg0.N, win0_0.index t 0 = t.val / 2 ∧ win0_0.index t 1 = t.val % 2 := by
  show ∀ t : Fin grid0.N, _
  decide +kernel

theorem idx1 : ∀ t : Fin cfg0.N, win0_1.index t 0 = t.val % 2 ∧ win0_1.index t 1 = 0 := by
  show ∀ t : Fin grid0.N, _
  decide +kernel

theorem idx2 : ∀ t : Fin cfg0.N, win0_2.index t 0 = t.val / 2 ∧ win0_2.index t 1 = 0 := by
  show ∀ t : Fin grid0.N, _
  decide +kernel

theorem idx3 : ∀ t : Fin cfg0.N, win0_3.index t 0 = t.val / 2 ∧ win0_3.index t 1 = 0 := by
  show ∀ t : Fin grid0.N, _
  decide +kernel

theorem idx4 : ∀ t : Fin cfg0.N, win0_4.index t 0 = t.val / 2 ∧ win0_4.index t 1 = 1 := by
  show ∀ t : Fin grid0.N, _
  decide +kernel

theorem idx5 : ∀ t : Fin cfg0.N, win0_5.index t 0 = 0 ∧ win0_5.index t 1 = 0 := by
  show ∀ t : Fin grid0.N, _
  decide +kernel

theorem idx6 : ∀ t : Fin cfg0.N, win0_6.index t 0 = 0 ∧ win0_6.index t 1 = 1 := by
  show ∀ t : Fin grid0.N, _
  decide +kernel

theorem idx7 : ∀ t : Fin cfg0.N, win0_7.index t 0 = t.val / 2 ∧ win0_7.index t 1 = 0 := by
  show ∀ t : Fin grid0.N, _
  decide +kernel

theorem idx8 : ∀ t : Fin cfg0.N, win0_8.index t 0 = t.val / 2 ∧ win0_8.index t 1 = 0 := by
  show ∀ t : Fin grid0.N, _
  decide +kernel

/-- The arguments at natural-number indices. -/
def lhs : ℕ → ℕ → EReal := nat2 fun (i : Fin 8192) (j : Fin 2048) => m ((c : Thread nD τ).loc main_arg0) (ix2 i j)
theorem lhs_of {i j : ℕ} {p : Fin 8192} {q : Fin 2048} (hp : p.val = i) (hq : q.val = j) : lhs m c i j = m ((c : Thread nD τ).loc main_arg0) (ix2 p q) := nat2_of _ hp hq
def rhs : ℕ → ℕ → EReal := nat2 fun (i : Fin 2048) (j : Fin 1024) => m ((c : Thread nD τ).loc main_arg1) (ix2 i j)
theorem rhs_of {i j : ℕ} {p : Fin 2048} {q : Fin 1024} (hp : p.val = i) (hq : q.val = j) : rhs m c i j = m ((c : Thread nD τ).loc main_arg1) (ix2 p q) := nat2_of _ hp hq
def pa : ℕ → ℕ → EReal := nat2 fun (i : Fin 8192) (j : Fin 1024) => m ((c : Thread nD τ).loc main_arg2) (ix2 i j)
theorem pa_of {i j : ℕ} {p : Fin 8192} {q : Fin 1024} (hp : p.val = i) (hq : q.val = j) : pa m c i j = m ((c : Thread nD τ).loc main_arg2) (ix2 p q) := nat2_of _ hp hq
def gl : ℕ → ℕ → EReal := nat2 fun (i : Fin 8192) (j : Fin 2048) => m ((c : Thread nD τ).loc main_arg3) (ix2 i j)
theorem gl_of {i j : ℕ} {p : Fin 8192} {q : Fin 2048} (hp : p.val = i) (hq : q.val = j) : gl m c i j = m ((c : Thread nD τ).loc main_arg3) (ix2 p q) := nat2_of _ hp hq
def bg : ℕ → ℕ → EReal := nat2 fun (i : Fin 1) (j : Fin 2048) => m ((c : Thread nD τ).loc main_arg4) (ix2 i j)
theorem bg_of {i j : ℕ} {p : Fin 1} {q : Fin 2048} (hp : p.val = i) (hq : q.val = j) : bg m c i j = m ((c : Thread nD τ).loc main_arg4) (ix2 p q) := nat2_of _ hp hq

theorem V0 (i : Fin 8192) (j : Fin 2048) : (V m c main_v0 : FVec Ideal S8192x2048 .bf16) (ix2 i j) = m ((c : Thread nD τ).loc main_arg0) (ix2 i j) := by
  have e : V m c main_v0 = (truncf .bf16 (m ((c : Thread nD τ).loc main_arg0)) bitsLt_bf16_f32 : FVec Ideal S8192x2048 .bf16) := by
    unfold V
    after_results
  rw [e]
  pointwise []

theorem V1 (i : Fin 2048) (j : Fin 1024) : (V m c main_v1 : FVec Ideal S2048x1024 .bf16) (ix2 i j) = m ((c : Thread nD τ).loc main_arg1) (ix2 i j) := by
  have e : V m c main_v1 = (truncf .bf16 (m ((c : Thread nD τ).loc main_arg1)) bitsLt_bf16_f32 : FVec Ideal S2048x1024 .bf16) := by
    unfold V
    after_results
  rw [e]
  pointwise []

theorem iblk0_at (t : Fin cfg0.N) (p : Fin 512) (q : Fin 1024) :
    (iblk m c 0 t : Vec Ideal S512x1024 .bf16) (ix2 p q) = lhs m c (512 * (t.val / 2) + p.val) (1024 * (t.val % 2) + q.val) := by
  have ht := t.isLt
  have := hN
  have e := V0 m c ⟨512 * (t.val / 2) + p.val, by omega⟩ ⟨1024 * (t.val % 2) + q.val, by omega⟩
  refine Eq.trans ?_ (e.trans (lhs_of m c rfl rfl).symm)
  rw [iblk, View.read_apply]
  show V m c main_v0 _ = V m c main_v0 _
  exact congrArg _ (ix2_of (by show win0_0.index t 0 * 512 + 1 * p.val = 512 * (t.val / 2) + p.val; rw [(idx0 t).1]; omega) (by show win0_0.index t 1 * 1024 + 1 * q.val = 1024 * (t.val % 2) + q.val; rw [(idx0 t).2]; omega))

theorem iblk1_at (t : Fin cfg0.N) (p : Fin 1024) (q : Fin 1024) :
    (iblk m c 1 t : Vec Ideal S1024x1024 .bf16) (ix2 p q) = rhs m c (1024 * (t.val % 2) + p.val) (q.val) := by
  have ht := t.isLt
  have := hN
  have e := V1 m c ⟨1024 * (t.val % 2) + p.val, by omega⟩ q
  refine Eq.trans ?_ (e.trans (rhs_of m c rfl rfl).symm)
  rw [iblk, View.read_apply]
  show V m c main_v1 _ = V m c main_v1 _
  exact congrArg _ (ix2_of (by show win0_1.index t 0 * 1024 + 1 * p.val = 1024 * (t.val % 2) + p.val; rw [(idx1 t).1]; omega) (by show win0_1.index t 1 * 1024 + 1 * q.val = q.val; rw [(idx1 t).2]; omega))

theorem iblk2_at (t : Fin cfg0.N) (p : Fin 512) (q : Fin 1024) :
    (iblk m c 2 t : Vec Ideal S512x1024 .f32) (ix2 p q) = pa m c (512 * (t.val / 2) + p.val) (q.val) := by
  have ht := t.isLt
  have := hN
  have e := congrFun (V_main_arg2 m c) (ix2 (⟨512 * (t.val / 2) + p.val, by omega⟩ : Fin 8192) q)
  refine Eq.trans ?_ (e.trans (pa_of m c rfl rfl).symm)
  rw [iblk, View.read_apply]
  show V m c main_arg2 _ = V m c main_arg2 _
  exact congrArg _ (ix2_of (by show win0_2.index t 0 * 512 + 1 * p.val = 512 * (t.val / 2) + p.val; rw [(idx2 t).1]; omega) (by show win0_2.index t 1 * 1024 + 1 * q.val = q.val; rw [(idx2 t).2]; omega))

theorem iblk3_at (t : Fin cfg0.N) (p : Fin 512) (q : Fin 1024) :
    (iblk m c 3 t : Vec Ideal S512x1024 .f32) (ix2 p q) = gl m c (512 * (t.val / 2) + p.val) (q.val) := by
  have ht := t.isLt
  have := hN
  have e := congrFun (V_main_arg3 m c) (ix2 (⟨512 * (t.val / 2) + p.val, by omega⟩ : Fin 8192) (⟨q.val, by omega⟩ : Fin 2048))
  refine Eq.trans ?_ (e.trans (gl_of m c rfl rfl).symm)
  rw [iblk, View.read_apply]
  show V m c main_arg3 _ = V m c main_arg3 _
  exact congrArg _ (ix2_of (by show win0_3.index t 0 * 512 + 1 * p.val = 512 * (t.val / 2) + p.val; rw [(idx3 t).1]; omega) (by show win0_3.index t 1 * 1024 + 1 * q.val = q.val; rw [(idx3 t).2]; omega))

theorem iblk4_at (t : Fin cfg0.N) (p : Fin 512) (q : Fin 1024) :
    (iblk m c 4 t : Vec Ideal S512x1024 .f32) (ix2 p q) = gl m c (512 * (t.val / 2) + p.val) (1024 + q.val) := by
  have ht := t.isLt
  have := hN
  have e := congrFun (V_main_arg3 m c) (ix2 (⟨512 * (t.val / 2) + p.val, by omega⟩ : Fin 8192) (⟨1024 + q.val, by omega⟩ : Fin 2048))
  refine Eq.trans ?_ (e.trans (gl_of m c rfl rfl).symm)
  rw [iblk, View.read_apply]
  show V m c main_arg3 _ = V m c main_arg3 _
  exact congrArg _ (ix2_of (by show win0_4.index t 0 * 512 + 1 * p.val = 512 * (t.val / 2) + p.val; rw [(idx4 t).1]; omega) (by show win0_4.index t 1 * 1024 + 1 * q.val = 1024 + q.val; rw [(idx4 t).2]; omega))

theorem iblk5_at (t : Fin cfg0.N) (p : Fin 1) (q : Fin 1024) :
    (iblk m c 5 t : Vec Ideal S1x1024 .f32) (ix2 p q) = bg m c (0) (q.val) := by
  have ht := t.isLt
  have := hN
  have e := congrFun (V_main_arg4 m c) (ix2 (0 : Fin 1) (⟨q.val, by omega⟩ : Fin 2048))
  refine Eq.trans ?_ (e.trans (bg_of m c rfl rfl).symm)
  rw [iblk, View.read_apply]
  show V m c main_arg4 _ = V m c main_arg4 _
  exact congrArg _ (ix2_of (by show win0_5.index t 0 * 1 + 1 * p.val = 0; rw [(idx5 t).1]; omega) (by show win0_5.index t 1 * 1024 + 1 * q.val = q.val; rw [(idx5 t).2]; omega))

theorem iblk6_at (t : Fin cfg0.N) (p : Fin 1) (q : Fin 1024) :
    (iblk m c 6 t : Vec Ideal S1x1024 .f32) (ix2 p q) = bg m c (0) (1024 + q.val) := by
  have ht := t.isLt
  have := hN
  have e := congrFun (V_main_arg4 m c) (ix2 (0 : Fin 1) (⟨1024 + q.val, by omega⟩ : Fin 2048))
  refine Eq.trans ?_ (e.trans (bg_of m c rfl rfl).symm)
  rw [iblk, View.read_apply]
  show V m c main_arg4 _ = V m c main_arg4 _
  exact congrArg _ (ix2_of (by show win0_6.index t 0 * 1 + 1 * p.val = 0; rw [(idx6 t).1]; omega) (by show win0_6.index t 1 * 1024 + 1 * q.val = 1024 + q.val; rw [(idx6 t).2]; omega))

/-- The sum of the two halves: the scratch's contents and a point's own product. -/
theorem halves (n : ℕ) (h : n < cfg0.N) (h1 : n % 2 = 1) (p : Fin 512) (q : Fin 1024) :
    ((outsAt0 m c (n - 1) (by omega)).2.2 (ix2 p q) + ∑ r : Fin 1024, (fun a b : EReal => a * b) ((iblk m c 0 ⟨n, h⟩ : Vec Ideal S512x1024 .bf16) (ix2 p r)) ((iblk m c 1 ⟨n, h⟩ : Vec Ideal S1024x1024 .bf16) (ix2 r q)) : EReal)
      = (∑ s ∈ Finset.range 2048, lhs m c (512 * (n / 2) + p.val) s * rhs m c s q.val : EReal) := by
  refine sum_next 1 (fun s => lhs m c (512 * (n / 2) + p.val) s * rhs m c s q.val) _ _ ?_ fun r => by rw [iblk0_at, iblk1_at]; dsimp only; rw [h1]
  have hn : n - 1 < cfg0.N := by omega
  refine (congrFun (congrArg (fun z => z.2.2) (outsAt0_A m c ⟨n - 1, hn⟩ (by dsimp only; omega) (by dsimp only; omega) (by dsimp only; omega))) (ix2 p q)).trans ?_
  dsimp only
  rw [out_A]
  refine sum_first 0 rfl (fun s => lhs m c (512 * (n / 2) + p.val) s * rhs m c s q.val) _ fun r => ?_
  rw [iblk0_at, iblk1_at]
  dsimp only
  rw [show (n - 1) / 2 = n / 2 by omega, show (n - 1) % 2 = 0 by omega]

/-- What a point of the second half stores, of the arguments. -/
theorem stored7 (n : ℕ) (h : n < cfg0.N) (h1 : n % 2 = 1) (p : Fin 512) (q : Fin 1024) :
    (outsAt0 m c n h).1 (ix2 p q) = (∑ s ∈ Finset.range 2048, lhs m c (512 * (n / 2) + p.val) s * rhs m c s q.val : EReal) := by
  refine (congrFun (congrArg Prod.fst (outsAt0_B m c ⟨n, h⟩ (by dsimp only; omega) h1 h1)) (ix2 p q)).trans ?_
  dsimp only
  rw [out_B]
  exact halves m c n h h1 p q

theorem stored8 (n : ℕ) (h : n < cfg0.N) (h1 : n % 2 = 1) (p : Fin 512) (q : Fin 1024) :
    (outsAt0 m c n h).2.1 (ix2 p q) = (gate (gl m c (512 * (n / 2) + p.val) q.val + bg m c 0 q.val) * pa m c (512 * (n / 2) + p.val) q.val + gate (gl m c (512 * (n / 2) + p.val) (1024 + q.val) + bg m c 0 (1024 + q.val)) * (∑ s ∈ Finset.range 2048, lhs m c (512 * (n / 2) + p.val) s * rhs m c s q.val) : EReal) := by
  refine (congrFun (congrArg (fun z => z.2.1) (outsAt0_B m c ⟨n, h⟩ (by dsimp only; omega) h1 h1)) (ix2 p q)).trans ?_
  dsimp only
  rw [out_B8, iblk2_at, iblk3_at, iblk4_at, iblk5_at, iblk6_at]
  exact congrArg (fun z : EReal => (gate (gl m c (512 * (n / 2) + p.val) q.val + bg m c 0 q.val) * pa m c (512 * (n / 2) + p.val) q.val + gate (gl m c (512 * (n / 2) + p.val) (1024 + q.val) + bg m c 0 (1024 + q.val)) * z : EReal)) (halves m c n h h1 p q)

/-- The two results, as contents of the result arrays. -/
def prod : Buf (Elt Ideal) ((c : Thread nD τ).loc main_v2_0) := fun y : S8192x1024.Idx =>
  (∑ s ∈ Finset.range 2048, lhs m c (y 0).val s * rhs m c s (y 1).val : EReal)

def mix : Buf (Elt Ideal) ((c : Thread nD τ).loc main_v2_1) := fun y : S8192x1024.Idx =>
  (gate (gl m c (y 0).val (y 1).val + bg m c 0 (y 1).val) * pa m c (y 0).val (y 1).val + gate (gl m c (y 0).val (1024 + (y 1).val) + bg m c 0 (1024 + (y 1).val)) * (∑ s ∈ Finset.range 2048, lhs m c (y 0).val s * rhs m c s (y 1).val) : EReal)

/-- That result array ends holding it. -/
theorem final7 : (dats m 0 c).arrAt 7 cfg0.N = prod m c :=
  (dats m 0 c).arrAt_eq_of_cover 7 (prod m c)
    (fun t hf => by
      have h1 := (flush0_7 t).mp hf
      rw [Value.flushed7]
      funext y
      rw [View.read_apply]
      refine Eq.trans (b := (outsAt0 m c t.val t.isLt).1 y) rfl ?_
      obtain ⟨p, q, rfl⟩ : ∃ (p : Fin 512) (q : Fin 1024), y = ix2 p q := ⟨y 0, y 1, ValueIdx.eq_ix2 y⟩
      rw [stored7 m c t.val t.isLt h1]
      have e0 : (((cfg0.win 7).blk t).view.emb (ix2 p q) 0).val = 512 * (t.val / 2) + p.val := by
        show win0_7.index t 0 * 512 + 1 * p.val = _
        rw [(idx7 t).1]; omega
      have e1 : (((cfg0.win 7).blk t).view.emb (ix2 p q) 1).val = q.val := by
        show win0_7.index t 1 * 1024 + 1 * q.val = _
        rw [(idx7 t).2]; omega
      show _ = prod m c (((cfg0.win 7).blk t).view.emb (ix2 p q))
      unfold prod
      rw [e0, e1])
    fun y => by
      have hy0 : (y 0).val < 8192 := (y 0).isLt
      have hy1 : (y 1).val < 1024 := (y 1).isLt
      have hn := hN
      let t : Fin cfg0.N := ⟨2 * ((y 0).val / 512) + 1, by omega⟩
      have ht : t.val / 2 = (y 0).val / 512 := by show (2 * ((y 0).val / 512) + 1) / 2 = _; omega
      refine ⟨t, (flush0_7 t).mpr (by show (2 * ((y 0).val / 512) + 1) % 2 = 1; omega), ?_⟩
      show y ∈ ((View.whole main_v2_0).slice (win0_7.rect t)).set
      rw [View.set_slice_whole, Rect.mem_set_unit]
      intro a
      match a with
      | ⟨0, _⟩ =>
        show win0_7.index t 0 * 512 ≤ (y 0 : Nat) ∧ (y 0 : Nat) < win0_7.index t 0 * 512 + 512
        rw [(idx7 t).1, ht]; omega
      | ⟨1, _⟩ =>
        show win0_7.index t 1 * 1024 ≤ (y 1 : Nat) ∧ (y 1 : Nat) < win0_7.index t 1 * 1024 + 1024
        rw [(idx7 t).2]; omega

/-- That result array ends holding it. -/
theorem final8 : (dats m 0 c).arrAt 8 cfg0.N = mix m c :=
  (dats m 0 c).arrAt_eq_of_cover 8 (mix m c)
    (fun t hf => by
      have h1 := (flush0_8 t).mp hf
      rw [Value.flushed8]
      funext y
      rw [View.read_apply]
      refine Eq.trans (b := (outsAt0 m c t.val t.isLt).2.1 y) rfl ?_
      obtain ⟨p, q, rfl⟩ : ∃ (p : Fin 512) (q : Fin 1024), y = ix2 p q := ⟨y 0, y 1, ValueIdx.eq_ix2 y⟩
      rw [stored8 m c t.val t.isLt h1]
      have e0 : (((cfg0.win 8).blk t).view.emb (ix2 p q) 0).val = 512 * (t.val / 2) + p.val := by
        show win0_8.index t 0 * 512 + 1 * p.val = _
        rw [(idx8 t).1]; omega
      have e1 : (((cfg0.win 8).blk t).view.emb (ix2 p q) 1).val = q.val := by
        show win0_8.index t 1 * 1024 + 1 * q.val = _
        rw [(idx8 t).2]; omega
      show _ = mix m c (((cfg0.win 8).blk t).view.emb (ix2 p q))
      unfold mix
      rw [e0, e1])
    fun y => by
      have hy0 : (y 0).val < 8192 := (y 0).isLt
      have hy1 : (y 1).val < 1024 := (y 1).isLt
      have hn := hN
      let t : Fin cfg0.N := ⟨2 * ((y 0).val / 512) + 1, by omega⟩
      have ht : t.val / 2 = (y 0).val / 512 := by show (2 * ((y 0).val / 512) + 1) / 2 = _; omega
      refine ⟨t, (flush0_8 t).mpr (by show (2 * ((y 0).val / 512) + 1) % 2 = 1; omega), ?_⟩
      show y ∈ ((View.whole main_v2_1).slice (win0_8.rect t)).set
      rw [View.set_slice_whole, Rect.mem_set_unit]
      intro a
      match a with
      | ⟨0, _⟩ =>
        show win0_8.index t 0 * 512 ≤ (y 0 : Nat) ∧ (y 0 : Nat) < win0_8.index t 0 * 512 + 512
        rw [(idx8 t).1, ht]; omega
      | ⟨1, _⟩ =>
        show win0_8.index t 1 * 1024 ≤ (y 1 : Nat) ∧ (y 1 : Nat) < win0_8.index t 1 * 1024 + 1024
        rw [(idx8 t).2]; omega

/-- The reference's product, of the arguments. -/
theorem product_eq (x0 : FVec Ideal Cert.ProjBRefIdeal.S8192x2048 .f32) (x1 : FVec Ideal Cert.ProjBRefIdeal.S2048x1024 .f32) (x2 : FVec Ideal Cert.ProjBRefIdeal.S8192x1024 .f32) (x3 : FVec Ideal Cert.ProjBRefIdeal.S8192x2048 .f32) (x4 : FVec Ideal Cert.ProjBRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (i : Fin 8192) (j : Fin 1024) :
    (∑ r : Fin 2048, x0 (ix2 i r) * x1 (ix2 r j) : EReal) = (∑ s ∈ Finset.range 2048, lhs m c i.val s * rhs m c s j.val : EReal) := by
  rw [← Fin.sum_univ_eq_sum_range (fun s => lhs m c i.val s * rhs m c s j.val)]
  refine Finset.sum_congr rfl fun r _ => ?_
  exact congrArg₂ (· * ·) ((congrFun h0 (ix2 i r)).trans (lhs_of m c (p := i) (q := r) rfl rfl).symm)
    ((congrFun h1 (ix2 r j)).trans (rhs_of m c (p := r) (q := j) rfl rfl).symm)

/-- The reference's results are what the kernel's result arrays end holding. -/
theorem equal0 (x0 : FVec Ideal Cert.ProjBRefIdeal.S8192x2048 .f32) (x1 : FVec Ideal Cert.ProjBRefIdeal.S2048x1024 .f32) (x2 : FVec Ideal Cert.ProjBRefIdeal.S8192x1024 .f32) (x3 : FVec Ideal Cert.ProjBRefIdeal.S8192x2048 .f32) (x4 : FVec Ideal Cert.ProjBRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    Cert.ProjBRefIdeal.Reading.out0 x0 x1 x2 x3 x4 = (dats m 0 c).arrAt 7 cfg0.N := by
  rw [final7]
  funext y
  obtain ⟨i, j, rfl⟩ : ∃ (i : Fin 8192) (j : Fin 1024), y = ix2 i j := ⟨y 0, y 1, ValueIdx.eq_ix2 y⟩
  refine (Cert.ProjBRefIdeal.Reading.out0_at _ _ _ _ _ i j).trans ?_
  exact product_eq m c x0 x1 x2 x3 x4 h0 h1 h2 h3 h4 i j

theorem equal1 (x0 : FVec Ideal Cert.ProjBRefIdeal.S8192x2048 .f32) (x1 : FVec Ideal Cert.ProjBRefIdeal.S2048x1024 .f32) (x2 : FVec Ideal Cert.ProjBRefIdeal.S8192x1024 .f32) (x3 : FVec Ideal Cert.ProjBRefIdeal.S8192x2048 .f32) (x4 : FVec Ideal Cert.ProjBRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    Cert.ProjBRefIdeal.Reading.out1 x0 x1 x2 x3 x4 = (dats m 0 c).arrAt 8 cfg0.N := by
  rw [final8]
  funext y
  obtain ⟨i, j, rfl⟩ : ∃ (i : Fin 8192) (j : Fin 1024), y = ix2 i j := ⟨y 0, y 1, ValueIdx.eq_ix2 y⟩
  refine (Cert.ProjBRefIdeal.Reading.out1_at _ _ _ _ _ i j).trans ?_
  show _ = (gate (gl m c i.val j.val + bg m c 0 j.val) * pa m c i.val j.val + gate (gl m c i.val (1024 + j.val) + bg m c 0 (1024 + j.val)) * (∑ s ∈ Finset.range 2048, lhs m c i.val s * rhs m c s j.val) : EReal)
  refine congrArg₂ (· + ·) (congrArg₂ (· * ·) (congrArg gate (congrArg₂ (· + ·) ?_ ?_)) ?_)
    (congrArg₂ (· * ·) (congrArg gate (congrArg₂ (· + ·) ?_ ?_)) (product_eq m c x0 x1 x2 x3 x4 h0 h1 h2 h3 h4 i j))
  · exact (congrFun h3 _).trans (gl_of m c rfl rfl).symm
  · exact (congrFun h4 _).trans (bg_of m c rfl rfl).symm
  · exact (congrFun h2 _).trans (pa_of m c rfl rfl).symm
  · exact (congrFun h3 _).trans (gl_of m c rfl rfl).symm
  · exact (congrFun h4 _).trans (bg_of m c rfl rfl).symm

end Cert.ProjBIdeal.Product

end
-- ==== Proof.OutProjValue.lean ====
/-
  The output projection `x + merged @ w` and its row normalisation: what each grid point stores, what the two result arrays end
  holding, and the reference's results.
-/
module

public import proofs.«01_k».proof.Proof.Blocks
public import proofs.«01_k».proof.Proof.Gen.OutProjIdeal.Value
public import proofs.«01_k».proof.Proof.Gen.OutProjRefIdeal.Run
public import Idealize.ShloMosaic.Lib.StableHlo.Run
public import Idealize.ShloMosaic.Lib.Pointwise

@[expose] public section

set_option synthInstance.maxSize 4096
set_option maxRecDepth 16384

noncomputable section

namespace Cert.OutProjRefIdeal.Reading

open Idealize.ShloMosaic Idealize.ShloMosaic.TcCoe Cert.OutProjRefIdeal Cert.OutProjRefIdeal.Gen

/-- A row divided by its root mean square and scaled. -/
def rmsNorm (f g : Fin 1024 → EReal) (q : Fin 1024) : EReal :=
  f q * Ideal.rsqrt (Ideal.div (∑ l, f l * f l) (Ideal.ofBits .f32 0x44800000#32) + Ideal.ofBits .f32 0x358637BD#32) * g q

/-- The reference's first result, of the arguments' contents. -/
def out0 (x0 : FVec Ideal S8192x1024 .f32) (x1 : FVec Ideal S1024x1024 .f32) (x2 : FVec Ideal S8192x1024 .f32) (x3 : FVec Ideal S1x1024 .f32) : FVec Ideal S8192x1024 .f32 :=
  addf x2 (Host.dotGeneral dot_S8192x1024_S1024x1024_S8192x1024_1_0_0_1_n_n none x0 x1)

/-- The reference's second result, of the arguments' contents. -/
def out1 (x0 : FVec Ideal S8192x1024 .f32) (x1 : FVec Ideal S1024x1024 .f32) (x2 : FVec Ideal S8192x1024 .f32) (x3 : FVec Ideal S1x1024 .f32) : FVec Ideal S8192x1024 .bf16 :=
  truncf .bf16 (mulf (mulf (addf x2 (Host.dotGeneral dot_S8192x1024_S1024x1024_S8192x1024_1_0_0_1_n_n none x0 x1)) (broadcastInDim S8192x1024 ![0, 1] bcast_S8192x1_S8192x1024_0_1 (Host.rsqrt (addf (Host.divf (broadcastInDim S8192x1 ![0] bcast_S8192_S8192x1_0 (Host.reduceAdd (mulf (addf x2 (Host.dotGeneral dot_S8192x1024_S1024x1024_S8192x1024_1_0_0_1_n_n none x0 x1)) (addf x2 (Host.dotGeneral dot_S8192x1024_S1024x1024_S8192x1024_1_0_0_1_n_n none x0 x1))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ x3 shapeCasts_S1x1024_S1024)))) bitsLt_bf16_f32

/-- The reference's first result at an index. -/
theorem out0_at (x0 : FVec Ideal S8192x1024 .f32) (x1 : FVec Ideal S1024x1024 .f32) (x2 : FVec Ideal S8192x1024 .f32) (x3 : FVec Ideal S1x1024 .f32) (i : Fin 8192) (j : Fin 1024) : out0 x0 x1 x2 x3 (ix2 i j) = ((x2 (ix2 i j) + ∑ r : Fin 1024, x0 (ix2 i r) * x1 (ix2 r j)) : EReal) := by
  unfold out0
  pointwise []

/-- The reference's second result at an index. -/
theorem out1_at (x0 : FVec Ideal S8192x1024 .f32) (x1 : FVec Ideal S1024x1024 .f32) (x2 : FVec Ideal S8192x1024 .f32) (x3 : FVec Ideal S1x1024 .f32) (i : Fin 8192) (j : Fin 1024) :
    out1 x0 x1 x2 x3 (ix2 i j) = (rmsNorm (fun l => (x2 (ix2 i l) + ∑ r : Fin 1024, x0 (ix2 i r) * x1 (ix2 r l))) (fun l => x3 (ix2 0 l)) j : EReal) := by
  unfold out1
  pointwise [rmsNorm]

end Cert.OutProjRefIdeal.Reading

namespace Cert.OutProjIdeal.Product

open Idealize.ShloMosaic Idealize.ShloMosaic.TcCoe Idealize.SL.Sem Cert.OutProjIdeal Cert.OutProjIdeal.Gen Cert.Blocks
open Idealize.ShloMosaic.Pipeline (Dat)
open Cert.OutProjRefIdeal.Reading (rmsNorm)

/-- What one grid point stores in each result, from its blocks. -/
theorem out4_at (x0 x1 : Vec Ideal S1024x1024 .bf16) (x2 : Vec Ideal S1024x1024 .f32) (x3 : Vec Ideal S1x1024 .f32) (p q : Fin 1024) :
    out0_4 x0 x1 x2 x3 (ix2 p q) = ((x2 (ix2 p q) + ∑ r : Fin 1024, x0 (ix2 p r) * x1 (ix2 r q)) : EReal) := by
  unfold out0_4
  rw [View.canon_unit_zero hz]
  simp only [View.ld_unit_zero (S := S1024x1024) hz, View.ld_unit_zero (S := S1x1024) hz]
  pointwise [k0_pay1]

theorem out5_at (x0 x1 : Vec Ideal S1024x1024 .bf16) (x2 : Vec Ideal S1024x1024 .f32) (x3 : Vec Ideal S1x1024 .f32) (p q : Fin 1024) :
    out0_5 x0 x1 x2 x3 (ix2 p q) = (rmsNorm (fun l => (x2 (ix2 p l) + ∑ r : Fin 1024, x0 (ix2 p r) * x1 (ix2 r l))) (fun l => x3 (ix2 0 l)) q : EReal) := by
  unfold out0_5
  rw [View.canon_unit_zero hz]
  simp only [View.ld_unit_zero (S := S1024x1024) hz, View.ld_unit_zero (S := S1x1024) hz]
  pointwise [k0_pay2, k0_pay1, rmsNorm]

variable (m : (ℓ : Loc nD τ sig) → Buf (Elt Ideal) ℓ) (c : Dev nD)

theorem hN : cfg0.N = 8 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

theorem idx3 : ∀ t : Fin cfg0.N, win0_3.index t 0 = 0 ∧ win0_3.index t 1 = 0 := by
  show ∀ t : Fin grid0.N, _
  decide +kernel

theorem idx4 : ∀ t : Fin cfg0.N, win0_4.index t 0 = t.val ∧ win0_4.index t 1 = 0 := by
  show ∀ t : Fin grid0.N, _
  decide +kernel

theorem idx5 : ∀ t : Fin cfg0.N, win0_5.index t 0 = t.val ∧ win0_5.index t 1 = 0 := by
  show ∀ t : Fin grid0.N, _
  decide +kernel

/-- The arguments at natural-number indices. -/
def lhs : ℕ → ℕ → EReal := nat2 fun (i : Fin 8192) (j : Fin 1024) => m ((c : Thread nD τ).loc main_arg0) (ix2 i j)
theorem lhs_of {i j : ℕ} {p : Fin 8192} {q : Fin 1024} (hp : p.val = i) (hq : q.val = j) : lhs m c i j = m ((c : Thread nD τ).loc main_arg0) (ix2 p q) := nat2_of _ hp hq
def rhs : ℕ → ℕ → EReal := nat2 fun (i : Fin 1024) (j : Fin 1024) => m ((c : Thread nD τ).loc main_arg1) (ix2 i j)
theorem rhs_of {i j : ℕ} {p : Fin 1024} {q : Fin 1024} (hp : p.val = i) (hq : q.val = j) : rhs m c i j = m ((c : Thread nD τ).loc main_arg1) (ix2 p q) := nat2_of _ hp hq
def res : ℕ → ℕ → EReal := nat2 fun (i : Fin 8192) (j : Fin 1024) => m ((c : Thread nD τ).loc main_arg2) (ix2 i j)
theorem res_of {i j : ℕ} {p : Fin 8192} {q : Fin 1024} (hp : p.val = i) (hq : q.val = j) : res m c i j = m ((c : Thread nD τ).loc main_arg2) (ix2 p q) := nat2_of _ hp hq
def scale : ℕ → ℕ → EReal := nat2 fun (i : Fin 1) (j : Fin 1024) => m ((c : Thread nD τ).loc main_arg3) (ix2 i j)
theorem scale_of {i j : ℕ} {p : Fin 1} {q : Fin 1024} (hp : p.val = i) (hq : q.val = j) : scale m c i j = m ((c : Thread nD τ).loc main_arg3) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 1024) (j : Fin 1024) : (V m c main_v1 : FVec Ideal S1024x1024 .bf16) (ix2 i j) = m ((c : Thread nD τ).loc main_arg1) (ix2 i j) := by
  have e : V m c main_v1 = (truncf .bf16 (m ((c : Thread nD τ).loc main_arg1)) bitsLt_bf16_f32 : FVec Ideal S1024x1024 .bf16) := by
    unfold V
    after_results
  rw [e]
  pointwise []

theorem iblk0_at (t : Fin cfg0.N) (p : Fin 1024) (q : Fin 1024) :
    (iblk m c 0 t : Vec Ideal S1024x1024 .bf16) (ix2 p q) = lhs m c (1024 * t.val + p.val) (q.val) := by
  have ht := t.isLt
  have := hN
  have e := V0 m c ⟨1024 * t.val + p.val, by omega⟩ q
  refine Eq.trans ?_ (e.trans (lhs_of m c rfl rfl).symm)
  rw [iblk, View.read_apply]
  show V m c main_v0 _ = V m c main_v0 _
  exact congrArg _ (ix2_of (by show win0_0.index t 0 * 1024 + 1 * p.val = 1024 * t.val + p.val; rw [(idx0 t).1]; omega) (by show win0_0.index t 1 * 1024 + 1 * q.val = q.val; rw [(idx0 t).2]; omega))

theorem iblk1_at (t : Fin cfg0.N) (p : Fin 1024) (q : Fin 1024) :
    (iblk m c 1 t : Vec Ideal S1024x1024 .bf16) (ix2 p q) = rhs m c (p.val) (q.val) := by
  have ht := t.isLt
  have := hN
  have e := V1 m c p q
  refine Eq.trans ?_ (e.trans (rhs_of m c rfl rfl).symm)
  rw [iblk, View.read_apply]
  show V m c main_v1 _ = V m c main_v1 _
  exact congrArg _ (ix2_of (by show win0_1.index t 0 * 1024 + 1 * p.val = p.val; rw [(idx1 t).1]; omega) (by show win0_1.index t 1 * 1024 + 1 * q.val = q.val; rw [(idx1 t).2]; omega))

theorem iblk2_at (t : Fin cfg0.N) (p : Fin 1024) (q : Fin 1024) :
    (iblk m c 2 t : Vec Ideal S1024x1024 .f32) (ix2 p q) = res m c (1024 * t.val + p.val) (q.val) := by
  have ht := t.isLt
  have := hN
  have e := congrFun (V_main_arg2 m c) (ix2 (⟨1024 * t.val + p.val, by omega⟩ : Fin 8192) q)
  refine Eq.trans ?_ (e.trans (res_of m c rfl rfl).symm)
  rw [iblk, View.read_apply]
  show V m c main_arg2 _ = V m c main_arg2 _
  exact congrArg _ (ix2_of (by show win0_2.index t 0 * 1024 + 1 * p.val = 1024 * t.val + p.val; rw [(idx2 t).1]; omega) (by show win0_2.index t 1 * 1024 + 1 * q.val = q.val; rw [(idx2 t).2]; omega))

theorem iblk3_at (t : Fin cfg0.N) (p : Fin 1) (q : Fin 1024) :
    (iblk m c 3 t : Vec Ideal S1x1024 .f32) (ix2 p q) = scale m c (0) (q.val) := by
  have ht := t.isLt
  have := hN
  have e := congrFun (V_main_arg3 m c) (ix2 (0 : Fin 1) q)
  refine Eq.trans ?_ (e.trans (scale_of m c rfl rfl).symm)
  rw [iblk, View.read_apply]
  show V m c main_arg3 _ = V m c main_arg3 _
  exact congrArg _ (ix2_of (by show win0_3.index t 0 * 1 + 1 * p.val = 0; rw [(idx3 t).1]; omega) (by show win0_3.index t 1 * 1024 + 1 * q.val = q.val; rw [(idx3 t).2]; omega))

/-- The two results, as contents of the result arrays. -/
def sum : Buf (Elt Ideal) ((c : Thread nD τ).loc main_v2_0) := fun y : S8192x1024.Idx =>
  ((res m c (y 0).val (y 1 : Fin 1024).val + ∑ r : Fin 1024, lhs m c (y 0).val r.val * rhs m c r.val (y 1 : Fin 1024).val) : EReal)

def normed : Buf (Elt Ideal) ((c : Thread nD τ).loc main_v2_1) := fun y : S8192x1024.Idx =>
  (rmsNorm (fun l => (res m c (y 0).val l.val + ∑ r : Fin 1024, lhs m c (y 0).val r.val * rhs m c r.val l.val)) (fun l => scale m c 0 l.val) (y 1) : EReal)

/-- That result array ends holding it. -/
theorem final4 : (dats m 0 c).arrAt 4 cfg0.N = sum m c :=
  (dats m 0 c).arrAt_eq_of_cover 4 (sum m c)
    (fun t hf => by
      rw [Value.flushed4]
      funext y
      rw [View.read_apply]
      refine Eq.trans (b := out0_4 (iblk m c 0 t) (iblk m c 1 t) (iblk m c 2 t) (iblk m c 3 t) y) rfl ?_
      obtain ⟨p, q, rfl⟩ : ∃ (p : Fin 1024) (q : Fin 1024), y = ix2 p q := ⟨y 0, y 1, ValueIdx.eq_ix2 y⟩
      rw [out4_at]
      have e0 : (((cfg0.win 4).blk t).view.emb (ix2 p q) 0).val = 1024 * t.val + p.val := by
        show win0_4.index t 0 * 1024 + 1 * p.val = _
        rw [(idx4 t).1]; omega
      have e1 : (((cfg0.win 4).blk t).view.emb (ix2 p q) 1) = q := Fin.ext (by
        show win0_4.index t 1 * 1024 + 1 * q.val = _
        rw [(idx4 t).2]; omega)
      show _ = sum m c (((cfg0.win 4).blk t).view.emb (ix2 p q))
      unfold sum
      rw [e0, e1]
      simp only [iblk0_at, iblk1_at, iblk2_at, iblk3_at])
    fun y => by
      have hy0 : (y 0).val < 8192 := (y 0).isLt
      have hy1 : (y 1).val < 1024 := (y 1).isLt
      have hn := hN
      let t : Fin cfg0.N := ⟨(y 0).val / 1024, by omega⟩
      have ht : t.val = (y 0).val / 1024 := rfl
      refine ⟨t, flush0_4 t, ?_⟩
      show y ∈ ((View.whole main_v2_0).slice (win0_4.rect t)).set
      rw [View.set_slice_whole, Rect.mem_set_unit]
      intro a
      match a with
      | ⟨0, _⟩ =>
        show win0_4.index t 0 * 1024 ≤ (y 0 : Nat) ∧ (y 0 : Nat) < win0_4.index t 0 * 1024 + 1024
        rw [(idx4 t).1, ht]; omega
      | ⟨1, _⟩ =>
        show win0_4.index t 1 * 1024 ≤ (y 1 : Nat) ∧ (y 1 : Nat) < win0_4.index t 1 * 1024 + 1024
        rw [(idx4 t).2]; omega

/-- That result array ends holding it. -/
theorem final5 : (dats m 0 c).arrAt 5 cfg0.N = normed m c :=
  (dats m 0 c).arrAt_eq_of_cover 5 (normed m c)
    (fun t hf => by
      rw [Value.flushed5]
      funext y
      rw [View.read_apply]
      refine Eq.trans (b := out0_5 (iblk m c 0 t) (iblk m c 1 t) (iblk m c 2 t) (iblk m c 3 t) y) rfl ?_
      obtain ⟨p, q, rfl⟩ : ∃ (p : Fin 1024) (q : Fin 1024), y = ix2 p q := ⟨y 0, y 1, ValueIdx.eq_ix2 y⟩
      rw [out5_at]
      have e0 : (((cfg0.win 5).blk t).view.emb (ix2 p q) 0).val = 1024 * t.val + p.val := by
        show win0_5.index t 0 * 1024 + 1 * p.val = _
        rw [(idx5 t).1]; omega
      have e1 : (((cfg0.win 5).blk t).view.emb (ix2 p q) 1) = q := Fin.ext (by
        show win0_5.index t 1 * 1024 + 1 * q.val = _
        rw [(idx5 t).2]; omega)
      show _ = normed m c (((cfg0.win 5).blk t).view.emb (ix2 p q))
      unfold normed
      rw [e0, e1]
      simp only [iblk0_at, iblk1_at, iblk2_at, iblk3_at])
    fun y => by
      have hy0 : (y 0).val < 8192 := (y 0).isLt
      have hy1 : (y 1).val < 1024 := (y 1).isLt
      have hn := hN
      let t : Fin cfg0.N := ⟨(y 0).val / 1024, by omega⟩
      have ht : t.val = (y 0).val / 1024 := rfl
      refine ⟨t, flush0_5 t, ?_⟩
      show y ∈ ((View.whole main_v2_1).slice (win0_5.rect t)).set
      rw [View.set_slice_whole, Rect.mem_set_unit]
      intro a
      match a with
      | ⟨0, _⟩ =>
        show win0_5.index t 0 * 1024 ≤ (y 0 : Nat) ∧ (y 0 : Nat) < win0_5.index t 0 * 1024 + 1024
        rw [(idx5 t).1, ht]; omega
      | ⟨1, _⟩ =>
        show win0_5.index t 1 * 1024 ≤ (y 1 : Nat) ∧ (y 1 : Nat) < win0_5.index t 1 * 1024 + 1024
        rw [(idx5 t).2]; omega

/-- The reference's sum, of the arguments. -/
theorem sum_eq (x0 : FVec Ideal Cert.OutProjRefIdeal.S8192x1024 .f32) (x1 : FVec Ideal Cert.OutProjRefIdeal.S1024x1024 .f32) (x2 : FVec Ideal Cert.OutProjRefIdeal.S8192x1024 .f32) (x3 : FVec Ideal Cert.OutProjRefIdeal.S1x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (i : Fin 8192) (j : Fin 1024) :
    ((x2 (ix2 i j) + ∑ r : Fin 1024, x0 (ix2 i r) * x1 (ix2 r j)) : EReal) = (res m c i.val j.val + ∑ r : Fin 1024, lhs m c i.val r.val * rhs m c r.val j.val) := by
  refine congrArg₂ (· + ·) ((congrFun h2 (ix2 i j)).trans (res_of m c rfl rfl).symm) (Finset.sum_congr rfl fun r _ => ?_)
  exact congrArg₂ (· * ·) ((congrFun h0 (ix2 i r)).trans (lhs_of m c (p := i) (q := r) rfl rfl).symm)
    ((congrFun h1 (ix2 r j)).trans (rhs_of m c (p := r) (q := j) rfl rfl).symm)

/-- The reference's results are what the kernel's result arrays end holding. -/
theorem equal0 (x0 : FVec Ideal Cert.OutProjRefIdeal.S8192x1024 .f32) (x1 : FVec Ideal Cert.OutProjRefIdeal.S1024x1024 .f32) (x2 : FVec Ideal Cert.OutProjRefIdeal.S8192x1024 .f32) (x3 : FVec Ideal Cert.OutProjRefIdeal.S1x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.OutProjRefIdeal.Reading.out0 x0 x1 x2 x3 = (dats m 0 c).arrAt 4 cfg0.N := by
  rw [final4]
  funext y
  obtain ⟨i, j, rfl⟩ : ∃ (i : Fin 8192) (j : Fin 1024), y = ix2 i j := ⟨y 0, y 1, ValueIdx.eq_ix2 y⟩
  refine (Cert.OutProjRefIdeal.Reading.out0_at _ _ _ _ i j).trans ?_
  exact sum_eq m c x0 x1 x2 x3 h0 h1 h2 h3 i j

theorem equal1 (x0 : FVec Ideal Cert.OutProjRefIdeal.S8192x1024 .f32) (x1 : FVec Ideal Cert.OutProjRefIdeal.S1024x1024 .f32) (x2 : FVec Ideal Cert.OutProjRefIdeal.S8192x1024 .f32) (x3 : FVec Ideal Cert.OutProjRefIdeal.S1x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.OutProjRefIdeal.Reading.out1 x0 x1 x2 x3 = (dats m 0 c).arrAt 5 cfg0.N := by
  rw [final5]
  funext y
  obtain ⟨i, j, rfl⟩ : ∃ (i : Fin 8192) (j : Fin 1024), y = ix2 i j := ⟨y 0, y 1, ValueIdx.eq_ix2 y⟩
  refine (Cert.OutProjRefIdeal.Reading.out1_at _ _ _ _ i j).trans ?_
  show _ = rmsNorm (fun l => (res m c i.val l.val + ∑ r : Fin 1024, lhs m c i.val r.val * rhs m c r.val l.val)) (fun l => scale m c 0 l.val) j
  exact congrArg₂ (fun f g => rmsNorm f g j) (funext fun l => sum_eq m c x0 x1 x2 x3 h0 h1 h2 h3 i l)
    (funext fun l => (congrFun h3 (ix2 0 l)).trans (scale_of m c (p := (0 : Fin 1)) (q := l) rfl rfl).symm)

end Cert.OutProjIdeal.Product

end
-- ==== Proof.ProjDtValue.lean ====
/-
  The product `h @ w` tile by tile: what each grid point stores, what the result array ends holding, and the reference's result.
-/
module

public import proofs.«01_k».proof.Proof.Blocks
public import proofs.«01_k».proof.Proof.Gen.ProjDtIdeal.Value
public import proofs.«01_k».proof.Proof.Gen.ProjDtRefIdeal.Run
public import Idealize.ShloMosaic.Lib.StableHlo.Run
public import Idealize.ShloMosaic.Lib.Pointwise

@[expose] public section

set_option synthInstance.maxSize 4096
set_option maxRecDepth 16384

noncomputable section

namespace Cert.ProjDtRefIdeal.Reading

open Idealize.ShloMosaic Idealize.ShloMosaic.TcCoe Cert.ProjDtRefIdeal Cert.ProjDtRefIdeal.Gen

/-- The reference's result, of the arguments' contents. -/
def out (x0 : FVec Ideal S8192x1024 .f32) (x1 : FVec Ideal S1024x128 .f32) : FVec Ideal S8192x128 .f32 :=
  Host.dotGeneral dot_S8192x1024_S1024x128_S8192x128_1_0_0_1_n_n none x0 x1

/-- The reference's result at an index. -/
theorem out_at (x0 : FVec Ideal S8192x1024 .f32) (x1 : FVec Ideal S1024x128 .f32) (i : Fin 8192) (j : Fin 128) : out x0 x1 (ix2 i j) = ((∑ r : Fin 1024, x0 (ix2 i r) * x1 (ix2 r j)) : EReal) := by
  unfold out
  pointwise []

end Cert.ProjDtRefIdeal.Reading

namespace Cert.ProjDtIdeal.Product

open Idealize.ShloMosaic Idealize.ShloMosaic.TcCoe Idealize.SL.Sem Cert.ProjDtIdeal Cert.ProjDtIdeal.Gen Cert.Blocks
open Idealize.ShloMosaic.Pipeline (Dat)

/-- What one grid point stores, from its blocks. -/
theorem out_at (x0 : Vec Ideal S1024x1024 .bf16) (x1 : Vec Ideal S1024x128 .bf16) (p : Fin 1024) (q : Fin 128) :
    out0_2 x0 x1 (ix2 p q) = ((∑ r : Fin 1024, x0 (ix2 p r) * x1 (ix2 r q)) : EReal) := by
  unfold out0_2
  rw [View.canon_unit_zero hz]
  simp only [View.ld_unit_zero (S := S1024x1024) hz, View.ld_unit_zero (S := S1024x128) hz]
  pointwise [k0_pay1]

variable (m : (ℓ : Loc nD τ sig) → Buf (Elt Ideal) ℓ) (c : Dev nD)

theorem hN : cfg0.N = 8 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

/-- The arguments at natural-number indices. -/
def lhs : ℕ → ℕ → EReal := nat2 fun (i : Fin 8192) (j : Fin 1024) => m ((c : Thread nD τ).loc main_arg0) (ix2 i j)
def rhs : ℕ → ℕ → EReal := nat2 fun (i : Fin 1024) (j : Fin 128) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 1024} {q : Fin 128} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 1024) (j : Fin 128) : (V m c main_v1 : FVec Ideal S1024x128 .bf16) (ix2 i j) = m ((c : Thread nD τ).loc main_arg1) (ix2 i j) := by
  have e : V m c main_v1 = (truncf .bf16 (m ((c : Thread nD τ).loc main_arg1)) bitsLt_bf16_f32 : FVec Ideal S1024x128 .bf16) := by
    unfold V
    after_results
  rw [e]
  pointwise []

theorem iblk0_at (t : Fin cfg0.N) (r : Fin 1024) (j : Fin 1024) :
    (iblk m c 0 t : Vec Ideal S1024x1024 .bf16) (ix2 r j) = lhs m c (t.val * 1024 + r.val) (0 * 1024 + j.val) := by
  have ht := t.isLt
  have := hN
  have e := V0 m c ⟨(t.val) * 1024 + r.val, by omega⟩ ⟨(0) * 1024 + j.val, by omega⟩
  refine Eq.trans ?_ (e.trans (lhs_of m c rfl rfl).symm)
  rw [iblk, View.read_apply]
  show V m c main_v0 _ = V m c main_v0 _
  exact congrArg _ (ix2_of (by show win0_0.index t 0 * 1024 + 1 * r.val = (t.val) * 1024 + r.val; rw [(idx0 t).1]; omega) (by show win0_0.index t 1 * 1024 + 1 * j.val = (0) * 1024 + j.val; rw [(idx0 t).2]; omega))

theorem iblk1_at (t : Fin cfg0.N) (r : Fin 1024) (j : Fin 128) :
    (iblk m c 1 t : Vec Ideal S1024x128 .bf16) (ix2 r j) = rhs m c (0 * 1024 + r.val) (0 * 128 + j.val) := by
  have ht := t.isLt
  have := hN
  have e := V1 m c ⟨(0) * 1024 + r.val, by omega⟩ ⟨(0) * 128 + j.val, by omega⟩
  refine Eq.trans ?_ (e.trans (rhs_of m c rfl rfl).symm)
  rw [iblk, View.read_apply]
  show V m c main_v1 _ = V m c main_v1 _
  exact congrArg _ (ix2_of (by show win0_1.index t 0 * 1024 + 1 * r.val = (0) * 1024 + r.val; rw [(idx1 t).1]; omega) (by show win0_1.index t 1 * 128 + 1 * j.val = (0) * 128 + j.val; rw [(idx1 t).2]; omega))

/-- The result, as contents of the result array. -/
def prod : Buf (Elt Ideal) ((c : Thread nD τ).loc main_v2) := fun y : S8192x128.Idx =>
  ((∑ r : Fin 1024, lhs m c (y 0).val r.val * rhs m c r.val (y 1).val) : EReal)

/-- The result array ends holding it. -/
theorem final : (dats m 0 c).arrAt 2 cfg0.N = prod m c :=
  (dats m 0 c).arrAt_eq_of_cover 2 (prod m c)
    (fun t hf => by
      rw [Value.flushed2]
      funext y
      rw [View.read_apply]
      refine Eq.trans (b := out0_2 (iblk m c 0 t) (iblk m c 1 t) y) rfl ?_
      obtain ⟨p, q, rfl⟩ : ∃ (p : Fin 1024) (q : Fin 128), y = ix2 p q := ⟨y 0, y 1, ValueIdx.eq_ix2 y⟩
      rw [out_at]
      have e0 : (((cfg0.win 2).blk t).view.emb (ix2 p q) 0).val = t.val * 1024 + p.val := by
        show win0_2.index t 0 * 1024 + 1 * p.val = _
        rw [(idx2 t).1]; omega
      have e1 : (((cfg0.win 2).blk t).view.emb (ix2 p q) 1).val = 0 * 128 + q.val := by
        show win0_2.index t 1 * 128 + 1 * q.val = _
        rw [(idx2 t).2]; omega
      show _ = prod m c (((cfg0.win 2).blk t).view.emb (ix2 p q))
      unfold prod
      rw [e0, e1]
      simp only [iblk0_at, iblk1_at, Nat.zero_mul, Nat.zero_add])
    fun y => by
      have hy0 : (y 0).val < 8192 := (y 0).isLt
      have hy1 : (y 1).val < 128 := (y 1).isLt
      have hn := hN
      let t : Fin cfg0.N := ⟨1 * ((y 0).val / 1024) + (y 1).val / 128, by omega⟩
      have ht : t.val = 1 * ((y 0).val / 1024) + (y 1).val / 128 := rfl
      refine ⟨t, flush0_2 t, ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 128 ≤ (y 1 : Nat) ∧ (y 1 : Nat) < win0_2.index t 1 * 128 + 128
        rw [(idx2 t).2]; omega

/-- The reference's result is what the kernel's result array ends holding. -/
theorem equal (x0 : FVec Ideal Cert.ProjDtRefIdeal.S8192x1024 .f32) (x1 : FVec Ideal Cert.ProjDtRefIdeal.S1024x128 .f32)
    (h0 : x0 = m ((c : Thread nD τ).loc main_arg0)) (h1 : x1 = m ((c : Thread nD τ).loc main_arg1)) :
    Cert.ProjDtRefIdeal.Reading.out x0 x1 = (dats m 0 c).arrAt 2 cfg0.N := by
  rw [final]
  funext y
  obtain ⟨i, j, rfl⟩ : ∃ (i : Fin 8192) (j : Fin 128), y = ix2 i j := ⟨y 0, y 1, ValueIdx.eq_ix2 y⟩
  refine (Cert.ProjDtRefIdeal.Reading.out_at _ _ i j).trans ?_
  show _ = prod m c (ix2 i j)
  unfold prod
  have e : (∑ r : Fin 1024, x0 (ix2 i r) * x1 (ix2 r j)) = ∑ r : Fin 1024, lhs m c i.val r.val * rhs m c r.val j.val := by
    refine Finset.sum_congr rfl fun r _ => ?_
    exact congrArg₂ (· * ·) ((congrFun h0 (ix2 i r)).trans (lhs_of m c (p := i) (q := r) rfl rfl).symm)
      ((congrFun h1 (ix2 r j)).trans (rhs_of m c (p := r) (q := j) rfl rfl).symm)
  exact e

end Cert.ProjDtIdeal.Product

end
-- ==== Proof.DwDtValue.lean ====
/-
  The product `h^T @ d` accumulated over row blocks: what each grid point stores, what the result's block holds after it, what
  the result array ends holding, and the reference's result.
-/
module

public import proofs.«01_k».proof.Proof.Blocks
public import proofs.«01_k».proof.Proof.Gen.DwDtIdeal.Value
public import proofs.«01_k».proof.Proof.Gen.DwDtRefIdeal.Run
public import Idealize.ShloMosaic.Lib.StableHlo.Run
public import Idealize.ShloMosaic.Lib.Pointwise

@[expose] public section

set_option synthInstance.maxSize 128
set_option maxRecDepth 16384

noncomputable section

namespace Cert.DwDtRefIdeal.Reading

open Idealize.ShloMosaic Idealize.ShloMosaic.TcCoe Cert.DwDtRefIdeal Cert.DwDtRefIdeal.Gen

/-- The reference's result, of the arguments' contents. -/
def out (x0 : FVec Ideal S8192x1024 .f32) (x1 : FVec Ideal S8192x128 .f32) : FVec Ideal S1024x128 .f32 :=
  transpose S1024x128 [1, 0] (Host.dotGeneral dot_S8192x128_S8192x1024_S128x1024_0_0_1_1_n_n none x1 x0) transposes_S128x1024_S1024x128_1_0

/-- The reference's result at an index. -/
theorem out_at (x0 : FVec Ideal S8192x1024 .f32) (x1 : FVec Ideal S8192x128 .f32) (i : Fin 1024) (j : Fin 128) : out x0 x1 (ix2 i j) = (∑ r : Fin 8192, x1 (ix2 r j) * x0 (ix2 r i) : EReal) := by
  unfold out
  pointwise []

end Cert.DwDtRefIdeal.Reading

namespace Cert.DwDtIdeal.Product

open Idealize.ShloMosaic Idealize.ShloMosaic.TcCoe Idealize.SL.Sem Cert.DwDtIdeal Cert.DwDtIdeal.Gen Cert.Blocks
open Idealize.ShloMosaic.Pipeline (Dat)

section

variable (c : Dev nD) (i : grid0.Coords) (a3 : Memref sig .tc .vmem S2048x1024 .bf16) (h3 : a3.IsWhole) (a4 : Memref sig .tc .vmem S2048x128 .bf16)
    (h4 : a4.IsWhole) (a5 : Memref sig .tc .vmem S1024x128 .f32) (h5 : a5.IsWhole)

/-- A point of the first block stores that block's product. -/
theorem out_A (hc0 : cond0_0 i) (hc1 : ¬cond0_1 i) (x0 : Vec Ideal S2048x1024 .bf16) (x1 : Vec Ideal S2048x128 .bf16) (p : Fin 1024) (q : Fin 128) :
    out0_A_2 c i a3 h3 a4 h4 a5 h5 hc0 hc1 x0 x1 (ix2 p q) = ∑ r : Fin 2048, x0 (ix2 r p) * x1 (ix2 r q) := by
  unfold out0_A_2
  rw [View.read_writes_eq_canon _ _ _ (cover0_A_2 _ _ _ _ _ _ _ _ _ _ _ _)]
  unfold kernelRun0_A
  dsimp only
  rw [View.canon_unit_zero hz]
  simp only [View.readAt_eq_ld, h3.read_unread, h4.read_unread, View.ld_unit_zero (S := S2048x1024) hz, View.ld_unit_zero (S := S2048x128) hz, View.ld_unit_zero (S := S1024x128) hz]
  pointwise [k0_pay1]

/-- A point of a later block adds that block's product to what the point before left. -/
theorem out_B (hc0 : ¬cond0_0 i) (hc1 : cond0_1 i) (x0 : Vec Ideal S2048x1024 .bf16) (x1 : Vec Ideal S2048x128 .bf16) (xo : Vec Ideal S1024x128 .f32)
    (p : Fin 1024) (q : Fin 128) :
    out0_B_2 c i a3 h3 a4 h4 a5 h5 hc0 hc1 x0 x1 xo (ix2 p q) = xo (ix2 p q) + ∑ r : Fin 2048, x0 (ix2 r p) * x1 (ix2 r q) := by
  unfold out0_B_2
  rw [View.read_writes_eq_canon _ _ _ (cover0_B_2 _ _ _ _ _ _ _ _ _ _ _ _ _)]
  unfold kernelRun0_B
  dsimp only
  rw [View.canon_unit_zero hz]
  simp only [View.readAt_eq_ld, h3.read_unread, h4.read_unread, h5.read_unread, View.ld_unit_zero (S := S2048x1024) hz, View.ld_unit_zero (S := S2048x128) hz, View.ld_unit_zero (S := S1024x128) hz]
  pointwise [k0_pay2, k0_pay1]

end

variable (m : (ℓ : Loc nD τ sig) → Buf (Elt Ideal) ℓ) (c : Dev nD)

theorem hN : cfg0.N = 4 := N_0

theorem idx0 : ∀ t : Fin cfg0.N, win0_0.index t 0 = t.val % 4 ∧ win0_0.index t 1 = 0 := by
  show ∀ t : Fin grid0.N, _
  decide +kernel

theorem idx1 : ∀ t : Fin cfg0.N, win0_1.index t 0 = t.val % 4 ∧ win0_1.index t 1 = t.val / 4 := by
  show ∀ t : Fin grid0.N, _
  decide +kernel

theorem idx2 : ∀ t : Fin cfg0.N, win0_2.index t 0 = 0 ∧ win0_2.index t 1 = t.val / 4 := by
  show ∀ t : Fin grid0.N, _
  decide +kernel

/-- The two arguments at natural-number indices. -/
def lhs : ℕ → ℕ → EReal := nat2 fun (i : Fin 8192) (j : Fin 1024) => m ((c : Thread nD τ).loc main_arg0) (ix2 i j)
def rhs : ℕ → ℕ → EReal := nat2 fun (i : Fin 8192) (j : Fin 128) => m ((c : Thread nD τ).loc main_arg1) (ix2 i j)
theorem lhs_of {i j : ℕ} {p : Fin 8192} {q : Fin 1024} (hp : p.val = i) (hq : q.val = j) : lhs m c i j = m ((c : Thread nD τ).loc main_arg0) (ix2 p q) := nat2_of _ hp hq
theorem rhs_of {i j : ℕ} {p : Fin 8192} {q : Fin 128} (hp : p.val = i) (hq : q.val = j) : rhs m c i j = m ((c : Thread nD τ).loc main_arg1) (ix2 p q) := nat2_of _ hp hq

theorem V0 (i : Fin 8192) (j : Fin 1024) : (V m c main_v0 : FVec Ideal S8192x1024 .bf16) (ix2 i j) = m ((c : Thread nD τ).loc main_arg0) (ix2 i j) := by
  have e : V m c main_v0 = (truncf .bf16 (m ((c : Thread nD τ).loc main_arg0)) bitsLt_bf16_f32 : FVec Ideal S8192x1024 .bf16) := by
    unfold V
    after_results
  rw [e]
  pointwise []

theorem V1 (i : Fin 8192) (j : Fin 128) : (V m c main_v1 : FVec Ideal S8192x128 .bf16) (ix2 i j) = m ((c : Thread nD τ).loc main_arg1) (ix2 i j) := by
  have e : V m c main_v1 = (truncf .bf16 (m ((c : Thread nD τ).loc main_arg1)) bitsLt_bf16_f32 : FVec Ideal S8192x128 .bf16) := by
    unfold V
    after_results
  rw [e]
  pointwise []

theorem iblk0_at (t : Fin cfg0.N) (r : Fin 2048) (j : Fin 1024) :
    (iblk m c 0 t : Vec Ideal S2048x1024 .bf16) (ix2 r j) = lhs m c (2048 * (t.val % 4) + r.val) j.val := by
  have ht := t.isLt
  have := hN
  have e := V0 m c ⟨2048 * (t.val % 4) + r.val, by omega⟩ j
  refine Eq.trans ?_ (e.trans (lhs_of m c rfl rfl).symm)
  rw [iblk, View.read_apply]
  show V m c main_v0 _ = V m c main_v0 _
  exact congrArg _ (ix2_of (by show win0_0.index t 0 * 2048 + 1 * r.val = 2048 * (t.val % 4) + r.val; rw [(idx0 t).1]; omega) (by show win0_0.index t 1 * 1024 + 1 * j.val = j.val; rw [(idx0 t).2]; omega))

theorem iblk1_at (t : Fin cfg0.N) (r : Fin 2048) (j : Fin 128) :
    (iblk m c 1 t : Vec Ideal S2048x128 .bf16) (ix2 r j) = rhs m c (2048 * (t.val % 4) + r.val) (128 * (t.val / 4) + j.val) := by
  have ht := t.isLt
  have := hN
  have e := V1 m c ⟨2048 * (t.val % 4) + r.val, by omega⟩ ⟨128 * (t.val / 4) + j.val, by omega⟩
  refine Eq.trans ?_ (e.trans (rhs_of m c rfl rfl).symm)
  rw [iblk, View.read_apply]
  show V m c main_v1 _ = V m c main_v1 _
  exact congrArg _ (ix2_of (by show win0_1.index t 0 * 2048 + 1 * r.val = 2048 * (t.val % 4) + r.val; rw [(idx1 t).1]; omega) (by show win0_1.index t 1 * 128 + 1 * j.val = 128 * (t.val / 4) + j.val; rw [(idx1 t).2]; omega))

/-- After a grid point the result's block holds the product over the rows so far. -/
theorem after (n : ℕ) (h : n < cfg0.N) (p : Fin 1024) (q : Fin 128) :
    outsAt0 m c n h (ix2 p q) = ∑ s ∈ Finset.range (2048 * (n % 4 + 1)), lhs m c s p.val * rhs m c s (128 * (n / 4) + q.val) := by
  induction n using Nat.strong_induction_on with
  | _ n ih =>
    have hn := hN
    by_cases h0 : n % 4 = 0
    · refine (congrFun (outsAt0_A m c ⟨n, h⟩ h0 (by dsimp only; omega)) (ix2 p q)).trans ?_
      rw [out_A]
      exact sum_first _ h0 (fun s => lhs m c s p.val * rhs m c s (128 * (n / 4) + q.val)) _ fun r => by rw [iblk0_at, iblk1_at]
    · refine (congrFun (outsAt0_B m c ⟨n, h⟩ h0 (by dsimp only; omega)) (ix2 p q)).trans ?_
      rw [out_B]
      refine sum_next _ (fun s => lhs m c s p.val * rhs m c s (128 * (n / 4) + q.val)) _ _ ?_ fun r => by rw [iblk0_at, iblk1_at]
      refine (ih (n - 1) (by omega) (by omega)).trans ?_
      rw [show (n - 1) / 4 = n / 4 by omega, show (n - 1) % 4 + 1 = n % 4 by omega]

/-- The product, as contents of the result array. -/
def prod : Buf (Elt Ideal) ((c : Thread nD τ).loc main_v2) := fun y : S1024x128.Idx =>
  (∑ s ∈ Finset.range 8192, lhs m c s (y 0).val * rhs m c s (y 1).val : EReal)

/-- The result array ends holding the product. -/
theorem final : (dats m 0 c).arrAt 2 cfg0.N = prod m c :=
  (dats m 0 c).arrAt_eq_of_cover 2 (prod m c)
    (fun t hf => by
      have h3 := (flush0_2 t).mp hf
      rw [Value.flushed2]
      funext y
      rw [View.read_apply]
      refine Eq.trans (b := outsAt0 m c t.val t.isLt y) rfl ?_
      obtain ⟨p, q, rfl⟩ : ∃ (p : Fin 1024) (q : Fin 128), y = ix2 p q := ⟨y 0, y 1, ValueIdx.eq_ix2 y⟩
      rw [after, h3]
      have e0 : (((cfg0.win 2).blk t).view.emb (ix2 p q) 0).val = p.val := by
        show win0_2.index t 0 * 1024 + 1 * p.val = _
        rw [(idx2 t).1]; omega
      have e1 : (((cfg0.win 2).blk t).view.emb (ix2 p q) 1).val = 128 * (t.val / 4) + q.val := by
        show win0_2.index t 1 * 128 + 1 * q.val = _
        rw [(idx2 t).2]; omega
      show _ = prod m c (((cfg0.win 2).blk t).view.emb (ix2 p q))
      unfold prod
      rw [e0, e1])
    fun y => by
      have hy0 : (y 0).val < 1024 := (y 0).isLt
      have hy1 : (y 1).val < 128 := (y 1).isLt
      have hn := hN
      let t : Fin cfg0.N := ⟨4 * ((y 1).val / 128) + 3, by omega⟩
      have ht : t.val / 4 = (y 1).val / 128 := by show (4 * ((y 1).val / 128) + 3) / 4 = _; omega
      refine ⟨t, (flush0_2 t).mpr (by show (4 * ((y 1).val / 128) + 3) % 4 = 3; omega), ?_⟩
      show y ∈ ((View.whole main_v2).slice (win0_2.rect t)).set
      rw [View.set_slice_whole, Rect.mem_set_unit]
      intro a
      match a with
      | ⟨0, _⟩ =>
        show win0_2.index t 0 * 1024 ≤ (y 0 : Nat) ∧ (y 0 : Nat) < win0_2.index t 0 * 1024 + 1024
        rw [(idx2 t).1]; omega
      | ⟨1, _⟩ =>
        show win0_2.index t 1 * 128 ≤ (y 1 : Nat) ∧ (y 1 : Nat) < win0_2.index t 1 * 128 + 128
        rw [(idx2 t).2, ht]; omega

/-- The reference's result is what the kernel's result array ends holding. -/
theorem equal (x0 : FVec Ideal Cert.DwDtRefIdeal.S8192x1024 .f32) (x1 : FVec Ideal Cert.DwDtRefIdeal.S8192x128 .f32)
    (h0 : x0 = m ((c : Thread nD τ).loc main_arg0)) (h1 : x1 = m ((c : Thread nD τ).loc main_arg1)) :
    Cert.DwDtRefIdeal.Reading.out x0 x1 = (dats m 0 c).arrAt 2 cfg0.N := by
  rw [final]
  funext y
  obtain ⟨i, j, rfl⟩ : ∃ (i : Fin 1024) (j : Fin 128), y = ix2 i j := ⟨y 0, y 1, ValueIdx.eq_ix2 y⟩
  refine (Cert.DwDtRefIdeal.Reading.out_at _ _ i j).trans ?_
  show _ = ∑ s ∈ Finset.range 8192, lhs m c s i.val * rhs m c s j.val
  rw [← Fin.sum_univ_eq_sum_range (fun s => lhs m c s i.val * rhs m c s j.val)]
  refine Finset.sum_congr rfl fun r _ => ?_
  refine (congrArg₂ (· * ·) ((congrFun h1 (ix2 r j)).trans (rhs_of m c (p := r) (q := j) rfl rfl).symm)
    ((congrFun h0 (ix2 r i)).trans (lhs_of m c (p := r) (q := i) rfl rfl).symm)).trans ?_
  exact mul_comm (rhs m c r.val j.val) (lhs m c r.val i.val)

end Cert.DwDtIdeal.Product

end
-- ==== Proof.RmsFwdValue.lean ====
/-
  The normalisation of the rows before the input projection: what each grid point stores, what the result array ends holding, and
  the reference's result.
-/
module

public import proofs.«01_k».proof.Proof.Blocks
public import proofs.«01_k».proof.Proof.Gen.RmsFwdIdeal.Value
public import proofs.«01_k».proof.Proof.Gen.RmsFwdRefIdeal.Run
public import Idealize.ShloMosaic.Lib.StableHlo.Run
public import Idealize.ShloMosaic.Lib.Pointwise

@[expose] public section

set_option synthInstance.maxSize 4096
set_option maxRecDepth 16384

noncomputable section

namespace Cert.RmsFwdRefIdeal.Reading

open Idealize.ShloMosaic Idealize.ShloMosaic.TcCoe Cert.RmsFwdRefIdeal Cert.RmsFwdRefIdeal.Gen

/-- A row divided by its root mean square and scaled. -/
def rmsNorm (f g : Fin 1024 → EReal) (q : Fin 1024) : EReal :=
  f q * Ideal.rsqrt (Ideal.div (∑ l, f l * f l) (Ideal.ofBits .f32 0x44800000#32) + Ideal.ofBits .f32 0x358637BD#32) * g q

/-- The reference's result, of the arguments' contents. -/
def out (x0 : FVec Ideal S8192x1024 .f32) (x1 : FVec Ideal S1x1024 .f32) : FVec Ideal S8192x1024 .bf16 :=
  truncf .bf16 (mulf (mulf x0 (broadcastInDim S8192x1024 ![0, 1] bcast_S8192x1_S8192x1024_0_1 (Host.rsqrt (addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ x1 shapeCasts_S1x1024_S1024)))) bitsLt_bf16_f32

/-- The reference's result at an index. -/
theorem out_at (x0 : FVec Ideal S8192x1024 .f32) (x1 : FVec Ideal S1x1024 .f32) (i : Fin 8192) (j : Fin 1024) :
    out x0 x1 (ix2 i j) = (rmsNorm (fun l => x0 (ix2 i l)) (fun l => x1 (ix2 0 l)) j : EReal) := by
  unfold out
  pointwise [rmsNorm]

end Cert.RmsFwdRefIdeal.Reading

namespace Cert.RmsFwdIdeal.Product

open Idealize.ShloMosaic Idealize.ShloMosaic.TcCoe Idealize.SL.Sem Cert.RmsFwdIdeal Cert.RmsFwdIdeal.Gen Cert.Blocks
open Idealize.ShloMosaic.Pipeline (Dat)
open Cert.RmsFwdRefIdeal.Reading (rmsNorm)

/-- What one grid point stores, from its blocks. -/
theorem out2_at (x0 : Vec Ideal S512x1024 .f32) (x1 : Vec Ideal S1x1024 .f32) (p : Fin 512) (q : Fin 1024) :
    out0_2 x0 x1 (ix2 p q) = (rmsNorm (fun l => x0 (ix2 p l)) (fun l => x1 (ix2 0 l)) q : EReal) := by
  unfold out0_2
  rw [View.canon_unit_zero hz]
  simp only [View.ld_unit_zero (S := S512x1024) hz, View.ld_unit_zero (S := S1x1024) hz]
  pointwise [k0_pay1, rmsNorm]

variable (m : (ℓ : Loc nD τ sig) → Buf (Elt Ideal) ℓ) (c : Dev nD)

theorem hN : cfg0.N = 16 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

/-- The arguments at natural-number indices. -/
def rows : ℕ → ℕ → EReal := nat2 fun (i : Fin 8192) (j : Fin 1024) => m ((c : Thread nD τ).loc main_arg0) (ix2 i j)
theorem rows_of {i j : ℕ} {p : Fin 8192} {q : Fin 1024} (hp : p.val = i) (hq : q.val = j) : rows m c i j = m ((c : Thread nD τ).loc main_arg0) (ix2 p q) := nat2_of _ hp hq
def scale : ℕ → ℕ → EReal := nat2 fun (i : Fin 1) (j : Fin 1024) => m ((c : Thread nD τ).loc main_arg1) (ix2 i j)
theorem scale_of {i j : ℕ} {p : Fin 1} {q : Fin 1024} (hp : p.val = i) (hq : q.val = j) : scale m c i j = m ((c : Thread nD τ).loc main_arg1) (ix2 p q) := nat2_of _ hp hq

theorem iblk0_at (t : Fin cfg0.N) (p : Fin 512) (q : Fin 1024) :
    (iblk m c 0 t : Vec Ideal S512x1024 .f32) (ix2 p q) = rows m c (512 * t.val + p.val) (q.val) := by
  have ht := t.isLt
  have := hN
  have e := congrFun (V_main_arg0 m c) (ix2 (⟨512 * t.val + p.val, by omega⟩ : Fin 8192) q)
  refine Eq.trans ?_ (e.trans (rows_of m c rfl rfl).symm)
  rw [iblk, View.read_apply]
  show V m c main_arg0 _ = V m c main_arg0 _
  exact congrArg _ (ix2_of (by show win0_0.index t 0 * 512 + 1 * p.val = 512 * t.val + p.val; rw [(idx0 t).1]; omega) (by show win0_0.index t 1 * 1024 + 1 * q.val = q.val; rw [(idx0 t).2]; omega))

theorem iblk1_at (t : Fin cfg0.N) (p : Fin 1) (q : Fin 1024) :
    (iblk m c 1 t : Vec Ideal S1x1024 .f32) (ix2 p q) = scale m c (0) (q.val) := by
  have ht := t.isLt
  have := hN
  have e := congrFun (V_main_arg1 m c) (ix2 (0 : Fin 1) q)
  refine Eq.trans ?_ (e.trans (scale_of m c rfl rfl).symm)
  rw [iblk, View.read_apply]
  show V m c main_arg1 _ = V m c main_arg1 _
  exact congrArg _ (ix2_of (by show win0_1.index t 0 * 1 + 1 * p.val = 0; rw [(idx1 t).1]; omega) (by show win0_1.index t 1 * 1024 + 1 * q.val = q.val; rw [(idx1 t).2]; omega))

/-- The result, as contents of the result array. -/
def normed : Buf (Elt Ideal) ((c : Thread nD τ).loc main_v0) := fun y : S8192x1024.Idx =>
  (rmsNorm (fun l => rows m c (y 0).val l.val) (fun l => scale m c 0 l.val) (y 1) : EReal)

/-- The result array ends holding it. -/
theorem final : (dats m 0 c).arrAt 2 cfg0.N = normed m c :=
  (dats m 0 c).arrAt_eq_of_cover 2 (normed m c)
    (fun t hf => by
      rw [Value.flushed2]
      funext y
      rw [View.read_apply]
      refine Eq.trans (b := out0_2 (iblk m c 0 t) (iblk m c 1 t) y) rfl ?_
      obtain ⟨p, q, rfl⟩ : ∃ (p : Fin 512) (q : Fin 1024), y = ix2 p q := ⟨y 0, y 1, ValueIdx.eq_ix2 y⟩
      rw [out2_at]
      have e0 : (((cfg0.win 2).blk t).view.emb (ix2 p q) 0).val = 512 * t.val + p.val := by
        show win0_2.index t 0 * 512 + 1 * p.val = _
        rw [(idx2 t).1]; omega
      have e1 : (((cfg0.win 2).blk t).view.emb (ix2 p q) 1) = q := Fin.ext (by
        show win0_2.index t 1 * 1024 + 1 * q.val = _
        rw [(idx2 t).2]; omega)
      show _ = normed m c (((cfg0.win 2).blk t).view.emb (ix2 p q))
      unfold normed
      rw [e0, e1]
      simp only [iblk0_at, iblk1_at])
    fun y => by
      have hy0 : (y 0).val < 8192 := (y 0).isLt
      have hy1 : (y 1).val < 1024 := (y 1).isLt
      have hn := hN
      let t : Fin cfg0.N := ⟨(y 0).val / 512, by omega⟩
      have ht : t.val = (y 0).val / 512 := rfl
      refine ⟨t, flush0_2 t, ?_⟩
      show y ∈ ((View.whole main_v0).slice (win0_2.rect t)).set
      rw [View.set_slice_whole, Rect.mem_set_unit]
      intro a
      match a with
      | ⟨0, _⟩ =>
        show win0_2.index t 0 * 512 ≤ (y 0 : Nat) ∧ (y 0 : Nat) < win0_2.index t 0 * 512 + 512
        rw [(idx2 t).1, ht]; omega
      | ⟨1, _⟩ =>
        show win0_2.index t 1 * 1024 ≤ (y 1 : Nat) ∧ (y 1 : Nat) < win0_2.index t 1 * 1024 + 1024
        rw [(idx2 t).2]; omega

/-- The reference's result is what the kernel's result array ends holding. -/
theorem equal (x0 : FVec Ideal Cert.RmsFwdRefIdeal.S8192x1024 .f32) (x1 : FVec Ideal Cert.RmsFwdRefIdeal.S1x1024 .f32)
    (h0 : x0 = m ((c : Thread nD τ).loc main_arg0)) (h1 : x1 = m ((c : Thread nD τ).loc main_arg1)) :
    Cert.RmsFwdRefIdeal.Reading.out x0 x1 = (dats m 0 c).arrAt 2 cfg0.N := by
  rw [final]
  funext y
  obtain ⟨i, j, rfl⟩ : ∃ (i : Fin 8192) (j : Fin 1024), y = ix2 i j := ⟨y 0, y 1, ValueIdx.eq_ix2 y⟩
  refine (Cert.RmsFwdRefIdeal.Reading.out_at _ _ i j).trans ?_
  show _ = rmsNorm (fun l => rows m c i.val l.val) (fun l => scale m c 0 l.val) j
  exact congrArg₂ (fun f g => rmsNorm f g j) (funext fun l => (congrFun h0 (ix2 i l)).trans (rows_of m c rfl rfl).symm)
    (funext fun l => (congrFun h1 (ix2 0 l)).trans (scale_of m c (p := (0 : Fin 1)) (q := l) rfl rfl).symm)

end Cert.RmsFwdIdeal.Product

end
-- ==== Proof.MergeBwdValue.lean ====
/-
  The backward pass of the gated merge: what each grid point stores in the gradients of the two branches and of the gates'
  pre-activations, the running sum it keeps for the gates' bias, what the four result arrays end holding, and the reference's
  results.
-/
module

public import proofs.«01_k».proof.Proof.Blocks
public import proofs.«01_k».proof.Proof.Gen.MergeBwdIdeal.Value
public import proofs.«01_k».proof.Proof.Gen.MergeBwdRefIdeal.Run
public import Idealize.ShloMosaic.Lib.WritesUnit
public import Idealize.ShloMosaic.Lib.StableHlo.Run
public import Idealize.ShloMosaic.Lib.Pointwise

@[expose] public section

set_option synthInstance.maxSize 4096
set_option maxRecDepth 16384

noncomputable section

namespace Cert.MergeBwdRefIdeal.Reading

open Idealize.ShloMosaic Idealize.ShloMosaic.TcCoe Cert.MergeBwdRefIdeal Cert.MergeBwdRefIdeal.Gen

/-- A gate: the logistic function, as a quotient. -/
def gate (x : EReal) : EReal := Ideal.div 1 (1 + Ideal.exp (-x))

/-- The reference's four results, of the arguments' contents. -/
def out0 (x0 x1 x2 : FVec Ideal S8192x1024 .f32) (x3 : FVec Ideal S8192x2048 .f32) (x4 : FVec Ideal S1x2048 .f32) : FVec Ideal S8192x1024 .bf16 :=
  truncf .bf16 (mulf (extractStridedSlice S8192x1024 ![0, 0] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4)))))) slices_S8192x2048_S8192x1024_0_0) (shapeCast _ x0 shapeCasts_S8192x1024_S8192x1024)) bitsLt_bf16_f32

def out1 (x0 x1 x2 : FVec Ideal S8192x1024 .f32) (x3 : FVec Ideal S8192x2048 .f32) (x4 : FVec Ideal S1x2048 .f32) : FVec Ideal S8192x1024 .bf16 :=
  truncf .bf16 (mulf (extractStridedSlice S8192x1024 ![0, 1024] (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4)))))) slices_S8192x2048_S8192x1024_0_1024) (shapeCast _ x0 shapeCasts_S8192x1024_S8192x1024)) bitsLt_bf16_f32

def out2 (x0 x1 x2 : FVec Ideal S8192x1024 .f32) (x3 : FVec Ideal S8192x2048 .f32) (x4 : FVec Ideal S1x2048 .f32) : FVec Ideal S8192x2048 .bf16 :=
  truncf .bf16 (mulf (concatenate S8192x2048 1 [⟨S8192x1024, (mulf (shapeCast _ x0 shapeCasts_S8192x1024_S8192x1024) x1)⟩, ⟨S8192x1024, (mulf (shapeCast _ x0 shapeCasts_S8192x1024_S8192x1024) x2)⟩] concatenates_S8192x1024_S8192x1024_S8192x2048_d1) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4)))))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4))))))))) bitsLt_bf16_f32

def out3 (x0 x1 x2 : FVec Ideal S8192x1024 .f32) (x3 : FVec Ideal S8192x2048 .f32) (x4 : FVec Ideal S1x2048 .f32) : FVec Ideal S1x2048 .f32 :=
  shapeCast _ (Host.reduceAdd (mulf (concatenate S8192x2048 1 [⟨S8192x1024, (mulf (shapeCast _ x0 shapeCasts_S8192x1024_S8192x1024) x1)⟩, ⟨S8192x1024, (mulf (shapeCast _ x0 shapeCasts_S8192x1024_S8192x1024) x2)⟩] concatenates_S8192x1024_S8192x1024_S8192x2048_d1) (mulf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4)))))) (subf (broadcastInDim S8192x2048 ![] bcast_S_S8192x2048 (constant S_ .f32 0x3F800000#32)) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf x3 (broadcastInDim S8192x2048 ![0, 1] bcast_S1x2048_S8192x2048_0_1 x4))))))))) (constant S_ .f32 0x00000000#32) reducesTo_S8192x2048_S2048_d0 h_S_) shapeCasts_S2048_S1x2048

/-- The gradient of the first branch at an index. -/
theorem out0_at (x0 x1 x2 : FVec Ideal S8192x1024 .f32) (x3 : FVec Ideal S8192x2048 .f32) (x4 : FVec Ideal S1x2048 .f32) (i : Fin 8192) (j : Fin 1024) :
    out0 x0 x1 x2 x3 x4 (ix2 i j) = (gate (x3 (ix2 i ⟨j.val, by omega⟩) + x4 (ix2 0 ⟨j.val, by omega⟩)) * x0 (ix2 i j) : EReal) := by
  unfold out0
  pointwise [gate]

/-- The gradient of the second branch at an index. -/
theorem out1_at (x0 x1 x2 : FVec Ideal S8192x1024 .f32) (x3 : FVec Ideal S8192x2048 .f32) (x4 : FVec Ideal S1x2048 .f32) (i : Fin 8192) (j : Fin 1024) :
    out1 x0 x1 x2 x3 x4 (ix2 i j) = (gate (x3 (ix2 i ⟨1024 + j.val, by omega⟩) + x4 (ix2 0 ⟨1024 + j.val, by omega⟩)) * x0 (ix2 i j) : EReal) := by
  unfold out1
  pointwise [gate]

/-- The gradient of the gates' pre-activations at an index. -/
theorem out2_at (x0 x1 x2 : FVec Ideal S8192x1024 .f32) (x3 : FVec Ideal S8192x2048 .f32) (x4 : FVec Ideal S1x2048 .f32) (i : Fin 8192) (k : Fin 2048) :
    out2 x0 x1 x2 x3 x4 (ix2 i k) = ((if h : k.val < 1024 then x0 (ix2 i ⟨k.val, h⟩) * x1 (ix2 i ⟨k.val, h⟩) else x0 (ix2 i ⟨k.val - 1024, by omega⟩) * x2 (ix2 i ⟨k.val - 1024, by omega⟩)) * (gate (x3 (ix2 i k) + x4 (ix2 0 k)) * (1 - gate (x3 (ix2 i k) + x4 (ix2 0 k)))) : EReal) := by
  unfold out2
  pointwise [gate]

/-- The gradient of the gates' bias at an index. -/
theorem out3_at (x0 x1 x2 : FVec Ideal S8192x1024 .f32) (x3 : FVec Ideal S8192x2048 .f32) (x4 : FVec Ideal S1x2048 .f32) (k : Fin 2048) :
    out3 x0 x1 x2 x3 x4 (ix2 0 k) = (∑ i : Fin 8192, (if h : k.val < 1024 then x0 (ix2 i ⟨k.val, h⟩) * x1 (ix2 i ⟨k.val, h⟩) else x0 (ix2 i ⟨k.val - 1024, by omega⟩) * x2 (ix2 i ⟨k.val - 1024, by omega⟩)) * (gate (x3 (ix2 i k) + x4 (ix2 0 k)) * (1 - gate (x3 (ix2 i k) + x4 (ix2 0 k)))) : EReal) := by
  unfold out3
  pointwise [gate]

end Cert.MergeBwdRefIdeal.Reading

namespace Cert.MergeBwdIdeal.Product

open Idealize.ShloMosaic Idealize.ShloMosaic.TcCoe Idealize.SL.Sem Cert.MergeBwdIdeal Cert.MergeBwdIdeal.Gen Cert.Blocks
open Idealize.ShloMosaic.Pipeline (Dat)
open Cert.MergeBwdRefIdeal.Reading (gate)

/-- The gradient of a gate's pre-activation `x`, from the gradient `d` of the merged value and the branch `b` the gate scales. -/
def slope (d b x : EReal) : EReal := d * b * gate x * (1 - gate x)

/-! ## What one grid point stores, from its blocks

The first point is `A`; a later one, `B`, also takes what the point before left for the bias. -/

section

variable (c : Dev nD) (i : grid0.Coords) (a1 : Memref sig .tc .vmem S512x1024 .f32) (e1 : a1.IsWhole) (a2 : Memref sig .tc .vmem S512x1024 .f32)
    (e2 : a2.IsWhole) (a3 : Memref sig .tc .vmem S512x1024 .f32) (e3 : a3.IsWhole) (a4 : Memref sig .tc .vmem S512x1024 .f32) (e4 : a4.IsWhole)
    (a5 : Memref sig .tc .vmem S512x1024 .f32) (e5 : a5.IsWhole) (a6 : Memref sig .tc .vmem S1x1024 .f32) (e6 : a6.IsWhole)
    (a7 : Memref sig .tc .vmem S1x1024 .f32) (e7 : a7.IsWhole) (a8 : Memref sig .tc .vmem S512x1024 .bf16) (e8 : a8.IsWhole)
    (a9 : Memref sig .tc .vmem S512x1024 .bf16) (e9 : a9.IsWhole) (a10 : Memref sig .tc .vmem S512x2048 .bf16) (e10 : a10.IsWhole)
    (a11 : Memref sig .tc .vmem S1x2048 .f32) (e11 : a11.IsWhole)

/-- The gradient of the first branch. -/
theorem out7_A (hc0 : cond0_0 i) (hc1 : ¬cond0_1 i) (x0 x1 x2 x3 x4 : Vec Ideal S512x1024 .f32) (x5 x6 : Vec Ideal S1x1024 .f32) (p : Fin 512)
    (q : Fin 1024) :
    out0_A_7 c i a1 e1 a2 e2 a3 e3 a4 e4 a5 e5 a6 e6 a7 e7 a8 e8 a9 e9 a10 e10 a11 e11 hc0 hc1 x0 x1 x2 x3 x4 x5 x6 (ix2 p q) = (x0 (ix2 p q) * gate (x3 (ix2 p q) + x5 (ix2 0 q)) : EReal) := by
  unfold out0_A_7
  unfold kernelRun0_A
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay11, k0_pay9, gate, slope]
  simp only [zero_sub]

/-- The gradient of the second branch. -/
theorem out8_A (hc0 : cond0_0 i) (hc1 : ¬cond0_1 i) (x0 x1 x2 x3 x4 : Vec Ideal S512x1024 .f32) (x5 x6 : Vec Ideal S1x1024 .f32) (p : Fin 512)
    (q : Fin 1024) :
    out0_A_8 c i a1 e1 a2 e2 a3 e3 a4 e4 a5 e5 a6 e6 a7 e7 a8 e8 a9 e9 a10 e10 a11 e11 hc0 hc1 x0 x1 x2 x3 x4 x5 x6 (ix2 p q) = (x0 (ix2 p q) * gate (x4 (ix2 p q) + x6 (ix2 0 q)) : EReal) := by
  unfold out0_A_8
  unfold kernelRun0_A
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay12, k0_pay10, gate, slope]
  simp only [zero_sub]

/-- The gradient of the first gate's pre-activation. -/
theorem out9_A_left (hc0 : cond0_0 i) (hc1 : ¬cond0_1 i) (x0 x1 x2 x3 x4 : Vec Ideal S512x1024 .f32) (x5 x6 : Vec Ideal S1x1024 .f32) (p : Fin 512)
    (q : Fin 1024) :
    out0_A_9 c i a1 e1 a2 e2 a3 e3 a4 e4 a5 e5 a6 e6 a7 e7 a8 e8 a9 e9 a10 e10 a11 e11 hc0 hc1 x0 x1 x2 x3 x4 x5 x6 (ix2 p ⟨q.val, by omega⟩) = (slope (x0 (ix2 p q)) (x1 (ix2 p q)) (x3 (ix2 p q) + x5 (ix2 0 q)) : EReal) := by
  unfold out0_A_9
  unfold kernelRun0_A
  dsimp only
  rw [View.read_writes_cons_unit_of_not_mem _ _ _ _ _ _ rfl (1 : Fin 2) (Or.inl (by show q.val < 1024; omega))]
  rw [View.read_writes_cons_unit_of_mem _ _ _ _ _ _ (ix2 p q) rfl (Fin.forall_fin_two.mpr ⟨(Nat.zero_add _).symm, (Nat.zero_add q.val).symm⟩)]
  unfold kernelRun0_A.sl.r_2 kernelRun0_A.sl.r_3
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay3, k0_pay1, k0_pay13, k0_pay14, k0_pay9, gate, slope]
  simp only [zero_sub]

/-- The gradient of the second gate's pre-activation. -/
theorem out9_A_right (hc0 : cond0_0 i) (hc1 : ¬cond0_1 i) (x0 x1 x2 x3 x4 : Vec Ideal S512x1024 .f32) (x5 x6 : Vec Ideal S1x1024 .f32) (p : Fin 512)
    (q : Fin 1024) :
    out0_A_9 c i a1 e1 a2 e2 a3 e3 a4 e4 a5 e5 a6 e6 a7 e7 a8 e8 a9 e9 a10 e10 a11 e11 hc0 hc1 x0 x1 x2 x3 x4 x5 x6 (ix2 p ⟨1024 + q.val, by omega⟩) = (slope (x0 (ix2 p q)) (x2 (ix2 p q)) (x4 (ix2 p q) + x6 (ix2 0 q)) : EReal) := by
  unfold out0_A_9
  unfold kernelRun0_A
  dsimp only
  rw [View.read_writes_cons_unit_of_mem _ _ _ _ _ _ (ix2 p q) rfl (Fin.forall_fin_two.mpr ⟨(Nat.zero_add _).symm, by show _ = 1024 + _; rfl⟩)]
  unfold kernelRun0_A.sl.r kernelRun0_A.sl.r_1
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay4, k0_pay2, k0_pay10, gate, slope]
  simp only [zero_sub]

/-- The block's part of the gradient of the first gate's bias. -/
theorem out10_A_left (hc0 : cond0_0 i) (hc1 : ¬cond0_1 i) (x0 x1 x2 x3 x4 : Vec Ideal S512x1024 .f32) (x5 x6 : Vec Ideal S1x1024 .f32) (q : Fin 1024) :
    out0_A_10 c i a1 e1 a2 e2 a3 e3 a4 e4 a5 e5 a6 e6 a7 e7 a8 e8 a9 e9 a10 e10 a11 e11 hc0 hc1 x0 x1 x2 x3 x4 x5 x6 (ix2 0 ⟨q.val, by omega⟩) = (∑ p : Fin 512, slope (x0 (ix2 p q)) (x1 (ix2 p q)) (x3 (ix2 p q) + x5 (ix2 0 q)) : EReal) := by
  unfold out0_A_10
  unfold kernelRun0_A
  dsimp only
  rw [View.read_writes_cons_unit_of_not_mem _ _ _ _ _ _ rfl (1 : Fin 2) (Or.inl (by show q.val < 1024; omega))]
  rw [View.read_writes_cons_unit_of_mem _ _ _ _ _ _ (ix2 0 q) rfl (Fin.forall_fin_two.mpr ⟨(Nat.zero_add _).symm, (Nat.zero_add q.val).symm⟩)]
  unfold kernelRun0_A.sl.r_2 kernelRun0_A.sl.r_3
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay5, k0_pay1, k0_pay13, k0_pay14, k0_pay9, gate, slope]
  simp only [zero_sub]

/-- The block's part of the gradient of the second gate's bias. -/
theorem out10_A_right (hc0 : cond0_0 i) (hc1 : ¬cond0_1 i) (x0 x1 x2 x3 x4 : Vec Ideal S512x1024 .f32) (x5 x6 : Vec Ideal S1x1024 .f32) (q : Fin 1024) :
    out0_A_10 c i a1 e1 a2 e2 a3 e3 a4 e4 a5 e5 a6 e6 a7 e7 a8 e8 a9 e9 a10 e10 a11 e11 hc0 hc1 x0 x1 x2 x3 x4 x5 x6 (ix2 0 ⟨1024 + q.val, by omega⟩) = (∑ p : Fin 512, slope (x0 (ix2 p q)) (x2 (ix2 p q)) (x4 (ix2 p q) + x6 (ix2 0 q)) : EReal) := by
  unfold out0_A_10
  unfold kernelRun0_A
  dsimp only
  rw [View.read_writes_cons_unit_of_mem _ _ _ _ _ _ (ix2 0 q) rfl (Fin.forall_fin_two.mpr ⟨(Nat.zero_add _).symm, by show _ = 1024 + _; rfl⟩)]
  unfold kernelRun0_A.sl.r kernelRun0_A.sl.r_1
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay6, k0_pay2, k0_pay10, gate, slope]
  simp only [zero_sub]

/-- The gradient of the first branch. -/
theorem out7_B (hc0 : ¬cond0_0 i) (hc1 : cond0_1 i) (x0 x1 x2 x3 x4 : Vec Ideal S512x1024 .f32) (x5 x6 : Vec Ideal S1x1024 .f32)
    (xo : Vec Ideal S1x2048 .f32) (p : Fin 512) (q : Fin 1024) :
    out0_B_7 c i a1 e1 a2 e2 a3 e3 a4 e4 a5 e5 a6 e6 a7 e7 a8 e8 a9 e9 a10 e10 a11 e11 hc0 hc1 x0 x1 x2 x3 x4 x5 x6 xo (ix2 p q) = (x0 (ix2 p q) * gate (x3 (ix2 p q) + x5 (ix2 0 q)) : EReal) := by
  unfold out0_B_7
  unfold kernelRun0_B
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay11, k0_pay9, gate, slope]
  simp only [zero_sub]

/-- The gradient of the second branch. -/
theorem out8_B (hc0 : ¬cond0_0 i) (hc1 : cond0_1 i) (x0 x1 x2 x3 x4 : Vec Ideal S512x1024 .f32) (x5 x6 : Vec Ideal S1x1024 .f32)
    (xo : Vec Ideal S1x2048 .f32) (p : Fin 512) (q : Fin 1024) :
    out0_B_8 c i a1 e1 a2 e2 a3 e3 a4 e4 a5 e5 a6 e6 a7 e7 a8 e8 a9 e9 a10 e10 a11 e11 hc0 hc1 x0 x1 x2 x3 x4 x5 x6 xo (ix2 p q) = (x0 (ix2 p q) * gate (x4 (ix2 p q) + x6 (ix2 0 q)) : EReal) := by
  unfold out0_B_8
  unfold kernelRun0_B
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay12, k0_pay10, gate, slope]
  simp only [zero_sub]

/-- The gradient of the first gate's pre-activation. -/
theorem out9_B_left (hc0 : ¬cond0_0 i) (hc1 : cond0_1 i) (x0 x1 x2 x3 x4 : Vec Ideal S512x1024 .f32) (x5 x6 : Vec Ideal S1x1024 .f32)
    (xo : Vec Ideal S1x2048 .f32) (p : Fin 512) (q : Fin 1024) :
    out0_B_9 c i a1 e1 a2 e2 a3 e3 a4 e4 a5 e5 a6 e6 a7 e7 a8 e8 a9 e9 a10 e10 a11 e11 hc0 hc1 x0 x1 x2 x3 x4 x5 x6 xo (ix2 p ⟨q.val, by omega⟩) = (slope (x0 (ix2 p q)) (x1 (ix2 p q)) (x3 (ix2 p q) + x5 (ix2 0 q)) : EReal) := by
  unfold out0_B_9
  unfold kernelRun0_B
  dsimp only
  rw [View.read_writes_cons_unit_of_not_mem _ _ _ _ _ _ rfl (1 : Fin 2) (Or.inl (by show q.val < 1024; omega))]
  rw [View.read_writes_cons_unit_of_mem _ _ _ _ _ _ (ix2 p q) rfl (Fin.forall_fin_two.mpr ⟨(Nat.zero_add _).symm, (Nat.zero_add q.val).symm⟩)]
  unfold kernelRun0_B.sl.r_2 kernelRun0_B.sl.r_3
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay3, k0_pay1, k0_pay13, k0_pay14, k0_pay9, gate, slope]
  simp only [zero_sub]

/-- The gradient of the second gate's pre-activation. -/
theorem out9_B_right (hc0 : ¬cond0_0 i) (hc1 : cond0_1 i) (x0 x1 x2 x3 x4 : Vec Ideal S512x1024 .f32) (x5 x6 : Vec Ideal S1x1024 .f32)
    (xo : Vec Ideal S1x2048 .f32) (p : Fin 512) (q : Fin 1024) :
    out0_B_9 c i a1 e1 a2 e2 a3 e3 a4 e4 a5 e5 a6 e6 a7 e7 a8 e8 a9 e9 a10 e10 a11 e11 hc0 hc1 x0 x1 x2 x3 x4 x5 x6 xo (ix2 p ⟨1024 + q.val, by omega⟩) = (slope (x0 (ix2 p q)) (x2 (ix2 p q)) (x4 (ix2 p q) + x6 (ix2 0 q)) : EReal) := by
  unfold out0_B_9
  unfold kernelRun0_B
  dsimp only
  rw [View.read_writes_cons_unit_of_mem _ _ _ _ _ _ (ix2 p q) rfl (Fin.forall_fin_two.mpr ⟨(Nat.zero_add _).symm, by show _ = 1024 + _; rfl⟩)]
  unfold kernelRun0_B.sl.r kernelRun0_B.sl.r_1
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay4, k0_pay2, k0_pay10, gate, slope]
  simp only [zero_sub]

/-- The block's part of the gradient of the first gate's bias added to the running sum. -/
theorem out10_B_left (hc0 : ¬cond0_0 i) (hc1 : cond0_1 i) (x0 x1 x2 x3 x4 : Vec Ideal S512x1024 .f32) (x5 x6 : Vec Ideal S1x1024 .f32)
    (xo : Vec Ideal S1x2048 .f32) (q : Fin 1024) :
    out0_B_10 c i a1 e1 a2 e2 a3 e3 a4 e4 a5 e5 a6 e6 a7 e7 a8 e8 a9 e9 a10 e10 a11 e11 hc0 hc1 x0 x1 x2 x3 x4 x5 x6 xo (ix2 0 ⟨q.val, by omega⟩) = (xo (ix2 0 ⟨q.val, by omega⟩) + ∑ p : Fin 512, slope (x0 (ix2 p q)) (x1 (ix2 p q)) (x3 (ix2 p q) + x5 (ix2 0 q)) : EReal) := by
  unfold out0_B_10
  unfold kernelRun0_B
  dsimp only
  rw [View.read_writes_cons_unit_of_not_mem _ _ _ _ _ _ rfl (1 : Fin 2) (Or.inl (by show q.val < 1024; omega))]
  rw [View.read_writes_cons_unit_of_mem _ _ _ _ _ _ (ix2 0 q) rfl (Fin.forall_fin_two.mpr ⟨(Nat.zero_add _).symm, (Nat.zero_add q.val).symm⟩)]
  unfold kernelRun0_B.sl.r_2 kernelRun0_B.sl.r_3
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay7, k0_pay5, k0_pay1, k0_pay13, k0_pay14, k0_pay9, gate, slope]
  simp only [zero_sub]

/-- The block's part of the gradient of the second gate's bias added to the running sum. -/
theorem out10_B_right (hc0 : ¬cond0_0 i) (hc1 : cond0_1 i) (x0 x1 x2 x3 x4 : Vec Ideal S512x1024 .f32) (x5 x6 : Vec Ideal S1x1024 .f32)
    (xo : Vec Ideal S1x2048 .f32) (q : Fin 1024) :
    out0_B_10 c i a1 e1 a2 e2 a3 e3 a4 e4 a5 e5 a6 e6 a7 e7 a8 e8 a9 e9 a10 e10 a11 e11 hc0 hc1 x0 x1 x2 x3 x4 x5 x6 xo (ix2 0 ⟨1024 + q.val, by omega⟩) = (xo (ix2 0 ⟨1024 + q.val, by omega⟩) + ∑ p : Fin 512, slope (x0 (ix2 p q)) (x2 (ix2 p q)) (x4 (ix2 p q) + x6 (ix2 0 q)) : EReal) := by
  unfold out0_B_10
  unfold kernelRun0_B
  dsimp only
  rw [View.read_writes_cons_unit_of_mem _ _ _ _ _ _ (ix2 0 q) rfl (Fin.forall_fin_two.mpr ⟨(Nat.zero_add _).symm, by show _ = 1024 + _; rfl⟩)]
  unfold kernelRun0_B.sl.r kernelRun0_B.sl.r_1 kernelRun0_B.sl.v59
  simp only [View.readAt_eq_ld, e1.read_unread, e2.read_unread, e3.read_unread, e4.read_unread, e5.read_unread, e6.read_unread, e7.read_unread, e11.read_unread, View.ld_unit_zero (S := S512x1024) hz, View.ld_unit_zero (S := S1x1024) hz]
  pointwise [k0_pay8, k0_pay6, k0_pay2, k0_pay10, gate, slope]
  simp only [zero_sub]

end

variable (m : (ℓ : Loc nD τ sig) → Buf (Elt Ideal) ℓ) (c : Dev nD)

theorem hN : cfg0.N = 16 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = t.val ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

theorem idx3 : ∀ t : Fin cfg0.N, win0_3.index t 0 = t.val ∧ win0_3.index t 1 = 0 := by
  show ∀ t : Fin grid0.N, _
  decide +kernel

theorem idx4 : ∀ t : Fin cfg0.N, win0_4.index t 0 = t.val ∧ win0_4.index t 1 = 1 := by
  show ∀ t : Fin grid0.N, _
  decide +kernel

theorem idx5 : ∀ t : Fin cfg0.N, win0_5.index t 0 = 0 ∧ win0_5.index t 1 = 0 := by
  show ∀ t : Fin grid0.N, _
  decide +kernel

theorem idx6 : ∀ t : Fin cfg0.N, win0_6.index t 0 = 0 ∧ win0_6.index t 1 = 1 := by
  show ∀ t : Fin grid0.N, _
  decide +kernel

theorem idx7 : ∀ t : Fin cfg0.N, win0_7.index t 0 = t.val ∧ win0_7.index t 1 = 0 := by
  show ∀ t : Fin grid0.N, _
  decide +kernel

theorem idx8 : ∀ t : Fin cfg0.N, win0_8.index t 0 = t.val ∧ win0_8.index t 1 = 0 := by
  show ∀ t : Fin grid0.N, _
  decide +kernel

theorem idx9 : ∀ t : Fin cfg0.N, win0_9.index t 0 = t.val ∧ win0_9.index t 1 = 0 := by
  show ∀ t : Fin grid0.N, _
  decide +kernel

theorem idx10 : ∀ t : Fin cfg0.N, win0_10.index t 0 = 0 ∧ win0_10.index t 1 = 0 := by
  show ∀ t : Fin grid0.N, _
  decide +kernel

/-- The arguments at natural-number indices. -/
def dm : ℕ → ℕ → EReal := nat2 fun (i : Fin 8192) (j : Fin 1024) => m ((c : Thread nD τ).loc main_arg0) (ix2 i j)
theorem dm_of {i j : ℕ} {p : Fin 8192} {q : Fin 1024} (hp : p.val = i) (hq : q.val = j) : dm m c i j = m ((c : Thread nD τ).loc main_arg0) (ix2 p q) := nat2_of _ hp hq
def pa : ℕ → ℕ → EReal := nat2 fun (i : Fin 8192) (j : Fin 1024) => m ((c : Thread nD τ).loc main_arg1) (ix2 i j)
theorem pa_of {i j : ℕ} {p : Fin 8192} {q : Fin 1024} (hp : p.val = i) (hq : q.val = j) : pa m c i j = m ((c : Thread nD τ).loc main_arg1) (ix2 p q) := nat2_of _ hp hq
def pb : ℕ → ℕ → EReal := nat2 fun (i : Fin 8192) (j : Fin 1024) => m ((c : Thread nD τ).loc main_arg2) (ix2 i j)
theorem pb_of {i j : ℕ} {p : Fin 8192} {q : Fin 1024} (hp : p.val = i) (hq : q.val = j) : pb m c i j = m ((c : Thread nD τ).loc main_arg2) (ix2 p q) := nat2_of _ hp hq
def gl : ℕ → ℕ → EReal := nat2 fun (i : Fin 8192) (j : Fin 2048) => m ((c : Thread nD τ).loc main_arg3) (ix2 i j)
theorem gl_of {i j : ℕ} {p : Fin 8192} {q : Fin 2048} (hp : p.val = i) (hq : q.val = j) : gl m c i j = m ((c : Thread nD τ).loc main_arg3) (ix2 p q) := nat2_of _ hp hq
def bg : ℕ → ℕ → EReal := nat2 fun (i : Fin 1) (j : Fin 2048) => m ((c : Thread nD τ).loc main_arg4) (ix2 i j)
theorem bg_of {i j : ℕ} {p : Fin 1} {q : Fin 2048} (hp : p.val = i) (hq : q.val = j) : bg m c i j = m ((c : Thread nD τ).loc main_arg4) (ix2 p q) := nat2_of _ hp hq

theorem iblk0_at (t : Fin cfg0.N) (p : Fin 512) (q : Fin 1024) :
    (iblk m c 0 t : Vec Ideal S512x1024 .f32) (ix2 p q) = dm m c (512 * t.val + p.val) (q.val) := by
  have ht := t.isLt
  have := hN
  have e := congrFun (V_main_arg0 m c) (ix2 (⟨512 * t.val + p.val, by omega⟩ : Fin 8192) q)
  refine Eq.trans ?_ (e.trans (dm_of m c rfl rfl).symm)
  rw [iblk, View.read_apply]
  show V m c main_arg0 _ = V m c main_arg0 _
  exact congrArg _ (ix2_of (by show win0_0.index t 0 * 512 + 1 * p.val = 512 * t.val + p.val; rw [(idx0 t).1]; omega) (by show win0_0.index t 1 * 1024 + 1 * q.val = q.val; rw [(idx0 t).2]; omega))

theorem iblk1_at (t : Fin cfg0.N) (p : Fin 512) (q : Fin 1024) :
    (iblk m c 1 t : Vec Ideal S512x1024 .f32) (ix2 p q) = pa m c (512 * t.val + p.val) (q.val) := by
  have ht := t.isLt
  have := hN
  have e := congrFun (V_main_arg1 m c) (ix2 (⟨512 * t.val + p.val, by omega⟩ : Fin 8192) q)
  refine Eq.trans ?_ (e.trans (pa_of m c rfl rfl).symm)
  rw [iblk, View.read_apply]
  show V m c main_arg1 _ = V m c main_arg1 _
  exact congrArg _ (ix2_of (by show win0_1.index t 0 * 512 + 1 * p.val = 512 * t.val + p.val; rw [(idx1 t).1]; omega) (by show win0_1.index t 1 * 1024 + 1 * q.val = q.val; rw [(idx1 t).2]; omega))

theorem iblk2_at (t : Fin cfg0.N) (p : Fin 512) (q : Fin 1024) :
    (iblk m c 2 t : Vec Ideal S512x1024 .f32) (ix2 p q) = pb m c (512 * t.val + p.val) (q.val) := by
  have ht := t.isLt
  have := hN
  have e := congrFun (V_main_arg2 m c) (ix2 (⟨512 * t.val + p.val, by omega⟩ : Fin 8192) q)
  refine Eq.trans ?_ (e.trans (pb_of m c rfl rfl).symm)
  rw [iblk, View.read_apply]
  show V m c main_arg2 _ = V m c main_arg2 _
  exact congrArg _ (ix2_of (by show win0_2.index t 0 * 512 + 1 * p.val = 512 * t.val + p.val; rw [(idx2 t).1]; omega) (by show win0_2.index t 1 * 1024 + 1 * q.val = q.val; rw [(idx2 t).2]; omega))

theorem iblk3_at (t : Fin cfg0.N) (p : Fin 512) (q : Fin 1024) :
    (iblk m c 3 t : Vec Ideal S512x1024 .f32) (ix2 p q) = gl m c (512 * t.val + p.val) (q.val) := by
  have ht := t.isLt
  have := hN
  have e := congrFun (V_main_arg3 m c) (ix2 (⟨512 * t.val + p.val, by omega⟩ : Fin 8192) (⟨q.val, by omega⟩ : Fin 2048))
  refine Eq.trans ?_ (e.trans (gl_of m c rfl rfl).symm)
  rw [iblk, View.read_apply]
  show V m c main_arg3 _ = V m c main_arg3 _
  exact congrArg _ (ix2_of (by show win0_3.index t 0 * 512 + 1 * p.val = 512 * t.val + p.val; rw [(idx3 t).1]; omega) (by show win0_3.index t 1 * 1024 + 1 * q.val = q.val; rw [(idx3 t).2]; omega))

theorem iblk4_at (t : Fin cfg0.N) (p : Fin 512) (q : Fin 1024) :
    (iblk m c 4 t : Vec Ideal S512x1024 .f32) (ix2 p q) = gl m c (512 * t.val + p.val) (1024 + q.val) := by
  have ht := t.isLt
  have := hN
  have e := congrFun (V_main_arg3 m c) (ix2 (⟨512 * t.val + p.val, by omega⟩ : Fin 8192) (⟨1024 + q.val, by omega⟩ : Fin 2048))
  refine Eq.trans ?_ (e.trans (gl_of m c rfl rfl).symm)
  rw [iblk, View.read_apply]
  show V m c main_arg3 _ = V m c main_arg3 _
  exact congrArg _ (ix2_of (by show win0_4.index t 0 * 512 + 1 * p.val = 512 * t.val + p.val; rw [(idx4 t).1]; omega) (by show win0_4.index t 1 * 1024 + 1 * q.val = 1024 + q.val; rw [(idx4 t).2]; omega))

theorem iblk5_at (t : Fin cfg0.N) (p : Fin 1) (q : Fin 1024) :
    (iblk m c 5 t : Vec Ideal S1x1024 .f32) (ix2 p q) = bg m c (0) (q.val) := by
  have ht := t.isLt
  have := hN
  have e := congrFun (V_main_arg4 m c) (ix2 (0 : Fin 1) (⟨q.val, by omega⟩ : Fin 2048))
  refine Eq.trans ?_ (e.trans (bg_of m c rfl rfl).symm)
  rw [iblk, View.read_apply]
  show V m c main_arg4 _ = V m c main_arg4 _
  exact congrArg _ (ix2_of (by show win0_5.index t 0 * 1 + 1 * p.val = 0; rw [(idx5 t).1]; omega) (by show win0_5.index t 1 * 1024 + 1 * q.val = q.val; rw [(idx5 t).2]; omega))

theorem iblk6_at (t : Fin cfg0.N) (p : Fin 1) (q : Fin 1024) :
    (iblk m c 6 t : Vec Ideal S1x1024 .f32) (ix2 p q) = bg m c (0) (1024 + q.val) := by
  have ht := t.isLt
  have := hN
  have e := congrFun (V_main_arg4 m c) (ix2 (0 : Fin 1) (⟨1024 + q.val, by omega⟩ : Fin 2048))
  refine Eq.trans ?_ (e.trans (bg_of m c rfl rfl).symm)
  rw [iblk, View.read_apply]
  show V m c main_arg4 _ = V m c main_arg4 _
  exact congrArg _ (ix2_of (by show win0_6.index t 0 * 1 + 1 * p.val = 0; rw [(idx6 t).1]; omega) (by show win0_6.index t 1 * 1024 + 1 * q.val = 1024 + q.val; rw [(idx6 t).2]; omega))

/-- The four results at natural-number indices: the two branches' gradients, the pre-activations' and, summed, the bias's. -/
def pre (i k : ℕ) : EReal := gl m c i k + bg m c 0 k
def gradA (i j : ℕ) : EReal := dm m c i j * gate (pre m c i j)
def gradB (i j : ℕ) : EReal := dm m c i j * gate (pre m c i (1024 + j))
def gradL (i k : ℕ) : EReal :=
  if k < 1024 then slope (dm m c i k) (pa m c i k) (pre m c i k)
  else slope (dm m c i (k - 1024)) (pb m c i (k - 1024)) (pre m c i k)

theorem gradL_left (i : ℕ) (q : Fin 1024) : gradL m c i q.val = slope (dm m c i q.val) (pa m c i q.val) (pre m c i q.val) :=
  if_pos q.isLt

theorem gradL_right (i : ℕ) (q : Fin 1024) :
    gradL m c i (1024 + q.val) = slope (dm m c i q.val) (pb m c i q.val) (pre m c i (1024 + q.val)) := by
  unfold gradL
  rw [if_neg (by omega), Nat.add_sub_cancel_left]

/-- A column of the two gates is one of the first or one of the second. -/
theorem column (k : Fin 2048) : (∃ q : Fin 1024, k = ⟨q.val, by omega⟩) ∨ ∃ q : Fin 1024, k = ⟨1024 + q.val, by omega⟩ := by
  by_cases h : k.val < 1024
  · exact Or.inl ⟨⟨k.val, h⟩, rfl⟩
  · exact Or.inr ⟨⟨k.val - 1024, by omega⟩, Fin.ext (by show k.val = 1024 + (k.val - 1024); omega)⟩

/-- What a point leaves in the first branch's block. -/
theorem after7 (t : Fin cfg0.N) (p : Fin 512) (q : Fin 1024) :
    (outsAt0 m c t.val t.isLt).1 (ix2 p q) = gradA m c (512 * t.val + p.val) q.val := by
  have hn := hN
  have ht := t.isLt
  by_cases h0 : t.val % 16 = 0
  · rw [outsAt0_A m c t h0 (by omega)]
    dsimp only
    rw [out7_A]
    simp only [iblk0_at, iblk1_at, iblk2_at, iblk3_at, iblk4_at, iblk5_at, iblk6_at]
    rfl
  · rw [outsAt0_B m c t h0 (by omega)]
    dsimp only
    rw [out7_B]
    simp only [iblk0_at, iblk1_at, iblk2_at, iblk3_at, iblk4_at, iblk5_at, iblk6_at]
    rfl

/-- What a point leaves in the second branch's block. -/
theorem after8 (t : Fin cfg0.N) (p : Fin 512) (q : Fin 1024) :
    (outsAt0 m c t.val t.isLt).2.1 (ix2 p q) = gradB m c (512 * t.val + p.val) q.val := by
  have hn := hN
  have ht := t.isLt
  by_cases h0 : t.val % 16 = 0
  · rw [outsAt0_A m c t h0 (by omega)]
    dsimp only
    rw [out8_A]
    simp only [iblk0_at, iblk1_at, iblk2_at, iblk3_at, iblk4_at, iblk5_at, iblk6_at]
    rfl
  · rw [outsAt0_B m c t h0 (by omega)]
    dsimp only
    rw [out8_B]
    simp only [iblk0_at, iblk1_at, iblk2_at, iblk3_at, iblk4_at, iblk5_at, iblk6_at]
    rfl

/-- What a point leaves in the pre-activations' block. -/
theorem after9 (t : Fin cfg0.N) (p : Fin 512) (k : Fin 2048) :
    (outsAt0 m c t.val t.isLt).2.2.1 (ix2 p k) = gradL m c (512 * t.val + p.val) k.val := by
  have hn := hN
  have ht := t.isLt
  by_cases h0 : t.val % 16 = 0
  · rw [outsAt0_A m c t h0 (by omega)]
    dsimp only
    obtain ⟨q, rfl⟩ | ⟨q, rfl⟩ := column k
    · rw [out9_A_left, gradL_left]
      simp only [iblk0_at, iblk1_at, iblk2_at, iblk3_at, iblk4_at, iblk5_at, iblk6_at]
      rfl
    · rw [out9_A_right, gradL_right]
      simp only [iblk0_at, iblk1_at, iblk2_at, iblk3_at, iblk4_at, iblk5_at, iblk6_at]
      rfl
  · rw [outsAt0_B m c t h0 (by omega)]
    dsimp only
    obtain ⟨q, rfl⟩ | ⟨q, rfl⟩ := column k
    · rw [out9_B_left, gradL_left]
      simp only [iblk0_at, iblk1_at, iblk2_at, iblk3_at, iblk4_at, iblk5_at, iblk6_at]
      rfl
    · rw [out9_B_right, gradL_right]
      simp only [iblk0_at, iblk1_at, iblk2_at, iblk3_at, iblk4_at, iblk5_at, iblk6_at]
      rfl

/-- What a point leaves in the bias's block: the sum over the rows so far. -/
theorem after10 (n : ℕ) (h : n < cfg0.N) (k : Fin 2048) :
    (outsAt0 m c n h).2.2.2 (ix2 0 k) = ∑ s ∈ Finset.range (512 * (n + 1)), gradL m c s k.val := by
  induction n using Nat.strong_induction_on with
  | _ n ih =>
    have hn := hN
    by_cases h0 : n % 16 = 0
    · refine (congrFun (congrArg (fun o => o.2.2.2) (outsAt0_A m c ⟨n, h⟩ h0 (by dsimp only; omega))) (ix2 0 k)).trans ?_
      dsimp only
      obtain ⟨q, rfl⟩ | ⟨q, rfl⟩ := column k
      · rw [out10_A_left]
        exact sum_first n (by omega) (fun s => gradL m c s q.val) _ fun r => by rw [gradL_left]; simp only [iblk0_at, iblk1_at, iblk2_at, iblk3_at, iblk4_at, iblk5_at, iblk6_at]; rfl
      · rw [out10_A_right]
        exact sum_first n (by omega) (fun s => gradL m c s (1024 + q.val)) _ fun r => by rw [gradL_right]; simp only [iblk0_at, iblk1_at, iblk2_at, iblk3_at, iblk4_at, iblk5_at, iblk6_at]; rfl
    · refine (congrFun (congrArg (fun o => o.2.2.2) (outsAt0_B m c ⟨n, h⟩ h0 (by dsimp only; omega))) (ix2 0 k)).trans ?_
      dsimp only
      obtain ⟨q, rfl⟩ | ⟨q, rfl⟩ := column k
      · rw [out10_B_left]
        refine sum_next n (fun s => gradL m c s q.val) _ _ ?_ fun r => by rw [gradL_left]; simp only [iblk0_at, iblk1_at, iblk2_at, iblk3_at, iblk4_at, iblk5_at, iblk6_at]; rfl
        refine (ih (n - 1) (by omega) (by omega)).trans ?_
        rw [show n - 1 + 1 = n by omega]
      · rw [out10_B_right]
        refine sum_next n (fun s => gradL m c s (1024 + q.val)) _ _ ?_ fun r => by rw [gradL_right]; simp only [iblk0_at, iblk1_at, iblk2_at, iblk3_at, iblk4_at, iblk5_at, iblk6_at]; rfl
        refine (ih (n - 1) (by omega) (by omega)).trans ?_
        rw [show n - 1 + 1 = n by omega]

/-- The results, as contents of the result arrays: the first branch. -/
def brA : Buf (Elt Ideal) ((c : Thread nD τ).loc main_v0_0) := fun y : S8192x1024.Idx =>
  (gradA m c (y 0).val (y 1 : Fin 1024).val : EReal)

/-- The second branch. -/
def brB : Buf (Elt Ideal) ((c : Thread nD τ).loc main_v0_1) := fun y : S8192x1024.Idx =>
  (gradB m c (y 0).val (y 1 : Fin 1024).val : EReal)

/-- The gates' pre-activations. -/
def logits : Buf (Elt Ideal) ((c : Thread nD τ).loc main_v0_2) := fun y : S8192x2048.Idx =>
  (gradL m c (y 0).val (y 1 : Fin 2048).val : EReal)

/-- The gates' bias. -/
def bias : Buf (Elt Ideal) ((c : Thread nD τ).loc main_v0_3) := fun y : S1x2048.Idx =>
  (∑ s ∈ Finset.range 8192, gradL m c s (y 1 : Fin 2048).val : EReal)

/-- That result array ends holding it. -/
theorem final7 : (dats m 0 c).arrAt 7 cfg0.N = brA m c :=
  (dats m 0 c).arrAt_eq_of_cover 7 (brA m c)
    (fun t hf => by
      rw [Value.flushed7]
      funext y
      rw [View.read_apply]
      refine Eq.trans (b := (outsAt0 m c t.val t.isLt).1 y) rfl ?_
      obtain ⟨p, q, rfl⟩ : ∃ (p : Fin 512) (q : Fin 1024), y = ix2 p q := ⟨y 0, y 1, ValueIdx.eq_ix2 y⟩
      rw [after7]
      have e0 : (((cfg0.win 7).blk t).view.emb (ix2 p q) 0).val = 512 * t.val + p.val := by
        show win0_7.index t 0 * 512 + 1 * p.val = _
        rw [(idx7 t).1]; omega
      have e1 : (((cfg0.win 7).blk t).view.emb (ix2 p q) 1) = q := Fin.ext (by
        show win0_7.index t 1 * 1024 + 1 * q.val = _
        rw [(idx7 t).2]; omega)
      show _ = brA m c (((cfg0.win 7).blk t).view.emb (ix2 p q))
      unfold brA
      rw [e0, e1])
    fun y => by
      have hy0 : (y 0).val < 8192 := (y 0).isLt
      have hy1 : (y 1).val < 1024 := (y 1).isLt
      have hn := hN
      let t : Fin cfg0.N := ⟨(y 0).val / 512, by omega⟩
      have ht : t.val = (y 0).val / 512 := rfl
      refine ⟨t, flush0_7 t, ?_⟩
      show y ∈ ((View.whole main_v0_0).slice (win0_7.rect t)).set
      rw [View.set_slice_whole, Rect.mem_set_unit]
      intro a
      match a with
      | ⟨0, _⟩ =>
        show win0_7.index t 0 * 512 ≤ (y 0 : Nat) ∧ (y 0 : Nat) < win0_7.index t 0 * 512 + 512
        rw [(idx7 t).1, ht]; omega
      | ⟨1, _⟩ =>
        show win0_7.index t 1 * 1024 ≤ (y 1 : Nat) ∧ (y 1 : Nat) < win0_7.index t 1 * 1024 + 1024
        rw [(idx7 t).2]; omega

/-- That result array ends holding it. -/
theorem final8 : (dats m 0 c).arrAt 8 cfg0.N = brB m c :=
  (dats m 0 c).arrAt_eq_of_cover 8 (brB m c)
    (fun t hf => by
      rw [Value.flushed8]
      funext y
      rw [View.read_apply]
      refine Eq.trans (b := (outsAt0 m c t.val t.isLt).2.1 y) rfl ?_
      obtain ⟨p, q, rfl⟩ : ∃ (p : Fin 512) (q : Fin 1024), y = ix2 p q := ⟨y 0, y 1, ValueIdx.eq_ix2 y⟩
      rw [after8]
      have e0 : (((cfg0.win 8).blk t).view.emb (ix2 p q) 0).val = 512 * t.val + p.val := by
        show win0_8.index t 0 * 512 + 1 * p.val = _
        rw [(idx8 t).1]; omega
      have e1 : (((cfg0.win 8).blk t).view.emb (ix2 p q) 1) = q := Fin.ext (by
        show win0_8.index t 1 * 1024 + 1 * q.val = _
        rw [(idx8 t).2]; omega)
      show _ = brB m c (((cfg0.win 8).blk t).view.emb (ix2 p q))
      unfold brB
      rw [e0, e1])
    fun y => by
      have hy0 : (y 0).val < 8192 := (y 0).isLt
      have hy1 : (y 1).val < 1024 := (y 1).isLt
      have hn := hN
      let t : Fin cfg0.N := ⟨(y 0).val / 512, by omega⟩
      have ht : t.val = (y 0).val / 512 := rfl
      refine ⟨t, flush0_8 t, ?_⟩
      show y ∈ ((View.whole main_v0_1).slice (win0_8.rect t)).set
      rw [View.set_slice_whole, Rect.mem_set_unit]
      intro a
      match a with
      | ⟨0, _⟩ =>
        show win0_8.index t 0 * 512 ≤ (y 0 : Nat) ∧ (y 0 : Nat) < win0_8.index t 0 * 512 + 512
        rw [(idx8 t).1, ht]; omega
      | ⟨1, _⟩ =>
        show win0_8.index t 1 * 1024 ≤ (y 1 : Nat) ∧ (y 1 : Nat) < win0_8.index t 1 * 1024 + 1024
        rw [(idx8 t).2]; omega

/-- That result array ends holding it. -/
theorem final9 : (dats m 0 c).arrAt 9 cfg0.N = logits m c :=
  (dats m 0 c).arrAt_eq_of_cover 9 (logits m c)
    (fun t hf => by
      rw [Value.flushed9]
      funext y
      rw [View.read_apply]
      refine Eq.trans (b := (outsAt0 m c t.val t.isLt).2.2.1 y) rfl ?_
      obtain ⟨p, q, rfl⟩ : ∃ (p : Fin 512) (q : Fin 2048), y = ix2 p q := ⟨y 0, y 1, ValueIdx.eq_ix2 y⟩
      rw [after9]
      have e0 : (((cfg0.win 9).blk t).view.emb (ix2 p q) 0).val = 512 * t.val + p.val := by
        show win0_9.index t 0 * 512 + 1 * p.val = _
        rw [(idx9 t).1]; omega
      have e1 : (((cfg0.win 9).blk t).view.emb (ix2 p q) 1) = q := Fin.ext (by
        show win0_9.index t 1 * 2048 + 1 * q.val = _
        rw [(idx9 t).2]; omega)
      show _ = logits m c (((cfg0.win 9).blk t).view.emb (ix2 p q))
      unfold logits
      rw [e0, e1])
    fun y => by
      have hy0 : (y 0).val < 8192 := (y 0).isLt
      have hy1 : (y 1).val < 2048 := (y 1).isLt
      have hn := hN
      let t : Fin cfg0.N := ⟨(y 0).val / 512, by omega⟩
      have ht : t.val = (y 0).val / 512 := rfl
      refine ⟨t, flush0_9 t, ?_⟩
      show y ∈ ((View.whole main_v0_2).slice (win0_9.rect t)).set
      rw [View.set_slice_whole, Rect.mem_set_unit]
      intro a
      match a with
      | ⟨0, _⟩ =>
        show win0_9.index t 0 * 512 ≤ (y 0 : Nat) ∧ (y 0 : Nat) < win0_9.index t 0 * 512 + 512
        rw [(idx9 t).1, ht]; omega
      | ⟨1, _⟩ =>
        show win0_9.index t 1 * 2048 ≤ (y 1 : Nat) ∧ (y 1 : Nat) < win0_9.index t 1 * 2048 + 2048
        rw [(idx9 t).2]; omega

/-- The bias's array ends holding it: the last point alone writes it back. -/
theorem final10 : (dats m 0 c).arrAt 10 cfg0.N = bias m c :=
  (dats m 0 c).arrAt_eq_of_cover 10 (bias m c)
    (fun t hf => by
      have h15 := (flush0_10 t).mp hf
      have hn := hN
      have ht := t.isLt
      rw [Value.flushed10]
      funext y
      rw [View.read_apply]
      refine Eq.trans (b := (outsAt0 m c t.val t.isLt).2.2.2 y) rfl ?_
      obtain ⟨p, q, rfl⟩ : ∃ (p : Fin 1) (q : Fin 2048), y = ix2 p q := ⟨y 0, y 1, ValueIdx.eq_ix2 y⟩
      obtain rfl : p = 0 := Subsingleton.elim _ _
      rw [after10, show 512 * (t.val + 1) = 8192 by omega]
      have e1 : (((cfg0.win 10).blk t).view.emb (ix2 0 q) 1) = q := Fin.ext (by
        show win0_10.index t 1 * 2048 + 1 * q.val = _
        rw [(idx10 t).2]; omega)
      show _ = bias m c (((cfg0.win 10).blk t).view.emb (ix2 0 q))
      unfold bias
      rw [e1])
    fun y => by
      have hy0 : (y 0).val < 1 := (y 0).isLt
      have hy1 : (y 1).val < 2048 := (y 1).isLt
      have hn := hN
      let t : Fin cfg0.N := ⟨15, by omega⟩
      refine ⟨t, (flush0_10 t).mpr rfl, ?_⟩
      show y ∈ ((View.whole main_v0_3).slice (win0_10.rect t)).set
      rw [View.set_slice_whole, Rect.mem_set_unit]
      intro a
      match a with
      | ⟨0, _⟩ =>
        show win0_10.index t 0 * 1 ≤ (y 0 : Nat) ∧ (y 0 : Nat) < win0_10.index t 0 * 1 + 1
        rw [(idx10 t).1]; omega
      | ⟨1, _⟩ =>
        show win0_10.index t 1 * 2048 ≤ (y 1 : Nat) ∧ (y 1 : Nat) < win0_10.index t 1 * 2048 + 2048
        rw [(idx10 t).2]; omega

/-! ## The reference's results, of the arguments -/

theorem pre_eq (x0 x1 x2 : FVec Ideal Cert.MergeBwdRefIdeal.S8192x1024 .f32) (x3 : FVec Ideal Cert.MergeBwdRefIdeal.S8192x2048 .f32) (x4 : FVec Ideal Cert.MergeBwdRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (i : Fin 8192) (k : Fin 2048) :
    (x3 (ix2 i k) + x4 (ix2 0 k) : EReal) = pre m c i.val k.val :=
  congrArg₂ (· + ·) ((congrFun h3 (ix2 i k)).trans (gl_of m c rfl rfl).symm)
    ((congrFun h4 (ix2 0 k)).trans (bg_of m c (p := (0 : Fin 1)) (q := k) rfl rfl).symm)

theorem gradL_eq (x0 x1 x2 : FVec Ideal Cert.MergeBwdRefIdeal.S8192x1024 .f32) (x3 : FVec Ideal Cert.MergeBwdRefIdeal.S8192x2048 .f32) (x4 : FVec Ideal Cert.MergeBwdRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (i : Fin 8192) (k : Fin 2048) :
    ((if h : k.val < 1024 then x0 (ix2 i ⟨k.val, h⟩) * x1 (ix2 i ⟨k.val, h⟩) else x0 (ix2 i ⟨k.val - 1024, by omega⟩) * x2 (ix2 i ⟨k.val - 1024, by omega⟩)) * (gate (x3 (ix2 i k) + x4 (ix2 0 k)) * (1 - gate (x3 (ix2 i k) + x4 (ix2 0 k)))) : EReal) = gradL m c i.val k.val := by
  rw [pre_eq m c x0 x1 x2 x3 x4 h0 h1 h2 h3 h4 i k]
  unfold gradL slope
  by_cases h : k.val < 1024
  · rw [dif_pos h, if_pos h]
    have d : (x0 (ix2 i ⟨k.val, h⟩) : EReal) = dm m c i.val k.val := (congrFun h0 (ix2 i ⟨k.val, h⟩)).trans (dm_of m c rfl rfl).symm
    have b : (x1 (ix2 i ⟨k.val, h⟩) : EReal) = pa m c i.val k.val := (congrFun h1 (ix2 i ⟨k.val, h⟩)).trans (pa_of m c rfl rfl).symm
    rw [d, b]
    exact (mul_assoc _ _ _).symm
  · rw [dif_neg h, if_neg h]
    have hk := k.isLt
    have d : (x0 (ix2 i ⟨k.val - 1024, by omega⟩) : EReal) = dm m c i.val (k.val - 1024) := (congrFun h0 (ix2 i ⟨k.val - 1024, by omega⟩)).trans (dm_of m c rfl rfl).symm
    have b : (x2 (ix2 i ⟨k.val - 1024, by omega⟩) : EReal) = pb m c i.val (k.val - 1024) := (congrFun h2 (ix2 i ⟨k.val - 1024, by omega⟩)).trans (pb_of m c rfl rfl).symm
    rw [d, b]
    exact (mul_assoc _ _ _).symm

/-- The reference's results are what the kernel's result arrays end holding. -/
theorem equal0 (x0 x1 x2 : FVec Ideal Cert.MergeBwdRefIdeal.S8192x1024 .f32) (x3 : FVec Ideal Cert.MergeBwdRefIdeal.S8192x2048 .f32) (x4 : FVec Ideal Cert.MergeBwdRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    Cert.MergeBwdRefIdeal.Reading.out0 x0 x1 x2 x3 x4 = (dats m 0 c).arrAt 7 cfg0.N := by
  rw [final7]
  funext y
  obtain ⟨i, j, rfl⟩ : ∃ (i : Fin 8192) (j : Fin 1024), y = ix2 i j := ⟨y 0, y 1, ValueIdx.eq_ix2 y⟩
  refine (Cert.MergeBwdRefIdeal.Reading.out0_at _ _ _ _ _ i j).trans ?_
  show _ = dm m c i.val j.val * gate (pre m c i.val j.val)
  refine (mul_comm _ _).trans (congrArg₂ (fun a b : EReal => a * gate b) ?_ (pre_eq m c x0 x1 x2 x3 x4 h0 h1 h2 h3 h4 i ⟨j.val, by omega⟩))
  exact (congrFun h0 (ix2 i j)).trans (dm_of m c rfl rfl).symm

theorem equal1 (x0 x1 x2 : FVec Ideal Cert.MergeBwdRefIdeal.S8192x1024 .f32) (x3 : FVec Ideal Cert.MergeBwdRefIdeal.S8192x2048 .f32) (x4 : FVec Ideal Cert.MergeBwdRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    Cert.MergeBwdRefIdeal.Reading.out1 x0 x1 x2 x3 x4 = (dats m 0 c).arrAt 8 cfg0.N := by
  rw [final8]
  funext y
  obtain ⟨i, j, rfl⟩ : ∃ (i : Fin 8192) (j : Fin 1024), y = ix2 i j := ⟨y 0, y 1, ValueIdx.eq_ix2 y⟩
  refine (Cert.MergeBwdRefIdeal.Reading.out1_at _ _ _ _ _ i j).trans ?_
  show _ = dm m c i.val j.val * gate (pre m c i.val (1024 + j.val))
  refine (mul_comm _ _).trans (congrArg₂ (fun a b : EReal => a * gate b) ?_ (pre_eq m c x0 x1 x2 x3 x4 h0 h1 h2 h3 h4 i ⟨1024 + j.val, by omega⟩))
  exact (congrFun h0 (ix2 i j)).trans (dm_of m c rfl rfl).symm

theorem equal2 (x0 x1 x2 : FVec Ideal Cert.MergeBwdRefIdeal.S8192x1024 .f32) (x3 : FVec Ideal Cert.MergeBwdRefIdeal.S8192x2048 .f32) (x4 : FVec Ideal Cert.MergeBwdRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    Cert.MergeBwdRefIdeal.Reading.out2 x0 x1 x2 x3 x4 = (dats m 0 c).arrAt 9 cfg0.N := by
  rw [final9]
  funext y
  obtain ⟨i, k, rfl⟩ : ∃ (i : Fin 8192) (k : Fin 2048), y = ix2 i k := ⟨y 0, y 1, ValueIdx.eq_ix2 y⟩
  exact (Cert.MergeBwdRefIdeal.Reading.out2_at _ _ _ _ _ i k).trans (gradL_eq m c x0 x1 x2 x3 x4 h0 h1 h2 h3 h4 i k)

theorem equal3 (x0 x1 x2 : FVec Ideal Cert.MergeBwdRefIdeal.S8192x1024 .f32) (x3 : FVec Ideal Cert.MergeBwdRefIdeal.S8192x2048 .f32) (x4 : FVec Ideal Cert.MergeBwdRefIdeal.S1x2048 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    Cert.MergeBwdRefIdeal.Reading.out3 x0 x1 x2 x3 x4 = (dats m 0 c).arrAt 10 cfg0.N := by
  rw [final10]
  funext y
  obtain ⟨z, k, rfl⟩ : ∃ (z : Fin 1) (k : Fin 2048), y = ix2 z k := ⟨y 0, y 1, ValueIdx.eq_ix2 y⟩
  obtain rfl : z = 0 := Subsingleton.elim _ _
  refine (Cert.MergeBwdRefIdeal.Reading.out3_at _ _ _ _ _ k).trans ?_
  show _ = ∑ s ∈ Finset.range 8192, gradL m c s k.val
  rw [← Fin.sum_univ_eq_sum_range (fun s => gradL m c s k.val)]
  exact Finset.sum_congr rfl fun i _ => gradL_eq m c x0 x1 x2 x3 x4 h0 h1 h2 h3 h4 i k

end Cert.MergeBwdIdeal.Product

end
-- ==== Proof.GmlpFwdValue.lean ====
/-
  The forward pass of the spatial gating: the chunk of 128 rows the body works on, what each grid point stores, what the result
  array ends holding, and the reference's result. Both are the same function on the extended reals, so nothing is asked of the arguments.
-/
module

public import proofs.«01_k».proof.Proof.Spec
public import proofs.«01_k».proof.Proof.Gen.GmlpFwdIdeal.Value
public import proofs.«01_k».proof.Proof.Gen.GmlpFwdRefIdeal.Run
public import Idealize.ShloMosaic.Lib.StableHlo.Run
public import Idealize.ShloMosaic.Lib.Pipeline.Value
public import Idealize.ShloMosaic.Lib.Pipeline.ReadBack
public import Idealize.ShloMosaic.Lib.Pointwise

@[expose] public section

set_option synthInstance.maxSize 4096
set_option maxRecDepth 16384

noncomputable section

namespace Cert.Gating

open Idealize.ShloMosaic Cert.Spec

/-- The activation. -/
def act (x : EReal) : EReal := x * (Ideal.ofBits .f32 0x3F000000#32 * (1 + Ideal.erf (x * (((Real.sqrt 2)⁻¹ : ℝ) : EReal))))

/-- The mean of 1024 values. -/
def mean (f : Fin 1024 → EReal) : EReal := Ideal.div (∑ l, f l) (Ideal.ofBits .f32 0x44800000#32)

/-- The gated half of a row less its mean. -/
def cen (r : Fin 2048 → EReal) (l : Fin 1024) : EReal := act (r (hi l)) - mean fun l => act (r (hi l))

/-- The gated half of a row normalised, scaled and shifted. -/
def norm (r : Fin 2048 → EReal) (G B : Fin 1024 → EReal) (l : Fin 1024) : EReal :=
  cen r l * Ideal.rsqrt ((mean fun l => cen r l * cen r l) + Ideal.ofBits .f32 0x358637BD#32) * G l + B l

/-- A square made lower triangular. -/
def tri (w : Fin 128 → Fin 128 → EReal) (i k : Fin 128) : EReal := if k.val ≤ i.val then w i k else 0

/-- The gate times the spatial product of the row's block with its bias. -/
def out (a : Fin 128 → Fin 2048 → EReal) (G B : Fin 1024 → EReal) (W : Fin 8 → Fin 128 → Fin 128 → EReal) (b : Fin 8 → Fin 128 → EReal)
    (i : Fin 128) (L : Fin 1024) : EReal :=
  act (a i (lo L)) * ((∑ k, tri (W (grp L)) i k * norm (a k) G B L) + b (grp L) i)

end Cert.Gating

namespace Cert.GmlpFwdRefIdeal.Stages

open Cert.GmlpFwdRefIdeal Cert.GmlpFwdRefIdeal.Gen Idealize.ShloMosaic Idealize.ShloMosaic.StableHlo Cert.Spec

/-! ### The reference's stages -/

variable (x : FVec Ideal S8192x2048 .f32) (g s : FVec Ideal S1x1024 .f32) (w : FVec Ideal S8x128x128 .f32) (b : FVec Ideal S8x128 .f32)

def lead : FVec Ideal S1x8192x2048 .f32 := broadcastInDim S1x8192x2048 ![1, 2] bcast_S8192x2048_S1x8192x2048_1_2 x
def rootHalf : FVec Ideal S_ .f32 := Host.sqrt (constant S_ .f32 0x3F000000#32)
def wide (v : FVec Ideal S_ .f32) : FVec Ideal S1x8192x2048 .f32 := broadcastInDim S1x8192x2048 ![] bcast_S_S1x8192x2048 v
def half : FVec Ideal S1x8192x2048 .f32 := mulf (wide (constant S_ .f32 0x3F000000#32)) (lead x)
def scaled : FVec Ideal S1x8192x2048 .f32 := mulf (Host.negf (lead x)) (wide rootHalf)
def erfcs : FVec Ideal S1x8192x2048 .f32 := Host.erfc (scaled x)
def act : FVec Ideal S1x8192x2048 .f32 := mulf (half x) (erfcs x)
def left : FVec Ideal S1x8192x1024 .f32 := extractStridedSlice S1x8192x1024 ![0, 0, 0] (act x) slices_S1x8192x2048_S1x8192x1024_0_0_0
def right : FVec Ideal S1x8192x1024 .f32 := extractStridedSlice S1x8192x1024 ![0, 0, 1024] (act x) slices_S1x8192x2048_S1x8192x1024_0_0_1024
def rowSum (v : FVec Ideal S1x8192x1024 .f32) : FVec Ideal S1x8192 .f32 := Host.reduceAdd v (constant S_ .f32 0x00000000#32) reducesTo_S1x8192x1024_S1x8192_d2 h_S_
def col (v : FVec Ideal S1x8192 .f32) : FVec Ideal S1x8192x1 .f32 := broadcastInDim S1x8192x1 ![0, 1] bcast_S1x8192_S1x8192x1_0_1 v
def thousand : FVec Ideal S1x8192x1 .f32 := broadcastInDim S1x8192x1 ![] bcast_S_S1x8192x1 (constant S_ .f32 0x44800000#32)
def rowMean (v : FVec Ideal S1x8192x1024 .f32) : FVec Ideal S1x8192x1 .f32 := Host.divf (col (rowSum v)) thousand
def spread (v : FVec Ideal S1x8192x1 .f32) : FVec Ideal S1x8192x1024 .f32 := broadcastInDim S1x8192x1024 ![0, 1, 2] bcast_S1x8192x1_S1x8192x1024_0_1_2 v
def cen : FVec Ideal S1x8192x1024 .f32 := subf (right x) (spread (rowMean (right x)))
def vpe : FVec Ideal S1x8192x1 .f32 := addf (rowMean (mulf (cen x) (cen x))) (broadcastInDim S1x8192x1 ![] bcast_S_S1x8192x1 (constant S_ .f32 0x358637BD#32))
def rstd : FVec Ideal S1x8192x1 .f32 := Host.rsqrt (vpe x)
def hat : FVec Ideal S1x8192x1024 .f32 := mulf (cen x) (spread (rstd x))
def down (v : FVec Ideal S1x1024 .f32) : FVec Ideal S1x8192x1024 .f32 := broadcastInDim S1x8192x1024 ![0, 1, 2] bcast_S1x1x1024_S1x8192x1024_0_1_2 (broadcastInDim S1x1x1024 ![2] bcast_S1024_S1x1x1024_2 (shapeCast _ v shapeCasts_S1x1024_S1024))
def norm : FVec Ideal S1x8192x1024 .f32 := addf (mulf (hat x) (down g)) (down s)
def blocks (v : FVec Ideal S1x8192x1024 .f32) : FVec Ideal S1x64x128x8x128 .f32 := shapeCast _ v shapeCasts_S1x8192x1024_S1x64x128x8x128
def unblocks (v : FVec Ideal S1x64x128x8x128 .f32) : FVec Ideal S1x8192x1024 .f32 := shapeCast _ v shapeCasts_S1x64x128x8x128_S1x8192x1024
def mask : IVec S8x128x128 1 := broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))
def zeros : FVec Ideal S8x128x128 .f32 := broadcastInDim S8x128x128 ![] bcast_S_S8x128x128 (constant S_ .f32 0x00000000#32)
def tri : FVec Ideal S8x128x128 .f32 := select mask w zeros
def back (v : FVec Ideal S8x1x64x128x128 .f32) : FVec Ideal S1x64x128x8x128 .f32 := transpose S1x64x128x8x128 [1, 2, 4, 0, 3] v transposes_S8x1x64x128x128_S1x64x128x8x128_1_2_4_0_3
def bias : FVec Ideal S1x64x128x8x128 .f32 := broadcastInDim S1x64x128x8x128 ![0, 1, 2, 3, 4] bcast_S1x1x128x8x1_S1x64x128x8x128_0_1_2_3_4 (broadcastInDim S1x1x128x8x1 ![2, 3] bcast_S128x8_S1x1x128x8x1_2_3 (transpose S128x8 [1, 0] b transposes_S8x128_S128x8_1_0))
def spatial : FVec Ideal S1x8192x1024 .f32 := unblocks (addf (back (Host.dotGeneral dot_S1x64x128x8x128_S8x128x128_S8x1x64x128x128_2_2_014_1_3_0 none (blocks (norm x g s)) (tri w))) (bias b))
def out : FVec Ideal S8192x1024 .bf16 := truncf .bf16 (shapeCast _ (mulf (left x) (spatial x g s w b)) shapeCasts_S1x8192x1024_S8192x1024) bitsLt_bf16_f32

/-! ### Re-indexings -/

/-- Row `i` of block `n`. -/
def row (n : Fin 64) (i : Fin 128) : Fin 8192 := ⟨128 * n.val + i.val, by omega⟩

/-- A row's block. -/
def blk (R : Fin 8192) : Fin 64 := ⟨R.val / 128, by omega⟩

/-- A row's place in its block. -/
def place (R : Fin 8192) : Fin 128 := ⟨R.val % 128, by omega⟩

theorem row_blk_place (R : Fin 8192) : row (blk R) (place R) = R := Fin.ext (by simp only [row, blk, place]; omega)

theorem blocks_at (v : FVec Ideal S1x8192x1024 .f32) (n : Fin 64) (i : Fin 128) (h : Fin 8) (l : Fin 128) :
    blocks v (ix5 0 n i h l) = v (ix3 0 (row n i) (lane h l)) := by
  pointwise [blocks]
  congr 2
  · exact Fin.ext (by show n.val * 128 + i.val = 128 * n.val + i.val; omega)
  · exact Fin.ext (by show h.val * 128 + l.val = 128 * h.val + l.val; omega)

theorem unblocks_at (v : FVec Ideal S1x64x128x8x128 .f32) (n : Fin 64) (i : Fin 128) (L : Fin 1024) :
    unblocks v (ix3 0 (row n i) L) = v (ix5 0 n i (grp L) (sub L)) := by
  pointwise [unblocks]
  congr 2
  · exact Fin.ext (by show (128 * n.val + i.val) / 128 = n.val; omega)
  · exact Fin.ext (by show (128 * n.val + i.val) % 128 = i.val; omega)

theorem mask_at (h : Fin 8) (i k : Fin 128) : mask (ix3 h i k) = if k.val ≤ i.val then 1#1 else 0#1 := by
  pointwise [mask]
  rw [show IntOp.addi (BitVec.ofNat 32 i.val) 0#32 = BitVec.ofNat 32 i.val from BitVec.add_zero _, sge_eq, select_if]

theorem root_half : Ideal.sqrt (Ideal.ofBits .f32 0x3F000000#32) = (((Real.sqrt 2)⁻¹ : ℝ) : EReal) := by
  rw [word_half, Ideal.sqrt_coe, if_neg (by norm_num), one_div, Real.sqrt_inv]

/-! ### The stages at an index -/

section

variable {x g s w b}

theorem act_at (R : Fin 8192) (j : Fin 2048) : act x (ix3 0 R j) = Gating.act (x (ix2 R j)) := by
  pointwise [act, half, erfcs, scaled, lead, wide, rootHalf]
  rw [root_half, neg_mul, Ideal.erfc_neg, Gating.act, mul_comm (Ideal.ofBits .f32 0x3F000000#32), mul_assoc]

theorem left_at (R : Fin 8192) (L : Fin 1024) : left x (ix3 0 R L) = Gating.act (x (ix2 R (lo L))) := by
  pointwise [left]
  exact act_at R (lo L)

theorem right_at (R : Fin 8192) (L : Fin 1024) : right x (ix3 0 R L) = Gating.act (x (ix2 R (hi L))) := by
  pointwise [right]
  exact act_at R (hi L)

theorem rowMean_at (v : FVec Ideal S1x8192x1024 .f32) (R : Fin 8192) : rowMean v (ix3 0 R 0) = Gating.mean fun L => v (ix3 0 R L) := by
  pointwise [rowMean, col, thousand, rowSum, Gating.mean]

theorem cen_at (R : Fin 8192) (L : Fin 1024) : cen x (ix3 0 R L) = Gating.cen (fun j => x (ix2 R j)) L := by
  pointwise [cen, spread]
  simp only [right_at, rowMean_at, Gating.cen]

theorem rstd_at (R : Fin 8192) : rstd x (ix3 0 R 0)
    = Ideal.rsqrt ((Gating.mean fun l => Gating.cen (fun j => x (ix2 R j)) l * Gating.cen (fun j => x (ix2 R j)) l) + Ideal.ofBits .f32 0x358637BD#32) := by
  have h : ∀ L, mulf (cen x) (cen x) (ix3 0 R L) = Gating.cen (fun j => x (ix2 R j)) L * Gating.cen (fun j => x (ix2 R j)) L := by
    intro L
    pointwise []
    rw [cen_at]
  pointwise [rstd, vpe]
  rw [rowMean_at]
  simp only [h]

theorem norm_at (R : Fin 8192) (L : Fin 1024) :
    norm x g s (ix3 0 R L) = Gating.norm (fun j => x (ix2 R j)) (fun l => g (ix2 0 l)) (fun l => s (ix2 0 l)) L := by
  pointwise [norm, down, hat, spread]
  rw [cen_at, rstd_at, Gating.norm]

theorem tri_at (h : Fin 8) (i k : Fin 128) : tri w (ix3 h i k) = Gating.tri (fun i k => w (ix3 h i k)) i k := by
  pointwise [tri, zeros]
  rw [mask_at, select_if, Gating.tri]

/-- The reference's result at a row of a block. -/
theorem out_at (n : Fin 64) (i : Fin 128) (L : Fin 1024) :
    out x g s w b (ix2 (row n i) L) = Gating.out (fun i j => x (ix2 (row n i) j)) (fun l => g (ix2 0 l)) (fun l => s (ix2 0 l))
      (fun h i k => w (ix3 h i k)) (fun h i => b (ix2 h i)) i L := by
  pointwise [out]
  rw [left_at, spatial, unblocks_at]
  pointwise [back, bias]
  simp only [blocks_at, norm_at, tri_at, lane_grp_sub]
  rw [Gating.out]
  congr 2
  exact Finset.sum_congr rfl fun k _ => mul_comm _ _

end

end Cert.GmlpFwdRefIdeal.Stages

namespace Cert.GmlpFwdIdeal.Product

open Idealize.ShloMosaic Idealize.ShloMosaic.TcCoe Idealize.SL.Sem Cert.GmlpFwdIdeal Cert.GmlpFwdIdeal.Gen Cert.Spec
open Idealize.ShloMosaic.Pipeline (Dat)

/-! ### One chunk of 128 rows -/

theorem lanes_slices (g : Fin 8) : S128x1024.Slices ![0, 128 * g.val] S128x128 :=
  ⟨rfl, by intro a; fin_cases a <;> simp [S128x1024, S128x128, Fin.cast] <;> omega⟩

theorem lane_slices (g : Fin 8) : S128x128.Slices ![0, g.val] S128x1 :=
  ⟨rfl, by intro a; fin_cases a <;> simp [S128x128, S128x1, Fin.cast] <;> omega⟩

section Chunk

variable {F : FTy → Type} [FloatOps F] [Named F]

/-- The activations. -/
def act (a : Vec F S128x2048 .f32) : FVec F S128x2048 .f32 :=
  mulf a (mulf (broadcast S128x2048 (Scalar.ofBits .f32 0x3F000000#32 : F .f32))
    (addf (broadcast S128x2048 (Scalar.ofBits .f32 0x3F800000#32 : F .f32))
      (erf (mulf a (broadcast S128x2048 (Named.named κ "inv_sqrt2" 0x3F3504F3#32 : F .f32))))))

/-- The gate: the left half of the activations. -/
def gate (a : Vec F S128x2048 .f32) : FVec F S128x1024 .f32 :=
  extractStridedSlice S128x1024 ![0, 0] (act a) slices_S128x2048_o0_0_S128x1024

/-- The gated half: the right half of the activations. -/
def right (a : Vec F S128x2048 .f32) : FVec F S128x1024 .f32 :=
  extractStridedSlice S128x1024 ![0, 1024] (act a) slices_S128x2048_o0_1024_S128x1024

/-- The mean of each row, as a column. -/
def rowMean (x : FVec F S128x1024 .f32) : FVec F S128x1 .f32 :=
  divf (shapeCast S128x1 (multiReduction .add [1] S128 x 0x00000000#32 reduces_S128x1024_S128 (.inl rfl) rfl) shapeCasts_S128_S128x1)
    (broadcast S128x1 (Scalar.ofBits .f32 0x44800000#32 : F .f32))

/-- A column repeated along the lanes. -/
def alongRow (x : FVec F S128x1 .f32) : FVec F S128x1024 .f32 := broadcastTo S128x1024 x broadcasts_S128x1_S128x1024

/-- The right half less its row means. -/
def centred (a : Vec F S128x2048 .f32) : FVec F S128x1024 .f32 := subf (right a) (alongRow (rowMean (right a)))

/-- One over the root of the row variance plus epsilon. -/
def rstd (a : Vec F S128x2048 .f32) : FVec F S128x1 .f32 :=
  rsqrt (addf (rowMean (mulf (centred a) (centred a))) (broadcast S128x1 (Scalar.ofBits .f32 0x358637BD#32 : F .f32)))

/-- The right half normalised, scaled and shifted. -/
def vnorm (a : Vec F S128x2048 .f32) (vg vb : Vec F S1x1024 .f32) : FVec F S128x1024 .f32 :=
  addf (mulf (mulf (centred a) (alongRow (rstd a))) (broadcastTo S128x1024 vg broadcasts_S1x1024_S128x1024))
    (broadcastTo S128x1024 vb broadcasts_S1x1024_S128x1024)

/-- The lanes of group `g`. -/
def lanes (g : Fin 8) (x : FVec F S128x1024 .f32) : FVec F S128x128 .f32 :=
  extractStridedSlice S128x128 ![0, 128 * g.val] x (lanes_slices g)

/-- The spatial weights of one group, made lower triangular. -/
def tri (w : Vec F S1x128x128 .f32) : FVec F S128x128 .f32 :=
  select k0_pay2 (shapeCast S128x128 w shapeCasts_S1x128x128_S128x128) (broadcast S128x128 (Scalar.ofBits .f32 0x00000000#32 : F .f32))

/-- The spatial product of group `g`, with its bias. -/
def spatial (g : Fin 8) (a : Vec F S128x2048 .f32) (vg vb : Vec F S1x1024 .f32) (w : Vec F S1x128x128 .f32) (b : Vec F S128x128 .f32) :
    FVec F S128x128 .f32 :=
  addf (matmul dot_S128x128_S128x128_S128x128_1_0_0_1_n_n none (truncf .bf16 (tri w) bitsLt_bf16_f32)
      (truncf .bf16 (lanes g (vnorm a vg vb)) bitsLt_bf16_f32) (constant S128x128 .f32 0x00000000#32))
    (broadcastTo S128x128 (extractStridedSlice S128x1 ![0, g.val] (shapeCast S128x128 b shapeCasts_S128x128_S128x128) (lane_slices g))
      broadcasts_S128x1_S128x128)

/-- The stored block of the chunk, lane group `g`. -/
def piece (g : Fin 8) (a : Vec F S128x2048 .f32) (vg vb : Vec F S1x1024 .f32) (w : Vec F S1x128x128 .f32) (b : Vec F S128x128 .f32) :
    FVec F S128x128 .bf16 :=
  truncf .bf16 (mulf (lanes g (gate a)) (spatial g a vg vb w b)) bitsLt_bf16_f32

end Chunk

theorem inv_sqrt2 : Named.named (F := Ideal) κ "inv_sqrt2" (φ := .f32) 0x3F3504F3#32 = (((Real.sqrt 2)⁻¹ : ℝ) : EReal) :=
  IdealRules.named_const.ideal_named_scalar _ _ _ _ rfl

section Reading

variable (A : Vec Ideal S128x2048 .f32) (Gv Bv : Vec Ideal S1x1024 .f32) (w : Vec Ideal S1x128x128 .f32) (bv : Vec Ideal S128x128 .f32)

theorem act_at (i : Fin 128) (j : Fin 2048) : act A (ix2 i j) = Gating.act (A (ix2 i j)) := by
  pointwise [act]
  rw [inv_sqrt2, Gating.act]
  rfl

theorem gate_at (i : Fin 128) (l : Fin 1024) : gate A (ix2 i l) = Gating.act (A (ix2 i (lo l))) := by
  pointwise [gate]
  exact act_at A i (lo l)

theorem right_at (i : Fin 128) (l : Fin 1024) : right A (ix2 i l) = Gating.act (A (ix2 i (hi l))) := by
  pointwise [right]
  exact act_at A i (hi l)

theorem rowMean_at (X : FVec Ideal S128x1024 .f32) (i : Fin 128) : rowMean X (ix2 i 0) = Gating.mean fun l => X (ix2 i l) := by
  pointwise [rowMean, Gating.mean]

theorem cen_at (i : Fin 128) (l : Fin 1024) : centred A (ix2 i l) = Gating.cen (fun j => A (ix2 i j)) l := by
  pointwise [centred, alongRow]
  simp only [right_at, rowMean_at, Gating.cen]

theorem rstd_at (i : Fin 128) : rstd A (ix2 i 0)
    = Ideal.rsqrt ((Gating.mean fun l => Gating.cen (fun j => A (ix2 i j)) l * Gating.cen (fun j => A (ix2 i j)) l) + Ideal.ofBits .f32 0x358637BD#32) := by
  have h : ∀ l, mulf (centred A) (centred A) (ix2 i l) = Gating.cen (fun j => A (ix2 i j)) l * Gating.cen (fun j => A (ix2 i j)) l := by
    intro l
    pointwise []
    rw [cen_at]
  pointwise [rstd]
  rw [rowMean_at]
  simp only [h]

theorem norm_at (i : Fin 128) (l : Fin 1024) :
    vnorm A Gv Bv (ix2 i l) = Gating.norm (fun j => A (ix2 i j)) (fun l => Gv (ix2 0 l)) (fun l => Bv (ix2 0 l)) l := by
  pointwise [vnorm, alongRow]
  rw [cen_at, rstd_at, Gating.norm]

theorem lanes_at (X : FVec Ideal S128x1024 .f32) (g : Fin 8) (i l : Fin 128) : lanes g X (ix2 i l) = X (ix2 i (lane g l)) := by
  pointwise [lanes]
  rfl

theorem tri_at (i k : Fin 128) : tri w (ix2 i k) = Gating.tri (fun i k => w (ix3 0 i k)) i k := by
  pointwise [tri, k0_pay2]
  rw [sge_eq, select_if, Gating.tri]

theorem spatial_at (g : Fin 8) (i l : Fin 128) : spatial g A Gv Bv w bv (ix2 i l)
    = (∑ k, Gating.tri (fun i k => w (ix3 0 i k)) i k * Gating.norm (fun j => A (ix2 k j)) (fun l => Gv (ix2 0 l)) (fun l => Bv (ix2 0 l)) (lane g l))
      + bv (ix2 i (pos g)) := by
  pointwise [spatial]
  simp only [tri_at, lanes_at, norm_at]
  rfl

theorem piece_at (g : Fin 8) (i l : Fin 128) : piece g A Gv Bv w bv (ix2 i l)
    = Gating.act (A (ix2 i (lo (lane g l))))
      * ((∑ k, Gating.tri (fun i k => w (ix3 0 i k)) i k * Gating.norm (fun j => A (ix2 k j)) (fun l => Gv (ix2 0 l)) (fun l => Bv (ix2 0 l)) (lane g l))
        + bv (ix2 i (pos g))) := by
  pointwise [piece]
  rw [lanes_at, gate_at, spatial_at]

end Reading

/-! ### The stores of a grid point -/

section Stores

variable {F : FTy → Type} [FloatOps F] [Named F]

theorem rows_inb (q : Fin 8) : ∀ a, (![128 * q.val, 0] : Fin 2 → Nat) a + S128x2048.size a ≤ S1024x2048.size a := by
  intro a; fin_cases a <;> simp [S128x2048, S1024x2048] <;> omega

theorem group_inb (g : Fin 8) : ∀ a, (![g.val, 0, 0] : Fin 3 → Nat) a + S1x128x128.size a ≤ S8x128x128.size a := by
  intro a; fin_cases a <;> simp [S1x128x128, S8x128x128] <;> omega

theorem store_inb (q g : Fin 8) : ∀ a, (![128 * q.val, 128 * g.val] : Fin 2 → Nat) a + S128x128.size a ≤ S1024x1024.size a := by
  intro a; fin_cases a <;> simp [S128x128, S1024x1024] <;> omega

/-- Chunk `q`'s rows. -/
def rowsRect (q : Fin 8) : Rect S1024x2048 := Rect.unit ![128 * q.val, 0] S128x2048.size (rows_inb q)

/-- The weights of group `g`. -/
def groupRect (g : Fin 8) : Rect S8x128x128 := Rect.unit ![g.val, 0, 0] S1x128x128.size (group_inb g)

/-- The stored block of chunk `q` and lane group `g`. -/
def storeRect (q g : Fin 8) : Rect S1024x1024 := Rect.unit ![128 * q.val, 128 * g.val] S128x128.size (store_inb q g)

/-- Chunk `q`'s rows of the pre-activations, as the body loads them. -/
def lA (x0 : Vec F S1024x2048 .f32) (q : Fin 8) : Vec F S128x2048 .f32 := View.ld x0 (rowsRect q)

/-- A whole row argument. -/
def lRow (x : Vec F S1x1024 .f32) : Vec F S1x1024 .f32 := View.ld x (Rect.unit ![0, 0] S1x1024.size inb_S1x1024_S1x1024_0_0)

/-- Group `g`'s weights. -/
def lW (x3 : Vec F S8x128x128 .f32) (g : Fin 8) : Vec F S1x128x128 .f32 := View.ld x3 (groupRect g)

/-- The whole bias block. -/
def lB (x4 : Vec F S128x128 .f32) : Vec F S128x128 .f32 := View.ld x4 (Rect.unit ![0, 0] S128x128.size inb_S128x128_S128x128_0_0)

/-- A natural number below eight. -/
def ix (q : ℕ) : Fin 8 := ⟨q % 8, Nat.mod_lt _ (by decide)⟩

theorem ix_val (q : Fin 8) : ix q.val = q := Fin.ext (Nat.mod_eq_of_lt q.isLt)

variable (A : Fin 8 → Vec F S128x2048 .f32) (G B : Vec F S1x1024 .f32) (W : Fin 8 → Vec F S1x128x128 .f32) (b : Vec F S128x128 .f32)

/-- The stored block of a grid point: element `(128 q + r, 128 g + l)` is element `(r, l)` of the piece of chunk `q` and group `g`. -/
def block (y : S1024x1024.Idx) : F .bf16 :=
  piece (ix ((y (1 : Fin 2)).val / 128)) (A (ix ((y (0 : Fin 2)).val / 128))) G B (W (ix ((y (1 : Fin 2)).val / 128))) b
    (ix2 (⟨(y (0 : Fin 2)).val % 128, Nat.mod_lt _ (by decide)⟩ : Fin 128) (⟨(y (1 : Fin 2)).val % 128, Nat.mod_lt _ (by decide)⟩ : Fin 128))

theorem block_piece (q g : Fin 8) (x : (storeRect q g).shape.Idx) :
    piece g (A q) G B (W g) b x = block A G B W b ((storeRect q g).emb x) := by
  have h0 : (((storeRect q g).emb x) (0 : Fin 2)).val = 128 * q.val + (x (0 : Fin 2)).val := by
    show 128 * q.val + 1 * (x (0 : Fin 2)).val = _
    rw [one_mul]
  have h1 : (((storeRect q g).emb x) (1 : Fin 2)).val = 128 * g.val + (x (1 : Fin 2)).val := by
    show 128 * g.val + 1 * (x (1 : Fin 2)).val = _
    rw [one_mul]
  have l0 : (x (0 : Fin 2)).val < 128 := (x (0 : Fin 2)).isLt
  have l1 : (x (1 : Fin 2)).val < 128 := (x (1 : Fin 2)).isLt
  unfold block
  have e0 : ix ((((storeRect q g).emb x) (0 : Fin 2)).val / 128) = q := by
    rw [h0, show (128 * q.val + (x (0 : Fin 2)).val) / 128 = q.val by omega, ix_val]
  have e1 : ix ((((storeRect q g).emb x) (1 : Fin 2)).val / 128) = g := by
    rw [h1, show (128 * g.val + (x (1 : Fin 2)).val) / 128 = g.val by omega, ix_val]
  rw [e0, e1]
  refine congrArg _ ?_
  refine (ValueIdx.eq_ix2 (n0 := 128) (n1 := 128) x).trans ?_
  refine (ix2_inj _ _ _ _).mpr ⟨Fin.ext ?_, Fin.ext ?_⟩
  · show (x (0 : Fin 2)).val = (((storeRect q g).emb x) (0 : Fin 2)).val % 128
    rw [h0]; omega
  · show (x (1 : Fin 2)).val = (((storeRect q g).emb x) (1 : Fin 2)).val % 128
    rw [h1]; omega

/-- The stores so far are pieces of `block`; the two counters say which store comes next. -/
def Laid (q j : ℕ) (L : List (View.Piece (Elt F) S1024x1024 .bf16)) : Prop := View.PiecesOf (block A G B W b) L

theorem Laid.step {q j : ℕ} {L : List (View.Piece (Elt F) S1024x1024 .bf16)} (hq : q < 8) (hj : j < 8) (h : Laid A G B W b q j L)
    {w : (storeRect ⟨q, hq⟩ ⟨j, hj⟩).shape.Idx → F .bf16} (hw : w = piece ⟨j, hj⟩ (A ⟨q, hq⟩) G B (W ⟨j, hj⟩) b) :
    Laid A G B W b q (j + 1) (⟨storeRect ⟨q, hq⟩ ⟨j, hj⟩, w⟩ :: L) :=
  ⟨fun x => by subst hw; exact block_piece A G B W b ⟨q, hq⟩ ⟨j, hj⟩ x, h⟩

theorem Laid.next {q : ℕ} {L : List (View.Piece (Elt F) S1024x1024 .bf16)} (h : Laid A G B W b q 8 L) : Laid A G B W b (q + 1) 0 L := h

theorem Laid.nil : Laid A G B W b 0 0 [] := trivial

/-- What a grid point stores is `block`. -/
theorem out5_block (x0 : Vec F S1024x2048 .f32) (x1 x2 : Vec F S1x1024 .f32) (x3 : Vec F S8x128x128 .f32) (x4 : Vec F S128x128 .f32) (y : S1024x1024.Idx) :
    out0_5 x0 x1 x2 x3 x4 y = block (lA x0) (lRow x1) (lRow x2) (lW x3) (lB x4) y := by
  unfold out0_5
  refine View.canon_apply_of_pieces _ _ (View.PiecesOf.mem ?_) y (cover0_5 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  show Laid (lA x0) (lRow x1) (lRow x2) (lW x3) (lB x4) 8 0 _
  iterate 8 (refine Laid.next _ _ _ _ _ ?_; iterate 8 refine Laid.step _ _ _ _ _ (by decide) (by decide) ?_ rfl)
  exact Laid.nil _ _ _ _ _

end Stores

/-! ### A grid point's block at an index -/

theorem lA_at (x0 : Vec Ideal S1024x2048 .f32) (q : Fin 8) (i : Fin 128) (j : Fin 2048) :
    lA x0 q (ix2 i j) = x0 (ix2 (⟨128 * q.val + i.val, by omega⟩ : Fin 1024) j) := by
  show x0 _ = x0 _
  congr 1
  funext a
  apply Fin.ext
  match a with
  | ⟨0, _⟩ => show 128 * q.val + 1 * i.val = 128 * q.val + i.val; omega
  | ⟨1, _⟩ => show 0 + 1 * j.val = j.val; omega

theorem lW_at (x3 : Vec Ideal S8x128x128 .f32) (g : Fin 8) (i k : Fin 128) : lW x3 g (ix3 0 i k) = x3 (ix3 g i k) := by
  show x3 _ = x3 _
  congr 1
  funext a
  apply Fin.ext
  match a with
  | ⟨0, _⟩ => show g.val + 1 * 0 = g.val; omega
  | ⟨1, _⟩ => show 0 + 1 * i.val = i.val; omega
  | ⟨2, _⟩ => show 0 + 1 * k.val = k.val; omega

theorem hz : (![0, 0] : Fin 2 → Nat) = fun _ => 0 := funext fun a => by fin_cases a <;> rfl

theorem lRow_eq (x : Vec Ideal S1x1024 .f32) : lRow x = x := View.ld_unit_zero (S := S1x1024) hz _ _

theorem lB_eq (x : Vec Ideal S128x128 .f32) : lB x = x := View.ld_unit_zero (S := S128x128) hz _ _

/-- What one grid point stores, from its blocks. -/
theorem out5_at (x0 : Vec Ideal S1024x2048 .f32) (x1 x2 : Vec Ideal S1x1024 .f32) (x3 : Vec Ideal S8x128x128 .f32) (x4 : Vec Ideal S128x128 .f32)
    (p L : Fin 1024) : out0_5 x0 x1 x2 x3 x4 (ix2 p L)
      = Gating.out (fun i j => x0 (ix2 (⟨128 * (p.val / 128) + i.val, by omega⟩ : Fin 1024) j)) (fun l => x1 (ix2 0 l)) (fun l => x2 (ix2 0 l))
          (fun g i k => x3 (ix3 g i k)) (fun g i => x4 (ix2 i (pos g))) (sub p) L := by
  rw [out5_block]
  have eq : ix (p.val / 128) = (⟨p.val / 128, by omega⟩ : Fin 8) := Fin.ext (Nat.mod_eq_of_lt (by omega))
  have eg : ix (L.val / 128) = grp L := Fin.ext (Nat.mod_eq_of_lt (by omega))
  show piece (ix (L.val / 128)) (lA x0 (ix (p.val / 128))) (lRow x1) (lRow x2) (lW x3 (ix (L.val / 128))) (lB x4) (ix2 (sub p) (sub L)) = _
  rw [eq, eg, piece_at, lRow_eq, lRow_eq, lB_eq]
  simp only [lA_at, lW_at, lane_grp_sub, Gating.out]

/-! ### The windows' blocks -/

variable (m : (ℓ : Loc nD τ sig) → Buf (Elt Ideal) ℓ) (c : Dev nD)

theorem hN : cfg0.N = 8 := N_0

theorem idx0 : ∀ t : Fin cfg0.N, win0_0.index t 0 = t.val ∧ win0_0.index t 1 = 0 := by
  show ∀ t : Fin grid0.N, _
  decide +kernel

theorem idx5 : ∀ t : Fin cfg0.N, win0_5.index t 0 = t.val ∧ win0_5.index t 1 = 0 := by
  show ∀ t : Fin grid0.N, _
  decide +kernel

/-- Row `r` of point `t`'s block of an array of 8192 rows. -/
def big (t : Fin cfg0.N) (r : Fin 1024) : Fin 8192 := ⟨(1024 * t.val + r.val) % 8192, Nat.mod_lt _ (by decide)⟩

theorem big_val (t : Fin cfg0.N) (r : Fin 1024) : (big t r).val = 1024 * t.val + r.val :=
  Nat.mod_eq_of_lt (by have := t.isLt; have := hN; omega)

theorem iblk0_at (t : Fin cfg0.N) (r : Fin 1024) (j : Fin 2048) :
    (iblk m c 0 t : Vec Ideal S1024x2048 .f32) (ix2 r j) = m ((c : Thread nD τ).loc main_arg0) (ix2 (big t r) j) := by
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1024 + 1 * r.val = (big t r).val; rw [(idx0 t).1, big_val]; omega
  | ⟨1, _⟩ => show win0_0.index t 1 * 2048 + 1 * j.val = j.val; rw [(idx0 t).2]; omega

theorem iblk1_eq (t : Fin cfg0.N) : (iblk m c 1 t : Vec Ideal S1x1024 .f32) = m ((c : Thread nD τ).loc main_arg1) := by
  have h : (fun a => win0_1.index t a * main_arg1.ty.shape.size a) = fun _ => 0 := by
    funext a; fin_cases a <;> rfl
  refine (Memref.read_access_unit_zero (Elt Ideal) main_arg1 h (fun a => by rw [congrFun h a]; simp) (V m c main_arg1)).trans ?_
  exact V_main_arg1 m c

theorem iblk2_eq (t : Fin cfg0.N) : (iblk m c 2 t : Vec Ideal S1x1024 .f32) = m ((c : Thread nD τ).loc main_arg2) := by
  have h : (fun a => win0_2.index t a * main_arg2.ty.shape.size a) = fun _ => 0 := by
    funext a; fin_cases a <;> rfl
  refine (Memref.read_access_unit_zero (Elt Ideal) main_arg2 h (fun a => by rw [congrFun h a]; simp) (V m c main_arg2)).trans ?_
  exact V_main_arg2 m c

theorem iblk3_eq (t : Fin cfg0.N) : (iblk m c 3 t : Vec Ideal S8x128x128 .f32) = m ((c : Thread nD τ).loc main_arg3) := by
  have h : (fun a => win0_3.index t a * main_arg3.ty.shape.size a) = fun _ => 0 := by
    funext a; fin_cases a <;> rfl
  refine (Memref.read_access_unit_zero (Elt Ideal) main_arg3 h (fun a => by rw [congrFun h a]; simp) (V m c main_arg3)).trans ?_
  exact V_main_arg3 m c

/-- The bias block the kernel is given: the biases transposed and padded to 128 lanes. -/
theorem V_bias : V m c main_v1 = (pad S128x128 ![0, 0] ![0, 120] ![0, 0] (transpose S128x8 [1, 0] (m ((c : Thread nD τ).loc main_arg4)) transposes_S8x128_S128x8_1_0)
    (sitofp .f32 (constantI S_ 32 0#32)) pads_S128x8_S128x128_000_01200 h_S_ : FVec Ideal S128x128 .f32) := by
  unfold V
  simp only [hostOps0, hostOps0_1, List.flatten_cons, List.flatten_nil, List.append_nil, List.cons_append, List.nil_append]
  after_results
  rfl

theorem iblk4_eq (t : Fin cfg0.N) : (iblk m c 4 t : Vec Ideal S128x128 .f32) = V m c main_v1 := by
  have h : (fun a => win0_4.index t a * main_v1.ty.shape.size a) = fun _ => 0 := by
    funext a; fin_cases a <;> rfl
  exact Memref.read_access_unit_zero (Elt Ideal) main_v1 h (fun a => by rw [congrFun h a]; simp) (V m c main_v1)

theorem iblk4_at (t : Fin cfg0.N) (i : Fin 128) (g : Fin 8) :
    (iblk m c 4 t : Vec Ideal S128x128 .f32) (ix2 i (pos g)) = m ((c : Thread nD τ).loc main_arg4) (ix2 g i) := by
  rw [iblk4_eq, V_bias]
  pointwise []
  exact dif_pos g.isLt

/-! ### The result array -/

open Cert.GmlpFwdRefIdeal.Stages (row blk place row_blk_place)

/-- The result at row `R` and lane `L`. -/
def at' (R : Fin 8192) (L : Fin 1024) : EReal :=
  Gating.out (fun i j => m ((c : Thread nD τ).loc main_arg0) (ix2 (row (blk R) i) j)) (fun l => m ((c : Thread nD τ).loc main_arg1) (ix2 0 l))
    (fun l => m ((c : Thread nD τ).loc main_arg2) (ix2 0 l)) (fun h i k => m ((c : Thread nD τ).loc main_arg3) (ix3 h i k))
    (fun h i => m ((c : Thread nD τ).loc main_arg4) (ix2 h i)) (place R) L

/-- The result, as contents of the result array. -/
def gated : Buf (Elt Ideal) ((c : Thread nD τ).loc main_v2) := fun y : S8192x1024.Idx => at' m c (y 0) (y 1)

theorem point_at (t : Fin cfg0.N) (p L : Fin 1024) :
    out0_5 (iblk m c 0 t) (iblk m c 1 t) (iblk m c 2 t) (iblk m c 3 t) (iblk m c 4 t) (ix2 p L) = at' m c (big t p) L := by
  have hp := big_val t p
  refine (out5_at _ _ _ _ _ p L).trans ?_
  unfold at'
  have e : sub p = place (big t p) := Fin.ext (by simp only [sub, place, hp]; omega)
  have r : ∀ i : Fin 128, big t (⟨128 * (p.val / 128) + i.val, by omega⟩ : Fin 1024) = row (blk (big t p)) i :=
    fun i => Fin.ext (by rw [big_val]; simp only [row, blk, hp]; omega)
  rw [e]
  simp only [iblk0_at, iblk4_at, r]
  rw [iblk1_eq, iblk2_eq, iblk3_eq]

/-- The result array ends holding it. -/
theorem final : (dats m 0 c).arrAt 5 cfg0.N = gated m c :=
  (dats m 0 c).arrAt_eq_of_cover 5 (gated m c)
    (fun t hf => by
      rw [Value.flushed5]
      funext y
      rw [View.read_apply]
      refine Eq.trans (b := out0_5 (iblk m c 0 t) (iblk m c 1 t) (iblk m c 2 t) (iblk m c 3 t) (iblk m c 4 t) y) rfl ?_
      obtain ⟨p, q, rfl⟩ : ∃ (p : Fin 1024) (q : Fin 1024), y = ix2 p q := ⟨y 0, y 1, ValueIdx.eq_ix2 y⟩
      rw [point_at]
      have e0 : (((cfg0.win 5).blk t).view.emb (ix2 p q) 0) = big t p := Fin.ext (by
        rw [big_val]
        show win0_5.index t 0 * 1024 + 1 * p.val = _
        rw [(idx5 t).1]; omega)
      have e1 : (((cfg0.win 5).blk t).view.emb (ix2 p q) 1) = q := Fin.ext (by
        show win0_5.index t 1 * 1024 + 1 * q.val = _
        rw [(idx5 t).2]; omega)
      show _ = gated m c (((cfg0.win 5).blk t).view.emb (ix2 p q))
      unfold gated
      rw [e0, e1])
    fun y => by
      have hy0 : (y 0).val < 8192 := (y 0).isLt
      have hy1 : (y 1).val < 1024 := (y 1).isLt
      have hn := hN
      let t : Fin cfg0.N := ⟨(y 0).val / 1024, by omega⟩
      have ht : t.val = (y 0).val / 1024 := rfl
      refine ⟨t, flush0_5 t, ?_⟩
      show y ∈ ((View.whole main_v2).slice (win0_5.rect t)).set
      rw [View.set_slice_whole, Rect.mem_set_unit]
      intro a
      match a with
      | ⟨0, _⟩ =>
        show win0_5.index t 0 * 1024 ≤ (y 0 : Nat) ∧ (y 0 : Nat) < win0_5.index t 0 * 1024 + 1024
        rw [(idx5 t).1, ht]; omega
      | ⟨1, _⟩ =>
        show win0_5.index t 1 * 1024 ≤ (y 1 : Nat) ∧ (y 1 : Nat) < win0_5.index t 1 * 1024 + 1024
        rw [(idx5 t).2]; omega

/-- The reference's result is what the kernel's result array ends holding. -/
theorem equal (x0 : FVec Ideal Cert.GmlpFwdRefIdeal.S8192x2048 .f32) (x1 x2 : FVec Ideal Cert.GmlpFwdRefIdeal.S1x1024 .f32)
    (x3 : FVec Ideal Cert.GmlpFwdRefIdeal.S8x128x128 .f32) (x4 : FVec Ideal Cert.GmlpFwdRefIdeal.S8x128 .f32)
    (h0 : x0 = m ((c : Thread nD τ).loc main_arg0)) (h1 : x1 = m ((c : Thread nD τ).loc main_arg1)) (h2 : x2 = m ((c : Thread nD τ).loc main_arg2))
    (h3 : x3 = m ((c : Thread nD τ).loc main_arg3)) (h4 : x4 = m ((c : Thread nD τ).loc main_arg4)) :
    Cert.GmlpFwdRefIdeal.Stages.out x0 x1 x2 x3 x4 = (dats m 0 c).arrAt 5 cfg0.N := by
  rw [final]
  subst h0 h1 h2 h3 h4
  funext y
  obtain ⟨i, j, rfl⟩ : ∃ (i : Fin 8192) (j : Fin 1024), y = ix2 i j := ⟨y 0, y 1, ValueIdx.eq_ix2 y⟩
  show _ = at' m c i j
  have e := Cert.GmlpFwdRefIdeal.Stages.out_at (x := m ((c : Thread nD τ).loc main_arg0)) (g := m ((c : Thread nD τ).loc main_arg1))
    (s := m ((c : Thread nD τ).loc main_arg2)) (w := m ((c : Thread nD τ).loc main_arg3)) (b := m ((c : Thread nD τ).loc main_arg4)) (blk i) (place i) j
  rw [row_blk_place] at e
  exact e

end Cert.GmlpFwdIdeal.Product

end
-- ==== Proof.RmsRows.lean ====
/-
  The backward pass of a row's normalisation by its root mean square: the gradient as the kernels write it, and that what
  differentiation gives equals it on all extended reals.
-/
module

public import proofs.«01_k».proof.Proof.Spec

@[expose] public section

namespace Cert.Rms

open Idealize.ShloMosaic Cert.Spec

/-- A row's mean square plus epsilon. -/
noncomputable def msq (x : Fin 1024 → EReal) : EReal := Ideal.div (∑ l, x l * x l) (Ideal.ofBits .f32 0x44800000#32) + Ideal.ofBits .f32 0x358637BD#32

/-- Dividing by 1024 is multiplying by a real. -/
theorem div_1024 (y : EReal) : Ideal.div y (Ideal.ofBits .f32 0x44800000#32) = y * (((1024 : ℝ)⁻¹ : ℝ) : EReal) := by
  rw [word_1024, Ideal.div, if_neg (by norm_num), EReal.coe_inv]

/-- A square isn't negative. -/
theorem sq_nonneg' (y : EReal) : 0 ≤ y * y := by
  rcases le_total 0 y with h | h
  · exact mul_nonneg h h
  · have := mul_nonneg (EReal.neg_nonneg.mpr h) (EReal.neg_nonneg.mpr h)
    rwa [neg_mul_neg] at this

/-- One over the root of it is a real that's not negative, and its cube is what the derivative of that root is made of. -/
theorem root (x : Fin 1024 → EReal) : ∃ ρ : ℝ, 0 ≤ ρ ∧ Ideal.rsqrt (msq x) = (ρ : EReal) ∧ Ideal.div (Ideal.rsqrt (msq x)) (msq x) = ((ρ ^ 3 : ℝ) : EReal) := by
  have hs : 0 ≤ Ideal.div (∑ l, x l * x l) (Ideal.ofBits .f32 0x44800000#32) := by
    rw [div_1024]
    exact mul_nonneg (Finset.sum_nonneg fun l _ => sq_nonneg' _) (by exact_mod_cast (by norm_num : (0 : ℝ) ≤ (1024 : ℝ)⁻¹))
  unfold msq
  generalize Ideal.div (∑ l, x l * x l) (Ideal.ofBits .f32 0x44800000#32) = s at hs
  rw [word_eps]
  induction s using EReal.rec with
  | bot => exact absurd hs (by simp)
  | top =>
    refine ⟨0, le_rfl, ?_, ?_⟩
    · rw [EReal.top_add_coe, Ideal.rsqrt_top, EReal.coe_zero]
    · rw [EReal.top_add_coe, Ideal.rsqrt_top, Ideal.div, if_neg EReal.top_ne_zero, zero_mul]; norm_num
  | coe s =>
    have h0 : (0 : ℝ) ≤ s := by exact_mod_cast hs
    have hp : 0 < s + eps := add_pos_of_nonneg_of_pos h0 eps_pos
    refine ⟨(Real.sqrt (s + eps))⁻¹, inv_nonneg.mpr (Real.sqrt_nonneg _), ?_, ?_⟩
    · rw [← EReal.coe_add, coe_rsqrt hp]
    · rw [← EReal.coe_add, coe_rsqrt hp, coe_div _ hp.ne']
      have hq : 0 < Real.sqrt (s + eps) := Real.sqrt_pos.mpr hp
      have e := Real.mul_self_sqrt hp.le
      rw [show (Real.sqrt (s + eps))⁻¹ / (s + eps) = (Real.sqrt (s + eps))⁻¹ ^ 3 from by
        rw [div_eq_iff hp.ne']
        nth_rewrite 3 [← e]
        field_simp]

/-- A factor that's a real not negative goes into a sum. -/
theorem sum_mul_coe {ρ : ℝ} (h : 0 ≤ ρ) (f : Fin 1024 → EReal) : (∑ l, f l) * (ρ : EReal) = ∑ l, f l * (ρ : EReal) := by
  have hn : (0 : EReal) ≤ ρ := by exact_mod_cast h
  induction (Finset.univ : Finset (Fin 1024)) using Finset.induction_on with
  | empty => simp
  | insert a s ha ih => rw [Finset.sum_insert ha, Finset.sum_insert ha, EReal.right_distrib_of_nonneg_of_ne_top hn (EReal.coe_ne_top _), ih]

/-- The gradient through the normalisation, as the kernel writes it and as differentiation does. -/
theorem through {ρ : ℝ} (h : 0 ≤ ρ) (d y S : EReal) :
    (ρ : EReal) * (d - y * ρ * Ideal.div (S * ρ) (Ideal.ofBits .f32 0x44800000#32))
      = d * ρ + (y * Ideal.div (S * (Ideal.ofBits .f32 0xBF000000#32 * ((ρ ^ 3 : ℝ) : EReal))) (Ideal.ofBits .f32 0x44800000#32)
        + y * Ideal.div (S * (Ideal.ofBits .f32 0xBF000000#32 * ((ρ ^ 3 : ℝ) : EReal))) (Ideal.ofBits .f32 0x44800000#32)) := by
  have hn : (0 : EReal) ≤ ρ := by exact_mod_cast h
  have ha : (0 : ℝ) ≤ 1 / 2 * ρ ^ 3 * (1024 : ℝ)⁻¹ := by positivity
  have hn' : (0 : EReal) ≤ ((1 / 2 * ρ ^ 3 * (1024 : ℝ)⁻¹ : ℝ) : EReal) := by exact_mod_cast ha
  rw [div_1024, div_1024, word_neg_half, EReal.mul_sub_of_nonneg_of_ne_top hn (EReal.coe_ne_top _)]
  have e1 : (ρ : EReal) * (y * ρ * (S * ρ * (((1024 : ℝ)⁻¹ : ℝ) : EReal))) = y * S * ((ρ ^ 3 * (1024 : ℝ)⁻¹ : ℝ) : EReal) := by
    rw [show ((ρ ^ 3 * (1024 : ℝ)⁻¹ : ℝ) : EReal) = (ρ : EReal) * ρ * ρ * (((1024 : ℝ)⁻¹ : ℝ) : EReal) by
      rw [← EReal.coe_mul, ← EReal.coe_mul, ← EReal.coe_mul]; congr 1; ring]
    ac_rfl
  have e2 : y * (S * (((-(1 / 2) : ℝ) : EReal) * ((ρ ^ 3 : ℝ) : EReal)) * (((1024 : ℝ)⁻¹ : ℝ) : EReal))
      = -(y * S * ((1 / 2 * ρ ^ 3 * (1024 : ℝ)⁻¹ : ℝ) : EReal)) := by
    rw [← mul_neg, ← EReal.coe_neg, show ((-(1 / 2 * ρ ^ 3 * (1024 : ℝ)⁻¹) : ℝ) : EReal) = (((-(1 / 2) : ℝ) : EReal) * ((ρ ^ 3 : ℝ) : EReal)) * (((1024 : ℝ)⁻¹ : ℝ) : EReal) by
      rw [← EReal.coe_mul, ← EReal.coe_mul]; congr 1; ring]
    ac_rfl
  have e3 : ∀ z : EReal, -(z * ((1 / 2 * ρ ^ 3 * (1024 : ℝ)⁻¹ : ℝ) : EReal)) + -(z * ((1 / 2 * ρ ^ 3 * (1024 : ℝ)⁻¹ : ℝ) : EReal))
      = -(z * ((ρ ^ 3 * (1024 : ℝ)⁻¹ : ℝ) : EReal)) := by
    intro z
    rw [← neg_mul, ← EReal.left_distrib_of_nonneg hn' hn', ← EReal.coe_add, neg_mul]
    congr 3; ring
  rw [e1, e2, e3, sub_eq_add_neg, mul_comm d]

/-- The gradient of a row `x` from the gradient `d` of its normalised and scaled row and the gradient `r` that reaches `x` past the
    normalisation; `g` is the scale. -/
noncomputable def grad (x g d r : Fin 1024 → EReal) (q : Fin 1024) : EReal :=
  r q + Ideal.rsqrt (msq x) * (d q * g q - x q * Ideal.rsqrt (msq x)
    * Ideal.div (∑ l, d l * g l * (x l * Ideal.rsqrt (msq x))) (Ideal.ofBits .f32 0x44800000#32))

/-- What differentiation gives for it: the square of `x` is differentiated as a product of two factors. -/
noncomputable def diff (x g d r : Fin 1024 → EReal) (q : Fin 1024) : EReal :=
  r q + d q * g q * Ideal.rsqrt (msq x)
    + x q * Ideal.div ((∑ l, x l * (d l * g l)) * (Ideal.ofBits .f32 0xBF000000#32 * Ideal.div (Ideal.rsqrt (msq x)) (msq x))) (Ideal.ofBits .f32 0x44800000#32)
    + Ideal.div ((∑ l, x l * (d l * g l)) * (Ideal.ofBits .f32 0xBF000000#32 * Ideal.div (Ideal.rsqrt (msq x)) (msq x))) (Ideal.ofBits .f32 0x44800000#32) * x q

/-- The two agree. -/
theorem diff_eq (x g d r : Fin 1024 → EReal) (q : Fin 1024) : diff x g d r q = grad x g d r q := by
  obtain ⟨ρ, h, e1, e2⟩ := root x
  unfold diff grad
  rw [e2, e1]
  have e : (∑ l, d l * g l * (x l * (ρ : EReal))) = (∑ l, x l * (d l * g l)) * (ρ : EReal) := by
    rw [sum_mul_coe h]
    exact Finset.sum_congr rfl fun l _ => by ac_rfl
  rw [e, through h, mul_comm _ (x q), add_assoc, add_assoc]

end Cert.Rms
-- ==== Proof.RmsMlpBwdValue.lean ====
/-
  The backward pass of the rows' normalisation before the MLP: what each grid point stores, what the result arrays end holding, and
  the reference's results.
-/
module

public import proofs.«01_k».proof.Proof.Blocks
public import proofs.«01_k».proof.Proof.RmsRows
public import proofs.«01_k».proof.Proof.Gen.RmsMlpBwdIdeal.Value
public import proofs.«01_k».proof.Proof.Gen.RmsMlpBwdRefIdeal.Run
public import Idealize.ShloMosaic.Lib.StableHlo.Run
public import Idealize.ShloMosaic.Lib.Pointwise
public import Idealize.ShloMosaic.Lib.WritesUnit

@[expose] public section

set_option synthInstance.maxSize 4096
set_option maxRecDepth 16384

noncomputable section

namespace Cert.RmsMlpBwdRefIdeal.Reading

open Idealize.ShloMosaic Idealize.ShloMosaic.TcCoe Cert.RmsMlpBwdRefIdeal Cert.RmsMlpBwdRefIdeal.Gen
open Cert.Rms (msq grad diff)

/-- The mean square of each row, with the small constant added. -/
def meanSq (x0 : FVec Ideal S8192x1024 .f32) : FVec Ideal S8192x1 .f32 :=
  addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The result's gradient times the scale. -/
def scaled (x1 : FVec Ideal S1x1024 .f32) (x2 : FVec Ideal S8192x1024 .f32) : FVec Ideal S8192x1024 .f32 :=
  mulf x2 (broadcastInDim S8192x1024 ![0, 1] bcast_S1x1024_S8192x1024_0_1 (broadcastInDim S1x1024 ![1] bcast_S1024_S1x1024_1 (shapeCast _ x1 shapeCasts_S1x1024_S1024)))

/-- Half of what an entry's gradient receives through its row's mean square, before the factor of the entry itself. -/
def through (x0 : FVec Ideal S8192x1024 .f32) (x1 : FVec Ideal S1x1024 .f32) (x2 : FVec Ideal S8192x1024 .f32) : FVec Ideal S8192x1024 .f32 :=
  broadcastInDim S8192x1024 ![0] bcast_S8192_S8192x1024_0 (Host.reduceAdd (Host.divf (mulf (shapeCast _ (Host.reduceAdd (mulf x0 (scaled x1 x2)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (meanSq x0)) (meanSq x0)))) (broadcastInDim S8192x1 ![] bcast_S_S8192x1 (constant S_ .f32 0x44800000#32))) (constant S_ .f32 0x00000000#32) reducesTo_S8192x1_S8192_d1 h_S_)

/-- The reference's gradient of the rows, of the arguments' contents. -/
def out0 (x0 : FVec Ideal S8192x1024 .f32) (x1 : FVec Ideal S1x1024 .f32) (x2 x3 : FVec Ideal S8192x1024 .f32) : FVec Ideal S8192x1024 .f32 :=
  addf (addf (addf x3 (mulf (scaled x1 x2) (broadcastInDim S8192x1024 ![0, 1] bcast_S8192x1_S8192x1024_0_1 (Host.rsqrt (meanSq x0))))) (mulf x0 (through x0 x1 x2))) (mulf (through x0 x1 x2) x0)

/-- The same, rounded. -/
def out1 (x0 : FVec Ideal S8192x1024 .f32) (x1 : FVec Ideal S1x1024 .f32) (x2 x3 : FVec Ideal S8192x1024 .f32) : FVec Ideal S8192x1024 .bf16 :=
  truncf .bf16 (out0 x0 x1 x2 x3) bitsLt_bf16_f32

/-- The reference's gradient of the scale. -/
def out2 (x0 : FVec Ideal S8192x1024 .f32) (x1 : FVec Ideal S1x1024 .f32) (x2 x3 : FVec Ideal S8192x1024 .f32) : FVec Ideal S1x1024 .f32 :=
  broadcastInDim S1x1024 ![1] bcast_S1024_S1x1024_1 (Host.reduceAdd (shapeCast _ (Host.reduceAdd (mulf (mulf x0 (broadcastInDim S8192x1024 ![0, 1] bcast_S8192x1_S8192x1024_0_1 (Host.rsqrt (meanSq x0)))) x2) (constant S_ .f32 0x00000000#32) reducesTo_S8192x1024_S1024_d0 h_S_) shapeCasts_S1024_S1x1024) (constant S_ .f32 0x00000000#32) reducesTo_S1x1024_S1024_d0 h_S_)

/-- The gradient of the rows at an index. -/
theorem out0_at (x0 : FVec Ideal S8192x1024 .f32) (x1 : FVec Ideal S1x1024 .f32) (x2 x3 : FVec Ideal S8192x1024 .f32) (i : Fin 8192) (j : Fin 1024) :
    out0 x0 x1 x2 x3 (ix2 i j) = (grad (fun l => x0 (ix2 i l)) (fun l => x1 (ix2 0 l)) (fun l => x2 (ix2 i l)) (fun l => x3 (ix2 i l)) j : EReal) := by
  rw [← Cert.Rms.diff_eq]
  unfold out0
  pointwise [meanSq, scaled, through, diff, msq]
  simp only [Finset.sum_const, Finset.card_univ, Fintype.card_fin, one_smul]
/-- The rounded one at an index: over the reals rounding changes nothing. -/
theorem out1_at (x0 : FVec Ideal S8192x1024 .f32) (x1 : FVec Ideal S1x1024 .f32) (x2 x3 : FVec Ideal S8192x1024 .f32) (i : Fin 8192) (j : Fin 1024) :
    out1 x0 x1 x2 x3 (ix2 i j) = (grad (fun l => x0 (ix2 i l)) (fun l => x1 (ix2 0 l)) (fun l => x2 (ix2 i l)) (fun l => x3 (ix2 i l)) j : EReal) :=
  out0_at x0 x1 x2 x3 i j
/-- The gradient of the scale at an index. -/
theorem out2_at (x0 : FVec Ideal S8192x1024 .f32) (x1 : FVec Ideal S1x1024 .f32) (x2 x3 : FVec Ideal S8192x1024 .f32) (j : Fin 1024) :
    out2 x0 x1 x2 x3 (ix2 0 j) = (∑ i : Fin 8192, x0 (ix2 i j) * Ideal.rsqrt (msq fun l => x0 (ix2 i l)) * x2 (ix2 i j) : EReal) := by
  unfold out2
  pointwise [meanSq, msq]
  simp only [Finset.sum_const, Finset.card_univ, Fintype.card_fin, one_smul]

end Cert.RmsMlpBwdRefIdeal.Reading

namespace Cert.RmsMlpBwdIdeal.Product

open Idealize.ShloMosaic Idealize.ShloMosaic.TcCoe Idealize.SL.Sem Cert.RmsMlpBwdIdeal Cert.RmsMlpBwdIdeal.Gen Cert.Blocks
open Idealize.ShloMosaic.Pipeline (Dat)
open Cert.Rms (msq grad diff)

/-! ## What one grid point stores, from its blocks

The first point is `A`; a later one, `B`, also takes what the point before left for the scale. -/

section

variable (c : Dev nD) (i : grid0.Coords) (a1 : Memref sig .tc .vmem S512x1024 .f32) (e1 : a1.IsWhole) (a2 : Memref sig .tc .vmem S1x1024 .f32)
    (e2 : a2.IsWhole) (a3 : Memref sig .tc .vmem S512x1024 .f32) (e3 : a3.IsWhole) (a4 : Memref sig .tc .vmem S512x1024 .f32) (e4 : a4.IsWhole)
    (a5 : Memref sig .tc .vmem S512x1024 .f32) (e5 : a5.IsWhole) (a6 : Memref sig .tc .vmem S512x1024 .bf16) (e6 : a6.IsWhole)
    (a7 : Memref sig .tc .vmem S1x1024 .f32) (e7 : a7.IsWhole)

/-- The gradient of the rows. -/
theorem out4_A (hc0 : cond0_0 i) (hc1 : ¬cond0_1 i) (x0 : Vec Ideal S512x1024 .f32) (x1 : Vec Ideal S1x1024 .f32) (x2 x3 : Vec Ideal S512x1024 .f32)
    (p : Fin 512) (q : Fin 1024) :
    out0_A_4 c i a1 e1 a2 e2 a3 e3 a4 e4 a5 e5 a6 e6 a7 e7 hc0 hc1 x0 x1 x2 x3 (ix2 p q) = (grad (fun l => x0 (ix2 p l)) (fun l => x1 (ix2 0 l)) (fun l => x2 (ix2 p l)) (fun l => x3 (ix2 p l)) q : EReal) := by
  unfold out0_A_4
  unfold kernelRun0_A
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e7.read_unread, View.ld_unit_zero (S := S512x1024) hz, View.ld_unit_zero (S := S1x1024) hz]
  pointwise [k0_pay4, k0_pay3, k0_pay2, grad, msq]

/-- The same, rounded. -/
theorem out5_A (hc0 : cond0_0 i) (hc1 : ¬cond0_1 i) (x0 : Vec Ideal S512x1024 .f32) (x1 : Vec Ideal S1x1024 .f32) (x2 x3 : Vec Ideal S512x1024 .f32)
    (p : Fin 512) (q : Fin 1024) :
    out0_A_5 c i a1 e1 a2 e2 a3 e3 a4 e4 a5 e5 a6 e6 a7 e7 hc0 hc1 x0 x1 x2 x3 (ix2 p q) = (grad (fun l => x0 (ix2 p l)) (fun l => x1 (ix2 0 l)) (fun l => x2 (ix2 p l)) (fun l => x3 (ix2 p l)) q : EReal) := by
  unfold out0_A_5
  unfold kernelRun0_A
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e7.read_unread, View.ld_unit_zero (S := S512x1024) hz, View.ld_unit_zero (S := S1x1024) hz]
  pointwise [k0_pay5, k0_pay4, k0_pay3, k0_pay2, grad, msq]

/-- The block's part of the gradient of the scale. -/
theorem out6_A (hc0 : cond0_0 i) (hc1 : ¬cond0_1 i) (x0 : Vec Ideal S512x1024 .f32) (x1 : Vec Ideal S1x1024 .f32) (x2 x3 : Vec Ideal S512x1024 .f32)
    (q : Fin 1024) :
    out0_A_6 c i a1 e1 a2 e2 a3 e3 a4 e4 a5 e5 a6 e6 a7 e7 hc0 hc1 x0 x1 x2 x3 (ix2 0 q) = (∑ p : Fin 512, x2 (ix2 p q) * (x0 (ix2 p q) * Ideal.rsqrt (msq fun l => x0 (ix2 p l))) : EReal) := by
  unfold out0_A_6
  unfold kernelRun0_A
  dsimp only
  rw [View.read_writes_cons_unit_of_mem _ _ _ _ _ _ (ix2 0 q) rfl (Fin.forall_fin_two.mpr ⟨(Nat.zero_add _).symm, (Nat.zero_add q.val).symm⟩)]
  simp only [View.readAt_eq_ld, e1.read_unread, e2.read_unread, e3.read_unread, e4.read_unread, e7.read_unread, View.ld_unit_zero (S := S512x1024) hz, View.ld_unit_zero (S := S1x1024) hz]
  pointwise [k0_pay6, k0_pay3, k0_pay2, msq]

/-- The gradient of the rows. -/
theorem out4_B (hc0 : ¬cond0_0 i) (hc1 : cond0_1 i) (x0 : Vec Ideal S512x1024 .f32) (x1 : Vec Ideal S1x1024 .f32) (x2 x3 : Vec Ideal S512x1024 .f32)
    (xo : Vec Ideal S1x1024 .f32) (p : Fin 512) (q : Fin 1024) :
    out0_B_4 c i a1 e1 a2 e2 a3 e3 a4 e4 a5 e5 a6 e6 a7 e7 hc0 hc1 x0 x1 x2 x3 xo (ix2 p q) = (grad (fun l => x0 (ix2 p l)) (fun l => x1 (ix2 0 l)) (fun l => x2 (ix2 p l)) (fun l => x3 (ix2 p l)) q : EReal) := by
  unfold out0_B_4
  unfold kernelRun0_B
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e7.read_unread, View.ld_unit_zero (S := S512x1024) hz, View.ld_unit_zero (S := S1x1024) hz]
  pointwise [k0_pay4, k0_pay3, k0_pay2, grad, msq]

/-- The same, rounded. -/
theorem out5_B (hc0 : ¬cond0_0 i) (hc1 : cond0_1 i) (x0 : Vec Ideal S512x1024 .f32) (x1 : Vec Ideal S1x1024 .f32) (x2 x3 : Vec Ideal S512x1024 .f32)
    (xo : Vec Ideal S1x1024 .f32) (p : Fin 512) (q : Fin 1024) :
    out0_B_5 c i a1 e1 a2 e2 a3 e3 a4 e4 a5 e5 a6 e6 a7 e7 hc0 hc1 x0 x1 x2 x3 xo (ix2 p q) = (grad (fun l => x0 (ix2 p l)) (fun l => x1 (ix2 0 l)) (fun l => x2 (ix2 p l)) (fun l => x3 (ix2 p l)) q : EReal) := by
  unfold out0_B_5
  unfold kernelRun0_B
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e7.read_unread, View.ld_unit_zero (S := S512x1024) hz, View.ld_unit_zero (S := S1x1024) hz]
  pointwise [k0_pay5, k0_pay4, k0_pay3, k0_pay2, grad, msq]

/-- The block's part of the gradient of the scale added to the running sum. -/
theorem out6_B (hc0 : ¬cond0_0 i) (hc1 : cond0_1 i) (x0 : Vec Ideal S512x1024 .f32) (x1 : Vec Ideal S1x1024 .f32) (x2 x3 : Vec Ideal S512x1024 .f32)
    (xo : Vec Ideal S1x1024 .f32) (q : Fin 1024) :
    out0_B_6 c i a1 e1 a2 e2 a3 e3 a4 e4 a5 e5 a6 e6 a7 e7 hc0 hc1 x0 x1 x2 x3 xo (ix2 0 q) = (xo (ix2 0 q) + ∑ p : Fin 512, x2 (ix2 p q) * (x0 (ix2 p q) * Ideal.rsqrt (msq fun l => x0 (ix2 p l))) : EReal) := by
  unfold out0_B_6
  unfold kernelRun0_B
  dsimp only
  rw [View.read_writes_cons_unit_of_mem _ _ _ _ _ _ (ix2 0 q) rfl (Fin.forall_fin_two.mpr ⟨(Nat.zero_add _).symm, (Nat.zero_add q.val).symm⟩)]
  unfold kernelRun0_B.sl.r
  simp only [View.readAt_eq_ld, e1.read_unread, e2.read_unread, e3.read_unread, e4.read_unread, e7.read_unread, View.ld_unit_zero (S := S512x1024) hz, View.ld_unit_zero (S := S1x1024) hz]
  pointwise [k0_pay1, k0_pay6, k0_pay3, k0_pay2, msq]

end

variable (m : (ℓ : Loc nD τ sig) → Buf (Elt Ideal) ℓ) (c : Dev nD)

theorem hN : cfg0.N = 16 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

theorem idx3 : ∀ t : Fin cfg0.N, win0_3.index t 0 = t.val ∧ win0_3.index t 1 = 0 := by
  show ∀ t : Fin grid0.N, _
  decide +kernel

theorem idx4 : ∀ t : Fin cfg0.N, win0_4.index t 0 = t.val ∧ win0_4.index t 1 = 0 := by
  show ∀ t : Fin grid0.N, _
  decide +kernel

theorem idx5 : ∀ t : Fin cfg0.N, win0_5.index t 0 = t.val ∧ win0_5.index t 1 = 0 := by
  show ∀ t : Fin grid0.N, _
  decide +kernel

theorem idx6 : ∀ t : Fin cfg0.N, win0_6.index t 0 = 0 ∧ win0_6.index t 1 = 0 := by
  show ∀ t : Fin grid0.N, _
  decide +kernel

/-- The arguments at natural-number indices: the rows, the scale, and the two gradients. -/
def rows : ℕ → ℕ → EReal := nat2 fun (i : Fin 8192) (j : Fin 1024) => m ((c : Thread nD τ).loc main_arg0) (ix2 i j)
theorem rows_of {i j : ℕ} {p : Fin 8192} {q : Fin 1024} (hp : p.val = i) (hq : q.val = j) : rows m c i j = m ((c : Thread nD τ).loc main_arg0) (ix2 p q) := nat2_of _ hp hq
def scale : ℕ → ℕ → EReal := nat2 fun (i : Fin 1) (j : Fin 1024) => m ((c : Thread nD τ).loc main_arg1) (ix2 i j)
theorem scale_of {i j : ℕ} {p : Fin 1} {q : Fin 1024} (hp : p.val = i) (hq : q.val = j) : scale m c i j = m ((c : Thread nD τ).loc main_arg1) (ix2 p q) := nat2_of _ hp hq
def dh : ℕ → ℕ → EReal := nat2 fun (i : Fin 8192) (j : Fin 1024) => m ((c : Thread nD τ).loc main_arg2) (ix2 i j)
theorem dh_of {i j : ℕ} {p : Fin 8192} {q : Fin 1024} (hp : p.val = i) (hq : q.val = j) : dh m c i j = m ((c : Thread nD τ).loc main_arg2) (ix2 p q) := nat2_of _ hp hq
def res : ℕ → ℕ → EReal := nat2 fun (i : Fin 8192) (j : Fin 1024) => m ((c : Thread nD τ).loc main_arg3) (ix2 i j)
theorem res_of {i j : ℕ} {p : Fin 8192} {q : Fin 1024} (hp : p.val = i) (hq : q.val = j) : res m c i j = m ((c : Thread nD τ).loc main_arg3) (ix2 p q) := nat2_of _ hp hq

theorem iblk0_at (t : Fin cfg0.N) (p : Fin 512) (q : Fin 1024) :
    (iblk m c 0 t : Vec Ideal S512x1024 .f32) (ix2 p q) = rows m c (512 * t.val + p.val) (q.val) := by
  have ht := t.isLt
  have := hN
  have e := congrFun (V_main_arg0 m c) (ix2 (⟨512 * t.val + p.val, by omega⟩ : Fin 8192) q)
  refine Eq.trans ?_ (e.trans (rows_of m c rfl rfl).symm)
  rw [iblk, View.read_apply]
  show V m c main_arg0 _ = V m c main_arg0 _
  exact congrArg _ (ix2_of (by show win0_0.index t 0 * 512 + 1 * p.val = 512 * t.val + p.val; rw [(idx0 t).1]; omega) (by show win0_0.index t 1 * 1024 + 1 * q.val = q.val; rw [(idx0 t).2]; omega))

theorem iblk1_at (t : Fin cfg0.N) (p : Fin 1) (q : Fin 1024) :
    (iblk m c 1 t : Vec Ideal S1x1024 .f32) (ix2 p q) = scale m c (0) (q.val) := by
  have ht := t.isLt
  have := hN
  have e := congrFun (V_main_arg1 m c) (ix2 (0 : Fin 1) q)
  refine Eq.trans ?_ (e.trans (scale_of m c rfl rfl).symm)
  rw [iblk, View.read_apply]
  show V m c main_arg1 _ = V m c main_arg1 _
  exact congrArg _ (ix2_of (by show win0_1.index t 0 * 1 + 1 * p.val = 0; rw [(idx1 t).1]; omega) (by show win0_1.index t 1 * 1024 + 1 * q.val = q.val; rw [(idx1 t).2]; omega))

theorem iblk2_at (t : Fin cfg0.N) (p : Fin 512) (q : Fin 1024) :
    (iblk m c 2 t : Vec Ideal S512x1024 .f32) (ix2 p q) = dh m c (512 * t.val + p.val) (q.val) := by
  have ht := t.isLt
  have := hN
  have e := congrFun (V_main_arg2 m c) (ix2 (⟨512 * t.val + p.val, by omega⟩ : Fin 8192) q)
  refine Eq.trans ?_ (e.trans (dh_of m c rfl rfl).symm)
  rw [iblk, View.read_apply]
  show V m c main_arg2 _ = V m c main_arg2 _
  exact congrArg _ (ix2_of (by show win0_2.index t 0 * 512 + 1 * p.val = 512 * t.val + p.val; rw [(idx2 t).1]; omega) (by show win0_2.index t 1 * 1024 + 1 * q.val = q.val; rw [(idx2 t).2]; omega))

theorem iblk3_at (t : Fin cfg0.N) (p : Fin 512) (q : Fin 1024) :
    (iblk m c 3 t : Vec Ideal S512x1024 .f32) (ix2 p q) = res m c (512 * t.val + p.val) (q.val) := by
  have ht := t.isLt
  have := hN
  have e := congrFun (V_main_arg3 m c) (ix2 (⟨512 * t.val + p.val, by omega⟩ : Fin 8192) q)
  refine Eq.trans ?_ (e.trans (res_of m c rfl rfl).symm)
  rw [iblk, View.read_apply]
  show V m c main_arg3 _ = V m c main_arg3 _
  exact congrArg _ (ix2_of (by show win0_3.index t 0 * 512 + 1 * p.val = 512 * t.val + p.val; rw [(idx3 t).1]; omega) (by show win0_3.index t 1 * 1024 + 1 * q.val = q.val; rw [(idx3 t).2]; omega))

/-- The gradient of the rows, and a row's part of the gradient of the scale. -/
def gradRow (i : ℕ) (q : Fin 1024) : EReal := grad (fun l => rows m c i l.val) (fun l => scale m c 0 l.val) (fun l => dh m c i l.val) (fun l => res m c i l.val) q
def part (i j : ℕ) : EReal := dh m c i j * (rows m c i j * Ideal.rsqrt (msq fun l => rows m c i l.val))

/-- What a point leaves in that block. -/
theorem after4 (t : Fin cfg0.N) (p : Fin 512) (q : Fin 1024) :
    (outsAt0 m c t.val t.isLt).1 (ix2 p q) = gradRow m c (512 * t.val + p.val) q := by
  have hn := hN
  have ht := t.isLt
  by_cases h0 : t.val % 16 = 0
  · rw [outsAt0_A m c t h0 (by omega)]
    dsimp only
    rw [out4_A]
    simp only [iblk0_at, iblk1_at, iblk2_at, iblk3_at]
    rfl
  · rw [outsAt0_B m c t h0 (by omega)]
    dsimp only
    rw [out4_B]
    simp only [iblk0_at, iblk1_at, iblk2_at, iblk3_at]
    rfl

/-- What a point leaves in that block. -/
theorem after5 (t : Fin cfg0.N) (p : Fin 512) (q : Fin 1024) :
    (outsAt0 m c t.val t.isLt).2.1 (ix2 p q) = gradRow m c (512 * t.val + p.val) q := by
  have hn := hN
  have ht := t.isLt
  by_cases h0 : t.val % 16 = 0
  · rw [outsAt0_A m c t h0 (by omega)]
    dsimp only
    rw [out5_A]
    simp only [iblk0_at, iblk1_at, iblk2_at, iblk3_at]
    rfl
  · rw [outsAt0_B m c t h0 (by omega)]
    dsimp only
    rw [out5_B]
    simp only [iblk0_at, iblk1_at, iblk2_at, iblk3_at]
    rfl

/-- What a point leaves in the scale's block: the sum over the rows so far. -/
theorem after6 (n : ℕ) (h : n < cfg0.N) (q : Fin 1024) :
    (outsAt0 m c n h).2.2 (ix2 0 q) = ∑ s ∈ Finset.range (512 * (n + 1)), part m c s q.val := by
  induction n using Nat.strong_induction_on with
  | _ n ih =>
    have hn := hN
    by_cases h0 : n % 16 = 0
    · refine (congrFun (congrArg (fun o => o.2.2) (outsAt0_A m c ⟨n, h⟩ h0 (by dsimp only; omega))) (ix2 0 q)).trans ?_
      dsimp only
      rw [out6_A]
      exact sum_first n (by omega) (fun s => part m c s q.val) _ fun r => by simp only [iblk0_at, iblk1_at, iblk2_at, iblk3_at]; rfl
    · refine (congrFun (congrArg (fun o => o.2.2) (outsAt0_B m c ⟨n, h⟩ h0 (by dsimp only; omega))) (ix2 0 q)).trans ?_
      dsimp only
      rw [out6_B]
      refine sum_next n (fun s => part m c s q.val) _ _ ?_ fun r => by simp only [iblk0_at, iblk1_at, iblk2_at, iblk3_at]; rfl
      refine (ih (n - 1) (by omega) (by omega)).trans ?_
      rw [show n - 1 + 1 = n by omega]

/-- The results, as contents of the result arrays: the gradient of the rows. -/
def dx : Buf (Elt Ideal) ((c : Thread nD τ).loc main_v0_0) := fun y : S8192x1024.Idx =>
  (gradRow m c (y 0).val (y 1) : EReal)

/-- The same, rounded. -/
def dxRounded : Buf (Elt Ideal) ((c : Thread nD τ).loc main_v0_1) := fun y : S8192x1024.Idx =>
  (gradRow m c (y 0).val (y 1) : EReal)

/-- The gradient of the scale. -/
def dg : Buf (Elt Ideal) ((c : Thread nD τ).loc main_v0_2) := fun y : S1x1024.Idx =>
  (∑ s ∈ Finset.range 8192, part m c s (y 1 : Fin 1024).val : EReal)

/-- That result array ends holding it. -/
theorem final4 : (dats m 0 c).arrAt 4 cfg0.N = dx m c :=
  (dats m 0 c).arrAt_eq_of_cover 4 (dx m c)
    (fun t hf => by
      rw [Value.flushed4]
      funext y
      rw [View.read_apply]
      refine Eq.trans (b := (outsAt0 m c t.val t.isLt).1 y) rfl ?_
      obtain ⟨p, q, rfl⟩ : ∃ (p : Fin 512) (q : Fin 1024), y = ix2 p q := ⟨y 0, y 1, ValueIdx.eq_ix2 y⟩
      rw [after4]
      have e0 : (((cfg0.win 4).blk t).view.emb (ix2 p q) 0).val = 512 * t.val + p.val := by
        show win0_4.index t 0 * 512 + 1 * p.val = _
        rw [(idx4 t).1]; omega
      have e1 : (((cfg0.win 4).blk t).view.emb (ix2 p q) 1) = q := Fin.ext (by
        show win0_4.index t 1 * 1024 + 1 * q.val = _
        rw [(idx4 t).2]; omega)
      show _ = dx m c (((cfg0.win 4).blk t).view.emb (ix2 p q))
      unfold dx
      rw [e0, e1])
    fun y => by
      have hy0 : (y 0).val < 8192 := (y 0).isLt
      have hy1 : (y 1).val < 1024 := (y 1).isLt
      have hn := hN
      let t : Fin cfg0.N := ⟨(y 0).val / 512, by omega⟩
      have ht : t.val = (y 0).val / 512 := rfl
      refine ⟨t, flush0_4 t, ?_⟩
      show y ∈ ((View.whole main_v0_0).slice (win0_4.rect t)).set
      rw [View.set_slice_whole, Rect.mem_set_unit]
      intro a
      match a with
      | ⟨0, _⟩ =>
        show win0_4.index t 0 * 512 ≤ (y 0 : Nat) ∧ (y 0 : Nat) < win0_4.index t 0 * 512 + 512
        rw [(idx4 t).1, ht]; omega
      | ⟨1, _⟩ =>
        show win0_4.index t 1 * 1024 ≤ (y 1 : Nat) ∧ (y 1 : Nat) < win0_4.index t 1 * 1024 + 1024
        rw [(idx4 t).2]; omega

/-- That result array ends holding it. -/
theorem final5 : (dats m 0 c).arrAt 5 cfg0.N = dxRounded m c :=
  (dats m 0 c).arrAt_eq_of_cover 5 (dxRounded m c)
    (fun t hf => by
      rw [Value.flushed5]
      funext y
      rw [View.read_apply]
      refine Eq.trans (b := (outsAt0 m c t.val t.isLt).2.1 y) rfl ?_
      obtain ⟨p, q, rfl⟩ : ∃ (p : Fin 512) (q : Fin 1024), y = ix2 p q := ⟨y 0, y 1, ValueIdx.eq_ix2 y⟩
      rw [after5]
      have e0 : (((cfg0.win 5).blk t).view.emb (ix2 p q) 0).val = 512 * t.val + p.val := by
        show win0_5.index t 0 * 512 + 1 * p.val = _
        rw [(idx5 t).1]; omega
      have e1 : (((cfg0.win 5).blk t).view.emb (ix2 p q) 1) = q := Fin.ext (by
        show win0_5.index t 1 * 1024 + 1 * q.val = _
        rw [(idx5 t).2]; omega)
      show _ = dxRounded m c (((cfg0.win 5).blk t).view.emb (ix2 p q))
      unfold dxRounded
      rw [e0, e1])
    fun y => by
      have hy0 : (y 0).val < 8192 := (y 0).isLt
      have hy1 : (y 1).val < 1024 := (y 1).isLt
      have hn := hN
      let t : Fin cfg0.N := ⟨(y 0).val / 512, by omega⟩
      have ht : t.val = (y 0).val / 512 := rfl
      refine ⟨t, flush0_5 t, ?_⟩
      show y ∈ ((View.whole main_v0_1).slice (win0_5.rect t)).set
      rw [View.set_slice_whole, Rect.mem_set_unit]
      intro a
      match a with
      | ⟨0, _⟩ =>
        show win0_5.index t 0 * 512 ≤ (y 0 : Nat) ∧ (y 0 : Nat) < win0_5.index t 0 * 512 + 512
        rw [(idx5 t).1, ht]; omega
      | ⟨1, _⟩ =>
        show win0_5.index t 1 * 1024 ≤ (y 1 : Nat) ∧ (y 1 : Nat) < win0_5.index t 1 * 1024 + 1024
        rw [(idx5 t).2]; omega

/-- That result array ends holding it. -/
theorem final6 : (dats m 0 c).arrAt 6 cfg0.N = dg m c :=
  (dats m 0 c).arrAt_eq_of_cover 6 (dg m c)
    (fun t hf => by
      have h15 := (flush0_6 t).mp hf
      have hn := hN
      have ht := t.isLt
      rw [Value.flushed6]
      funext y
      rw [View.read_apply]
      refine Eq.trans (b := (outsAt0 m c t.val t.isLt).2.2 y) rfl ?_
      obtain ⟨p, q, rfl⟩ : ∃ (p : Fin 1) (q : Fin 1024), y = ix2 p q := ⟨y 0, y 1, ValueIdx.eq_ix2 y⟩
      obtain rfl : p = 0 := Subsingleton.elim _ _
      rw [after6, show 512 * (t.val + 1) = 8192 by omega]
      have e1 : (((cfg0.win 6).blk t).view.emb (ix2 0 q) 1) = q := Fin.ext (by
        show win0_6.index t 1 * 1024 + 1 * q.val = _
        rw [(idx6 t).2]; omega)
      show _ = dg m c (((cfg0.win 6).blk t).view.emb (ix2 0 q))
      unfold dg
      rw [e1])
    fun y => by
      have hy0 : (y 0).val < 1 := (y 0).isLt
      have hy1 : (y 1).val < 1024 := (y 1).isLt
      have hn := hN
      let t : Fin cfg0.N := ⟨15, by omega⟩
      refine ⟨t, (flush0_6 t).mpr rfl, ?_⟩
      show y ∈ ((View.whole main_v0_2).slice (win0_6.rect t)).set
      rw [View.set_slice_whole, Rect.mem_set_unit]
      intro a
      match a with
      | ⟨0, _⟩ =>
        show win0_6.index t 0 * 1 ≤ (y 0 : Nat) ∧ (y 0 : Nat) < win0_6.index t 0 * 1 + 1
        rw [(idx6 t).1]; omega
      | ⟨1, _⟩ =>
        show win0_6.index t 1 * 1024 ≤ (y 1 : Nat) ∧ (y 1 : Nat) < win0_6.index t 1 * 1024 + 1024
        rw [(idx6 t).2]; omega

/-! ## The reference's results are what the kernel's result arrays end holding -/

theorem grad_of (x0 : FVec Ideal Cert.RmsMlpBwdRefIdeal.S8192x1024 .f32) (x1 : FVec Ideal Cert.RmsMlpBwdRefIdeal.S1x1024 .f32) (x2 x3 : FVec Ideal Cert.RmsMlpBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (i : Fin 8192) (j : Fin 1024) :
    grad (fun l => x0 (ix2 i l)) (fun l => x1 (ix2 0 l)) (fun l => x2 (ix2 i l)) (fun l => x3 (ix2 i l)) j = gradRow m c i.val j := by
  have e0 : (fun l : Fin 1024 => (x0 (ix2 i l) : EReal)) = fun l => rows m c i.val l.val := (funext fun l => (congrFun h0 (ix2 i l)).trans (rows_of m c rfl rfl).symm)
  have e1 : (fun l : Fin 1024 => (x1 (ix2 0 l) : EReal)) = fun l => scale m c 0 l.val := (funext fun l => (congrFun h1 (ix2 0 l)).trans (scale_of m c (p := (0 : Fin 1)) (q := l) rfl rfl).symm)
  have e2 : (fun l : Fin 1024 => (x2 (ix2 i l) : EReal)) = fun l => dh m c i.val l.val := (funext fun l => (congrFun h2 (ix2 i l)).trans (dh_of m c rfl rfl).symm)
  have e3 : (fun l : Fin 1024 => (x3 (ix2 i l) : EReal)) = fun l => res m c i.val l.val := (funext fun l => (congrFun h3 (ix2 i l)).trans (res_of m c rfl rfl).symm)
  unfold gradRow
  rw [← e0, ← e1, ← e2, ← e3]

theorem equal0 (x0 : FVec Ideal Cert.RmsMlpBwdRefIdeal.S8192x1024 .f32) (x1 : FVec Ideal Cert.RmsMlpBwdRefIdeal.S1x1024 .f32) (x2 x3 : FVec Ideal Cert.RmsMlpBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RmsMlpBwdRefIdeal.Reading.out0 x0 x1 x2 x3 = (dats m 0 c).arrAt 4 cfg0.N := by
  rw [final4]
  funext y
  obtain ⟨i, j, rfl⟩ : ∃ (i : Fin 8192) (j : Fin 1024), y = ix2 i j := ⟨y 0, y 1, ValueIdx.eq_ix2 y⟩
  exact (Cert.RmsMlpBwdRefIdeal.Reading.out0_at _ _ _ _ i j).trans (grad_of m c x0 x1 x2 x3 h0 h1 h2 h3 i j)

theorem equal1 (x0 : FVec Ideal Cert.RmsMlpBwdRefIdeal.S8192x1024 .f32) (x1 : FVec Ideal Cert.RmsMlpBwdRefIdeal.S1x1024 .f32) (x2 x3 : FVec Ideal Cert.RmsMlpBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RmsMlpBwdRefIdeal.Reading.out1 x0 x1 x2 x3 = (dats m 0 c).arrAt 5 cfg0.N := by
  rw [final5]
  funext y
  obtain ⟨i, j, rfl⟩ : ∃ (i : Fin 8192) (j : Fin 1024), y = ix2 i j := ⟨y 0, y 1, ValueIdx.eq_ix2 y⟩
  exact (Cert.RmsMlpBwdRefIdeal.Reading.out1_at _ _ _ _ i j).trans (grad_of m c x0 x1 x2 x3 h0 h1 h2 h3 i j)

theorem equal2 (x0 : FVec Ideal Cert.RmsMlpBwdRefIdeal.S8192x1024 .f32) (x1 : FVec Ideal Cert.RmsMlpBwdRefIdeal.S1x1024 .f32) (x2 x3 : FVec Ideal Cert.RmsMlpBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RmsMlpBwdRefIdeal.Reading.out2 x0 x1 x2 x3 = (dats m 0 c).arrAt 6 cfg0.N := by
  rw [final6]
  funext y
  obtain ⟨z, j, rfl⟩ : ∃ (z : Fin 1) (j : Fin 1024), y = ix2 z j := ⟨y 0, y 1, ValueIdx.eq_ix2 y⟩
  obtain rfl : z = 0 := Subsingleton.elim _ _
  refine (Cert.RmsMlpBwdRefIdeal.Reading.out2_at _ _ _ _ j).trans ?_
  show _ = ∑ s ∈ Finset.range 8192, part m c s j.val
  rw [← Fin.sum_univ_eq_sum_range (fun s => part m c s j.val)]
  refine Finset.sum_congr rfl fun i _ => ?_
  have e0 : (fun l : Fin 1024 => (x0 (ix2 i l) : EReal)) = fun l => rows m c i.val l.val := (funext fun l => (congrFun h0 (ix2 i l)).trans (rows_of m c rfl rfl).symm)
  have d0 : (x0 (ix2 i j) : EReal) = rows m c i.val j.val := congrFun e0 j
  have d2 : (x2 (ix2 i j) : EReal) = dh m c i.val j.val := (congrFun h2 (ix2 i j)).trans (dh_of m c rfl rfl).symm
  unfold part
  rw [← d0, ← d2, ← e0]
  exact mul_comm _ _

end Cert.RmsMlpBwdIdeal.Product

end
-- ==== Proof.RmsMixBwdValue.lean ====
/-
  The backward pass of the rows' normalisation before the input projections: what each grid point stores, what the result arrays end holding, and
  the reference's results.
-/
module

public import proofs.«01_k».proof.Proof.Blocks
public import proofs.«01_k».proof.Proof.RmsRows
public import proofs.«01_k».proof.Proof.Gen.RmsMixBwdIdeal.Value
public import proofs.«01_k».proof.Proof.Gen.RmsMixBwdRefIdeal.Run
public import Idealize.ShloMosaic.Lib.StableHlo.Run
public import Idealize.ShloMosaic.Lib.Pointwise
public import Idealize.ShloMosaic.Lib.WritesUnit

@[expose] public section

set_option synthInstance.maxSize 4096
set_option maxRecDepth 16384

noncomputable section

namespace Cert.RmsMixBwdRefIdeal.Reading

open Idealize.ShloMosaic Idealize.ShloMosaic.TcCoe Cert.RmsMixBwdRefIdeal Cert.RmsMixBwdRefIdeal.Gen
open Cert.Rms (msq grad diff)

/-- The mean square of each row, with the small constant added. -/
def meanSq (x0 : FVec Ideal S8192x1024 .f32) : FVec Ideal S8192x1 .f32 :=
  addf (Host.divf (broadcastInDim S8192x1 ![0] bcast_S8192_S8192x1_0 (Host.reduceAdd (mulf x0 x0) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))

/-- The result's gradient times the scale. -/
def scaled (x1 : FVec Ideal S1x1024 .f32) (x2 : FVec Ideal S8192x1024 .f32) : FVec Ideal S8192x1024 .f32 :=
  mulf x2 (broadcastInDim S8192x1024 ![0, 1] bcast_S1x1024_S8192x1024_0_1 (broadcastInDim S1x1024 ![1] bcast_S1024_S1x1024_1 (shapeCast _ x1 shapeCasts_S1x1024_S1024)))

/-- Half of what an entry's gradient receives through its row's mean square, before the factor of the entry itself. -/
def through (x0 : FVec Ideal S8192x1024 .f32) (x1 : FVec Ideal S1x1024 .f32) (x2 : FVec Ideal S8192x1024 .f32) : FVec Ideal S8192x1024 .f32 :=
  broadcastInDim S8192x1024 ![0] bcast_S8192_S8192x1024_0 (Host.reduceAdd (Host.divf (mulf (shapeCast _ (Host.reduceAdd (mulf x0 (scaled x1 x2)) (constant S_ .f32 0x00000000#32) reducesTo_S8192x1024_S8192_d1 h_S_) shapeCasts_S8192_S8192x1) (mulf (broadcastInDim S8192x1 ![] bcast_S_S8192x1 (constant S_ .f32 0xBF000000#32)) (Host.divf (Host.rsqrt (meanSq x0)) (meanSq x0)))) (broadcastInDim S8192x1 ![] bcast_S_S8192x1 (constant S_ .f32 0x44800000#32))) (constant S_ .f32 0x00000000#32) reducesTo_S8192x1_S8192_d1 h_S_)

/-- The reference's gradient of the rows, of the arguments' contents. -/
def out0 (x0 : FVec Ideal S8192x1024 .f32) (x1 : FVec Ideal S1x1024 .f32) (x2 x3 : FVec Ideal S8192x1024 .f32) : FVec Ideal S8192x1024 .f32 :=
  addf (addf (addf x3 (mulf (scaled x1 x2) (broadcastInDim S8192x1024 ![0, 1] bcast_S8192x1_S8192x1024_0_1 (Host.rsqrt (meanSq x0))))) (mulf x0 (through x0 x1 x2))) (mulf (through x0 x1 x2) x0)

/-- The reference's gradient of the scale. -/
def out1 (x0 : FVec Ideal S8192x1024 .f32) (x1 : FVec Ideal S1x1024 .f32) (x2 x3 : FVec Ideal S8192x1024 .f32) : FVec Ideal S1x1024 .f32 :=
  broadcastInDim S1x1024 ![1] bcast_S1024_S1x1024_1 (Host.reduceAdd (shapeCast _ (Host.reduceAdd (mulf (mulf x0 (broadcastInDim S8192x1024 ![0, 1] bcast_S8192x1_S8192x1024_0_1 (Host.rsqrt (meanSq x0)))) x2) (constant S_ .f32 0x00000000#32) reducesTo_S8192x1024_S1024_d0 h_S_) shapeCasts_S1024_S1x1024) (constant S_ .f32 0x00000000#32) reducesTo_S1x1024_S1024_d0 h_S_)

/-- The gradient of the rows at an index. -/
theorem out0_at (x0 : FVec Ideal S8192x1024 .f32) (x1 : FVec Ideal S1x1024 .f32) (x2 x3 : FVec Ideal S8192x1024 .f32) (i : Fin 8192) (j : Fin 1024) :
    out0 x0 x1 x2 x3 (ix2 i j) = (grad (fun l => x0 (ix2 i l)) (fun l => x1 (ix2 0 l)) (fun l => x2 (ix2 i l)) (fun l => x3 (ix2 i l)) j : EReal) := by
  rw [← Cert.Rms.diff_eq]
  unfold out0
  pointwise [meanSq, scaled, through, diff, msq]
  simp only [Finset.sum_const, Finset.card_univ, Fintype.card_fin, one_smul]
/-- The gradient of the scale at an index. -/
theorem out1_at (x0 : FVec Ideal S8192x1024 .f32) (x1 : FVec Ideal S1x1024 .f32) (x2 x3 : FVec Ideal S8192x1024 .f32) (j : Fin 1024) :
    out1 x0 x1 x2 x3 (ix2 0 j) = (∑ i : Fin 8192, x0 (ix2 i j) * Ideal.rsqrt (msq fun l => x0 (ix2 i l)) * x2 (ix2 i j) : EReal) := by
  unfold out1
  pointwise [meanSq, msq]
  simp only [Finset.sum_const, Finset.card_univ, Fintype.card_fin, one_smul]

end Cert.RmsMixBwdRefIdeal.Reading

namespace Cert.RmsMixBwdIdeal.Product

open Idealize.ShloMosaic Idealize.ShloMosaic.TcCoe Idealize.SL.Sem Cert.RmsMixBwdIdeal Cert.RmsMixBwdIdeal.Gen Cert.Blocks
open Idealize.ShloMosaic.Pipeline (Dat)
open Cert.Rms (msq grad diff)

/-! ## What one grid point stores, from its blocks

The first point is `A`; a later one, `B`, also takes what the point before left for the scale. -/

section

variable (c : Dev nD) (i : grid0.Coords) (a1 : Memref sig .tc .vmem S512x1024 .f32) (e1 : a1.IsWhole) (a2 : Memref sig .tc .vmem S1x1024 .f32)
    (e2 : a2.IsWhole) (a3 : Memref sig .tc .vmem S512x1024 .f32) (e3 : a3.IsWhole) (a4 : Memref sig .tc .vmem S512x1024 .f32) (e4 : a4.IsWhole)
    (a5 : Memref sig .tc .vmem S512x1024 .f32) (e5 : a5.IsWhole) (a6 : Memref sig .tc .vmem S1x1024 .f32) (e6 : a6.IsWhole)

/-- The gradient of the rows. -/
theorem out4_A (hc0 : cond0_0 i) (hc1 : ¬cond0_1 i) (x0 : Vec Ideal S512x1024 .f32) (x1 : Vec Ideal S1x1024 .f32) (x2 x3 : Vec Ideal S512x1024 .f32)
    (p : Fin 512) (q : Fin 1024) :
    out0_A_4 c i a1 e1 a2 e2 a3 e3 a4 e4 a5 e5 a6 e6 hc0 hc1 x0 x1 x2 x3 (ix2 p q) = (grad (fun l => x0 (ix2 p l)) (fun l => x1 (ix2 0 l)) (fun l => x2 (ix2 p l)) (fun l => x3 (ix2 p l)) q : EReal) := by
  unfold out0_A_4
  unfold kernelRun0_A
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e6.read_unread, View.ld_unit_zero (S := S512x1024) hz, View.ld_unit_zero (S := S1x1024) hz]
  pointwise [k0_pay4, k0_pay3, k0_pay2, grad, msq]

/-- The block's part of the gradient of the scale. -/
theorem out5_A (hc0 : cond0_0 i) (hc1 : ¬cond0_1 i) (x0 : Vec Ideal S512x1024 .f32) (x1 : Vec Ideal S1x1024 .f32) (x2 x3 : Vec Ideal S512x1024 .f32)
    (q : Fin 1024) :
    out0_A_5 c i a1 e1 a2 e2 a3 e3 a4 e4 a5 e5 a6 e6 hc0 hc1 x0 x1 x2 x3 (ix2 0 q) = (∑ p : Fin 512, x2 (ix2 p q) * (x0 (ix2 p q) * Ideal.rsqrt (msq fun l => x0 (ix2 p l))) : EReal) := by
  unfold out0_A_5
  unfold kernelRun0_A
  dsimp only
  rw [View.read_writes_cons_unit_of_mem _ _ _ _ _ _ (ix2 0 q) rfl (Fin.forall_fin_two.mpr ⟨(Nat.zero_add _).symm, (Nat.zero_add q.val).symm⟩)]
  simp only [View.readAt_eq_ld, e1.read_unread, e2.read_unread, e3.read_unread, e4.read_unread, e6.read_unread, View.ld_unit_zero (S := S512x1024) hz, View.ld_unit_zero (S := S1x1024) hz]
  pointwise [k0_pay5, k0_pay3, k0_pay2, msq]

/-- The gradient of the rows. -/
theorem out4_B (hc0 : ¬cond0_0 i) (hc1 : cond0_1 i) (x0 : Vec Ideal S512x1024 .f32) (x1 : Vec Ideal S1x1024 .f32) (x2 x3 : Vec Ideal S512x1024 .f32)
    (xo : Vec Ideal S1x1024 .f32) (p : Fin 512) (q : Fin 1024) :
    out0_B_4 c i a1 e1 a2 e2 a3 e3 a4 e4 a5 e5 a6 e6 hc0 hc1 x0 x1 x2 x3 xo (ix2 p q) = (grad (fun l => x0 (ix2 p l)) (fun l => x1 (ix2 0 l)) (fun l => x2 (ix2 p l)) (fun l => x3 (ix2 p l)) q : EReal) := by
  unfold out0_B_4
  unfold kernelRun0_B
  dsimp only
  rw [View.read_writes_cons_unit_of_mem _ _ _ _ _ _ (ix2 p q) rfl (Fin.forall_fin_two.mpr ⟨(Nat.zero_add _).symm, (Nat.zero_add q.val).symm⟩)]
  simp only [View.readAt_eq_ld, e1.read_unread, e2.read_unread, e3.read_unread, e4.read_unread, e6.read_unread, View.ld_unit_zero (S := S512x1024) hz, View.ld_unit_zero (S := S1x1024) hz]
  pointwise [k0_pay4, k0_pay3, k0_pay2, grad, msq]

/-- The block's part of the gradient of the scale added to the running sum. -/
theorem out5_B (hc0 : ¬cond0_0 i) (hc1 : cond0_1 i) (x0 : Vec Ideal S512x1024 .f32) (x1 : Vec Ideal S1x1024 .f32) (x2 x3 : Vec Ideal S512x1024 .f32)
    (xo : Vec Ideal S1x1024 .f32) (q : Fin 1024) :
    out0_B_5 c i a1 e1 a2 e2 a3 e3 a4 e4 a5 e5 a6 e6 hc0 hc1 x0 x1 x2 x3 xo (ix2 0 q) = (xo (ix2 0 q) + ∑ p : Fin 512, x2 (ix2 p q) * (x0 (ix2 p q) * Ideal.rsqrt (msq fun l => x0 (ix2 p l))) : EReal) := by
  unfold out0_B_5
  unfold kernelRun0_B
  dsimp only
  rw [View.read_writes_cons_unit_of_mem _ _ _ _ _ _ (ix2 0 q) rfl (Fin.forall_fin_two.mpr ⟨(Nat.zero_add _).symm, (Nat.zero_add q.val).symm⟩)]
  unfold kernelRun0_B.sl.r
  simp only [View.readAt_eq_ld, e1.read_unread, e2.read_unread, e3.read_unread, e4.read_unread, e6.read_unread, View.ld_unit_zero (S := S512x1024) hz, View.ld_unit_zero (S := S1x1024) hz]
  pointwise [k0_pay1, k0_pay5, k0_pay3, k0_pay2, msq]

end

variable (m : (ℓ : Loc nD τ sig) → Buf (Elt Ideal) ℓ) (c : Dev nD)

theorem hN : cfg0.N = 16 := N_0

theorem idx0 : ∀ t : Fin cfg0.N, win0_0.index t 0 = t.val ∧ win0_0.index t 1 = 0 := by
  show ∀ t : Fin grid0.N, _
  decide +kernel

theorem idx1 : ∀ t : Fin cfg0.N, win0_1.index t 0 = 0 ∧ win0_1.index t 1 = 0 := by
  show ∀ t : Fin grid0.N, _
  decide +kernel

theorem idx2 : ∀ t : Fin cfg0.N, win0_2.index t 0 = t.val ∧ win0_2.index t 1 = 0 := by
  show ∀ t : Fin grid0.N, _
  decide +kernel

theorem idx3 : ∀ t : Fin cfg0.N, win0_3.index t 0 = t.val ∧ win0_3.index t 1 = 0 := by
  show ∀ t : Fin grid0.N, _
  decide +kernel

theorem idx4 : ∀ t : Fin cfg0.N, win0_4.index t 0 = t.val ∧ win0_4.index t 1 = 0 := by
  show ∀ t : Fin grid0.N, _
  decide +kernel

theorem idx5 : ∀ t : Fin cfg0.N, win0_5.index t 0 = 0 ∧ win0_5.index t 1 = 0 := by
  show ∀ t : Fin grid0.N, _
  decide +kernel

/-- The arguments at natural-number indices: the rows, the scale, and the two gradients. -/
def rows : ℕ → ℕ → EReal := nat2 fun (i : Fin 8192) (j : Fin 1024) => m ((c : Thread nD τ).loc main_arg0) (ix2 i j)
theorem rows_of {i j : ℕ} {p : Fin 8192} {q : Fin 1024} (hp : p.val = i) (hq : q.val = j) : rows m c i j = m ((c : Thread nD τ).loc main_arg0) (ix2 p q) := nat2_of _ hp hq
def scale : ℕ → ℕ → EReal := nat2 fun (i : Fin 1) (j : Fin 1024) => m ((c : Thread nD τ).loc main_arg1) (ix2 i j)
theorem scale_of {i j : ℕ} {p : Fin 1} {q : Fin 1024} (hp : p.val = i) (hq : q.val = j) : scale m c i j = m ((c : Thread nD τ).loc main_arg1) (ix2 p q) := nat2_of _ hp hq
def dh : ℕ → ℕ → EReal := nat2 fun (i : Fin 8192) (j : Fin 1024) => m ((c : Thread nD τ).loc main_arg2) (ix2 i j)
theorem dh_of {i j : ℕ} {p : Fin 8192} {q : Fin 1024} (hp : p.val = i) (hq : q.val = j) : dh m c i j = m ((c : Thread nD τ).loc main_arg2) (ix2 p q) := nat2_of _ hp hq
def res : ℕ → ℕ → EReal := nat2 fun (i : Fin 8192) (j : Fin 1024) => m ((c : Thread nD τ).loc main_arg3) (ix2 i j)
theorem res_of {i j : ℕ} {p : Fin 8192} {q : Fin 1024} (hp : p.val = i) (hq : q.val = j) : res m c i j = m ((c : Thread nD τ).loc main_arg3) (ix2 p q) := nat2_of _ hp hq

theorem iblk0_at (t : Fin cfg0.N) (p : Fin 512) (q : Fin 1024) :
    (iblk m c 0 t : Vec Ideal S512x1024 .f32) (ix2 p q) = rows m c (512 * t.val + p.val) (q.val) := by
  have ht := t.isLt
  have := hN
  have e := congrFun (V_main_arg0 m c) (ix2 (⟨512 * t.val + p.val, by omega⟩ : Fin 8192) q)
  refine Eq.trans ?_ (e.trans (rows_of m c rfl rfl).symm)
  rw [iblk, View.read_apply]
  show V m c main_arg0 _ = V m c main_arg0 _
  exact congrArg _ (ix2_of (by show win0_0.index t 0 * 512 + 1 * p.val = 512 * t.val + p.val; rw [(idx0 t).1]; omega) (by show win0_0.index t 1 * 1024 + 1 * q.val = q.val; rw [(idx0 t).2]; omega))

theorem iblk1_at (t : Fin cfg0.N) (p : Fin 1) (q : Fin 1024) :
    (iblk m c 1 t : Vec Ideal S1x1024 .f32) (ix2 p q) = scale m c (0) (q.val) := by
  have ht := t.isLt
  have := hN
  have e := congrFun (V_main_arg1 m c) (ix2 (0 : Fin 1) q)
  refine Eq.trans ?_ (e.trans (scale_of m c rfl rfl).symm)
  rw [iblk, View.read_apply]
  show V m c main_arg1 _ = V m c main_arg1 _
  exact congrArg _ (ix2_of (by show win0_1.index t 0 * 1 + 1 * p.val = 0; rw [(idx1 t).1]; omega) (by show win0_1.index t 1 * 1024 + 1 * q.val = q.val; rw [(idx1 t).2]; omega))

theorem iblk2_at (t : Fin cfg0.N) (p : Fin 512) (q : Fin 1024) :
    (iblk m c 2 t : Vec Ideal S512x1024 .f32) (ix2 p q) = dh m c (512 * t.val + p.val) (q.val) := by
  have ht := t.isLt
  have := hN
  have e := congrFun (V_main_arg2 m c) (ix2 (⟨512 * t.val + p.val, by omega⟩ : Fin 8192) q)
  refine Eq.trans ?_ (e.trans (dh_of m c rfl rfl).symm)
  rw [iblk, View.read_apply]
  show V m c main_arg2 _ = V m c main_arg2 _
  exact congrArg _ (ix2_of (by show win0_2.index t 0 * 512 + 1 * p.val = 512 * t.val + p.val; rw [(idx2 t).1]; omega) (by show win0_2.index t 1 * 1024 + 1 * q.val = q.val; rw [(idx2 t).2]; omega))

theorem iblk3_at (t : Fin cfg0.N) (p : Fin 512) (q : Fin 1024) :
    (iblk m c 3 t : Vec Ideal S512x1024 .f32) (ix2 p q) = res m c (512 * t.val + p.val) (q.val) := by
  have ht := t.isLt
  have := hN
  have e := congrFun (V_main_arg3 m c) (ix2 (⟨512 * t.val + p.val, by omega⟩ : Fin 8192) q)
  refine Eq.trans ?_ (e.trans (res_of m c rfl rfl).symm)
  rw [iblk, View.read_apply]
  show V m c main_arg3 _ = V m c main_arg3 _
  exact congrArg _ (ix2_of (by show win0_3.index t 0 * 512 + 1 * p.val = 512 * t.val + p.val; rw [(idx3 t).1]; omega) (by show win0_3.index t 1 * 1024 + 1 * q.val = q.val; rw [(idx3 t).2]; omega))

/-- The gradient of the rows, and a row's part of the gradient of the scale. -/
def gradRow (i : ℕ) (q : Fin 1024) : EReal := grad (fun l => rows m c i l.val) (fun l => scale m c 0 l.val) (fun l => dh m c i l.val) (fun l => res m c i l.val) q
def part (i j : ℕ) : EReal := dh m c i j * (rows m c i j * Ideal.rsqrt (msq fun l => rows m c i l.val))

/-- What a point leaves in that block. -/
theorem after4 (t : Fin cfg0.N) (p : Fin 512) (q : Fin 1024) :
    (outsAt0 m c t.val t.isLt).1 (ix2 p q) = gradRow m c (512 * t.val + p.val) q := by
  have hn := hN
  have ht := t.isLt
  by_cases h0 : t.val % 16 = 0
  · rw [outsAt0_A m c t h0 (by omega)]
    dsimp only
    rw [out4_A]
    simp only [iblk0_at, iblk1_at, iblk2_at, iblk3_at]
    rfl
  · rw [outsAt0_B m c t h0 (by omega)]
    dsimp only
    rw [out4_B]
    simp only [iblk0_at, iblk1_at, iblk2_at, iblk3_at]
    rfl

/-- What a point leaves in the scale's block: the sum over the rows so far. -/
theorem after5 (n : ℕ) (h : n < cfg0.N) (q : Fin 1024) :
    (outsAt0 m c n h).2 (ix2 0 q) = ∑ s ∈ Finset.range (512 * (n + 1)), part m c s q.val := by
  induction n using Nat.strong_induction_on with
  | _ n ih =>
    have hn := hN
    by_cases h0 : n % 16 = 0
    · refine (congrFun (congrArg (fun o => o.2) (outsAt0_A m c ⟨n, h⟩ h0 (by dsimp only; omega))) (ix2 0 q)).trans ?_
      dsimp only
      rw [out5_A]
      exact sum_first n (by omega) (fun s => part m c s q.val) _ fun r => by simp only [iblk0_at, iblk1_at, iblk2_at, iblk3_at]; rfl
    · refine (congrFun (congrArg (fun o => o.2) (outsAt0_B m c ⟨n, h⟩ h0 (by dsimp only; omega))) (ix2 0 q)).trans ?_
      dsimp only
      rw [out5_B]
      refine sum_next n (fun s => part m c s q.val) _ _ ?_ fun r => by simp only [iblk0_at, iblk1_at, iblk2_at, iblk3_at]; rfl
      refine (ih (n - 1) (by omega) (by omega)).trans ?_
      rw [show n - 1 + 1 = n by omega]

/-- The results, as contents of the result arrays: the gradient of the rows. -/
def dx : Buf (Elt Ideal) ((c : Thread nD τ).loc main_v0_0) := fun y : S8192x1024.Idx =>
  (gradRow m c (y 0).val (y 1) : EReal)

/-- The gradient of the scale. -/
def dg : Buf (Elt Ideal) ((c : Thread nD τ).loc main_v0_1) := fun y : S1x1024.Idx =>
  (∑ s ∈ Finset.range 8192, part m c s (y 1 : Fin 1024).val : EReal)

/-- That result array ends holding it. -/
theorem final4 : (dats m 0 c).arrAt 4 cfg0.N = dx m c :=
  (dats m 0 c).arrAt_eq_of_cover 4 (dx m c)
    (fun t hf => by
      rw [Value.flushed4]
      funext y
      rw [View.read_apply]
      refine Eq.trans (b := (outsAt0 m c t.val t.isLt).1 y) rfl ?_
      obtain ⟨p, q, rfl⟩ : ∃ (p : Fin 512) (q : Fin 1024), y = ix2 p q := ⟨y 0, y 1, ValueIdx.eq_ix2 y⟩
      rw [after4]
      have e0 : (((cfg0.win 4).blk t).view.emb (ix2 p q) 0).val = 512 * t.val + p.val := by
        show win0_4.index t 0 * 512 + 1 * p.val = _
        rw [(idx4 t).1]; omega
      have e1 : (((cfg0.win 4).blk t).view.emb (ix2 p q) 1) = q := Fin.ext (by
        show win0_4.index t 1 * 1024 + 1 * q.val = _
        rw [(idx4 t).2]; omega)
      show _ = dx m c (((cfg0.win 4).blk t).view.emb (ix2 p q))
      unfold dx
      rw [e0, e1])
    fun y => by
      have hy0 : (y 0).val < 8192 := (y 0).isLt
      have hy1 : (y 1).val < 1024 := (y 1).isLt
      have hn := hN
      let t : Fin cfg0.N := ⟨(y 0).val / 512, by omega⟩
      have ht : t.val = (y 0).val / 512 := rfl
      refine ⟨t, flush0_4 t, ?_⟩
      show y ∈ ((View.whole main_v0_0).slice (win0_4.rect t)).set
      rw [View.set_slice_whole, Rect.mem_set_unit]
      intro a
      match a with
      | ⟨0, _⟩ =>
        show win0_4.index t 0 * 512 ≤ (y 0 : Nat) ∧ (y 0 : Nat) < win0_4.index t 0 * 512 + 512
        rw [(idx4 t).1, ht]; omega
      | ⟨1, _⟩ =>
        show win0_4.index t 1 * 1024 ≤ (y 1 : Nat) ∧ (y 1 : Nat) < win0_4.index t 1 * 1024 + 1024
        rw [(idx4 t).2]; omega

/-- That result array ends holding it. -/
theorem final5 : (dats m 0 c).arrAt 5 cfg0.N = dg m c :=
  (dats m 0 c).arrAt_eq_of_cover 5 (dg m c)
    (fun t hf => by
      have h15 := (flush0_5 t).mp hf
      have hn := hN
      have ht := t.isLt
      rw [Value.flushed5]
      funext y
      rw [View.read_apply]
      refine Eq.trans (b := (outsAt0 m c t.val t.isLt).2 y) rfl ?_
      obtain ⟨p, q, rfl⟩ : ∃ (p : Fin 1) (q : Fin 1024), y = ix2 p q := ⟨y 0, y 1, ValueIdx.eq_ix2 y⟩
      obtain rfl : p = 0 := Subsingleton.elim _ _
      rw [after5, show 512 * (t.val + 1) = 8192 by omega]
      have e1 : (((cfg0.win 5).blk t).view.emb (ix2 0 q) 1) = q := Fin.ext (by
        show win0_5.index t 1 * 1024 + 1 * q.val = _
        rw [(idx5 t).2]; omega)
      show _ = dg m c (((cfg0.win 5).blk t).view.emb (ix2 0 q))
      unfold dg
      rw [e1])
    fun y => by
      have hy0 : (y 0).val < 1 := (y 0).isLt
      have hy1 : (y 1).val < 1024 := (y 1).isLt
      have hn := hN
      let t : Fin cfg0.N := ⟨15, by omega⟩
      refine ⟨t, (flush0_5 t).mpr rfl, ?_⟩
      show y ∈ ((View.whole main_v0_1).slice (win0_5.rect t)).set
      rw [View.set_slice_whole, Rect.mem_set_unit]
      intro a
      match a with
      | ⟨0, _⟩ =>
        show win0_5.index t 0 * 1 ≤ (y 0 : Nat) ∧ (y 0 : Nat) < win0_5.index t 0 * 1 + 1
        rw [(idx5 t).1]; omega
      | ⟨1, _⟩ =>
        show win0_5.index t 1 * 1024 ≤ (y 1 : Nat) ∧ (y 1 : Nat) < win0_5.index t 1 * 1024 + 1024
        rw [(idx5 t).2]; omega

/-! ## The reference's results are what the kernel's result arrays end holding -/

theorem grad_of (x0 : FVec Ideal Cert.RmsMixBwdRefIdeal.S8192x1024 .f32) (x1 : FVec Ideal Cert.RmsMixBwdRefIdeal.S1x1024 .f32) (x2 x3 : FVec Ideal Cert.RmsMixBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (i : Fin 8192) (j : Fin 1024) :
    grad (fun l => x0 (ix2 i l)) (fun l => x1 (ix2 0 l)) (fun l => x2 (ix2 i l)) (fun l => x3 (ix2 i l)) j = gradRow m c i.val j := by
  have e0 : (fun l : Fin 1024 => (x0 (ix2 i l) : EReal)) = fun l => rows m c i.val l.val := (funext fun l => (congrFun h0 (ix2 i l)).trans (rows_of m c rfl rfl).symm)
  have e1 : (fun l : Fin 1024 => (x1 (ix2 0 l) : EReal)) = fun l => scale m c 0 l.val := (funext fun l => (congrFun h1 (ix2 0 l)).trans (scale_of m c (p := (0 : Fin 1)) (q := l) rfl rfl).symm)
  have e2 : (fun l : Fin 1024 => (x2 (ix2 i l) : EReal)) = fun l => dh m c i.val l.val := (funext fun l => (congrFun h2 (ix2 i l)).trans (dh_of m c rfl rfl).symm)
  have e3 : (fun l : Fin 1024 => (x3 (ix2 i l) : EReal)) = fun l => res m c i.val l.val := (funext fun l => (congrFun h3 (ix2 i l)).trans (res_of m c rfl rfl).symm)
  unfold gradRow
  rw [← e0, ← e1, ← e2, ← e3]

theorem equal0 (x0 : FVec Ideal Cert.RmsMixBwdRefIdeal.S8192x1024 .f32) (x1 : FVec Ideal Cert.RmsMixBwdRefIdeal.S1x1024 .f32) (x2 x3 : FVec Ideal Cert.RmsMixBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RmsMixBwdRefIdeal.Reading.out0 x0 x1 x2 x3 = (dats m 0 c).arrAt 4 cfg0.N := by
  rw [final4]
  funext y
  obtain ⟨i, j, rfl⟩ : ∃ (i : Fin 8192) (j : Fin 1024), y = ix2 i j := ⟨y 0, y 1, ValueIdx.eq_ix2 y⟩
  exact (Cert.RmsMixBwdRefIdeal.Reading.out0_at _ _ _ _ i j).trans (grad_of m c x0 x1 x2 x3 h0 h1 h2 h3 i j)

theorem equal1 (x0 : FVec Ideal Cert.RmsMixBwdRefIdeal.S8192x1024 .f32) (x1 : FVec Ideal Cert.RmsMixBwdRefIdeal.S1x1024 .f32) (x2 x3 : FVec Ideal Cert.RmsMixBwdRefIdeal.S8192x1024 .f32)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) :
    Cert.RmsMixBwdRefIdeal.Reading.out1 x0 x1 x2 x3 = (dats m 0 c).arrAt 5 cfg0.N := by
  rw [final5]
  funext y
  obtain ⟨z, j, rfl⟩ : ∃ (z : Fin 1) (j : Fin 1024), y = ix2 z j := ⟨y 0, y 1, ValueIdx.eq_ix2 y⟩
  obtain rfl : z = 0 := Subsingleton.elim _ _
  refine (Cert.RmsMixBwdRefIdeal.Reading.out1_at _ _ _ _ j).trans ?_
  show _ = ∑ s ∈ Finset.range 8192, part m c s j.val
  rw [← Fin.sum_univ_eq_sum_range (fun s => part m c s j.val)]
  refine Finset.sum_congr rfl fun i _ => ?_
  have e0 : (fun l : Fin 1024 => (x0 (ix2 i l) : EReal)) = fun l => rows m c i.val l.val := (funext fun l => (congrFun h0 (ix2 i l)).trans (rows_of m c rfl rfl).symm)
  have d0 : (x0 (ix2 i j) : EReal) = rows m c i.val j.val := congrFun e0 j
  have d2 : (x2 (ix2 i j) : EReal) = dh m c i.val j.val := (congrFun h2 (ix2 i j)).trans (dh_of m c rfl rfl).symm
  unfold part
  rw [← d0, ← d2, ← e0]
  exact mul_comm _ _

end Cert.RmsMixBwdIdeal.Product

end
-- ==== Proof.lean ====
/-
  The certificate. The gradient of the spatial gating comes first: the program and its idealisation run and leave their arguments
  as they were, the idealisation reads two constants as the reals they round, and from finite arguments the idealised kernel and
  the gradient of the reference end with the same five results. Then further calls of the step, one program each:
  each runs and leaves its arguments as they were, and from any arguments the idealised kernel ends with its reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Pre_finite
public import proofs.«01_k».proof.Proof.Finite
public import proofs.«01_k».proof.Proof.Result
public import proofs.«01_k».proof.Proof.Gen.DwXbc.Frame
public import proofs.«01_k».proof.Proof.Gen.DwXbcIdeal.Value
public import proofs.«01_k».proof.Proof.Gen.DwXbcRefIdeal.Run
public import proofs.«01_k».proof.Proof.DwXbcValue
public import proofs.«01_k».proof.Proof.Gen.DwWide.Frame
public import proofs.«01_k».proof.Proof.Gen.DwWideIdeal.Value
public import proofs.«01_k».proof.Proof.Gen.DwWideRefIdeal.Run
public import proofs.«01_k».proof.Proof.DwWideValue
public import proofs.«01_k».proof.Proof.Gen.ProjXbc.Frame
public import proofs.«01_k».proof.Proof.Gen.ProjXbcIdeal.Value
public import proofs.«01_k».proof.Proof.Gen.ProjXbcRefIdeal.Run
public import proofs.«01_k».proof.Proof.ProjXbcValue
public import proofs.«01_k».proof.Proof.Gen.ProjWide.Frame
public import proofs.«01_k».proof.Proof.Gen.ProjWideIdeal.Value
public import proofs.«01_k».proof.Proof.Gen.ProjWideRefIdeal.Run
public import proofs.«01_k».proof.Proof.ProjWideValue
public import proofs.«01_k».proof.Proof.Gen.ProjA.Frame
public import proofs.«01_k».proof.Proof.Gen.ProjAIdeal.Value
public import proofs.«01_k».proof.Proof.Gen.ProjARefIdeal.Run
public import proofs.«01_k».proof.Proof.ProjAValue
public import proofs.«01_k».proof.Proof.Gen.MlpUp.Frame
public import proofs.«01_k».proof.Proof.Gen.MlpUpIdeal.Value
public import proofs.«01_k».proof.Proof.Gen.MlpUpRefIdeal.Run
public import proofs.«01_k».proof.Proof.MlpUpValue
public import proofs.«01_k».proof.Proof.Gen.MlpDown.Frame
public import proofs.«01_k».proof.Proof.Gen.MlpDownIdeal.Value
public import proofs.«01_k».proof.Proof.Gen.MlpDownRefIdeal.Run
public import proofs.«01_k».proof.Proof.MlpDownValue
public import proofs.«01_k».proof.Proof.Gen.Dup.Frame
public import proofs.«01_k».proof.Proof.Gen.DupIdeal.Value
public import proofs.«01_k».proof.Proof.Gen.DupRefIdeal.Run
public import proofs.«01_k».proof.Proof.DupValue
public import proofs.«01_k».proof.Proof.Gen.Dh2.Frame
public import proofs.«01_k».proof.Proof.Gen.Dh2Ideal.Value
public import proofs.«01_k».proof.Proof.Gen.Dh2RefIdeal.Run
public import proofs.«01_k».proof.Proof.Dh2Value
public import proofs.«01_k».proof.Proof.Gen.Dyb.Frame
public import proofs.«01_k».proof.Proof.Gen.DybIdeal.Value
public import proofs.«01_k».proof.Proof.Gen.DybRefIdeal.Run
public import proofs.«01_k».proof.Proof.DybValue
public import proofs.«01_k».proof.Proof.Gen.Dya.Frame
public import proofs.«01_k».proof.Proof.Gen.DyaIdeal.Value
public import proofs.«01_k».proof.Proof.Gen.DyaRefIdeal.Run
public import proofs.«01_k».proof.Proof.DyaValue
public import proofs.«01_k».proof.Proof.Gen.Dh.Frame
public import proofs.«01_k».proof.Proof.Gen.DhIdeal.Frame
public import proofs.«01_k».proof.Proof.Gen.DhRefIdeal.Run
public import proofs.«01_k».proof.Proof.DhValue
public import proofs.«01_k».proof.Proof.Gen.DwDown.Frame
public import proofs.«01_k».proof.Proof.Gen.DwDownIdeal.Value
public import proofs.«01_k».proof.Proof.Gen.DwDownRefIdeal.Run
public import proofs.«01_k».proof.Proof.DwDownValue
public import proofs.«01_k».proof.Proof.Gen.DwUp.Frame
public import proofs.«01_k».proof.Proof.Gen.DwUpIdeal.Value
public import proofs.«01_k».proof.Proof.Gen.DwUpRefIdeal.Run
public import proofs.«01_k».proof.Proof.DwUpValue
public import proofs.«01_k».proof.Proof.Gen.DwPb.Frame
public import proofs.«01_k».proof.Proof.Gen.DwPbIdeal.Value
public import proofs.«01_k».proof.Proof.Gen.DwPbRefIdeal.Run
public import proofs.«01_k».proof.Proof.DwPbValue
public import proofs.«01_k».proof.Proof.Gen.DwPa.Frame
public import proofs.«01_k».proof.Proof.Gen.DwPaIdeal.Value
public import proofs.«01_k».proof.Proof.Gen.DwPaRefIdeal.Run
public import proofs.«01_k».proof.Proof.DwPaValue
public import proofs.«01_k».proof.Proof.Gen.DwOut.Frame
public import proofs.«01_k».proof.Proof.Gen.DwOutIdeal.Value
public import proofs.«01_k».proof.Proof.Gen.DwOutRefIdeal.Run
public import proofs.«01_k».proof.Proof.DwOutValue
public import proofs.«01_k».proof.Proof.Gen.ProjB.Frame
public import proofs.«01_k».proof.Proof.Gen.ProjBIdeal.Value
public import proofs.«01_k».proof.Proof.Gen.ProjBRefIdeal.Run
public import proofs.«01_k».proof.Proof.ProjBValue
public import proofs.«01_k».proof.Proof.Gen.OutProj.Frame
public import proofs.«01_k».proof.Proof.Gen.OutProjIdeal.Value
public import proofs.«01_k».proof.Proof.Gen.OutProjRefIdeal.Run
public import proofs.«01_k».proof.Proof.OutProjValue
public import proofs.«01_k».proof.Proof.Gen.ProjDt.Frame
public import proofs.«01_k».proof.Proof.Gen.ProjDtIdeal.Value
public import proofs.«01_k».proof.Proof.Gen.ProjDtRefIdeal.Run
public import proofs.«01_k».proof.Proof.ProjDtValue
public import proofs.«01_k».proof.Proof.Gen.DwDt.Frame
public import proofs.«01_k».proof.Proof.Gen.DwDtIdeal.Value
public import proofs.«01_k».proof.Proof.Gen.DwDtRefIdeal.Run
public import proofs.«01_k».proof.Proof.DwDtValue
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.RmsFwdValue
public import proofs.«01_k».proof.Proof.Gen.MergeBwd.Frame
public import proofs.«01_k».proof.Proof.Gen.MergeBwdIdeal.Value
public import proofs.«01_k».proof.Proof.Gen.MergeBwdRefIdeal.Run
public import proofs.«01_k».proof.Proof.MergeBwdValue
public import proofs.«01_k».proof.Proof.Gen.GmlpFwd.Frame
public import proofs.«01_k».proof.Proof.Gen.GmlpFwdIdeal.Value
public import proofs.«01_k».proof.Proof.Gen.GmlpFwdRefIdeal.Run
public import proofs.«01_k».proof.Proof.GmlpFwdValue
public import proofs.«01_k».proof.Proof.Gen.RmsMlpBwd.Frame
public import proofs.«01_k».proof.Proof.Gen.RmsMlpBwdIdeal.Value
public import proofs.«01_k».proof.Proof.Gen.RmsMlpBwdRefIdeal.Run
public import proofs.«01_k».proof.Proof.RmsMlpBwdValue
public import proofs.«01_k».proof.Proof.Gen.RmsMixBwd.Frame
public import proofs.«01_k».proof.Proof.Gen.RmsMixBwdIdeal.Value
public import proofs.«01_k».proof.Proof.Gen.RmsMixBwdRefIdeal.Run
public import proofs.«01_k».proof.Proof.RmsMixBwdValue
public import Idealize.ShloMosaic.Adequacy
public import Idealize.ShloMosaic.Init

@[expose] public section

noncomputable section

namespace Cert.Proof

open Idealize.ShloMosaic Idealize.SL.Sem

/-- The reference runs, keeps its arguments, and leaves every semaphore at zero: it has none. -/
theorem frame_reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The two constants the idealisation names are the words of the reals `1 / √2` and `1 / √(2 π)`. -/
theorem preserves : Cert.preserves_Kernel_KernelIdeal :=
  ⟨IdealRules.named_const.statement Cert.KernelIdeal.κ "inv_sqrt2" .f32 0x3F3504F3#32 (((Real.sqrt 2)⁻¹ : ℝ) : EReal) rfl,
   IdealRules.named_const.statement Cert.KernelIdeal.κ "inv_sqrt2pi" .f32 0x3ECC422A#32 (((Real.sqrt (2 * Real.pi))⁻¹ : ℝ) : EReal) rfl⟩

/-- From finite arguments the idealised kernel's five results are the reference's. -/
theorem algebraic : Cert.algebraic_KernelIdeal_ReferenceIdeal_pre_finite := by
  intro m ρ m' ρ' hpre hagree
  refine ⟨_, _, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨r0, r1, r2, r3, r4, kept⟩ := h c
  obtain ⟨a0, a1, a2, a3, a4, a5⟩ := hagree c
  obtain ⟨e0, e1, e2, e3, e4⟩ := Result.stages_equal m c (Finite.all_real _ _ _ _ _ _ (hpre c))
  rw [← a0, ← a1, ← a2, ← a3, ← a4, ← a5] at e0
  rw [← a0, ← a1, ← a2, ← a3] at e1
  rw [← a0, ← a1] at e2
  rw [← a0, ← a1, ← a4] at e3 e4
  exact ⟨r0.trans ((Result.reference0 m' c).trans e0), r1.trans ((Result.reference1 m' c).trans e1), r2.trans e2,
    r3.trans ((Result.reference3 m' c).trans e3), r4.trans e4, kept⟩

/-! ## `DwXbc`: the gradient of one wide piece of the input projection's weight (4096 columns) -/

theorem frame_ref_DwXbc : Cert.quiescent_DwXbcRefIdeal := fun m ρ _ =>
  (θ_run Cert.DwXbcRefIdeal.defs _ _).mono (fun r h => ⟨fun c => (h c).2, sem_eq_zero_of_no_sems (by decide) r.2⟩)
    (Cert.DwXbcRefIdeal.Value.run (F := Ideal) m ρ)

theorem algebraic_DwXbc : Cert.algebraic_DwXbcIdeal_DwXbcRefIdeal := by
  intro m ρ m' ρ' hpre hagree
  refine ⟨_, Cert.DwXbcIdeal.Value.run_blocks (F := Ideal) m ρ, ?_⟩
  refine (θ_run Cert.DwXbcRefIdeal.defs _ _).mono (fun _ h c => ?_) (Cert.DwXbcRefIdeal.Value.run (F := Ideal) m' ρ')
  obtain ⟨r0, kept⟩ := h c
  obtain ⟨a0, a1⟩ := hagree c
  exact ⟨r0.trans (Cert.DwXbcIdeal.Product.equal m c _ _ a0 a1), kept⟩

/-! ## `DwWide`: the gradient of one wide piece of the input projection's weight (2048 columns) -/

theorem frame_ref_DwWide : Cert.quiescent_DwWideRefIdeal := fun m ρ _ =>
  (θ_run Cert.DwWideRefIdeal.defs _ _).mono (fun r h => ⟨fun c => (h c).2, sem_eq_zero_of_no_sems (by decide) r.2⟩)
    (Cert.DwWideRefIdeal.Value.run (F := Ideal) m ρ)

theorem algebraic_DwWide : Cert.algebraic_DwWideIdeal_DwWideRefIdeal := by
  intro m ρ m' ρ' hpre hagree
  refine ⟨_, Cert.DwWideIdeal.Value.run_blocks (F := Ideal) m ρ, ?_⟩
  refine (θ_run Cert.DwWideRefIdeal.defs _ _).mono (fun _ h c => ?_) (Cert.DwWideRefIdeal.Value.run (F := Ideal) m' ρ')
  obtain ⟨r0, kept⟩ := h c
  obtain ⟨a0, a1⟩ := hagree c
  exact ⟨r0.trans (Cert.DwWideIdeal.Product.equal m c _ _ a0 a1), kept⟩

/-! ## `ProjXbc`: a piece of the input projection (4096 columns) -/

theorem frame_ref_ProjXbc : Cert.quiescent_ProjXbcRefIdeal := fun m ρ _ =>
  (θ_run Cert.ProjXbcRefIdeal.defs _ _).mono (fun r h => ⟨fun c => (h c).2, sem_eq_zero_of_no_sems (by decide) r.2⟩)
    (Cert.ProjXbcRefIdeal.Value.run (F := Ideal) m ρ)

theorem algebraic_ProjXbc : Cert.algebraic_ProjXbcIdeal_ProjXbcRefIdeal := by
  intro m ρ m' ρ' hpre hagree
  refine ⟨_, Cert.ProjXbcIdeal.Value.run_blocks (F := Ideal) m ρ, ?_⟩
  refine (θ_run Cert.ProjXbcRefIdeal.defs _ _).mono (fun _ h c => ?_) (Cert.ProjXbcRefIdeal.Value.run (F := Ideal) m' ρ')
  obtain ⟨r0, kept⟩ := h c
  obtain ⟨a0, a1⟩ := hagree c
  exact ⟨r0.trans (Cert.ProjXbcIdeal.Product.equal m c _ _ a0 a1), kept⟩

/-! ## `ProjWide`: a piece of the input projection (2048 columns) -/

theorem frame_ref_ProjWide : Cert.quiescent_ProjWideRefIdeal := fun m ρ _ =>
  (θ_run Cert.ProjWideRefIdeal.defs _ _).mono (fun r h => ⟨fun c => (h c).2, sem_eq_zero_of_no_sems (by decide) r.2⟩)
    (Cert.ProjWideRefIdeal.Value.run (F := Ideal) m ρ)

theorem algebraic_ProjWide : Cert.algebraic_ProjWideIdeal_ProjWideRefIdeal := by
  intro m ρ m' ρ' hpre hagree
  refine ⟨_, Cert.ProjWideIdeal.Value.run_blocks (F := Ideal) m ρ, ?_⟩
  refine (θ_run Cert.ProjWideRefIdeal.defs _ _).mono (fun _ h c => ?_) (Cert.ProjWideRefIdeal.Value.run (F := Ideal) m' ρ')
  obtain ⟨r0, kept⟩ := h c
  obtain ⟨a0, a1⟩ := hagree c
  exact ⟨r0.trans (Cert.ProjWideIdeal.Product.equal m c _ _ a0 a1), kept⟩

/-! ## `ProjA`: the projection of the first branch -/

theorem frame_ref_ProjA : Cert.quiescent_ProjARefIdeal := fun m ρ _ =>
  (θ_run Cert.ProjARefIdeal.defs _ _).mono (fun r h => ⟨fun c => (h c).2, sem_eq_zero_of_no_sems (by decide) r.2⟩)
    (Cert.ProjARefIdeal.Value.run (F := Ideal) m ρ)

theorem algebraic_ProjA : Cert.algebraic_ProjAIdeal_ProjARefIdeal := by
  intro m ρ m' ρ' hpre hagree
  refine ⟨_, Cert.ProjAIdeal.Value.run_blocks (F := Ideal) m ρ, ?_⟩
  refine (θ_run Cert.ProjARefIdeal.defs _ _).mono (fun _ h c => ?_) (Cert.ProjARefIdeal.Value.run (F := Ideal) m' ρ')
  obtain ⟨r0, kept⟩ := h c
  obtain ⟨a0, a1⟩ := hagree c
  exact ⟨r0.trans (Cert.ProjAIdeal.Product.equal m c _ _ a0 a1), kept⟩

/-! ## `MlpUp`: the first layer of the channel MLP and its squared relu -/

theorem frame_ref_MlpUp : Cert.quiescent_MlpUpRefIdeal := fun m ρ _ =>
  (θ_run Cert.MlpUpRefIdeal.defs _ _).mono (fun r h => ⟨fun c => (h c).2, sem_eq_zero_of_no_sems (by decide) r.2⟩)
    (Cert.MlpUpRefIdeal.Value.run (F := Ideal) m ρ)

theorem algebraic_MlpUp : Cert.algebraic_MlpUpIdeal_MlpUpRefIdeal := by
  intro m ρ m' ρ' hpre hagree
  refine ⟨_, Cert.MlpUpIdeal.Value.run_blocks (F := Ideal) m ρ, ?_⟩
  refine (θ_run Cert.MlpUpRefIdeal.defs _ _).mono (fun _ h c => ?_) (Cert.MlpUpRefIdeal.Value.run (F := Ideal) m' ρ')
  obtain ⟨r0, kept⟩ := h c
  obtain ⟨a0, a1⟩ := hagree c
  exact ⟨r0.trans (Cert.MlpUpIdeal.Product.equal m c _ _ a0 a1), kept⟩

/-! ## `MlpDown`: the second layer of the channel MLP and its residual -/

theorem frame_ref_MlpDown : Cert.quiescent_MlpDownRefIdeal := fun m ρ _ =>
  (θ_run Cert.MlpDownRefIdeal.defs _ _).mono (fun r h => ⟨fun c => (h c).2, sem_eq_zero_of_no_sems (by decide) r.2⟩)
    (Cert.MlpDownRefIdeal.Value.run (F := Ideal) m ρ)

theorem algebraic_MlpDown : Cert.algebraic_MlpDownIdeal_MlpDownRefIdeal := by
  intro m ρ m' ρ' hpre hagree
  refine ⟨_, Cert.MlpDownIdeal.Value.run_blocks (F := Ideal) m ρ, ?_⟩
  refine (θ_run Cert.MlpDownRefIdeal.defs _ _).mono (fun _ h c => ?_) (Cert.MlpDownRefIdeal.Value.run (F := Ideal) m' ρ')
  obtain ⟨r0, kept⟩ := h c
  obtain ⟨a0, a1, a2⟩ := hagree c
  exact ⟨r0.trans (Cert.MlpDownIdeal.Product.equal m c _ _ _ a0 a1 a2), kept⟩

/-! ## `Dup`: the gradient of the MLP's pre-activations -/

theorem frame_ref_Dup : Cert.quiescent_DupRefIdeal := fun m ρ _ =>
  (θ_run Cert.DupRefIdeal.defs _ _).mono (fun r h => ⟨fun c => (h c).2, sem_eq_zero_of_no_sems (by decide) r.2⟩)
    (Cert.DupRefIdeal.Value.run (F := Ideal) m ρ)

theorem algebraic_Dup : Cert.algebraic_DupIdeal_DupRefIdeal := by
  intro m ρ m' ρ' hpre hagree
  refine ⟨_, Cert.DupIdeal.Value.run_blocks (F := Ideal) m ρ, ?_⟩
  refine (θ_run Cert.DupRefIdeal.defs _ _).mono (fun _ h c => ?_) (Cert.DupRefIdeal.Value.run (F := Ideal) m' ρ')
  obtain ⟨r0, kept⟩ := h c
  obtain ⟨a0, a1, a2⟩ := hagree c
  exact ⟨r0.trans (Cert.DupIdeal.Product.equal m c _ _ _ a0 a1 a2), kept⟩

/-! ## `Dh2`: the gradient of the MLP's input -/

theorem frame_ref_Dh2 : Cert.quiescent_Dh2RefIdeal := fun m ρ _ =>
  (θ_run Cert.Dh2RefIdeal.defs _ _).mono (fun r h => ⟨fun c => (h c).2, sem_eq_zero_of_no_sems (by decide) r.2⟩)
    (Cert.Dh2RefIdeal.Value.run (F := Ideal) m ρ)

theorem algebraic_Dh2 : Cert.algebraic_Dh2Ideal_Dh2RefIdeal := by
  intro m ρ m' ρ' hpre hagree
  refine ⟨_, Cert.Dh2Ideal.Value.run_blocks (F := Ideal) m ρ, ?_⟩
  refine (θ_run Cert.Dh2RefIdeal.defs _ _).mono (fun _ h c => ?_) (Cert.Dh2RefIdeal.Value.run (F := Ideal) m' ρ')
  obtain ⟨r0, kept⟩ := h c
  obtain ⟨a0, a1⟩ := hagree c
  exact ⟨r0.trans (Cert.Dh2Ideal.Product.equal m c _ _ a0 a1), kept⟩

/-! ## `Dyb`: the gradient of the second branch -/

theorem frame_ref_Dyb : Cert.quiescent_DybRefIdeal := fun m ρ _ =>
  (θ_run Cert.DybRefIdeal.defs _ _).mono (fun r h => ⟨fun c => (h c).2, sem_eq_zero_of_no_sems (by decide) r.2⟩)
    (Cert.DybRefIdeal.Value.run (F := Ideal) m ρ)

theorem algebraic_Dyb : Cert.algebraic_DybIdeal_DybRefIdeal := by
  intro m ρ m' ρ' hpre hagree
  refine ⟨_, Cert.DybIdeal.Value.run_blocks (F := Ideal) m ρ, ?_⟩
  refine (θ_run Cert.DybRefIdeal.defs _ _).mono (fun _ h c => ?_) (Cert.DybRefIdeal.Value.run (F := Ideal) m' ρ')
  obtain ⟨r0, kept⟩ := h c
  obtain ⟨a0, a1⟩ := hagree c
  exact ⟨r0.trans (Cert.DybIdeal.Product.equal m c _ _ a0 a1), kept⟩

/-! ## `Dya`: the gradient of the first branch -/

theorem frame_ref_Dya : Cert.quiescent_DyaRefIdeal := fun m ρ _ =>
  (θ_run Cert.DyaRefIdeal.defs _ _).mono (fun r h => ⟨fun c => (h c).2, sem_eq_zero_of_no_sems (by decide) r.2⟩)
    (Cert.DyaRefIdeal.Value.run (F := Ideal) m ρ)

theorem algebraic_Dya : Cert.algebraic_DyaIdeal_DyaRefIdeal := by
  intro m ρ m' ρ' hpre hagree
  refine ⟨_, Cert.DyaIdeal.Value.run_blocks (F := Ideal) m ρ, ?_⟩
  refine (θ_run Cert.DyaRefIdeal.defs _ _).mono (fun _ h c => ?_) (Cert.DyaRefIdeal.Value.run (F := Ideal) m' ρ')
  obtain ⟨r0, kept⟩ := h c
  obtain ⟨a0, a1⟩ := hagree c
  exact ⟨r0.trans (Cert.DyaIdeal.Product.equal m c _ _ a0 a1), kept⟩

/-! ## `Dh`: the gradient of the input projection's input -/

theorem frame_ref_Dh : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

theorem algebraic_Dh : Cert.algebraic_DhIdeal_DhRefIdeal := by
  intro m ρ m' ρ' hpre hagree
  refine ⟨_, Cert.DhIdeal.Product.run_result m ρ, ?_⟩
  refine (θ_run Cert.DhRefIdeal.defs _ _).mono (fun _ h c => ?_) (Cert.DhRefIdeal.Value.run (F := Ideal) m' ρ')
  obtain ⟨r0, kept⟩ := h c
  obtain ⟨a0, a1⟩ := hagree c
  exact ⟨r0.trans (Cert.DhIdeal.Product.equal m c _ _ a0 a1), kept⟩

/-! ## `DwDown`: the gradient of the second MLP weight, placed in the packed array -/

theorem frame_ref_DwDown : Cert.quiescent_DwDownRefIdeal := fun m ρ _ =>
  (θ_run Cert.DwDownRefIdeal.defs _ _).mono (fun r h => ⟨fun c => (h c).2, sem_eq_zero_of_no_sems (by decide) r.2⟩)
    (Cert.DwDownRefIdeal.Value.run (F := Ideal) m ρ)

theorem algebraic_DwDown : Cert.algebraic_DwDownIdeal_DwDownRefIdeal := by
  intro m ρ m' ρ' hpre hagree
  refine ⟨_, Cert.DwDownIdeal.Value.run_blocks (F := Ideal) m ρ, ?_⟩
  refine (θ_run Cert.DwDownRefIdeal.defs _ _).mono (fun _ h c => ?_) (Cert.DwDownRefIdeal.Value.run (F := Ideal) m' ρ')
  obtain ⟨r0, kept⟩ := h c
  obtain ⟨a0, a1, a2⟩ := hagree c
  exact ⟨r0.trans (Cert.DwDownIdeal.Product.equal m c _ _ _ a0 a1 a2), kept⟩

/-! ## `DwUp`: the gradient of the first MLP weight, placed in the packed array -/

theorem frame_ref_DwUp : Cert.quiescent_DwUpRefIdeal := fun m ρ _ =>
  (θ_run Cert.DwUpRefIdeal.defs _ _).mono (fun r h => ⟨fun c => (h c).2, sem_eq_zero_of_no_sems (by decide) r.2⟩)
    (Cert.DwUpRefIdeal.Value.run (F := Ideal) m ρ)

theorem algebraic_DwUp : Cert.algebraic_DwUpIdeal_DwUpRefIdeal := by
  intro m ρ m' ρ' hpre hagree
  refine ⟨_, Cert.DwUpIdeal.Value.run_blocks (F := Ideal) m ρ, ?_⟩
  refine (θ_run Cert.DwUpRefIdeal.defs _ _).mono (fun _ h c => ?_) (Cert.DwUpRefIdeal.Value.run (F := Ideal) m' ρ')
  obtain ⟨r0, kept⟩ := h c
  obtain ⟨a0, a1, a2⟩ := hagree c
  exact ⟨r0.trans (Cert.DwUpIdeal.Product.equal m c _ _ _ a0 a1 a2), kept⟩

/-! ## `DwPb`: the gradient of the second branch's projection weight, placed in the packed array -/

theorem frame_ref_DwPb : Cert.quiescent_DwPbRefIdeal := fun m ρ _ =>
  (θ_run Cert.DwPbRefIdeal.defs _ _).mono (fun r h => ⟨fun c => (h c).2, sem_eq_zero_of_no_sems (by decide) r.2⟩)
    (Cert.DwPbRefIdeal.Value.run (F := Ideal) m ρ)

theorem algebraic_DwPb : Cert.algebraic_DwPbIdeal_DwPbRefIdeal := by
  intro m ρ m' ρ' hpre hagree
  refine ⟨_, Cert.DwPbIdeal.Value.run_blocks (F := Ideal) m ρ, ?_⟩
  refine (θ_run Cert.DwPbRefIdeal.defs _ _).mono (fun _ h c => ?_) (Cert.DwPbRefIdeal.Value.run (F := Ideal) m' ρ')
  obtain ⟨r0, kept⟩ := h c
  obtain ⟨a0, a1, a2⟩ := hagree c
  exact ⟨r0.trans (Cert.DwPbIdeal.Product.equal m c _ _ _ a0 a1 a2), kept⟩

/-! ## `DwPa`: the gradient of the first branch's projection weight, placed in the packed array -/

theorem frame_ref_DwPa : Cert.quiescent_DwPaRefIdeal := fun m ρ _ =>
  (θ_run Cert.DwPaRefIdeal.defs _ _).mono (fun r h => ⟨fun c => (h c).2, sem_eq_zero_of_no_sems (by decide) r.2⟩)
    (Cert.DwPaRefIdeal.Value.run (F := Ideal) m ρ)

theorem algebraic_DwPa : Cert.algebraic_DwPaIdeal_DwPaRefIdeal := by
  intro m ρ m' ρ' hpre hagree
  refine ⟨_, Cert.DwPaIdeal.Value.run_blocks (F := Ideal) m ρ, ?_⟩
  refine (θ_run Cert.DwPaRefIdeal.defs _ _).mono (fun _ h c => ?_) (Cert.DwPaRefIdeal.Value.run (F := Ideal) m' ρ')
  obtain ⟨r0, kept⟩ := h c
  obtain ⟨a0, a1, a2⟩ := hagree c
  exact ⟨r0.trans (Cert.DwPaIdeal.Product.equal m c _ _ _ a0 a1 a2), kept⟩

/-! ## `DwOut`: the gradient of the output projection's weight, placed in the packed array -/

theorem frame_ref_DwOut : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem algebraic_DwOut : Cert.algebraic_DwOutIdeal_DwOutRefIdeal := by
  intro m ρ m' ρ' hpre hagree
  refine ⟨_, Cert.DwOutIdeal.Value.run_blocks (F := Ideal) m ρ, ?_⟩
  refine (θ_run Cert.DwOutRefIdeal.defs _ _).mono (fun _ h c => ?_) (Cert.DwOutRefIdeal.Value.run (F := Ideal) m' ρ')
  obtain ⟨r0, kept⟩ := h c
  obtain ⟨a0, a1, a2⟩ := hagree c
  exact ⟨r0.trans (Cert.DwOutIdeal.Product.equal m c _ _ _ a0 a1 a2), kept⟩

/-! ## `ProjB`: the projection of the second branch and the gated merge -/

theorem frame_ref_ProjB : Cert.quiescent_ProjBRefIdeal := fun m ρ _ =>
  (θ_run Cert.ProjBRefIdeal.defs _ _).mono (fun r h => ⟨fun c => (h c).2.2, sem_eq_zero_of_no_sems (by decide) r.2⟩)
    (Cert.ProjBRefIdeal.Value.run (F := Ideal) m ρ)

theorem algebraic_ProjB : Cert.algebraic_ProjBIdeal_ProjBRefIdeal := by
  intro m ρ m' ρ' hpre hagree
  refine ⟨_, _, Cert.ProjBIdeal.Value.run_blocks (F := Ideal) m ρ, ?_⟩
  refine (θ_run Cert.ProjBRefIdeal.defs _ _).mono (fun _ h c => ?_) (Cert.ProjBRefIdeal.Value.run (F := Ideal) m' ρ')
  obtain ⟨r0, r1, kept⟩ := h c
  obtain ⟨a0, a1, a2, a3, a4⟩ := hagree c
  exact ⟨r0.trans (Cert.ProjBIdeal.Product.equal0 m c _ _ _ _ _ a0 a1 a2 a3 a4),
    r1.trans (Cert.ProjBIdeal.Product.equal1 m c _ _ _ _ _ a0 a1 a2 a3 a4), kept⟩

/-! ## `OutProj`: the output projection, its residual and the normalisation -/

theorem frame_ref_OutProj : Cert.quiescent_OutProjRefIdeal := fun m ρ _ =>
  (θ_run Cert.OutProjRefIdeal.defs _ _).mono (fun r h => ⟨fun c => (h c).2.2, sem_eq_zero_of_no_sems (by decide) r.2⟩)
    (Cert.OutProjRefIdeal.Value.run (F := Ideal) m ρ)

theorem algebraic_OutProj : Cert.algebraic_OutProjIdeal_OutProjRefIdeal := by
  intro m ρ m' ρ' hpre hagree
  refine ⟨_, _, Cert.OutProjIdeal.Value.run_blocks (F := Ideal) m ρ, ?_⟩
  refine (θ_run Cert.OutProjRefIdeal.defs _ _).mono (fun _ h c => ?_) (Cert.OutProjRefIdeal.Value.run (F := Ideal) m' ρ')
  obtain ⟨r0, r1, kept⟩ := h c
  obtain ⟨a0, a1, a2, a3⟩ := hagree c
  exact ⟨r0.trans (Cert.OutProjIdeal.Product.equal0 m c _ _ _ _ a0 a1 a2 a3),
    r1.trans (Cert.OutProjIdeal.Product.equal1 m c _ _ _ _ a0 a1 a2 a3), kept⟩

/-! ## `ProjDt`: the narrow piece of the input projection -/

theorem frame_ref_ProjDt : Cert.quiescent_ProjDtRefIdeal := fun m ρ _ =>
  (θ_run Cert.ProjDtRefIdeal.defs _ _).mono (fun r h => ⟨fun c => (h c).2, sem_eq_zero_of_no_sems (by decide) r.2⟩)
    (Cert.ProjDtRefIdeal.Value.run (F := Ideal) m ρ)

theorem algebraic_ProjDt : Cert.algebraic_ProjDtIdeal_ProjDtRefIdeal := by
  intro m ρ m' ρ' hpre hagree
  refine ⟨_, Cert.ProjDtIdeal.Value.run_blocks (F := Ideal) m ρ, ?_⟩
  refine (θ_run Cert.ProjDtRefIdeal.defs _ _).mono (fun _ h c => ?_) (Cert.ProjDtRefIdeal.Value.run (F := Ideal) m' ρ')
  obtain ⟨r0, kept⟩ := h c
  obtain ⟨a0, a1⟩ := hagree c
  exact ⟨r0.trans (Cert.ProjDtIdeal.Product.equal m c _ _ a0 a1), kept⟩

/-! ## `DwDt`: the gradient of the narrow piece of the input projection's weight -/

theorem frame_ref_DwDt : Cert.quiescent_DwDtRefIdeal := fun m ρ _ =>
  (θ_run Cert.DwDtRefIdeal.defs _ _).mono (fun r h => ⟨fun c => (h c).2, sem_eq_zero_of_no_sems (by decide) r.2⟩)
    (Cert.DwDtRefIdeal.Value.run (F := Ideal) m ρ)

theorem algebraic_DwDt : Cert.algebraic_DwDtIdeal_DwDtRefIdeal := by
  intro m ρ m' ρ' hpre hagree
  refine ⟨_, Cert.DwDtIdeal.Value.run_blocks (F := Ideal) m ρ, ?_⟩
  refine (θ_run Cert.DwDtRefIdeal.defs _ _).mono (fun _ h c => ?_) (Cert.DwDtRefIdeal.Value.run (F := Ideal) m' ρ')
  obtain ⟨r0, kept⟩ := h c
  obtain ⟨a0, a1⟩ := hagree c
  exact ⟨r0.trans (Cert.DwDtIdeal.Product.equal m c _ _ a0 a1), kept⟩

/-! ## `RmsFwd`: the normalisation before the input projection -/

theorem frame_ref_RmsFwd : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

theorem algebraic_RmsFwd : Cert.algebraic_RmsFwdIdeal_RmsFwdRefIdeal := by
  intro m ρ m' ρ' hpre hagree
  refine ⟨_, Cert.RmsFwdIdeal.Value.run_blocks (F := Ideal) m ρ, ?_⟩
  refine (θ_run Cert.RmsFwdRefIdeal.defs _ _).mono (fun _ h c => ?_) (Cert.RmsFwdRefIdeal.Value.run (F := Ideal) m' ρ')
  obtain ⟨r0, kept⟩ := h c
  obtain ⟨a0, a1⟩ := hagree c
  exact ⟨r0.trans (Cert.RmsFwdIdeal.Product.equal m c _ _ a0 a1), kept⟩

/-! ## `MergeBwd`: the gradients of the gated merge -/

theorem frame_ref_MergeBwd : Cert.quiescent_MergeBwdRefIdeal := fun m ρ _ =>
  (θ_run Cert.MergeBwdRefIdeal.defs _ _).mono (fun r h => ⟨fun c => (h c).2.2.2.2, sem_eq_zero_of_no_sems (by decide) r.2⟩)
    (Cert.MergeBwdRefIdeal.Value.run (F := Ideal) m ρ)

theorem algebraic_MergeBwd : Cert.algebraic_MergeBwdIdeal_MergeBwdRefIdeal := by
  intro m ρ m' ρ' hpre hagree
  refine ⟨_, _, _, _, Cert.MergeBwdIdeal.Value.run_blocks (F := Ideal) m ρ, ?_⟩
  refine (θ_run Cert.MergeBwdRefIdeal.defs _ _).mono (fun _ h c => ?_) (Cert.MergeBwdRefIdeal.Value.run (F := Ideal) m' ρ')
  obtain ⟨r0, r1, r2, r3, kept⟩ := h c
  obtain ⟨a0, a1, a2, a3, a4⟩ := hagree c
  exact ⟨r0.trans (Cert.MergeBwdIdeal.Product.equal0 m c _ _ _ _ _ a0 a1 a2 a3 a4),
    r1.trans (Cert.MergeBwdIdeal.Product.equal1 m c _ _ _ _ _ a0 a1 a2 a3 a4),
    r2.trans (Cert.MergeBwdIdeal.Product.equal2 m c _ _ _ _ _ a0 a1 a2 a3 a4),
    r3.trans (Cert.MergeBwdIdeal.Product.equal3 m c _ _ _ _ _ a0 a1 a2 a3 a4), kept⟩

/-! ## `GmlpFwd`: the spatial gating -/

theorem frame_ref_GmlpFwd : Cert.quiescent_GmlpFwdRefIdeal := fun m ρ _ =>
  (θ_run Cert.GmlpFwdRefIdeal.defs _ _).mono (fun r h => ⟨fun c => (h c).2, sem_eq_zero_of_no_sems (by decide) r.2⟩)
    (Cert.GmlpFwdRefIdeal.Value.run (F := Ideal) m ρ)

/-- The constant the idealisation names is the word of the real `1 / √2`. -/
theorem preserves_GmlpFwd : Cert.preserves_GmlpFwd_GmlpFwdIdeal :=
  IdealRules.named_const.statement Cert.GmlpFwdIdeal.κ "inv_sqrt2" .f32 0x3F3504F3#32 (((Real.sqrt 2)⁻¹ : ℝ) : EReal) rfl

theorem algebraic_GmlpFwd : Cert.algebraic_GmlpFwdIdeal_GmlpFwdRefIdeal := by
  intro m ρ m' ρ' hpre hagree
  refine ⟨_, Cert.GmlpFwdIdeal.Value.run_blocks (F := Ideal) m ρ, ?_⟩
  refine (θ_run Cert.GmlpFwdRefIdeal.defs _ _).mono (fun _ h c => ?_) (Cert.GmlpFwdRefIdeal.Value.run (F := Ideal) m' ρ')
  obtain ⟨r0, kept⟩ := h c
  obtain ⟨a0, a1, a2, a3, a4⟩ := hagree c
  exact ⟨r0.trans (Cert.GmlpFwdIdeal.Product.equal m c _ _ _ _ _ a0 a1 a2 a3 a4), kept⟩

/-! ## `RmsMlpBwd`: the gradient through the normalisation before the channel MLP -/

theorem frame_ref_RmsMlpBwd : Cert.quiescent_RmsMlpBwdRefIdeal := fun m ρ _ =>
  (θ_run Cert.RmsMlpBwdRefIdeal.defs _ _).mono (fun r h => ⟨fun c => (h c).2.2.2, sem_eq_zero_of_no_sems (by decide) r.2⟩)
    (Cert.RmsMlpBwdRefIdeal.Value.run (F := Ideal) m ρ)

theorem algebraic_RmsMlpBwd : Cert.algebraic_RmsMlpBwdIdeal_RmsMlpBwdRefIdeal := by
  intro m ρ m' ρ' hpre hagree
  refine ⟨_, _, _, Cert.RmsMlpBwdIdeal.Value.run_blocks (F := Ideal) m ρ, ?_⟩
  refine (θ_run Cert.RmsMlpBwdRefIdeal.defs _ _).mono (fun _ h c => ?_) (Cert.RmsMlpBwdRefIdeal.Value.run (F := Ideal) m' ρ')
  obtain ⟨r0, r1, r2, kept⟩ := h c
  obtain ⟨a0, a1, a2, a3⟩ := hagree c
  exact ⟨r0.trans (Cert.RmsMlpBwdIdeal.Product.equal0 m c _ _ _ _ a0 a1 a2 a3),
    r1.trans (Cert.RmsMlpBwdIdeal.Product.equal1 m c _ _ _ _ a0 a1 a2 a3),
    r2.trans (Cert.RmsMlpBwdIdeal.Product.equal2 m c _ _ _ _ a0 a1 a2 a3), kept⟩

/-! ## `RmsMixBwd`: the gradient through the normalisation before the input projection -/

theorem frame_ref_RmsMixBwd : Cert.quiescent_RmsMixBwdRefIdeal := fun m ρ _ =>
  (θ_run Cert.RmsMixBwdRefIdeal.defs _ _).mono (fun r h => ⟨fun c => (h c).2.2, sem_eq_zero_of_no_sems (by decide) r.2⟩)
    (Cert.RmsMixBwdRefIdeal.Value.run (F := Ideal) m ρ)

theorem algebraic_RmsMixBwd : Cert.algebraic_RmsMixBwdIdeal_RmsMixBwdRefIdeal := by
  intro m ρ m' ρ' hpre hagree
  refine ⟨_, _, Cert.RmsMixBwdIdeal.Value.run_blocks (F := Ideal) m ρ, ?_⟩
  refine (θ_run Cert.RmsMixBwdRefIdeal.defs _ _).mono (fun _ h c => ?_) (Cert.RmsMixBwdRefIdeal.Value.run (F := Ideal) m' ρ')
  obtain ⟨r0, r1, kept⟩ := h c
  obtain ⟨a0, a1, a2, a3⟩ := hagree c
  exact ⟨r0.trans (Cert.RmsMixBwdIdeal.Product.equal0 m c _ _ _ _ a0 a1 a2 a3),
    r1.trans (Cert.RmsMixBwdIdeal.Product.equal1 m c _ _ _ _ a0 a1 a2 a3), kept⟩

/-! ## The claims together -/

theorem claim : Cert.Claim :=
  ⟨Cert.Kernel.Gen.facts, Cert.KernelIdeal.Gen.facts, Cert.ReferenceIdeal.Gen.facts, Cert.DwXbc.Gen.facts,
    Cert.DwXbcIdeal.Gen.facts, Cert.DwXbcRefIdeal.Gen.facts, Cert.DwWide.Gen.facts, Cert.DwWideIdeal.Gen.facts,
    Cert.DwWideRefIdeal.Gen.facts, Cert.ProjXbc.Gen.facts, Cert.ProjXbcIdeal.Gen.facts, Cert.ProjXbcRefIdeal.Gen.facts,
    Cert.ProjWide.Gen.facts, Cert.ProjWideIdeal.Gen.facts, Cert.ProjWideRefIdeal.Gen.facts, Cert.ProjA.Gen.facts,
    Cert.ProjAIdeal.Gen.facts, Cert.ProjARefIdeal.Gen.facts, Cert.MlpUp.Gen.facts, Cert.MlpUpIdeal.Gen.facts,
    Cert.MlpUpRefIdeal.Gen.facts, Cert.MlpDown.Gen.facts, Cert.MlpDownIdeal.Gen.facts, Cert.MlpDownRefIdeal.Gen.facts,
    Cert.Dup.Gen.facts, Cert.DupIdeal.Gen.facts, Cert.DupRefIdeal.Gen.facts, Cert.Dh2.Gen.facts,
    Cert.Dh2Ideal.Gen.facts, Cert.Dh2RefIdeal.Gen.facts, Cert.Dyb.Gen.facts, Cert.DybIdeal.Gen.facts,
    Cert.DybRefIdeal.Gen.facts, Cert.Dya.Gen.facts, Cert.DyaIdeal.Gen.facts, Cert.DyaRefIdeal.Gen.facts,
    Cert.Dh.Gen.facts, Cert.DhIdeal.Gen.facts, Cert.DhRefIdeal.Gen.facts, Cert.DwDown.Gen.facts,
    Cert.DwDownIdeal.Gen.facts, Cert.DwDownRefIdeal.Gen.facts, Cert.DwUp.Gen.facts, Cert.DwUpIdeal.Gen.facts,
    Cert.DwUpRefIdeal.Gen.facts, Cert.DwPb.Gen.facts, Cert.DwPbIdeal.Gen.facts, Cert.DwPbRefIdeal.Gen.facts,
    Cert.DwPa.Gen.facts, Cert.DwPaIdeal.Gen.facts, Cert.DwPaRefIdeal.Gen.facts, Cert.DwOut.Gen.facts,
    Cert.DwOutIdeal.Gen.facts, Cert.DwOutRefIdeal.Gen.facts, Cert.ProjB.Gen.facts, Cert.ProjBIdeal.Gen.facts,
    Cert.ProjBRefIdeal.Gen.facts, Cert.OutProj.Gen.facts, Cert.OutProjIdeal.Gen.facts, Cert.OutProjRefIdeal.Gen.facts,
    Cert.ProjDt.Gen.facts, Cert.ProjDtIdeal.Gen.facts, Cert.ProjDtRefIdeal.Gen.facts, Cert.DwDt.Gen.facts,
    Cert.DwDtIdeal.Gen.facts, Cert.DwDtRefIdeal.Gen.facts, Cert.RmsFwd.Gen.facts, Cert.RmsFwdIdeal.Gen.facts,
    Cert.RmsFwdRefIdeal.Gen.facts, Cert.MergeBwd.Gen.facts, Cert.MergeBwdIdeal.Gen.facts, Cert.MergeBwdRefIdeal.Gen.facts,
    Cert.GmlpFwd.Gen.facts, Cert.GmlpFwdIdeal.Gen.facts, Cert.GmlpFwdRefIdeal.Gen.facts, Cert.RmsMlpBwd.Gen.facts,
    Cert.RmsMlpBwdIdeal.Gen.facts, Cert.RmsMlpBwdRefIdeal.Gen.facts, Cert.RmsMixBwd.Gen.facts, Cert.RmsMixBwdIdeal.Gen.facts,
    Cert.RmsMixBwdRefIdeal.Gen.facts, Cert.Pre_finite.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial,
    fun m ρ _ => Cert.DwXbc.Gen.frame m ρ, fun m ρ _ => Cert.DwXbcIdeal.Gen.frame m ρ, frame_ref_DwXbc,
    fun m ρ _ => Cert.DwWide.Gen.frame m ρ, fun m ρ _ => Cert.DwWideIdeal.Gen.frame m ρ, frame_ref_DwWide,
    fun m ρ _ => Cert.ProjXbc.Gen.frame m ρ, fun m ρ _ => Cert.ProjXbcIdeal.Gen.frame m ρ, frame_ref_ProjXbc,
    fun m ρ _ => Cert.ProjWide.Gen.frame m ρ, fun m ρ _ => Cert.ProjWideIdeal.Gen.frame m ρ, frame_ref_ProjWide,
    fun m ρ _ => Cert.ProjA.Gen.frame m ρ, fun m ρ _ => Cert.ProjAIdeal.Gen.frame m ρ, frame_ref_ProjA,
    fun m ρ _ => Cert.MlpUp.Gen.frame m ρ, fun m ρ _ => Cert.MlpUpIdeal.Gen.frame m ρ, frame_ref_MlpUp,
    fun m ρ _ => Cert.MlpDown.Gen.frame m ρ, fun m ρ _ => Cert.MlpDownIdeal.Gen.frame m ρ, frame_ref_MlpDown,
    fun m ρ _ => Cert.Dup.Gen.frame m ρ, fun m ρ _ => Cert.DupIdeal.Gen.frame m ρ, frame_ref_Dup,
    fun m ρ _ => Cert.Dh2.Gen.frame m ρ, fun m ρ _ => Cert.Dh2Ideal.Gen.frame m ρ, frame_ref_Dh2,
    fun m ρ _ => Cert.Dyb.Gen.frame m ρ, fun m ρ _ => Cert.DybIdeal.Gen.frame m ρ, frame_ref_Dyb,
    fun m ρ _ => Cert.Dya.Gen.frame m ρ, fun m ρ _ => Cert.DyaIdeal.Gen.frame m ρ, frame_ref_Dya,
    fun m ρ _ => Cert.Dh.Gen.frame m ρ, fun m ρ _ => Cert.DhIdeal.Gen.frame m ρ, frame_ref_Dh,
    fun m ρ _ => Cert.DwDown.Gen.frame m ρ, fun m ρ _ => Cert.DwDownIdeal.Gen.frame m ρ, frame_ref_DwDown,
    fun m ρ _ => Cert.DwUp.Gen.frame m ρ, fun m ρ _ => Cert.DwUpIdeal.Gen.frame m ρ, frame_ref_DwUp,
    fun m ρ _ => Cert.DwPb.Gen.frame m ρ, fun m ρ _ => Cert.DwPbIdeal.Gen.frame m ρ, frame_ref_DwPb,
    fun m ρ _ => Cert.DwPa.Gen.frame m ρ, fun m ρ _ => Cert.DwPaIdeal.Gen.frame m ρ, frame_ref_DwPa,
    fun m ρ _ => Cert.DwOut.Gen.frame m ρ, fun m ρ _ => Cert.DwOutIdeal.Gen.frame m ρ, frame_ref_DwOut,
    fun m ρ _ => Cert.ProjB.Gen.frame m ρ, fun m ρ _ => Cert.ProjBIdeal.Gen.frame m ρ, frame_ref_ProjB,
    fun m ρ _ => Cert.OutProj.Gen.frame m ρ, fun m ρ _ => Cert.OutProjIdeal.Gen.frame m ρ, frame_ref_OutProj,
    fun m ρ _ => Cert.ProjDt.Gen.frame m ρ, fun m ρ _ => Cert.ProjDtIdeal.Gen.frame m ρ, frame_ref_ProjDt,
    fun m ρ _ => Cert.DwDt.Gen.frame m ρ, fun m ρ _ => Cert.DwDtIdeal.Gen.frame m ρ, frame_ref_DwDt,
    fun m ρ _ => Cert.RmsFwd.Gen.frame m ρ, fun m ρ _ => Cert.RmsFwdIdeal.Gen.frame m ρ, frame_ref_RmsFwd,
    fun m ρ _ => Cert.MergeBwd.Gen.frame m ρ, fun m ρ _ => Cert.MergeBwdIdeal.Gen.frame m ρ, frame_ref_MergeBwd,
    fun m ρ _ => Cert.GmlpFwd.Gen.frame m ρ, fun m ρ _ => Cert.GmlpFwdIdeal.Gen.frame m ρ, frame_ref_GmlpFwd,
    fun m ρ _ => Cert.RmsMlpBwd.Gen.frame m ρ, fun m ρ _ => Cert.RmsMlpBwdIdeal.Gen.frame m ρ, frame_ref_RmsMlpBwd,
    fun m ρ _ => Cert.RmsMixBwd.Gen.frame m ρ, fun m ρ _ => Cert.RmsMixBwdIdeal.Gen.frame m ρ, frame_ref_RmsMixBwd,
    preserves, algebraic,
    trivial, algebraic_DwXbc, trivial, algebraic_DwWide, trivial, algebraic_ProjXbc, trivial, algebraic_ProjWide,
    trivial, algebraic_ProjA, trivial, algebraic_MlpUp, trivial, algebraic_MlpDown, trivial, algebraic_Dup,
    trivial, algebraic_Dh2, trivial, algebraic_Dyb, trivial, algebraic_Dya, trivial, algebraic_Dh,
    trivial, algebraic_DwDown, trivial, algebraic_DwUp, trivial, algebraic_DwPb, trivial, algebraic_DwPa,
    trivial, algebraic_DwOut, trivial, algebraic_ProjB, trivial, algebraic_OutProj, trivial, algebraic_ProjDt,
    trivial, algebraic_DwDt, trivial, algebraic_RmsFwd, trivial, algebraic_MergeBwd, preserves_GmlpFwd, algebraic_GmlpFwd,
    trivial, algebraic_RmsMlpBwd, trivial, algebraic_RmsMixBwd⟩

end Cert.Proof

end
